-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.2.2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.2.2.2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.2.2.2.2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))).2.2.2.2.2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7)) (m ((c.tc : Thread Cert.NormRefIdeal.nD Cert.NormRefIdeal.τ).loc Cert.NormRefIdeal.main_arg8))).2.2.2.2.2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1))).1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1))).2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1))).1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1))).2 = (fun _ => 1#1)

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_DownNext (m : (ℓ : Loc Cert.DownNext.nD Cert.DownNext.τ Cert.DownNext.sig) → Buf (Elt Bits) ℓ) : Prop :=
  True

def Pre_DownNextIdeal (m : (ℓ : Loc Cert.DownNextIdeal.nD Cert.DownNextIdeal.τ Cert.DownNextIdeal.sig) → Buf (Elt Ideal) ℓ) : Prop :=
  True

def Pre_DownNextRefIdeal (m : (ℓ : Loc Cert.DownNextRefIdeal.nD Cert.DownNextRefIdeal.τ Cert.DownNextRefIdeal.sig) → Buf (Elt Ideal) ℓ) : Prop :=
  True

def Pre_DownLast (m : (ℓ : Loc Cert.DownLast.nD Cert.DownLast.τ Cert.DownLast.sig) → Buf (Elt Bits) ℓ) : Prop :=
  True

def Pre_DownLastIdeal (m : (ℓ : Loc Cert.DownLastIdeal.nD Cert.DownLastIdeal.τ Cert.DownLastIdeal.sig) → Buf (Elt Ideal) ℓ) : Prop :=
  True

def Pre_DownLastRefIdeal (m : (ℓ : Loc Cert.DownLastRefIdeal.nD Cert.DownLastRefIdeal.τ Cert.DownLastRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DownWAdd (m : (ℓ : Loc Cert.DownWAdd.nD Cert.DownWAdd.τ Cert.DownWAdd.sig) → Buf (Elt Bits) ℓ) : Prop :=
  True

def Pre_DownWAddIdeal (m : (ℓ : Loc Cert.DownWAddIdeal.nD Cert.DownWAddIdeal.τ Cert.DownWAddIdeal.sig) → Buf (Elt Ideal) ℓ) : Prop :=
  True

def Pre_DownWAddRefIdeal (m : (ℓ : Loc Cert.DownWAddRefIdeal.nD Cert.DownWAddRefIdeal.τ Cert.DownWAddRefIdeal.sig) → Buf (Elt Ideal) ℓ) : Prop :=
  True

def Pre_UpWAdd (m : (ℓ : Loc Cert.UpWAdd.nD Cert.UpWAdd.τ Cert.UpWAdd.sig) → Buf (Elt Bits) ℓ) : Prop :=
  True

def Pre_UpWAddIdeal (m : (ℓ : Loc Cert.UpWAddIdeal.nD Cert.UpWAddIdeal.τ Cert.UpWAddIdeal.sig) → Buf (Elt Ideal) ℓ) : Prop :=
  True

def Pre_UpWAddRefIdeal (m : (ℓ : Loc Cert.UpWAddRefIdeal.nD Cert.UpWAddRefIdeal.τ Cert.UpWAddRefIdeal.sig) → Buf (Elt Ideal) ℓ) : Prop :=
  True

def Pre_MixInA (m : (ℓ : Loc Cert.MixInA.nD Cert.MixInA.τ Cert.MixInA.sig) → Buf (Elt Bits) ℓ) : Prop :=
  True

def Pre_MixInAIdeal (m : (ℓ : Loc Cert.MixInAIdeal.nD Cert.MixInAIdeal.τ Cert.MixInAIdeal.sig) → Buf (Elt Ideal) ℓ) : Prop :=
  True

def Pre_MixInARefIdeal (m : (ℓ : Loc Cert.MixInARefIdeal.nD Cert.MixInARefIdeal.τ Cert.MixInARefIdeal.sig) → Buf (Elt Ideal) ℓ) : Prop :=
  True

def Pre_MixInB (m : (ℓ : Loc Cert.MixInB.nD Cert.MixInB.τ Cert.MixInB.sig) → Buf (Elt Bits) ℓ) : Prop :=
  True

def Pre_MixInBIdeal (m : (ℓ : Loc Cert.MixInBIdeal.nD Cert.MixInBIdeal.τ Cert.MixInBIdeal.sig) → Buf (Elt Ideal) ℓ) : Prop :=
  True

def Pre_MixInBRefIdeal (m : (ℓ : Loc Cert.MixInBRefIdeal.nD Cert.MixInBRefIdeal.τ Cert.MixInBRefIdeal.sig) → Buf (Elt Ideal) ℓ) : Prop :=
  True

def Pre_MixMid (m : (ℓ : Loc Cert.MixMid.nD Cert.MixMid.τ Cert.MixMid.sig) → Buf (Elt Bits) ℓ) : Prop :=
  True

def Pre_MixMidIdeal (m : (ℓ : Loc Cert.MixMidIdeal.nD Cert.MixMidIdeal.τ Cert.MixMidIdeal.sig) → Buf (Elt Ideal) ℓ) : Prop :=
  True

def Pre_MixMidRefIdeal (m : (ℓ : Loc Cert.MixMidRefIdeal.nD Cert.MixMidRefIdeal.τ Cert.MixMidRefIdeal.sig) → Buf (Elt Ideal) ℓ) : Prop :=
  True

def Pre_MixWA (m : (ℓ : Loc Cert.MixWA.nD Cert.MixWA.τ Cert.MixWA.sig) → Buf (Elt Bits) ℓ) : Prop :=
  True

def Pre_MixWAIdeal (m : (ℓ : Loc Cert.MixWAIdeal.nD Cert.MixWAIdeal.τ Cert.MixWAIdeal.sig) → Buf (Elt Ideal) ℓ) : Prop :=
  True

def Pre_MixWARefIdeal (m : (ℓ : Loc Cert.MixWARefIdeal.nD Cert.MixWARefIdeal.τ Cert.MixWARefIdeal.sig) → Buf (Elt Ideal) ℓ) : Prop :=
  True

def Pre_MixWB (m : (ℓ : Loc Cert.MixWB.nD Cert.MixWB.τ Cert.MixWB.sig) → Buf (Elt Bits) ℓ) : Prop :=
  True

def Pre_MixWBIdeal (m : (ℓ : Loc Cert.MixWBIdeal.nD Cert.MixWBIdeal.τ Cert.MixWBIdeal.sig) → Buf (Elt Ideal) ℓ) : Prop :=
  True

def Pre_MixWBRefIdeal (m : (ℓ : Loc Cert.MixWBRefIdeal.nD Cert.MixWBRefIdeal.τ Cert.MixWBRefIdeal.sig) → Buf (Elt Ideal) ℓ) : Prop :=
  True

def Pre_MixBoth (m : (ℓ : Loc Cert.MixBoth.nD Cert.MixBoth.τ Cert.MixBoth.sig) → Buf (Elt Bits) ℓ) : Prop :=
  True

def Pre_MixBothIdeal (m : (ℓ : Loc Cert.MixBothIdeal.nD Cert.MixBothIdeal.τ Cert.MixBothIdeal.sig) → Buf (Elt Ideal) ℓ) : Prop :=
  True

def Pre_MixBothRefIdeal (m : (ℓ : Loc Cert.MixBothRefIdeal.nD Cert.MixBothRefIdeal.τ Cert.MixBothRefIdeal.sig) → Buf (Elt Ideal) ℓ) : Prop :=
  True

def Pre_MixThree (m : (ℓ : Loc Cert.MixThree.nD Cert.MixThree.τ Cert.MixThree.sig) → Buf (Elt Bits) ℓ) : Prop :=
  True

def Pre_MixThreeIdeal (m : (ℓ : Loc Cert.MixThreeIdeal.nD Cert.MixThreeIdeal.τ Cert.MixThreeIdeal.sig) → Buf (Elt Ideal) ℓ) : Prop :=
  True

def Pre_MixThreeRefIdeal (m : (ℓ : Loc Cert.MixThreeRefIdeal.nD Cert.MixThreeRefIdeal.τ Cert.MixThreeRefIdeal.sig) → Buf (Elt Ideal) ℓ) : Prop :=
  True

def Pre_MixFour (m : (ℓ : Loc Cert.MixFour.nD Cert.MixFour.τ Cert.MixFour.sig) → Buf (Elt Bits) ℓ) : Prop :=
  True

def Pre_MixFourIdeal (m : (ℓ : Loc Cert.MixFourIdeal.nD Cert.MixFourIdeal.τ Cert.MixFourIdeal.sig) → Buf (Elt Ideal) ℓ) : Prop :=
  True

def Pre_MixFourRefIdeal (m : (ℓ : Loc Cert.MixFourRefIdeal.nD Cert.MixFourRefIdeal.τ Cert.MixFourRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixIdeal_finite_norm_mix [hPre_finite_norm_mix : Cert.Pre_finite_norm_mix.Facts] (m : (ℓ : Loc Cert.NormMixIdeal.nD Cert.NormMixIdeal.τ Cert.NormMixIdeal.sig) → Buf (Elt Ideal) ℓ) : Prop :=
  ∀ c : Dev Cert.NormMixIdeal.nD,
    (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.2.1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.2.2.1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.2.2.2.1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.2.2.2.2.1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.2.2.2.2.2.1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.2.2.2.2.2.2.1 = (fun _ => 1#1)
    ∧ (Cert.Pre_finite_norm_mix.fn (F := Ideal) (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)) (m ((c.tc : Thread Cert.NormMixIdeal.nD Cert.NormMixIdeal.τ).loc Cert.NormMixIdeal.main_arg5)) (m ((c.tc : Thread Cert.NormMixIdeal.nD Cert.NormMixIdeal.τ).loc Cert.NormMixIdeal.main_arg6)) (m ((c.tc : Thread Cert.NormMixIdeal.nD Cert.NormMixIdeal.τ).loc Cert.NormMixIdeal.main_arg7)) (m ((c.tc : Thread Cert.NormMixIdeal.nD Cert.NormMixIdeal.τ).loc Cert.NormMixIdeal.main_arg8))).2.2.2.2.2.2.2.2 = (fun _ => 1#1)

def Pre_NormMixRefIdeal (m : (ℓ : Loc Cert.NormMixRefIdeal.nD Cert.NormMixRefIdeal.τ Cert.NormMixRefIdeal.sig) → Buf (Elt Ideal) ℓ) : Prop :=
  True

def Pre_NormMixRefIdeal_finite_norm_mix [hPre_finite_norm_mix : Cert.Pre_finite_norm_mix.Facts] (m : (ℓ : Loc Cert.NormMixRefIdeal.nD Cert.NormMixRefIdeal.τ Cert.NormMixRefIdeal.sig) → Buf (Elt Ideal) ℓ) : Prop :=
  ∀ c : Dev Cert.NormMixRefIdeal.nD,
    (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.2.1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.2.2.1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.2.2.2.1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.2.2.2.2.1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.2.2.2.2.2.1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.2.2.2.2.2.2.1 = (fun _ => 1#1)
    ∧ (Cert.Pre_finite_norm_mix.fn (F := Ideal) (m ((c.tc : Thread Cert.NormMixRefIdeal.nD Cert.NormMixRefIdeal.τ).loc Cert.NormMixRefIdeal.main_arg0)) (m ((c.tc : Thread Cert.NormMixRefIdeal.nD Cert.NormMixRefIdeal.τ).loc Cert.NormMixRefIdeal.main_arg1)) (m ((c.tc : Thread Cert.NormMixRefIdeal.nD Cert.NormMixRefIdeal.τ).loc Cert.NormMixRefIdeal.main_arg2)) (m ((c.tc : Thread Cert.NormMixRefIdeal.nD Cert.NormMixRefIdeal.τ).loc Cert.NormMixRefIdeal.main_arg3)) (m ((c.tc : Thread Cert.NormMixRefIdeal.nD Cert.NormMixRefIdeal.τ).loc Cert.NormMixRefIdeal.main_arg4)) (m ((c.tc : Thread Cert.NormMixRefIdeal.nD Cert.NormMixRefIdeal.τ).loc Cert.NormMixRefIdeal.main_arg5)) (m ((c.tc : Thread Cert.NormMixRefIdeal.nD Cert.NormMixRefIdeal.τ).loc Cert.NormMixRefIdeal.main_arg6)) (m ((c.tc : Thread Cert.NormMixRefIdeal.nD Cert.NormMixRefIdeal.τ).loc Cert.NormMixRefIdeal.main_arg7)) (m ((c.tc : Thread Cert.NormMixRefIdeal.nD Cert.NormMixRefIdeal.τ).loc Cert.NormMixRefIdeal.main_arg8))).2.2.2.2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_ModB (m : (ℓ : Loc Cert.ModB.nD Cert.ModB.τ Cert.ModB.sig) → Buf (Elt Bits) ℓ) : Prop :=
  True

def Pre_ModBIdeal (m : (ℓ : Loc Cert.ModBIdeal.nD Cert.ModBIdeal.τ Cert.ModBIdeal.sig) → Buf (Elt Ideal) ℓ) : Prop :=
  True

def Pre_ModBRefIdeal (m : (ℓ : Loc Cert.ModBRefIdeal.nD Cert.ModBRefIdeal.τ Cert.ModBRefIdeal.sig) → Buf (Elt Ideal) ℓ) : Prop :=
  True

def Pre_ModW (m : (ℓ : Loc Cert.ModW.nD Cert.ModW.τ Cert.ModW.sig) → Buf (Elt Bits) ℓ) : Prop :=
  True

def Pre_ModWIdeal (m : (ℓ : Loc Cert.ModWIdeal.nD Cert.ModWIdeal.τ Cert.ModWIdeal.sig) → Buf (Elt Ideal) ℓ) : Prop :=
  True

def Pre_ModWRefIdeal (m : (ℓ : Loc Cert.ModWRefIdeal.nD Cert.ModWRefIdeal.τ Cert.ModWRefIdeal.sig) → Buf (Elt Ideal) ℓ) : Prop :=
  True

def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstIdeal_finite_norm_first [hPre_finite_norm_first : Cert.Pre_finite_norm_first.Facts] (m : (ℓ : Loc Cert.NormFirstIdeal.nD Cert.NormFirstIdeal.τ Cert.NormFirstIdeal.sig) → Buf (Elt Ideal) ℓ) : Prop :=
  ∀ c : Dev Cert.NormFirstIdeal.nD,
    (Cert.Pre_finite_norm_first.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4)) (m ((c.tc : Thread Cert.NormFirstIdeal.nD Cert.NormFirstIdeal.τ).loc Cert.NormFirstIdeal.main_arg5)) (m ((c.tc : Thread Cert.NormFirstIdeal.nD Cert.NormFirstIdeal.τ).loc Cert.NormFirstIdeal.main_arg6))).1 = (fun _ => 1#1)
    ∧ (Cert.Pre_finite_norm_first.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4)) (m ((c.tc : Thread Cert.NormFirstIdeal.nD Cert.NormFirstIdeal.τ).loc Cert.NormFirstIdeal.main_arg5)) (m ((c.tc : Thread Cert.NormFirstIdeal.nD Cert.NormFirstIdeal.τ).loc Cert.NormFirstIdeal.main_arg6))).2.1 = (fun _ => 1#1)
    ∧ (Cert.Pre_finite_norm_first.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4)) (m ((c.tc : Thread Cert.NormFirstIdeal.nD Cert.NormFirstIdeal.τ).loc Cert.NormFirstIdeal.main_arg5)) (m ((c.tc : Thread Cert.NormFirstIdeal.nD Cert.NormFirstIdeal.τ).loc Cert.NormFirstIdeal.main_arg6))).2.2.1 = (fun _ => 1#1)
    ∧ (Cert.Pre_finite_norm_first.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4)) (m ((c.tc : Thread Cert.NormFirstIdeal.nD Cert.NormFirstIdeal.τ).loc Cert.NormFirstIdeal.main_arg5)) (m ((c.tc : Thread Cert.NormFirstIdeal.nD Cert.NormFirstIdeal.τ).loc Cert.NormFirstIdeal.main_arg6))).2.2.2.1 = (fun _ => 1#1)
    ∧ (Cert.Pre_finite_norm_first.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4)) (m ((c.tc : Thread Cert.NormFirstIdeal.nD Cert.NormFirstIdeal.τ).loc Cert.NormFirstIdeal.main_arg5)) (m ((c.tc : Thread Cert.NormFirstIdeal.nD Cert.NormFirstIdeal.τ).loc Cert.NormFirstIdeal.main_arg6))).2.2.2.2.1 = (fun _ => 1#1)
    ∧ (Cert.Pre_finite_norm_first.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4)) (m ((c.tc : Thread Cert.NormFirstIdeal.nD Cert.NormFirstIdeal.τ).loc Cert.NormFirstIdeal.main_arg5)) (m ((c.tc : Thread Cert.NormFirstIdeal.nD Cert.NormFirstIdeal.τ).loc Cert.NormFirstIdeal.main_arg6))).2.2.2.2.2.1 = (fun _ => 1#1)
    ∧ (Cert.Pre_finite_norm_first.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3)) (m ((c.tc : Thread Cert.NormFirstIdeal.nD Cert.NormFirstIdeal.τ).loc Cert.NormFirstIdeal.main_arg4)) (m ((c.tc : Thread Cert.NormFirstIdeal.nD Cert.NormFirstIdeal.τ).loc Cert.NormFirstIdeal.main_arg5)) (m ((c.tc : Thread Cert.NormFirstIdeal.nD Cert.NormFirstIdeal.τ).loc Cert.NormFirstIdeal.main_arg6))).2.2.2.2.2.2 = (fun _ => 1#1)

def Pre_NormFirstRefIdeal (m : (ℓ : Loc Cert.NormFirstRefIdeal.nD Cert.NormFirstRefIdeal.τ Cert.NormFirstRefIdeal.sig) → Buf (Elt Ideal) ℓ) : Prop :=
  True

def Pre_NormFirstRefIdeal_finite_norm_first [hPre_finite_norm_first : Cert.Pre_finite_norm_first.Facts] (m : (ℓ : Loc Cert.NormFirstRefIdeal.nD Cert.NormFirstRefIdeal.τ Cert.NormFirstRefIdeal.sig) → Buf (Elt Ideal) ℓ) : Prop :=
  ∀ c : Dev Cert.NormFirstRefIdeal.nD,
    (Cert.Pre_finite_norm_first.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4)) (m ((c.tc : Thread Cert.NormFirstRefIdeal.nD Cert.NormFirstRefIdeal.τ).loc Cert.NormFirstRefIdeal.main_arg5)) (m ((c.tc : Thread Cert.NormFirstRefIdeal.nD Cert.NormFirstRefIdeal.τ).loc Cert.NormFirstRefIdeal.main_arg6))).1 = (fun _ => 1#1)
    ∧ (Cert.Pre_finite_norm_first.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4)) (m ((c.tc : Thread Cert.NormFirstRefIdeal.nD Cert.NormFirstRefIdeal.τ).loc Cert.NormFirstRefIdeal.main_arg5)) (m ((c.tc : Thread Cert.NormFirstRefIdeal.nD Cert.NormFirstRefIdeal.τ).loc Cert.NormFirstRefIdeal.main_arg6))).2.1 = (fun _ => 1#1)
    ∧ (Cert.Pre_finite_norm_first.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4)) (m ((c.tc : Thread Cert.NormFirstRefIdeal.nD Cert.NormFirstRefIdeal.τ).loc Cert.NormFirstRefIdeal.main_arg5)) (m ((c.tc : Thread Cert.NormFirstRefIdeal.nD Cert.NormFirstRefIdeal.τ).loc Cert.NormFirstRefIdeal.main_arg6))).2.2.1 = (fun _ => 1#1)
    ∧ (Cert.Pre_finite_norm_first.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4)) (m ((c.tc : Thread Cert.NormFirstRefIdeal.nD Cert.NormFirstRefIdeal.τ).loc Cert.NormFirstRefIdeal.main_arg5)) (m ((c.tc : Thread Cert.NormFirstRefIdeal.nD Cert.NormFirstRefIdeal.τ).loc Cert.NormFirstRefIdeal.main_arg6))).2.2.2.1 = (fun _ => 1#1)
    ∧ (Cert.Pre_finite_norm_first.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4)) (m ((c.tc : Thread Cert.NormFirstRefIdeal.nD Cert.NormFirstRefIdeal.τ).loc Cert.NormFirstRefIdeal.main_arg5)) (m ((c.tc : Thread Cert.NormFirstRefIdeal.nD Cert.NormFirstRefIdeal.τ).loc Cert.NormFirstRefIdeal.main_arg6))).2.2.2.2.1 = (fun _ => 1#1)
    ∧ (Cert.Pre_finite_norm_first.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4)) (m ((c.tc : Thread Cert.NormFirstRefIdeal.nD Cert.NormFirstRefIdeal.τ).loc Cert.NormFirstRefIdeal.main_arg5)) (m ((c.tc : Thread Cert.NormFirstRefIdeal.nD Cert.NormFirstRefIdeal.τ).loc Cert.NormFirstRefIdeal.main_arg6))).2.2.2.2.2.1 = (fun _ => 1#1)
    ∧ (Cert.Pre_finite_norm_first.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3)) (m ((c.tc : Thread Cert.NormFirstRefIdeal.nD Cert.NormFirstRefIdeal.τ).loc Cert.NormFirstRefIdeal.main_arg4)) (m ((c.tc : Thread Cert.NormFirstRefIdeal.nD Cert.NormFirstRefIdeal.τ).loc Cert.NormFirstRefIdeal.main_arg5)) (m ((c.tc : Thread Cert.NormFirstRefIdeal.nD Cert.NormFirstRefIdeal.τ).loc Cert.NormFirstRefIdeal.main_arg6))).2.2.2.2.2.2 = (fun _ => 1#1)

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondIdeal_finite_cond [hPre_finite_cond : Cert.Pre_finite_cond.Facts] (m : (ℓ : Loc Cert.CondIdeal.nD Cert.CondIdeal.τ Cert.CondIdeal.sig) → Buf (Elt Ideal) ℓ) : Prop :=
  ∀ c : Dev Cert.CondIdeal.nD,
    (Cert.Pre_finite_cond.fn (F := Ideal) (m ((c.tc : Thread Cert.CondIdeal.nD Cert.CondIdeal.τ).loc Cert.CondIdeal.main_arg0)) (m ((c.tc : Thread Cert.CondIdeal.nD Cert.CondIdeal.τ).loc Cert.CondIdeal.main_arg1))).1 = (fun _ => 1#1)
    ∧ (Cert.Pre_finite_cond.fn (F := Ideal) (m ((c.tc : Thread Cert.CondIdeal.nD Cert.CondIdeal.τ).loc Cert.CondIdeal.main_arg0)) (m ((c.tc : Thread Cert.CondIdeal.nD Cert.CondIdeal.τ).loc Cert.CondIdeal.main_arg1))).2 = (fun _ => 1#1)

def Pre_CondRefIdeal (m : (ℓ : Loc Cert.CondRefIdeal.nD Cert.CondRefIdeal.τ Cert.CondRefIdeal.sig) → Buf (Elt Ideal) ℓ) : Prop :=
  True

def Pre_CondRefIdeal_finite_cond [hPre_finite_cond : Cert.Pre_finite_cond.Facts] (m : (ℓ : Loc Cert.CondRefIdeal.nD Cert.CondRefIdeal.τ Cert.CondRefIdeal.sig) → Buf (Elt Ideal) ℓ) : Prop :=
  ∀ c : Dev Cert.CondRefIdeal.nD,
    (Cert.Pre_finite_cond.fn (F := Ideal) (m ((c.tc : Thread Cert.CondRefIdeal.nD Cert.CondRefIdeal.τ).loc Cert.CondRefIdeal.main_arg0)) (m ((c.tc : Thread Cert.CondRefIdeal.nD Cert.CondRefIdeal.τ).loc Cert.CondRefIdeal.main_arg1))).1 = (fun _ => 1#1)
    ∧ (Cert.Pre_finite_cond.fn (F := Ideal) (m ((c.tc : Thread Cert.CondRefIdeal.nD Cert.CondRefIdeal.τ).loc Cert.CondRefIdeal.main_arg0)) (m ((c.tc : Thread Cert.CondRefIdeal.nD Cert.CondRefIdeal.τ).loc Cert.CondRefIdeal.main_arg1))).2 = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_DownNext [hDownNext : Cert.DownNext.Facts] : Prop :=
  ∀ (m : (ℓ : Loc Cert.DownNext.nD Cert.DownNext.τ Cert.DownNext.sig) → Buf (Elt Bits) ℓ) (g : Dev Cert.DownNext.nD → PrngReg), Pre_DownNext m →
    θ_run (Cert.DownNext.defs (F := Bits)) (onTc (τ := Cert.DownNext.τ) (Cert.DownNext.main (F := Bits))) ⟨m, fun _ => 0, g⟩ (fun r => (∀ c : Dev Cert.DownNext.nD,
      r.2.mem ((c.tc : Thread Cert.DownNext.nD Cert.DownNext.τ).loc Cert.DownNext.main_arg0) = m ((c.tc : Thread Cert.DownNext.nD Cert.DownNext.τ).loc Cert.DownNext.main_arg0)
      ∧ r.2.mem ((c.tc : Thread Cert.DownNext.nD Cert.DownNext.τ).loc Cert.DownNext.main_arg1) = m ((c.tc : Thread Cert.DownNext.nD Cert.DownNext.τ).loc Cert.DownNext.main_arg1)
      ∧ r.2.mem ((c.tc : Thread Cert.DownNext.nD Cert.DownNext.τ).loc Cert.DownNext.main_arg2) = m ((c.tc : Thread Cert.DownNext.nD Cert.DownNext.τ).loc Cert.DownNext.main_arg2)
      ∧ r.2.mem ((c.tc : Thread Cert.DownNext.nD Cert.DownNext.τ).loc Cert.DownNext.main_arg3) = m ((c.tc : Thread Cert.DownNext.nD Cert.DownNext.τ).loc Cert.DownNext.main_arg3)
      ∧ r.2.mem ((c.tc : Thread Cert.DownNext.nD Cert.DownNext.τ).loc Cert.DownNext.main_arg4) = m ((c.tc : Thread Cert.DownNext.nD Cert.DownNext.τ).loc Cert.DownNext.main_arg4)
      ∧ r.2.mem ((c.tc : Thread Cert.DownNext.nD Cert.DownNext.τ).loc Cert.DownNext.main_arg5) = m ((c.tc : Thread Cert.DownNext.nD Cert.DownNext.τ).loc Cert.DownNext.main_arg5))
      ∧ r.2.sem = fun _ => 0)

def quiescent_DownNextIdeal [hDownNextIdeal : Cert.DownNextIdeal.Facts] : Prop :=
  ∀ (m : (ℓ : Loc Cert.DownNextIdeal.nD Cert.DownNextIdeal.τ Cert.DownNextIdeal.sig) → Buf (Elt Ideal) ℓ) (g : Dev Cert.DownNextIdeal.nD → PrngReg), Pre_DownNextIdeal m →
    θ_run (Cert.DownNextIdeal.defs (F := Ideal)) (onTc (τ := Cert.DownNextIdeal.τ) (Cert.DownNextIdeal.main (F := Ideal))) ⟨m, fun _ => 0, g⟩ (fun r => (∀ c : Dev Cert.DownNextIdeal.nD,
      r.2.mem ((c.tc : Thread Cert.DownNextIdeal.nD Cert.DownNextIdeal.τ).loc Cert.DownNextIdeal.main_arg0) = m ((c.tc : Thread Cert.DownNextIdeal.nD Cert.DownNextIdeal.τ).loc Cert.DownNextIdeal.main_arg0)
      ∧ r.2.mem ((c.tc : Thread Cert.DownNextIdeal.nD Cert.DownNextIdeal.τ).loc Cert.DownNextIdeal.main_arg1) = m ((c.tc : Thread Cert.DownNextIdeal.nD Cert.DownNextIdeal.τ).loc Cert.DownNextIdeal.main_arg1)
      ∧ r.2.mem ((c.tc : Thread Cert.DownNextIdeal.nD Cert.DownNextIdeal.τ).loc Cert.DownNextIdeal.main_arg2) = m ((c.tc : Thread Cert.DownNextIdeal.nD Cert.DownNextIdeal.τ).loc Cert.DownNextIdeal.main_arg2)
      ∧ r.2.mem ((c.tc : Thread Cert.DownNextIdeal.nD Cert.DownNextIdeal.τ).loc Cert.DownNextIdeal.main_arg3) = m ((c.tc : Thread Cert.DownNextIdeal.nD Cert.DownNextIdeal.τ).loc Cert.DownNextIdeal.main_arg3)
      ∧ r.2.mem ((c.tc : Thread Cert.DownNextIdeal.nD Cert.DownNextIdeal.τ).loc Cert.DownNextIdeal.main_arg4) = m ((c.tc : Thread Cert.DownNextIdeal.nD Cert.DownNextIdeal.τ).loc Cert.DownNextIdeal.main_arg4)
      ∧ r.2.mem ((c.tc : Thread Cert.DownNextIdeal.nD Cert.DownNextIdeal.τ).loc Cert.DownNextIdeal.main_arg5) = m ((c.tc : Thread Cert.DownNextIdeal.nD Cert.DownNextIdeal.τ).loc Cert.DownNextIdeal.main_arg5))
      ∧ r.2.sem = fun _ => 0)

def quiescent_DownNextRefIdeal [hDownNextRefIdeal : Cert.DownNextRefIdeal.Facts] : Prop :=
  ∀ (m : (ℓ : Loc Cert.DownNextRefIdeal.nD Cert.DownNextRefIdeal.τ Cert.DownNextRefIdeal.sig) → Buf (Elt Ideal) ℓ) (g : Dev Cert.DownNextRefIdeal.nD → PrngReg), Pre_DownNextRefIdeal m →
    θ_run (Cert.DownNextRefIdeal.defs (F := Ideal)) (onTc (τ := Cert.DownNextRefIdeal.τ) (Cert.DownNextRefIdeal.main (F := Ideal))) ⟨m, fun _ => 0, g⟩ (fun r => (∀ c : Dev Cert.DownNextRefIdeal.nD,
      r.2.mem ((c.tc : Thread Cert.DownNextRefIdeal.nD Cert.DownNextRefIdeal.τ).loc Cert.DownNextRefIdeal.main_arg0) = m ((c.tc : Thread Cert.DownNextRefIdeal.nD Cert.DownNextRefIdeal.τ).loc Cert.DownNextRefIdeal.main_arg0)
      ∧ r.2.mem ((c.tc : Thread Cert.DownNextRefIdeal.nD Cert.DownNextRefIdeal.τ).loc Cert.DownNextRefIdeal.main_arg1) = m ((c.tc : Thread Cert.DownNextRefIdeal.nD Cert.DownNextRefIdeal.τ).loc Cert.DownNextRefIdeal.main_arg1)
      ∧ r.2.mem ((c.tc : Thread Cert.DownNextRefIdeal.nD Cert.DownNextRefIdeal.τ).loc Cert.DownNextRefIdeal.main_arg2) = m ((c.tc : Thread Cert.DownNextRefIdeal.nD Cert.DownNextRefIdeal.τ).loc Cert.DownNextRefIdeal.main_arg2)
      ∧ r.2.mem ((c.tc : Thread Cert.DownNextRefIdeal.nD Cert.DownNextRefIdeal.τ).loc Cert.DownNextRefIdeal.main_arg3) = m ((c.tc : Thread Cert.DownNextRefIdeal.nD Cert.DownNextRefIdeal.τ).loc Cert.DownNextRefIdeal.main_arg3)
      ∧ r.2.mem ((c.tc : Thread Cert.DownNextRefIdeal.nD Cert.DownNextRefIdeal.τ).loc Cert.DownNextRefIdeal.main_arg4) = m ((c.tc : Thread Cert.DownNextRefIdeal.nD Cert.DownNextRefIdeal.τ).loc Cert.DownNextRefIdeal.main_arg4)
      ∧ r.2.mem ((c.tc : Thread Cert.DownNextRefIdeal.nD Cert.DownNextRefIdeal.τ).loc Cert.DownNextRefIdeal.main_arg5) = m ((c.tc : Thread Cert.DownNextRefIdeal.nD Cert.DownNextRefIdeal.τ).loc Cert.DownNextRefIdeal.main_arg5))
      ∧ r.2.sem = fun _ => 0)

def quiescent_DownLast [hDownLast : Cert.DownLast.Facts] : Prop :=
  ∀ (m : (ℓ : Loc Cert.DownLast.nD Cert.DownLast.τ Cert.DownLast.sig) → Buf (Elt Bits) ℓ) (g : Dev Cert.DownLast.nD → PrngReg), Pre_DownLast m →
    θ_run (Cert.DownLast.defs (F := Bits)) (onTc (τ := Cert.DownLast.τ) (Cert.DownLast.main (F := Bits))) ⟨m, fun _ => 0, g⟩ (fun r => (∀ c : Dev Cert.DownLast.nD,
      r.2.mem ((c.tc : Thread Cert.DownLast.nD Cert.DownLast.τ).loc Cert.DownLast.main_arg0) = m ((c.tc : Thread Cert.DownLast.nD Cert.DownLast.τ).loc Cert.DownLast.main_arg0)
      ∧ r.2.mem ((c.tc : Thread Cert.DownLast.nD Cert.DownLast.τ).loc Cert.DownLast.main_arg1) = m ((c.tc : Thread Cert.DownLast.nD Cert.DownLast.τ).loc Cert.DownLast.main_arg1)
      ∧ r.2.mem ((c.tc : Thread Cert.DownLast.nD Cert.DownLast.τ).loc Cert.DownLast.main_arg2) = m ((c.tc : Thread Cert.DownLast.nD Cert.DownLast.τ).loc Cert.DownLast.main_arg2)
      ∧ r.2.mem ((c.tc : Thread Cert.DownLast.nD Cert.DownLast.τ).loc Cert.DownLast.main_arg3) = m ((c.tc : Thread Cert.DownLast.nD Cert.DownLast.τ).loc Cert.DownLast.main_arg3))
      ∧ r.2.sem = fun _ => 0)

def quiescent_DownLastIdeal [hDownLastIdeal : Cert.DownLastIdeal.Facts] : Prop :=
  ∀ (m : (ℓ : Loc Cert.DownLastIdeal.nD Cert.DownLastIdeal.τ Cert.DownLastIdeal.sig) → Buf (Elt Ideal) ℓ) (g : Dev Cert.DownLastIdeal.nD → PrngReg), Pre_DownLastIdeal m →
    θ_run (Cert.DownLastIdeal.defs (F := Ideal)) (onTc (τ := Cert.DownLastIdeal.τ) (Cert.DownLastIdeal.main (F := Ideal))) ⟨m, fun _ => 0, g⟩ (fun r => (∀ c : Dev Cert.DownLastIdeal.nD,
      r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
      ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
      ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2)
      ∧ r.2.mem ((c.tc : Thread Cert.DownLastIdeal.nD Cert.DownLastIdeal.τ).loc Cert.DownLastIdeal.main_arg3) = m ((c.tc : Thread Cert.DownLastIdeal.nD Cert.DownLastIdeal.τ).loc Cert.DownLastIdeal.main_arg3))
      ∧ r.2.sem = fun _ => 0)

def quiescent_DownLastRefIdeal [hDownLastRefIdeal : Cert.DownLastRefIdeal.Facts] : Prop :=
  ∀ (m : (ℓ : Loc Cert.DownLastRefIdeal.nD Cert.DownLastRefIdeal.τ Cert.DownLastRefIdeal.sig) → Buf (Elt Ideal) ℓ) (g : Dev Cert.DownLastRefIdeal.nD → PrngReg), Pre_DownLastRefIdeal m →
    θ_run (Cert.DownLastRefIdeal.defs (F := Ideal)) (onTc (τ := Cert.DownLastRefIdeal.τ) (Cert.DownLastRefIdeal.main (F := Ideal))) ⟨m, fun _ => 0, g⟩ (fun r => (∀ c : Dev Cert.DownLastRefIdeal.nD,
      r.2.mem ((c.tc : Thread Cert.DownLastRefIdeal.nD Cert.DownLastRefIdeal.τ).loc Cert.DownLastRefIdeal.main_arg0) = m ((c.tc : Thread Cert.DownLastRefIdeal.nD Cert.DownLastRefIdeal.τ).loc Cert.DownLastRefIdeal.main_arg0)
      ∧ r.2.mem ((c.tc : Thread Cert.DownLastRefIdeal.nD Cert.DownLastRefIdeal.τ).loc Cert.DownLastRefIdeal.main_arg1) = m ((c.tc : Thread Cert.DownLastRefIdeal.nD Cert.DownLastRefIdeal.τ).loc Cert.DownLastRefIdeal.main_arg1)
      ∧ r.2.mem ((c.tc : Thread Cert.DownLastRefIdeal.nD Cert.DownLastRefIdeal.τ).loc Cert.DownLastRefIdeal.main_arg2) = m ((c.tc : Thread Cert.DownLastRefIdeal.nD Cert.DownLastRefIdeal.τ).loc Cert.DownLastRefIdeal.main_arg2)
      ∧ r.2.mem ((c.tc : Thread Cert.DownLastRefIdeal.nD Cert.DownLastRefIdeal.τ).loc Cert.DownLastRefIdeal.main_arg3) = m ((c.tc : Thread Cert.DownLastRefIdeal.nD Cert.DownLastRefIdeal.τ).loc Cert.DownLastRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_DownWAdd [hDownWAdd : Cert.DownWAdd.Facts] : Prop :=
  ∀ (m : (ℓ : Loc Cert.DownWAdd.nD Cert.DownWAdd.τ Cert.DownWAdd.sig) → Buf (Elt Bits) ℓ) (g : Dev Cert.DownWAdd.nD → PrngReg), Pre_DownWAdd m →
    θ_run (Cert.DownWAdd.defs (F := Bits)) (onTc (τ := Cert.DownWAdd.τ) (Cert.DownWAdd.main (F := Bits))) ⟨m, fun _ => 0, g⟩ (fun r => (∀ c : Dev Cert.DownWAdd.nD,
      r.2.mem ((c.tc : Thread Cert.DownWAdd.nD Cert.DownWAdd.τ).loc Cert.DownWAdd.main_arg0) = m ((c.tc : Thread Cert.DownWAdd.nD Cert.DownWAdd.τ).loc Cert.DownWAdd.main_arg0)
      ∧ r.2.mem ((c.tc : Thread Cert.DownWAdd.nD Cert.DownWAdd.τ).loc Cert.DownWAdd.main_arg1) = m ((c.tc : Thread Cert.DownWAdd.nD Cert.DownWAdd.τ).loc Cert.DownWAdd.main_arg1)
      ∧ r.2.mem ((c.tc : Thread Cert.DownWAdd.nD Cert.DownWAdd.τ).loc Cert.DownWAdd.main_arg2) = m ((c.tc : Thread Cert.DownWAdd.nD Cert.DownWAdd.τ).loc Cert.DownWAdd.main_arg2))
      ∧ r.2.sem = fun _ => 0)

def quiescent_DownWAddIdeal [hDownWAddIdeal : Cert.DownWAddIdeal.Facts] : Prop :=
  ∀ (m : (ℓ : Loc Cert.DownWAddIdeal.nD Cert.DownWAddIdeal.τ Cert.DownWAddIdeal.sig) → Buf (Elt Ideal) ℓ) (g : Dev Cert.DownWAddIdeal.nD → PrngReg), Pre_DownWAddIdeal m →
    θ_run (Cert.DownWAddIdeal.defs (F := Ideal)) (onTc (τ := Cert.DownWAddIdeal.τ) (Cert.DownWAddIdeal.main (F := Ideal))) ⟨m, fun _ => 0, g⟩ (fun r => (∀ c : Dev Cert.DownWAddIdeal.nD,
      r.2.mem ((c.tc : Thread Cert.DownWAddIdeal.nD Cert.DownWAddIdeal.τ).loc Cert.DownWAddIdeal.main_arg0) = m ((c.tc : Thread Cert.DownWAddIdeal.nD Cert.DownWAddIdeal.τ).loc Cert.DownWAddIdeal.main_arg0)
      ∧ r.2.mem ((c.tc : Thread Cert.DownWAddIdeal.nD Cert.DownWAddIdeal.τ).loc Cert.DownWAddIdeal.main_arg1) = m ((c.tc : Thread Cert.DownWAddIdeal.nD Cert.DownWAddIdeal.τ).loc Cert.DownWAddIdeal.main_arg1)
      ∧ r.2.mem ((c.tc : Thread Cert.DownWAddIdeal.nD Cert.DownWAddIdeal.τ).loc Cert.DownWAddIdeal.main_arg2) = m ((c.tc : Thread Cert.DownWAddIdeal.nD Cert.DownWAddIdeal.τ).loc Cert.DownWAddIdeal.main_arg2))
      ∧ r.2.sem = fun _ => 0)

def quiescent_DownWAddRefIdeal [hDownWAddRefIdeal : Cert.DownWAddRefIdeal.Facts] : Prop :=
  ∀ (m : (ℓ : Loc Cert.DownWAddRefIdeal.nD Cert.DownWAddRefIdeal.τ Cert.DownWAddRefIdeal.sig) → Buf (Elt Ideal) ℓ) (g : Dev Cert.DownWAddRefIdeal.nD → PrngReg), Pre_DownWAddRefIdeal m →
    θ_run (Cert.DownWAddRefIdeal.defs (F := Ideal)) (onTc (τ := Cert.DownWAddRefIdeal.τ) (Cert.DownWAddRefIdeal.main (F := Ideal))) ⟨m, fun _ => 0, g⟩ (fun r => (∀ c : Dev Cert.DownWAddRefIdeal.nD,
      r.2.mem ((c.tc : Thread Cert.DownWAddRefIdeal.nD Cert.DownWAddRefIdeal.τ).loc Cert.DownWAddRefIdeal.main_arg0) = m ((c.tc : Thread Cert.DownWAddRefIdeal.nD Cert.DownWAddRefIdeal.τ).loc Cert.DownWAddRefIdeal.main_arg0)
      ∧ r.2.mem ((c.tc : Thread Cert.DownWAddRefIdeal.nD Cert.DownWAddRefIdeal.τ).loc Cert.DownWAddRefIdeal.main_arg1) = m ((c.tc : Thread Cert.DownWAddRefIdeal.nD Cert.DownWAddRefIdeal.τ).loc Cert.DownWAddRefIdeal.main_arg1)
      ∧ r.2.mem ((c.tc : Thread Cert.DownWAddRefIdeal.nD Cert.DownWAddRefIdeal.τ).loc Cert.DownWAddRefIdeal.main_arg2) = m ((c.tc : Thread Cert.DownWAddRefIdeal.nD Cert.DownWAddRefIdeal.τ).loc Cert.DownWAddRefIdeal.main_arg2))
      ∧ r.2.sem = fun _ => 0)

def quiescent_UpWAdd [hUpWAdd : Cert.UpWAdd.Facts] : Prop :=
  ∀ (m : (ℓ : Loc Cert.UpWAdd.nD Cert.UpWAdd.τ Cert.UpWAdd.sig) → Buf (Elt Bits) ℓ) (g : Dev Cert.UpWAdd.nD → PrngReg), Pre_UpWAdd m →
    θ_run (Cert.UpWAdd.defs (F := Bits)) (onTc (τ := Cert.UpWAdd.τ) (Cert.UpWAdd.main (F := Bits))) ⟨m, fun _ => 0, g⟩ (fun r => (∀ c : Dev Cert.UpWAdd.nD,
      r.2.mem ((c.tc : Thread Cert.UpWAdd.nD Cert.UpWAdd.τ).loc Cert.UpWAdd.main_arg0) = m ((c.tc : Thread Cert.UpWAdd.nD Cert.UpWAdd.τ).loc Cert.UpWAdd.main_arg0)
      ∧ r.2.mem ((c.tc : Thread Cert.UpWAdd.nD Cert.UpWAdd.τ).loc Cert.UpWAdd.main_arg1) = m ((c.tc : Thread Cert.UpWAdd.nD Cert.UpWAdd.τ).loc Cert.UpWAdd.main_arg1)
      ∧ r.2.mem ((c.tc : Thread Cert.UpWAdd.nD Cert.UpWAdd.τ).loc Cert.UpWAdd.main_arg2) = m ((c.tc : Thread Cert.UpWAdd.nD Cert.UpWAdd.τ).loc Cert.UpWAdd.main_arg2))
      ∧ r.2.sem = fun _ => 0)

def quiescent_UpWAddIdeal [hUpWAddIdeal : Cert.UpWAddIdeal.Facts] : Prop :=
  ∀ (m : (ℓ : Loc Cert.UpWAddIdeal.nD Cert.UpWAddIdeal.τ Cert.UpWAddIdeal.sig) → Buf (Elt Ideal) ℓ) (g : Dev Cert.UpWAddIdeal.nD → PrngReg), Pre_UpWAddIdeal m →
    θ_run (Cert.UpWAddIdeal.defs (F := Ideal)) (onTc (τ := Cert.UpWAddIdeal.τ) (Cert.UpWAddIdeal.main (F := Ideal))) ⟨m, fun _ => 0, g⟩ (fun r => (∀ c : Dev Cert.UpWAddIdeal.nD,
      r.2.mem ((c.tc : Thread Cert.UpWAddIdeal.nD Cert.UpWAddIdeal.τ).loc Cert.UpWAddIdeal.main_arg0) = m ((c.tc : Thread Cert.UpWAddIdeal.nD Cert.UpWAddIdeal.τ).loc Cert.UpWAddIdeal.main_arg0)
      ∧ r.2.mem ((c.tc : Thread Cert.UpWAddIdeal.nD Cert.UpWAddIdeal.τ).loc Cert.UpWAddIdeal.main_arg1) = m ((c.tc : Thread Cert.UpWAddIdeal.nD Cert.UpWAddIdeal.τ).loc Cert.UpWAddIdeal.main_arg1)
      ∧ r.2.mem ((c.tc : Thread Cert.UpWAddIdeal.nD Cert.UpWAddIdeal.τ).loc Cert.UpWAddIdeal.main_arg2) = m ((c.tc : Thread Cert.UpWAddIdeal.nD Cert.UpWAddIdeal.τ).loc Cert.UpWAddIdeal.main_arg2))
      ∧ r.2.sem = fun _ => 0)

def quiescent_UpWAddRefIdeal [hUpWAddRefIdeal : Cert.UpWAddRefIdeal.Facts] : Prop :=
  ∀ (m : (ℓ : Loc Cert.UpWAddRefIdeal.nD Cert.UpWAddRefIdeal.τ Cert.UpWAddRefIdeal.sig) → Buf (Elt Ideal) ℓ) (g : Dev Cert.UpWAddRefIdeal.nD → PrngReg), Pre_UpWAddRefIdeal m →
    θ_run (Cert.UpWAddRefIdeal.defs (F := Ideal)) (onTc (τ := Cert.UpWAddRefIdeal.τ) (Cert.UpWAddRefIdeal.main (F := Ideal))) ⟨m, fun _ => 0, g⟩ (fun r => (∀ c : Dev Cert.UpWAddRefIdeal.nD,
      r.2.mem ((c.tc : Thread Cert.UpWAddRefIdeal.nD Cert.UpWAddRefIdeal.τ).loc Cert.UpWAddRefIdeal.main_arg0) = m ((c.tc : Thread Cert.UpWAddRefIdeal.nD Cert.UpWAddRefIdeal.τ).loc Cert.UpWAddRefIdeal.main_arg0)
      ∧ r.2.mem ((c.tc : Thread Cert.UpWAddRefIdeal.nD Cert.UpWAddRefIdeal.τ).loc Cert.UpWAddRefIdeal.main_arg1) = m ((c.tc : Thread Cert.UpWAddRefIdeal.nD Cert.UpWAddRefIdeal.τ).loc Cert.UpWAddRefIdeal.main_arg1)
      ∧ r.2.mem ((c.tc : Thread Cert.UpWAddRefIdeal.nD Cert.UpWAddRefIdeal.τ).loc Cert.UpWAddRefIdeal.main_arg2) = m ((c.tc : Thread Cert.UpWAddRefIdeal.nD Cert.UpWAddRefIdeal.τ).loc Cert.UpWAddRefIdeal.main_arg2))
      ∧ r.2.sem = fun _ => 0)

def quiescent_MixInA [hMixInA : Cert.MixInA.Facts] : Prop :=
  ∀ (m : (ℓ : Loc Cert.MixInA.nD Cert.MixInA.τ Cert.MixInA.sig) → Buf (Elt Bits) ℓ) (g : Dev Cert.MixInA.nD → PrngReg), Pre_MixInA m →
    θ_run (Cert.MixInA.defs (F := Bits)) (onTc (τ := Cert.MixInA.τ) (Cert.MixInA.main (F := Bits))) ⟨m, fun _ => 0, g⟩ (fun r => (∀ c : Dev Cert.MixInA.nD,
      r.2.mem ((c.tc : Thread Cert.MixInA.nD Cert.MixInA.τ).loc Cert.MixInA.main_arg0) = m ((c.tc : Thread Cert.MixInA.nD Cert.MixInA.τ).loc Cert.MixInA.main_arg0)
      ∧ r.2.mem ((c.tc : Thread Cert.MixInA.nD Cert.MixInA.τ).loc Cert.MixInA.main_arg1) = m ((c.tc : Thread Cert.MixInA.nD Cert.MixInA.τ).loc Cert.MixInA.main_arg1))
      ∧ r.2.sem = fun _ => 0)

def quiescent_MixInAIdeal [hMixInAIdeal : Cert.MixInAIdeal.Facts] : Prop :=
  ∀ (m : (ℓ : Loc Cert.MixInAIdeal.nD Cert.MixInAIdeal.τ Cert.MixInAIdeal.sig) → Buf (Elt Ideal) ℓ) (g : Dev Cert.MixInAIdeal.nD → PrngReg), Pre_MixInAIdeal m →
    θ_run (Cert.MixInAIdeal.defs (F := Ideal)) (onTc (τ := Cert.MixInAIdeal.τ) (Cert.MixInAIdeal.main (F := Ideal))) ⟨m, fun _ => 0, g⟩ (fun r => (∀ c : Dev Cert.MixInAIdeal.nD,
      r.2.mem ((c.tc : Thread Cert.MixInAIdeal.nD Cert.MixInAIdeal.τ).loc Cert.MixInAIdeal.main_arg0) = m ((c.tc : Thread Cert.MixInAIdeal.nD Cert.MixInAIdeal.τ).loc Cert.MixInAIdeal.main_arg0)
      ∧ r.2.mem ((c.tc : Thread Cert.MixInAIdeal.nD Cert.MixInAIdeal.τ).loc Cert.MixInAIdeal.main_arg1) = m ((c.tc : Thread Cert.MixInAIdeal.nD Cert.MixInAIdeal.τ).loc Cert.MixInAIdeal.main_arg1))
      ∧ r.2.sem = fun _ => 0)

def quiescent_MixInARefIdeal [hMixInARefIdeal : Cert.MixInARefIdeal.Facts] : Prop :=
  ∀ (m : (ℓ : Loc Cert.MixInARefIdeal.nD Cert.MixInARefIdeal.τ Cert.MixInARefIdeal.sig) → Buf (Elt Ideal) ℓ) (g : Dev Cert.MixInARefIdeal.nD → PrngReg), Pre_MixInARefIdeal m →
    θ_run (Cert.MixInARefIdeal.defs (F := Ideal)) (onTc (τ := Cert.MixInARefIdeal.τ) (Cert.MixInARefIdeal.main (F := Ideal))) ⟨m, fun _ => 0, g⟩ (fun r => (∀ c : Dev Cert.MixInARefIdeal.nD,
      r.2.mem ((c.tc : Thread Cert.MixInARefIdeal.nD Cert.MixInARefIdeal.τ).loc Cert.MixInARefIdeal.main_arg0) = m ((c.tc : Thread Cert.MixInARefIdeal.nD Cert.MixInARefIdeal.τ).loc Cert.MixInARefIdeal.main_arg0)
      ∧ r.2.mem ((c.tc : Thread Cert.MixInARefIdeal.nD Cert.MixInARefIdeal.τ).loc Cert.MixInARefIdeal.main_arg1) = m ((c.tc : Thread Cert.MixInARefIdeal.nD Cert.MixInARefIdeal.τ).loc Cert.MixInARefIdeal.main_arg1))
      ∧ r.2.sem = fun _ => 0)

def quiescent_MixInB [hMixInB : Cert.MixInB.Facts] : Prop :=
  ∀ (m : (ℓ : Loc Cert.MixInB.nD Cert.MixInB.τ Cert.MixInB.sig) → Buf (Elt Bits) ℓ) (g : Dev Cert.MixInB.nD → PrngReg), Pre_MixInB m →
    θ_run (Cert.MixInB.defs (F := Bits)) (onTc (τ := Cert.MixInB.τ) (Cert.MixInB.main (F := Bits))) ⟨m, fun _ => 0, g⟩ (fun r => (∀ c : Dev Cert.MixInB.nD,
      r.2.mem ((c.tc : Thread Cert.MixInB.nD Cert.MixInB.τ).loc Cert.MixInB.main_arg0) = m ((c.tc : Thread Cert.MixInB.nD Cert.MixInB.τ).loc Cert.MixInB.main_arg0)
      ∧ r.2.mem ((c.tc : Thread Cert.MixInB.nD Cert.MixInB.τ).loc Cert.MixInB.main_arg1) = m ((c.tc : Thread Cert.MixInB.nD Cert.MixInB.τ).loc Cert.MixInB.main_arg1))
      ∧ r.2.sem = fun _ => 0)

def quiescent_MixInBIdeal [hMixInBIdeal : Cert.MixInBIdeal.Facts] : Prop :=
  ∀ (m : (ℓ : Loc Cert.MixInBIdeal.nD Cert.MixInBIdeal.τ Cert.MixInBIdeal.sig) → Buf (Elt Ideal) ℓ) (g : Dev Cert.MixInBIdeal.nD → PrngReg), Pre_MixInBIdeal m →
    θ_run (Cert.MixInBIdeal.defs (F := Ideal)) (onTc (τ := Cert.MixInBIdeal.τ) (Cert.MixInBIdeal.main (F := Ideal))) ⟨m, fun _ => 0, g⟩ (fun r => (∀ c : Dev Cert.MixInBIdeal.nD,
      r.2.mem ((c.tc : Thread Cert.MixInBIdeal.nD Cert.MixInBIdeal.τ).loc Cert.MixInBIdeal.main_arg0) = m ((c.tc : Thread Cert.MixInBIdeal.nD Cert.MixInBIdeal.τ).loc Cert.MixInBIdeal.main_arg0)
      ∧ r.2.mem ((c.tc : Thread Cert.MixInBIdeal.nD Cert.MixInBIdeal.τ).loc Cert.MixInBIdeal.main_arg1) = m ((c.tc : Thread Cert.MixInBIdeal.nD Cert.MixInBIdeal.τ).loc Cert.MixInBIdeal.main_arg1))
      ∧ r.2.sem = fun _ => 0)

def quiescent_MixInBRefIdeal [hMixInBRefIdeal : Cert.MixInBRefIdeal.Facts] : Prop :=
  ∀ (m : (ℓ : Loc Cert.MixInBRefIdeal.nD Cert.MixInBRefIdeal.τ Cert.MixInBRefIdeal.sig) → Buf (Elt Ideal) ℓ) (g : Dev Cert.MixInBRefIdeal.nD → PrngReg), Pre_MixInBRefIdeal m →
    θ_run (Cert.MixInBRefIdeal.defs (F := Ideal)) (onTc (τ := Cert.MixInBRefIdeal.τ) (Cert.MixInBRefIdeal.main (F := Ideal))) ⟨m, fun _ => 0, g⟩ (fun r => (∀ c : Dev Cert.MixInBRefIdeal.nD,
      r.2.mem ((c.tc : Thread Cert.MixInBRefIdeal.nD Cert.MixInBRefIdeal.τ).loc Cert.MixInBRefIdeal.main_arg0) = m ((c.tc : Thread Cert.MixInBRefIdeal.nD Cert.MixInBRefIdeal.τ).loc Cert.MixInBRefIdeal.main_arg0)
      ∧ r.2.mem ((c.tc : Thread Cert.MixInBRefIdeal.nD Cert.MixInBRefIdeal.τ).loc Cert.MixInBRefIdeal.main_arg1) = m ((c.tc : Thread Cert.MixInBRefIdeal.nD Cert.MixInBRefIdeal.τ).loc Cert.MixInBRefIdeal.main_arg1))
      ∧ r.2.sem = fun _ => 0)

def quiescent_MixMid [hMixMid : Cert.MixMid.Facts] : Prop :=
  ∀ (m : (ℓ : Loc Cert.MixMid.nD Cert.MixMid.τ Cert.MixMid.sig) → Buf (Elt Bits) ℓ) (g : Dev Cert.MixMid.nD → PrngReg), Pre_MixMid m →
    θ_run (Cert.MixMid.defs (F := Bits)) (onTc (τ := Cert.MixMid.τ) (Cert.MixMid.main (F := Bits))) ⟨m, fun _ => 0, g⟩ (fun r => (∀ c : Dev Cert.MixMid.nD,
      r.2.mem ((c.tc : Thread Cert.MixMid.nD Cert.MixMid.τ).loc Cert.MixMid.main_arg0) = m ((c.tc : Thread Cert.MixMid.nD Cert.MixMid.τ).loc Cert.MixMid.main_arg0)
      ∧ r.2.mem ((c.tc : Thread Cert.MixMid.nD Cert.MixMid.τ).loc Cert.MixMid.main_arg1) = m ((c.tc : Thread Cert.MixMid.nD Cert.MixMid.τ).loc Cert.MixMid.main_arg1))
      ∧ r.2.sem = fun _ => 0)

def quiescent_MixMidIdeal [hMixMidIdeal : Cert.MixMidIdeal.Facts] : Prop :=
  ∀ (m : (ℓ : Loc Cert.MixMidIdeal.nD Cert.MixMidIdeal.τ Cert.MixMidIdeal.sig) → Buf (Elt Ideal) ℓ) (g : Dev Cert.MixMidIdeal.nD → PrngReg), Pre_MixMidIdeal m →
    θ_run (Cert.MixMidIdeal.defs (F := Ideal)) (onTc (τ := Cert.MixMidIdeal.τ) (Cert.MixMidIdeal.main (F := Ideal))) ⟨m, fun _ => 0, g⟩ (fun r => (∀ c : Dev Cert.MixMidIdeal.nD,
      r.2.mem ((c.tc : Thread Cert.MixMidIdeal.nD Cert.MixMidIdeal.τ).loc Cert.MixMidIdeal.main_arg0) = m ((c.tc : Thread Cert.MixMidIdeal.nD Cert.MixMidIdeal.τ).loc Cert.MixMidIdeal.main_arg0)
      ∧ r.2.mem ((c.tc : Thread Cert.MixMidIdeal.nD Cert.MixMidIdeal.τ).loc Cert.MixMidIdeal.main_arg1) = m ((c.tc : Thread Cert.MixMidIdeal.nD Cert.MixMidIdeal.τ).loc Cert.MixMidIdeal.main_arg1))
      ∧ r.2.sem = fun _ => 0)

def quiescent_MixMidRefIdeal [hMixMidRefIdeal : Cert.MixMidRefIdeal.Facts] : Prop :=
  ∀ (m : (ℓ : Loc Cert.MixMidRefIdeal.nD Cert.MixMidRefIdeal.τ Cert.MixMidRefIdeal.sig) → Buf (Elt Ideal) ℓ) (g : Dev Cert.MixMidRefIdeal.nD → PrngReg), Pre_MixMidRefIdeal m →
    θ_run (Cert.MixMidRefIdeal.defs (F := Ideal)) (onTc (τ := Cert.MixMidRefIdeal.τ) (Cert.MixMidRefIdeal.main (F := Ideal))) ⟨m, fun _ => 0, g⟩ (fun r => (∀ c : Dev Cert.MixMidRefIdeal.nD,
      r.2.mem ((c.tc : Thread Cert.MixMidRefIdeal.nD Cert.MixMidRefIdeal.τ).loc Cert.MixMidRefIdeal.main_arg0) = m ((c.tc : Thread Cert.MixMidRefIdeal.nD Cert.MixMidRefIdeal.τ).loc Cert.MixMidRefIdeal.main_arg0)
      ∧ r.2.mem ((c.tc : Thread Cert.MixMidRefIdeal.nD Cert.MixMidRefIdeal.τ).loc Cert.MixMidRefIdeal.main_arg1) = m ((c.tc : Thread Cert.MixMidRefIdeal.nD Cert.MixMidRefIdeal.τ).loc Cert.MixMidRefIdeal.main_arg1))
      ∧ r.2.sem = fun _ => 0)

def quiescent_MixWA [hMixWA : Cert.MixWA.Facts] : Prop :=
  ∀ (m : (ℓ : Loc Cert.MixWA.nD Cert.MixWA.τ Cert.MixWA.sig) → Buf (Elt Bits) ℓ) (g : Dev Cert.MixWA.nD → PrngReg), Pre_MixWA m →
    θ_run (Cert.MixWA.defs (F := Bits)) (onTc (τ := Cert.MixWA.τ) (Cert.MixWA.main (F := Bits))) ⟨m, fun _ => 0, g⟩ (fun r => (∀ c : Dev Cert.MixWA.nD,
      r.2.mem ((c.tc : Thread Cert.MixWA.nD Cert.MixWA.τ).loc Cert.MixWA.main_arg0) = m ((c.tc : Thread Cert.MixWA.nD Cert.MixWA.τ).loc Cert.MixWA.main_arg0)
      ∧ r.2.mem ((c.tc : Thread Cert.MixWA.nD Cert.MixWA.τ).loc Cert.MixWA.main_arg1) = m ((c.tc : Thread Cert.MixWA.nD Cert.MixWA.τ).loc Cert.MixWA.main_arg1))
      ∧ r.2.sem = fun _ => 0)

def quiescent_MixWAIdeal [hMixWAIdeal : Cert.MixWAIdeal.Facts] : Prop :=
  ∀ (m : (ℓ : Loc Cert.MixWAIdeal.nD Cert.MixWAIdeal.τ Cert.MixWAIdeal.sig) → Buf (Elt Ideal) ℓ) (g : Dev Cert.MixWAIdeal.nD → PrngReg), Pre_MixWAIdeal m →
    θ_run (Cert.MixWAIdeal.defs (F := Ideal)) (onTc (τ := Cert.MixWAIdeal.τ) (Cert.MixWAIdeal.main (F := Ideal))) ⟨m, fun _ => 0, g⟩ (fun r => (∀ c : Dev Cert.MixWAIdeal.nD,
      r.2.mem ((c.tc : Thread Cert.MixWAIdeal.nD Cert.MixWAIdeal.τ).loc Cert.MixWAIdeal.main_arg0) = m ((c.tc : Thread Cert.MixWAIdeal.nD Cert.MixWAIdeal.τ).loc Cert.MixWAIdeal.main_arg0)
      ∧ r.2.mem ((c.tc : Thread Cert.MixWAIdeal.nD Cert.MixWAIdeal.τ).loc Cert.MixWAIdeal.main_arg1) = m ((c.tc : Thread Cert.MixWAIdeal.nD Cert.MixWAIdeal.τ).loc Cert.MixWAIdeal.main_arg1))
      ∧ r.2.sem = fun _ => 0)

def quiescent_MixWARefIdeal [hMixWARefIdeal : Cert.MixWARefIdeal.Facts] : Prop :=
  ∀ (m : (ℓ : Loc Cert.MixWARefIdeal.nD Cert.MixWARefIdeal.τ Cert.MixWARefIdeal.sig) → Buf (Elt Ideal) ℓ) (g : Dev Cert.MixWARefIdeal.nD → PrngReg), Pre_MixWARefIdeal m →
    θ_run (Cert.MixWARefIdeal.defs (F := Ideal)) (onTc (τ := Cert.MixWARefIdeal.τ) (Cert.MixWARefIdeal.main (F := Ideal))) ⟨m, fun _ => 0, g⟩ (fun r => (∀ c : Dev Cert.MixWARefIdeal.nD,
      r.2.mem ((c.tc : Thread Cert.MixWARefIdeal.nD Cert.MixWARefIdeal.τ).loc Cert.MixWARefIdeal.main_arg0) = m ((c.tc : Thread Cert.MixWARefIdeal.nD Cert.MixWARefIdeal.τ).loc Cert.MixWARefIdeal.main_arg0)
      ∧ r.2.mem ((c.tc : Thread Cert.MixWARefIdeal.nD Cert.MixWARefIdeal.τ).loc Cert.MixWARefIdeal.main_arg1) = m ((c.tc : Thread Cert.MixWARefIdeal.nD Cert.MixWARefIdeal.τ).loc Cert.MixWARefIdeal.main_arg1))
      ∧ r.2.sem = fun _ => 0)

def quiescent_MixWB [hMixWB : Cert.MixWB.Facts] : Prop :=
  ∀ (m : (ℓ : Loc Cert.MixWB.nD Cert.MixWB.τ Cert.MixWB.sig) → Buf (Elt Bits) ℓ) (g : Dev Cert.MixWB.nD → PrngReg), Pre_MixWB m →
    θ_run (Cert.MixWB.defs (F := Bits)) (onTc (τ := Cert.MixWB.τ) (Cert.MixWB.main (F := Bits))) ⟨m, fun _ => 0, g⟩ (fun r => (∀ c : Dev Cert.MixWB.nD,
      r.2.mem ((c.tc : Thread Cert.MixWB.nD Cert.MixWB.τ).loc Cert.MixWB.main_arg0) = m ((c.tc : Thread Cert.MixWB.nD Cert.MixWB.τ).loc Cert.MixWB.main_arg0)
      ∧ r.2.mem ((c.tc : Thread Cert.MixWB.nD Cert.MixWB.τ).loc Cert.MixWB.main_arg1) = m ((c.tc : Thread Cert.MixWB.nD Cert.MixWB.τ).loc Cert.MixWB.main_arg1))
      ∧ r.2.sem = fun _ => 0)

def quiescent_MixWBIdeal [hMixWBIdeal : Cert.MixWBIdeal.Facts] : Prop :=
  ∀ (m : (ℓ : Loc Cert.MixWBIdeal.nD Cert.MixWBIdeal.τ Cert.MixWBIdeal.sig) → Buf (Elt Ideal) ℓ) (g : Dev Cert.MixWBIdeal.nD → PrngReg), Pre_MixWBIdeal m →
    θ_run (Cert.MixWBIdeal.defs (F := Ideal)) (onTc (τ := Cert.MixWBIdeal.τ) (Cert.MixWBIdeal.main (F := Ideal))) ⟨m, fun _ => 0, g⟩ (fun r => (∀ c : Dev Cert.MixWBIdeal.nD,
      r.2.mem ((c.tc : Thread Cert.MixWBIdeal.nD Cert.MixWBIdeal.τ).loc Cert.MixWBIdeal.main_arg0) = m ((c.tc : Thread Cert.MixWBIdeal.nD Cert.MixWBIdeal.τ).loc Cert.MixWBIdeal.main_arg0)
      ∧ r.2.mem ((c.tc : Thread Cert.MixWBIdeal.nD Cert.MixWBIdeal.τ).loc Cert.MixWBIdeal.main_arg1) = m ((c.tc : Thread Cert.MixWBIdeal.nD Cert.MixWBIdeal.τ).loc Cert.MixWBIdeal.main_arg1))
      ∧ r.2.sem = fun _ => 0)

def quiescent_MixWBRefIdeal [hMixWBRefIdeal : Cert.MixWBRefIdeal.Facts] : Prop :=
  ∀ (m : (ℓ : Loc Cert.MixWBRefIdeal.nD Cert.MixWBRefIdeal.τ Cert.MixWBRefIdeal.sig) → Buf (Elt Ideal) ℓ) (g : Dev Cert.MixWBRefIdeal.nD → PrngReg), Pre_MixWBRefIdeal m →
    θ_run (Cert.MixWBRefIdeal.defs (F := Ideal)) (onTc (τ := Cert.MixWBRefIdeal.τ) (Cert.MixWBRefIdeal.main (F := Ideal))) ⟨m, fun _ => 0, g⟩ (fun r => (∀ c : Dev Cert.MixWBRefIdeal.nD,
      r.2.mem ((c.tc : Thread Cert.MixWBRefIdeal.nD Cert.MixWBRefIdeal.τ).loc Cert.MixWBRefIdeal.main_arg0) = m ((c.tc : Thread Cert.MixWBRefIdeal.nD Cert.MixWBRefIdeal.τ).loc Cert.MixWBRefIdeal.main_arg0)
      ∧ r.2.mem ((c.tc : Thread Cert.MixWBRefIdeal.nD Cert.MixWBRefIdeal.τ).loc Cert.MixWBRefIdeal.main_arg1) = m ((c.tc : Thread Cert.MixWBRefIdeal.nD Cert.MixWBRefIdeal.τ).loc Cert.MixWBRefIdeal.main_arg1))
      ∧ r.2.sem = fun _ => 0)

def quiescent_MixBoth [hMixBoth : Cert.MixBoth.Facts] : Prop :=
  ∀ (m : (ℓ : Loc Cert.MixBoth.nD Cert.MixBoth.τ Cert.MixBoth.sig) → Buf (Elt Bits) ℓ) (g : Dev Cert.MixBoth.nD → PrngReg), Pre_MixBoth m →
    θ_run (Cert.MixBoth.defs (F := Bits)) (onTc (τ := Cert.MixBoth.τ) (Cert.MixBoth.main (F := Bits))) ⟨m, fun _ => 0, g⟩ (fun r => (∀ c : Dev Cert.MixBoth.nD,
      r.2.mem ((c.tc : Thread Cert.MixBoth.nD Cert.MixBoth.τ).loc Cert.MixBoth.main_arg0) = m ((c.tc : Thread Cert.MixBoth.nD Cert.MixBoth.τ).loc Cert.MixBoth.main_arg0)
      ∧ r.2.mem ((c.tc : Thread Cert.MixBoth.nD Cert.MixBoth.τ).loc Cert.MixBoth.main_arg1) = m ((c.tc : Thread Cert.MixBoth.nD Cert.MixBoth.τ).loc Cert.MixBoth.main_arg1)
      ∧ r.2.mem ((c.tc : Thread Cert.MixBoth.nD Cert.MixBoth.τ).loc Cert.MixBoth.main_arg2) = m ((c.tc : Thread Cert.MixBoth.nD Cert.MixBoth.τ).loc Cert.MixBoth.main_arg2)
      ∧ r.2.mem ((c.tc : Thread Cert.MixBoth.nD Cert.MixBoth.τ).loc Cert.MixBoth.main_arg3) = m ((c.tc : Thread Cert.MixBoth.nD Cert.MixBoth.τ).loc Cert.MixBoth.main_arg3)
      ∧ r.2.mem ((c.tc : Thread Cert.MixBoth.nD Cert.MixBoth.τ).loc Cert.MixBoth.main_arg4) = m ((c.tc : Thread Cert.MixBoth.nD Cert.MixBoth.τ).loc Cert.MixBoth.main_arg4)
      ∧ r.2.mem ((c.tc : Thread Cert.MixBoth.nD Cert.MixBoth.τ).loc Cert.MixBoth.main_arg5) = m ((c.tc : Thread Cert.MixBoth.nD Cert.MixBoth.τ).loc Cert.MixBoth.main_arg5)
      ∧ r.2.mem ((c.tc : Thread Cert.MixBoth.nD Cert.MixBoth.τ).loc Cert.MixBoth.main_arg6) = m ((c.tc : Thread Cert.MixBoth.nD Cert.MixBoth.τ).loc Cert.MixBoth.main_arg6))
      ∧ r.2.sem = fun _ => 0)

def quiescent_MixBothIdeal [hMixBothIdeal : Cert.MixBothIdeal.Facts] : Prop :=
  ∀ (m : (ℓ : Loc Cert.MixBothIdeal.nD Cert.MixBothIdeal.τ Cert.MixBothIdeal.sig) → Buf (Elt Ideal) ℓ) (g : Dev Cert.MixBothIdeal.nD → PrngReg), Pre_MixBothIdeal m →
    θ_run (Cert.MixBothIdeal.defs (F := Ideal)) (onTc (τ := Cert.MixBothIdeal.τ) (Cert.MixBothIdeal.main (F := Ideal))) ⟨m, fun _ => 0, g⟩ (fun r => (∀ c : Dev Cert.MixBothIdeal.nD,
      r.2.mem ((c.tc : Thread Cert.MixBothIdeal.nD Cert.MixBothIdeal.τ).loc Cert.MixBothIdeal.main_arg0) = m ((c.tc : Thread Cert.MixBothIdeal.nD Cert.MixBothIdeal.τ).loc Cert.MixBothIdeal.main_arg0)
      ∧ r.2.mem ((c.tc : Thread Cert.MixBothIdeal.nD Cert.MixBothIdeal.τ).loc Cert.MixBothIdeal.main_arg1) = m ((c.tc : Thread Cert.MixBothIdeal.nD Cert.MixBothIdeal.τ).loc Cert.MixBothIdeal.main_arg1)
      ∧ r.2.mem ((c.tc : Thread Cert.MixBothIdeal.nD Cert.MixBothIdeal.τ).loc Cert.MixBothIdeal.main_arg2) = m ((c.tc : Thread Cert.MixBothIdeal.nD Cert.MixBothIdeal.τ).loc Cert.MixBothIdeal.main_arg2)
      ∧ r.2.mem ((c.tc : Thread Cert.MixBothIdeal.nD Cert.MixBothIdeal.τ).loc Cert.MixBothIdeal.main_arg3) = m ((c.tc : Thread Cert.MixBothIdeal.nD Cert.MixBothIdeal.τ).loc Cert.MixBothIdeal.main_arg3)
      ∧ r.2.mem ((c.tc : Thread Cert.MixBothIdeal.nD Cert.MixBothIdeal.τ).loc Cert.MixBothIdeal.main_arg4) = m ((c.tc : Thread Cert.MixBothIdeal.nD Cert.MixBothIdeal.τ).loc Cert.MixBothIdeal.main_arg4)
      ∧ r.2.mem ((c.tc : Thread Cert.MixBothIdeal.nD Cert.MixBothIdeal.τ).loc Cert.MixBothIdeal.main_arg5) = m ((c.tc : Thread Cert.MixBothIdeal.nD Cert.MixBothIdeal.τ).loc Cert.MixBothIdeal.main_arg5)
      ∧ r.2.mem ((c.tc : Thread Cert.MixBothIdeal.nD Cert.MixBothIdeal.τ).loc Cert.MixBothIdeal.main_arg6) = m ((c.tc : Thread Cert.MixBothIdeal.nD Cert.MixBothIdeal.τ).loc Cert.MixBothIdeal.main_arg6))
      ∧ r.2.sem = fun _ => 0)

def quiescent_MixBothRefIdeal [hMixBothRefIdeal : Cert.MixBothRefIdeal.Facts] : Prop :=
  ∀ (m : (ℓ : Loc Cert.MixBothRefIdeal.nD Cert.MixBothRefIdeal.τ Cert.MixBothRefIdeal.sig) → Buf (Elt Ideal) ℓ) (g : Dev Cert.MixBothRefIdeal.nD → PrngReg), Pre_MixBothRefIdeal m →
    θ_run (Cert.MixBothRefIdeal.defs (F := Ideal)) (onTc (τ := Cert.MixBothRefIdeal.τ) (Cert.MixBothRefIdeal.main (F := Ideal))) ⟨m, fun _ => 0, g⟩ (fun r => (∀ c : Dev Cert.MixBothRefIdeal.nD,
      r.2.mem ((c.tc : Thread Cert.MixBothRefIdeal.nD Cert.MixBothRefIdeal.τ).loc Cert.MixBothRefIdeal.main_arg0) = m ((c.tc : Thread Cert.MixBothRefIdeal.nD Cert.MixBothRefIdeal.τ).loc Cert.MixBothRefIdeal.main_arg0)
      ∧ r.2.mem ((c.tc : Thread Cert.MixBothRefIdeal.nD Cert.MixBothRefIdeal.τ).loc Cert.MixBothRefIdeal.main_arg1) = m ((c.tc : Thread Cert.MixBothRefIdeal.nD Cert.MixBothRefIdeal.τ).loc Cert.MixBothRefIdeal.main_arg1)
      ∧ r.2.mem ((c.tc : Thread Cert.MixBothRefIdeal.nD Cert.MixBothRefIdeal.τ).loc Cert.MixBothRefIdeal.main_arg2) = m ((c.tc : Thread Cert.MixBothRefIdeal.nD Cert.MixBothRefIdeal.τ).loc Cert.MixBothRefIdeal.main_arg2)
      ∧ r.2.mem ((c.tc : Thread Cert.MixBothRefIdeal.nD Cert.MixBothRefIdeal.τ).loc Cert.MixBothRefIdeal.main_arg3) = m ((c.tc : Thread Cert.MixBothRefIdeal.nD Cert.MixBothRefIdeal.τ).loc Cert.MixBothRefIdeal.main_arg3)
      ∧ r.2.mem ((c.tc : Thread Cert.MixBothRefIdeal.nD Cert.MixBothRefIdeal.τ).loc Cert.MixBothRefIdeal.main_arg4) = m ((c.tc : Thread Cert.MixBothRefIdeal.nD Cert.MixBothRefIdeal.τ).loc Cert.MixBothRefIdeal.main_arg4)
      ∧ r.2.mem ((c.tc : Thread Cert.MixBothRefIdeal.nD Cert.MixBothRefIdeal.τ).loc Cert.MixBothRefIdeal.main_arg5) = m ((c.tc : Thread Cert.MixBothRefIdeal.nD Cert.MixBothRefIdeal.τ).loc Cert.MixBothRefIdeal.main_arg5)
      ∧ r.2.mem ((c.tc : Thread Cert.MixBothRefIdeal.nD Cert.MixBothRefIdeal.τ).loc Cert.MixBothRefIdeal.main_arg6) = m ((c.tc : Thread Cert.MixBothRefIdeal.nD Cert.MixBothRefIdeal.τ).loc Cert.MixBothRefIdeal.main_arg6))
      ∧ r.2.sem = fun _ => 0)

def quiescent_MixThree [hMixThree : Cert.MixThree.Facts] : Prop :=
  ∀ (m : (ℓ : Loc Cert.MixThree.nD Cert.MixThree.τ Cert.MixThree.sig) → Buf (Elt Bits) ℓ) (g : Dev Cert.MixThree.nD → PrngReg), Pre_MixThree m →
    θ_run (Cert.MixThree.defs (F := Bits)) (onTc (τ := Cert.MixThree.τ) (Cert.MixThree.main (F := Bits))) ⟨m, fun _ => 0, g⟩ (fun r => (∀ c : Dev Cert.MixThree.nD,
      r.2.mem ((c.tc : Thread Cert.MixThree.nD Cert.MixThree.τ).loc Cert.MixThree.main_arg0) = m ((c.tc : Thread Cert.MixThree.nD Cert.MixThree.τ).loc Cert.MixThree.main_arg0)
      ∧ r.2.mem ((c.tc : Thread Cert.MixThree.nD Cert.MixThree.τ).loc Cert.MixThree.main_arg1) = m ((c.tc : Thread Cert.MixThree.nD Cert.MixThree.τ).loc Cert.MixThree.main_arg1)
      ∧ r.2.mem ((c.tc : Thread Cert.MixThree.nD Cert.MixThree.τ).loc Cert.MixThree.main_arg2) = m ((c.tc : Thread Cert.MixThree.nD Cert.MixThree.τ).loc Cert.MixThree.main_arg2)
      ∧ r.2.mem ((c.tc : Thread Cert.MixThree.nD Cert.MixThree.τ).loc Cert.MixThree.main_arg3) = m ((c.tc : Thread Cert.MixThree.nD Cert.MixThree.τ).loc Cert.MixThree.main_arg3))
      ∧ r.2.sem = fun _ => 0)

def quiescent_MixThreeIdeal [hMixThreeIdeal : Cert.MixThreeIdeal.Facts] : Prop :=
  ∀ (m : (ℓ : Loc Cert.MixThreeIdeal.nD Cert.MixThreeIdeal.τ Cert.MixThreeIdeal.sig) → Buf (Elt Ideal) ℓ) (g : Dev Cert.MixThreeIdeal.nD → PrngReg), Pre_MixThreeIdeal m →
    θ_run (Cert.MixThreeIdeal.defs (F := Ideal)) (onTc (τ := Cert.MixThreeIdeal.τ) (Cert.MixThreeIdeal.main (F := Ideal))) ⟨m, fun _ => 0, g⟩ (fun r => (∀ c : Dev Cert.MixThreeIdeal.nD,
      r.2.mem ((c.tc : Thread Cert.MixThreeIdeal.nD Cert.MixThreeIdeal.τ).loc Cert.MixThreeIdeal.main_arg0) = m ((c.tc : Thread Cert.MixThreeIdeal.nD Cert.MixThreeIdeal.τ).loc Cert.MixThreeIdeal.main_arg0)
      ∧ r.2.mem ((c.tc : Thread Cert.MixThreeIdeal.nD Cert.MixThreeIdeal.τ).loc Cert.MixThreeIdeal.main_arg1) = m ((c.tc : Thread Cert.MixThreeIdeal.nD Cert.MixThreeIdeal.τ).loc Cert.MixThreeIdeal.main_arg1)
      ∧ r.2.mem ((c.tc : Thread Cert.MixThreeIdeal.nD Cert.MixThreeIdeal.τ).loc Cert.MixThreeIdeal.main_arg2) = m ((c.tc : Thread Cert.MixThreeIdeal.nD Cert.MixThreeIdeal.τ).loc Cert.MixThreeIdeal.main_arg2)
      ∧ r.2.mem ((c.tc : Thread Cert.MixThreeIdeal.nD Cert.MixThreeIdeal.τ).loc Cert.MixThreeIdeal.main_arg3) = m ((c.tc : Thread Cert.MixThreeIdeal.nD Cert.MixThreeIdeal.τ).loc Cert.MixThreeIdeal.main_arg3))
      ∧ r.2.sem = fun _ => 0)

def quiescent_MixThreeRefIdeal [hMixThreeRefIdeal : Cert.MixThreeRefIdeal.Facts] : Prop :=
  ∀ (m : (ℓ : Loc Cert.MixThreeRefIdeal.nD Cert.MixThreeRefIdeal.τ Cert.MixThreeRefIdeal.sig) → Buf (Elt Ideal) ℓ) (g : Dev Cert.MixThreeRefIdeal.nD → PrngReg), Pre_MixThreeRefIdeal m →
    θ_run (Cert.MixThreeRefIdeal.defs (F := Ideal)) (onTc (τ := Cert.MixThreeRefIdeal.τ) (Cert.MixThreeRefIdeal.main (F := Ideal))) ⟨m, fun _ => 0, g⟩ (fun r => (∀ c : Dev Cert.MixThreeRefIdeal.nD,
      r.2.mem ((c.tc : Thread Cert.MixThreeRefIdeal.nD Cert.MixThreeRefIdeal.τ).loc Cert.MixThreeRefIdeal.main_arg0) = m ((c.tc : Thread Cert.MixThreeRefIdeal.nD Cert.MixThreeRefIdeal.τ).loc Cert.MixThreeRefIdeal.main_arg0)
      ∧ r.2.mem ((c.tc : Thread Cert.MixThreeRefIdeal.nD Cert.MixThreeRefIdeal.τ).loc Cert.MixThreeRefIdeal.main_arg1) = m ((c.tc : Thread Cert.MixThreeRefIdeal.nD Cert.MixThreeRefIdeal.τ).loc Cert.MixThreeRefIdeal.main_arg1)
      ∧ r.2.mem ((c.tc : Thread Cert.MixThreeRefIdeal.nD Cert.MixThreeRefIdeal.τ).loc Cert.MixThreeRefIdeal.main_arg2) = m ((c.tc : Thread Cert.MixThreeRefIdeal.nD Cert.MixThreeRefIdeal.τ).loc Cert.MixThreeRefIdeal.main_arg2)
      ∧ r.2.mem ((c.tc : Thread Cert.MixThreeRefIdeal.nD Cert.MixThreeRefIdeal.τ).loc Cert.MixThreeRefIdeal.main_arg3) = m ((c.tc : Thread Cert.MixThreeRefIdeal.nD Cert.MixThreeRefIdeal.τ).loc Cert.MixThreeRefIdeal.main_arg3))
      ∧ r.2.sem = fun _ => 0)

def quiescent_MixFour [hMixFour : Cert.MixFour.Facts] : Prop :=
  ∀ (m : (ℓ : Loc Cert.MixFour.nD Cert.MixFour.τ Cert.MixFour.sig) → Buf (Elt Bits) ℓ) (g : Dev Cert.MixFour.nD → PrngReg), Pre_MixFour m →
    θ_run (Cert.MixFour.defs (F := Bits)) (onTc (τ := Cert.MixFour.τ) (Cert.MixFour.main (F := Bits))) ⟨m, fun _ => 0, g⟩ (fun r => (∀ c : Dev Cert.MixFour.nD,
      r.2.mem ((c.tc : Thread Cert.MixFour.nD Cert.MixFour.τ).loc Cert.MixFour.main_arg0) = m ((c.tc : Thread Cert.MixFour.nD Cert.MixFour.τ).loc Cert.MixFour.main_arg0)
      ∧ r.2.mem ((c.tc : Thread Cert.MixFour.nD Cert.MixFour.τ).loc Cert.MixFour.main_arg1) = m ((c.tc : Thread Cert.MixFour.nD Cert.MixFour.τ).loc Cert.MixFour.main_arg1)
      ∧ r.2.mem ((c.tc : Thread Cert.MixFour.nD Cert.MixFour.τ).loc Cert.MixFour.main_arg2) = m ((c.tc : Thread Cert.MixFour.nD Cert.MixFour.τ).loc Cert.MixFour.main_arg2)
      ∧ r.2.mem ((c.tc : Thread Cert.MixFour.nD Cert.MixFour.τ).loc Cert.MixFour.main_arg3) = m ((c.tc : Thread Cert.MixFour.nD Cert.MixFour.τ).loc Cert.MixFour.main_arg3)
      ∧ r.2.mem ((c.tc : Thread Cert.MixFour.nD Cert.MixFour.τ).loc Cert.MixFour.main_arg4) = m ((c.tc : Thread Cert.MixFour.nD Cert.MixFour.τ).loc Cert.MixFour.main_arg4)
      ∧ r.2.mem ((c.tc : Thread Cert.MixFour.nD Cert.MixFour.τ).loc Cert.MixFour.main_arg5) = m ((c.tc : Thread Cert.MixFour.nD Cert.MixFour.τ).loc Cert.MixFour.main_arg5))
      ∧ r.2.sem = fun _ => 0)

def quiescent_MixFourIdeal [hMixFourIdeal : Cert.MixFourIdeal.Facts] : Prop :=
  ∀ (m : (ℓ : Loc Cert.MixFourIdeal.nD Cert.MixFourIdeal.τ Cert.MixFourIdeal.sig) → Buf (Elt Ideal) ℓ) (g : Dev Cert.MixFourIdeal.nD → PrngReg), Pre_MixFourIdeal m →
    θ_run (Cert.MixFourIdeal.defs (F := Ideal)) (onTc (τ := Cert.MixFourIdeal.τ) (Cert.MixFourIdeal.main (F := Ideal))) ⟨m, fun _ => 0, g⟩ (fun r => (∀ c : Dev Cert.MixFourIdeal.nD,
      r.2.mem ((c.tc : Thread Cert.MixFourIdeal.nD Cert.MixFourIdeal.τ).loc Cert.MixFourIdeal.main_arg0) = m ((c.tc : Thread Cert.MixFourIdeal.nD Cert.MixFourIdeal.τ).loc Cert.MixFourIdeal.main_arg0)
      ∧ r.2.mem ((c.tc : Thread Cert.MixFourIdeal.nD Cert.MixFourIdeal.τ).loc Cert.MixFourIdeal.main_arg1) = m ((c.tc : Thread Cert.MixFourIdeal.nD Cert.MixFourIdeal.τ).loc Cert.MixFourIdeal.main_arg1)
      ∧ r.2.mem ((c.tc : Thread Cert.MixFourIdeal.nD Cert.MixFourIdeal.τ).loc Cert.MixFourIdeal.main_arg2) = m ((c.tc : Thread Cert.MixFourIdeal.nD Cert.MixFourIdeal.τ).loc Cert.MixFourIdeal.main_arg2)
      ∧ r.2.mem ((c.tc : Thread Cert.MixFourIdeal.nD Cert.MixFourIdeal.τ).loc Cert.MixFourIdeal.main_arg3) = m ((c.tc : Thread Cert.MixFourIdeal.nD Cert.MixFourIdeal.τ).loc Cert.MixFourIdeal.main_arg3)
      ∧ r.2.mem ((c.tc : Thread Cert.MixFourIdeal.nD Cert.MixFourIdeal.τ).loc Cert.MixFourIdeal.main_arg4) = m ((c.tc : Thread Cert.MixFourIdeal.nD Cert.MixFourIdeal.τ).loc Cert.MixFourIdeal.main_arg4)
      ∧ r.2.mem ((c.tc : Thread Cert.MixFourIdeal.nD Cert.MixFourIdeal.τ).loc Cert.MixFourIdeal.main_arg5) = m ((c.tc : Thread Cert.MixFourIdeal.nD Cert.MixFourIdeal.τ).loc Cert.MixFourIdeal.main_arg5))
      ∧ r.2.sem = fun _ => 0)

def quiescent_MixFourRefIdeal [hMixFourRefIdeal : Cert.MixFourRefIdeal.Facts] : Prop :=
  ∀ (m : (ℓ : Loc Cert.MixFourRefIdeal.nD Cert.MixFourRefIdeal.τ Cert.MixFourRefIdeal.sig) → Buf (Elt Ideal) ℓ) (g : Dev Cert.MixFourRefIdeal.nD → PrngReg), Pre_MixFourRefIdeal m →
    θ_run (Cert.MixFourRefIdeal.defs (F := Ideal)) (onTc (τ := Cert.MixFourRefIdeal.τ) (Cert.MixFourRefIdeal.main (F := Ideal))) ⟨m, fun _ => 0, g⟩ (fun r => (∀ c : Dev Cert.MixFourRefIdeal.nD,
      r.2.mem ((c.tc : Thread Cert.MixFourRefIdeal.nD Cert.MixFourRefIdeal.τ).loc Cert.MixFourRefIdeal.main_arg0) = m ((c.tc : Thread Cert.MixFourRefIdeal.nD Cert.MixFourRefIdeal.τ).loc Cert.MixFourRefIdeal.main_arg0)
      ∧ r.2.mem ((c.tc : Thread Cert.MixFourRefIdeal.nD Cert.MixFourRefIdeal.τ).loc Cert.MixFourRefIdeal.main_arg1) = m ((c.tc : Thread Cert.MixFourRefIdeal.nD Cert.MixFourRefIdeal.τ).loc Cert.MixFourRefIdeal.main_arg1)
      ∧ r.2.mem ((c.tc : Thread Cert.MixFourRefIdeal.nD Cert.MixFourRefIdeal.τ).loc Cert.MixFourRefIdeal.main_arg2) = m ((c.tc : Thread Cert.MixFourRefIdeal.nD Cert.MixFourRefIdeal.τ).loc Cert.MixFourRefIdeal.main_arg2)
      ∧ r.2.mem ((c.tc : Thread Cert.MixFourRefIdeal.nD Cert.MixFourRefIdeal.τ).loc Cert.MixFourRefIdeal.main_arg3) = m ((c.tc : Thread Cert.MixFourRefIdeal.nD Cert.MixFourRefIdeal.τ).loc Cert.MixFourRefIdeal.main_arg3)
      ∧ r.2.mem ((c.tc : Thread Cert.MixFourRefIdeal.nD Cert.MixFourRefIdeal.τ).loc Cert.MixFourRefIdeal.main_arg4) = m ((c.tc : Thread Cert.MixFourRefIdeal.nD Cert.MixFourRefIdeal.τ).loc Cert.MixFourRefIdeal.main_arg4)
      ∧ r.2.mem ((c.tc : Thread Cert.MixFourRefIdeal.nD Cert.MixFourRefIdeal.τ).loc Cert.MixFourRefIdeal.main_arg5) = m ((c.tc : Thread Cert.MixFourRefIdeal.nD Cert.MixFourRefIdeal.τ).loc Cert.MixFourRefIdeal.main_arg5))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3)
      ∧ r.2.mem ((c.tc : Thread Cert.NormMix.nD Cert.NormMix.τ).loc Cert.NormMix.main_arg4) = m ((c.tc : Thread Cert.NormMix.nD Cert.NormMix.τ).loc Cert.NormMix.main_arg4)
      ∧ r.2.mem ((c.tc : Thread Cert.NormMix.nD Cert.NormMix.τ).loc Cert.NormMix.main_arg5) = m ((c.tc : Thread Cert.NormMix.nD Cert.NormMix.τ).loc Cert.NormMix.main_arg5)
      ∧ r.2.mem ((c.tc : Thread Cert.NormMix.nD Cert.NormMix.τ).loc Cert.NormMix.main_arg6) = m ((c.tc : Thread Cert.NormMix.nD Cert.NormMix.τ).loc Cert.NormMix.main_arg6)
      ∧ r.2.mem ((c.tc : Thread Cert.NormMix.nD Cert.NormMix.τ).loc Cert.NormMix.main_arg7) = m ((c.tc : Thread Cert.NormMix.nD Cert.NormMix.τ).loc Cert.NormMix.main_arg7)
      ∧ r.2.mem ((c.tc : Thread Cert.NormMix.nD Cert.NormMix.τ).loc Cert.NormMix.main_arg8) = m ((c.tc : Thread Cert.NormMix.nD Cert.NormMix.τ).loc Cert.NormMix.main_arg8))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
      ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5)
      ∧ r.2.mem ((c.tc : Thread Cert.NormMixIdeal.nD Cert.NormMixIdeal.τ).loc Cert.NormMixIdeal.main_arg6) = m ((c.tc : Thread Cert.NormMixIdeal.nD Cert.NormMixIdeal.τ).loc Cert.NormMixIdeal.main_arg6)
      ∧ r.2.mem ((c.tc : Thread Cert.NormMixIdeal.nD Cert.NormMixIdeal.τ).loc Cert.NormMixIdeal.main_arg7) = m ((c.tc : Thread Cert.NormMixIdeal.nD Cert.NormMixIdeal.τ).loc Cert.NormMixIdeal.main_arg7)
      ∧ r.2.mem ((c.tc : Thread Cert.NormMixIdeal.nD Cert.NormMixIdeal.τ).loc Cert.NormMixIdeal.main_arg8) = m ((c.tc : Thread Cert.NormMixIdeal.nD Cert.NormMixIdeal.τ).loc Cert.NormMixIdeal.main_arg8))
      ∧ r.2.sem = fun _ => 0)

def quiescent_NormMixIdeal_pre_finite_norm_mix [hNormMixIdeal : Cert.NormMixIdeal.Facts] [hPre_finite_norm_mix : Cert.Pre_finite_norm_mix.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal_finite_norm_mix m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
      ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5)
      ∧ r.2.mem ((c.tc : Thread Cert.NormMixIdeal.nD Cert.NormMixIdeal.τ).loc Cert.NormMixIdeal.main_arg6) = m ((c.tc : Thread Cert.NormMixIdeal.nD Cert.NormMixIdeal.τ).loc Cert.NormMixIdeal.main_arg6)
      ∧ r.2.mem ((c.tc : Thread Cert.NormMixIdeal.nD Cert.NormMixIdeal.τ).loc Cert.NormMixIdeal.main_arg7) = m ((c.tc : Thread Cert.NormMixIdeal.nD Cert.NormMixIdeal.τ).loc Cert.NormMixIdeal.main_arg7)
      ∧ r.2.mem ((c.tc : Thread Cert.NormMixIdeal.nD Cert.NormMixIdeal.τ).loc Cert.NormMixIdeal.main_arg8) = m ((c.tc : Thread Cert.NormMixIdeal.nD Cert.NormMixIdeal.τ).loc Cert.NormMixIdeal.main_arg8))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4)
      ∧ r.2.mem ((c.tc : Thread Cert.NormMixRefIdeal.nD Cert.NormMixRefIdeal.τ).loc Cert.NormMixRefIdeal.main_arg5) = m ((c.tc : Thread Cert.NormMixRefIdeal.nD Cert.NormMixRefIdeal.τ).loc Cert.NormMixRefIdeal.main_arg5)
      ∧ r.2.mem ((c.tc : Thread Cert.NormMixRefIdeal.nD Cert.NormMixRefIdeal.τ).loc Cert.NormMixRefIdeal.main_arg6) = m ((c.tc : Thread Cert.NormMixRefIdeal.nD Cert.NormMixRefIdeal.τ).loc Cert.NormMixRefIdeal.main_arg6)
      ∧ r.2.mem ((c.tc : Thread Cert.NormMixRefIdeal.nD Cert.NormMixRefIdeal.τ).loc Cert.NormMixRefIdeal.main_arg7) = m ((c.tc : Thread Cert.NormMixRefIdeal.nD Cert.NormMixRefIdeal.τ).loc Cert.NormMixRefIdeal.main_arg7)
      ∧ r.2.mem ((c.tc : Thread Cert.NormMixRefIdeal.nD Cert.NormMixRefIdeal.τ).loc Cert.NormMixRefIdeal.main_arg8) = m ((c.tc : Thread Cert.NormMixRefIdeal.nD Cert.NormMixRefIdeal.τ).loc Cert.NormMixRefIdeal.main_arg8))
      ∧ r.2.sem = fun _ => 0)

def quiescent_NormMixRefIdeal_pre_finite_norm_mix [hNormMixRefIdeal : Cert.NormMixRefIdeal.Facts] [hPre_finite_norm_mix : Cert.Pre_finite_norm_mix.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal_finite_norm_mix m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4)
      ∧ r.2.mem ((c.tc : Thread Cert.NormMixRefIdeal.nD Cert.NormMixRefIdeal.τ).loc Cert.NormMixRefIdeal.main_arg5) = m ((c.tc : Thread Cert.NormMixRefIdeal.nD Cert.NormMixRefIdeal.τ).loc Cert.NormMixRefIdeal.main_arg5)
      ∧ r.2.mem ((c.tc : Thread Cert.NormMixRefIdeal.nD Cert.NormMixRefIdeal.τ).loc Cert.NormMixRefIdeal.main_arg6) = m ((c.tc : Thread Cert.NormMixRefIdeal.nD Cert.NormMixRefIdeal.τ).loc Cert.NormMixRefIdeal.main_arg6)
      ∧ r.2.mem ((c.tc : Thread Cert.NormMixRefIdeal.nD Cert.NormMixRefIdeal.τ).loc Cert.NormMixRefIdeal.main_arg7) = m ((c.tc : Thread Cert.NormMixRefIdeal.nD Cert.NormMixRefIdeal.τ).loc Cert.NormMixRefIdeal.main_arg7)
      ∧ r.2.mem ((c.tc : Thread Cert.NormMixRefIdeal.nD Cert.NormMixRefIdeal.τ).loc Cert.NormMixRefIdeal.main_arg8) = m ((c.tc : Thread Cert.NormMixRefIdeal.nD Cert.NormMixRefIdeal.τ).loc Cert.NormMixRefIdeal.main_arg8))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_ModB [hModB : Cert.ModB.Facts] : Prop :=
  ∀ (m : (ℓ : Loc Cert.ModB.nD Cert.ModB.τ Cert.ModB.sig) → Buf (Elt Bits) ℓ) (g : Dev Cert.ModB.nD → PrngReg), Pre_ModB m →
    θ_run (Cert.ModB.defs (F := Bits)) (onTc (τ := Cert.ModB.τ) (Cert.ModB.main (F := Bits))) ⟨m, fun _ => 0, g⟩ (fun r => (∀ c : Dev Cert.ModB.nD,
      r.2.mem ((c.tc : Thread Cert.ModB.nD Cert.ModB.τ).loc Cert.ModB.main_arg0) = m ((c.tc : Thread Cert.ModB.nD Cert.ModB.τ).loc Cert.ModB.main_arg0))
      ∧ r.2.sem = fun _ => 0)

def quiescent_ModBIdeal [hModBIdeal : Cert.ModBIdeal.Facts] : Prop :=
  ∀ (m : (ℓ : Loc Cert.ModBIdeal.nD Cert.ModBIdeal.τ Cert.ModBIdeal.sig) → Buf (Elt Ideal) ℓ) (g : Dev Cert.ModBIdeal.nD → PrngReg), Pre_ModBIdeal m →
    θ_run (Cert.ModBIdeal.defs (F := Ideal)) (onTc (τ := Cert.ModBIdeal.τ) (Cert.ModBIdeal.main (F := Ideal))) ⟨m, fun _ => 0, g⟩ (fun r => (∀ c : Dev Cert.ModBIdeal.nD,
      r.2.mem ((c.tc : Thread Cert.ModBIdeal.nD Cert.ModBIdeal.τ).loc Cert.ModBIdeal.main_arg0) = m ((c.tc : Thread Cert.ModBIdeal.nD Cert.ModBIdeal.τ).loc Cert.ModBIdeal.main_arg0))
      ∧ r.2.sem = fun _ => 0)

def quiescent_ModBRefIdeal [hModBRefIdeal : Cert.ModBRefIdeal.Facts] : Prop :=
  ∀ (m : (ℓ : Loc Cert.ModBRefIdeal.nD Cert.ModBRefIdeal.τ Cert.ModBRefIdeal.sig) → Buf (Elt Ideal) ℓ) (g : Dev Cert.ModBRefIdeal.nD → PrngReg), Pre_ModBRefIdeal m →
    θ_run (Cert.ModBRefIdeal.defs (F := Ideal)) (onTc (τ := Cert.ModBRefIdeal.τ) (Cert.ModBRefIdeal.main (F := Ideal))) ⟨m, fun _ => 0, g⟩ (fun r => (∀ c : Dev Cert.ModBRefIdeal.nD,
      r.2.mem ((c.tc : Thread Cert.ModBRefIdeal.nD Cert.ModBRefIdeal.τ).loc Cert.ModBRefIdeal.main_arg0) = m ((c.tc : Thread Cert.ModBRefIdeal.nD Cert.ModBRefIdeal.τ).loc Cert.ModBRefIdeal.main_arg0))
      ∧ r.2.sem = fun _ => 0)

def quiescent_ModW [hModW : Cert.ModW.Facts] : Prop :=
  ∀ (m : (ℓ : Loc Cert.ModW.nD Cert.ModW.τ Cert.ModW.sig) → Buf (Elt Bits) ℓ) (g : Dev Cert.ModW.nD → PrngReg), Pre_ModW m →
    θ_run (Cert.ModW.defs (F := Bits)) (onTc (τ := Cert.ModW.τ) (Cert.ModW.main (F := Bits))) ⟨m, fun _ => 0, g⟩ (fun r => (∀ c : Dev Cert.ModW.nD,
      r.2.mem ((c.tc : Thread Cert.ModW.nD Cert.ModW.τ).loc Cert.ModW.main_arg0) = m ((c.tc : Thread Cert.ModW.nD Cert.ModW.τ).loc Cert.ModW.main_arg0)
      ∧ r.2.mem ((c.tc : Thread Cert.ModW.nD Cert.ModW.τ).loc Cert.ModW.main_arg1) = m ((c.tc : Thread Cert.ModW.nD Cert.ModW.τ).loc Cert.ModW.main_arg1)
      ∧ r.2.mem ((c.tc : Thread Cert.ModW.nD Cert.ModW.τ).loc Cert.ModW.main_arg2) = m ((c.tc : Thread Cert.ModW.nD Cert.ModW.τ).loc Cert.ModW.main_arg2))
      ∧ r.2.sem = fun _ => 0)

def quiescent_ModWIdeal [hModWIdeal : Cert.ModWIdeal.Facts] : Prop :=
  ∀ (m : (ℓ : Loc Cert.ModWIdeal.nD Cert.ModWIdeal.τ Cert.ModWIdeal.sig) → Buf (Elt Ideal) ℓ) (g : Dev Cert.ModWIdeal.nD → PrngReg), Pre_ModWIdeal m →
    θ_run (Cert.ModWIdeal.defs (F := Ideal)) (onTc (τ := Cert.ModWIdeal.τ) (Cert.ModWIdeal.main (F := Ideal))) ⟨m, fun _ => 0, g⟩ (fun r => (∀ c : Dev Cert.ModWIdeal.nD,
      r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
      ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1)
      ∧ r.2.mem ((c.tc : Thread Cert.ModWIdeal.nD Cert.ModWIdeal.τ).loc Cert.ModWIdeal.main_arg2) = m ((c.tc : Thread Cert.ModWIdeal.nD Cert.ModWIdeal.τ).loc Cert.ModWIdeal.main_arg2))
      ∧ r.2.sem = fun _ => 0)

def quiescent_ModWRefIdeal [hModWRefIdeal : Cert.ModWRefIdeal.Facts] : Prop :=
  ∀ (m : (ℓ : Loc Cert.ModWRefIdeal.nD Cert.ModWRefIdeal.τ Cert.ModWRefIdeal.sig) → Buf (Elt Ideal) ℓ) (g : Dev Cert.ModWRefIdeal.nD → PrngReg), Pre_ModWRefIdeal m →
    θ_run (Cert.ModWRefIdeal.defs (F := Ideal)) (onTc (τ := Cert.ModWRefIdeal.τ) (Cert.ModWRefIdeal.main (F := Ideal))) ⟨m, fun _ => 0, g⟩ (fun r => (∀ c : Dev Cert.ModWRefIdeal.nD,
      r.2.mem ((c.tc : Thread Cert.ModWRefIdeal.nD Cert.ModWRefIdeal.τ).loc Cert.ModWRefIdeal.main_arg0) = m ((c.tc : Thread Cert.ModWRefIdeal.nD Cert.ModWRefIdeal.τ).loc Cert.ModWRefIdeal.main_arg0)
      ∧ r.2.mem ((c.tc : Thread Cert.ModWRefIdeal.nD Cert.ModWRefIdeal.τ).loc Cert.ModWRefIdeal.main_arg1) = m ((c.tc : Thread Cert.ModWRefIdeal.nD Cert.ModWRefIdeal.τ).loc Cert.ModWRefIdeal.main_arg1)
      ∧ r.2.mem ((c.tc : Thread Cert.ModWRefIdeal.nD Cert.ModWRefIdeal.τ).loc Cert.ModWRefIdeal.main_arg2) = m ((c.tc : Thread Cert.ModWRefIdeal.nD Cert.ModWRefIdeal.τ).loc Cert.ModWRefIdeal.main_arg2))
      ∧ r.2.sem = fun _ => 0)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3)
      ∧ r.2.mem ((c.tc : Thread Cert.NormFirst.nD Cert.NormFirst.τ).loc Cert.NormFirst.main_arg4) = m ((c.tc : Thread Cert.NormFirst.nD Cert.NormFirst.τ).loc Cert.NormFirst.main_arg4)
      ∧ r.2.mem ((c.tc : Thread Cert.NormFirst.nD Cert.NormFirst.τ).loc Cert.NormFirst.main_arg5) = m ((c.tc : Thread Cert.NormFirst.nD Cert.NormFirst.τ).loc Cert.NormFirst.main_arg5)
      ∧ r.2.mem ((c.tc : Thread Cert.NormFirst.nD Cert.NormFirst.τ).loc Cert.NormFirst.main_arg6) = m ((c.tc : Thread Cert.NormFirst.nD Cert.NormFirst.τ).loc Cert.NormFirst.main_arg6))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
      ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4)
      ∧ r.2.mem ((c.tc : Thread Cert.NormFirstIdeal.nD Cert.NormFirstIdeal.τ).loc Cert.NormFirstIdeal.main_arg5) = m ((c.tc : Thread Cert.NormFirstIdeal.nD Cert.NormFirstIdeal.τ).loc Cert.NormFirstIdeal.main_arg5)
      ∧ r.2.mem ((c.tc : Thread Cert.NormFirstIdeal.nD Cert.NormFirstIdeal.τ).loc Cert.NormFirstIdeal.main_arg6) = m ((c.tc : Thread Cert.NormFirstIdeal.nD Cert.NormFirstIdeal.τ).loc Cert.NormFirstIdeal.main_arg6))
      ∧ r.2.sem = fun _ => 0)

def quiescent_NormFirstIdeal_pre_finite_norm_first [hNormFirstIdeal : Cert.NormFirstIdeal.Facts] [hPre_finite_norm_first : Cert.Pre_finite_norm_first.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal_finite_norm_first m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
      ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4)
      ∧ r.2.mem ((c.tc : Thread Cert.NormFirstIdeal.nD Cert.NormFirstIdeal.τ).loc Cert.NormFirstIdeal.main_arg5) = m ((c.tc : Thread Cert.NormFirstIdeal.nD Cert.NormFirstIdeal.τ).loc Cert.NormFirstIdeal.main_arg5)
      ∧ r.2.mem ((c.tc : Thread Cert.NormFirstIdeal.nD Cert.NormFirstIdeal.τ).loc Cert.NormFirstIdeal.main_arg6) = m ((c.tc : Thread Cert.NormFirstIdeal.nD Cert.NormFirstIdeal.τ).loc Cert.NormFirstIdeal.main_arg6))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3)
      ∧ r.2.mem ((c.tc : Thread Cert.NormFirstRefIdeal.nD Cert.NormFirstRefIdeal.τ).loc Cert.NormFirstRefIdeal.main_arg4) = m ((c.tc : Thread Cert.NormFirstRefIdeal.nD Cert.NormFirstRefIdeal.τ).loc Cert.NormFirstRefIdeal.main_arg4)
      ∧ r.2.mem ((c.tc : Thread Cert.NormFirstRefIdeal.nD Cert.NormFirstRefIdeal.τ).loc Cert.NormFirstRefIdeal.main_arg5) = m ((c.tc : Thread Cert.NormFirstRefIdeal.nD Cert.NormFirstRefIdeal.τ).loc Cert.NormFirstRefIdeal.main_arg5)
      ∧ r.2.mem ((c.tc : Thread Cert.NormFirstRefIdeal.nD Cert.NormFirstRefIdeal.τ).loc Cert.NormFirstRefIdeal.main_arg6) = m ((c.tc : Thread Cert.NormFirstRefIdeal.nD Cert.NormFirstRefIdeal.τ).loc Cert.NormFirstRefIdeal.main_arg6))
      ∧ r.2.sem = fun _ => 0)

def quiescent_NormFirstRefIdeal_pre_finite_norm_first [hNormFirstRefIdeal : Cert.NormFirstRefIdeal.Facts] [hPre_finite_norm_first : Cert.Pre_finite_norm_first.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal_finite_norm_first m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3)
      ∧ r.2.mem ((c.tc : Thread Cert.NormFirstRefIdeal.nD Cert.NormFirstRefIdeal.τ).loc Cert.NormFirstRefIdeal.main_arg4) = m ((c.tc : Thread Cert.NormFirstRefIdeal.nD Cert.NormFirstRefIdeal.τ).loc Cert.NormFirstRefIdeal.main_arg4)
      ∧ r.2.mem ((c.tc : Thread Cert.NormFirstRefIdeal.nD Cert.NormFirstRefIdeal.τ).loc Cert.NormFirstRefIdeal.main_arg5) = m ((c.tc : Thread Cert.NormFirstRefIdeal.nD Cert.NormFirstRefIdeal.τ).loc Cert.NormFirstRefIdeal.main_arg5)
      ∧ r.2.mem ((c.tc : Thread Cert.NormFirstRefIdeal.nD Cert.NormFirstRefIdeal.τ).loc Cert.NormFirstRefIdeal.main_arg6) = m ((c.tc : Thread Cert.NormFirstRefIdeal.nD Cert.NormFirstRefIdeal.τ).loc Cert.NormFirstRefIdeal.main_arg6))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0)
      ∧ r.2.mem ((c.tc : Thread Cert.Cond.nD Cert.Cond.τ).loc Cert.Cond.main_arg1) = m ((c.tc : Thread Cert.Cond.nD Cert.Cond.τ).loc Cert.Cond.main_arg1))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ r.2.sem = fun _ => 0)

def quiescent_CondIdeal_pre_finite_cond [hCondIdeal : Cert.CondIdeal.Facts] [hPre_finite_cond : Cert.Pre_finite_cond.Facts] : Prop :=
  ∀ (m : (ℓ : Loc Cert.CondIdeal.nD Cert.CondIdeal.τ Cert.CondIdeal.sig) → Buf (Elt Ideal) ℓ) (g : Dev Cert.CondIdeal.nD → PrngReg), Pre_CondIdeal_finite_cond m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ r.2.sem = fun _ => 0)

def quiescent_CondRefIdeal [hCondRefIdeal : Cert.CondRefIdeal.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1))
      ∧ r.2.sem = fun _ => 0)

def quiescent_CondRefIdeal_pre_finite_cond [hCondRefIdeal : Cert.CondRefIdeal.Facts] [hPre_finite_cond : Cert.Pre_finite_cond.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal_finite_cond m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v69) = v0 c
          ∧ r.2.mem ((c.tc : Thread Cert.ConvRefIdeal.nD Cert.ConvRefIdeal.τ).loc Cert.ConvRefIdeal.main_v70) = v1 c
          ∧ r.2.mem ((c.tc : Thread Cert.ConvRefIdeal.nD Cert.ConvRefIdeal.τ).loc Cert.ConvRefIdeal.main_v71) = v2 c
          ∧ r.2.mem ((c.tc : Thread Cert.ConvRefIdeal.nD Cert.ConvRefIdeal.τ).loc Cert.ConvRefIdeal.main_v61) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)) →
    ∃ (v0 : (c : Dev Cert.NormIdeal.nD) → Buf (Elt Ideal) ((c.tc : Thread Cert.NormIdeal.nD Cert.NormIdeal.τ).loc Cert.NormIdeal.main_v7_0)) (v1 : (c : Dev Cert.NormIdeal.nD) → Buf (Elt Ideal) ((c.tc : Thread Cert.NormIdeal.nD Cert.NormIdeal.τ).loc Cert.NormIdeal.main_v7_1)) (v2 : (c : Dev Cert.NormIdeal.nD) → Buf (Elt Ideal) ((c.tc : Thread Cert.NormIdeal.nD Cert.NormIdeal.τ).loc Cert.NormIdeal.main_v7_2)) (v3 : (c : Dev Cert.NormIdeal.nD) → Buf (Elt Ideal) ((c.tc : Thread Cert.NormIdeal.nD Cert.NormIdeal.τ).loc Cert.NormIdeal.main_v7_3)) (v4 : (c : Dev Cert.NormIdeal.nD) → Buf (Elt Ideal) ((c.tc : Thread Cert.NormIdeal.nD Cert.NormIdeal.τ).loc Cert.NormIdeal.main_v7_4)) (v5 : (c : Dev Cert.NormIdeal.nD) → Buf (Elt Ideal) ((c.tc : Thread Cert.NormIdeal.nD Cert.NormIdeal.τ).loc Cert.NormIdeal.main_v7_5)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v7_0) = v0 c
          ∧ r.2.mem ((c.tc : Thread Cert.NormIdeal.nD Cert.NormIdeal.τ).loc Cert.NormIdeal.main_v7_1) = v1 c
          ∧ r.2.mem ((c.tc : Thread Cert.NormIdeal.nD Cert.NormIdeal.τ).loc Cert.NormIdeal.main_v7_2) = v2 c
          ∧ r.2.mem ((c.tc : Thread Cert.NormIdeal.nD Cert.NormIdeal.τ).loc Cert.NormIdeal.main_v7_3) = v3 c
          ∧ r.2.mem ((c.tc : Thread Cert.NormIdeal.nD Cert.NormIdeal.τ).loc Cert.NormIdeal.main_v7_4) = v4 c
          ∧ r.2.mem ((c.tc : Thread Cert.NormIdeal.nD Cert.NormIdeal.τ).loc Cert.NormIdeal.main_v7_5) = v5 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v66) = v0 c
          ∧ r.2.mem ((c.tc : Thread Cert.NormRefIdeal.nD Cert.NormRefIdeal.τ).loc Cert.NormRefIdeal.main_v41) = v1 c
          ∧ r.2.mem ((c.tc : Thread Cert.NormRefIdeal.nD Cert.NormRefIdeal.τ).loc Cert.NormRefIdeal.main_v44) = v2 c
          ∧ r.2.mem ((c.tc : Thread Cert.NormRefIdeal.nD Cert.NormRefIdeal.τ).loc Cert.NormRefIdeal.main_v49) = v3 c
          ∧ r.2.mem ((c.tc : Thread Cert.NormRefIdeal.nD Cert.NormRefIdeal.τ).loc Cert.NormRefIdeal.main_v75) = v4 c
          ∧ r.2.mem ((c.tc : Thread Cert.NormRefIdeal.nD Cert.NormRefIdeal.τ).loc Cert.NormRefIdeal.main_v74) = v5 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v8_0)) (v1 : (c : Dev Cert.GateIdeal.nD) → Buf (Elt Ideal) ((c.tc : Thread Cert.GateIdeal.nD Cert.GateIdeal.τ).loc Cert.GateIdeal.main_v8_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8_0) = v0 c
          ∧ r.2.mem ((c.tc : Thread Cert.GateIdeal.nD Cert.GateIdeal.τ).loc Cert.GateIdeal.main_v8_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v9) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_v12) = v1 c
          ∧ r.2.mem ((c.tc : Thread Cert.UpRefIdeal.nD Cert.UpRefIdeal.τ).loc Cert.UpRefIdeal.main_v15) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v5) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v5) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_v9) = v1 c
          ∧ r.2.mem ((c.tc : Thread Cert.DownRefIdeal.nD Cert.DownRefIdeal.τ).loc Cert.DownRefIdeal.main_v30) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v1) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v6) = v2 c
          ∧ r.2.mem ((c.tc : Thread Cert.AdamConvRefIdeal.nD Cert.AdamConvRefIdeal.τ).loc Cert.AdamConvRefIdeal.main_v12) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg3) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg3) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_DownNext_DownNextIdeal : Prop :=
  True

def algebraic_DownNextIdeal_DownNextRefIdeal [hDownNextIdeal : Cert.DownNextIdeal.Facts] [hDownNextRefIdeal : Cert.DownNextRefIdeal.Facts] : Prop :=
  ∀ (m : (ℓ : Loc Cert.DownNextIdeal.nD Cert.DownNextIdeal.τ Cert.DownNextIdeal.sig) → Buf (Elt Ideal) ℓ) (g : Dev Cert.DownNextIdeal.nD → PrngReg)
    (m' : (ℓ : Loc Cert.DownNextRefIdeal.nD Cert.DownNextRefIdeal.τ Cert.DownNextRefIdeal.sig) → Buf (Elt Ideal) ℓ) (g' : Dev Cert.DownNextRefIdeal.nD → PrngReg), Pre_DownNextIdeal m →
    (∀ c : Dev Cert.DownNextIdeal.nD,
      m' ((c.tc : Thread Cert.DownNextRefIdeal.nD Cert.DownNextRefIdeal.τ).loc Cert.DownNextRefIdeal.main_arg0) = m ((c.tc : Thread Cert.DownNextIdeal.nD Cert.DownNextIdeal.τ).loc Cert.DownNextIdeal.main_arg0)
      ∧ m' ((c.tc : Thread Cert.DownNextRefIdeal.nD Cert.DownNextRefIdeal.τ).loc Cert.DownNextRefIdeal.main_arg1) = m ((c.tc : Thread Cert.DownNextIdeal.nD Cert.DownNextIdeal.τ).loc Cert.DownNextIdeal.main_arg1)
      ∧ m' ((c.tc : Thread Cert.DownNextRefIdeal.nD Cert.DownNextRefIdeal.τ).loc Cert.DownNextRefIdeal.main_arg2) = m ((c.tc : Thread Cert.DownNextIdeal.nD Cert.DownNextIdeal.τ).loc Cert.DownNextIdeal.main_arg2)
      ∧ m' ((c.tc : Thread Cert.DownNextRefIdeal.nD Cert.DownNextRefIdeal.τ).loc Cert.DownNextRefIdeal.main_arg3) = m ((c.tc : Thread Cert.DownNextIdeal.nD Cert.DownNextIdeal.τ).loc Cert.DownNextIdeal.main_arg3)
      ∧ m' ((c.tc : Thread Cert.DownNextRefIdeal.nD Cert.DownNextRefIdeal.τ).loc Cert.DownNextRefIdeal.main_arg4) = m ((c.tc : Thread Cert.DownNextIdeal.nD Cert.DownNextIdeal.τ).loc Cert.DownNextIdeal.main_arg4)
      ∧ m' ((c.tc : Thread Cert.DownNextRefIdeal.nD Cert.DownNextRefIdeal.τ).loc Cert.DownNextRefIdeal.main_arg5) = m ((c.tc : Thread Cert.DownNextIdeal.nD Cert.DownNextIdeal.τ).loc Cert.DownNextIdeal.main_arg5)) →
    ∃ (v0 : (c : Dev Cert.DownNextIdeal.nD) → Buf (Elt Ideal) ((c.tc : Thread Cert.DownNextIdeal.nD Cert.DownNextIdeal.τ).loc Cert.DownNextIdeal.main_v0_0)) (v1 : (c : Dev Cert.DownNextIdeal.nD) → Buf (Elt Ideal) ((c.tc : Thread Cert.DownNextIdeal.nD Cert.DownNextIdeal.τ).loc Cert.DownNextIdeal.main_v0_1)) (v2 : (c : Dev Cert.DownNextIdeal.nD) → Buf (Elt Ideal) ((c.tc : Thread Cert.DownNextIdeal.nD Cert.DownNextIdeal.τ).loc Cert.DownNextIdeal.main_v0_2)),
      θ_run (Cert.DownNextIdeal.defs (F := Ideal)) (onTc (τ := Cert.DownNextIdeal.τ) (Cert.DownNextIdeal.main (F := Ideal))) ⟨m, fun _ => 0, g⟩ (fun r => ∀ c : Dev Cert.DownNextIdeal.nD,
          r.2.mem ((c.tc : Thread Cert.DownNextIdeal.nD Cert.DownNextIdeal.τ).loc Cert.DownNextIdeal.main_v0_0) = v0 c
          ∧ r.2.mem ((c.tc : Thread Cert.DownNextIdeal.nD Cert.DownNextIdeal.τ).loc Cert.DownNextIdeal.main_v0_1) = v1 c
          ∧ r.2.mem ((c.tc : Thread Cert.DownNextIdeal.nD Cert.DownNextIdeal.τ).loc Cert.DownNextIdeal.main_v0_2) = v2 c
          ∧ r.2.mem ((c.tc : Thread Cert.DownNextIdeal.nD Cert.DownNextIdeal.τ).loc Cert.DownNextIdeal.main_arg0) = m ((c.tc : Thread Cert.DownNextIdeal.nD Cert.DownNextIdeal.τ).loc Cert.DownNextIdeal.main_arg0)
          ∧ r.2.mem ((c.tc : Thread Cert.DownNextIdeal.nD Cert.DownNextIdeal.τ).loc Cert.DownNextIdeal.main_arg1) = m ((c.tc : Thread Cert.DownNextIdeal.nD Cert.DownNextIdeal.τ).loc Cert.DownNextIdeal.main_arg1)
          ∧ r.2.mem ((c.tc : Thread Cert.DownNextIdeal.nD Cert.DownNextIdeal.τ).loc Cert.DownNextIdeal.main_arg2) = m ((c.tc : Thread Cert.DownNextIdeal.nD Cert.DownNextIdeal.τ).loc Cert.DownNextIdeal.main_arg2)
          ∧ r.2.mem ((c.tc : Thread Cert.DownNextIdeal.nD Cert.DownNextIdeal.τ).loc Cert.DownNextIdeal.main_arg3) = m ((c.tc : Thread Cert.DownNextIdeal.nD Cert.DownNextIdeal.τ).loc Cert.DownNextIdeal.main_arg3)
          ∧ r.2.mem ((c.tc : Thread Cert.DownNextIdeal.nD Cert.DownNextIdeal.τ).loc Cert.DownNextIdeal.main_arg4) = m ((c.tc : Thread Cert.DownNextIdeal.nD Cert.DownNextIdeal.τ).loc Cert.DownNextIdeal.main_arg4)
          ∧ r.2.mem ((c.tc : Thread Cert.DownNextIdeal.nD Cert.DownNextIdeal.τ).loc Cert.DownNextIdeal.main_arg5) = m ((c.tc : Thread Cert.DownNextIdeal.nD Cert.DownNextIdeal.τ).loc Cert.DownNextIdeal.main_arg5))
      ∧ θ_run (Cert.DownNextRefIdeal.defs (F := Ideal)) (onTc (τ := Cert.DownNextRefIdeal.τ) (Cert.DownNextRefIdeal.main (F := Ideal))) ⟨m', fun _ => 0, g'⟩ (fun r => ∀ c : Dev Cert.DownNextRefIdeal.nD,
          r.2.mem ((c.tc : Thread Cert.DownNextRefIdeal.nD Cert.DownNextRefIdeal.τ).loc Cert.DownNextRefIdeal.main_v8) = v0 c
          ∧ r.2.mem ((c.tc : Thread Cert.DownNextRefIdeal.nD Cert.DownNextRefIdeal.τ).loc Cert.DownNextRefIdeal.main_v9) = v1 c
          ∧ r.2.mem ((c.tc : Thread Cert.DownNextRefIdeal.nD Cert.DownNextRefIdeal.τ).loc Cert.DownNextRefIdeal.main_v30) = v2 c
          ∧ r.2.mem ((c.tc : Thread Cert.DownNextRefIdeal.nD Cert.DownNextRefIdeal.τ).loc Cert.DownNextRefIdeal.main_arg0) = m' ((c.tc : Thread Cert.DownNextRefIdeal.nD Cert.DownNextRefIdeal.τ).loc Cert.DownNextRefIdeal.main_arg0)
          ∧ r.2.mem ((c.tc : Thread Cert.DownNextRefIdeal.nD Cert.DownNextRefIdeal.τ).loc Cert.DownNextRefIdeal.main_arg1) = m' ((c.tc : Thread Cert.DownNextRefIdeal.nD Cert.DownNextRefIdeal.τ).loc Cert.DownNextRefIdeal.main_arg1)
          ∧ r.2.mem ((c.tc : Thread Cert.DownNextRefIdeal.nD Cert.DownNextRefIdeal.τ).loc Cert.DownNextRefIdeal.main_arg2) = m' ((c.tc : Thread Cert.DownNextRefIdeal.nD Cert.DownNextRefIdeal.τ).loc Cert.DownNextRefIdeal.main_arg2)
          ∧ r.2.mem ((c.tc : Thread Cert.DownNextRefIdeal.nD Cert.DownNextRefIdeal.τ).loc Cert.DownNextRefIdeal.main_arg3) = m' ((c.tc : Thread Cert.DownNextRefIdeal.nD Cert.DownNextRefIdeal.τ).loc Cert.DownNextRefIdeal.main_arg3)
          ∧ r.2.mem ((c.tc : Thread Cert.DownNextRefIdeal.nD Cert.DownNextRefIdeal.τ).loc Cert.DownNextRefIdeal.main_arg4) = m' ((c.tc : Thread Cert.DownNextRefIdeal.nD Cert.DownNextRefIdeal.τ).loc Cert.DownNextRefIdeal.main_arg4)
          ∧ r.2.mem ((c.tc : Thread Cert.DownNextRefIdeal.nD Cert.DownNextRefIdeal.τ).loc Cert.DownNextRefIdeal.main_arg5) = m' ((c.tc : Thread Cert.DownNextRefIdeal.nD Cert.DownNextRefIdeal.τ).loc Cert.DownNextRefIdeal.main_arg5))

def preserves_DownLast_DownLastIdeal : Prop :=
  True

def algebraic_DownLastIdeal_DownLastRefIdeal [hDownLastIdeal : Cert.DownLastIdeal.Facts] [hDownLastRefIdeal : Cert.DownLastRefIdeal.Facts] : Prop :=
  ∀ (m : (ℓ : Loc Cert.DownLastIdeal.nD Cert.DownLastIdeal.τ Cert.DownLastIdeal.sig) → Buf (Elt Ideal) ℓ) (g : Dev Cert.DownLastIdeal.nD → PrngReg)
    (m' : (ℓ : Loc Cert.DownLastRefIdeal.nD Cert.DownLastRefIdeal.τ Cert.DownLastRefIdeal.sig) → Buf (Elt Ideal) ℓ) (g' : Dev Cert.DownLastRefIdeal.nD → PrngReg), Pre_DownLastIdeal m →
    (∀ c : Dev Cert.DownLastIdeal.nD,
      m' ((c.tc : Thread Cert.DownLastRefIdeal.nD Cert.DownLastRefIdeal.τ).loc Cert.DownLastRefIdeal.main_arg0) = m ((c.tc : Thread Cert.DownLastIdeal.nD Cert.DownLastIdeal.τ).loc Cert.DownLastIdeal.main_arg0)
      ∧ m' ((c.tc : Thread Cert.DownLastRefIdeal.nD Cert.DownLastRefIdeal.τ).loc Cert.DownLastRefIdeal.main_arg1) = m ((c.tc : Thread Cert.DownLastIdeal.nD Cert.DownLastIdeal.τ).loc Cert.DownLastIdeal.main_arg1)
      ∧ m' ((c.tc : Thread Cert.DownLastRefIdeal.nD Cert.DownLastRefIdeal.τ).loc Cert.DownLastRefIdeal.main_arg2) = m ((c.tc : Thread Cert.DownLastIdeal.nD Cert.DownLastIdeal.τ).loc Cert.DownLastIdeal.main_arg2)
      ∧ m' ((c.tc : Thread Cert.DownLastRefIdeal.nD Cert.DownLastRefIdeal.τ).loc Cert.DownLastRefIdeal.main_arg3) = m ((c.tc : Thread Cert.DownLastIdeal.nD Cert.DownLastIdeal.τ).loc Cert.DownLastIdeal.main_arg3)) →
    ∃ (v0 : (c : Dev Cert.DownLastIdeal.nD) → Buf (Elt Ideal) ((c.tc : Thread Cert.DownLastIdeal.nD Cert.DownLastIdeal.τ).loc Cert.DownLastIdeal.main_v0_0)) (v1 : (c : Dev Cert.DownLastIdeal.nD) → Buf (Elt Ideal) ((c.tc : Thread Cert.DownLastIdeal.nD Cert.DownLastIdeal.τ).loc Cert.DownLastIdeal.main_v0_1)),
      θ_run (Cert.DownLastIdeal.defs (F := Ideal)) (onTc (τ := Cert.DownLastIdeal.τ) (Cert.DownLastIdeal.main (F := Ideal))) ⟨m, fun _ => 0, g⟩ (fun r => ∀ c : Dev Cert.DownLastIdeal.nD,
          r.2.mem ((c.tc : Thread Cert.DownLastIdeal.nD Cert.DownLastIdeal.τ).loc Cert.DownLastIdeal.main_v0_0) = v0 c
          ∧ r.2.mem ((c.tc : Thread Cert.DownLastIdeal.nD Cert.DownLastIdeal.τ).loc Cert.DownLastIdeal.main_v0_1) = v1 c
          ∧ r.2.mem ((c.tc : Thread Cert.DownLastIdeal.nD Cert.DownLastIdeal.τ).loc Cert.DownLastIdeal.main_arg0) = m ((c.tc : Thread Cert.DownLastIdeal.nD Cert.DownLastIdeal.τ).loc Cert.DownLastIdeal.main_arg0)
          ∧ r.2.mem ((c.tc : Thread Cert.DownLastIdeal.nD Cert.DownLastIdeal.τ).loc Cert.DownLastIdeal.main_arg1) = m ((c.tc : Thread Cert.DownLastIdeal.nD Cert.DownLastIdeal.τ).loc Cert.DownLastIdeal.main_arg1)
          ∧ r.2.mem ((c.tc : Thread Cert.DownLastIdeal.nD Cert.DownLastIdeal.τ).loc Cert.DownLastIdeal.main_arg2) = m ((c.tc : Thread Cert.DownLastIdeal.nD Cert.DownLastIdeal.τ).loc Cert.DownLastIdeal.main_arg2)
          ∧ r.2.mem ((c.tc : Thread Cert.DownLastIdeal.nD Cert.DownLastIdeal.τ).loc Cert.DownLastIdeal.main_arg3) = m ((c.tc : Thread Cert.DownLastIdeal.nD Cert.DownLastIdeal.τ).loc Cert.DownLastIdeal.main_arg3))
      ∧ θ_run (Cert.DownLastRefIdeal.defs (F := Ideal)) (onTc (τ := Cert.DownLastRefIdeal.τ) (Cert.DownLastRefIdeal.main (F := Ideal))) ⟨m', fun _ => 0, g'⟩ (fun r => ∀ c : Dev Cert.DownLastRefIdeal.nD,
          r.2.mem ((c.tc : Thread Cert.DownLastRefIdeal.nD Cert.DownLastRefIdeal.τ).loc Cert.DownLastRefIdeal.main_v8) = v0 c
          ∧ r.2.mem ((c.tc : Thread Cert.DownLastRefIdeal.nD Cert.DownLastRefIdeal.τ).loc Cert.DownLastRefIdeal.main_v9) = v1 c
          ∧ r.2.mem ((c.tc : Thread Cert.DownLastRefIdeal.nD Cert.DownLastRefIdeal.τ).loc Cert.DownLastRefIdeal.main_arg0) = m' ((c.tc : Thread Cert.DownLastRefIdeal.nD Cert.DownLastRefIdeal.τ).loc Cert.DownLastRefIdeal.main_arg0)
          ∧ r.2.mem ((c.tc : Thread Cert.DownLastRefIdeal.nD Cert.DownLastRefIdeal.τ).loc Cert.DownLastRefIdeal.main_arg1) = m' ((c.tc : Thread Cert.DownLastRefIdeal.nD Cert.DownLastRefIdeal.τ).loc Cert.DownLastRefIdeal.main_arg1)
          ∧ r.2.mem ((c.tc : Thread Cert.DownLastRefIdeal.nD Cert.DownLastRefIdeal.τ).loc Cert.DownLastRefIdeal.main_arg2) = m' ((c.tc : Thread Cert.DownLastRefIdeal.nD Cert.DownLastRefIdeal.τ).loc Cert.DownLastRefIdeal.main_arg2)
          ∧ r.2.mem ((c.tc : Thread Cert.DownLastRefIdeal.nD Cert.DownLastRefIdeal.τ).loc Cert.DownLastRefIdeal.main_arg3) = m' ((c.tc : Thread Cert.DownLastRefIdeal.nD Cert.DownLastRefIdeal.τ).loc Cert.DownLastRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_v7) = v1 c
          ∧ r.2.mem ((c.tc : Thread Cert.MixOutRefIdeal.nD Cert.MixOutRefIdeal.τ).loc Cert.MixOutRefIdeal.main_v28) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_DownWAdd_DownWAddIdeal : Prop :=
  True

def algebraic_DownWAddIdeal_DownWAddRefIdeal [hDownWAddIdeal : Cert.DownWAddIdeal.Facts] [hDownWAddRefIdeal : Cert.DownWAddRefIdeal.Facts] : Prop :=
  ∀ (m : (ℓ : Loc Cert.DownWAddIdeal.nD Cert.DownWAddIdeal.τ Cert.DownWAddIdeal.sig) → Buf (Elt Ideal) ℓ) (g : Dev Cert.DownWAddIdeal.nD → PrngReg)
    (m' : (ℓ : Loc Cert.DownWAddRefIdeal.nD Cert.DownWAddRefIdeal.τ Cert.DownWAddRefIdeal.sig) → Buf (Elt Ideal) ℓ) (g' : Dev Cert.DownWAddRefIdeal.nD → PrngReg), Pre_DownWAddIdeal m →
    (∀ c : Dev Cert.DownWAddIdeal.nD,
      m' ((c.tc : Thread Cert.DownWAddRefIdeal.nD Cert.DownWAddRefIdeal.τ).loc Cert.DownWAddRefIdeal.main_arg0) = m ((c.tc : Thread Cert.DownWAddIdeal.nD Cert.DownWAddIdeal.τ).loc Cert.DownWAddIdeal.main_arg0)
      ∧ m' ((c.tc : Thread Cert.DownWAddRefIdeal.nD Cert.DownWAddRefIdeal.τ).loc Cert.DownWAddRefIdeal.main_arg1) = m ((c.tc : Thread Cert.DownWAddIdeal.nD Cert.DownWAddIdeal.τ).loc Cert.DownWAddIdeal.main_arg1)
      ∧ m' ((c.tc : Thread Cert.DownWAddRefIdeal.nD Cert.DownWAddRefIdeal.τ).loc Cert.DownWAddRefIdeal.main_arg2) = m ((c.tc : Thread Cert.DownWAddIdeal.nD Cert.DownWAddIdeal.τ).loc Cert.DownWAddIdeal.main_arg2)) →
    ∃ (v0 : (c : Dev Cert.DownWAddIdeal.nD) → Buf (Elt Ideal) ((c.tc : Thread Cert.DownWAddIdeal.nD Cert.DownWAddIdeal.τ).loc Cert.DownWAddIdeal.main_v0)),
      θ_run (Cert.DownWAddIdeal.defs (F := Ideal)) (onTc (τ := Cert.DownWAddIdeal.τ) (Cert.DownWAddIdeal.main (F := Ideal))) ⟨m, fun _ => 0, g⟩ (fun r => ∀ c : Dev Cert.DownWAddIdeal.nD,
          r.2.mem ((c.tc : Thread Cert.DownWAddIdeal.nD Cert.DownWAddIdeal.τ).loc Cert.DownWAddIdeal.main_v0) = v0 c
          ∧ r.2.mem ((c.tc : Thread Cert.DownWAddIdeal.nD Cert.DownWAddIdeal.τ).loc Cert.DownWAddIdeal.main_arg0) = m ((c.tc : Thread Cert.DownWAddIdeal.nD Cert.DownWAddIdeal.τ).loc Cert.DownWAddIdeal.main_arg0)
          ∧ r.2.mem ((c.tc : Thread Cert.DownWAddIdeal.nD Cert.DownWAddIdeal.τ).loc Cert.DownWAddIdeal.main_arg1) = m ((c.tc : Thread Cert.DownWAddIdeal.nD Cert.DownWAddIdeal.τ).loc Cert.DownWAddIdeal.main_arg1)
          ∧ r.2.mem ((c.tc : Thread Cert.DownWAddIdeal.nD Cert.DownWAddIdeal.τ).loc Cert.DownWAddIdeal.main_arg2) = m ((c.tc : Thread Cert.DownWAddIdeal.nD Cert.DownWAddIdeal.τ).loc Cert.DownWAddIdeal.main_arg2))
      ∧ θ_run (Cert.DownWAddRefIdeal.defs (F := Ideal)) (onTc (τ := Cert.DownWAddRefIdeal.τ) (Cert.DownWAddRefIdeal.main (F := Ideal))) ⟨m', fun _ => 0, g'⟩ (fun r => ∀ c : Dev Cert.DownWAddRefIdeal.nD,
          r.2.mem ((c.tc : Thread Cert.DownWAddRefIdeal.nD Cert.DownWAddRefIdeal.τ).loc Cert.DownWAddRefIdeal.main_v6) = v0 c
          ∧ r.2.mem ((c.tc : Thread Cert.DownWAddRefIdeal.nD Cert.DownWAddRefIdeal.τ).loc Cert.DownWAddRefIdeal.main_arg0) = m' ((c.tc : Thread Cert.DownWAddRefIdeal.nD Cert.DownWAddRefIdeal.τ).loc Cert.DownWAddRefIdeal.main_arg0)
          ∧ r.2.mem ((c.tc : Thread Cert.DownWAddRefIdeal.nD Cert.DownWAddRefIdeal.τ).loc Cert.DownWAddRefIdeal.main_arg1) = m' ((c.tc : Thread Cert.DownWAddRefIdeal.nD Cert.DownWAddRefIdeal.τ).loc Cert.DownWAddRefIdeal.main_arg1)
          ∧ r.2.mem ((c.tc : Thread Cert.DownWAddRefIdeal.nD Cert.DownWAddRefIdeal.τ).loc Cert.DownWAddRefIdeal.main_arg2) = m' ((c.tc : Thread Cert.DownWAddRefIdeal.nD Cert.DownWAddRefIdeal.τ).loc Cert.DownWAddRefIdeal.main_arg2))

def preserves_UpWAdd_UpWAddIdeal : Prop :=
  True

def algebraic_UpWAddIdeal_UpWAddRefIdeal [hUpWAddIdeal : Cert.UpWAddIdeal.Facts] [hUpWAddRefIdeal : Cert.UpWAddRefIdeal.Facts] : Prop :=
  ∀ (m : (ℓ : Loc Cert.UpWAddIdeal.nD Cert.UpWAddIdeal.τ Cert.UpWAddIdeal.sig) → Buf (Elt Ideal) ℓ) (g : Dev Cert.UpWAddIdeal.nD → PrngReg)
    (m' : (ℓ : Loc Cert.UpWAddRefIdeal.nD Cert.UpWAddRefIdeal.τ Cert.UpWAddRefIdeal.sig) → Buf (Elt Ideal) ℓ) (g' : Dev Cert.UpWAddRefIdeal.nD → PrngReg), Pre_UpWAddIdeal m →
    (∀ c : Dev Cert.UpWAddIdeal.nD,
      m' ((c.tc : Thread Cert.UpWAddRefIdeal.nD Cert.UpWAddRefIdeal.τ).loc Cert.UpWAddRefIdeal.main_arg0) = m ((c.tc : Thread Cert.UpWAddIdeal.nD Cert.UpWAddIdeal.τ).loc Cert.UpWAddIdeal.main_arg0)
      ∧ m' ((c.tc : Thread Cert.UpWAddRefIdeal.nD Cert.UpWAddRefIdeal.τ).loc Cert.UpWAddRefIdeal.main_arg1) = m ((c.tc : Thread Cert.UpWAddIdeal.nD Cert.UpWAddIdeal.τ).loc Cert.UpWAddIdeal.main_arg1)
      ∧ m' ((c.tc : Thread Cert.UpWAddRefIdeal.nD Cert.UpWAddRefIdeal.τ).loc Cert.UpWAddRefIdeal.main_arg2) = m ((c.tc : Thread Cert.UpWAddIdeal.nD Cert.UpWAddIdeal.τ).loc Cert.UpWAddIdeal.main_arg2)) →
    ∃ (v0 : (c : Dev Cert.UpWAddIdeal.nD) → Buf (Elt Ideal) ((c.tc : Thread Cert.UpWAddIdeal.nD Cert.UpWAddIdeal.τ).loc Cert.UpWAddIdeal.main_v0)),
      θ_run (Cert.UpWAddIdeal.defs (F := Ideal)) (onTc (τ := Cert.UpWAddIdeal.τ) (Cert.UpWAddIdeal.main (F := Ideal))) ⟨m, fun _ => 0, g⟩ (fun r => ∀ c : Dev Cert.UpWAddIdeal.nD,
          r.2.mem ((c.tc : Thread Cert.UpWAddIdeal.nD Cert.UpWAddIdeal.τ).loc Cert.UpWAddIdeal.main_v0) = v0 c
          ∧ r.2.mem ((c.tc : Thread Cert.UpWAddIdeal.nD Cert.UpWAddIdeal.τ).loc Cert.UpWAddIdeal.main_arg0) = m ((c.tc : Thread Cert.UpWAddIdeal.nD Cert.UpWAddIdeal.τ).loc Cert.UpWAddIdeal.main_arg0)
          ∧ r.2.mem ((c.tc : Thread Cert.UpWAddIdeal.nD Cert.UpWAddIdeal.τ).loc Cert.UpWAddIdeal.main_arg1) = m ((c.tc : Thread Cert.UpWAddIdeal.nD Cert.UpWAddIdeal.τ).loc Cert.UpWAddIdeal.main_arg1)
          ∧ r.2.mem ((c.tc : Thread Cert.UpWAddIdeal.nD Cert.UpWAddIdeal.τ).loc Cert.UpWAddIdeal.main_arg2) = m ((c.tc : Thread Cert.UpWAddIdeal.nD Cert.UpWAddIdeal.τ).loc Cert.UpWAddIdeal.main_arg2))
      ∧ θ_run (Cert.UpWAddRefIdeal.defs (F := Ideal)) (onTc (τ := Cert.UpWAddRefIdeal.τ) (Cert.UpWAddRefIdeal.main (F := Ideal))) ⟨m', fun _ => 0, g'⟩ (fun r => ∀ c : Dev Cert.UpWAddRefIdeal.nD,
          r.2.mem ((c.tc : Thread Cert.UpWAddRefIdeal.nD Cert.UpWAddRefIdeal.τ).loc Cert.UpWAddRefIdeal.main_v6) = v0 c
          ∧ r.2.mem ((c.tc : Thread Cert.UpWAddRefIdeal.nD Cert.UpWAddRefIdeal.τ).loc Cert.UpWAddRefIdeal.main_arg0) = m' ((c.tc : Thread Cert.UpWAddRefIdeal.nD Cert.UpWAddRefIdeal.τ).loc Cert.UpWAddRefIdeal.main_arg0)
          ∧ r.2.mem ((c.tc : Thread Cert.UpWAddRefIdeal.nD Cert.UpWAddRefIdeal.τ).loc Cert.UpWAddRefIdeal.main_arg1) = m' ((c.tc : Thread Cert.UpWAddRefIdeal.nD Cert.UpWAddRefIdeal.τ).loc Cert.UpWAddRefIdeal.main_arg1)
          ∧ r.2.mem ((c.tc : Thread Cert.UpWAddRefIdeal.nD Cert.UpWAddRefIdeal.τ).loc Cert.UpWAddRefIdeal.main_arg2) = m' ((c.tc : Thread Cert.UpWAddRefIdeal.nD Cert.UpWAddRefIdeal.τ).loc Cert.UpWAddRefIdeal.main_arg2))

def preserves_MixInA_MixInAIdeal : Prop :=
  True

def algebraic_MixInAIdeal_MixInARefIdeal [hMixInAIdeal : Cert.MixInAIdeal.Facts] [hMixInARefIdeal : Cert.MixInARefIdeal.Facts] : Prop :=
  ∀ (m : (ℓ : Loc Cert.MixInAIdeal.nD Cert.MixInAIdeal.τ Cert.MixInAIdeal.sig) → Buf (Elt Ideal) ℓ) (g : Dev Cert.MixInAIdeal.nD → PrngReg)
    (m' : (ℓ : Loc Cert.MixInARefIdeal.nD Cert.MixInARefIdeal.τ Cert.MixInARefIdeal.sig) → Buf (Elt Ideal) ℓ) (g' : Dev Cert.MixInARefIdeal.nD → PrngReg), Pre_MixInAIdeal m →
    (∀ c : Dev Cert.MixInAIdeal.nD,
      m' ((c.tc : Thread Cert.MixInARefIdeal.nD Cert.MixInARefIdeal.τ).loc Cert.MixInARefIdeal.main_arg0) = m ((c.tc : Thread Cert.MixInAIdeal.nD Cert.MixInAIdeal.τ).loc Cert.MixInAIdeal.main_arg0)
      ∧ m' ((c.tc : Thread Cert.MixInARefIdeal.nD Cert.MixInARefIdeal.τ).loc Cert.MixInARefIdeal.main_arg1) = m ((c.tc : Thread Cert.MixInAIdeal.nD Cert.MixInAIdeal.τ).loc Cert.MixInAIdeal.main_arg1)) →
    ∃ (v0 : (c : Dev Cert.MixInAIdeal.nD) → Buf (Elt Ideal) ((c.tc : Thread Cert.MixInAIdeal.nD Cert.MixInAIdeal.τ).loc Cert.MixInAIdeal.main_v0)),
      θ_run (Cert.MixInAIdeal.defs (F := Ideal)) (onTc (τ := Cert.MixInAIdeal.τ) (Cert.MixInAIdeal.main (F := Ideal))) ⟨m, fun _ => 0, g⟩ (fun r => ∀ c : Dev Cert.MixInAIdeal.nD,
          r.2.mem ((c.tc : Thread Cert.MixInAIdeal.nD Cert.MixInAIdeal.τ).loc Cert.MixInAIdeal.main_v0) = v0 c
          ∧ r.2.mem ((c.tc : Thread Cert.MixInAIdeal.nD Cert.MixInAIdeal.τ).loc Cert.MixInAIdeal.main_arg0) = m ((c.tc : Thread Cert.MixInAIdeal.nD Cert.MixInAIdeal.τ).loc Cert.MixInAIdeal.main_arg0)
          ∧ r.2.mem ((c.tc : Thread Cert.MixInAIdeal.nD Cert.MixInAIdeal.τ).loc Cert.MixInAIdeal.main_arg1) = m ((c.tc : Thread Cert.MixInAIdeal.nD Cert.MixInAIdeal.τ).loc Cert.MixInAIdeal.main_arg1))
      ∧ θ_run (Cert.MixInARefIdeal.defs (F := Ideal)) (onTc (τ := Cert.MixInARefIdeal.τ) (Cert.MixInARefIdeal.main (F := Ideal))) ⟨m', fun _ => 0, g'⟩ (fun r => ∀ c : Dev Cert.MixInARefIdeal.nD,
          r.2.mem ((c.tc : Thread Cert.MixInARefIdeal.nD Cert.MixInARefIdeal.τ).loc Cert.MixInARefIdeal.main_v3) = v0 c
          ∧ r.2.mem ((c.tc : Thread Cert.MixInARefIdeal.nD Cert.MixInARefIdeal.τ).loc Cert.MixInARefIdeal.main_arg0) = m' ((c.tc : Thread Cert.MixInARefIdeal.nD Cert.MixInARefIdeal.τ).loc Cert.MixInARefIdeal.main_arg0)
          ∧ r.2.mem ((c.tc : Thread Cert.MixInARefIdeal.nD Cert.MixInARefIdeal.τ).loc Cert.MixInARefIdeal.main_arg1) = m' ((c.tc : Thread Cert.MixInARefIdeal.nD Cert.MixInARefIdeal.τ).loc Cert.MixInARefIdeal.main_arg1))

def preserves_MixInB_MixInBIdeal : Prop :=
  True

def algebraic_MixInBIdeal_MixInBRefIdeal [hMixInBIdeal : Cert.MixInBIdeal.Facts] [hMixInBRefIdeal : Cert.MixInBRefIdeal.Facts] : Prop :=
  ∀ (m : (ℓ : Loc Cert.MixInBIdeal.nD Cert.MixInBIdeal.τ Cert.MixInBIdeal.sig) → Buf (Elt Ideal) ℓ) (g : Dev Cert.MixInBIdeal.nD → PrngReg)
    (m' : (ℓ : Loc Cert.MixInBRefIdeal.nD Cert.MixInBRefIdeal.τ Cert.MixInBRefIdeal.sig) → Buf (Elt Ideal) ℓ) (g' : Dev Cert.MixInBRefIdeal.nD → PrngReg), Pre_MixInBIdeal m →
    (∀ c : Dev Cert.MixInBIdeal.nD,
      m' ((c.tc : Thread Cert.MixInBRefIdeal.nD Cert.MixInBRefIdeal.τ).loc Cert.MixInBRefIdeal.main_arg0) = m ((c.tc : Thread Cert.MixInBIdeal.nD Cert.MixInBIdeal.τ).loc Cert.MixInBIdeal.main_arg0)
      ∧ m' ((c.tc : Thread Cert.MixInBRefIdeal.nD Cert.MixInBRefIdeal.τ).loc Cert.MixInBRefIdeal.main_arg1) = m ((c.tc : Thread Cert.MixInBIdeal.nD Cert.MixInBIdeal.τ).loc Cert.MixInBIdeal.main_arg1)) →
    ∃ (v0 : (c : Dev Cert.MixInBIdeal.nD) → Buf (Elt Ideal) ((c.tc : Thread Cert.MixInBIdeal.nD Cert.MixInBIdeal.τ).loc Cert.MixInBIdeal.main_v0)),
      θ_run (Cert.MixInBIdeal.defs (F := Ideal)) (onTc (τ := Cert.MixInBIdeal.τ) (Cert.MixInBIdeal.main (F := Ideal))) ⟨m, fun _ => 0, g⟩ (fun r => ∀ c : Dev Cert.MixInBIdeal.nD,
          r.2.mem ((c.tc : Thread Cert.MixInBIdeal.nD Cert.MixInBIdeal.τ).loc Cert.MixInBIdeal.main_v0) = v0 c
          ∧ r.2.mem ((c.tc : Thread Cert.MixInBIdeal.nD Cert.MixInBIdeal.τ).loc Cert.MixInBIdeal.main_arg0) = m ((c.tc : Thread Cert.MixInBIdeal.nD Cert.MixInBIdeal.τ).loc Cert.MixInBIdeal.main_arg0)
          ∧ r.2.mem ((c.tc : Thread Cert.MixInBIdeal.nD Cert.MixInBIdeal.τ).loc Cert.MixInBIdeal.main_arg1) = m ((c.tc : Thread Cert.MixInBIdeal.nD Cert.MixInBIdeal.τ).loc Cert.MixInBIdeal.main_arg1))
      ∧ θ_run (Cert.MixInBRefIdeal.defs (F := Ideal)) (onTc (τ := Cert.MixInBRefIdeal.τ) (Cert.MixInBRefIdeal.main (F := Ideal))) ⟨m', fun _ => 0, g'⟩ (fun r => ∀ c : Dev Cert.MixInBRefIdeal.nD,
          r.2.mem ((c.tc : Thread Cert.MixInBRefIdeal.nD Cert.MixInBRefIdeal.τ).loc Cert.MixInBRefIdeal.main_v3) = v0 c
          ∧ r.2.mem ((c.tc : Thread Cert.MixInBRefIdeal.nD Cert.MixInBRefIdeal.τ).loc Cert.MixInBRefIdeal.main_arg0) = m' ((c.tc : Thread Cert.MixInBRefIdeal.nD Cert.MixInBRefIdeal.τ).loc Cert.MixInBRefIdeal.main_arg0)
          ∧ r.2.mem ((c.tc : Thread Cert.MixInBRefIdeal.nD Cert.MixInBRefIdeal.τ).loc Cert.MixInBRefIdeal.main_arg1) = m' ((c.tc : Thread Cert.MixInBRefIdeal.nD Cert.MixInBRefIdeal.τ).loc Cert.MixInBRefIdeal.main_arg1))

def preserves_MixMid_MixMidIdeal : Prop :=
  True

def algebraic_MixMidIdeal_MixMidRefIdeal [hMixMidIdeal : Cert.MixMidIdeal.Facts] [hMixMidRefIdeal : Cert.MixMidRefIdeal.Facts] : Prop :=
  ∀ (m : (ℓ : Loc Cert.MixMidIdeal.nD Cert.MixMidIdeal.τ Cert.MixMidIdeal.sig) → Buf (Elt Ideal) ℓ) (g : Dev Cert.MixMidIdeal.nD → PrngReg)
    (m' : (ℓ : Loc Cert.MixMidRefIdeal.nD Cert.MixMidRefIdeal.τ Cert.MixMidRefIdeal.sig) → Buf (Elt Ideal) ℓ) (g' : Dev Cert.MixMidRefIdeal.nD → PrngReg), Pre_MixMidIdeal m →
    (∀ c : Dev Cert.MixMidIdeal.nD,
      m' ((c.tc : Thread Cert.MixMidRefIdeal.nD Cert.MixMidRefIdeal.τ).loc Cert.MixMidRefIdeal.main_arg0) = m ((c.tc : Thread Cert.MixMidIdeal.nD Cert.MixMidIdeal.τ).loc Cert.MixMidIdeal.main_arg0)
      ∧ m' ((c.tc : Thread Cert.MixMidRefIdeal.nD Cert.MixMidRefIdeal.τ).loc Cert.MixMidRefIdeal.main_arg1) = m ((c.tc : Thread Cert.MixMidIdeal.nD Cert.MixMidIdeal.τ).loc Cert.MixMidIdeal.main_arg1)) →
    ∃ (v0 : (c : Dev Cert.MixMidIdeal.nD) → Buf (Elt Ideal) ((c.tc : Thread Cert.MixMidIdeal.nD Cert.MixMidIdeal.τ).loc Cert.MixMidIdeal.main_v0)),
      θ_run (Cert.MixMidIdeal.defs (F := Ideal)) (onTc (τ := Cert.MixMidIdeal.τ) (Cert.MixMidIdeal.main (F := Ideal))) ⟨m, fun _ => 0, g⟩ (fun r => ∀ c : Dev Cert.MixMidIdeal.nD,
          r.2.mem ((c.tc : Thread Cert.MixMidIdeal.nD Cert.MixMidIdeal.τ).loc Cert.MixMidIdeal.main_v0) = v0 c
          ∧ r.2.mem ((c.tc : Thread Cert.MixMidIdeal.nD Cert.MixMidIdeal.τ).loc Cert.MixMidIdeal.main_arg0) = m ((c.tc : Thread Cert.MixMidIdeal.nD Cert.MixMidIdeal.τ).loc Cert.MixMidIdeal.main_arg0)
          ∧ r.2.mem ((c.tc : Thread Cert.MixMidIdeal.nD Cert.MixMidIdeal.τ).loc Cert.MixMidIdeal.main_arg1) = m ((c.tc : Thread Cert.MixMidIdeal.nD Cert.MixMidIdeal.τ).loc Cert.MixMidIdeal.main_arg1))
      ∧ θ_run (Cert.MixMidRefIdeal.defs (F := Ideal)) (onTc (τ := Cert.MixMidRefIdeal.τ) (Cert.MixMidRefIdeal.main (F := Ideal))) ⟨m', fun _ => 0, g'⟩ (fun r => ∀ c : Dev Cert.MixMidRefIdeal.nD,
          r.2.mem ((c.tc : Thread Cert.MixMidRefIdeal.nD Cert.MixMidRefIdeal.τ).loc Cert.MixMidRefIdeal.main_v5) = v0 c
          ∧ r.2.mem ((c.tc : Thread Cert.MixMidRefIdeal.nD Cert.MixMidRefIdeal.τ).loc Cert.MixMidRefIdeal.main_arg0) = m' ((c.tc : Thread Cert.MixMidRefIdeal.nD Cert.MixMidRefIdeal.τ).loc Cert.MixMidRefIdeal.main_arg0)
          ∧ r.2.mem ((c.tc : Thread Cert.MixMidRefIdeal.nD Cert.MixMidRefIdeal.τ).loc Cert.MixMidRefIdeal.main_arg1) = m' ((c.tc : Thread Cert.MixMidRefIdeal.nD Cert.MixMidRefIdeal.τ).loc Cert.MixMidRefIdeal.main_arg1))

def preserves_MixWA_MixWAIdeal : Prop :=
  True

def algebraic_MixWAIdeal_MixWARefIdeal [hMixWAIdeal : Cert.MixWAIdeal.Facts] [hMixWARefIdeal : Cert.MixWARefIdeal.Facts] : Prop :=
  ∀ (m : (ℓ : Loc Cert.MixWAIdeal.nD Cert.MixWAIdeal.τ Cert.MixWAIdeal.sig) → Buf (Elt Ideal) ℓ) (g : Dev Cert.MixWAIdeal.nD → PrngReg)
    (m' : (ℓ : Loc Cert.MixWARefIdeal.nD Cert.MixWARefIdeal.τ Cert.MixWARefIdeal.sig) → Buf (Elt Ideal) ℓ) (g' : Dev Cert.MixWARefIdeal.nD → PrngReg), Pre_MixWAIdeal m →
    (∀ c : Dev Cert.MixWAIdeal.nD,
      m' ((c.tc : Thread Cert.MixWARefIdeal.nD Cert.MixWARefIdeal.τ).loc Cert.MixWARefIdeal.main_arg0) = m ((c.tc : Thread Cert.MixWAIdeal.nD Cert.MixWAIdeal.τ).loc Cert.MixWAIdeal.main_arg0)
      ∧ m' ((c.tc : Thread Cert.MixWARefIdeal.nD Cert.MixWARefIdeal.τ).loc Cert.MixWARefIdeal.main_arg1) = m ((c.tc : Thread Cert.MixWAIdeal.nD Cert.MixWAIdeal.τ).loc Cert.MixWAIdeal.main_arg1)) →
    ∃ (v0 : (c : Dev Cert.MixWAIdeal.nD) → Buf (Elt Ideal) ((c.tc : Thread Cert.MixWAIdeal.nD Cert.MixWAIdeal.τ).loc Cert.MixWAIdeal.main_v0)),
      θ_run (Cert.MixWAIdeal.defs (F := Ideal)) (onTc (τ := Cert.MixWAIdeal.τ) (Cert.MixWAIdeal.main (F := Ideal))) ⟨m, fun _ => 0, g⟩ (fun r => ∀ c : Dev Cert.MixWAIdeal.nD,
          r.2.mem ((c.tc : Thread Cert.MixWAIdeal.nD Cert.MixWAIdeal.τ).loc Cert.MixWAIdeal.main_v0) = v0 c
          ∧ r.2.mem ((c.tc : Thread Cert.MixWAIdeal.nD Cert.MixWAIdeal.τ).loc Cert.MixWAIdeal.main_arg0) = m ((c.tc : Thread Cert.MixWAIdeal.nD Cert.MixWAIdeal.τ).loc Cert.MixWAIdeal.main_arg0)
          ∧ r.2.mem ((c.tc : Thread Cert.MixWAIdeal.nD Cert.MixWAIdeal.τ).loc Cert.MixWAIdeal.main_arg1) = m ((c.tc : Thread Cert.MixWAIdeal.nD Cert.MixWAIdeal.τ).loc Cert.MixWAIdeal.main_arg1))
      ∧ θ_run (Cert.MixWARefIdeal.defs (F := Ideal)) (onTc (τ := Cert.MixWARefIdeal.τ) (Cert.MixWARefIdeal.main (F := Ideal))) ⟨m', fun _ => 0, g'⟩ (fun r => ∀ c : Dev Cert.MixWARefIdeal.nD,
          r.2.mem ((c.tc : Thread Cert.MixWARefIdeal.nD Cert.MixWARefIdeal.τ).loc Cert.MixWARefIdeal.main_v5) = v0 c
          ∧ r.2.mem ((c.tc : Thread Cert.MixWARefIdeal.nD Cert.MixWARefIdeal.τ).loc Cert.MixWARefIdeal.main_arg0) = m' ((c.tc : Thread Cert.MixWARefIdeal.nD Cert.MixWARefIdeal.τ).loc Cert.MixWARefIdeal.main_arg0)
          ∧ r.2.mem ((c.tc : Thread Cert.MixWARefIdeal.nD Cert.MixWARefIdeal.τ).loc Cert.MixWARefIdeal.main_arg1) = m' ((c.tc : Thread Cert.MixWARefIdeal.nD Cert.MixWARefIdeal.τ).loc Cert.MixWARefIdeal.main_arg1))

def preserves_MixWB_MixWBIdeal : Prop :=
  True

def algebraic_MixWBIdeal_MixWBRefIdeal [hMixWBIdeal : Cert.MixWBIdeal.Facts] [hMixWBRefIdeal : Cert.MixWBRefIdeal.Facts] : Prop :=
  ∀ (m : (ℓ : Loc Cert.MixWBIdeal.nD Cert.MixWBIdeal.τ Cert.MixWBIdeal.sig) → Buf (Elt Ideal) ℓ) (g : Dev Cert.MixWBIdeal.nD → PrngReg)
    (m' : (ℓ : Loc Cert.MixWBRefIdeal.nD Cert.MixWBRefIdeal.τ Cert.MixWBRefIdeal.sig) → Buf (Elt Ideal) ℓ) (g' : Dev Cert.MixWBRefIdeal.nD → PrngReg), Pre_MixWBIdeal m →
    (∀ c : Dev Cert.MixWBIdeal.nD,
      m' ((c.tc : Thread Cert.MixWBRefIdeal.nD Cert.MixWBRefIdeal.τ).loc Cert.MixWBRefIdeal.main_arg0) = m ((c.tc : Thread Cert.MixWBIdeal.nD Cert.MixWBIdeal.τ).loc Cert.MixWBIdeal.main_arg0)
      ∧ m' ((c.tc : Thread Cert.MixWBRefIdeal.nD Cert.MixWBRefIdeal.τ).loc Cert.MixWBRefIdeal.main_arg1) = m ((c.tc : Thread Cert.MixWBIdeal.nD Cert.MixWBIdeal.τ).loc Cert.MixWBIdeal.main_arg1)) →
    ∃ (v0 : (c : Dev Cert.MixWBIdeal.nD) → Buf (Elt Ideal) ((c.tc : Thread Cert.MixWBIdeal.nD Cert.MixWBIdeal.τ).loc Cert.MixWBIdeal.main_v0)),
      θ_run (Cert.MixWBIdeal.defs (F := Ideal)) (onTc (τ := Cert.MixWBIdeal.τ) (Cert.MixWBIdeal.main (F := Ideal))) ⟨m, fun _ => 0, g⟩ (fun r => ∀ c : Dev Cert.MixWBIdeal.nD,
          r.2.mem ((c.tc : Thread Cert.MixWBIdeal.nD Cert.MixWBIdeal.τ).loc Cert.MixWBIdeal.main_v0) = v0 c
          ∧ r.2.mem ((c.tc : Thread Cert.MixWBIdeal.nD Cert.MixWBIdeal.τ).loc Cert.MixWBIdeal.main_arg0) = m ((c.tc : Thread Cert.MixWBIdeal.nD Cert.MixWBIdeal.τ).loc Cert.MixWBIdeal.main_arg0)
          ∧ r.2.mem ((c.tc : Thread Cert.MixWBIdeal.nD Cert.MixWBIdeal.τ).loc Cert.MixWBIdeal.main_arg1) = m ((c.tc : Thread Cert.MixWBIdeal.nD Cert.MixWBIdeal.τ).loc Cert.MixWBIdeal.main_arg1))
      ∧ θ_run (Cert.MixWBRefIdeal.defs (F := Ideal)) (onTc (τ := Cert.MixWBRefIdeal.τ) (Cert.MixWBRefIdeal.main (F := Ideal))) ⟨m', fun _ => 0, g'⟩ (fun r => ∀ c : Dev Cert.MixWBRefIdeal.nD,
          r.2.mem ((c.tc : Thread Cert.MixWBRefIdeal.nD Cert.MixWBRefIdeal.τ).loc Cert.MixWBRefIdeal.main_v5) = v0 c
          ∧ r.2.mem ((c.tc : Thread Cert.MixWBRefIdeal.nD Cert.MixWBRefIdeal.τ).loc Cert.MixWBRefIdeal.main_arg0) = m' ((c.tc : Thread Cert.MixWBRefIdeal.nD Cert.MixWBRefIdeal.τ).loc Cert.MixWBRefIdeal.main_arg0)
          ∧ r.2.mem ((c.tc : Thread Cert.MixWBRefIdeal.nD Cert.MixWBRefIdeal.τ).loc Cert.MixWBRefIdeal.main_arg1) = m' ((c.tc : Thread Cert.MixWBRefIdeal.nD Cert.MixWBRefIdeal.τ).loc Cert.MixWBRefIdeal.main_arg1))

def preserves_MixBoth_MixBothIdeal : Prop :=
  True

def algebraic_MixBothIdeal_MixBothRefIdeal [hMixBothIdeal : Cert.MixBothIdeal.Facts] [hMixBothRefIdeal : Cert.MixBothRefIdeal.Facts] : Prop :=
  ∀ (m : (ℓ : Loc Cert.MixBothIdeal.nD Cert.MixBothIdeal.τ Cert.MixBothIdeal.sig) → Buf (Elt Ideal) ℓ) (g : Dev Cert.MixBothIdeal.nD → PrngReg)
    (m' : (ℓ : Loc Cert.MixBothRefIdeal.nD Cert.MixBothRefIdeal.τ Cert.MixBothRefIdeal.sig) → Buf (Elt Ideal) ℓ) (g' : Dev Cert.MixBothRefIdeal.nD → PrngReg), Pre_MixBothIdeal m →
    (∀ c : Dev Cert.MixBothIdeal.nD,
      m' ((c.tc : Thread Cert.MixBothRefIdeal.nD Cert.MixBothRefIdeal.τ).loc Cert.MixBothRefIdeal.main_arg0) = m ((c.tc : Thread Cert.MixBothIdeal.nD Cert.MixBothIdeal.τ).loc Cert.MixBothIdeal.main_arg0)
      ∧ m' ((c.tc : Thread Cert.MixBothRefIdeal.nD Cert.MixBothRefIdeal.τ).loc Cert.MixBothRefIdeal.main_arg1) = m ((c.tc : Thread Cert.MixBothIdeal.nD Cert.MixBothIdeal.τ).loc Cert.MixBothIdeal.main_arg1)
      ∧ m' ((c.tc : Thread Cert.MixBothRefIdeal.nD Cert.MixBothRefIdeal.τ).loc Cert.MixBothRefIdeal.main_arg2) = m ((c.tc : Thread Cert.MixBothIdeal.nD Cert.MixBothIdeal.τ).loc Cert.MixBothIdeal.main_arg2)
      ∧ m' ((c.tc : Thread Cert.MixBothRefIdeal.nD Cert.MixBothRefIdeal.τ).loc Cert.MixBothRefIdeal.main_arg3) = m ((c.tc : Thread Cert.MixBothIdeal.nD Cert.MixBothIdeal.τ).loc Cert.MixBothIdeal.main_arg3)
      ∧ m' ((c.tc : Thread Cert.MixBothRefIdeal.nD Cert.MixBothRefIdeal.τ).loc Cert.MixBothRefIdeal.main_arg4) = m ((c.tc : Thread Cert.MixBothIdeal.nD Cert.MixBothIdeal.τ).loc Cert.MixBothIdeal.main_arg4)
      ∧ m' ((c.tc : Thread Cert.MixBothRefIdeal.nD Cert.MixBothRefIdeal.τ).loc Cert.MixBothRefIdeal.main_arg5) = m ((c.tc : Thread Cert.MixBothIdeal.nD Cert.MixBothIdeal.τ).loc Cert.MixBothIdeal.main_arg5)
      ∧ m' ((c.tc : Thread Cert.MixBothRefIdeal.nD Cert.MixBothRefIdeal.τ).loc Cert.MixBothRefIdeal.main_arg6) = m ((c.tc : Thread Cert.MixBothIdeal.nD Cert.MixBothIdeal.τ).loc Cert.MixBothIdeal.main_arg6)) →
    ∃ (v0 : (c : Dev Cert.MixBothIdeal.nD) → Buf (Elt Ideal) ((c.tc : Thread Cert.MixBothIdeal.nD Cert.MixBothIdeal.τ).loc Cert.MixBothIdeal.main_v0_0)) (v1 : (c : Dev Cert.MixBothIdeal.nD) → Buf (Elt Ideal) ((c.tc : Thread Cert.MixBothIdeal.nD Cert.MixBothIdeal.τ).loc Cert.MixBothIdeal.main_v0_1)) (v2 : (c : Dev Cert.MixBothIdeal.nD) → Buf (Elt Ideal) ((c.tc : Thread Cert.MixBothIdeal.nD Cert.MixBothIdeal.τ).loc Cert.MixBothIdeal.main_v0_2)),
      θ_run (Cert.MixBothIdeal.defs (F := Ideal)) (onTc (τ := Cert.MixBothIdeal.τ) (Cert.MixBothIdeal.main (F := Ideal))) ⟨m, fun _ => 0, g⟩ (fun r => ∀ c : Dev Cert.MixBothIdeal.nD,
          r.2.mem ((c.tc : Thread Cert.MixBothIdeal.nD Cert.MixBothIdeal.τ).loc Cert.MixBothIdeal.main_v0_0) = v0 c
          ∧ r.2.mem ((c.tc : Thread Cert.MixBothIdeal.nD Cert.MixBothIdeal.τ).loc Cert.MixBothIdeal.main_v0_1) = v1 c
          ∧ r.2.mem ((c.tc : Thread Cert.MixBothIdeal.nD Cert.MixBothIdeal.τ).loc Cert.MixBothIdeal.main_v0_2) = v2 c
          ∧ r.2.mem ((c.tc : Thread Cert.MixBothIdeal.nD Cert.MixBothIdeal.τ).loc Cert.MixBothIdeal.main_arg0) = m ((c.tc : Thread Cert.MixBothIdeal.nD Cert.MixBothIdeal.τ).loc Cert.MixBothIdeal.main_arg0)
          ∧ r.2.mem ((c.tc : Thread Cert.MixBothIdeal.nD Cert.MixBothIdeal.τ).loc Cert.MixBothIdeal.main_arg1) = m ((c.tc : Thread Cert.MixBothIdeal.nD Cert.MixBothIdeal.τ).loc Cert.MixBothIdeal.main_arg1)
          ∧ r.2.mem ((c.tc : Thread Cert.MixBothIdeal.nD Cert.MixBothIdeal.τ).loc Cert.MixBothIdeal.main_arg2) = m ((c.tc : Thread Cert.MixBothIdeal.nD Cert.MixBothIdeal.τ).loc Cert.MixBothIdeal.main_arg2)
          ∧ r.2.mem ((c.tc : Thread Cert.MixBothIdeal.nD Cert.MixBothIdeal.τ).loc Cert.MixBothIdeal.main_arg3) = m ((c.tc : Thread Cert.MixBothIdeal.nD Cert.MixBothIdeal.τ).loc Cert.MixBothIdeal.main_arg3)
          ∧ r.2.mem ((c.tc : Thread Cert.MixBothIdeal.nD Cert.MixBothIdeal.τ).loc Cert.MixBothIdeal.main_arg4) = m ((c.tc : Thread Cert.MixBothIdeal.nD Cert.MixBothIdeal.τ).loc Cert.MixBothIdeal.main_arg4)
          ∧ r.2.mem ((c.tc : Thread Cert.MixBothIdeal.nD Cert.MixBothIdeal.τ).loc Cert.MixBothIdeal.main_arg5) = m ((c.tc : Thread Cert.MixBothIdeal.nD Cert.MixBothIdeal.τ).loc Cert.MixBothIdeal.main_arg5)
          ∧ r.2.mem ((c.tc : Thread Cert.MixBothIdeal.nD Cert.MixBothIdeal.τ).loc Cert.MixBothIdeal.main_arg6) = m ((c.tc : Thread Cert.MixBothIdeal.nD Cert.MixBothIdeal.τ).loc Cert.MixBothIdeal.main_arg6))
      ∧ θ_run (Cert.MixBothRefIdeal.defs (F := Ideal)) (onTc (τ := Cert.MixBothRefIdeal.τ) (Cert.MixBothRefIdeal.main (F := Ideal))) ⟨m', fun _ => 0, g'⟩ (fun r => ∀ c : Dev Cert.MixBothRefIdeal.nD,
          r.2.mem ((c.tc : Thread Cert.MixBothRefIdeal.nD Cert.MixBothRefIdeal.τ).loc Cert.MixBothRefIdeal.main_v7) = v0 c
          ∧ r.2.mem ((c.tc : Thread Cert.MixBothRefIdeal.nD Cert.MixBothRefIdeal.τ).loc Cert.MixBothRefIdeal.main_v8) = v1 c
          ∧ r.2.mem ((c.tc : Thread Cert.MixBothRefIdeal.nD Cert.MixBothRefIdeal.τ).loc Cert.MixBothRefIdeal.main_v29) = v2 c
          ∧ r.2.mem ((c.tc : Thread Cert.MixBothRefIdeal.nD Cert.MixBothRefIdeal.τ).loc Cert.MixBothRefIdeal.main_arg0) = m' ((c.tc : Thread Cert.MixBothRefIdeal.nD Cert.MixBothRefIdeal.τ).loc Cert.MixBothRefIdeal.main_arg0)
          ∧ r.2.mem ((c.tc : Thread Cert.MixBothRefIdeal.nD Cert.MixBothRefIdeal.τ).loc Cert.MixBothRefIdeal.main_arg1) = m' ((c.tc : Thread Cert.MixBothRefIdeal.nD Cert.MixBothRefIdeal.τ).loc Cert.MixBothRefIdeal.main_arg1)
          ∧ r.2.mem ((c.tc : Thread Cert.MixBothRefIdeal.nD Cert.MixBothRefIdeal.τ).loc Cert.MixBothRefIdeal.main_arg2) = m' ((c.tc : Thread Cert.MixBothRefIdeal.nD Cert.MixBothRefIdeal.τ).loc Cert.MixBothRefIdeal.main_arg2)
          ∧ r.2.mem ((c.tc : Thread Cert.MixBothRefIdeal.nD Cert.MixBothRefIdeal.τ).loc Cert.MixBothRefIdeal.main_arg3) = m' ((c.tc : Thread Cert.MixBothRefIdeal.nD Cert.MixBothRefIdeal.τ).loc Cert.MixBothRefIdeal.main_arg3)
          ∧ r.2.mem ((c.tc : Thread Cert.MixBothRefIdeal.nD Cert.MixBothRefIdeal.τ).loc Cert.MixBothRefIdeal.main_arg4) = m' ((c.tc : Thread Cert.MixBothRefIdeal.nD Cert.MixBothRefIdeal.τ).loc Cert.MixBothRefIdeal.main_arg4)
          ∧ r.2.mem ((c.tc : Thread Cert.MixBothRefIdeal.nD Cert.MixBothRefIdeal.τ).loc Cert.MixBothRefIdeal.main_arg5) = m' ((c.tc : Thread Cert.MixBothRefIdeal.nD Cert.MixBothRefIdeal.τ).loc Cert.MixBothRefIdeal.main_arg5)
          ∧ r.2.mem ((c.tc : Thread Cert.MixBothRefIdeal.nD Cert.MixBothRefIdeal.τ).loc Cert.MixBothRefIdeal.main_arg6) = m' ((c.tc : Thread Cert.MixBothRefIdeal.nD Cert.MixBothRefIdeal.τ).loc Cert.MixBothRefIdeal.main_arg6))

def preserves_MixThree_MixThreeIdeal : Prop :=
  True

def algebraic_MixThreeIdeal_MixThreeRefIdeal [hMixThreeIdeal : Cert.MixThreeIdeal.Facts] [hMixThreeRefIdeal : Cert.MixThreeRefIdeal.Facts] : Prop :=
  ∀ (m : (ℓ : Loc Cert.MixThreeIdeal.nD Cert.MixThreeIdeal.τ Cert.MixThreeIdeal.sig) → Buf (Elt Ideal) ℓ) (g : Dev Cert.MixThreeIdeal.nD → PrngReg)
    (m' : (ℓ : Loc Cert.MixThreeRefIdeal.nD Cert.MixThreeRefIdeal.τ Cert.MixThreeRefIdeal.sig) → Buf (Elt Ideal) ℓ) (g' : Dev Cert.MixThreeRefIdeal.nD → PrngReg), Pre_MixThreeIdeal m →
    (∀ c : Dev Cert.MixThreeIdeal.nD,
      m' ((c.tc : Thread Cert.MixThreeRefIdeal.nD Cert.MixThreeRefIdeal.τ).loc Cert.MixThreeRefIdeal.main_arg0) = m ((c.tc : Thread Cert.MixThreeIdeal.nD Cert.MixThreeIdeal.τ).loc Cert.MixThreeIdeal.main_arg0)
      ∧ m' ((c.tc : Thread Cert.MixThreeRefIdeal.nD Cert.MixThreeRefIdeal.τ).loc Cert.MixThreeRefIdeal.main_arg1) = m ((c.tc : Thread Cert.MixThreeIdeal.nD Cert.MixThreeIdeal.τ).loc Cert.MixThreeIdeal.main_arg1)
      ∧ m' ((c.tc : Thread Cert.MixThreeRefIdeal.nD Cert.MixThreeRefIdeal.τ).loc Cert.MixThreeRefIdeal.main_arg2) = m ((c.tc : Thread Cert.MixThreeIdeal.nD Cert.MixThreeIdeal.τ).loc Cert.MixThreeIdeal.main_arg2)
      ∧ m' ((c.tc : Thread Cert.MixThreeRefIdeal.nD Cert.MixThreeRefIdeal.τ).loc Cert.MixThreeRefIdeal.main_arg3) = m ((c.tc : Thread Cert.MixThreeIdeal.nD Cert.MixThreeIdeal.τ).loc Cert.MixThreeIdeal.main_arg3)) →
    ∃ (v0 : (c : Dev Cert.MixThreeIdeal.nD) → Buf (Elt Ideal) ((c.tc : Thread Cert.MixThreeIdeal.nD Cert.MixThreeIdeal.τ).loc Cert.MixThreeIdeal.main_v0)),
      θ_run (Cert.MixThreeIdeal.defs (F := Ideal)) (onTc (τ := Cert.MixThreeIdeal.τ) (Cert.MixThreeIdeal.main (F := Ideal))) ⟨m, fun _ => 0, g⟩ (fun r => ∀ c : Dev Cert.MixThreeIdeal.nD,
          r.2.mem ((c.tc : Thread Cert.MixThreeIdeal.nD Cert.MixThreeIdeal.τ).loc Cert.MixThreeIdeal.main_v0) = v0 c
          ∧ r.2.mem ((c.tc : Thread Cert.MixThreeIdeal.nD Cert.MixThreeIdeal.τ).loc Cert.MixThreeIdeal.main_arg0) = m ((c.tc : Thread Cert.MixThreeIdeal.nD Cert.MixThreeIdeal.τ).loc Cert.MixThreeIdeal.main_arg0)
          ∧ r.2.mem ((c.tc : Thread Cert.MixThreeIdeal.nD Cert.MixThreeIdeal.τ).loc Cert.MixThreeIdeal.main_arg1) = m ((c.tc : Thread Cert.MixThreeIdeal.nD Cert.MixThreeIdeal.τ).loc Cert.MixThreeIdeal.main_arg1)
          ∧ r.2.mem ((c.tc : Thread Cert.MixThreeIdeal.nD Cert.MixThreeIdeal.τ).loc Cert.MixThreeIdeal.main_arg2) = m ((c.tc : Thread Cert.MixThreeIdeal.nD Cert.MixThreeIdeal.τ).loc Cert.MixThreeIdeal.main_arg2)
          ∧ r.2.mem ((c.tc : Thread Cert.MixThreeIdeal.nD Cert.MixThreeIdeal.τ).loc Cert.MixThreeIdeal.main_arg3) = m ((c.tc : Thread Cert.MixThreeIdeal.nD Cert.MixThreeIdeal.τ).loc Cert.MixThreeIdeal.main_arg3))
      ∧ θ_run (Cert.MixThreeRefIdeal.defs (F := Ideal)) (onTc (τ := Cert.MixThreeRefIdeal.τ) (Cert.MixThreeRefIdeal.main (F := Ideal))) ⟨m', fun _ => 0, g'⟩ (fun r => ∀ c : Dev Cert.MixThreeRefIdeal.nD,
          r.2.mem ((c.tc : Thread Cert.MixThreeRefIdeal.nD Cert.MixThreeRefIdeal.τ).loc Cert.MixThreeRefIdeal.main_v6) = v0 c
          ∧ r.2.mem ((c.tc : Thread Cert.MixThreeRefIdeal.nD Cert.MixThreeRefIdeal.τ).loc Cert.MixThreeRefIdeal.main_arg0) = m' ((c.tc : Thread Cert.MixThreeRefIdeal.nD Cert.MixThreeRefIdeal.τ).loc Cert.MixThreeRefIdeal.main_arg0)
          ∧ r.2.mem ((c.tc : Thread Cert.MixThreeRefIdeal.nD Cert.MixThreeRefIdeal.τ).loc Cert.MixThreeRefIdeal.main_arg1) = m' ((c.tc : Thread Cert.MixThreeRefIdeal.nD Cert.MixThreeRefIdeal.τ).loc Cert.MixThreeRefIdeal.main_arg1)
          ∧ r.2.mem ((c.tc : Thread Cert.MixThreeRefIdeal.nD Cert.MixThreeRefIdeal.τ).loc Cert.MixThreeRefIdeal.main_arg2) = m' ((c.tc : Thread Cert.MixThreeRefIdeal.nD Cert.MixThreeRefIdeal.τ).loc Cert.MixThreeRefIdeal.main_arg2)
          ∧ r.2.mem ((c.tc : Thread Cert.MixThreeRefIdeal.nD Cert.MixThreeRefIdeal.τ).loc Cert.MixThreeRefIdeal.main_arg3) = m' ((c.tc : Thread Cert.MixThreeRefIdeal.nD Cert.MixThreeRefIdeal.τ).loc Cert.MixThreeRefIdeal.main_arg3))

def preserves_MixFour_MixFourIdeal : Prop :=
  True

def algebraic_MixFourIdeal_MixFourRefIdeal [hMixFourIdeal : Cert.MixFourIdeal.Facts] [hMixFourRefIdeal : Cert.MixFourRefIdeal.Facts] : Prop :=
  ∀ (m : (ℓ : Loc Cert.MixFourIdeal.nD Cert.MixFourIdeal.τ Cert.MixFourIdeal.sig) → Buf (Elt Ideal) ℓ) (g : Dev Cert.MixFourIdeal.nD → PrngReg)
    (m' : (ℓ : Loc Cert.MixFourRefIdeal.nD Cert.MixFourRefIdeal.τ Cert.MixFourRefIdeal.sig) → Buf (Elt Ideal) ℓ) (g' : Dev Cert.MixFourRefIdeal.nD → PrngReg), Pre_MixFourIdeal m →
    (∀ c : Dev Cert.MixFourIdeal.nD,
      m' ((c.tc : Thread Cert.MixFourRefIdeal.nD Cert.MixFourRefIdeal.τ).loc Cert.MixFourRefIdeal.main_arg0) = m ((c.tc : Thread Cert.MixFourIdeal.nD Cert.MixFourIdeal.τ).loc Cert.MixFourIdeal.main_arg0)
      ∧ m' ((c.tc : Thread Cert.MixFourRefIdeal.nD Cert.MixFourRefIdeal.τ).loc Cert.MixFourRefIdeal.main_arg1) = m ((c.tc : Thread Cert.MixFourIdeal.nD Cert.MixFourIdeal.τ).loc Cert.MixFourIdeal.main_arg1)
      ∧ m' ((c.tc : Thread Cert.MixFourRefIdeal.nD Cert.MixFourRefIdeal.τ).loc Cert.MixFourRefIdeal.main_arg2) = m ((c.tc : Thread Cert.MixFourIdeal.nD Cert.MixFourIdeal.τ).loc Cert.MixFourIdeal.main_arg2)
      ∧ m' ((c.tc : Thread Cert.MixFourRefIdeal.nD Cert.MixFourRefIdeal.τ).loc Cert.MixFourRefIdeal.main_arg3) = m ((c.tc : Thread Cert.MixFourIdeal.nD Cert.MixFourIdeal.τ).loc Cert.MixFourIdeal.main_arg3)
      ∧ m' ((c.tc : Thread Cert.MixFourRefIdeal.nD Cert.MixFourRefIdeal.τ).loc Cert.MixFourRefIdeal.main_arg4) = m ((c.tc : Thread Cert.MixFourIdeal.nD Cert.MixFourIdeal.τ).loc Cert.MixFourIdeal.main_arg4)
      ∧ m' ((c.tc : Thread Cert.MixFourRefIdeal.nD Cert.MixFourRefIdeal.τ).loc Cert.MixFourRefIdeal.main_arg5) = m ((c.tc : Thread Cert.MixFourIdeal.nD Cert.MixFourIdeal.τ).loc Cert.MixFourIdeal.main_arg5)) →
    ∃ (v0 : (c : Dev Cert.MixFourIdeal.nD) → Buf (Elt Ideal) ((c.tc : Thread Cert.MixFourIdeal.nD Cert.MixFourIdeal.τ).loc Cert.MixFourIdeal.main_v0)),
      θ_run (Cert.MixFourIdeal.defs (F := Ideal)) (onTc (τ := Cert.MixFourIdeal.τ) (Cert.MixFourIdeal.main (F := Ideal))) ⟨m, fun _ => 0, g⟩ (fun r => ∀ c : Dev Cert.MixFourIdeal.nD,
          r.2.mem ((c.tc : Thread Cert.MixFourIdeal.nD Cert.MixFourIdeal.τ).loc Cert.MixFourIdeal.main_v0) = v0 c
          ∧ r.2.mem ((c.tc : Thread Cert.MixFourIdeal.nD Cert.MixFourIdeal.τ).loc Cert.MixFourIdeal.main_arg0) = m ((c.tc : Thread Cert.MixFourIdeal.nD Cert.MixFourIdeal.τ).loc Cert.MixFourIdeal.main_arg0)
          ∧ r.2.mem ((c.tc : Thread Cert.MixFourIdeal.nD Cert.MixFourIdeal.τ).loc Cert.MixFourIdeal.main_arg1) = m ((c.tc : Thread Cert.MixFourIdeal.nD Cert.MixFourIdeal.τ).loc Cert.MixFourIdeal.main_arg1)
          ∧ r.2.mem ((c.tc : Thread Cert.MixFourIdeal.nD Cert.MixFourIdeal.τ).loc Cert.MixFourIdeal.main_arg2) = m ((c.tc : Thread Cert.MixFourIdeal.nD Cert.MixFourIdeal.τ).loc Cert.MixFourIdeal.main_arg2)
          ∧ r.2.mem ((c.tc : Thread Cert.MixFourIdeal.nD Cert.MixFourIdeal.τ).loc Cert.MixFourIdeal.main_arg3) = m ((c.tc : Thread Cert.MixFourIdeal.nD Cert.MixFourIdeal.τ).loc Cert.MixFourIdeal.main_arg3)
          ∧ r.2.mem ((c.tc : Thread Cert.MixFourIdeal.nD Cert.MixFourIdeal.τ).loc Cert.MixFourIdeal.main_arg4) = m ((c.tc : Thread Cert.MixFourIdeal.nD Cert.MixFourIdeal.τ).loc Cert.MixFourIdeal.main_arg4)
          ∧ r.2.mem ((c.tc : Thread Cert.MixFourIdeal.nD Cert.MixFourIdeal.τ).loc Cert.MixFourIdeal.main_arg5) = m ((c.tc : Thread Cert.MixFourIdeal.nD Cert.MixFourIdeal.τ).loc Cert.MixFourIdeal.main_arg5))
      ∧ θ_run (Cert.MixFourRefIdeal.defs (F := Ideal)) (onTc (τ := Cert.MixFourRefIdeal.τ) (Cert.MixFourRefIdeal.main (F := Ideal))) ⟨m', fun _ => 0, g'⟩ (fun r => ∀ c : Dev Cert.MixFourRefIdeal.nD,
          r.2.mem ((c.tc : Thread Cert.MixFourRefIdeal.nD Cert.MixFourRefIdeal.τ).loc Cert.MixFourRefIdeal.main_v7) = v0 c
          ∧ r.2.mem ((c.tc : Thread Cert.MixFourRefIdeal.nD Cert.MixFourRefIdeal.τ).loc Cert.MixFourRefIdeal.main_arg0) = m' ((c.tc : Thread Cert.MixFourRefIdeal.nD Cert.MixFourRefIdeal.τ).loc Cert.MixFourRefIdeal.main_arg0)
          ∧ r.2.mem ((c.tc : Thread Cert.MixFourRefIdeal.nD Cert.MixFourRefIdeal.τ).loc Cert.MixFourRefIdeal.main_arg1) = m' ((c.tc : Thread Cert.MixFourRefIdeal.nD Cert.MixFourRefIdeal.τ).loc Cert.MixFourRefIdeal.main_arg1)
          ∧ r.2.mem ((c.tc : Thread Cert.MixFourRefIdeal.nD Cert.MixFourRefIdeal.τ).loc Cert.MixFourRefIdeal.main_arg2) = m' ((c.tc : Thread Cert.MixFourRefIdeal.nD Cert.MixFourRefIdeal.τ).loc Cert.MixFourRefIdeal.main_arg2)
          ∧ r.2.mem ((c.tc : Thread Cert.MixFourRefIdeal.nD Cert.MixFourRefIdeal.τ).loc Cert.MixFourRefIdeal.main_arg3) = m' ((c.tc : Thread Cert.MixFourRefIdeal.nD Cert.MixFourRefIdeal.τ).loc Cert.MixFourRefIdeal.main_arg3)
          ∧ r.2.mem ((c.tc : Thread Cert.MixFourRefIdeal.nD Cert.MixFourRefIdeal.τ).loc Cert.MixFourRefIdeal.main_arg4) = m' ((c.tc : Thread Cert.MixFourRefIdeal.nD Cert.MixFourRefIdeal.τ).loc Cert.MixFourRefIdeal.main_arg4)
          ∧ r.2.mem ((c.tc : Thread Cert.MixFourRefIdeal.nD Cert.MixFourRefIdeal.τ).loc Cert.MixFourRefIdeal.main_arg5) = m' ((c.tc : Thread Cert.MixFourRefIdeal.nD Cert.MixFourRefIdeal.τ).loc Cert.MixFourRefIdeal.main_arg5))

def preserves_NormMix_NormMixIdeal : Prop :=
  True

def algebraic_NormMixIdeal_NormMixRefIdeal_pre_finite_norm_mix [hNormMixIdeal : Cert.NormMixIdeal.Facts] [hNormMixRefIdeal : Cert.NormMixRefIdeal.Facts] [hPre_finite_norm_mix : Cert.Pre_finite_norm_mix.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal_finite_norm_mix m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)
      ∧ m' ((c.tc : Thread Cert.NormMixRefIdeal.nD Cert.NormMixRefIdeal.τ).loc Cert.NormMixRefIdeal.main_arg4) = m ((c.tc : Thread Cert.NormMixIdeal.nD Cert.NormMixIdeal.τ).loc Cert.NormMixIdeal.main_arg4)
      ∧ m' ((c.tc : Thread Cert.NormMixRefIdeal.nD Cert.NormMixRefIdeal.τ).loc Cert.NormMixRefIdeal.main_arg5) = m ((c.tc : Thread Cert.NormMixIdeal.nD Cert.NormMixIdeal.τ).loc Cert.NormMixIdeal.main_arg5)
      ∧ m' ((c.tc : Thread Cert.NormMixRefIdeal.nD Cert.NormMixRefIdeal.τ).loc Cert.NormMixRefIdeal.main_arg6) = m ((c.tc : Thread Cert.NormMixIdeal.nD Cert.NormMixIdeal.τ).loc Cert.NormMixIdeal.main_arg6)
      ∧ m' ((c.tc : Thread Cert.NormMixRefIdeal.nD Cert.NormMixRefIdeal.τ).loc Cert.NormMixRefIdeal.main_arg7) = m ((c.tc : Thread Cert.NormMixIdeal.nD Cert.NormMixIdeal.τ).loc Cert.NormMixIdeal.main_arg7)
      ∧ m' ((c.tc : Thread Cert.NormMixRefIdeal.nD Cert.NormMixRefIdeal.τ).loc Cert.NormMixRefIdeal.main_arg8) = m ((c.tc : Thread Cert.NormMixIdeal.nD Cert.NormMixIdeal.τ).loc Cert.NormMixIdeal.main_arg8)) →
    ∃ (v0 : (c : Dev Cert.NormMixIdeal.nD) → Buf (Elt Ideal) ((c.tc : Thread Cert.NormMixIdeal.nD Cert.NormMixIdeal.τ).loc Cert.NormMixIdeal.main_v5_0)) (v1 : (c : Dev Cert.NormMixIdeal.nD) → Buf (Elt Ideal) ((c.tc : Thread Cert.NormMixIdeal.nD Cert.NormMixIdeal.τ).loc Cert.NormMixIdeal.main_v5_1)) (v2 : (c : Dev Cert.NormMixIdeal.nD) → Buf (Elt Ideal) ((c.tc : Thread Cert.NormMixIdeal.nD Cert.NormMixIdeal.τ).loc Cert.NormMixIdeal.main_v5_2)) (v3 : (c : Dev Cert.NormMixIdeal.nD) → Buf (Elt Ideal) ((c.tc : Thread Cert.NormMixIdeal.nD Cert.NormMixIdeal.τ).loc Cert.NormMixIdeal.main_v5_3)) (v4 : (c : Dev Cert.NormMixIdeal.nD) → Buf (Elt Ideal) ((c.tc : Thread Cert.NormMixIdeal.nD Cert.NormMixIdeal.τ).loc Cert.NormMixIdeal.main_v5_4)) (v5 : (c : Dev Cert.NormMixIdeal.nD) → Buf (Elt Ideal) ((c.tc : Thread Cert.NormMixIdeal.nD Cert.NormMixIdeal.τ).loc Cert.NormMixIdeal.main_v5_5)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v5_0) = v0 c
          ∧ r.2.mem ((c.tc : Thread Cert.NormMixIdeal.nD Cert.NormMixIdeal.τ).loc Cert.NormMixIdeal.main_v5_1) = v1 c
          ∧ r.2.mem ((c.tc : Thread Cert.NormMixIdeal.nD Cert.NormMixIdeal.τ).loc Cert.NormMixIdeal.main_v5_2) = v2 c
          ∧ r.2.mem ((c.tc : Thread Cert.NormMixIdeal.nD Cert.NormMixIdeal.τ).loc Cert.NormMixIdeal.main_v5_3) = v3 c
          ∧ r.2.mem ((c.tc : Thread Cert.NormMixIdeal.nD Cert.NormMixIdeal.τ).loc Cert.NormMixIdeal.main_v5_4) = v4 c
          ∧ r.2.mem ((c.tc : Thread Cert.NormMixIdeal.nD Cert.NormMixIdeal.τ).loc Cert.NormMixIdeal.main_v5_5) = v5 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
          ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4)
          ∧ r.2.mem ((c.tc : Thread Cert.NormMixIdeal.nD Cert.NormMixIdeal.τ).loc Cert.NormMixIdeal.main_arg5) = m ((c.tc : Thread Cert.NormMixIdeal.nD Cert.NormMixIdeal.τ).loc Cert.NormMixIdeal.main_arg5)
          ∧ r.2.mem ((c.tc : Thread Cert.NormMixIdeal.nD Cert.NormMixIdeal.τ).loc Cert.NormMixIdeal.main_arg6) = m ((c.tc : Thread Cert.NormMixIdeal.nD Cert.NormMixIdeal.τ).loc Cert.NormMixIdeal.main_arg6)
          ∧ r.2.mem ((c.tc : Thread Cert.NormMixIdeal.nD Cert.NormMixIdeal.τ).loc Cert.NormMixIdeal.main_arg7) = m ((c.tc : Thread Cert.NormMixIdeal.nD Cert.NormMixIdeal.τ).loc Cert.NormMixIdeal.main_arg7)
          ∧ r.2.mem ((c.tc : Thread Cert.NormMixIdeal.nD Cert.NormMixIdeal.τ).loc Cert.NormMixIdeal.main_arg8) = m ((c.tc : Thread Cert.NormMixIdeal.nD Cert.NormMixIdeal.τ).loc Cert.NormMixIdeal.main_arg8))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v64) = v0 c
          ∧ r.2.mem ((c.tc : Thread Cert.NormMixRefIdeal.nD Cert.NormMixRefIdeal.τ).loc Cert.NormMixRefIdeal.main_v39) = v1 c
          ∧ r.2.mem ((c.tc : Thread Cert.NormMixRefIdeal.nD Cert.NormMixRefIdeal.τ).loc Cert.NormMixRefIdeal.main_v42) = v2 c
          ∧ r.2.mem ((c.tc : Thread Cert.NormMixRefIdeal.nD Cert.NormMixRefIdeal.τ).loc Cert.NormMixRefIdeal.main_v47) = v3 c
          ∧ r.2.mem ((c.tc : Thread Cert.NormMixRefIdeal.nD Cert.NormMixRefIdeal.τ).loc Cert.NormMixRefIdeal.main_v71) = v4 c
          ∧ r.2.mem ((c.tc : Thread Cert.NormMixRefIdeal.nD Cert.NormMixRefIdeal.τ).loc Cert.NormMixRefIdeal.main_v70) = v5 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3)
          ∧ r.2.mem ((c.tc : Thread Cert.NormMixRefIdeal.nD Cert.NormMixRefIdeal.τ).loc Cert.NormMixRefIdeal.main_arg4) = m' ((c.tc : Thread Cert.NormMixRefIdeal.nD Cert.NormMixRefIdeal.τ).loc Cert.NormMixRefIdeal.main_arg4)
          ∧ r.2.mem ((c.tc : Thread Cert.NormMixRefIdeal.nD Cert.NormMixRefIdeal.τ).loc Cert.NormMixRefIdeal.main_arg5) = m' ((c.tc : Thread Cert.NormMixRefIdeal.nD Cert.NormMixRefIdeal.τ).loc Cert.NormMixRefIdeal.main_arg5)
          ∧ r.2.mem ((c.tc : Thread Cert.NormMixRefIdeal.nD Cert.NormMixRefIdeal.τ).loc Cert.NormMixRefIdeal.main_arg6) = m' ((c.tc : Thread Cert.NormMixRefIdeal.nD Cert.NormMixRefIdeal.τ).loc Cert.NormMixRefIdeal.main_arg6)
          ∧ r.2.mem ((c.tc : Thread Cert.NormMixRefIdeal.nD Cert.NormMixRefIdeal.τ).loc Cert.NormMixRefIdeal.main_arg7) = m' ((c.tc : Thread Cert.NormMixRefIdeal.nD Cert.NormMixRefIdeal.τ).loc Cert.NormMixRefIdeal.main_arg7)
          ∧ r.2.mem ((c.tc : Thread Cert.NormMixRefIdeal.nD Cert.NormMixRefIdeal.τ).loc Cert.NormMixRefIdeal.main_arg8) = m' ((c.tc : Thread Cert.NormMixRefIdeal.nD Cert.NormMixRefIdeal.τ).loc Cert.NormMixRefIdeal.main_arg8))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v7_1)) (v1 : (c : Dev Cert.LossIdeal.nD) → Buf (Elt Ideal) ((c.tc : Thread Cert.LossIdeal.nD Cert.LossIdeal.τ).loc Cert.LossIdeal.main_v7_0)) (v2 : (c : Dev Cert.LossIdeal.nD) → Buf (Elt Ideal) ((c.tc : Thread Cert.LossIdeal.nD Cert.LossIdeal.τ).loc Cert.LossIdeal.main_v7_2)) (v3 : (c : Dev Cert.LossIdeal.nD) → Buf (Elt Ideal) ((c.tc : Thread Cert.LossIdeal.nD Cert.LossIdeal.τ).loc Cert.LossIdeal.main_v7_3)) (v4 : (c : Dev Cert.LossIdeal.nD) → Buf (Elt Ideal) ((c.tc : Thread Cert.LossIdeal.nD Cert.LossIdeal.τ).loc Cert.LossIdeal.main_v7_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v7_1) = v0 c
          ∧ r.2.mem ((c.tc : Thread Cert.LossIdeal.nD Cert.LossIdeal.τ).loc Cert.LossIdeal.main_v7_0) = v1 c
          ∧ r.2.mem ((c.tc : Thread Cert.LossIdeal.nD Cert.LossIdeal.τ).loc Cert.LossIdeal.main_v7_2) = v2 c
          ∧ r.2.mem ((c.tc : Thread Cert.LossIdeal.nD Cert.LossIdeal.τ).loc Cert.LossIdeal.main_v7_3) = v3 c
          ∧ r.2.mem ((c.tc : Thread Cert.LossIdeal.nD Cert.LossIdeal.τ).loc Cert.LossIdeal.main_v7_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v63) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v39) = v2 c
          ∧ r.2.mem ((c.tc : Thread Cert.LossRefIdeal.nD Cert.LossRefIdeal.τ).loc Cert.LossRefIdeal.main_v64) = v3 c
          ∧ r.2.mem ((c.tc : Thread Cert.LossRefIdeal.nD Cert.LossRefIdeal.τ).loc Cert.LossRefIdeal.main_v62) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_ModB_ModBIdeal : Prop :=
  True

def algebraic_ModBIdeal_ModBRefIdeal [hModBIdeal : Cert.ModBIdeal.Facts] [hModBRefIdeal : Cert.ModBRefIdeal.Facts] : Prop :=
  ∀ (m : (ℓ : Loc Cert.ModBIdeal.nD Cert.ModBIdeal.τ Cert.ModBIdeal.sig) → Buf (Elt Ideal) ℓ) (g : Dev Cert.ModBIdeal.nD → PrngReg)
    (m' : (ℓ : Loc Cert.ModBRefIdeal.nD Cert.ModBRefIdeal.τ Cert.ModBRefIdeal.sig) → Buf (Elt Ideal) ℓ) (g' : Dev Cert.ModBRefIdeal.nD → PrngReg), Pre_ModBIdeal m →
    (∀ c : Dev Cert.ModBIdeal.nD,
      m' ((c.tc : Thread Cert.ModBRefIdeal.nD Cert.ModBRefIdeal.τ).loc Cert.ModBRefIdeal.main_arg0) = m ((c.tc : Thread Cert.ModBIdeal.nD Cert.ModBIdeal.τ).loc Cert.ModBIdeal.main_arg0)) →
    ∃ (v0 : (c : Dev Cert.ModBIdeal.nD) → Buf (Elt Ideal) ((c.tc : Thread Cert.ModBIdeal.nD Cert.ModBIdeal.τ).loc Cert.ModBIdeal.main_v0)),
      θ_run (Cert.ModBIdeal.defs (F := Ideal)) (onTc (τ := Cert.ModBIdeal.τ) (Cert.ModBIdeal.main (F := Ideal))) ⟨m, fun _ => 0, g⟩ (fun r => ∀ c : Dev Cert.ModBIdeal.nD,
          r.2.mem ((c.tc : Thread Cert.ModBIdeal.nD Cert.ModBIdeal.τ).loc Cert.ModBIdeal.main_v0) = v0 c
          ∧ r.2.mem ((c.tc : Thread Cert.ModBIdeal.nD Cert.ModBIdeal.τ).loc Cert.ModBIdeal.main_arg0) = m ((c.tc : Thread Cert.ModBIdeal.nD Cert.ModBIdeal.τ).loc Cert.ModBIdeal.main_arg0))
      ∧ θ_run (Cert.ModBRefIdeal.defs (F := Ideal)) (onTc (τ := Cert.ModBRefIdeal.τ) (Cert.ModBRefIdeal.main (F := Ideal))) ⟨m', fun _ => 0, g'⟩ (fun r => ∀ c : Dev Cert.ModBRefIdeal.nD,
          r.2.mem ((c.tc : Thread Cert.ModBRefIdeal.nD Cert.ModBRefIdeal.τ).loc Cert.ModBRefIdeal.main_v14) = v0 c
          ∧ r.2.mem ((c.tc : Thread Cert.ModBRefIdeal.nD Cert.ModBRefIdeal.τ).loc Cert.ModBRefIdeal.main_arg0) = m' ((c.tc : Thread Cert.ModBRefIdeal.nD Cert.ModBRefIdeal.τ).loc Cert.ModBRefIdeal.main_arg0))

def preserves_ModW_ModWIdeal : Prop :=
  True

def algebraic_ModWIdeal_ModWRefIdeal [hModWIdeal : Cert.ModWIdeal.Facts] [hModWRefIdeal : Cert.ModWRefIdeal.Facts] : Prop :=
  ∀ (m : (ℓ : Loc Cert.ModWIdeal.nD Cert.ModWIdeal.τ Cert.ModWIdeal.sig) → Buf (Elt Ideal) ℓ) (g : Dev Cert.ModWIdeal.nD → PrngReg)
    (m' : (ℓ : Loc Cert.ModWRefIdeal.nD Cert.ModWRefIdeal.τ Cert.ModWRefIdeal.sig) → Buf (Elt Ideal) ℓ) (g' : Dev Cert.ModWRefIdeal.nD → PrngReg), Pre_ModWIdeal m →
    (∀ c : Dev Cert.ModWIdeal.nD,
      m' ((c.tc : Thread Cert.ModWRefIdeal.nD Cert.ModWRefIdeal.τ).loc Cert.ModWRefIdeal.main_arg0) = m ((c.tc : Thread Cert.ModWIdeal.nD Cert.ModWIdeal.τ).loc Cert.ModWIdeal.main_arg0)
      ∧ m' ((c.tc : Thread Cert.ModWRefIdeal.nD Cert.ModWRefIdeal.τ).loc Cert.ModWRefIdeal.main_arg1) = m ((c.tc : Thread Cert.ModWIdeal.nD Cert.ModWIdeal.τ).loc Cert.ModWIdeal.main_arg1)
      ∧ m' ((c.tc : Thread Cert.ModWRefIdeal.nD Cert.ModWRefIdeal.τ).loc Cert.ModWRefIdeal.main_arg2) = m ((c.tc : Thread Cert.ModWIdeal.nD Cert.ModWIdeal.τ).loc Cert.ModWIdeal.main_arg2)) →
    ∃ (v0 : (c : Dev Cert.ModWIdeal.nD) → Buf (Elt Ideal) ((c.tc : Thread Cert.ModWIdeal.nD Cert.ModWIdeal.τ).loc Cert.ModWIdeal.main_v1_0)) (v1 : (c : Dev Cert.ModWIdeal.nD) → Buf (Elt Ideal) ((c.tc : Thread Cert.ModWIdeal.nD Cert.ModWIdeal.τ).loc Cert.ModWIdeal.main_v1_1)),
      θ_run (Cert.ModWIdeal.defs (F := Ideal)) (onTc (τ := Cert.ModWIdeal.τ) (Cert.ModWIdeal.main (F := Ideal))) ⟨m, fun _ => 0, g⟩ (fun r => ∀ c : Dev Cert.ModWIdeal.nD,
          r.2.mem ((c.tc : Thread Cert.ModWIdeal.nD Cert.ModWIdeal.τ).loc Cert.ModWIdeal.main_v1_0) = v0 c
          ∧ r.2.mem ((c.tc : Thread Cert.ModWIdeal.nD Cert.ModWIdeal.τ).loc Cert.ModWIdeal.main_v1_1) = v1 c
          ∧ r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
          ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1)
          ∧ r.2.mem ((c.tc : Thread Cert.ModWIdeal.nD Cert.ModWIdeal.τ).loc Cert.ModWIdeal.main_arg2) = m ((c.tc : Thread Cert.ModWIdeal.nD Cert.ModWIdeal.τ).loc Cert.ModWIdeal.main_arg2))
      ∧ θ_run (Cert.ModWRefIdeal.defs (F := Ideal)) (onTc (τ := Cert.ModWRefIdeal.τ) (Cert.ModWRefIdeal.main (F := Ideal))) ⟨m', fun _ => 0, g'⟩ (fun r => ∀ c : Dev Cert.ModWRefIdeal.nD,
          r.2.mem ((c.tc : Thread Cert.ModWRefIdeal.nD Cert.ModWRefIdeal.τ).loc Cert.ModWRefIdeal.main_v43) = v0 c
          ∧ r.2.mem ((c.tc : Thread Cert.ModWRefIdeal.nD Cert.ModWRefIdeal.τ).loc Cert.ModWRefIdeal.main_v48) = v1 c
          ∧ r.2.mem ((c.tc : Thread Cert.ModWRefIdeal.nD Cert.ModWRefIdeal.τ).loc Cert.ModWRefIdeal.main_arg0) = m' ((c.tc : Thread Cert.ModWRefIdeal.nD Cert.ModWRefIdeal.τ).loc Cert.ModWRefIdeal.main_arg0)
          ∧ r.2.mem ((c.tc : Thread Cert.ModWRefIdeal.nD Cert.ModWRefIdeal.τ).loc Cert.ModWRefIdeal.main_arg1) = m' ((c.tc : Thread Cert.ModWRefIdeal.nD Cert.ModWRefIdeal.τ).loc Cert.ModWRefIdeal.main_arg1)
          ∧ r.2.mem ((c.tc : Thread Cert.ModWRefIdeal.nD Cert.ModWRefIdeal.τ).loc Cert.ModWRefIdeal.main_arg2) = m' ((c.tc : Thread Cert.ModWRefIdeal.nD Cert.ModWRefIdeal.τ).loc Cert.ModWRefIdeal.main_arg2))

def preserves_NormFirst_NormFirstIdeal : Prop :=
  True

def algebraic_NormFirstIdeal_NormFirstRefIdeal_pre_finite_norm_first [hNormFirstIdeal : Cert.NormFirstIdeal.Facts] [hNormFirstRefIdeal : Cert.NormFirstRefIdeal.Facts] [hPre_finite_norm_first : Cert.Pre_finite_norm_first.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal_finite_norm_first m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)
      ∧ m' ((c.tc : Thread Cert.NormFirstRefIdeal.nD Cert.NormFirstRefIdeal.τ).loc Cert.NormFirstRefIdeal.main_arg4) = m ((c.tc : Thread Cert.NormFirstIdeal.nD Cert.NormFirstIdeal.τ).loc Cert.NormFirstIdeal.main_arg4)
      ∧ m' ((c.tc : Thread Cert.NormFirstRefIdeal.nD Cert.NormFirstRefIdeal.τ).loc Cert.NormFirstRefIdeal.main_arg5) = m ((c.tc : Thread Cert.NormFirstIdeal.nD Cert.NormFirstIdeal.τ).loc Cert.NormFirstIdeal.main_arg5)
      ∧ m' ((c.tc : Thread Cert.NormFirstRefIdeal.nD Cert.NormFirstRefIdeal.τ).loc Cert.NormFirstRefIdeal.main_arg6) = m ((c.tc : Thread Cert.NormFirstIdeal.nD Cert.NormFirstIdeal.τ).loc Cert.NormFirstIdeal.main_arg6)) →
    ∃ (v0 : (c : Dev Cert.NormFirstIdeal.nD) → Buf (Elt Ideal) ((c.tc : Thread Cert.NormFirstIdeal.nD Cert.NormFirstIdeal.τ).loc Cert.NormFirstIdeal.main_v0_0)) (v1 : (c : Dev Cert.NormFirstIdeal.nD) → Buf (Elt Ideal) ((c.tc : Thread Cert.NormFirstIdeal.nD Cert.NormFirstIdeal.τ).loc Cert.NormFirstIdeal.main_v0_1)) (v2 : (c : Dev Cert.NormFirstIdeal.nD) → Buf (Elt Ideal) ((c.tc : Thread Cert.NormFirstIdeal.nD Cert.NormFirstIdeal.τ).loc Cert.NormFirstIdeal.main_v0_2)) (v3 : (c : Dev Cert.NormFirstIdeal.nD) → Buf (Elt Ideal) ((c.tc : Thread Cert.NormFirstIdeal.nD Cert.NormFirstIdeal.τ).loc Cert.NormFirstIdeal.main_v0_3)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v0_0) = v0 c
          ∧ r.2.mem ((c.tc : Thread Cert.NormFirstIdeal.nD Cert.NormFirstIdeal.τ).loc Cert.NormFirstIdeal.main_v0_1) = v1 c
          ∧ r.2.mem ((c.tc : Thread Cert.NormFirstIdeal.nD Cert.NormFirstIdeal.τ).loc Cert.NormFirstIdeal.main_v0_2) = v2 c
          ∧ r.2.mem ((c.tc : Thread Cert.NormFirstIdeal.nD Cert.NormFirstIdeal.τ).loc Cert.NormFirstIdeal.main_v0_3) = v3 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3)
          ∧ r.2.mem ((c.tc : Thread Cert.NormFirstIdeal.nD Cert.NormFirstIdeal.τ).loc Cert.NormFirstIdeal.main_arg4) = m ((c.tc : Thread Cert.NormFirstIdeal.nD Cert.NormFirstIdeal.τ).loc Cert.NormFirstIdeal.main_arg4)
          ∧ r.2.mem ((c.tc : Thread Cert.NormFirstIdeal.nD Cert.NormFirstIdeal.τ).loc Cert.NormFirstIdeal.main_arg5) = m ((c.tc : Thread Cert.NormFirstIdeal.nD Cert.NormFirstIdeal.τ).loc Cert.NormFirstIdeal.main_arg5)
          ∧ r.2.mem ((c.tc : Thread Cert.NormFirstIdeal.nD Cert.NormFirstIdeal.τ).loc Cert.NormFirstIdeal.main_arg6) = m ((c.tc : Thread Cert.NormFirstIdeal.nD Cert.NormFirstIdeal.τ).loc Cert.NormFirstIdeal.main_arg6))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v59) = v0 c
          ∧ r.2.mem ((c.tc : Thread Cert.NormFirstRefIdeal.nD Cert.NormFirstRefIdeal.τ).loc Cert.NormFirstRefIdeal.main_v34) = v1 c
          ∧ r.2.mem ((c.tc : Thread Cert.NormFirstRefIdeal.nD Cert.NormFirstRefIdeal.τ).loc Cert.NormFirstRefIdeal.main_v37) = v2 c
          ∧ r.2.mem ((c.tc : Thread Cert.NormFirstRefIdeal.nD Cert.NormFirstRefIdeal.τ).loc Cert.NormFirstRefIdeal.main_v42) = v3 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3)
          ∧ r.2.mem ((c.tc : Thread Cert.NormFirstRefIdeal.nD Cert.NormFirstRefIdeal.τ).loc Cert.NormFirstRefIdeal.main_arg4) = m' ((c.tc : Thread Cert.NormFirstRefIdeal.nD Cert.NormFirstRefIdeal.τ).loc Cert.NormFirstRefIdeal.main_arg4)
          ∧ r.2.mem ((c.tc : Thread Cert.NormFirstRefIdeal.nD Cert.NormFirstRefIdeal.τ).loc Cert.NormFirstRefIdeal.main_arg5) = m' ((c.tc : Thread Cert.NormFirstRefIdeal.nD Cert.NormFirstRefIdeal.τ).loc Cert.NormFirstRefIdeal.main_arg5)
          ∧ r.2.mem ((c.tc : Thread Cert.NormFirstRefIdeal.nD Cert.NormFirstRefIdeal.τ).loc Cert.NormFirstRefIdeal.main_arg6) = m' ((c.tc : Thread Cert.NormFirstRefIdeal.nD Cert.NormFirstRefIdeal.τ).loc Cert.NormFirstRefIdeal.main_arg6))

def preserves_Cond_CondIdeal : Prop :=
  True

def algebraic_CondIdeal_CondRefIdeal_pre_finite_cond [hCondIdeal : Cert.CondIdeal.Facts] [hCondRefIdeal : Cert.CondRefIdeal.Facts] [hPre_finite_cond : Cert.Pre_finite_cond.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondRefIdeal.nD Cert.CondRefIdeal.τ Cert.CondRefIdeal.sig) → Buf (Elt Ideal) ℓ) (g' : Dev Cert.CondRefIdeal.nD → PrngReg), Pre_CondIdeal_finite_cond m →
    (∀ c : Dev Cert.CondIdeal.nD,
      m' ((c.tc : Thread Cert.CondRefIdeal.nD Cert.CondRefIdeal.τ).loc Cert.CondRefIdeal.main_arg0) = m ((c.tc : Thread Cert.CondIdeal.nD Cert.CondIdeal.τ).loc Cert.CondIdeal.main_arg0)
      ∧ m' ((c.tc : Thread Cert.CondRefIdeal.nD Cert.CondRefIdeal.τ).loc Cert.CondRefIdeal.main_arg1) = m ((c.tc : Thread Cert.CondIdeal.nD Cert.CondIdeal.τ).loc Cert.CondIdeal.main_arg1)) →
    ∃ (v0 : (c : Dev Cert.CondIdeal.nD) → Buf (Elt Ideal) ((c.tc : Thread Cert.CondIdeal.nD Cert.CondIdeal.τ).loc Cert.CondIdeal.main_v15)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v15) = v0 c
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0)
          ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ θ_run (Cert.CondRefIdeal.defs (F := Ideal)) (onTc (τ := Cert.CondRefIdeal.τ) (Cert.CondRefIdeal.main (F := Ideal))) ⟨m', fun _ => 0, g'⟩ (fun r => ∀ c : Dev Cert.CondRefIdeal.nD,
          r.2.mem ((c.tc : Thread Cert.CondRefIdeal.nD Cert.CondRefIdeal.τ).loc Cert.CondRefIdeal.main_v4) = v0 c
          ∧ r.2.mem ((c.tc : Thread Cert.CondRefIdeal.nD Cert.CondRefIdeal.τ).loc Cert.CondRefIdeal.main_arg0) = m' ((c.tc : Thread Cert.CondRefIdeal.nD Cert.CondRefIdeal.τ).loc Cert.CondRefIdeal.main_arg0)
          ∧ r.2.mem ((c.tc : Thread Cert.CondRefIdeal.nD Cert.CondRefIdeal.τ).loc Cert.CondRefIdeal.main_arg1) = m' ((c.tc : Thread Cert.CondRefIdeal.nD Cert.CondRefIdeal.τ).loc Cert.CondRefIdeal.main_arg1))

def Claim : Prop :=
  ∃ (hConv : Cert.Conv.Facts) (hConvIdeal : Cert.ConvIdeal.Facts) (hConvRefIdeal : Cert.ConvRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hDown : Cert.Down.Facts) (hDownIdeal : Cert.DownIdeal.Facts) (hDownRefIdeal : Cert.DownRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamConv : Cert.AdamConv.Facts) (hAdamConvIdeal : Cert.AdamConvIdeal.Facts) (hAdamConvRefIdeal : Cert.AdamConvRefIdeal.Facts) (hAdamMod : Cert.AdamMod.Facts) (hAdamModIdeal : Cert.AdamModIdeal.Facts) (hAdamModRefIdeal : Cert.AdamModRefIdeal.Facts) (hAdamSmall : Cert.AdamSmall.Facts) (hAdamSmallIdeal : Cert.AdamSmallIdeal.Facts) (hAdamSmallRefIdeal : Cert.AdamSmallRefIdeal.Facts) (hDownNext : Cert.DownNext.Facts) (hDownNextIdeal : Cert.DownNextIdeal.Facts) (hDownNextRefIdeal : Cert.DownNextRefIdeal.Facts) (hDownLast : Cert.DownLast.Facts) (hDownLastIdeal : Cert.DownLastIdeal.Facts) (hDownLastRefIdeal : Cert.DownLastRefIdeal.Facts) (hMixOut : Cert.MixOut.Facts) (hMixOutIdeal : Cert.MixOutIdeal.Facts) (hMixOutRefIdeal : Cert.MixOutRefIdeal.Facts) (hDownWAdd : Cert.DownWAdd.Facts) (hDownWAddIdeal : Cert.DownWAddIdeal.Facts) (hDownWAddRefIdeal : Cert.DownWAddRefIdeal.Facts) (hUpWAdd : Cert.UpWAdd.Facts) (hUpWAddIdeal : Cert.UpWAddIdeal.Facts) (hUpWAddRefIdeal : Cert.UpWAddRefIdeal.Facts) (hMixInA : Cert.MixInA.Facts) (hMixInAIdeal : Cert.MixInAIdeal.Facts) (hMixInARefIdeal : Cert.MixInARefIdeal.Facts) (hMixInB : Cert.MixInB.Facts) (hMixInBIdeal : Cert.MixInBIdeal.Facts) (hMixInBRefIdeal : Cert.MixInBRefIdeal.Facts) (hMixMid : Cert.MixMid.Facts) (hMixMidIdeal : Cert.MixMidIdeal.Facts) (hMixMidRefIdeal : Cert.MixMidRefIdeal.Facts) (hMixWA : Cert.MixWA.Facts) (hMixWAIdeal : Cert.MixWAIdeal.Facts) (hMixWARefIdeal : Cert.MixWARefIdeal.Facts) (hMixWB : Cert.MixWB.Facts) (hMixWBIdeal : Cert.MixWBIdeal.Facts) (hMixWBRefIdeal : Cert.MixWBRefIdeal.Facts) (hMixBoth : Cert.MixBoth.Facts) (hMixBothIdeal : Cert.MixBothIdeal.Facts) (hMixBothRefIdeal : Cert.MixBothRefIdeal.Facts) (hMixThree : Cert.MixThree.Facts) (hMixThreeIdeal : Cert.MixThreeIdeal.Facts) (hMixThreeRefIdeal : Cert.MixThreeRefIdeal.Facts) (hMixFour : Cert.MixFour.Facts) (hMixFourIdeal : Cert.MixFourIdeal.Facts) (hMixFourRefIdeal : Cert.MixFourRefIdeal.Facts) (hNormMix : Cert.NormMix.Facts) (hNormMixIdeal : Cert.NormMixIdeal.Facts) (hNormMixRefIdeal : Cert.NormMixRefIdeal.Facts) (hLoss : Cert.Loss.Facts) (hLossIdeal : Cert.LossIdeal.Facts) (hLossRefIdeal : Cert.LossRefIdeal.Facts) (hSmallSum : Cert.SmallSum.Facts) (hSmallSumIdeal : Cert.SmallSumIdeal.Facts) (hSmallSumRefIdeal : Cert.SmallSumRefIdeal.Facts) (hModB : Cert.ModB.Facts) (hModBIdeal : Cert.ModBIdeal.Facts) (hModBRefIdeal : Cert.ModBRefIdeal.Facts) (hModW : Cert.ModW.Facts) (hModWIdeal : Cert.ModWIdeal.Facts) (hModWRefIdeal : Cert.ModWRefIdeal.Facts) (hNormFirst : Cert.NormFirst.Facts) (hNormFirstIdeal : Cert.NormFirstIdeal.Facts) (hNormFirstRefIdeal : Cert.NormFirstRefIdeal.Facts) (hCond : Cert.Cond.Facts) (hCondIdeal : Cert.CondIdeal.Facts) (hCondRefIdeal : Cert.CondRefIdeal.Facts) (hPre_finite_norm : Cert.Pre_finite_norm.Facts) (hPre_finite_gate : Cert.Pre_finite_gate.Facts) (hPre_finite_up : Cert.Pre_finite_up.Facts) (hPre_finite_norm_mix : Cert.Pre_finite_norm_mix.Facts) (hPre_finite_loss : Cert.Pre_finite_loss.Facts) (hPre_finite_norm_first : Cert.Pre_finite_norm_first.Facts) (hPre_finite_cond : Cert.Pre_finite_cond.Facts),
    quiescent_Conv (hConv := hConv)
    ∧ quiescent_ConvIdeal (hConvIdeal := hConvIdeal)
    ∧ quiescent_ConvRefIdeal (hConvRefIdeal := hConvRefIdeal)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_Down (hDown := hDown)
    ∧ quiescent_DownIdeal (hDownIdeal := hDownIdeal)
    ∧ quiescent_DownRefIdeal (hDownRefIdeal := hDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_DownNext (hDownNext := hDownNext)
    ∧ quiescent_DownNextIdeal (hDownNextIdeal := hDownNextIdeal)
    ∧ quiescent_DownNextRefIdeal (hDownNextRefIdeal := hDownNextRefIdeal)
    ∧ quiescent_DownLast (hDownLast := hDownLast)
    ∧ quiescent_DownLastIdeal (hDownLastIdeal := hDownLastIdeal)
    ∧ quiescent_DownLastRefIdeal (hDownLastRefIdeal := hDownLastRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DownWAdd (hDownWAdd := hDownWAdd)
    ∧ quiescent_DownWAddIdeal (hDownWAddIdeal := hDownWAddIdeal)
    ∧ quiescent_DownWAddRefIdeal (hDownWAddRefIdeal := hDownWAddRefIdeal)
    ∧ quiescent_UpWAdd (hUpWAdd := hUpWAdd)
    ∧ quiescent_UpWAddIdeal (hUpWAddIdeal := hUpWAddIdeal)
    ∧ quiescent_UpWAddRefIdeal (hUpWAddRefIdeal := hUpWAddRefIdeal)
    ∧ quiescent_MixInA (hMixInA := hMixInA)
    ∧ quiescent_MixInAIdeal (hMixInAIdeal := hMixInAIdeal)
    ∧ quiescent_MixInARefIdeal (hMixInARefIdeal := hMixInARefIdeal)
    ∧ quiescent_MixInB (hMixInB := hMixInB)
    ∧ quiescent_MixInBIdeal (hMixInBIdeal := hMixInBIdeal)
    ∧ quiescent_MixInBRefIdeal (hMixInBRefIdeal := hMixInBRefIdeal)
    ∧ quiescent_MixMid (hMixMid := hMixMid)
    ∧ quiescent_MixMidIdeal (hMixMidIdeal := hMixMidIdeal)
    ∧ quiescent_MixMidRefIdeal (hMixMidRefIdeal := hMixMidRefIdeal)
    ∧ quiescent_MixWA (hMixWA := hMixWA)
    ∧ quiescent_MixWAIdeal (hMixWAIdeal := hMixWAIdeal)
    ∧ quiescent_MixWARefIdeal (hMixWARefIdeal := hMixWARefIdeal)
    ∧ quiescent_MixWB (hMixWB := hMixWB)
    ∧ quiescent_MixWBIdeal (hMixWBIdeal := hMixWBIdeal)
    ∧ quiescent_MixWBRefIdeal (hMixWBRefIdeal := hMixWBRefIdeal)
    ∧ quiescent_MixBoth (hMixBoth := hMixBoth)
    ∧ quiescent_MixBothIdeal (hMixBothIdeal := hMixBothIdeal)
    ∧ quiescent_MixBothRefIdeal (hMixBothRefIdeal := hMixBothRefIdeal)
    ∧ quiescent_MixThree (hMixThree := hMixThree)
    ∧ quiescent_MixThreeIdeal (hMixThreeIdeal := hMixThreeIdeal)
    ∧ quiescent_MixThreeRefIdeal (hMixThreeRefIdeal := hMixThreeRefIdeal)
    ∧ quiescent_MixFour (hMixFour := hMixFour)
    ∧ quiescent_MixFourIdeal (hMixFourIdeal := hMixFourIdeal)
    ∧ quiescent_MixFourRefIdeal (hMixFourRefIdeal := hMixFourRefIdeal)
    ∧ quiescent_NormMix (hNormMix := hNormMix)
    ∧ quiescent_NormMixIdeal (hNormMixIdeal := hNormMixIdeal)
    ∧ quiescent_NormMixIdeal_pre_finite_norm_mix (hNormMixIdeal := hNormMixIdeal) (hPre_finite_norm_mix := hPre_finite_norm_mix)
    ∧ quiescent_NormMixRefIdeal (hNormMixRefIdeal := hNormMixRefIdeal)
    ∧ quiescent_NormMixRefIdeal_pre_finite_norm_mix (hNormMixRefIdeal := hNormMixRefIdeal) (hPre_finite_norm_mix := hPre_finite_norm_mix)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_ModB (hModB := hModB)
    ∧ quiescent_ModBIdeal (hModBIdeal := hModBIdeal)
    ∧ quiescent_ModBRefIdeal (hModBRefIdeal := hModBRefIdeal)
    ∧ quiescent_ModW (hModW := hModW)
    ∧ quiescent_ModWIdeal (hModWIdeal := hModWIdeal)
    ∧ quiescent_ModWRefIdeal (hModWRefIdeal := hModWRefIdeal)
    ∧ quiescent_NormFirst (hNormFirst := hNormFirst)
    ∧ quiescent_NormFirstIdeal (hNormFirstIdeal := hNormFirstIdeal)
    ∧ quiescent_NormFirstIdeal_pre_finite_norm_first (hNormFirstIdeal := hNormFirstIdeal) (hPre_finite_norm_first := hPre_finite_norm_first)
    ∧ quiescent_NormFirstRefIdeal (hNormFirstRefIdeal := hNormFirstRefIdeal)
    ∧ quiescent_NormFirstRefIdeal_pre_finite_norm_first (hNormFirstRefIdeal := hNormFirstRefIdeal) (hPre_finite_norm_first := hPre_finite_norm_first)
    ∧ quiescent_Cond (hCond := hCond)
    ∧ quiescent_CondIdeal (hCondIdeal := hCondIdeal)
    ∧ quiescent_CondIdeal_pre_finite_cond (hCondIdeal := hCondIdeal) (hPre_finite_cond := hPre_finite_cond)
    ∧ quiescent_CondRefIdeal (hCondRefIdeal := hCondRefIdeal)
    ∧ quiescent_CondRefIdeal_pre_finite_cond (hCondRefIdeal := hCondRefIdeal) (hPre_finite_cond := hPre_finite_cond)
    ∧ preserves_Conv_ConvIdeal
    ∧ algebraic_ConvIdeal_ConvRefIdeal (hConvIdeal := hConvIdeal) (hConvRefIdeal := hConvRefIdeal)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Up_UpIdeal
    ∧ algebraic_UpIdeal_UpRefIdeal_pre_finite_up (hUpIdeal := hUpIdeal) (hUpRefIdeal := hUpRefIdeal) (hPre_finite_up := hPre_finite_up)
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_Down_DownIdeal
    ∧ algebraic_DownIdeal_DownRefIdeal (hDownIdeal := hDownIdeal) (hDownRefIdeal := hDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamMod_AdamModIdeal
    ∧ algebraic_AdamModIdeal_AdamModRefIdeal (hAdamModIdeal := hAdamModIdeal) (hAdamModRefIdeal := hAdamModRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_DownNext_DownNextIdeal
    ∧ algebraic_DownNextIdeal_DownNextRefIdeal (hDownNextIdeal := hDownNextIdeal) (hDownNextRefIdeal := hDownNextRefIdeal)
    ∧ preserves_DownLast_DownLastIdeal
    ∧ algebraic_DownLastIdeal_DownLastRefIdeal (hDownLastIdeal := hDownLastIdeal) (hDownLastRefIdeal := hDownLastRefIdeal)
    ∧ preserves_MixOut_MixOutIdeal
    ∧ algebraic_MixOutIdeal_MixOutRefIdeal (hMixOutIdeal := hMixOutIdeal) (hMixOutRefIdeal := hMixOutRefIdeal)
    ∧ preserves_DownWAdd_DownWAddIdeal
    ∧ algebraic_DownWAddIdeal_DownWAddRefIdeal (hDownWAddIdeal := hDownWAddIdeal) (hDownWAddRefIdeal := hDownWAddRefIdeal)
    ∧ preserves_UpWAdd_UpWAddIdeal
    ∧ algebraic_UpWAddIdeal_UpWAddRefIdeal (hUpWAddIdeal := hUpWAddIdeal) (hUpWAddRefIdeal := hUpWAddRefIdeal)
    ∧ preserves_MixInA_MixInAIdeal
    ∧ algebraic_MixInAIdeal_MixInARefIdeal (hMixInAIdeal := hMixInAIdeal) (hMixInARefIdeal := hMixInARefIdeal)
    ∧ preserves_MixInB_MixInBIdeal
    ∧ algebraic_MixInBIdeal_MixInBRefIdeal (hMixInBIdeal := hMixInBIdeal) (hMixInBRefIdeal := hMixInBRefIdeal)
    ∧ preserves_MixMid_MixMidIdeal
    ∧ algebraic_MixMidIdeal_MixMidRefIdeal (hMixMidIdeal := hMixMidIdeal) (hMixMidRefIdeal := hMixMidRefIdeal)
    ∧ preserves_MixWA_MixWAIdeal
    ∧ algebraic_MixWAIdeal_MixWARefIdeal (hMixWAIdeal := hMixWAIdeal) (hMixWARefIdeal := hMixWARefIdeal)
    ∧ preserves_MixWB_MixWBIdeal
    ∧ algebraic_MixWBIdeal_MixWBRefIdeal (hMixWBIdeal := hMixWBIdeal) (hMixWBRefIdeal := hMixWBRefIdeal)
    ∧ preserves_MixBoth_MixBothIdeal
    ∧ algebraic_MixBothIdeal_MixBothRefIdeal (hMixBothIdeal := hMixBothIdeal) (hMixBothRefIdeal := hMixBothRefIdeal)
    ∧ preserves_MixThree_MixThreeIdeal
    ∧ algebraic_MixThreeIdeal_MixThreeRefIdeal (hMixThreeIdeal := hMixThreeIdeal) (hMixThreeRefIdeal := hMixThreeRefIdeal)
    ∧ preserves_MixFour_MixFourIdeal
    ∧ algebraic_MixFourIdeal_MixFourRefIdeal (hMixFourIdeal := hMixFourIdeal) (hMixFourRefIdeal := hMixFourRefIdeal)
    ∧ preserves_NormMix_NormMixIdeal
    ∧ algebraic_NormMixIdeal_NormMixRefIdeal_pre_finite_norm_mix (hNormMixIdeal := hNormMixIdeal) (hNormMixRefIdeal := hNormMixRefIdeal) (hPre_finite_norm_mix := hPre_finite_norm_mix)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_SmallSum_SmallSumIdeal
    ∧ algebraic_SmallSumIdeal_SmallSumRefIdeal (hSmallSumIdeal := hSmallSumIdeal) (hSmallSumRefIdeal := hSmallSumRefIdeal)
    ∧ preserves_ModB_ModBIdeal
    ∧ algebraic_ModBIdeal_ModBRefIdeal (hModBIdeal := hModBIdeal) (hModBRefIdeal := hModBRefIdeal)
    ∧ preserves_ModW_ModWIdeal
    ∧ algebraic_ModWIdeal_ModWRefIdeal (hModWIdeal := hModWIdeal) (hModWRefIdeal := hModWRefIdeal)
    ∧ preserves_NormFirst_NormFirstIdeal
    ∧ algebraic_NormFirstIdeal_NormFirstRefIdeal_pre_finite_norm_first (hNormFirstIdeal := hNormFirstIdeal) (hNormFirstRefIdeal := hNormFirstRefIdeal) (hPre_finite_norm_first := hPre_finite_norm_first)
    ∧ preserves_Cond_CondIdeal
    ∧ algebraic_CondIdeal_CondRefIdeal_pre_finite_cond (hCondIdeal := hCondIdeal) (hCondRefIdeal := hCondRefIdeal) (hPre_finite_cond := hPre_finite_cond)
-- ==== Pre_finite_cond.lean ====
abbrev S8x120x1024 : Shape := ⟨3, ![8, 120, 1024]⟩
abbrev S1024 : Shape := ⟨1, ![1024]⟩
abbrev S_ : Shape := ⟨0, ![]⟩

class Facts : Prop where
  bcast_S_S8x120x1024 : S_.BroadcastsInDim S8x120x1024 (![] : Fin 0 → Fin S8x120x1024.rank)
  bcast_S_S1024 : S_.BroadcastsInDim S1024 (![] : Fin 0 → Fin S1024.rank)

variable [Facts]

def fn {F : FTy → Type} [FloatOps F] (main_arg0 : FVec F S8x120x1024 .f32) (main_arg1 : FVec F S1024 .f32) : IVec S8x120x1024 1 × IVec S1024 1 :=
  let main_v0 : FVec F S8x120x1024 .f32 := Host.absf main_arg0
  let main_cst : FVec F S_ .f32 := constant S_ .f32 0x7F800000#32
  let main_v1 : FVec F S8x120x1024 .f32 := broadcastInDim S8x120x1024 ![] bcast_S_S8x120x1024 main_cst
  let main_v2 : IVec S8x120x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Pre_finite_gate.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  bitsLt_bf16_f32 : FTy.bits .bf16 < FTy.bits .f32
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x2816 .f32) (main_arg1 : FVec F S16384x2816 .f32) (main_arg2 : FVec F S2816x1024 .bf16) (main_arg3 : FVec F S16384x1024 .bf16) : IVec S16384x2816 1 × IVec S16384x2816 1 × IVec S2816x1024 1 × IVec S16384x1024 1 :=
  let main_v0 : FVec F S16384x2816 .f32 := Host.absf main_arg0
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_v3 : FVec F S16384x2816 .f32 := Host.absf main_arg1
  let main_cst_0 : FVec F S_ .f32 := constant S_ .f32 0x7F800000#32
  let main_v4 : FVec F S16384x2816 .f32 := broadcastInDim S16384x2816 ![] bcast_S_S16384x2816 main_cst_0
  let main_v5 : IVec S16384x2816 1 := cmpf .olt main_v3 main_v4
  let main_v6 : FVec F S2816x1024 .f32 := (extf .f32 · bitsLt_bf16_f32) main_arg2
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S16384x1024 .f32 := (extf .f32 · bitsLt_bf16_f32) main_arg3
  let main_v11 : FVec F S16384x1024 .f32 := Host.absf main_v10
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  (main_v2, main_v5, main_v9, main_v13)
-- ==== Pre_finite_loss.lean ====
abbrev S16384x1024 : Shape := ⟨2, ![16384, 1024]⟩
abbrev S9x1024 : Shape := ⟨2, ![9, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S9x1024 : S_.BroadcastsInDim S9x1024 (![] : Fin 0 → Fin S9x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .bf16) (main_arg2 : FVec F S9x1024 .f32) (main_arg3 : FVec F S1x1024 .f32) (main_arg4 : FVec F S16384x1024 .f32) : IVec S16384x1024 1 × IVec S16384x1024 1 × IVec S9x1024 1 × IVec S1x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := (extf .f32 · bitsLt_bf16_f32) main_arg1
  let main_v4 : FVec F S16384x1024 .f32 := Host.absf main_v3
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_v7 : FVec F S9x1024 .f32 := Host.absf main_arg2
  let main_cst_1 : FVec F S_ .f32 := constant S_ .f32 0x7F800000#32
  let main_v8 : FVec F S9x1024 .f32 := broadcastInDim S9x1024 ![] bcast_S_S9x1024 main_cst_1
  let main_v9 : IVec S9x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S16384x1024 .f32 := Host.absf main_arg4
  let main_cst_3 : FVec F S_ .f32 := constant S_ .f32 0x7F800000#32
  let main_v14 : FVec F S16384x1024 .f32 := broadcastInDim S16384x1024 ![] bcast_S_S16384x1024 main_cst_3
  let main_v15 : IVec S16384x1024 1 := cmpf .olt main_v13 main_v14
  (main_v2, main_v6, main_v9, main_v12, main_v15)
-- ==== Pre_finite_norm.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  bcast_S_S1024x5632 : S_.BroadcastsInDim S1024x5632 (![] : Fin 0 → Fin S1024x5632.rank)
  bcast_S_S16384x1024 : S_.BroadcastsInDim S16384x1024 (![] : Fin 0 → Fin S16384x1024.rank)
  bcast_S_S1x1024 : S_.BroadcastsInDim S1x1024 (![] : Fin 0 → Fin S1x1024.rank)
  bcast_S_S9x1024 : S_.BroadcastsInDim S9x1024 (![] : Fin 0 → Fin S9x1024.rank)

variable [Facts]

def fn_part1 {F : FTy → Type} [FloatOps F] (main_arg5 : FVec F S1x1024 .f32) (main_arg6 : FVec F S9x1024 .f32) (main_arg7 : FVec F S9x1024 .f32) (main_arg8 : FVec F S16384x1024 .f32) (main_v3 : IVec S16384x2816 1) (main_v7 : IVec S16384x2816 1) (main_v11 : IVec S1024x5632 1) (main_v14 : IVec S16384x1024 1) (main_v18 : IVec S16384x1024 1) : IVec S16384x2816 1 × IVec S16384x2816 1 × IVec S1024x5632 1 × IVec S16384x1024 1 × IVec S16384x1024 1 × IVec S1x1024 1 × IVec S9x1024 1 × IVec S9x1024 1 × IVec S16384x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S9x1024 .f32 := Host.absf main_arg6
  let main_cst_5 : FVec F S_ .f32 := constant S_ .f32 0x7F800000#32
  let main_v23 : FVec F S9x1024 .f32 := broadcastInDim S9x1024 ![] bcast_S_S9x1024 main_cst_5
  let main_v24 : IVec S9x1024 1 := cmpf .olt main_v22 main_v23
  let main_v25 : FVec F S9x1024 .f32 := Host.absf main_arg7
  let main_cst_6 : FVec F S_ .f32 := constant S_ .f32 0x7F800000#32
  let main_v26 : FVec F S9x1024 .f32 := broadcastInDim S9x1024 ![] bcast_S_S9x1024 main_cst_6
  let main_v27 : IVec S9x1024 1 := cmpf .olt main_v25 main_v26
  let main_v28 : FVec F S16384x1024 .f32 := Host.absf main_arg8
  let main_cst_7 : FVec F S_ .f32 := constant S_ .f32 0x7F800000#32
  let main_v29 : FVec F S16384x1024 .f32 := broadcastInDim S16384x1024 ![] bcast_S_S16384x1024 main_cst_7
  let main_v30 : IVec S16384x1024 1 := cmpf .olt main_v28 main_v29
  (main_v3, main_v7, main_v11, main_v14, main_v18, main_v21, main_v24, main_v27, main_v30)

def fn {F : FTy → Type} [FloatOps F] (main_arg0 : FVec F S16384x2816 .bf16) (main_arg1 : FVec F S16384x2816 .bf16) (main_arg2 : FVec F S1024x5632 .bf16) (main_arg3 : FVec F S16384x1024 .f32) (main_arg4 : FVec F S16384x1024 .bf16) (main_arg5 : FVec F S1x1024 .f32) (main_arg6 : FVec F S9x1024 .f32) (main_arg7 : FVec F S9x1024 .f32) (main_arg8 : FVec F S16384x1024 .f32) : IVec S16384x2816 1 × IVec S16384x2816 1 × IVec S1024x5632 1 × IVec S16384x1024 1 × IVec S16384x1024 1 × IVec S1x1024 1 × IVec S9x1024 1 × IVec S9x1024 1 × IVec S16384x1024 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_v4 : FVec F S16384x2816 .f32 := (extf .f32 · bitsLt_bf16_f32) main_arg1
  let main_v5 : FVec F S16384x2816 .f32 := Host.absf main_v4
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  let main_v8 : FVec F S1024x5632 .f32 := (extf .f32 · bitsLt_bf16_f32) main_arg2
  let main_v9 : FVec F S1024x5632 .f32 := Host.absf main_v8
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S16384x1024 .f32 := Host.absf main_arg3
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_v15 : FVec F S16384x1024 .f32 := (extf .f32 · bitsLt_bf16_f32) main_arg4
  let main_v16 : FVec F S16384x1024 .f32 := Host.absf main_v15
  let main_cst_3 : FVec F S_ .f32 := constant S_ .f32 0x7F800000#32
  let main_v17 : FVec F S16384x1024 .f32 := broadcastInDim S16384x1024 ![] bcast_S_S16384x1024 main_cst_3
  let main_v18 : IVec S16384x1024 1 := cmpf .olt main_v16 main_v17
  fn_part1 (F := F) main_arg5 main_arg6 main_arg7 main_arg8 main_v3 main_v7 main_v11 main_v14 main_v18
-- ==== Pre_finite_norm_first.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  bcast_S_S1024x5632 : S_.BroadcastsInDim S1024x5632 (![] : Fin 0 → Fin S1024x5632.rank)
  bcast_S_S16384x1024 : S_.BroadcastsInDim S16384x1024 (![] : Fin 0 → Fin S16384x1024.rank)
  bcast_S_S1x1024 : S_.BroadcastsInDim S1x1024 (![] : Fin 0 → Fin S1x1024.rank)
  bcast_S_S9x1024 : S_.BroadcastsInDim S9x1024 (![] : Fin 0 → Fin S9x1024.rank)

variable [Facts]

def fn_part1 {F : FTy → Type} [FloatOps F] (main_arg6 : FVec F S16384x1024 .f32) (main_v3 : IVec S16384x2816 1) (main_v7 : IVec S16384x2816 1) (main_v11 : IVec S1024x5632 1) (main_v14 : IVec S16384x1024 1) (main_v17 : IVec S1x1024 1) (main_v18 : FVec F S9x1024 .f32) : IVec S16384x2816 1 × IVec S16384x2816 1 × IVec S1024x5632 1 × IVec S16384x1024 1 × IVec S1x1024 1 × IVec S9x1024 1 × IVec S16384x1024 1 :=
  let main_cst_4 : FVec F S_ .f32 := constant S_ .f32 0x7F800000#32
  let main_v19 : FVec F S9x1024 .f32 := broadcastInDim S9x1024 ![] bcast_S_S9x1024 main_cst_4
  let main_v20 : IVec S9x1024 1 := cmpf .olt main_v18 main_v19
  let main_v21 : FVec F S16384x1024 .f32 := Host.absf main_arg6
  let main_cst_5 : FVec F S_ .f32 := constant S_ .f32 0x7F800000#32
  let main_v22 : FVec F S16384x1024 .f32 := broadcastInDim S16384x1024 ![] bcast_S_S16384x1024 main_cst_5
  let main_v23 : IVec S16384x1024 1 := cmpf .olt main_v21 main_v22
  (main_v3, main_v7, main_v11, main_v14, main_v17, main_v20, main_v23)

def fn {F : FTy → Type} [FloatOps F] (main_arg0 : FVec F S16384x2816 .bf16) (main_arg1 : FVec F S16384x2816 .bf16) (main_arg2 : FVec F S1024x5632 .bf16) (main_arg3 : FVec F S16384x1024 .f32) (main_arg4 : FVec F S1x1024 .f32) (main_arg5 : FVec F S9x1024 .f32) (main_arg6 : FVec F S16384x1024 .f32) : IVec S16384x2816 1 × IVec S16384x2816 1 × IVec S1024x5632 1 × IVec S16384x1024 1 × IVec S1x1024 1 × IVec S9x1024 1 × IVec S16384x1024 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_v4 : FVec F S16384x2816 .f32 := (extf .f32 · bitsLt_bf16_f32) main_arg1
  let main_v5 : FVec F S16384x2816 .f32 := Host.absf main_v4
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  let main_v8 : FVec F S1024x5632 .f32 := (extf .f32 · bitsLt_bf16_f32) main_arg2
  let main_v9 : FVec F S1024x5632 .f32 := Host.absf main_v8
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S16384x1024 .f32 := Host.absf main_arg3
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_v15 : FVec F S1x1024 .f32 := Host.absf main_arg4
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  let main_v18 : FVec F S9x1024 .f32 := Host.absf main_arg5
  fn_part1 (F := F) main_arg6 main_v3 main_v7 main_v11 main_v14 main_v17 main_v18
-- ==== Pre_finite_norm_mix.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  bcast_S_S1024x5632 : S_.BroadcastsInDim S1024x5632 (![] : Fin 0 → Fin S1024x5632.rank)
  bcast_S_S16384x1024 : S_.BroadcastsInDim S16384x1024 (![] : Fin 0 → Fin S16384x1024.rank)
  bcast_S_S1x1024 : S_.BroadcastsInDim S1x1024 (![] : Fin 0 → Fin S1x1024.rank)
  bcast_S_S9x1024 : S_.BroadcastsInDim S9x1024 (![] : Fin 0 → Fin S9x1024.rank)

variable [Facts]

def fn_part1 {F : FTy → Type} [FloatOps F] (main_arg5 : FVec F S1x1024 .f32) (main_arg6 : FVec F S9x1024 .f32) (main_arg7 : FVec F S9x1024 .f32) (main_arg8 : FVec F S16384x1024 .f32) (main_v3 : IVec S16384x2816 1) (main_v7 : IVec S16384x2816 1) (main_v11 : IVec S1024x5632 1) (main_v14 : IVec S16384x1024 1) (main_v18 : IVec S16384x1024 1) : IVec S16384x2816 1 × IVec S16384x2816 1 × IVec S1024x5632 1 × IVec S16384x1024 1 × IVec S16384x1024 1 × IVec S1x1024 1 × IVec S9x1024 1 × IVec S9x1024 1 × IVec S16384x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S9x1024 .f32 := Host.absf main_arg6
  let main_cst_5 : FVec F S_ .f32 := constant S_ .f32 0x7F800000#32
  let main_v23 : FVec F S9x1024 .f32 := broadcastInDim S9x1024 ![] bcast_S_S9x1024 main_cst_5
  let main_v24 : IVec S9x1024 1 := cmpf .olt main_v22 main_v23
  let main_v25 : FVec F S9x1024 .f32 := Host.absf main_arg7
  let main_cst_6 : FVec F S_ .f32 := constant S_ .f32 0x7F800000#32
  let main_v26 : FVec F S9x1024 .f32 := broadcastInDim S9x1024 ![] bcast_S_S9x1024 main_cst_6
  let main_v27 : IVec S9x1024 1 := cmpf .olt main_v25 main_v26
  let main_v28 : FVec F S16384x1024 .f32 := Host.absf main_arg8
  let main_cst_7 : FVec F S_ .f32 := constant S_ .f32 0x7F800000#32
  let main_v29 : FVec F S16384x1024 .f32 := broadcastInDim S16384x1024 ![] bcast_S_S16384x1024 main_cst_7
  let main_v30 : IVec S16384x1024 1 := cmpf .olt main_v28 main_v29
  (main_v3, main_v7, main_v11, main_v14, main_v18, main_v21, main_v24, main_v27, main_v30)

def fn {F : FTy → Type} [FloatOps F] (main_arg0 : FVec F S16384x2816 .bf16) (main_arg1 : FVec F S16384x2816 .bf16) (main_arg2 : FVec F S1024x5632 .bf16) (main_arg3 : FVec F S16384x1024 .f32) (main_arg4 : FVec F S16384x1024 .bf16) (main_arg5 : FVec F S1x1024 .f32) (main_arg6 : FVec F S9x1024 .f32) (main_arg7 : FVec F S9x1024 .f32) (main_arg8 : FVec F S16384x1024 .f32) : IVec S16384x2816 1 × IVec S16384x2816 1 × IVec S1024x5632 1 × IVec S16384x1024 1 × IVec S16384x1024 1 × IVec S1x1024 1 × IVec S9x1024 1 × IVec S9x1024 1 × IVec S16384x1024 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_v4 : FVec F S16384x2816 .f32 := (extf .f32 · bitsLt_bf16_f32) main_arg1
  let main_v5 : FVec F S16384x2816 .f32 := Host.absf main_v4
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  let main_v8 : FVec F S1024x5632 .f32 := (extf .f32 · bitsLt_bf16_f32) main_arg2
  let main_v9 : FVec F S1024x5632 .f32 := Host.absf main_v8
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S16384x1024 .f32 := Host.absf main_arg3
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_v15 : FVec F S16384x1024 .f32 := (extf .f32 · bitsLt_bf16_f32) main_arg4
  let main_v16 : FVec F S16384x1024 .f32 := Host.absf main_v15
  let main_cst_3 : FVec F S_ .f32 := constant S_ .f32 0x7F800000#32
  let main_v17 : FVec F S16384x1024 .f32 := broadcastInDim S16384x1024 ![] bcast_S_S16384x1024 main_cst_3
  let main_v18 : IVec S16384x1024 1 := cmpf .olt main_v16 main_v17
  fn_part1 (F := F) main_arg5 main_arg6 main_arg7 main_arg8 main_v3 main_v7 main_v11 main_v14 main_v18
-- ==== Pre_finite_up.lean ====
abbrev S16384x1024 : Shape := ⟨2, ![16384, 1024]⟩
abbrev S1024x5632 : Shape := ⟨2, ![1024, 5632]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024x5632 : S_.BroadcastsInDim S1024x5632 (![] : Fin 0 → Fin S1024x5632.rank)

variable [Facts]

def fn {F : FTy → Type} [FloatOps F] (main_arg0 : FVec F S16384x1024 .bf16) (main_arg1 : FVec F S1024x5632 .bf16) : IVec S16384x1024 1 × IVec S1024x5632 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  (main_v3, main_v7)
-- ==== Conv.lean ====
abbrev S16384x3072 : Shape := ⟨2, ![16384, 3072]⟩
abbrev S16384x1024 : Shape := ⟨2, ![16384, 1024]⟩
abbrev S3x1024 : Shape := ⟨2, ![3, 1024]⟩
abbrev S16x1024 : Shape := ⟨2, ![16, 1024]⟩
abbrev S512x1024 : Shape := ⟨2, ![512, 1024]⟩
abbrev S1x1024 : Shape := ⟨2, ![1, 1024]⟩
abbrev S512x1 : Shape := ⟨2, ![512, 1]⟩
abbrev S1024 : Shape := ⟨1, ![1024]⟩

abbrev nBuf : Space → Nat
  | .hbm => 7
  | .vmem => 32
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3x1024, .f32⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S3x1024, .f32⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .bf16⟩
  | .local _ .vmem, ⟨19, _⟩ => ⟨S16x1024, .bf16⟩
  | .local _ .vmem, ⟨20, _⟩ => ⟨S512x1024, .bf16⟩
  | .local _ .vmem, ⟨21, _⟩ => ⟨S512x1024, .bf16⟩
  | .local _ .vmem, ⟨22, _⟩ => ⟨S16x1024, .bf16⟩
  | .local _ .vmem, ⟨23, _⟩ => ⟨S16x1024, .bf16⟩
  | .local _ .vmem, ⟨24, _⟩ => ⟨S3x1024, .f32⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S3x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ConvRefIdeal.lean ====
abbrev S16384x3072 : Shape := ⟨2, ![16384, 3072]⟩
abbrev S16384x1024 : Shape := ⟨2, ![16384, 1024]⟩
abbrev S3x1024 : Shape := ⟨2, ![3, 1024]⟩
abbrev S_ : Shape := ⟨0, ![]⟩
abbrev S1x1024 : Shape := ⟨2, ![1, 1024]⟩
abbrev S16386x1024 : Shape := ⟨2, ![16386, 1024]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S3x1024, .f32⟩
  | .hbm, ⟨3, _⟩ => ⟨S16384x3072, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S1x1024, .f32⟩
  | .hbm, ⟨10, _⟩ => ⟨S16386x1024, .f32⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S3x1024, .f32⟩
  | .hbm, ⟨50, _⟩ => ⟨S_, .f32⟩
  | .hbm, ⟨51, _⟩ => ⟨S16386x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S3x1024, .f32⟩
  | .hbm, ⟨63, _⟩ => ⟨S3x1024, .f32⟩
  | .hbm, ⟨64, _⟩ => ⟨S_, .f32⟩
  | .hbm, ⟨65, _⟩ => ⟨S16386x1024, .f32⟩
  | .hbm, ⟨66, _⟩ => ⟨S16386x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S_, .f32⟩
  | .hbm, ⟨80, _⟩ => ⟨S16386x1024, .f32⟩
  | .hbm, ⟨81, _⟩ => ⟨S16386x1024, .f32⟩
  | .hbm, ⟨82, _⟩ => ⟨S1x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x1024, .bf16⟩
  | .hbm, ⟨88, _⟩ => ⟨S16384x1024, .bf16⟩
  | .hbm, ⟨89, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Norm.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S_ : Shape := ⟨0, ![]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 26
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .bf16⟩
  | .hbm, ⟨5, _⟩ => ⟨S1x1024, .f32⟩
  | .hbm, ⟨6, _⟩ => ⟨S9x1024, .f32⟩
  | .hbm, ⟨7, _⟩ => ⟨S9x1024, .f32⟩
  | .hbm, ⟨8, _⟩ => ⟨S16384x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16384x1024, .bf16⟩
  | .hbm, ⟨22, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S9x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S9x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S9x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S9x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== NormRefIdeal.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .bf16⟩
  | .hbm, ⟨5, _⟩ => ⟨S1x1024, .f32⟩
  | .hbm, ⟨6, _⟩ => ⟨S9x1024, .f32⟩
  | .hbm, ⟨7, _⟩ => ⟨S9x1024, .f32⟩
  | .hbm, ⟨8, _⟩ => ⟨S16384x1024, .f32⟩
  | .hbm, ⟨9, _⟩ => ⟨S1024x5632, .f32⟩
  | .hbm, ⟨10, _⟩ => ⟨S1024x2816, .f32⟩
  | .hbm, ⟨11, _⟩ => ⟨S1024x2816, .f32⟩
  | .hbm, ⟨12, _⟩ => ⟨S16384x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S_, .f32⟩
  | .hbm, ⟨82, _⟩ => ⟨S16384, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Gate.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 38
  | .vmem => 12
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .bf16⟩
  | .hbm, ⟨3, _⟩ => ⟨S16384x1024, .bf16⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .bf16⟩
  | .hbm, ⟨35, _⟩ => ⟨S16384x2816, .bf16⟩
  | .hbm, ⟨36, _⟩ => ⟨S16384x2816, .bf16⟩
  | .hbm, ⟨37, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_v1_2 : Ref sig .tc := ⟨.hbm, 20, rfl⟩
abbrev main_call1_cst_1 : Ref sig .tc := ⟨.hbm, 21, rfl⟩
abbrev main_call1_v6 : Ref sig .tc := ⟨.hbm, 22, rfl⟩
abbrev main_call1_v7 : Ref sig .tc := ⟨.hbm, 23, rfl⟩
abbrev main_v1_1 : Ref sig .tc := ⟨.hbm, 24, rfl⟩
abbrev main_v1_0 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8_0 : Ref sig .tc := ⟨.hbm, 36, rfl⟩
abbrev main_v8_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .bf16⟩
  | .hbm, ⟨3, _⟩ => ⟨S16384x1024, .bf16⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S2816x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .bf16⟩
  | .hbm, ⟨29, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Up.lean ====
abbrev S16384x1024 : Shape := ⟨2, ![16384, 1024]⟩
abbrev S1024x5632 : Shape := ⟨2, ![1024, 5632]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .bf16⟩
  | .hbm, ⟨38, _⟩ => ⟨S16384x2816, .bf16⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v5_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v5_1 : Ref sig .tc := ⟨.hbm, 18, rfl⟩
abbrev main_v5_0 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call3_v0 : Ref sig .tc := ⟨.hbm, 39, rfl⟩
abbrev main_call3_v1 : Ref sig .tc := ⟨.hbm, 40, rfl⟩
abbrev main_call3_cst : Ref sig .tc := ⟨.hbm, 41, rfl⟩
abbrev main_call3_v2 : Ref sig .tc := ⟨.hbm, 42, rfl⟩
abbrev main_call3_v3 : Ref sig .tc := ⟨.hbm, 43, rfl⟩
abbrev main_call3_cst_0 : Ref sig .tc := ⟨.hbm, 44, rfl⟩
abbrev main_call3_v4 : Ref sig .tc := ⟨.hbm, 45, rfl⟩
abbrev main_call3_v5 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩

abbrev nD : Nat := 1
abbrev τ : Topo := Topo.v7x

variable {F : FTy → Type} [FloatOps F]
-- ==== DownW.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpW.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWIdeal.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S9x1024 : Shape := ⟨2, ![9, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S9x1024, .f32⟩
  | .hbm, ⟨4, _⟩ => ⟨S1x1024, .f32⟩
  | .hbm, ⟨5, _⟩ => ⟨S9x1024, .f32⟩
  | .hbm, ⟨6, _⟩ => ⟨S16384x1024, .f32⟩
  | .hbm, ⟨7, _⟩ => ⟨S16384x1024, .bf16⟩
  | .hbm, ⟨8, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S9x1024, .f32⟩
  | .local _ .vmem, ⟨6, _⟩ => ⟨S1x1024, .f32⟩
  | .local _ .vmem, ⟨7, _⟩ => ⟨S9x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S9x1024 : Shape := ⟨2, ![9, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S9x1024, .f32⟩
  | .hbm, ⟨4, _⟩ => ⟨S1x1024, .f32⟩
  | .hbm, ⟨5, _⟩ => ⟨S9x1024, .f32⟩
  | .hbm, ⟨6, _⟩ => ⟨S16384x2816, .f32⟩
  | .hbm, ⟨7, _⟩ => ⟨S2816x1024, .f32⟩
  | .hbm, ⟨8, _⟩ => ⟨S16384x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== AdamUp.lean ====
abbrev S4096x704 : Shape := ⟨2, ![4096, 704]⟩
abbrev S8x4096x704 : Shape := ⟨3, ![8, 4096, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S8x4096x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S4096x704 : Shape := ⟨2, ![4096, 704]⟩
abbrev S8x4096x704 : Shape := ⟨3, ![8, 4096, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S8x4096x704, .bf16⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S4096x704 : Shape := ⟨2, ![4096, 704]⟩
abbrev S8x4096x704 : Shape := ⟨3, ![8, 4096, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S8x4096x704, .bf16⟩
  | .hbm, ⟨4, _⟩ => ⟨S8x4096x704, .f32⟩
  | .hbm, ⟨5, _⟩ => ⟨S_, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S_, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S_, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S_, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S_, .f32⟩
  | .hbm, ⟨26, _⟩ => ⟨S4096x704, .f32⟩
  | .hbm, ⟨27, _⟩ => ⟨S4096x704, .f32⟩
  | .hbm, ⟨28, _⟩ => ⟨S4096x704, .f32⟩
  | .hbm, ⟨29, _⟩ => ⟨S_, .f32⟩
  | .hbm, ⟨30, _⟩ => ⟨S4096x704, .f32⟩
  | .hbm, ⟨31, _⟩ => ⟨S4096x704, .f32⟩
  | .hbm, ⟨32, _⟩ => ⟨S4096x704, .f32⟩
  | .hbm, ⟨33, _⟩ => ⟨S_, .f32⟩
  | .hbm, ⟨34, _⟩ => ⟨S4096x704, .f32⟩
  | .hbm, ⟨35, _⟩ => ⟨S4096x704, .f32⟩
  | .hbm, ⟨36, _⟩ => ⟨S4096x704, .f32⟩
  | .hbm, ⟨37, _⟩ => ⟨S_, .f32⟩
  | .hbm, ⟨38, _⟩ => ⟨S4096x704, .f32⟩
  | .hbm, ⟨39, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S1408x1024 : Shape := ⟨2, ![1408, 1024]⟩
abbrev S8x1408x1024 : Shape := ⟨3, ![8, 1408, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1408x1024 : Shape := ⟨2, ![1408, 1024]⟩
abbrev S8x1408x1024 : Shape := ⟨3, ![8, 1408, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1408x1024 : Shape := ⟨2, ![1408, 1024]⟩
abbrev S8x1408x1024 : Shape := ⟨3, ![8, 1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S8x1408x1024, .bf16⟩
  | .hbm, ⟨4, _⟩ => ⟨S8x1408x1024, .f32⟩
  | .hbm, ⟨5, _⟩ => ⟨S_, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S1024x256 : Shape := ⟨2, ![1024, 256]⟩
abbrev S8x1024x256 : Shape := ⟨3, ![8, 1024, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1024x256 : Shape := ⟨2, ![1024, 256]⟩
abbrev S8x1024x256 : Shape := ⟨3, ![8, 1024, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S8x256x256, .bf16⟩
  | .local _ .vmem, ⟨7, _⟩ => ⟨S8x256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S1024x256 : Shape := ⟨2, ![1024, 256]⟩
abbrev S8x1024x256 : Shape := ⟨3, ![8, 1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S8x1024x256, .bf16⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S1024x384 : Shape := ⟨2, ![1024, 384]⟩
abbrev S8x1024x384 : Shape := ⟨3, ![8, 1024, 384]⟩
abbrev S256x384 : Shape := ⟨2, ![256, 384]⟩
abbrev S8x256x384 : Shape := ⟨3, ![8, 256, 384]⟩
abbrev S1x256x384 : Shape := ⟨3, ![1, 256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S8x1024x384, .bf16⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S8x256x384, .bf16⟩
  | .local _ .vmem, ⟨7, _⟩ => ⟨S8x256x384, .bf16⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamConvRefIdeal.lean ====
abbrev S1024x384 : Shape := ⟨2, ![1024, 384]⟩
abbrev S8x1024x384 : Shape := ⟨3, ![8, 1024, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S8x1024x384, .bf16⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMod.lean ====
abbrev S2048x1152 : Shape := ⟨2, ![2048, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModIdeal.lean ====
abbrev S2048x1152 : Shape := ⟨2, ![2048, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModRefIdeal.lean ====
abbrev S2048x1152 : Shape := ⟨2, ![2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S_, .f32⟩
  | .hbm, ⟨5, _⟩ => ⟨S2048x1152, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S136x1024 : Shape := ⟨2, ![136, 1024]⟩
abbrev S8x1024 : Shape := ⟨2, ![8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S136x1024, .f32⟩
  | .hbm, ⟨1, _⟩ => ⟨S136x1024, .f32⟩
  | .hbm, ⟨2, _⟩ => ⟨S136x1024, .f32⟩
  | .hbm, ⟨3, _⟩ => ⟨S136x1024, .f32⟩
  | .hbm, ⟨4, _⟩ => ⟨S136x1024, .f32⟩
  | .hbm, ⟨5, _⟩ => ⟨S136x1024, .f32⟩
  | .hbm, ⟨6, _⟩ => ⟨S136x1024, .f32⟩
  | .hbm, ⟨7, _⟩ => ⟨S136x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S136x1024 : Shape := ⟨2, ![136, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S136x1024, .f32⟩
  | .hbm, ⟨2, _⟩ => ⟨S136x1024, .f32⟩
  | .hbm, ⟨3, _⟩ => ⟨S136x1024, .f32⟩
  | .hbm, ⟨4, _⟩ => ⟨S_, .f32⟩
  | .hbm, ⟨5, _⟩ => ⟨S136x1024, .f32⟩
  | .hbm, ⟨6, _⟩ => ⟨S136x1024, .f32⟩
  | .hbm, ⟨7, _⟩ => ⟨S_, .f32⟩
  | .hbm, ⟨8, _⟩ => ⟨S136x1024, .f32⟩
  | .hbm, ⟨9, _⟩ => ⟨S136x1024, .f32⟩
  | .hbm, ⟨10, _⟩ => ⟨S136x1024, .f32⟩
  | .hbm, ⟨11, _⟩ => ⟨S_, .f32⟩
  | .hbm, ⟨12, _⟩ => ⟨S136x1024, .f32⟩
  | .hbm, ⟨13, _⟩ => ⟨S136x1024, .f32⟩
  | .hbm, ⟨14, _⟩ => ⟨S136x1024, .f32⟩
  | .hbm, ⟨15, _⟩ => ⟨S_, .f32⟩
  | .hbm, ⟨16, _⟩ => ⟨S136x1024, .f32⟩
  | .hbm, ⟨17, _⟩ => ⟨S136x1024, .f32⟩
  | .hbm, ⟨18, _⟩ => ⟨S136x1024, .f32⟩
  | .hbm, ⟨19, _⟩ => ⟨S_, .f32⟩
  | .hbm, ⟨20, _⟩ => ⟨S136x1024, .f32⟩
  | .hbm, ⟨21, _⟩ => ⟨S136x1024, .f32⟩
  | .hbm, ⟨22, _⟩ => ⟨S_, .f32⟩
  | .hbm, ⟨23, _⟩ => ⟨S136x1024, .f32⟩
  | .hbm, ⟨24, _⟩ => ⟨S136x1024, .f32⟩
  | .hbm, ⟨25, _⟩ => ⟨S136x1024, .f32⟩
  | .hbm, ⟨26, _⟩ => ⟨S_, .f32⟩
  | .hbm, ⟨27, _⟩ => ⟨S136x1024, .f32⟩
  | .hbm, ⟨28, _⟩ => ⟨S136x1024, .f32⟩
  | .hbm, ⟨29, _⟩ => ⟨S136x1024, .f32⟩
  | .hbm, ⟨30, _⟩ => ⟨S_, .f32⟩
  | .hbm, ⟨31, _⟩ => ⟨S136x1024, .f32⟩
  | .hbm, ⟨32, _⟩ => ⟨S136x1024, .f32⟩
  | .hbm, ⟨33, _⟩ => ⟨S136x1024, .f32⟩
  | .hbm, ⟨34, _⟩ => ⟨S_, .f32⟩
  | .hbm, ⟨35, _⟩ => ⟨S136x1024, .f32⟩
  | .hbm, ⟨36, _⟩ => ⟨S136x1024, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DownNext.lean ====
abbrev S16384x2816 : Shape := ⟨2, ![16384, 2816]⟩
abbrev S2816x1024 : Shape := ⟨2, ![2816, 1024]⟩
abbrev S16384x1024 : Shape := ⟨2, ![16384, 1024]⟩
abbrev S9x1024 : Shape := ⟨2, ![9, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S9x1024, .f32⟩
  | .hbm, ⟨4, _⟩ => ⟨S1x1024, .f32⟩
  | .hbm, ⟨5, _⟩ => ⟨S9x1024, .f32⟩
  | .hbm, ⟨6, _⟩ => ⟨S16384x1024, .f32⟩
  | .hbm, ⟨7, _⟩ => ⟨S16384x1024, .bf16⟩
  | .hbm, ⟨8, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S9x1024, .f32⟩
  | .local _ .vmem, ⟨6, _⟩ => ⟨S1x1024, .f32⟩
  | .local _ .vmem, ⟨7, _⟩ => ⟨S9x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownNextRefIdeal.lean ====
abbrev S16384x2816 : Shape := ⟨2, ![16384, 2816]⟩
abbrev S2816x1024 : Shape := ⟨2, ![2816, 1024]⟩
abbrev S16384x1024 : Shape := ⟨2, ![16384, 1024]⟩
abbrev S9x1024 : Shape := ⟨2, ![9, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S9x1024, .f32⟩
  | .hbm, ⟨4, _⟩ => ⟨S1x1024, .f32⟩
  | .hbm, ⟨5, _⟩ => ⟨S9x1024, .f32⟩
  | .hbm, ⟨6, _⟩ => ⟨S16384x2816, .f32⟩
  | .hbm, ⟨7, _⟩ => ⟨S2816x1024, .f32⟩
  | .hbm, ⟨8, _⟩ => ⟨S16384x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== DownLast.lean ====
abbrev S16384x2816 : Shape := ⟨2, ![16384, 2816]⟩
abbrev S2816x1024 : Shape := ⟨2, ![2816, 1024]⟩
abbrev S16384x1024 : Shape := ⟨2, ![16384, 1024]⟩
abbrev S9x1024 : Shape := ⟨2, ![9, 1024]⟩
abbrev S512x2816 : Shape := ⟨2, ![512, 2816]⟩
abbrev S512x1024 : Shape := ⟨2, ![512, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S9x1024, .f32⟩
  | .hbm, ⟨4, _⟩ => ⟨S16384x1024, .f32⟩
  | .hbm, ⟨5, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S9x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownLastRefIdeal.lean ====
abbrev S16384x2816 : Shape := ⟨2, ![16384, 2816]⟩
abbrev S2816x1024 : Shape := ⟨2, ![2816, 1024]⟩
abbrev S16384x1024 : Shape := ⟨2, ![16384, 1024]⟩
abbrev S9x1024 : Shape := ⟨2, ![9, 1024]⟩
abbrev S1x1024 : Shape := ⟨2, ![1, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S9x1024, .f32⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== MixOut.lean ====
abbrev S16384x1024 : Shape := ⟨2, ![16384, 1024]⟩
abbrev S1024x1024 : Shape := ⟨2, ![1024, 1024]⟩
abbrev S9x1024 : Shape := ⟨2, ![9, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S9x1024, .f32⟩
  | .hbm, ⟨4, _⟩ => ⟨S1x1024, .f32⟩
  | .hbm, ⟨5, _⟩ => ⟨S9x1024, .f32⟩
  | .hbm, ⟨6, _⟩ => ⟨S16384x1024, .f32⟩
  | .hbm, ⟨7, _⟩ => ⟨S16384x1024, .bf16⟩
  | .hbm, ⟨8, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S9x1024, .f32⟩
  | .local _ .vmem, ⟨6, _⟩ => ⟨S1x1024, .f32⟩
  | .local _ .vmem, ⟨7, _⟩ => ⟨S9x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixOutRefIdeal.lean ====
abbrev S16384x1024 : Shape := ⟨2, ![16384, 1024]⟩
abbrev S1024x1024 : Shape := ⟨2, ![1024, 1024]⟩
abbrev S9x1024 : Shape := ⟨2, ![9, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S9x1024, .f32⟩
  | .hbm, ⟨4, _⟩ => ⟨S1x1024, .f32⟩
  | .hbm, ⟨5, _⟩ => ⟨S9x1024, .f32⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== DownWAdd.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownWAddIdeal.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownWAddRefIdeal.lean ====
abbrev S16384x2816 : Shape := ⟨2, ![16384, 2816]⟩
abbrev S16384x1024 : Shape := ⟨2, ![16384, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .hbm, ⟨3, _⟩ => ⟨S_, .f32⟩
  | .hbm, ⟨4, _⟩ => ⟨S2816x1024, .f32⟩
  | .hbm, ⟨5, _⟩ => ⟨S16384x2816, .f32⟩
  | .hbm, ⟨6, _⟩ => ⟨S16384x1024, .f32⟩
  | .hbm, ⟨7, _⟩ => ⟨S16384x1024, .f32⟩
  | .hbm, ⟨8, _⟩ => ⟨S1024x2816, .f32⟩
  | .hbm, ⟨9, _⟩ => ⟨S2816x1024, .f32⟩
  | .hbm, ⟨10, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== UpWAdd.lean ====
abbrev S16384x1024 : Shape := ⟨2, ![16384, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .hbm, ⟨3, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | .local _ .vmem, ⟨7, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpWAddRefIdeal.lean ====
abbrev S16384x1024 : Shape := ⟨2, ![16384, 1024]⟩
abbrev S16384x2816 : Shape := ⟨2, ![16384, 2816]⟩
abbrev S1024x2816 : Shape := ⟨2, ![1024, 2816]⟩
abbrev S_ : Shape := ⟨0, ![]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .f32⟩
  | .hbm, ⟨3, _⟩ => ⟨S_, .f32⟩
  | .hbm, ⟨4, _⟩ => ⟨S1024x2816, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S2816x1024, .f32⟩
  | .hbm, ⟨9, _⟩ => ⟨S1024x2816, .f32⟩
  | .hbm, ⟨10, _⟩ => ⟨S1024x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MixInA.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInAIdeal.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInARefIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S16384x1024, .f32⟩
  | .hbm, ⟨3, _⟩ => ⟨S1024x2048, .f32⟩
  | .hbm, ⟨4, _⟩ => ⟨S16384x2048, .f32⟩
  | .hbm, ⟨5, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixInB.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInBRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .bf16⟩
  | .hbm, ⟨2, _⟩ => ⟨S16384x1024, .f32⟩
  | .hbm, ⟨3, _⟩ => ⟨S1024x3072, .f32⟩
  | .hbm, ⟨4, _⟩ => ⟨S16384x3072, .f32⟩
  | .hbm, ⟨5, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixMid.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixMidRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixWA.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixWAIdeal.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixWARefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixWB.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixWBRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixBoth.lean ====
abbrev S16384x512 : Shape := ⟨2, ![16384, 512]⟩
abbrev S1024x1024 : Shape := ⟨2, ![1024, 1024]⟩
abbrev S16384x1024 : Shape := ⟨2, ![16384, 1024]⟩
abbrev S9x1024 : Shape := ⟨2, ![9, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S9x1024, .f32⟩
  | .hbm, ⟨5, _⟩ => ⟨S1x1024, .f32⟩
  | .hbm, ⟨6, _⟩ => ⟨S9x1024, .f32⟩
  | .hbm, ⟨7, _⟩ => ⟨S16384x1024, .f32⟩
  | .hbm, ⟨8, _⟩ => ⟨S16384x1024, .bf16⟩
  | .hbm, ⟨9, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S9x1024, .f32⟩
  | .local _ .vmem, ⟨9, _⟩ => ⟨S1x1024, .f32⟩
  | .local _ .vmem, ⟨10, _⟩ => ⟨S9x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S9x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixBothRefIdeal.lean ====
abbrev S16384x512 : Shape := ⟨2, ![16384, 512]⟩
abbrev S1024x1024 : Shape := ⟨2, ![1024, 1024]⟩
abbrev S16384x1024 : Shape := ⟨2, ![16384, 1024]⟩
abbrev S9x1024 : Shape := ⟨2, ![9, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S9x1024, .f32⟩
  | .hbm, ⟨5, _⟩ => ⟨S1x1024, .f32⟩
  | .hbm, ⟨6, _⟩ => ⟨S9x1024, .f32⟩
  | .hbm, ⟨7, _⟩ => ⟨S16384x1024, .bf16⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .bf16⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MixThree.lean ====
abbrev S16384x1024 : Shape := ⟨2, ![16384, 1024]⟩
abbrev S1024x3072 : Shape := ⟨2, ![1024, 3072]⟩
abbrev S1024x512 : Shape := ⟨2, ![1024, 512]⟩
abbrev S1024x1024 : Shape := ⟨2, ![1024, 1024]⟩
abbrev S512x3072 : Shape := ⟨2, ![512, 3072]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S1024x3072, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x3072, .f32⟩
  | .local _ .vmem, ⟨9, _⟩ => ⟨S512x3072, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixThreeRefIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x3072, .bf16⟩
  | .hbm, ⟨5, _⟩ => ⟨S_, .f32⟩
  | .hbm, ⟨6, _⟩ => ⟨S1024x3072, .f32⟩
  | .hbm, ⟨7, _⟩ => ⟨S16384x1024, .f32⟩
  | .hbm, ⟨8, _⟩ => ⟨S16384x3072, .f32⟩
  | .hbm, ⟨9, _⟩ => ⟨S16384x3072, .f32⟩
  | .hbm, ⟨10, _⟩ => ⟨S3072x1024, .f32⟩
  | .hbm, ⟨11, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== MixFour.lean ====
abbrev S16384x1024 : Shape := ⟨2, ![16384, 1024]⟩
abbrev S16384x512 : Shape := ⟨2, ![16384, 512]⟩
abbrev S1024x2048 : Shape := ⟨2, ![1024, 2048]⟩
abbrev S1024x512 : Shape := ⟨2, ![1024, 512]⟩
abbrev S512x2048 : Shape := ⟨2, ![512, 2048]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x2048, .f32⟩
  | .hbm, ⟨6, _⟩ => ⟨S1024x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MixFourRefIdeal.lean ====
abbrev S16384x1024 : Shape := ⟨2, ![16384, 1024]⟩
abbrev S16384x512 : Shape := ⟨2, ![16384, 512]⟩
abbrev S1024x2048 : Shape := ⟨2, ![1024, 2048]⟩
abbrev S16384x2048 : Shape := ⟨2, ![16384, 2048]⟩
abbrev S_ : Shape := ⟨0, ![]⟩
abbrev S2048x1024 : Shape := ⟨2, ![2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x2048, .f32⟩
  | .hbm, ⟨6, _⟩ => ⟨S16384x2048, .bf16⟩
  | .hbm, ⟨7, _⟩ => ⟨S_, .f32⟩
  | .hbm, ⟨8, _⟩ => ⟨S1024x2048, .f32⟩
  | .hbm, ⟨9, _⟩ => ⟨S16384x1024, .f32⟩
  | .hbm, ⟨10, _⟩ => ⟨S16384x2048, .f32⟩
  | .hbm, ⟨11, _⟩ => ⟨S16384x2048, .f32⟩
  | .hbm, ⟨12, _⟩ => ⟨S2048x1024, .f32⟩
  | .hbm, ⟨13, _⟩ => ⟨S1024x2048, .f32⟩
  | .hbm, ⟨14, _⟩ => ⟨S1024x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== NormMix.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 26
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .bf16⟩
  | .hbm, ⟨5, _⟩ => ⟨S1x1024, .f32⟩
  | .hbm, ⟨6, _⟩ => ⟨S9x1024, .f32⟩
  | .hbm, ⟨7, _⟩ => ⟨S9x1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16384x1024, .bf16⟩
  | .hbm, ⟨19, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S9x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S9x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S9x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S9x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== NormMixRefIdeal.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .bf16⟩
  | .hbm, ⟨5, _⟩ => ⟨S1x1024, .f32⟩
  | .hbm, ⟨6, _⟩ => ⟨S9x1024, .f32⟩
  | .hbm, ⟨7, _⟩ => ⟨S9x1024, .f32⟩
  | .hbm, ⟨8, _⟩ => ⟨S16384x1024, .f32⟩
  | .hbm, ⟨9, _⟩ => ⟨S1024x5632, .f32⟩
  | .hbm, ⟨10, _⟩ => ⟨S1024x2816, .f32⟩
  | .hbm, ⟨11, _⟩ => ⟨S1024x2816, .f32⟩
  | .hbm, ⟨12, _⟩ => ⟨S16384x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Loss.lean ====
abbrev S16384x1024 : Shape := ⟨2, ![16384, 1024]⟩
abbrev S9x1024 : Shape := ⟨2, ![9, 1024]⟩
abbrev S1x1024 : Shape := ⟨2, ![1, 1024]⟩
abbrev S_ : Shape := ⟨0, ![]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S9x1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1x128, .f32⟩
  | .hbm, ⟨15, _⟩ => ⟨S1x1024, .f32⟩
  | .hbm, ⟨16, _⟩ => ⟨S16384x1024, .bf16⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S9x1024, .f32⟩
  | .local _ .vmem, ⟨8, _⟩ => ⟨S256x1024, .f32⟩
  | .local _ .vmem, ⟨9, _⟩ => ⟨S256x1024, .f32⟩
  | .local _ .vmem, ⟨10, _⟩ => ⟨S1x128, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S9x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S16384x1024 : Shape := ⟨2, ![16384, 1024]⟩
abbrev S9x1024 : Shape := ⟨2, ![9, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S9x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16384, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1x1024, .f32⟩
  | .hbm, ⟨86, _⟩ => ⟨S1x1024, .f32⟩
  | .hbm, ⟨87, _⟩ => ⟨S1x128, .f32⟩
  | .hbm, ⟨88, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== SmallSum.lean ====
abbrev S8x120x1024 : Shape := ⟨3, ![8, 120, 1024]⟩
abbrev S120x1024 : Shape := ⟨2, ![120, 1024]⟩
abbrev S1x120x1024 : Shape := ⟨3, ![1, 120, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x120x1024, .f32⟩
  | .hbm, ⟨1, _⟩ => ⟨S120x1024, .f32⟩
  | .local _ .vmem, ⟨0, _⟩ => ⟨S8x120x1024, .f32⟩
  | .local _ .vmem, ⟨1, _⟩ => ⟨S120x1024, .f32⟩
  | _, _ => ⟨S8x120x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x120x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallSumRefIdeal.lean ====
abbrev S8x120x1024 : Shape := ⟨3, ![8, 120, 1024]⟩
abbrev S_ : Shape := ⟨0, ![]⟩
abbrev S120x1024 : Shape := ⟨2, ![120, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x120x1024, .f32⟩
  | .hbm, ⟨1, _⟩ => ⟨S_, .f32⟩
  | .hbm, ⟨2, _⟩ => ⟨S120x1024, .f32⟩
  | _, _ => ⟨S8x120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ModB.lean ====
abbrev S4x8x9216 : Shape := ⟨3, ![4, 8, 9216]⟩
abbrev S8x9216 : Shape := ⟨2, ![8, 9216]⟩
abbrev S4x8x1152 : Shape := ⟨3, ![4, 8, 1152]⟩
abbrev S8x1152 : Shape := ⟨2, ![8, 1152]⟩
abbrev S1x8x1152 : Shape := ⟨3, ![1, 8, 1152]⟩
abbrev S1152 : Shape := ⟨1, ![1152]⟩
abbrev S1x1152 : Shape := ⟨2, ![1, 1152]⟩
abbrev S4x1152 : Shape := ⟨2, ![4, 1152]⟩

abbrev nBuf : Space → Nat
  | .hbm => 2
  | .vmem => 4
  | .smem => 0
  | _ => 0

abbrev bufTy : (tb : Table) → Fin (tcTables nBuf tb) → BufTy
  | .hbm, ⟨0, _⟩ => ⟨S4x8x9216, .f32⟩
  | .hbm, ⟨1, _⟩ => ⟨S8x9216, .f32⟩
  | .local _ .vmem, ⟨0, _⟩ => ⟨S4x8x1152, .f32⟩
  | .local _ .vmem, ⟨1, _⟩ => ⟨S4x8x1152, .f32⟩
  | .local _ .vmem, ⟨2, _⟩ => ⟨S8x1152, .f32⟩
  | .local _ .vmem, ⟨3, _⟩ => ⟨S8x1152, .f32⟩
  | _, _ => ⟨S4x8x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ModBRefIdeal.lean ====
abbrev S4x8x9216 : Shape := ⟨3, ![4, 8, 9216]⟩
abbrev S_ : Shape := ⟨0, ![]⟩
abbrev S2x9216 : Shape := ⟨2, ![2, 9216]⟩
abbrev S2x1x9216 : Shape := ⟨3, ![2, 1, 9216]⟩
abbrev S2x8x9216 : Shape := ⟨3, ![2, 8, 9216]⟩
abbrev S8x9216 : Shape := ⟨2, ![8, 9216]⟩

abbrev nBuf : Space → Nat
  | .hbm => 21
  | .vmem => 0
  | .smem => 0
  | _ => 0

abbrev bufTy : (tb : Table) → Fin (tcTables nBuf tb) → BufTy
  | .hbm, ⟨0, _⟩ => ⟨S4x8x9216, .f32⟩
  | .hbm, ⟨1, _⟩ => ⟨S_, .f32⟩
  | .hbm, ⟨2, _⟩ => ⟨S2x9216, .f32⟩
  | .hbm, ⟨3, _⟩ => ⟨S2x1x9216, .f32⟩
  | .hbm, ⟨4, _⟩ => ⟨S2x8x9216, .f32⟩
  | .hbm, ⟨5, _⟩ => ⟨S2x8x9216, .f32⟩
  | .hbm, ⟨6, _⟩ => ⟨S_, .f32⟩
  | .hbm, ⟨7, _⟩ => ⟨S2x9216, .f32⟩
  | .hbm, ⟨8, _⟩ => ⟨S2x1x9216, .f32⟩
  | .hbm, ⟨9, _⟩ => ⟨S_, .f32⟩
  | .hbm, ⟨10, _⟩ => ⟨S2x9216, .f32⟩
  | .hbm, ⟨11, _⟩ => ⟨S2x1x9216, .f32⟩
  | .hbm, ⟨12, _⟩ => ⟨S2x8x9216, .f32⟩
  | .hbm, ⟨13, _⟩ => ⟨S2x8x9216, .f32⟩
  | .hbm, ⟨14, _⟩ => ⟨S_, .f32⟩
  | .hbm, ⟨15, _⟩ => ⟨S2x9216, .f32⟩
  | .hbm, ⟨16, _⟩ => ⟨S2x1x9216, .f32⟩
  | .hbm, ⟨17, _⟩ => ⟨S_, .f32⟩
  | .hbm, ⟨18, _⟩ => ⟨S2x9216, .f32⟩
  | .hbm, ⟨19, _⟩ => ⟨S2x9216, .f32⟩
  | .hbm, ⟨20, _⟩ => ⟨S8x9216, .f32⟩
  | _, _ => ⟨S4x8x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ModW.lean ====
abbrev S16x1024 : Shape := ⟨2, ![16, 1024]⟩
abbrev S2x1024x1152 : Shape := ⟨3, ![2, 1024, 1152]⟩
abbrev S4x8x1152 : Shape := ⟨3, ![4, 8, 1152]⟩
abbrev S1024x16 : Shape := ⟨2, ![1024, 16]⟩
abbrev S2x8x1024 : Shape := ⟨3, ![2, 8, 1024]⟩
abbrev S1x1024x1152 : Shape := ⟨3, ![1, 1024, 1152]⟩
abbrev S1x8x1152 : Shape := ⟨3, ![1, 8, 1152]⟩
abbrev S1x8x1024 : Shape := ⟨3, ![1, 8, 1024]⟩
abbrev S8x1152 : Shape := ⟨2, ![8, 1152]⟩
abbrev S1152 : Shape := ⟨1, ![1152]⟩
abbrev S1x1152 : Shape := ⟨2, ![1, 1152]⟩
abbrev S8x1 : Shape := ⟨2, ![8, 1]⟩
abbrev S16x1152 : Shape := ⟨2, ![16, 1152]⟩
abbrev S1024x1152 : Shape := ⟨2, ![1024, 1152]⟩
abbrev S8x1024 : Shape := ⟨2, ![8, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16x1024, .f32⟩
  | .hbm, ⟨1, _⟩ => ⟨S2x1024x1152, .f32⟩
  | .hbm, ⟨2, _⟩ => ⟨S4x8x1152, .f32⟩
  | .hbm, ⟨3, _⟩ => ⟨S1024x16, .f32⟩
  | .hbm, ⟨4, _⟩ => ⟨S2x1024x1152, .f32⟩
  | .hbm, ⟨5, _⟩ => ⟨S2x8x1024, .f32⟩
  | .local _ .vmem, ⟨0, _⟩ => ⟨S1024x16, .f32⟩
  | .local _ .vmem, ⟨1, _⟩ => ⟨S1x1024x1152, .f32⟩
  | .local _ .vmem, ⟨2, _⟩ => ⟨S1x1024x1152, .f32⟩
  | .local _ .vmem, ⟨3, _⟩ => ⟨S1x8x1152, .f32⟩
  | .local _ .vmem, ⟨4, _⟩ => ⟨S1x8x1152, .f32⟩
  | .local _ .vmem, ⟨5, _⟩ => ⟨S1x8x1152, .f32⟩
  | .local _ .vmem, ⟨6, _⟩ => ⟨S1x8x1152, .f32⟩
  | .local _ .vmem, ⟨7, _⟩ => ⟨S1x1024x1152, .f32⟩
  | .local _ .vmem, ⟨8, _⟩ => ⟨S1x1024x1152, .f32⟩
  | .local _ .vmem, ⟨9, _⟩ => ⟨S1x8x1024, .f32⟩
  | .local _ .vmem, ⟨10, _⟩ => ⟨S1x8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ModWRefIdeal.lean ====
abbrev S16x1024 : Shape := ⟨2, ![16, 1024]⟩
abbrev S2x1024x1152 : Shape := ⟨3, ![2, 1024, 1152]⟩
abbrev S4x8x1152 : Shape := ⟨3, ![4, 8, 1152]⟩
abbrev S1x1024 : Shape := ⟨2, ![1, 1024]⟩
abbrev S_ : Shape := ⟨0, ![]⟩
abbrev S1x1024x1152 : Shape := ⟨3, ![1, 1024, 1152]⟩
abbrev S1024x1152 : Shape := ⟨2, ![1024, 1152]⟩
abbrev S8x1024 : Shape := ⟨2, ![8, 1024]⟩
abbrev S8x1152 : Shape := ⟨2, ![8, 1152]⟩
abbrev S1x1152 : Shape := ⟨2, ![1, 1152]⟩
abbrev S1x8x1152 : Shape := ⟨3, ![1, 8, 1152]⟩
abbrev S1152 : Shape := ⟨1, ![1152]⟩
abbrev S1152x1024 : Shape := ⟨2, ![1152, 1024]⟩
abbrev S7x1024 : Shape := ⟨2, ![7, 1024]⟩
abbrev S1x8x1024 : Shape := ⟨3, ![1, 8, 1024]⟩
abbrev S2x8x1024 : Shape := ⟨3, ![2, 8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x1152, .f32⟩
  | .hbm, ⟨2, _⟩ => ⟨S4x8x1152, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024x1152, .f32⟩
  | .hbm, ⟨14, _⟩ => ⟨S1024x1152, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1152, .f32⟩
  | .hbm, ⟨26, _⟩ => ⟨S1x1152, .f32⟩
  | .hbm, ⟨27, _⟩ => ⟨S8x1152, .f32⟩
  | .hbm, ⟨28, _⟩ => ⟨S1x8x1152, .f32⟩
  | .hbm, ⟨29, _⟩ => ⟨S8x1152, .f32⟩
  | .hbm, ⟨30, _⟩ => ⟨S1x8x1152, .f32⟩
  | .hbm, ⟨31, _⟩ => ⟨S8x1152, .f32⟩
  | .hbm, ⟨32, _⟩ => ⟨S_, .f32⟩
  | .hbm, ⟨33, _⟩ => ⟨S1152, .f32⟩
  | .hbm, ⟨34, _⟩ => ⟨S1x1152, .f32⟩
  | .hbm, ⟨35, _⟩ => ⟨S1152x1024, .f32⟩
  | .hbm, ⟨36, _⟩ => ⟨S1024x1152, .f32⟩
  | .hbm, ⟨37, _⟩ => ⟨S1x1024, .f32⟩
  | .hbm, ⟨38, _⟩ => ⟨S1152x1024, .f32⟩
  | .hbm, ⟨39, _⟩ => ⟨S1024x1152, .f32⟩
  | .hbm, ⟨40, _⟩ => ⟨S1024x1152, .f32⟩
  | .hbm, ⟨41, _⟩ => ⟨S1x1024x1152, .f32⟩
  | .hbm, ⟨42, _⟩ => ⟨S1024x1152, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S_, .f32⟩
  | .hbm, ⟨47, _⟩ => ⟨S8x1024, .f32⟩
  | .hbm, ⟨48, _⟩ => ⟨S8x1024, .f32⟩
  | .hbm, ⟨49, _⟩ => ⟨S_, .f32⟩
  | .hbm, ⟨50, _⟩ => ⟨S8x1024, .f32⟩
  | .hbm, ⟨51, _⟩ => ⟨S8x1024, .f32⟩
  | .hbm, ⟨52, _⟩ => ⟨S8x1024, .f32⟩
  | .hbm, ⟨53, _⟩ => ⟨S8x1152, .f32⟩
  | .hbm, ⟨54, _⟩ => ⟨S1x1152, .f32⟩
  | .hbm, ⟨55, _⟩ => ⟨S8x1152, .f32⟩
  | .hbm, ⟨56, _⟩ => ⟨S1x8x1152, .f32⟩
  | .hbm, ⟨57, _⟩ => ⟨S8x1152, .f32⟩
  | .hbm, ⟨58, _⟩ => ⟨S1x8x1152, .f32⟩
  | .hbm, ⟨59, _⟩ => ⟨S8x1152, .f32⟩
  | .hbm, ⟨60, _⟩ => ⟨S_, .f32⟩
  | .hbm, ⟨61, _⟩ => ⟨S1152, .f32⟩
  | .hbm, ⟨62, _⟩ => ⟨S1x1152, .f32⟩
  | .hbm, ⟨63, _⟩ => ⟨S1152x1024, .f32⟩
  | .hbm, ⟨64, _⟩ => ⟨S1024x1152, .f32⟩
  | .hbm, ⟨65, _⟩ => ⟨S1x1024, .f32⟩
  | .hbm, ⟨66, _⟩ => ⟨S1152x1024, .f32⟩
  | .hbm, ⟨67, _⟩ => ⟨S1024x1152, .f32⟩
  | .hbm, ⟨68, _⟩ => ⟨S1024x1152, .f32⟩
  | .hbm, ⟨69, _⟩ => ⟨S_, .f32⟩
  | .hbm, ⟨70, _⟩ => ⟨S7x1024, .f32⟩
  | .hbm, ⟨71, _⟩ => ⟨S1x1024x1152, .f32⟩
  | .hbm, ⟨72, _⟩ => ⟨S1x1024x1152, .f32⟩
  | .hbm, ⟨73, _⟩ => ⟨S2x1024x1152, .f32⟩
  | .hbm, ⟨74, _⟩ => ⟨S8x1024, .f32⟩
  | .hbm, ⟨75, _⟩ => ⟨S8x1024, .f32⟩
  | .hbm, ⟨76, _⟩ => ⟨S1x8x1024, .f32⟩
  | .hbm, ⟨77, _⟩ => ⟨S1x8x1024, .f32⟩
  | .hbm, ⟨78, _⟩ => ⟨S2x8x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩

abbrev nD : Nat := 1
abbrev τ : Topo := Topo.v7x

variable {F : FTy → Type} [FloatOps F]
-- ==== NormFirst.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 20
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1x1024, .f32⟩
  | .hbm, ⟨5, _⟩ => ⟨S9x1024, .f32⟩
  | .hbm, ⟨6, _⟩ => ⟨S16384x1024, .f32⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S9x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S9x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== NormFirstRefIdeal.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S9x1024 : Shape := ⟨2, ![9, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1x1024, .f32⟩
  | .hbm, ⟨5, _⟩ => ⟨S9x1024, .f32⟩
  | .hbm, ⟨6, _⟩ => ⟨S16384x1024, .f32⟩
  | .hbm, ⟨7, _⟩ => ⟨S1024x5632, .f32⟩
  | .hbm, ⟨8, _⟩ => ⟨S1024x2816, .f32⟩
  | .hbm, ⟨9, _⟩ => ⟨S1024x2816, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Cond.lean ====
abbrev S8x120x1024 : Shape := ⟨3, ![8, 120, 1024]⟩
abbrev S1024 : Shape := ⟨1, ![1024]⟩
abbrev S120x1024 : Shape := ⟨2, ![120, 1024]⟩
abbrev S1x120x1024 : Shape := ⟨3, ![1, 120, 1024]⟩
abbrev S_ : Shape := ⟨0, ![]⟩
abbrev S1x1024 : Shape := ⟨2, ![1, 1024]⟩

abbrev nBuf : Space → Nat
  | .hbm => 22
  | .vmem => 2
  | .smem => 0
  | _ => 0

abbrev bufTy : (tb : Table) → Fin (tcTables nBuf tb) → BufTy
  | .hbm, ⟨0, _⟩ => ⟨S8x120x1024, .f32⟩
  | .hbm, ⟨1, _⟩ => ⟨S1024, .f32⟩
  | .hbm, ⟨2, _⟩ => ⟨S120x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .local _ .vmem, ⟨0, _⟩ => ⟨S8x120x1024, .f32⟩
  | .local _ .vmem, ⟨1, _⟩ => ⟨S120x1024, .f32⟩
  | _, _ => ⟨S8x120x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x120x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S120x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== CondRefIdeal.lean ====
abbrev S8x120x1024 : Shape := ⟨3, ![8, 120, 1024]⟩
abbrev S1024 : Shape := ⟨1, ![1024]⟩
abbrev S_ : Shape := ⟨0, ![]⟩
abbrev S120x1024 : Shape := ⟨2, ![120, 1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x120x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S120x1024, .f32⟩
  | .hbm, ⟨17, _⟩ => ⟨S1x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | _, _ => ⟨S8x120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Proof.ConvSpec.lean ====
module

public import Idealize.ShloMosaic.Lib.Pipeline.ValueKit

@[expose] public section

/-! The gradient of the gated three-tap convolution, written once as plain formulas over the extended reals.
    `p` holds the three projected columns (gate, left factor, right factor), `g` the gradient arriving at the
    gated output and `w` the three taps. Rows outside the sequence count as zero. -/

noncomputable section

namespace Cert.ConvSpec

open Idealize.ShloMosaic

abbrev Proj := (⟨2, ![16384, 3072]⟩ : Shape).Idx → EReal
abbrev Grad := (⟨2, ![16384, 1024]⟩ : Shape).Idx → EReal
abbrev Taps := (⟨2, ![3, 1024]⟩ : Shape).Idx → EReal

/-- The product the convolution runs over, at row `n`; zero past the end. -/
def z (p : Proj) (n : ℕ) (c : Fin 1024) : EReal :=
  if h : n < 16384 then p (ix2 ⟨n, h⟩ ⟨1024 + c.val, by omega⟩) * p (ix2 ⟨n, h⟩ ⟨2048 + c.val, by omega⟩) else 0

/-- The gradient of the convolution's output, at row `n`; zero past the end. -/
def dy (p : Proj) (g : Grad) (n : ℕ) (c : Fin 1024) : EReal :=
  if h : n < 16384 then g (ix2 ⟨n, h⟩ c) * p (ix2 ⟨n, h⟩ ⟨c.val, by omega⟩) else 0

/-- A row-indexed family moved down by one row, zero coming in at the top. -/
def down (f : ℕ → Fin 1024 → EReal) (n : ℕ) (c : Fin 1024) : EReal := if n = 0 then 0 else f (n - 1) c

/-- The convolution's output. -/
def y (p : Proj) (w : Taps) (n : ℕ) (c : Fin 1024) : EReal :=
  down (z p) n c * w (ix2 0 c) + z p n c * w (ix2 1 c) + z p (n + 1) c * w (ix2 2 c)

/-- The gradient of the product the convolution runs over. -/
def dz (p : Proj) (g : Grad) (w : Taps) (n : ℕ) (c : Fin 1024) : EReal :=
  dy p g (n + 1) c * w (ix2 0 c) + dy p g n c * w (ix2 1 c) + down (dy p g) n c * w (ix2 2 c)

/-- The gradient of the gate. -/
def dbg (p : Proj) (g : Grad) (w : Taps) (i : (⟨2, ![16384, 1024]⟩ : Shape).Idx) : EReal :=
  g i * y p w (i 0).val (i 1)

/-- The gradient of the left factor. -/
def dcg (p : Proj) (g : Grad) (w : Taps) (i : (⟨2, ![16384, 1024]⟩ : Shape).Idx) : EReal :=
  dz p g w (i 0).val (i 1) * p (ix2 (i 0) ⟨2048 + (i 1).val, by have := (i 1).isLt; simp at this; omega⟩)

/-- The gradient of the right factor. -/
def dxin (p : Proj) (g : Grad) (w : Taps) (i : (⟨2, ![16384, 1024]⟩ : Shape).Idx) : EReal :=
  dz p g w (i 0).val (i 1) * p (ix2 (i 0) ⟨1024 + (i 1).val, by have := (i 1).isLt; simp at this; omega⟩)

/-- What row `n` adds to the gradient of tap `k`. -/
def dwTerm (p : Proj) (g : Grad) (k : ℕ) (n : ℕ) (c : Fin 1024) : EReal :=
  dy p g n c * (if k = 0 then down (z p) n c else if k = 1 then z p n c else z p (n + 1) c)

/-- The gradient of the taps. -/
def dw (p : Proj) (g : Grad) (i : (⟨2, ![3, 1024]⟩ : Shape).Idx) : EReal :=
  ∑ n ∈ Finset.range 16384, dwTerm p g (i 0).val n (i 1)

end Cert.ConvSpec

end
-- ==== Proof.Reads.lean ====
module

public import Idealize.ShloMosaic.Lib.Pipeline.ReadBack
public import Idealize.ShloMosaic.Lib.Pipeline.ValueKit

@[expose] public section

/-! Buffers, positions in matrices, and what a block of an array reads there. -/

namespace Cert

open Idealize.ShloMosaic

/-- Buffer `b` of device `c`. -/
abbrev slot {nD : Nat} {τ : Topo} {sig : RefSig} (c : Dev nD) (b : Ref sig .tc) : Loc nD τ sig := (c.tc : Thread nD τ).loc b

/-- A position of a matrix is a row and a column. -/
theorem pair {a b : Nat} (y : (⟨2, ![a, b]⟩ : Shape).Idx) : ∃ (r : Fin a) (k : Fin b), y = ix2 r k := ⟨y 0, y 1, eq_ix2 y⟩

/-- A block reads the array at the position that its own position stands for. -/
theorem read_at {sig : RefSig} {κ : Kind} {sp : Space} {s : Shape} {e : EltTy} {Val : EltTy → Type} {v : View sig κ sp s e}
    {f A : v.ty.Contents Val} (h : f = A) {x : s.Idx} {z : v.ty.Idx} (p : ∀ a, (v.emb x a).val = (z a).val) :
    v.read Val f x = _root_.cast (congrArg Val v.elt_eq) (A z) := by
  subst h
  rw [View.read_apply, show v.emb x = z from funext fun a => Fin.ext (p a)]

end Cert
-- ==== Proof.ConvBlock.lean ====
module

public import proofs.«01_k».proof.Proof.Gen.ConvIdeal.Value
public import proofs.«01_k».proof.Proof.ConvSpec
public import Idealize.ShloMosaic.Lib.Pipeline.ValueKit
public import proofs.«01_k».proof.Proof.Reads

@[expose] public section

/-! What one grid point of the convolution's gradient computes, in terms of the whole arrays: the point's own 512 rows,
    the row above them and the row below them. -/

noncomputable section

namespace Cert.ConvIdeal.Hand

open Cert.ConvIdeal Cert.ConvIdeal.Gen Idealize.ShloMosaic TcCoe Idealize.SL.Sem Cert

variable (m : (ℓ : Loc nD τ sig) → Buf (Elt Ideal) ℓ) (c : Dev nD)

/-- The three projected columns, as launched. -/
abbrev pArr : ConvSpec.Proj := m (slot c main_arg0)
/-- The gradient arriving at the gated output, as launched. -/
abbrev gArr : ConvSpec.Grad := m (slot c main_arg1)
/-- The taps, as launched. -/
abbrev wArr : ConvSpec.Taps := m (slot c main_arg2)

theorem t_lt (t : Fin cfg0.N) : t.val < 32 := lt_of_lt_of_eq t.isLt N_0

theorem coord (t : Fin cfg0.N) : (grid0.coords t 0).val = t.val :=
  (by decide +kernel : ∀ t : Fin grid0.N, (grid0.coords t 0).val = t.val) t

/-- Row `r` of point `t`'s block is row `512 t + r` of the array. -/
def row (t : Fin cfg0.N) (r : Fin 512) : Fin 16384 := ⟨512 * t.val + r.val, by have := t_lt t; omega⟩

theorem index0 : ∀ t : Fin grid0.N, win0_0.index t = ![t.val * 32 - 1, 0] := by decide +kernel
theorem index1 : ∀ t : Fin grid0.N, win0_1.index t = ![t.val, 0] := by decide +kernel
theorem index2 : ∀ t : Fin grid0.N, win0_2.index t = ![min ((t.val + 1) * 32) 1023, 0] := by decide +kernel
theorem index3 : ∀ t : Fin grid0.N, win0_3.index t = ![t.val * 32 - 1, 1] := by decide +kernel
theorem index4 : ∀ t : Fin grid0.N, win0_4.index t = ![t.val, 1] := by decide +kernel
theorem index5 : ∀ t : Fin grid0.N, win0_5.index t = ![min ((t.val + 1) * 32) 1023, 1] := by decide +kernel
theorem index6 : ∀ t : Fin grid0.N, win0_6.index t = ![t.val * 32 - 1, 2] := by decide +kernel
theorem index7 : ∀ t : Fin grid0.N, win0_7.index t = ![t.val, 2] := by decide +kernel
theorem index8 : ∀ t : Fin grid0.N, win0_8.index t = ![min ((t.val + 1) * 32) 1023, 2] := by decide +kernel
theorem index9 : ∀ t : Fin grid0.N, win0_9.index t = ![t.val * 32 - 1, 0] := by decide +kernel
theorem index10 : ∀ t : Fin grid0.N, win0_10.index t = ![t.val, 0] := by decide +kernel
theorem index11 : ∀ t : Fin grid0.N, win0_11.index t = ![min ((t.val + 1) * 32) 1023, 0] := by decide +kernel
theorem index12 : ∀ t : Fin grid0.N, win0_12.index t = ![0, 0] := by decide +kernel

theorem blk0 (t : Fin cfg0.N) (ht : t.val ≠ 0) (k : Fin 1024) :
    iblk m c 0 t (ix2 15 k) = pArr m c (ix2 ⟨512 * t.val - 1, by have := t_lt t; omega⟩ ⟨k.val, by omega⟩) := by
  have := t_lt t
  refine read_at (V_main_arg0 m c) fun a => ?_
  match a with
  | ⟨0, _⟩ => blk_simp [index0]; simp; omega
  | ⟨1, _⟩ => blk_simp [index0]

theorem blk1 (t : Fin cfg0.N) (r : Fin 512) (k : Fin 1024) :
    iblk m c 1 t (ix2 r k) = pArr m c (ix2 (row t r) ⟨k.val, by omega⟩) := by
  have := t_lt t
  refine read_at (V_main_arg0 m c) fun a => ?_
  match a with
  | ⟨0, _⟩ => blk_simp [index1]; simp [row]; omega
  | ⟨1, _⟩ => blk_simp [index1]

theorem blk2 (t : Fin cfg0.N) (ht : t.val ≠ 31) (k : Fin 1024) :
    iblk m c 2 t (ix2 0 k) = pArr m c (ix2 ⟨512 * t.val + 512, by have := t_lt t; omega⟩ ⟨k.val, by omega⟩) := by
  have := t_lt t
  refine read_at (V_main_arg0 m c) fun a => ?_
  match a with
  | ⟨0, _⟩ => blk_simp [index2]; simp; omega
  | ⟨1, _⟩ => blk_simp [index2]

theorem blk3 (t : Fin cfg0.N) (ht : t.val ≠ 0) (k : Fin 1024) :
    iblk m c 3 t (ix2 15 k) = pArr m c (ix2 ⟨512 * t.val - 1, by have := t_lt t; omega⟩ ⟨1024 + k.val, by omega⟩) := by
  have := t_lt t
  refine read_at (V_main_arg0 m c) fun a => ?_
  match a with
  | ⟨0, _⟩ => blk_simp [index3]; simp; omega
  | ⟨1, _⟩ => blk_simp [index3]

theorem blk4 (t : Fin cfg0.N) (r : Fin 512) (k : Fin 1024) :
    iblk m c 4 t (ix2 r k) = pArr m c (ix2 (row t r) ⟨1024 + k.val, by omega⟩) := by
  have := t_lt t
  refine read_at (V_main_arg0 m c) fun a => ?_
  match a with
  | ⟨0, _⟩ => blk_simp [index4]; simp [row]; omega
  | ⟨1, _⟩ => blk_simp [index4]

theorem blk5 (t : Fin cfg0.N) (ht : t.val ≠ 31) (k : Fin 1024) :
    iblk m c 5 t (ix2 0 k) = pArr m c (ix2 ⟨512 * t.val + 512, by have := t_lt t; omega⟩ ⟨1024 + k.val, by omega⟩) := by
  have := t_lt t
  refine read_at (V_main_arg0 m c) fun a => ?_
  match a with
  | ⟨0, _⟩ => blk_simp [index5]; simp; omega
  | ⟨1, _⟩ => blk_simp [index5]

theorem blk6 (t : Fin cfg0.N) (ht : t.val ≠ 0) (k : Fin 1024) :
    iblk m c 6 t (ix2 15 k) = pArr m c (ix2 ⟨512 * t.val - 1, by have := t_lt t; omega⟩ ⟨2048 + k.val, by omega⟩) := by
  have := t_lt t
  refine read_at (V_main_arg0 m c) fun a => ?_
  match a with
  | ⟨0, _⟩ => blk_simp [index6]; simp; omega
  | ⟨1, _⟩ => blk_simp [index6]

theorem blk7 (t : Fin cfg0.N) (r : Fin 512) (k : Fin 1024) :
    iblk m c 7 t (ix2 r k) = pArr m c (ix2 (row t r) ⟨2048 + k.val, by omega⟩) := by
  have := t_lt t
  refine read_at (V_main_arg0 m c) fun a => ?_
  match a with
  | ⟨0, _⟩ => blk_simp [index7]; simp [row]; omega
  | ⟨1, _⟩ => blk_simp [index7]

theorem blk8 (t : Fin cfg0.N) (ht : t.val ≠ 31) (k : Fin 1024) :
    iblk m c 8 t (ix2 0 k) = pArr m c (ix2 ⟨512 * t.val + 512, by have := t_lt t; omega⟩ ⟨2048 + k.val, by omega⟩) := by
  have := t_lt t
  refine read_at (V_main_arg0 m c) fun a => ?_
  match a with
  | ⟨0, _⟩ => blk_simp [index8]; simp; omega
  | ⟨1, _⟩ => blk_simp [index8]

theorem blk9 (t : Fin cfg0.N) (ht : t.val ≠ 0) (k : Fin 1024) :
    iblk m c 9 t (ix2 15 k) = gArr m c (ix2 ⟨512 * t.val - 1, by have := t_lt t; omega⟩ k) := by
  have := t_lt t
  refine read_at (V_main_arg1 m c) fun a => ?_
  match a with
  | ⟨0, _⟩ => blk_simp [index9]; simp; omega
  | ⟨1, _⟩ => blk_simp [index9]

theorem blk10 (t : Fin cfg0.N) (r : Fin 512) (k : Fin 1024) :
    iblk m c 10 t (ix2 r k) = gArr m c (ix2 (row t r) k) := by
  have := t_lt t
  refine read_at (V_main_arg1 m c) fun a => ?_
  match a with
  | ⟨0, _⟩ => blk_simp [index10]; simp [row]; omega
  | ⟨1, _⟩ => blk_simp [index10]

theorem blk11 (t : Fin cfg0.N) (ht : t.val ≠ 31) (k : Fin 1024) :
    iblk m c 11 t (ix2 0 k) = gArr m c (ix2 ⟨512 * t.val + 512, by have := t_lt t; omega⟩ k) := by
  have := t_lt t
  refine read_at (V_main_arg1 m c) fun a => ?_
  match a with
  | ⟨0, _⟩ => blk_simp [index11]; simp; omega
  | ⟨1, _⟩ => blk_simp [index11]

theorem blk12 (t : Fin cfg0.N) (r : Fin 3) (k : Fin 1024) : iblk m c 12 t (ix2 r k) = wArr m c (ix2 r k) := by
  refine read_at (V_main_arg2 m c) fun a => ?_
  match a with
  | ⟨0, _⟩ => blk_simp [index12]
  | ⟨1, _⟩ => blk_simp [index12]

/-- A choice on an equality of two small numbers. -/
theorem select_eq (a b : ℕ) (ha : a < 4294967296) (hb : b < 4294967296) (x y : EReal) :
    Scalar.select (IntOp.cmpi .eq (BitVec.ofNat 32 a) (BitVec.ofNat 32 b)) x y = if a = b then x else y := by
  unfold Scalar.select IntOp.cmpi
  have : (BitVec.ofNat 32 a = BitVec.ofNat 32 b) ↔ a = b :=
    ⟨fun e => by have := congrArg BitVec.toNat e; simpa [BitVec.toNat_ofNat, Nat.mod_eq_of_lt ha, Nat.mod_eq_of_lt hb] using this,
      fun e => by rw [e]⟩
  have e : (BitVec.ofNat 32 a == BitVec.ofNat 32 b) = decide (a = b) := by
    rw [Bool.eq_iff_iff]
    simp [this]
  simp only [e]
  by_cases h : a = b <;> simp [h]

/-- The product one row up, as the body forms it. -/
theorem above (t : Fin cfg0.N) (r : Fin 512) (k : Fin 1024) (f : ℕ → Fin 1024 → EReal) (e : EReal) (s : Fin 512 → EReal)
    (he : t.val ≠ 0 → e = f (512 * t.val - 1) k) (hs : ∀ r, s r = f (512 * t.val + r.val) k) :
    Scalar.select (IntOp.cmpi .eq (BitVec.ofNat 32 r.val) 0#32)
      (Scalar.select (Scalar.cmpi .eq (BitVec.ofNat 32 (grid0.coords t 0).val) 0#32) 0
        (Scalar.select (Scalar.cmpi .eq (BitVec.ofNat 32 (grid0.coords t 0).val) 0#32) 0 e))
      (s ⟨(r.val + 512 - 1) % 512, Nat.mod_lt _ (by decide)⟩) = ConvSpec.down f (row t r).val k := by
  have ht := t_lt t
  rw [coord]
  show Scalar.select (IntOp.cmpi .eq _ (BitVec.ofNat 32 0)) (Scalar.select (IntOp.cmpi .eq _ (BitVec.ofNat 32 0)) 0
    (Scalar.select (IntOp.cmpi .eq _ (BitVec.ofNat 32 0)) 0 e)) _ = _
  simp only [select_eq _ _ (show r.val < 4294967296 by omega) (show 0 < 4294967296 by omega),
    select_eq _ _ (show t.val < 4294967296 by omega) (show 0 < 4294967296 by omega)]
  unfold ConvSpec.down row
  by_cases hr : r.val = 0
  · by_cases h0 : t.val = 0
    · simp [hr, h0]
    · rw [if_pos hr, if_neg h0, if_neg h0, if_neg (by simp only []; omega), he h0]
      simp only [hr, Nat.add_zero]
  · rw [if_neg hr, if_neg (by simp only []; omega), hs]
    congr 1
    simp only []
    omega

/-- The product one row down, as the body forms it. -/
theorem below (t : Fin cfg0.N) (r : Fin 512) (k : Fin 1024) (f : ℕ → Fin 1024 → EReal) (e : EReal) (s : Fin 512 → EReal)
    (hf : f 16384 k = 0) (he : t.val ≠ 31 → e = f (512 * t.val + 512) k) (hs : ∀ r, s r = f (512 * t.val + r.val) k) :
    Scalar.select (IntOp.cmpi .eq (BitVec.ofNat 32 r.val) 511#32)
      (Scalar.select (Scalar.cmpi .eq (BitVec.ofNat 32 (grid0.coords t 0).val) 31#32) 0
        (Scalar.select (Scalar.cmpi .eq (BitVec.ofNat 32 (grid0.coords t 0).val) 31#32) 0 e))
      (s ⟨(r.val + 512 - 511) % 512, Nat.mod_lt _ (by decide)⟩) = f ((row t r).val + 1) k := by
  have ht := t_lt t
  rw [coord]
  show Scalar.select (IntOp.cmpi .eq _ (BitVec.ofNat 32 511)) (Scalar.select (IntOp.cmpi .eq _ (BitVec.ofNat 32 31)) 0
    (Scalar.select (IntOp.cmpi .eq _ (BitVec.ofNat 32 31)) 0 e)) _ = _
  simp only [select_eq _ _ (show r.val < 4294967296 by omega) (show 511 < 4294967296 by omega),
    select_eq _ _ (show t.val < 4294967296 by omega) (show 31 < 4294967296 by omega)]
  unfold row
  by_cases hr : r.val = 511
  · by_cases h0 : t.val = 31
    · simp [hr, h0, hf]
    · rw [if_pos hr, if_neg h0, if_neg h0, he h0]
      simp only [hr]
  · rw [if_neg hr, hs]
    congr 1
    simp only []
    omega

/-- The product of two entries. -/
abbrev times (a b : EReal) : EReal := a * b

theorem z_row (t : Fin cfg0.N) (r : Fin 512) (k : Fin 1024) :
    times (iblk m c 4 t (ix2 r k)) (iblk m c 7 t (ix2 r k)) = ConvSpec.z (pArr m c) (512 * t.val + r.val) k := by
  rw [blk4, blk7]; unfold ConvSpec.z; rw [dif_pos (show 512 * t.val + r.val < 16384 from (row t r).isLt)]; rfl

theorem dy_row (t : Fin cfg0.N) (r : Fin 512) (k : Fin 1024) :
    times (iblk m c 10 t (ix2 r k)) (iblk m c 1 t (ix2 r k)) = ConvSpec.dy (pArr m c) (gArr m c) (512 * t.val + r.val) k := by
  rw [blk1, blk10]; unfold ConvSpec.dy; rw [dif_pos (show 512 * t.val + r.val < 16384 from (row t r).isLt)]; rfl

theorem z_top (t : Fin cfg0.N) (k : Fin 1024) (h : t.val ≠ 0) :
    times (iblk m c 3 t (ix2 15 k)) (iblk m c 6 t (ix2 15 k)) = ConvSpec.z (pArr m c) (512 * t.val - 1) k := by
  have := t_lt t
  rw [blk3 m c t h, blk6 m c t h]; unfold ConvSpec.z; rw [dif_pos (by omega)]

theorem z_bottom (t : Fin cfg0.N) (k : Fin 1024) (h : t.val ≠ 31) :
    times (iblk m c 5 t (ix2 0 k)) (iblk m c 8 t (ix2 0 k)) = ConvSpec.z (pArr m c) (512 * t.val + 512) k := by
  have := t_lt t
  rw [blk5 m c t h, blk8 m c t h]; unfold ConvSpec.z; rw [dif_pos (by omega)]

theorem dy_top (t : Fin cfg0.N) (k : Fin 1024) (h : t.val ≠ 0) :
    times (iblk m c 0 t (ix2 15 k)) (iblk m c 9 t (ix2 15 k)) = ConvSpec.dy (pArr m c) (gArr m c) (512 * t.val - 1) k := by
  have := t_lt t
  rw [blk0 m c t h, blk9 m c t h, times, mul_comm]; unfold ConvSpec.dy; rw [dif_pos (by omega)]

theorem dy_bottom (t : Fin cfg0.N) (k : Fin 1024) (h : t.val ≠ 31) :
    times (iblk m c 2 t (ix2 0 k)) (iblk m c 11 t (ix2 0 k)) = ConvSpec.dy (pArr m c) (gArr m c) (512 * t.val + 512) k := by
  have := t_lt t
  rw [blk2 m c t h, blk11 m c t h, times, mul_comm]; unfold ConvSpec.dy; rw [dif_pos (by omega)]

theorem z_end (p : ConvSpec.Proj) (k : Fin 1024) : ConvSpec.z p 16384 k = 0 := by unfold ConvSpec.z; rw [dif_neg (by omega)]
theorem dy_end (p : ConvSpec.Proj) (g : ConvSpec.Grad) (k : Fin 1024) : ConvSpec.dy p g 16384 k = 0 := by
  unfold ConvSpec.dy; rw [dif_neg (by omega)]

/-- The shifted products of a block, row by row. -/
theorem pay14_at (t : Fin cfg0.N) (r : Fin 512) (k : Fin 1024) :
    k0_pay14 (k0_pay9 (iblk m c 4 t) (iblk m c 7 t))
      (k0_pay10 (grid0.coords t) (View.ld (iblk m c 3 t) (Rect.unit ![15, 0] ![1, 1024] inb_S16x1024_S1x1024_15_0)))
      (k0_pay12 (grid0.coords t) (View.ld (iblk m c 6 t) (Rect.unit ![15, 0] ![1, 1024] inb_S16x1024_S1x1024_15_0)))
      (ix2 r k) = ConvSpec.down (ConvSpec.z (pArr m c)) (row t r).val k := by
  pointwise [k0_pay14, k0_pay9, k0_pay6, k0_pay7, k0_pay10, k0_pay12]
  exact above t r k (ConvSpec.z (pArr m c)) _ (fun r => times (iblk m c 4 t (ix2 r k)) (iblk m c 7 t (ix2 r k)))
    (z_top m c t k) fun r => z_row m c t r k

theorem pay15_at (t : Fin cfg0.N) (r : Fin 512) (k : Fin 1024) :
    k0_pay15 (k0_pay9 (iblk m c 4 t) (iblk m c 7 t))
      (k0_pay11 (grid0.coords t) (View.ld (iblk m c 5 t) (Rect.unit ![0, 0] ![1, 1024] inb_S16x1024_S1x1024_0_0)))
      (k0_pay13 (grid0.coords t) (View.ld (iblk m c 8 t) (Rect.unit ![0, 0] ![1, 1024] inb_S16x1024_S1x1024_0_0)))
      (ix2 r k) = ConvSpec.z (pArr m c) ((row t r).val + 1) k := by
  pointwise [k0_pay15, k0_pay9, k0_pay6, k0_pay7, k0_pay11, k0_pay13]
  exact below t r k (ConvSpec.z (pArr m c)) _ (fun r => times (iblk m c 4 t (ix2 r k)) (iblk m c 7 t (ix2 r k)))
    (z_end _ k) (z_bottom m c t k) fun r => z_row m c t r k

theorem pay9_at (t : Fin cfg0.N) (r : Fin 512) (k : Fin 1024) :
    k0_pay9 (iblk m c 4 t) (iblk m c 7 t) (ix2 r k) = ConvSpec.z (pArr m c) (row t r).val k := by
  pointwise [k0_pay9, k0_pay6, k0_pay7]
  exact z_row m c t r k

theorem pay17_at (t : Fin cfg0.N) (r : Fin 512) (k : Fin 1024) :
    k0_pay17 (k0_pay5 (iblk m c 1 t)) (k0_pay8 (iblk m c 10 t)) (ix2 r k)
      = ConvSpec.dy (pArr m c) (gArr m c) (row t r).val k := by
  pointwise [k0_pay17, k0_pay5, k0_pay8]
  exact dy_row m c t r k

/-- A weighted sum of three terms, changed term by term. -/
theorem lin {g g' a a' b b' d d' w w' x x' y y' : EReal} (hg : g = g') (ha : a = a') (hw : w = w') (hb : b = b')
    (hx : x = x') (hd : d = d') (hy : y = y') :
    g * (a * w + b * x + d * y) = g' * (a' * w' + b' * x' + d' * y') := by
  rw [hg, ha, hw, hb, hx, hd, hy]

theorem lin' {g g' a a' b b' d d' w w' x x' y y' : EReal} (ha : a = a') (hw : w = w') (hb : b = b')
    (hx : x = x') (hd : d = d') (hy : y = y') (hg : g = g') :
    (a * w + b * x + d * y) * g = (a' * w' + b' * x' + d' * y') * g' := by
  rw [hg, ha, hw, hb, hx, hd, hy]

theorem dbg_at (t : Fin cfg0.N) (r : Fin 512) (k : Fin 1024) :
    (outsAt0 m c t.val t.isLt).1 (ix2 r k) = ConvSpec.dbg (pArr m c) (gArr m c) (wArr m c) (ix2 (row t r) k) := by
  by_cases h0 : t.val % 32 = 0
  · rw [outsAt0_A m c t h0]
    dsimp only
    frame_out
    pointwise [k0_pay16, k0_pay8]
    exact lin (blk10 m c t r k) (pay14_at m c t r k) (blk12 m c t 0 k) (pay9_at m c t r k) (blk12 m c t 1 k)
      (pay15_at m c t r k) (blk12 m c t 2 k)
  · rw [outsAt0_B m c t h0]
    dsimp only
    frame_out
    pointwise [k0_pay16, k0_pay8]
    exact lin (blk10 m c t r k) (pay14_at m c t r k) (blk12 m c t 0 k) (pay9_at m c t r k) (blk12 m c t 1 k)
      (pay15_at m c t r k) (blk12 m c t 2 k)

theorem dcg_at (t : Fin cfg0.N) (r : Fin 512) (k : Fin 1024) :
    (outsAt0 m c t.val t.isLt).2.1 (ix2 r k) = ConvSpec.dcg (pArr m c) (gArr m c) (wArr m c) (ix2 (row t r) k) := by
  by_cases h0 : t.val % 32 = 0
  · rw [outsAt0_A m c t h0]
    dsimp only
    frame_out
    pointwise [k0_pay2, k0_pay1, k0_pay6, k0_pay7, k0_pay21, k0_pay22, k0_pay23, k0_pay24, k0_pay17, k0_pay5, k0_pay8]
    exact lin' (below t r k _ _ (fun r => times (iblk m c 10 t (ix2 r k)) (iblk m c 1 t (ix2 r k))) (dy_end (pArr m c) (gArr m c) k)
        (dy_bottom m c t k) fun r => dy_row m c t r k)
      (blk12 m c t 0 k) (dy_row m c t r k) (blk12 m c t 1 k)
      (above t r k _ _ (fun r => times (iblk m c 10 t (ix2 r k)) (iblk m c 1 t (ix2 r k))) (dy_top m c t k) fun r => dy_row m c t r k)
      (blk12 m c t 2 k) (blk7 m c t r k)
  · rw [outsAt0_B m c t h0]
    dsimp only
    frame_out
    pointwise [k0_pay2, k0_pay1, k0_pay6, k0_pay7, k0_pay21, k0_pay22, k0_pay23, k0_pay24, k0_pay17, k0_pay5, k0_pay8]
    exact lin' (below t r k _ _ (fun r => times (iblk m c 10 t (ix2 r k)) (iblk m c 1 t (ix2 r k))) (dy_end (pArr m c) (gArr m c) k)
        (dy_bottom m c t k) fun r => dy_row m c t r k)
      (blk12 m c t 0 k) (dy_row m c t r k) (blk12 m c t 1 k)
      (above t r k _ _ (fun r => times (iblk m c 10 t (ix2 r k)) (iblk m c 1 t (ix2 r k))) (dy_top m c t k) fun r => dy_row m c t r k)
      (blk12 m c t 2 k) (blk7 m c t r k)

theorem dxin_at (t : Fin cfg0.N) (r : Fin 512) (k : Fin 1024) :
    (outsAt0 m c t.val t.isLt).2.2.1 (ix2 r k) = ConvSpec.dxin (pArr m c) (gArr m c) (wArr m c) (ix2 (row t r) k) := by
  by_cases h0 : t.val % 32 = 0
  · rw [outsAt0_A m c t h0]
    dsimp only
    frame_out
    pointwise [k0_pay3, k0_pay1, k0_pay6, k0_pay7, k0_pay21, k0_pay22, k0_pay23, k0_pay24, k0_pay17, k0_pay5, k0_pay8]
    exact lin' (below t r k _ _ (fun r => times (iblk m c 10 t (ix2 r k)) (iblk m c 1 t (ix2 r k))) (dy_end (pArr m c) (gArr m c) k)
        (dy_bottom m c t k) fun r => dy_row m c t r k)
      (blk12 m c t 0 k) (dy_row m c t r k) (blk12 m c t 1 k)
      (above t r k _ _ (fun r => times (iblk m c 10 t (ix2 r k)) (iblk m c 1 t (ix2 r k))) (dy_top m c t k) fun r => dy_row m c t r k)
      (blk12 m c t 2 k) (blk4 m c t r k)
  · rw [outsAt0_B m c t h0]
    dsimp only
    frame_out
    pointwise [k0_pay3, k0_pay1, k0_pay6, k0_pay7, k0_pay21, k0_pay22, k0_pay23, k0_pay24, k0_pay17, k0_pay5, k0_pay8]
    exact lin' (below t r k _ _ (fun r => times (iblk m c 10 t (ix2 r k)) (iblk m c 1 t (ix2 r k))) (dy_end (pArr m c) (gArr m c) k)
        (dy_bottom m c t k) fun r => dy_row m c t r k)
      (blk12 m c t 0 k) (dy_row m c t r k) (blk12 m c t 1 k)
      (above t r k _ _ (fun r => times (iblk m c 10 t (ix2 r k)) (iblk m c 1 t (ix2 r k))) (dy_top m c t k) fun r => dy_row m c t r k)
      (blk12 m c t 2 k) (blk4 m c t r k)

end Cert.ConvIdeal.Hand

end
-- ==== Proof.ConvTaps.lean ====
module

public import proofs.«01_k».proof.Proof.ConvBlock

@[expose] public section

/-! The gradient of the three taps: what one grid point adds to it, and what it is after the last point. -/

noncomputable section

namespace Cert.ConvIdeal.Hand

open Cert.ConvIdeal Cert.ConvIdeal.Gen Idealize.ShloMosaic TcCoe Idealize.SL.Sem Cert

/-- A row just stored, read back. -/
theorem canon_row {q : Fin 3} {a : ℕ} (inb : ∀ x, (![a, 0] : Fin 2 → ℕ) x + (![1, 1024] : Fin 2 → ℕ) x ≤ S3x1024.size x) (w : S1x1024.Idx → EReal)
    (L : List (View.Piece (Elt Ideal) S3x1024 .f32)) (k : Fin 1024) (h : q.val = a) :
    View.canon (⟨Rect.unit (s := S3x1024) ![a, 0] ![1, 1024] inb, w⟩ :: L) (ix2 q k) = w (ix2 0 k) := by
  have e : (Rect.unit (s := S3x1024) ![a, 0] ![1, 1024] inb).emb (ix2 (0 : Fin 1) k) = ix2 q k := by
    funext x
    refine Fin.ext ?_
    match x with
    | ⟨0, _⟩ => blk_simp; try simp; try omega
    | ⟨1, _⟩ => blk_simp
  rw [← e]
  exact View.canon_cons_emb (Rect.unit (s := S3x1024) ![a, 0] ![1, 1024] inb) w L _

/-- A row stored elsewhere changes nothing here. -/
theorem canon_row_ne {q : Fin 3} {a : ℕ} (inb : ∀ x, (![a, 0] : Fin 2 → ℕ) x + (![1, 1024] : Fin 2 → ℕ) x ≤ S3x1024.size x) (w : S1x1024.Idx → EReal)
    (L : List (View.Piece (Elt Ideal) S3x1024 .f32)) (k : Fin 1024) (h : q.val ≠ a) :
    View.canon (⟨Rect.unit (s := S3x1024) ![a, 0] ![1, 1024] inb, w⟩ :: L) (ix2 q k) = View.canon L (ix2 q k) := by
  refine View.canon_cons_of_not_mem _ L fun hm => h ?_
  have hm' : ix2 q k ∈ (Rect.unit (s := S3x1024) ![a, 0] ![1, 1024] inb).set := hm
  have := (Rect.mem_set_unit.mp hm') (0 : Fin 2)
  have h1 : a ≤ q.val := this.1
  have h2 : q.val < a + 1 := this.2
  omega

theorem dwTerm_zero (p : ConvSpec.Proj) (g : ConvSpec.Grad) (n : ℕ) (k : Fin 1024) :
    ConvSpec.dwTerm p g 0 n k = ConvSpec.dy p g n k * ConvSpec.down (ConvSpec.z p) n k := rfl
theorem dwTerm_one (p : ConvSpec.Proj) (g : ConvSpec.Grad) (n : ℕ) (k : Fin 1024) :
    ConvSpec.dwTerm p g 1 n k = ConvSpec.dy p g n k * ConvSpec.z p n k := rfl
theorem dwTerm_two (p : ConvSpec.Proj) (g : ConvSpec.Grad) (n : ℕ) (k : Fin 1024) :
    ConvSpec.dwTerm p g 2 n k = ConvSpec.dy p g n k * ConvSpec.z p (n + 1) k := rfl

/-- A sum of products over the rows of a block, changed term by term. -/
theorem sum_rows {a a' b b' : Fin 512 → EReal} (ha : ∀ r, a r = a' r) (hb : ∀ r, b r = b' r) :
    ∑ r, a r * b r = ∑ r, a' r * b' r := by
  rw [funext ha, funext hb]

/-- A sum over 32 blocks of 512 rows is the sum over all the rows. -/
theorem sum_points (f : ℕ → EReal) :
    ∑ n ∈ Finset.range 32, ∑ r : Fin 512, f (512 * n + r.val) = ∑ n ∈ Finset.range 16384, f n := by
  rw [show Finset.range 16384 = Finset.range (32 * 512) from rfl, Finset.sum_range_mul_split]
  refine Finset.sum_congr rfl fun n _ => ?_
  rw [Finset.sum_range]
  simp only [mul_comm]

/-- Terms added up point after point, from zero at the first: after the last point, the sum over all the rows. -/
theorem total {N : ℕ} (hN : N ≤ 32) (f : (n : ℕ) → n < N → EReal) (d : ℕ → EReal)
    (h0 : ∀ t : Fin N, t.val % 32 = 0 → f t.val t.isLt = 0 + ∑ r : Fin 512, d (512 * t.val + r.val))
    (hs : ∀ t : Fin N, ¬t.val % 32 = 0 → f t.val t.isLt
      = f (t.val - 1) (Nat.lt_of_le_of_lt (Nat.sub_le _ _) t.isLt) + ∑ r : Fin 512, d (512 * t.val + r.val))
    (h : 31 < N) : f 31 h = ∑ n ∈ Finset.range 16384, d n := by
  rw [← sum_points d]
  have := Pipeline.eq_sum_of_reset_step_single f 32 0 (fun n => ∑ r : Fin 512, d (512 * n + r.val)) h0 hs hN ⟨31, h⟩
  rw [zero_add] at this
  exact this

variable (m : (ℓ : Loc nD τ sig) → Buf (Elt Ideal) ℓ) (c : Dev nD)

/-- The first point starts the taps' gradient from zero. -/
theorem dw_A0 (t : Fin cfg0.N) (h0 : t.val % 32 = 0) (k : Fin 1024) :
    (outsAt0 m c t.val t.isLt).2.2.2 (ix2 0 k) = ∑ r : Fin 512, ConvSpec.dwTerm (pArr m c) (gArr m c) 0 (row t r).val k := by
  rw [outsAt0_A m c t h0]
  dsimp only
  frame_open
  simp (disch := decide) only [↓ View.readCov_skip]
  frame_out
  rw [canon_row_ne _ _ _ _ (by decide), canon_row_ne _ _ _ _ (by decide), canon_row _ _ _ _ (by decide)]
  simp (disch := decide) only [View.readCov_fill]
  pointwise [k0_pay18, k0_pay4]
  exact sum_rows (fun r => pay17_at m c t r k) fun r => pay14_at m c t r k

theorem dw_A1 (t : Fin cfg0.N) (h0 : t.val % 32 = 0) (k : Fin 1024) :
    (outsAt0 m c t.val t.isLt).2.2.2 (ix2 1 k) = ∑ r : Fin 512, ConvSpec.dwTerm (pArr m c) (gArr m c) 1 (row t r).val k := by
  rw [outsAt0_A m c t h0]
  dsimp only
  frame_open
  simp (disch := decide) only [↓ View.readCov_skip]
  frame_out
  rw [canon_row_ne _ _ _ _ (by decide), canon_row _ _ _ _ (by decide)]
  simp (disch := decide) only [View.readCov_fill]
  pointwise [k0_pay19, k0_pay4]
  exact sum_rows (fun r => pay17_at m c t r k) fun r => pay9_at m c t r k

theorem dw_A2 (t : Fin cfg0.N) (h0 : t.val % 32 = 0) (k : Fin 1024) :
    (outsAt0 m c t.val t.isLt).2.2.2 (ix2 2 k) = ∑ r : Fin 512, ConvSpec.dwTerm (pArr m c) (gArr m c) 2 (row t r).val k := by
  rw [outsAt0_A m c t h0]
  dsimp only
  frame_open
  simp (disch := decide) only [↓ View.readCov_skip]
  frame_out
  rw [canon_row _ _ _ _ (by decide)]
  simp (disch := decide) only [View.readCov_fill]
  pointwise [k0_pay20, k0_pay4]
  exact sum_rows (fun r => pay17_at m c t r k) fun r => pay15_at m c t r k

theorem dw_A (t : Fin cfg0.N) (h0 : t.val % 32 = 0) (q : Fin 3) (k : Fin 1024) :
    (outsAt0 m c t.val t.isLt).2.2.2 (ix2 q k) = 0 + ∑ r : Fin 512, ConvSpec.dwTerm (pArr m c) (gArr m c) q.val (row t r).val k := by
  rw [zero_add]
  have hq : q = 0 ∨ q = 1 ∨ q = 2 := by omega
  rcases hq with rfl | rfl | rfl
  · exact dw_A0 m c t h0 k
  · exact dw_A1 m c t h0 k
  · exact dw_A2 m c t h0 k

/-- Every later point adds its rows. -/
theorem dw_B (t : Fin cfg0.N) (h0 : ¬t.val % 32 = 0) (q : Fin 3) (k : Fin 1024) :
    (outsAt0 m c t.val t.isLt).2.2.2 (ix2 q k)
      = (outsAt0 m c (t.val - 1) (Nat.lt_of_le_of_lt (Nat.sub_le _ _) t.isLt)).2.2.2 (ix2 q k)
      + ∑ r : Fin 512, ConvSpec.dwTerm (pArr m c) (gArr m c) q.val (row t r).val k := by
  rw [outsAt0_B m c t h0]
  dsimp only
  frame_out
  have hq : q = 0 ∨ q = 1 ∨ q = 2 := by omega
  rcases hq with rfl | rfl | rfl
  · rw [canon_row_ne _ _ _ _ (by decide), canon_row_ne _ _ _ _ (by decide), canon_row _ _ _ _ (by decide)]
    pointwise [k0_pay18]
    exact congrArg _ (sum_rows (fun r => pay17_at m c t r k) fun r => pay14_at m c t r k)
  · rw [canon_row_ne _ _ _ _ (by decide), canon_row _ _ _ _ (by decide)]
    pointwise [k0_pay19]
    exact congrArg _ (sum_rows (fun r => pay17_at m c t r k) fun r => pay9_at m c t r k)
  · rw [canon_row _ _ _ _ (by decide)]
    pointwise [k0_pay20]
    exact congrArg _ (sum_rows (fun r => pay17_at m c t r k) fun r => pay15_at m c t r k)

/-- After the last point the taps' gradient is the sum over all the rows. -/
theorem dw_last (q : Fin 3) (k : Fin 1024) (h : 31 < cfg0.N) :
    (outsAt0 m c 31 h).2.2.2 (ix2 q k) = ConvSpec.dw (pArr m c) (gArr m c) (ix2 q k) :=
  total (le_of_eq N_0) (fun n h => (outsAt0 m c n h).2.2.2 (ix2 q k)) (fun n => ConvSpec.dwTerm (pArr m c) (gArr m c) q.val n k)
    (fun t h0 => dw_A m c t h0 q k) (fun t h0 => dw_B m c t h0 q k) h

end Cert.ConvIdeal.Hand

end
-- ==== Proof.ConvArrays.lean ====
module

public import proofs.«01_k».proof.Proof.ConvTaps
public import proofs.«01_k».proof.Proof.Reads

@[expose] public section

/-! The four arrays the convolution's gradient leaves. -/

noncomputable section

namespace Cert.ConvIdeal.Hand

open Cert.ConvIdeal Cert.ConvIdeal.Gen Idealize.ShloMosaic TcCoe Idealize.SL.Sem Cert

variable (m : (ℓ : Loc nD τ sig) → Buf (Elt Ideal) ℓ) (c : Dev nD)

theorem index13 : ∀ t : Fin grid0.N, win0_13.index t = ![t.val, 0] := by decide +kernel
theorem index14 : ∀ t : Fin grid0.N, win0_14.index t = ![t.val, 0] := by decide +kernel
theorem index15 : ∀ t : Fin grid0.N, win0_15.index t = ![t.val, 0] := by decide +kernel

/-- Where row `r` of point `t`'s block lies. -/
theorem emb13 (t : Fin cfg0.N) (r : Fin 512) (k : Fin 1024) : ((cfg0.win 13).blk t).view.emb (ix2 r k) = ix2 (row t r) k := by
  refine funext fun a => Fin.ext ?_
  match a with
  | ⟨0, _⟩ => blk_simp [index13]; simp [row]; omega
  | ⟨1, _⟩ => blk_simp [index13]

theorem emb14 (t : Fin cfg0.N) (r : Fin 512) (k : Fin 1024) : ((cfg0.win 14).blk t).view.emb (ix2 r k) = ix2 (row t r) k := by
  refine funext fun a => Fin.ext ?_
  match a with
  | ⟨0, _⟩ => blk_simp [index14]; simp [row]; omega
  | ⟨1, _⟩ => blk_simp [index14]

theorem emb15 (t : Fin cfg0.N) (r : Fin 512) (k : Fin 1024) : ((cfg0.win 15).blk t).view.emb (ix2 r k) = ix2 (row t r) k := by
  refine funext fun a => Fin.ext ?_
  match a with
  | ⟨0, _⟩ => blk_simp [index15]; simp [row]; omega
  | ⟨1, _⟩ => blk_simp [index15]

theorem dbg_arr : (dats m 0 c).arrAt 13 cfg0.N = ConvSpec.dbg (pArr m c) (gArr m c) (wArr m c) := by
  refine (dats m 0 c).arrAt_eq_of_covers 13 _ (by decide +kernel) fun t _ y => ?_
  rw [after0_13]
  obtain ⟨r, k, rfl⟩ := pair y
  rw [emb13]
  exact dbg_at m c t r k

theorem dcg_arr : (dats m 0 c).arrAt 14 cfg0.N = ConvSpec.dcg (pArr m c) (gArr m c) (wArr m c) := by
  refine (dats m 0 c).arrAt_eq_of_covers 14 _ (by decide +kernel) fun t _ y => ?_
  rw [after0_14]
  obtain ⟨r, k, rfl⟩ := pair y
  rw [emb14]
  exact dcg_at m c t r k

theorem dxin_arr : (dats m 0 c).arrAt 15 cfg0.N = ConvSpec.dxin (pArr m c) (gArr m c) (wArr m c) := by
  refine (dats m 0 c).arrAt_eq_of_covers 15 _ (by decide +kernel) fun t _ y => ?_
  rw [after0_15]
  obtain ⟨r, k, rfl⟩ := pair y
  rw [emb15]
  exact dxin_at m c t r k

theorem dw_arr : (dats m 0 c).arrAt 16 cfg0.N = ConvSpec.dw (pArr m c) (gArr m c) := by
  refine (dats m 0 c).arrAt_eq_of_after_last 16 ⟨31, lt_of_lt_of_eq (by decide) N_0.symm⟩ (by decide +kernel) _ fun j => ?_
  rw [after0_16]
  obtain ⟨q, k, rfl⟩ := pair j
  exact dw_last m c q k _

end Cert.ConvIdeal.Hand

end
-- ==== Proof.ConvRefValue.lean ====
module

public import proofs.«01_k».proof.Proof.Gen.ConvRefIdeal.Read
public import proofs.«01_k».proof.Proof.ConvSpec

@[expose] public section

/-! What the reference of the convolution's gradient computes, entry by entry: the plain formulas of `ConvSpec`. -/

noncomputable section

namespace Cert.ConvRefIdeal.Hand

open Cert.ConvRefIdeal Cert.ConvRefIdeal.Gen Cert.ConvRefIdeal.Read Idealize.ShloMosaic Cert

variable (p : ConvSpec.Proj) (g : ConvSpec.Grad) (w : ConvSpec.Taps)

/-- The row above, as the padded product is read. -/
theorem z_above (n : Fin 16384) (c : Fin 1024) :
    (if h : n.val < 1 then 0
      else if h : n.val - 1 < 16384 then
        p (ix2 ⟨n.val - 1, h⟩ ⟨1024 + c.val, by omega⟩) * p (ix2 ⟨n.val - 1, h⟩ ⟨2048 + c.val, by omega⟩) else 0 : EReal)
      = ConvSpec.down (ConvSpec.z p) n.val c := by
  unfold ConvSpec.down ConvSpec.z
  by_cases h : n.val = 0
  · simp [h]
  · rw [if_neg h, dif_neg (by omega)]

/-- The row below, as the padded product is read. -/
theorem z_below (n : Fin 16384) (c : Fin 1024) :
    (if h : 2 + n.val < 1 then 0
      else if h : 2 + n.val - 1 < 16384 then
        p (ix2 ⟨2 + n.val - 1, h⟩ ⟨1024 + c.val, by omega⟩) * p (ix2 ⟨2 + n.val - 1, h⟩ ⟨2048 + c.val, by omega⟩) else 0 : EReal)
      = ConvSpec.z p (n.val + 1) c := by
  unfold ConvSpec.z
  rw [dif_neg (by omega)]
  by_cases h : n.val + 1 < 16384
  · rw [dif_pos h, dif_pos (by omega)]
    have e : 2 + n.val - 1 = n.val + 1 := by omega
    simp only [e]
  · rw [dif_neg h, dif_neg (by omega)]

theorem z_here (n : Fin 16384) (c : Fin 1024) :
    (p (ix2 n ⟨1024 + c.val, by omega⟩) * p (ix2 n ⟨2048 + c.val, by omega⟩) : EReal) = ConvSpec.z p n.val c := by
  unfold ConvSpec.z; rw [dif_pos n.isLt]

theorem dy_here (n : Fin 16384) (c : Fin 1024) :
    (p (ix2 n ⟨c.val, by omega⟩) * g (ix2 n c) : EReal) = ConvSpec.dy p g n.val c := by
  unfold ConvSpec.dy; rw [dif_pos n.isLt, mul_comm]

/-- The gradient of the gate. -/
theorem dbg_at (n : Fin 16384) (c : Fin 1024) :
    val_main_v69 (F := Ideal) p g w (ix2 n c) = ConvSpec.dbg p g w (ix2 n c) := by
  pointwise [val_main_v69, val_main_v32, val_main_v30, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v6, Value.fn_main_v6, val_main_v5, val_main_v4, val_main_v3, val_main_v2, val_main_v1, val_main_v0,
    val_main_cst]
  show _ = g (ix2 n c) * ConvSpec.y p w n.val c
  unfold ConvSpec.y
  rw [← z_above, ← z_below, ← z_here]

theorem dbg_eq : val_main_v69 (F := Ideal) p g w = ConvSpec.dbg p g w :=
  funext fun i => by rw [eq_ix2 i]; exact dbg_at p g w (i 0) (i 1)

/-- The gradient of the convolved product. -/
theorem dz_eq (n : Fin 16384) (c : Fin 1024) :
    val_main_v65 (F := Ideal) p g w (ix2 n c) = ConvSpec.dz p g w n c := by
  pointwise [val_main_v65, val_main_v63, val_main_v62, val_main_cst_13, val_main_v57, val_main_v52, val_main_v51,
    val_main_cst_9, val_main_v41, val_main_v37, val_main_v31, val_main_v36, val_main_v46, val_main_v45, val_main_v56,
    val_main_cst_5, val_main_v30, val_main_v25, val_main_v24, val_main_v23, val_main_v18, val_main_v17, val_main_v16,
    val_main_v12, val_main_v11, val_main_v10, val_main_v1, val_main_v0]
  unfold ConvSpec.dz ConvSpec.down
  have e2 : 1 + n.val - 2 = n.val - 1 := by omega
  have e1 : 1 + n.val = n.val + 1 := by omega
  have hA : (if h : 2 ≤ 1 + n.val ∧ 1 + n.val - 2 < 16384 then
      (p (ix2 ⟨1 + n.val - 2, h.2⟩ ⟨c.val, by omega⟩) * g (ix2 ⟨1 + n.val - 2, h.2⟩ c) * w (ix2 2 c) : EReal) else 0)
      = (if n.val = 0 then 0 else ConvSpec.dy p g (n.val - 1) c) * w (ix2 2 c) := by
    by_cases h : n.val = 0
    · rw [if_pos h, dif_neg (by omega), zero_mul]
    · rw [if_neg h, dif_pos ⟨by omega, by omega⟩]
      simp only [e2]
      rw [← dy_here p g ⟨n.val - 1, by omega⟩]
  have hB : (if h : 1 + n.val < 16384 then
      (p (ix2 ⟨1 + n.val, h⟩ ⟨c.val, by omega⟩) * g (ix2 ⟨1 + n.val, h⟩ c) * w (ix2 0 c) : EReal) else 0)
      = ConvSpec.dy p g (n.val + 1) c * w (ix2 0 c) := by
    by_cases h : n.val + 1 < 16384
    · rw [dif_pos (by omega)]
      simp only [e1]
      rw [← dy_here p g ⟨n.val + 1, h⟩]
    · rw [dif_neg (by omega)]; unfold ConvSpec.dy; rw [dif_neg h, zero_mul]
  rw [← dy_here p g n c, ← hA, ← hB]
  abel

theorem dcg_at (n : Fin 16384) (c : Fin 1024) :
    val_main_v70 (F := Ideal) p g w (ix2 n c) = ConvSpec.dcg p g w (ix2 n c) := by
  pointwise [val_main_v70, val_main_v68, val_main_v3, val_main_v0]
  show _ = ConvSpec.dz p g w n.val c * p (ix2 n ⟨2048 + c.val, by omega⟩)
  rw [dz_eq]

theorem dxin_at (n : Fin 16384) (c : Fin 1024) :
    val_main_v71 (F := Ideal) p g w (ix2 n c) = ConvSpec.dxin p g w (ix2 n c) := by
  pointwise [val_main_v71, val_main_v67, val_main_v2, val_main_v0]
  show _ = ConvSpec.dz p g w n.val c * p (ix2 n ⟨1024 + c.val, by omega⟩)
  rw [dz_eq, mul_comm]

/-- The gradient of the left factor. -/
theorem dcg_eq : val_main_v70 (F := Ideal) p g w = ConvSpec.dcg p g w :=
  funext fun i => by rw [eq_ix2 i]; exact dcg_at p g w (i 0) (i 1)

/-- The gradient of the right factor. -/
theorem dxin_eq : val_main_v71 (F := Ideal) p g w = ConvSpec.dxin p g w :=
  funext fun i => by rw [eq_ix2 i]; exact dxin_at p g w (i 0) (i 1)

theorem dw_at (k : Fin 3) (c : Fin 1024) :
    val_main_v61 (F := Ideal) p g (ix2 k c) = ConvSpec.dw p g (ix2 k c) := by
  pointwise [val_main_v61, val_main_v60, val_main_v59, val_main_v58, val_main_v55, val_main_v54, val_main_v53,
    val_main_v50, val_main_v49, val_main_v48, val_main_v47, val_main_v44, val_main_v43, val_main_v42, val_main_v40,
    val_main_v39, val_main_v38, val_main_v35, val_main_v34, val_main_v33, val_main_v31, val_main_v30, val_main_v22,
    val_main_v15, val_main_v9, val_main_v6, Value.fn_main_v6, val_main_v5, val_main_v4, val_main_v3, val_main_v2,
    val_main_v1, val_main_v0, val_main_cst, val_main_cst_2, val_main_cst_3, val_main_cst_4, val_main_cst_6,
    val_main_cst_7, val_main_cst_8, val_main_cst_10, val_main_cst_11, val_main_cst_12]
  show _ = ∑ n ∈ Finset.range 16384, ConvSpec.dwTerm p g k.val n c
  rw [← Fin.sum_univ_eq_sum_range]
  unfold ConvSpec.dwTerm
  simp only [z_above, z_below, z_here, dy_here, Finset.univ_unique, Finset.sum_singleton]
  have hk : k.val = 0 ∨ k.val = 1 ∨ k.val = 2 := by omega
  rcases hk with h | h | h <;> simp [h, mul_comm]
  · refine Finset.sum_congr rfl fun x _ => ?_
    unfold ConvSpec.down
    by_cases hx : x = 0
    · simp [hx]
    · have hv : x.val ≠ 0 := fun e => hx (Fin.ext e)
      rw [if_neg hx, if_pos (by omega), if_neg hv]
  · refine Finset.sum_congr rfl fun x _ => ?_
    by_cases hx : x.val + 1 < 16384
    · rw [if_pos (by omega), add_comm 1]
    · rw [if_neg (by omega)]; unfold ConvSpec.z; rw [dif_neg hx, mul_zero]

/-- The gradient of the taps. -/
theorem dw_eq : val_main_v61 (F := Ideal) p g = ConvSpec.dw p g :=
  funext fun i => by rw [eq_ix2 i]; exact dw_at p g (i 0) (i 1)

end Cert.ConvRefIdeal.Hand

end
-- ==== Proof.ConvClaim.lean ====
module

public import proofs.«01_k».proof.Defs
public import proofs.«01_k».proof.Proof.Gen.Conv.Frame
public import proofs.«01_k».proof.Proof.ConvArrays
public import proofs.«01_k».proof.Proof.ConvRefValue
public import proofs.«01_k».proof.Proof.Gen.ConvRefIdeal.Run
public import proofs.«01_k».proof.Proof.Gen.ConvRefIdeal.Read
public import proofs.«01_k».proof.Proof.Reads

@[expose] public section

/-! The five claims about the convolution's gradient. -/

noncomputable section

namespace Cert.ConvClaim

open Idealize.ShloMosaic TcCoe Idealize.SL.Sem Cert

/-- The kernel's run ends, its arguments and counters as they were. -/
theorem frame : Cert.quiescent_Conv := fun m ρ _ => Cert.Conv.Gen.frame m ρ

/-- The same of the kernel over the extended reals. -/
theorem frame_ideal : Cert.quiescent_ConvIdeal := fun m ρ _ => Cert.ConvIdeal.Gen.frame m ρ

/-- The reference runs on the host and has no counter. -/
theorem frame_ref : Cert.quiescent_ConvRefIdeal := fun m ρ _ =>
  (θ_run Cert.ConvRefIdeal.defs _ _).mono
    (fun r h => ⟨fun c => (h c).2.2.2.2, sem_eq_zero_of_no_sems (by decide) r.2⟩)
    (Cert.ConvRefIdeal.Value.run (F := Ideal) m ρ)

theorem preserves : Cert.preserves_Conv_ConvIdeal := trivial

section
open Cert.ConvRefIdeal

variable (m : (ℓ : Loc nD τ sig) → Buf (Elt Ideal) ℓ) (c : Dev nD)

/-- The reference's arguments, as launched. -/
abbrev pRef : ConvSpec.Proj := m (slot c main_arg0)
abbrev gRef : ConvSpec.Grad := m (slot c main_arg1)
abbrev wRef : ConvSpec.Taps := m (slot c main_arg2)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v69) = ConvSpec.dbg (pRef m c) (gRef m c) (wRef m c)
      ∧ r.2.mem (slot c main_v70) = ConvSpec.dcg (pRef m c) (gRef m c) (wRef m c)
      ∧ r.2.mem (slot c main_v71) = ConvSpec.dxin (pRef m c) (gRef m c) (wRef m c)
      ∧ r.2.mem (slot c main_v61) = ConvSpec.dw (pRef m c) (gRef m c)
      ∧ r.2.mem (slot c main_arg0) = m (slot c main_arg0)
      ∧ r.2.mem (slot c main_arg1) = m (slot c main_arg1)
      ∧ r.2.mem (slot c main_arg2) = m (slot c main_arg2) :=
  (θ_run (defs (F := Ideal)) _ _).mono (fun r h c =>
      ⟨(h c).1.trans ((Read.val_main_v69_eq _ _ _).trans (ConvRefIdeal.Hand.dbg_eq _ _ _)),
       (h c).2.1.trans ((Read.val_main_v70_eq _ _ _).trans (ConvRefIdeal.Hand.dcg_eq _ _ _)),
       (h c).2.2.1.trans ((Read.val_main_v71_eq _ _ _).trans (ConvRefIdeal.Hand.dxin_eq _ _ _)),
       (h c).2.2.2.1.trans ((Read.val_main_v61_eq _ _).trans (ConvRefIdeal.Hand.dw_eq _ _)),
       (h c).2.2.2.2⟩)
    (Value.run (F := Ideal) m ρ)

end

/-- The kernel's run, its results named. -/
theorem kernel_run (m : (ℓ : Loc ConvIdeal.nD ConvIdeal.τ ConvIdeal.sig) → Buf (Elt Ideal) ℓ) (ρ : Dev ConvIdeal.nD → PrngReg) :
    θ_run (ConvIdeal.defs (F := Ideal)) (onTc (τ := ConvIdeal.τ) (ConvIdeal.main (F := Ideal))) ⟨m, fun _ => 0, ρ⟩ fun r => ∀ c : Dev ConvIdeal.nD,
      r.2.mem ((c.tc : Thread ConvIdeal.nD ConvIdeal.τ).loc ConvIdeal.main_v0_0)
        = ConvSpec.dbg (ConvIdeal.Hand.pArr m c) (ConvIdeal.Hand.gArr m c) (ConvIdeal.Hand.wArr m c)
      ∧ r.2.mem ((c.tc : Thread ConvIdeal.nD ConvIdeal.τ).loc ConvIdeal.main_v0_1)
        = ConvSpec.dcg (ConvIdeal.Hand.pArr m c) (ConvIdeal.Hand.gArr m c) (ConvIdeal.Hand.wArr m c)
      ∧ r.2.mem ((c.tc : Thread ConvIdeal.nD ConvIdeal.τ).loc ConvIdeal.main_v0_2)
        = ConvSpec.dxin (ConvIdeal.Hand.pArr m c) (ConvIdeal.Hand.gArr m c) (ConvIdeal.Hand.wArr m c)
      ∧ r.2.mem ((c.tc : Thread ConvIdeal.nD ConvIdeal.τ).loc ConvIdeal.main_v0_3)
        = ConvSpec.dw (ConvIdeal.Hand.pArr m c) (ConvIdeal.Hand.gArr m c)
      ∧ r.2.mem ((c.tc : Thread ConvIdeal.nD ConvIdeal.τ).loc ConvIdeal.main_arg0) = m ((c.tc : Thread ConvIdeal.nD ConvIdeal.τ).loc ConvIdeal.main_arg0)
      ∧ r.2.mem ((c.tc : Thread ConvIdeal.nD ConvIdeal.τ).loc ConvIdeal.main_arg1) = m ((c.tc : Thread ConvIdeal.nD ConvIdeal.τ).loc ConvIdeal.main_arg1)
      ∧ r.2.mem ((c.tc : Thread ConvIdeal.nD ConvIdeal.τ).loc ConvIdeal.main_arg2) = m ((c.tc : Thread ConvIdeal.nD ConvIdeal.τ).loc ConvIdeal.main_arg2) :=
  (θ_run (ConvIdeal.defs (F := Ideal)) _ _).mono (fun r h c =>
      ⟨(h c).1.trans (ConvIdeal.Hand.dbg_arr m c), (h c).2.1.trans (ConvIdeal.Hand.dcg_arr m c),
       (h c).2.2.1.trans (ConvIdeal.Hand.dxin_arr m c), (h c).2.2.2.1.trans (ConvIdeal.Hand.dw_arr m c), (h c).2.2.2.2⟩)
    (ConvIdeal.Value.run_blocks (F := Ideal) m ρ)

/-- Equal arguments give equal results, all four of them. -/
theorem algebraic : Cert.algebraic_ConvIdeal_ConvRefIdeal := by
  intro m ρ m' ρ' _ hagree
  refine ⟨fun c => ConvSpec.dbg (ConvIdeal.Hand.pArr m c) (ConvIdeal.Hand.gArr m c) (ConvIdeal.Hand.wArr m c),
    fun c => ConvSpec.dcg (ConvIdeal.Hand.pArr m c) (ConvIdeal.Hand.gArr m c) (ConvIdeal.Hand.wArr m c),
    fun c => ConvSpec.dxin (ConvIdeal.Hand.pArr m c) (ConvIdeal.Hand.gArr m c) (ConvIdeal.Hand.wArr m c),
    fun c => ConvSpec.dw (ConvIdeal.Hand.pArr m c) (ConvIdeal.Hand.gArr m c),
    kernel_run m ρ, (θ_run (ConvRefIdeal.defs (F := Ideal)) _ _).mono (fun r h c => ?_) (ref_run m' ρ')⟩
  have hp : pRef m' c = ConvIdeal.Hand.pArr m c := (hagree c).1
  have hg : gRef m' c = ConvIdeal.Hand.gArr m c := (hagree c).2.1
  have hw : wRef m' c = ConvIdeal.Hand.wArr m c := (hagree c).2.2
  have hc := h c
  rw [hp, hg, hw] at hc
  exact hc

end Cert.ConvClaim

end
-- ==== Proof.Finite.lean ====
module

public import Idealize.ShloMosaic.Lib.Pipeline.ValueKit
public import Idealize.ShloMosaic.Lib.IdealHost

@[expose] public section

/-! Extended reals that are real numbers, and what the operations do to them. -/

noncomputable section

namespace Cert.Finite

open Idealize.ShloMosaic

theorem inf_f32 : Ideal.ofBits .f32 0x7F800000#32 = ⊤ := by simp [Ideal.ofBits, Ideal.ieee]

/-- An entry whose absolute value is below infinity is a real number. -/
theorem real_of_abs {x : EReal} (h : max x (-x) < ⊤) : ∃ r : ℝ, x = (r : EReal) := by
  induction x using EReal.rec with
  | bot => simp at h
  | coe r => exact ⟨r, rfl⟩
  | top => simp at h

/-- The comparison `|x| < ∞` came out true: the entry is a real number. -/
theorem real_of_cmp {x : EReal} (h : Ideal.cmp .olt (max x (-x)) (Ideal.ofBits .f32 0x7F800000#32) = 1#1) :
    ∃ r : ℝ, x = (r : EReal) := by
  rw [inf_f32] at h
  refine real_of_abs ?_
  by_contra hn
  simp [Ideal.cmp, hn] at h

/-- All entries passed the comparison: the vector is a vector of real numbers. -/
theorem lift {ι : Type} {x : ι → EReal} (h : ∀ i, ∃ r : ℝ, x i = (r : EReal)) :
    ∃ X : ι → ℝ, x = fun i => (X i : EReal) :=
  ⟨fun i => (h i).choose, funext fun i => (h i).choose_spec⟩

/-- A sum of real numbers. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers. -/
theorem coe_dot {ι : Type} (s : Finset ι) (f g : ι → ℝ) :
    ∑ i ∈ s, (f i : EReal) * (g i : EReal) = ((∑ i ∈ s, f i * g i : ℝ) : EReal) := by
  rw [← coe_sum]
  exact Finset.sum_congr rfl fun i _ => (EReal.coe_mul _ _).symm

/-- The logistic function of a real number. -/
def sig (a : ℝ) : ℝ := (1 + Real.exp (-a))⁻¹

theorem div_sig (a : ℝ) : Ideal.div 1 (1 + Ideal.exp (-(a : EReal))) = (sig a : EReal) := Ideal.logistic_coe a

theorem div_sig' (a : ℝ) : Ideal.div 1 (1 + Ideal.exp (0 - (a : EReal))) = (sig a : EReal) := by
  rw [zero_sub]; exact Ideal.logistic_coe a

end Cert.Finite

end
-- ==== Proof.NormSpec.lean ====
module

public import proofs.«01_k».proof.Proof.Finite

@[expose] public section

/-! The gradient of the feed-forward layer's modulated norm, written once over the real numbers. -/

noncomputable section

namespace Cert.NormSpec

open Idealize.ShloMosaic

/-- The nine arguments: the two gradients arriving at the matrices, the matrices side by side, the residual stream and the
    branch added to it, the norm's weight, the modulations of this layer and of the branch, the gradient of the residual. -/
structure Args where
  a : (⟨2, ![16384, 2816]⟩ : Shape).Idx → ℝ
  b : (⟨2, ![16384, 2816]⟩ : Shape).Idx → ℝ
  w : (⟨2, ![1024, 5632]⟩ : Shape).Idx → ℝ
  h : (⟨2, ![16384, 1024]⟩ : Shape).Idx → ℝ
  y : (⟨2, ![16384, 1024]⟩ : Shape).Idx → ℝ
  g : (⟨2, ![1, 1024]⟩ : Shape).Idx → ℝ
  md : (⟨2, ![9, 1024]⟩ : Shape).Idx → ℝ
  mp : (⟨2, ![9, 1024]⟩ : Shape).Idx → ℝ
  d : (⟨2, ![16384, 1024]⟩ : Shape).Idx → ℝ

variable (P : Args)

/-- The branch's gate. -/
def gate (j : Fin 1024) : ℝ := 1 / 2 * P.mp (ix2 8 j)
/-- The norm's input. -/
def x (n : Fin 16384) (j : Fin 1024) : ℝ := P.h (ix2 n j) + gate P j * P.y (ix2 n j)
/-- The constant under the root. -/
def eps : ℝ := 8796093 / 8796093022208
/-- The norm's scale from a row's entries. -/
def scaleOf (f : Fin 1024 → ℝ) : ℝ := (Real.sqrt ((∑ j : Fin 1024, f j * f j) * (1 / 1024) + eps))⁻¹
/-- The norm's scale of a row. -/
def r (n : Fin 16384) : ℝ := scaleOf (x P n)
/-- The gradient arriving at the norm. -/
def dn (n : Fin 16384) (j : Fin 1024) : ℝ :=
  ∑ k : Fin 2816, P.a (ix2 n k) * P.w (ix2 j ⟨k.val, by omega⟩)
    + ∑ k : Fin 2816, P.b (ix2 n k) * P.w (ix2 j ⟨2816 + k.val, by omega⟩)
/-- The modulation. -/
def md1 (j : Fin 1024) : ℝ := 1 + P.md (ix2 1 j)
/-- The gradient times the normed input. -/
def t (n : Fin 16384) (j : Fin 1024) : ℝ := dn P n j * (x P n j * r P n)

/-- The gradient of one entry of the norm's input: `c` the weight, `m` the modulation, `ρ` the scale, `D` the arriving
    gradient, `X` the normed input, `T` the product of gradient and normed input along the row, `e` the residual's gradient. -/
def dhOf (ρ : ℝ) (D X T c m : Fin 1024 → ℝ) (e : ℝ) (j : Fin 1024) : ℝ :=
  ρ * (D j * (m j * c j) - X j * ((∑ l : Fin 1024, T l * (m l * c l)) * (1 / 1024))) + e

/-- The gradient of the norm's input. -/
def dh (n : Fin 16384) (j : Fin 1024) : ℝ :=
  dhOf (r P n) (dn P n) (fun l => x P n l * r P n) (t P n) (fun l => P.g (ix2 0 l)) (md1 P) (P.d (ix2 n j)) j

abbrev Tall := (⟨2, ![16384, 1024]⟩ : Shape).Idx → EReal
abbrev Row := (⟨2, ![1, 1024]⟩ : Shape).Idx → EReal

def dhArr : Tall := fun i => ((dh P (i 0) (i 1) : ℝ) : EReal)
def dyArr : Tall := fun i => ((dh P (i 0) (i 1) * gate P (i 1) : ℝ) : EReal)
def dshiftArr : Row := fun i => ((1 * ∑ n : Fin 16384, dn P n (i 1) : ℝ) : EReal)
def dscaleArr : Row := fun i => ((P.g (ix2 0 (i 1)) * ∑ n : Fin 16384, t P n (i 1) : ℝ) : EReal)
def dgArr : Row := fun i => ((md1 P (i 1) * ∑ n : Fin 16384, t P n (i 1) : ℝ) : EReal)
def dgateArr : Row := fun i => ((1 / 2 * ∑ n : Fin 16384, dh P n (i 1) * P.y (ix2 n (i 1)) : ℝ) : EReal)

theorem eps_pos : 0 < eps := by unfold eps; norm_num

theorem under_pos (f : Fin 1024 → ℝ) : 0 < (∑ j : Fin 1024, f j * f j) * (1 / 1024) + eps := by
  have : 0 ≤ ∑ j : Fin 1024, f j * f j := Finset.sum_nonneg fun j _ => mul_self_nonneg _
  have := eps_pos
  positivity

theorem eps_bits : Ideal.ofBits .f32 0x358637BD#32 = ((eps : ℝ) : EReal) := by
  unfold eps
  simp [Ideal.ofBits, Ideal.ieee, -EReal.coe_mul]
  norm_num

theorem half_bits : Ideal.ofBits .f32 0x3F000000#32 = ((1 / 2 : ℝ) : EReal) := by
  simp [Ideal.ofBits, Ideal.ieee, -EReal.coe_mul]
  norm_num

theorem size_bits : Ideal.ofBits .f32 0x44800000#32 = ((1024 : ℝ) : EReal) := by
  simp [Ideal.ofBits, Ideal.ieee, -EReal.coe_mul]
  norm_num

theorem div_size (x : EReal) : Ideal.div x (Ideal.ofBits .f32 0x44800000#32) = x * ((1 / 1024 : ℝ) : EReal) := by
  rw [size_bits]
  exact Ideal.div_coe (by norm_num) x

theorem rsqrt_under (f : Fin 1024 → ℝ) :
    Ideal.rsqrt (((∑ j : Fin 1024, f j * f j) * (1 / 1024) + eps : ℝ) : EReal) = ((scaleOf f : ℝ) : EReal) := by
  rw [Ideal.rsqrt_coe, if_neg (not_lt.mpr (under_pos f).le), if_neg (under_pos f).ne']
  rfl

/-- Adding up the columns block by block: at even points nothing is added, at odd ones the block's rows. -/
theorem total (F : Fin 16384 → ℝ) (κ : ℝ) (f : (t : ℕ) → t < 64 → EReal) (h0 : ∀ (t : ℕ) (h : t < 64), t = 0 → f t h = 0)
    (he : ∀ (t : ℕ) (h : t < 64), t ≠ 0 → t % 2 = 0 → f t h = f (t - 1) (by omega))
    (ho : ∀ (t : ℕ) (h : t < 64), t % 2 = 1 →
      f t h = f (t - 1) (by omega) + ((κ * ∑ r : Fin 512, F ⟨512 * (t / 2) + r.val, by omega⟩ : ℝ) : EReal)) :
    ∀ (t : ℕ) (h : t < 64), t = 63 → f t h = ((κ * ∑ n : Fin 16384, F n : ℝ) : EReal) := by
  let Fe : ℕ → ℝ := fun n => if h : n < 16384 then F ⟨n, h⟩ else 0
  have key : ∀ (t : ℕ) (h : t < 64), f t h = ((κ * ∑ n ∈ Finset.range (512 * ((t + 1) / 2)), Fe n : ℝ) : EReal) := by
    intro t
    induction t with
    | zero => intro h; rw [h0 0 h rfl]; simp
    | succ t ih =>
      intro h
      by_cases hp : (t + 1) % 2 = 0
      · rw [he (t + 1) h (by omega) hp]
        have e : (t + 1 + 1) / 2 = (t + 1) / 2 := by omega
        rw [e]
        exact ih (by omega)
      · rw [ho (t + 1) h (by omega)]
        have e : 512 * ((t + 1 + 1) / 2) = 512 * ((t + 1) / 2) + 512 := by omega
        rw [e, Finset.sum_range_add, mul_add, EReal.coe_add]
        refine congrArg₂ (· + ·) (ih (by omega)) (congrArg (fun s : ℝ => ((κ * s : ℝ) : EReal)) ?_)
        rw [Finset.sum_range]
        refine Finset.sum_congr rfl fun r _ => ?_
        show _ = dite _ _ _
        rw [dif_pos (by omega)]
  intro t h ht
  rw [key t h]
  subst ht
  refine congrArg (fun s : ℝ => ((κ * s : ℝ) : EReal)) ?_
  rw [show 512 * ((63 + 1) / 2) = 16384 from rfl, Finset.sum_range]
  refine Finset.sum_congr rfl fun n _ => ?_
  show dite _ _ _ = _
  rw [dif_pos n.isLt]

/-- A sum over the inner axis, in halves. -/
theorem halves (f : Fin 2816 → ℝ) :
    ∑ k : Fin 2816, f k = ∑ k : Fin 1408, f ⟨k.val, by omega⟩ + ∑ k : Fin 1408, f ⟨1408 + k.val, by omega⟩ :=
  Fin.sum_univ_add (a := 1408) (b := 1408) f

end Cert.NormSpec

end
-- ==== Proof.NormPays.lean ====
module

public import proofs.«01_k».proof.Proof.Gen.NormIdeal.Value
public import Idealize.ShloMosaic.Lib.Pipeline.ReadBack
public import proofs.«01_k».proof.Proof.NormSpec

@[expose] public section

/-! The modulated norm's gradient: what the kernel's pieces compute from blocks with real entries. -/

noncomputable section

namespace Cert.NormIdeal.Hand

open Cert.NormIdeal Cert.NormIdeal.Gen Idealize.ShloMosaic TcCoe Idealize.SL.Sem Cert

abbrev Blk := Vec Idealize.ShloMosaic.Ideal S512x1024 .f32
abbrev Line := Vec Idealize.ShloMosaic.Ideal S1x1024 .f32

/-- The two products of one half. -/
theorem pay5_at {a b : Vec Idealize.ShloMosaic.Ideal S512x1408 .bf16} {w v : Vec Idealize.ShloMosaic.Ideal S1024x1408 .bf16}
    {A B : Fin 512 → Fin 1408 → ℝ} {W U : Fin 1024 → Fin 1408 → ℝ}
    (ha : ∀ r k, a (ix2 r k) = (A r k : EReal)) (hw : ∀ j k, w (ix2 j k) = (W j k : EReal))
    (hb : ∀ r k, b (ix2 r k) = (B r k : EReal)) (hv : ∀ j k, v (ix2 j k) = (U j k : EReal)) (r : Fin 512) (j : Fin 1024) :
    k0_pay5 a w b v (ix2 r j) = ((∑ k : Fin 1408, A r k * W j k + ∑ k : Fin 1408, B r k * U j k : ℝ) : EReal) := by
  pointwise [k0_pay5]
  simp only [ha, hw, hb, hv]
  rw [Finite.coe_dot, Finite.coe_dot, EReal.coe_add]

/-- The other half's products on top of the first's. -/
theorem pay7_at {a b : Vec Idealize.ShloMosaic.Ideal S512x1408 .bf16} {w v : Vec Idealize.ShloMosaic.Ideal S1024x1408 .bf16} {s : Blk}
    {A B : Fin 512 → Fin 1408 → ℝ} {W U : Fin 1024 → Fin 1408 → ℝ} {S : Fin 512 → Fin 1024 → ℝ}
    (ha : ∀ r k, a (ix2 r k) = (A r k : EReal)) (hw : ∀ j k, w (ix2 j k) = (W j k : EReal))
    (hb : ∀ r k, b (ix2 r k) = (B r k : EReal)) (hv : ∀ j k, v (ix2 j k) = (U j k : EReal))
    (hs : ∀ r j, s (ix2 r j) = (S r j : EReal)) (r : Fin 512) (j : Fin 1024) :
    k0_pay7 a w b v s (ix2 r j)
      = ((∑ k : Fin 1408, A r k * W j k + ∑ k : Fin 1408, B r k * U j k + S r j : ℝ) : EReal) := by
  pointwise [k0_pay7]
  simp only [ha, hw, hb, hv, hs]
  rw [Finite.coe_dot, Finite.coe_dot, EReal.coe_add, EReal.coe_add]

/-- The scale of a row. -/
theorem pay9_at {x : Blk} {X : Fin 512 → Fin 1024 → ℝ} (hx : ∀ r j, x (ix2 r j) = (X r j : EReal)) (r : Fin 512) :
    k0_pay9 x (ix2 r 0) = ((NormSpec.scaleOf (X r) : ℝ) : EReal) := by
  pointwise [k0_pay9, k0_pay8]
  simp only [hx]
  rw [Finite.coe_dot]
  exact (congrArg Ideal.rsqrt ((congrArg₂ (· + ·) (NormSpec.div_size _) NormSpec.eps_bits).trans
    (by push_cast; rfl))).trans (NormSpec.rsqrt_under (X r))

/-- The normed input. -/
theorem pay10_at {x : Blk} {X : Fin 512 → Fin 1024 → ℝ} (hx : ∀ r j, x (ix2 r j) = (X r j : EReal)) (r : Fin 512) (j : Fin 1024) :
    k0_pay10 x (ix2 r j) = ((X r j * NormSpec.scaleOf (X r) : ℝ) : EReal) := by
  pointwise [k0_pay10, k0_pay8]
  rw [hx, pay9_at hx, EReal.coe_mul]

/-- The modulation. -/
theorem pay11_at {v : Line} {M : Fin 1024 → ℝ} (hv : ∀ j, v (ix2 0 j) = (M j : EReal)) (j : Fin 1024) :
    k0_pay11 v (ix2 0 j) = ((1 + M j : ℝ) : EReal) := by
  pointwise [k0_pay11]
  rw [hv]
  push_cast
  rfl

/-- A column's sum over the block's rows, on top of what was there. -/
theorem pay14_at {a b : Vec Idealize.ShloMosaic.Ideal S512x1408 .bf16} {w v : Vec Idealize.ShloMosaic.Ideal S1024x1408 .bf16} {s : Blk}
    {D : Fin 512 → Fin 1024 → ℝ} (hD : ∀ r j, k0_pay7 a w b v s (ix2 r j) = (D r j : EReal)) (p : Line) (j : Fin 1024) :
    k0_pay14 a w b v s p (ix2 0 j) = p (ix2 0 j) + ((1 * ∑ r : Fin 512, D r j : ℝ) : EReal) := by
  pointwise [k0_pay14]
  simp only [hD]
  exact congrArg (p (ix2 0 j) + ·) (Finite.coe_sum _ _)

/-- The gradient times the normed input, entry by entry and summed over the block's rows. -/
theorem pay12_at {a b : Vec Idealize.ShloMosaic.Ideal S512x1408 .bf16} {w v : Vec Idealize.ShloMosaic.Ideal S1024x1408 .bf16} {s x : Blk}
    {D X : Fin 512 → Fin 1024 → ℝ} (hD : ∀ r j, k0_pay7 a w b v s (ix2 r j) = (D r j : EReal))
    (hx : ∀ r j, x (ix2 r j) = (X r j : EReal)) (r : Fin 512) (j : Fin 1024) :
    k0_pay12 a w b v s x (ix2 r j) = ((D r j * (X r j * NormSpec.scaleOf (X r)) : ℝ) : EReal) := by
  pointwise [k0_pay12]
  rw [hD, pay10_at hx]
  exact (EReal.coe_mul _ _).symm

theorem pay13_at {a b : Vec Idealize.ShloMosaic.Ideal S512x1408 .bf16} {w v : Vec Idealize.ShloMosaic.Ideal S1024x1408 .bf16} {s x : Blk}
    {T : Fin 512 → Fin 1024 → ℝ} (hT : ∀ r j, k0_pay12 a w b v s x (ix2 r j) = (T r j : EReal)) (j : Fin 1024) :
    k0_pay13 a w b v s x (ix2 0 j) = ((∑ r : Fin 512, T r j : ℝ) : EReal) := by
  pointwise [k0_pay13]
  simp only [hT]
  exact Finite.coe_sum _ _

theorem pay15_at {g q : Line} {G Q : Fin 1024 → ℝ} (hg : ∀ j, g (ix2 0 j) = (G j : EReal))
    (hq : ∀ j, q (ix2 0 j) = (Q j : EReal)) (p : Line) (j : Fin 1024) :
    k0_pay15 g q p (ix2 0 j) = p (ix2 0 j) + ((G j * Q j : ℝ) : EReal) := by
  pointwise [k0_pay15]
  rw [hg, hq, EReal.coe_mul]

theorem pay16_at {g q : Line} {G Q : Fin 1024 → ℝ} (hg : ∀ j, g (ix2 0 j) = (G j : EReal))
    (hq : ∀ j, q (ix2 0 j) = (Q j : EReal)) (p : Line) (j : Fin 1024) :
    k0_pay16 g q p (ix2 0 j) = p (ix2 0 j) + ((G j * Q j : ℝ) : EReal) := by
  pointwise [k0_pay16]
  rw [hg, hq, EReal.coe_mul]

/-- The gradient of the norm's input. -/
theorem pay17_at {d xh tt e : Blk} {g md : Line} {ρ : FVec Idealize.ShloMosaic.Ideal S512x1 .f32}
    {D X T E : Fin 512 → Fin 1024 → ℝ} {G M : Fin 1024 → ℝ} {R : Fin 512 → ℝ}
    (hd : ∀ r j, d (ix2 r j) = (D r j : EReal)) (hg : ∀ j, g (ix2 0 j) = (G j : EReal))
    (hρ : ∀ r, ρ (ix2 r 0) = (R r : EReal)) (hX : ∀ r j, xh (ix2 r j) = (X r j : EReal))
    (hm : ∀ j, md (ix2 0 j) = (M j : EReal)) (hT : ∀ r j, tt (ix2 r j) = (T r j : EReal))
    (hE : ∀ r j, e (ix2 r j) = (E r j : EReal)) (r : Fin 512) (j : Fin 1024) :
    k0_pay17 d g ρ xh md tt e (ix2 r j) = ((NormSpec.dhOf (R r) (D r) (X r) (T r) G M (E r j) j : ℝ) : EReal) := by
  pointwise [k0_pay17]
  simp only [hd, hg, hρ, hX, hm, hT, hE, NormSpec.div_size, ← EReal.coe_mul, Finite.coe_sum]
  simp only [← EReal.coe_mul, ← EReal.coe_add, ← EReal.coe_sub]
  rfl

/-- The gradient of the branch. -/
theorem pay18_at {d xh tt e : Blk} {g md mp : Line} {ρ : FVec Idealize.ShloMosaic.Ideal S512x1 .f32}
    {H : Fin 512 → Fin 1024 → ℝ} {Q : Fin 1024 → ℝ}
    (hH : ∀ r j, k0_pay17 d g ρ xh md tt e (ix2 r j) = (H r j : EReal)) (hq : ∀ j, mp (ix2 0 j) = (Q j : EReal))
    (r : Fin 512) (j : Fin 1024) :
    k0_pay18 d g ρ xh md tt e mp (ix2 r j) = ((H r j * (1 / 2 * Q j) : ℝ) : EReal) := by
  pointwise [k0_pay18]
  rw [hH, hq]
  refine (congrArg (fun z : EReal => (H r j : EReal) * (z * (Q j : EReal))) NormSpec.half_bits).trans ?_
  simp only [← EReal.coe_mul]

/-- The gradient of the branch's gate. -/
theorem pay6_at {h : Blk} {y : Vec Idealize.ShloMosaic.Ideal S512x1024 .bf16} {H Y : Fin 512 → Fin 1024 → ℝ}
    (hH : ∀ r j, h (ix2 r j) = (H r j : EReal)) (hy : ∀ r j, y (ix2 r j) = (Y r j : EReal)) (p : Line) (j : Fin 1024) :
    k0_pay6 h p y (ix2 0 j) = p (ix2 0 j) + ((1 / 2 * ∑ r : Fin 512, H r j * Y r j : ℝ) : EReal) := by
  pointwise [k0_pay6]
  simp only [hH, hy]
  rw [Finite.coe_dot]
  refine (congrArg (fun z : EReal => p (ix2 0 j) + z * ((∑ r : Fin 512, H r j * Y r j : ℝ) : EReal)) NormSpec.half_bits).trans ?_
  simp only [← EReal.coe_mul]

end Cert.NormIdeal.Hand

end
-- ==== Proof.NormBlocks.lean ====
module

public import proofs.«01_k».proof.Proof.NormPays
public import proofs.«01_k».proof.Proof.Reads

@[expose] public section

/-! The modulated norm's gradient: what a grid point reads at real arguments. -/

noncomputable section

namespace Cert.NormIdeal.Hand

open Cert.NormIdeal Cert.NormIdeal.Gen Idealize.ShloMosaic TcCoe Idealize.SL.Sem Cert
open Idealize.ShloMosaic.StableHlo

variable (m : (ℓ : Loc nD τ sig) → Buf (Elt Ideal) ℓ) (c : Dev nD)

/-- The arguments, as launched. -/
abbrev aArr : S16384x2816.Idx → EReal := m (slot c main_arg0)
abbrev bArr : S16384x2816.Idx → EReal := m (slot c main_arg1)
abbrev wArr : S1024x5632.Idx → EReal := m (slot c main_arg2)
abbrev hArr : S16384x1024.Idx → EReal := m (slot c main_arg3)
abbrev yArr : S16384x1024.Idx → EReal := m (slot c main_arg4)
abbrev gArr : S1x1024.Idx → EReal := m (slot c main_arg5)
abbrev mdArr : S9x1024.Idx → EReal := m (slot c main_arg6)
abbrev mpArr : S9x1024.Idx → EReal := m (slot c main_arg7)
abbrev dArr : S16384x1024.Idx → EReal := m (slot c main_arg8)

/-- The arguments are the real arrays `P`. -/
structure At (P : NormSpec.Args) : Prop where
  a : aArr m c = fun i => (P.a i : EReal)
  b : bArr m c = fun i => (P.b i : EReal)
  w : wArr m c = fun i => (P.w i : EReal)
  h : hArr m c = fun i => (P.h i : EReal)
  y : yArr m c = fun i => (P.y i : EReal)
  g : gArr m c = fun i => (P.g i : EReal)
  md : mdArr m c = fun i => (P.md i : EReal)
  mp : mpArr m c = fun i => (P.mp i : EReal)
  d : dArr m c = fun i => (P.d i : EReal)

abbrev Tall32 := FVec Idealize.ShloMosaic.Ideal S16384x1024 .f32

/-- The norm's input as the host spells it. -/
abbrev hVec (h : Tall32) (y : FVec Idealize.ShloMosaic.Ideal S16384x1024 .bf16) (mp : FVec Idealize.ShloMosaic.Ideal S9x1024 .f32) : Tall32 :=
  addf h (mulf (broadcastInDim S16384x1024 ![0, 1] bcast_S1x1024_S16384x1024_0_1
    (mulf (broadcastInDim S1x1024 ![] bcast_S_S1x1024 (constant S_ FTy.f32 0x3F000000#32))
      (extractStridedSlice S1x1024 ![8, 0] mp slices_S9x1024_S1x1024_8_0))) (extf FTy.f32 y bitsLt_bf16_f32))

theorem V_main_v6 : V m c main_v6
    = (hVec (m (slot c main_arg3)) (m (slot c main_arg4)) (m (slot c main_arg7)) : Tall32) := by
  simp only [V, hostOps0, List.flatten_cons, List.flatten_nil, List.append_nil,
    List.cons_append, List.nil_append, TRef.binary, TRef.nullary, TRef.unary, TRef.toBuf, TRef.ofBuf, cast_eq]
  after_results

theorem hVec_at (P : NormSpec.Args) (n : Fin 16384) (j : Fin 1024) :
    hVec (fun i => (P.h i : EReal)) (fun i => (P.y i : EReal)) (fun i => (P.mp i : EReal)) (ix2 n j)
      = ((NormSpec.x P n j : ℝ) : EReal) := by
  pointwise [hVec]
  refine (congrArg (fun z : EReal => (P.h (ix2 n j) : EReal) + z * (P.mp (ix2 8 j) : EReal) * (P.y (ix2 n j) : EReal))
    NormSpec.half_bits).trans ?_
  simp only [← EReal.coe_mul, ← EReal.coe_add]
  rfl

theorem t_lt (t : Fin cfg0.N) : t.val < 64 := lt_of_lt_of_eq t.isLt N_0

/-- Row `r` of point `t`'s blocks, in the whole arrays. -/
def row (t : Fin cfg0.N) (r : Fin 512) : Fin 16384 := ⟨512 * (t.val / 2) + r.val, by have := t_lt t; omega⟩
/-- Column `k` of point `t`'s blocks, in the whole arrays. -/
def half (t : Fin cfg0.N) (k : Fin 1408) : Fin 2816 := ⟨1408 * (t.val % 2) + k.val, by omega⟩
/-- The same column in the first of the two matrices, and in the second. -/
def colA (t : Fin cfg0.N) (k : Fin 1408) : Fin 5632 := ⟨(half t k).val, by have := (half t k).isLt; omega⟩
def colB (t : Fin cfg0.N) (k : Fin 1408) : Fin 5632 := ⟨2816 + (half t k).val, by have := (half t k).isLt; omega⟩

theorem index0 : ∀ t : Fin grid0.N, win0_0.index t = ![t.val / 2, t.val % 2] := by decide +kernel
theorem index1 : ∀ t : Fin grid0.N, win0_1.index t = ![t.val / 2, t.val % 2] := by decide +kernel
theorem index2 : ∀ t : Fin grid0.N, win0_2.index t = ![0, t.val % 2] := by decide +kernel
theorem index3 : ∀ t : Fin grid0.N, win0_3.index t = ![0, t.val % 2 + 2] := by decide +kernel
theorem index4 : ∀ t : Fin grid0.N, win0_4.index t = ![t.val / 2, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val / 2, 0] := by decide +kernel
theorem index8 : ∀ t : Fin grid0.N, win0_8.index t = ![t.val / 2, 0] := by decide +kernel
theorem index9 : ∀ t : Fin grid0.N, win0_9.index t = ![0, 0] := by decide +kernel
theorem index10 : ∀ t : Fin grid0.N, win0_10.index t = ![t.val / 2, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![t.val / 2, 0] := by decide +kernel
theorem index15 : ∀ t : Fin grid0.N, win0_15.index t = ![0, 0] := by decide +kernel

variable {m c} {P : NormSpec.Args}

theorem blk0 (H : At m c P) (t : Fin cfg0.N) (r : Fin 512) (k : Fin 1408) :
    iblk m c 0 t (ix2 r k) = ((P.a (ix2 (row t r) (half t k)) : ℝ) : EReal) := by
  have := t_lt t
  refine Eq.trans (b := aArr m c (ix2 (row t r) (half t k))) (read_at (V_main_arg0 m c) fun a => ?_) (congrFun H.a _)
  match a with
  | ⟨0, _⟩ => blk_simp [index0]; simp [row]; omega
  | ⟨1, _⟩ => blk_simp [index0]; simp [half]; omega

theorem blk1 (H : At m c P) (t : Fin cfg0.N) (r : Fin 512) (k : Fin 1408) :
    iblk m c 1 t (ix2 r k) = ((P.b (ix2 (row t r) (half t k)) : ℝ) : EReal) := by
  have := t_lt t
  refine Eq.trans (b := bArr m c (ix2 (row t r) (half t k))) (read_at (V_main_arg1 m c) fun a => ?_) (congrFun H.b _)
  match a with
  | ⟨0, _⟩ => blk_simp [index1]; simp [row]; omega
  | ⟨1, _⟩ => blk_simp [index1]; simp [half]; omega

theorem blk2 (H : At m c P) (t : Fin cfg0.N) (r : Fin 1024) (k : Fin 1408) :
    iblk m c 2 t (ix2 r k) = ((P.w (ix2 r (colA t k)) : ℝ) : EReal) := by
  have := t_lt t
  refine Eq.trans (b := wArr m c (ix2 r (colA t k))) (read_at (V_main_arg2 m c) fun a => ?_) (congrFun H.w _)
  match a with
  | ⟨0, _⟩ => blk_simp [index2]
  | ⟨1, _⟩ => blk_simp [index2]; simp [colA, half]; omega

theorem blk3 (H : At m c P) (t : Fin cfg0.N) (r : Fin 1024) (k : Fin 1408) :
    iblk m c 3 t (ix2 r k) = ((P.w (ix2 r (colB t k)) : ℝ) : EReal) := by
  have := t_lt t
  refine Eq.trans (b := wArr m c (ix2 r (colB t k))) (read_at (V_main_arg2 m c) fun a => ?_) (congrFun H.w _)
  match a with
  | ⟨0, _⟩ => blk_simp [index3]
  | ⟨1, _⟩ => blk_simp [index3]; simp [colB, half]; omega

theorem blk4 (H : At m c P) (t : Fin cfg0.N) (r : Fin 512) (k : Fin 1024) :
    iblk m c 4 t (ix2 r k) = ((NormSpec.x P (row t r) k : ℝ) : EReal) := by
  have := t_lt t
  unfold iblk
  rw [View.read_apply]
  show V m c main_v6 _ = _
  rw [V_main_v6]
  refine Eq.trans (congrArg _ (?_ : _ = ix2 (row t r) k)) ?_
  · refine funext fun a => Fin.ext ?_
    match a with
    | ⟨0, _⟩ => blk_simp [index4]; simp [row]; omega
    | ⟨1, _⟩ => blk_simp [index4]
  · show hVec (hArr m c) (yArr m c) (mpArr m c) _ = _
    rw [H.h, H.y, H.mp]
    exact hVec_at P _ _

theorem blk5 (H : At m c P) (t : Fin cfg0.N) (r : Fin 1) (k : Fin 1024) :
    iblk m c 5 t (ix2 r k) = ((P.g (ix2 r k) : ℝ) : EReal) := by
  have := t_lt t
  refine Eq.trans (b := gArr m c (ix2 r k)) (read_at (V_main_arg5 m c) fun a => ?_) (congrFun H.g _)
  match a with
  | ⟨0, _⟩ => blk_simp [index5]
  | ⟨1, _⟩ => blk_simp [index5]

theorem blk6 (H : At m c P) (t : Fin cfg0.N) (r : Fin 9) (k : Fin 1024) :
    iblk m c 6 t (ix2 r k) = ((P.md (ix2 r k) : ℝ) : EReal) := by
  have := t_lt t
  refine Eq.trans (b := mdArr m c (ix2 r k)) (read_at (V_main_arg6 m c) fun a => ?_) (congrFun H.md _)
  match a with
  | ⟨0, _⟩ => blk_simp [index6]
  | ⟨1, _⟩ => blk_simp [index6]

theorem blk7 (H : At m c P) (t : Fin cfg0.N) (r : Fin 512) (k : Fin 1024) :
    iblk m c 7 t (ix2 r k) = ((P.d (ix2 (row t r) k) : ℝ) : EReal) := by
  have := t_lt t
  refine Eq.trans (b := dArr m c (ix2 (row t r) k)) (read_at (V_main_arg8 m c) fun a => ?_) (congrFun H.d _)
  match a with
  | ⟨0, _⟩ => blk_simp [index7]; simp [row]; omega
  | ⟨1, _⟩ => blk_simp [index7]

theorem blk8 (H : At m c P) (t : Fin cfg0.N) (r : Fin 512) (k : Fin 1024) :
    iblk m c 8 t (ix2 r k) = ((P.y (ix2 (row t r) k) : ℝ) : EReal) := by
  have := t_lt t
  refine Eq.trans (b := yArr m c (ix2 (row t r) k)) (read_at (V_main_arg4 m c) fun a => ?_) (congrFun H.y _)
  match a with
  | ⟨0, _⟩ => blk_simp [index8]; simp [row]; omega
  | ⟨1, _⟩ => blk_simp [index8]

theorem blk9 (H : At m c P) (t : Fin cfg0.N) (r : Fin 9) (k : Fin 1024) :
    iblk m c 9 t (ix2 r k) = ((P.mp (ix2 r k) : ℝ) : EReal) := by
  have := t_lt t
  refine Eq.trans (b := mpArr m c (ix2 r k)) (read_at (V_main_arg7 m c) fun a => ?_) (congrFun H.mp _)
  match a with
  | ⟨0, _⟩ => blk_simp [index9]
  | ⟨1, _⟩ => blk_simp [index9]

theorem emb10 (t : Fin cfg0.N) (r : Fin 512) (k : Fin 1024) :
    ((cfg0.win 10).blk t).view.emb (ix2 r k) = ix2 (row t r) k := by
  have := t_lt t
  refine funext fun a => Fin.ext ?_
  match a with
  | ⟨0, _⟩ => blk_simp [index10]; simp [row]; omega
  | ⟨1, _⟩ => blk_simp [index10]

theorem emb11 (t : Fin cfg0.N) (r : Fin 1) (k : Fin 1024) :
    ((cfg0.win 11).blk t).view.emb (ix2 r k) = ix2 r k := by
  have := t_lt t
  refine funext fun a => Fin.ext ?_
  match a with
  | ⟨0, _⟩ => blk_simp [index11]
  | ⟨1, _⟩ => blk_simp [index11]

theorem emb12 (t : Fin cfg0.N) (r : Fin 1) (k : Fin 1024) :
    ((cfg0.win 12).blk t).view.emb (ix2 r k) = ix2 r k := by
  have := t_lt t
  refine funext fun a => Fin.ext ?_
  match a with
  | ⟨0, _⟩ => blk_simp [index12]
  | ⟨1, _⟩ => blk_simp [index12]

theorem emb13 (t : Fin cfg0.N) (r : Fin 1) (k : Fin 1024) :
    ((cfg0.win 13).blk t).view.emb (ix2 r k) = ix2 r k := by
  have := t_lt t
  refine funext fun a => Fin.ext ?_
  match a with
  | ⟨0, _⟩ => blk_simp [index13]
  | ⟨1, _⟩ => blk_simp [index13]

theorem emb14 (t : Fin cfg0.N) (r : Fin 512) (k : Fin 1024) :
    ((cfg0.win 14).blk t).view.emb (ix2 r k) = ix2 (row t r) k := by
  have := t_lt t
  refine funext fun a => Fin.ext ?_
  match a with
  | ⟨0, _⟩ => blk_simp [index14]; simp [row]; omega
  | ⟨1, _⟩ => blk_simp [index14]

theorem emb15 (t : Fin cfg0.N) (r : Fin 1) (k : Fin 1024) :
    ((cfg0.win 15).blk t).view.emb (ix2 r k) = ix2 r k := by
  have := t_lt t
  refine funext fun a => Fin.ext ?_
  match a with
  | ⟨0, _⟩ => blk_simp [index15]
  | ⟨1, _⟩ => blk_simp [index15]

/-- The second row of the modulation, and the last of the branch's. -/
theorem md_row (H : At m c P) (t : Fin cfg0.N) (j : Fin 1024) :
    View.ld (iblk m c 6 t) (Rect.unit ![1, 0] ![1, 1024] inb_S9x1024_S1x1024_1_0) (ix2 0 j) = ((P.md (ix2 1 j) : ℝ) : EReal) := by
  refine Eq.trans (View.ld_unit_apply_of (iblk m c 6 t) _ _ _ _ (ix2 1 j) fun a => match a with
    | ⟨0, _⟩ => rfl
    | ⟨1, _⟩ => (Nat.zero_add _).symm) ?_
  exact blk6 H t 1 j

theorem mp_row (H : At m c P) (t : Fin cfg0.N) (j : Fin 1024) :
    View.ld (iblk m c 9 t) (Rect.unit ![8, 0] ![1, 1024] inb_S9x1024_S1x1024_8_0) (ix2 0 j) = ((P.mp (ix2 8 j) : ℝ) : EReal) := by
  refine Eq.trans (View.ld_unit_apply_of (iblk m c 9 t) _ _ _ _ (ix2 8 j) fun a => match a with
    | ⟨0, _⟩ => rfl
    | ⟨1, _⟩ => (Nat.zero_add _).symm) ?_
  exact blk9 H t 8 j

end Cert.NormIdeal.Hand

end
-- ==== Proof.NormPoints.lean ====
module

public import proofs.«01_k».proof.Proof.NormBlocks

@[expose] public section

/-! The modulated norm's gradient: what a grid point leaves at real arguments. Two points share a block of rows: the first
    keeps half of the arriving gradient, the second adds the other half and finishes. -/

noncomputable section

namespace Cert.NormIdeal.Hand

open Cert.NormIdeal Cert.NormIdeal.Gen Idealize.ShloMosaic TcCoe Idealize.SL.Sem Cert

/-- One half of the arriving gradient. -/
def part (P : NormSpec.Args) (n : Fin 16384) (q : ℕ) (hq : q < 2) (j : Fin 1024) : ℝ :=
  ∑ k : Fin 1408, P.a (ix2 n ⟨1408 * q + k.val, by omega⟩) * P.w (ix2 j ⟨1408 * q + k.val, by omega⟩)
    + ∑ k : Fin 1408, P.b (ix2 n ⟨1408 * q + k.val, by omega⟩) * P.w (ix2 j ⟨2816 + (1408 * q + k.val), by omega⟩)

theorem part_congr (P : NormSpec.Args) {n n' : Fin 16384} {q q' : ℕ} (hn : n = n') (h : q = q') (hq : q < 2) (hq' : q' < 2)
    (j : Fin 1024) : part P n q hq j = part P n' q' hq' j := by subst h; subst hn; rfl

theorem dn_parts (P : NormSpec.Args) (n : Fin 16384) (j : Fin 1024) :
    part P n 1 (by omega) j + part P n 0 (by omega) j = NormSpec.dn P n j := by
  unfold NormSpec.dn part
  rw [NormSpec.halves fun k => P.a (ix2 n k) * P.w (ix2 j ⟨k.val, by omega⟩),
    NormSpec.halves fun k => P.b (ix2 n k) * P.w (ix2 j ⟨2816 + k.val, by omega⟩)]
  simp only [Nat.mul_zero, Nat.zero_add, Nat.mul_one]
  ring

variable {m : (ℓ : Loc nD τ sig) → Buf (Elt Ideal) ℓ} {c : Dev nD} {P : NormSpec.Args}

/-- The point before, in the same block of rows. -/
abbrev prev (t : Fin cfg0.N) : t.val - 1 < cfg0.N := Nat.lt_of_le_of_lt (Nat.sub_le _ _) t.isLt

/-- The first point of a block of rows keeps its half. -/
theorem scratch_even (H : At m c P) (t : Fin cfg0.N) (h : t.val % 2 = 0) (r : Fin 512) (j : Fin 1024) :
    (outsAt0 m c t.val t.isLt).2.2.2.2.2.2 (ix2 r j) = ((part P (row t r) (t.val % 2) (by omega) j : ℝ) : EReal) := by
  by_cases h0 : t.val % 64 = 0
  · rw [outsAt0_A m c t h0 h (by omega)]
    dsimp only
    frame_out
    exact pay5_at (fun r k => blk0 H t r k) (fun j k => blk2 H t j k) (fun r k => blk1 H t r k) (fun j k => blk3 H t j k) r j
  · rw [outsAt0_C m c t h0 h (by omega)]
    dsimp only
    frame_out
    exact pay5_at (fun r k => blk0 H t r k) (fun j k => blk2 H t j k) (fun r k => blk1 H t r k) (fun j k => blk3 H t j k) r j

/-- What the second point finds of the first. -/
theorem scratch_prev (H : At m c P) (t : Fin cfg0.N) (h : t.val % 2 = 1) (r : Fin 512) (j : Fin 1024) :
    (outsAt0 m c (t.val - 1) (prev t)).2.2.2.2.2.2 (ix2 r j) = ((part P (row t r) 0 (by omega) j : ℝ) : EReal) := by
  refine (scratch_even H ⟨t.val - 1, prev t⟩ (by show (t.val - 1) % 2 = 0; omega) r j).trans ?_
  refine congrArg Real.toEReal (part_congr P (Fin.ext ?_) (by show (t.val - 1) % 2 = 0; omega) _ _ j)
  show 512 * ((t.val - 1) / 2) + r.val = 512 * (t.val / 2) + r.val
  omega

/-- The arriving gradient, complete. -/
theorem dn_at (H : At m c P) (t : Fin cfg0.N) (h : t.val % 2 = 1) {s : Blk}
    (hs : s = (outsAt0 m c (t.val - 1) (prev t)).2.2.2.2.2.2) (r : Fin 512) (j : Fin 1024) :
    k0_pay7 (iblk m c 0 t) (iblk m c 2 t) (iblk m c 1 t) (iblk m c 3 t) s (ix2 r j) = ((NormSpec.dn P (row t r) j : ℝ) : EReal) := by
  refine (pay7_at (fun r k => blk0 H t r k) (fun j k => blk2 H t j k) (fun r k => blk1 H t r k) (fun j k => blk3 H t j k)
    (S := fun r j => part P (row t r) 0 (by omega) j) (fun r j => by rw [hs]; exact scratch_prev H t h r j) r j).trans ?_
  refine congrArg Real.toEReal (Eq.trans ?_ (dn_parts P (row t r) j))
  exact congrArg (· + part P (row t r) 0 (by omega) j) (part_congr P rfl h (by omega) (by omega) j)

theorem t_at (H : At m c P) (t : Fin cfg0.N) (h : t.val % 2 = 1) {s : Blk}
    (hs : s = (outsAt0 m c (t.val - 1) (prev t)).2.2.2.2.2.2) (r : Fin 512) (j : Fin 1024) :
    k0_pay12 (iblk m c 0 t) (iblk m c 2 t) (iblk m c 1 t) (iblk m c 3 t) s (iblk m c 4 t) (ix2 r j)
      = ((NormSpec.t P (row t r) j : ℝ) : EReal) :=
  pay12_at (D := fun r j => NormSpec.dn P (row t r) j) (X := fun r j => NormSpec.x P (row t r) j)
    (fun r j => dn_at H t h hs r j) (fun r j => blk4 H t r j) r j

theorem tsum_at (H : At m c P) (t : Fin cfg0.N) (h : t.val % 2 = 1) {s : Blk}
    (hs : s = (outsAt0 m c (t.val - 1) (prev t)).2.2.2.2.2.2) (j : Fin 1024) :
    k0_pay13 (iblk m c 0 t) (iblk m c 2 t) (iblk m c 1 t) (iblk m c 3 t) s (iblk m c 4 t) (ix2 0 j)
      = ((∑ r : Fin 512, NormSpec.t P (row t r) j : ℝ) : EReal) :=
  pay13_at (fun r j => t_at H t h hs r j) j

/-- The modulation, as the point reads it. -/
abbrev mdLine (m : (ℓ : Loc nD τ sig) → Buf (Elt Ideal) ℓ) (c : Dev nD) (t : Fin cfg0.N) : Line :=
  k0_pay11 (View.ld (iblk m c 6 t) (Rect.unit ![1, 0] ![1, 1024] inb_S9x1024_S1x1024_1_0))

theorem mdLine_at (H : At m c P) (t : Fin cfg0.N) (j : Fin 1024) : mdLine m c t (ix2 0 j) = ((NormSpec.md1 P j : ℝ) : EReal) :=
  pay11_at (fun j => md_row H t j) j

/-- The gradient of the norm's input. -/
theorem dh_pay (H : At m c P) (t : Fin cfg0.N) (h : t.val % 2 = 1) {s : Blk}
    (hs : s = (outsAt0 m c (t.val - 1) (prev t)).2.2.2.2.2.2) (r : Fin 512) (j : Fin 1024) :
    k0_pay17 (k0_pay7 (iblk m c 0 t) (iblk m c 2 t) (iblk m c 1 t) (iblk m c 3 t) s) (iblk m c 5 t) (k0_pay9 (iblk m c 4 t))
      (k0_pay10 (iblk m c 4 t)) (mdLine m c t)
      (k0_pay12 (iblk m c 0 t) (iblk m c 2 t) (iblk m c 1 t) (iblk m c 3 t) s (iblk m c 4 t)) (iblk m c 7 t) (ix2 r j)
      = ((NormSpec.dh P (row t r) j : ℝ) : EReal) :=
  pay17_at (D := fun r j => NormSpec.dn P (row t r) j) (X := fun r j => NormSpec.x P (row t r) j * NormSpec.r P (row t r))
    (T := fun r j => NormSpec.t P (row t r) j) (E := fun r j => P.d (ix2 (row t r) j)) (G := fun j => P.g (ix2 0 j))
    (M := NormSpec.md1 P) (R := fun r => NormSpec.r P (row t r))
    (fun r j => dn_at H t h hs r j) (fun j => blk5 H t 0 j) (fun r => pay9_at (fun r j => blk4 H t r j) r)
    (fun r j => pay10_at (fun r j => blk4 H t r j) r j) (fun j => mdLine_at H t j)
    (fun r j => t_at H t h hs r j) (fun r j => blk7 H t r j) r j

end Cert.NormIdeal.Hand

end
-- ==== Proof.NormArrays.lean ====
module

public import proofs.«01_k».proof.Proof.NormPoints
public import proofs.«01_k».proof.Proof.Reads

@[expose] public section

/-! The modulated norm's gradient: the six arrays the run leaves, at real arguments. -/

noncomputable section

namespace Cert.NormIdeal.Hand

open Cert.NormIdeal Cert.NormIdeal.Gen Idealize.ShloMosaic TcCoe Idealize.SL.Sem Cert

variable {m : (ℓ : Loc nD τ sig) → Buf (Elt Ideal) ℓ} {c : Dev nD} {P : NormSpec.Args}

theorem dh_at (H : At m c P) (t : Fin cfg0.N) (h : t.val % 2 = 1) (r : Fin 512) (j : Fin 1024) :
    (outsAt0 m c t.val t.isLt).1 (ix2 r j) = NormSpec.dhArr P (ix2 (row t r) j) := by
  rw [outsAt0_B m c t (by omega) (by omega) h]
  dsimp only
  frame_out
  exact dh_pay H t h (Memref.IsWhole.read_unread _ _) r j

theorem dy_at (H : At m c P) (t : Fin cfg0.N) (h : t.val % 2 = 1) (r : Fin 512) (j : Fin 1024) :
    (outsAt0 m c t.val t.isLt).2.2.2.2.1 (ix2 r j) = NormSpec.dyArr P (ix2 (row t r) j) := by
  rw [outsAt0_B m c t (by omega) (by omega) h]
  dsimp only
  frame_out
  exact pay18_at (H := fun r j => NormSpec.dh P (row t r) j) (Q := fun j => P.mp (ix2 8 j))
    (fun r j => dh_pay H t h (Memref.IsWhole.read_unread _ _) r j) (fun j => mp_row H t j) r j

theorem dshift_first (t : Fin cfg0.N) (h : t.val % 64 = 0) (j : Fin 1024) :
    (outsAt0 m c t.val t.isLt).2.1 (ix2 0 j) = 0 := by
  rw [outsAt0_A m c t h (by omega) (by omega)]
  dsimp only
  frame_out
  pointwise [k0_pay1]

theorem dshift_even (t : Fin cfg0.N) (h0 : ¬t.val % 64 = 0) (h : t.val % 2 = 0) (j : Fin 1024) :
    (outsAt0 m c t.val t.isLt).2.1 (ix2 0 j) = (outsAt0 m c (t.val - 1) (prev t)).2.1 (ix2 0 j) := by
  rw [outsAt0_C m c t h0 h (by omega)]
  dsimp only [out0_C_11]

theorem dshift_odd (H : At m c P) (t : Fin cfg0.N) (h : t.val % 2 = 1) (j : Fin 1024) :
    (outsAt0 m c t.val t.isLt).2.1 (ix2 0 j) = (outsAt0 m c (t.val - 1) (prev t)).2.1 (ix2 0 j)
      + ((1 * ∑ r : Fin 512, NormSpec.dn P (row t r) j : ℝ) : EReal) := by
  rw [outsAt0_B m c t (by omega) (by omega) h]
  dsimp only
  frame_out
  exact pay14_at (D := fun r j => NormSpec.dn P (row t r) j) (fun r j => dn_at H t h (Memref.IsWhole.read_unread _ _) r j) _ j

theorem dshift_last (H : At m c P) (t : Fin cfg0.N) (h : t.val = 63) (j : Fin 1024) :
    (outsAt0 m c t.val t.isLt).2.1 (ix2 0 j) = NormSpec.dshiftArr P (ix2 0 j) := by
  have hN : ∀ {n : ℕ}, n < 64 → n < cfg0.N := fun h => lt_of_lt_of_eq h N_0.symm
  exact NormSpec.total (fun n => NormSpec.dn P n j) (1) (fun t h => (outsAt0 m c t (hN h)).2.1 (ix2 0 j))
    (fun t h h0 => dshift_first ⟨t, hN h⟩ (by show t % 64 = 0; omega) j)
    (fun t h h0 h1 => dshift_even ⟨t, hN h⟩ (by show ¬t % 64 = 0; omega) h1 j)
    (fun t h h1 => dshift_odd H ⟨t, hN h⟩ h1 j) t.val (t_lt t) h

theorem dscale_first (t : Fin cfg0.N) (h : t.val % 64 = 0) (j : Fin 1024) :
    (outsAt0 m c t.val t.isLt).2.2.1 (ix2 0 j) = 0 := by
  rw [outsAt0_A m c t h (by omega) (by omega)]
  dsimp only
  frame_out
  pointwise [k0_pay2]

theorem dscale_even (t : Fin cfg0.N) (h0 : ¬t.val % 64 = 0) (h : t.val % 2 = 0) (j : Fin 1024) :
    (outsAt0 m c t.val t.isLt).2.2.1 (ix2 0 j) = (outsAt0 m c (t.val - 1) (prev t)).2.2.1 (ix2 0 j) := by
  rw [outsAt0_C m c t h0 h (by omega)]
  dsimp only [out0_C_12]

theorem dscale_odd (H : At m c P) (t : Fin cfg0.N) (h : t.val % 2 = 1) (j : Fin 1024) :
    (outsAt0 m c t.val t.isLt).2.2.1 (ix2 0 j) = (outsAt0 m c (t.val - 1) (prev t)).2.2.1 (ix2 0 j)
      + ((P.g (ix2 0 j) * ∑ r : Fin 512, NormSpec.t P (row t r) j : ℝ) : EReal) := by
  rw [outsAt0_B m c t (by omega) (by omega) h]
  dsimp only
  frame_out
  exact pay15_at (G := fun j => P.g (ix2 0 j)) (fun j => blk5 H t 0 j) (fun j => tsum_at H t h (Memref.IsWhole.read_unread _ _) j) _ j

theorem dscale_last (H : At m c P) (t : Fin cfg0.N) (h : t.val = 63) (j : Fin 1024) :
    (outsAt0 m c t.val t.isLt).2.2.1 (ix2 0 j) = NormSpec.dscaleArr P (ix2 0 j) := by
  have hN : ∀ {n : ℕ}, n < 64 → n < cfg0.N := fun h => lt_of_lt_of_eq h N_0.symm
  exact NormSpec.total (fun n => NormSpec.t P n j) (P.g (ix2 0 j)) (fun t h => (outsAt0 m c t (hN h)).2.2.1 (ix2 0 j))
    (fun t h h0 => dscale_first ⟨t, hN h⟩ (by show t % 64 = 0; omega) j)
    (fun t h h0 h1 => dscale_even ⟨t, hN h⟩ (by show ¬t % 64 = 0; omega) h1 j)
    (fun t h h1 => dscale_odd H ⟨t, hN h⟩ h1 j) t.val (t_lt t) h

theorem dg_first (t : Fin cfg0.N) (h : t.val % 64 = 0) (j : Fin 1024) :
    (outsAt0 m c t.val t.isLt).2.2.2.1 (ix2 0 j) = 0 := by
  rw [outsAt0_A m c t h (by omega) (by omega)]
  dsimp only
  frame_out
  pointwise [k0_pay3]

theorem dg_even (t : Fin cfg0.N) (h0 : ¬t.val % 64 = 0) (h : t.val % 2 = 0) (j : Fin 1024) :
    (outsAt0 m c t.val t.isLt).2.2.2.1 (ix2 0 j) = (outsAt0 m c (t.val - 1) (prev t)).2.2.2.1 (ix2 0 j) := by
  rw [outsAt0_C m c t h0 h (by omega)]
  dsimp only [out0_C_13]

theorem dg_odd (H : At m c P) (t : Fin cfg0.N) (h : t.val % 2 = 1) (j : Fin 1024) :
    (outsAt0 m c t.val t.isLt).2.2.2.1 (ix2 0 j) = (outsAt0 m c (t.val - 1) (prev t)).2.2.2.1 (ix2 0 j)
      + ((NormSpec.md1 P j * ∑ r : Fin 512, NormSpec.t P (row t r) j : ℝ) : EReal) := by
  rw [outsAt0_B m c t (by omega) (by omega) h]
  dsimp only
  frame_out
  exact pay16_at (fun j => mdLine_at H t j) (fun j => tsum_at H t h (Memref.IsWhole.read_unread _ _) j) _ j

theorem dg_last (H : At m c P) (t : Fin cfg0.N) (h : t.val = 63) (j : Fin 1024) :
    (outsAt0 m c t.val t.isLt).2.2.2.1 (ix2 0 j) = NormSpec.dgArr P (ix2 0 j) := by
  have hN : ∀ {n : ℕ}, n < 64 → n < cfg0.N := fun h => lt_of_lt_of_eq h N_0.symm
  exact NormSpec.total (fun n => NormSpec.t P n j) (NormSpec.md1 P j) (fun t h => (outsAt0 m c t (hN h)).2.2.2.1 (ix2 0 j))
    (fun t h h0 => dg_first ⟨t, hN h⟩ (by show t % 64 = 0; omega) j)
    (fun t h h0 h1 => dg_even ⟨t, hN h⟩ (by show ¬t % 64 = 0; omega) h1 j)
    (fun t h h1 => dg_odd H ⟨t, hN h⟩ h1 j) t.val (t_lt t) h

theorem dgate_first (t : Fin cfg0.N) (h : t.val % 64 = 0) (j : Fin 1024) :
    (outsAt0 m c t.val t.isLt).2.2.2.2.2.1 (ix2 0 j) = 0 := by
  rw [outsAt0_A m c t h (by omega) (by omega)]
  dsimp only
  frame_out
  pointwise [k0_pay4]

theorem dgate_even (t : Fin cfg0.N) (h0 : ¬t.val % 64 = 0) (h : t.val % 2 = 0) (j : Fin 1024) :
    (outsAt0 m c t.val t.isLt).2.2.2.2.2.1 (ix2 0 j) = (outsAt0 m c (t.val - 1) (prev t)).2.2.2.2.2.1 (ix2 0 j) := by
  rw [outsAt0_C m c t h0 h (by omega)]
  dsimp only [out0_C_15]

theorem dgate_odd (H : At m c P) (t : Fin cfg0.N) (h : t.val % 2 = 1) (j : Fin 1024) :
    (outsAt0 m c t.val t.isLt).2.2.2.2.2.1 (ix2 0 j) = (outsAt0 m c (t.val - 1) (prev t)).2.2.2.2.2.1 (ix2 0 j)
      + ((1 / 2 * ∑ r : Fin 512, NormSpec.dh P (row t r) j * P.y (ix2 (row t r) j) : ℝ) : EReal) := by
  rw [outsAt0_B m c t (by omega) (by omega) h]
  dsimp only
  frame_out
  exact pay6_at (H := fun r j => NormSpec.dh P (row t r) j) (Y := fun r j => P.y (ix2 (row t r) j))
    (fun r j => dh_pay H t h (Memref.IsWhole.read_unread _ _) r j) (fun r j => blk8 H t r j) _ j

theorem dgate_last (H : At m c P) (t : Fin cfg0.N) (h : t.val = 63) (j : Fin 1024) :
    (outsAt0 m c t.val t.isLt).2.2.2.2.2.1 (ix2 0 j) = NormSpec.dgateArr P (ix2 0 j) := by
  have hN : ∀ {n : ℕ}, n < 64 → n < cfg0.N := fun h => lt_of_lt_of_eq h N_0.symm
  exact NormSpec.total (fun n => NormSpec.dh P n j * P.y (ix2 n j)) (1 / 2) (fun t h => (outsAt0 m c t (hN h)).2.2.2.2.2.1 (ix2 0 j))
    (fun t h h0 => dgate_first ⟨t, hN h⟩ (by show t % 64 = 0; omega) j)
    (fun t h h0 h1 => dgate_even ⟨t, hN h⟩ (by show ¬t % 64 = 0; omega) h1 j)
    (fun t h h1 => dgate_odd H ⟨t, hN h⟩ h1 j) t.val (t_lt t) h

theorem flush10 : ∀ t : Fin grid0.N, (cfg0.win 10).flush t = true → t.val % 2 = 1 := by decide +kernel

theorem dh_arr (H : At m c P) : (dats m 0 c).arrAt 10 cfg0.N = NormSpec.dhArr P := by
  refine (dats m 0 c).arrAt_eq_of_covers 10 _ (by decide +kernel) fun t hf y => ?_
  rw [after0_10]
  obtain ⟨r, k, rfl⟩ := pair y
  rw [emb10]
  exact dh_at H t (flush10 t hf) r k

theorem flush14 : ∀ t : Fin grid0.N, (cfg0.win 14).flush t = true → t.val % 2 = 1 := by decide +kernel

theorem dy_arr (H : At m c P) : (dats m 0 c).arrAt 14 cfg0.N = NormSpec.dyArr P := by
  refine (dats m 0 c).arrAt_eq_of_covers 14 _ (by decide +kernel) fun t hf y => ?_
  rw [after0_14]
  obtain ⟨r, k, rfl⟩ := pair y
  rw [emb14]
  exact dy_at H t (flush14 t hf) r k

theorem flush11 : ∀ t : Fin grid0.N, (cfg0.win 11).flush t = true → t.val = 63 := by decide +kernel

theorem dshift_arr (H : At m c P) : (dats m 0 c).arrAt 11 cfg0.N = NormSpec.dshiftArr P := by
  refine (dats m 0 c).arrAt_eq_of_covers 11 _ (by decide +kernel) fun t hf y => ?_
  rw [after0_11]
  obtain ⟨r, k, rfl⟩ := pair y
  obtain rfl : r = 0 := Subsingleton.elim _ _
  rw [emb11]
  exact dshift_last H t (flush11 t hf) k

theorem flush12 : ∀ t : Fin grid0.N, (cfg0.win 12).flush t = true → t.val = 63 := by decide +kernel

theorem dscale_arr (H : At m c P) : (dats m 0 c).arrAt 12 cfg0.N = NormSpec.dscaleArr P := by
  refine (dats m 0 c).arrAt_eq_of_covers 12 _ (by decide +kernel) fun t hf y => ?_
  rw [after0_12]
  obtain ⟨r, k, rfl⟩ := pair y
  obtain rfl : r = 0 := Subsingleton.elim _ _
  rw [emb12]
  exact dscale_last H t (flush12 t hf) k

theorem flush13 : ∀ t : Fin grid0.N, (cfg0.win 13).flush t = true → t.val = 63 := by decide +kernel

theorem dg_arr (H : At m c P) : (dats m 0 c).arrAt 13 cfg0.N = NormSpec.dgArr P := by
  refine (dats m 0 c).arrAt_eq_of_covers 13 _ (by decide +kernel) fun t hf y => ?_
  rw [after0_13]
  obtain ⟨r, k, rfl⟩ := pair y
  obtain rfl : r = 0 := Subsingleton.elim _ _
  rw [emb13]
  exact dg_last H t (flush13 t hf) k

theorem flush15 : ∀ t : Fin grid0.N, (cfg0.win 15).flush t = true → t.val = 63 := by decide +kernel

theorem dgate_arr (H : At m c P) : (dats m 0 c).arrAt 15 cfg0.N = NormSpec.dgateArr P := by
  refine (dats m 0 c).arrAt_eq_of_covers 15 _ (by decide +kernel) fun t hf y => ?_
  rw [after0_15]
  obtain ⟨r, k, rfl⟩ := pair y
  obtain rfl : r = 0 := Subsingleton.elim _ _
  rw [emb15]
  exact dgate_last H t (flush15 t hf) k

end Cert.NormIdeal.Hand

end
-- ==== Proof.NormRefValue.lean ====
module

public import proofs.«01_k».proof.Proof.Gen.NormRefIdeal.Read
public import proofs.«01_k».proof.Proof.NormSpec
public import proofs.«01_k».proof.Proof.Reads

@[expose] public section

/-! The modulated norm's gradient: what the reference computes at real arguments. -/

noncomputable section

namespace Cert.NormRefIdeal.Hand

open Cert.NormRefIdeal Cert.NormRefIdeal.Read Idealize.ShloMosaic Cert

variable (P : NormSpec.Args)

abbrev A : S16384x2816.Idx → EReal := fun i => (P.a i : EReal)
abbrev B : S16384x2816.Idx → EReal := fun i => (P.b i : EReal)
abbrev W : S1024x5632.Idx → EReal := fun i => (P.w i : EReal)
abbrev H : S16384x1024.Idx → EReal := fun i => (P.h i : EReal)
abbrev Y : S16384x1024.Idx → EReal := fun i => (P.y i : EReal)
abbrev G : S1x1024.Idx → EReal := fun i => (P.g i : EReal)
abbrev Md : S9x1024.Idx → EReal := fun i => (P.md i : EReal)
abbrev Mp : S9x1024.Idx → EReal := fun i => (P.mp i : EReal)
abbrev Dr : S16384x1024.Idx → EReal := fun i => (P.d i : EReal)

/-- What stands under the root. -/
def under (n : Fin 16384) : ℝ := (∑ j : Fin 1024, NormSpec.x P n j * NormSpec.x P n j) * (1 / 1024) + NormSpec.eps

theorem under_pos (n : Fin 16384) : 0 < under P n := NormSpec.under_pos (NormSpec.x P n)

theorem r_sq (n : Fin 16384) : 1 / under P n = NormSpec.r P n * NormSpec.r P n := by
  show _ = (Real.sqrt (under P n))⁻¹ * (Real.sqrt (under P n))⁻¹
  rw [← mul_inv, Real.mul_self_sqrt (under_pos P n).le, one_div]

theorem neg_half_bits : Ideal.ofBits .f32 0xBF000000#32 = ((-(1 / 2) : ℝ) : EReal) := by
  simp [Ideal.ofBits, Ideal.ieee, -EReal.coe_mul]
  norm_num

theorem gate_eq (j : Fin 1024) : val_main_v8 (F := Ideal) (Mp P) (ix2 0 j) = ((NormSpec.gate P j : ℝ) : EReal) := by
  pointwise [val_main_v8, val_main_v7, val_main_v4, val_main_cst]
  refine (congrArg (fun z : EReal => z * (P.mp (ix2 8 j) : EReal)) NormSpec.half_bits).trans ?_
  simp only [← EReal.coe_mul]
  rfl

theorem x_eq (n : Fin 16384) (j : Fin 1024) :
    val_main_v11 (F := Ideal) (H P) (Y P) (Mp P) (ix2 n j) = ((NormSpec.x P n j : ℝ) : EReal) := by
  pointwise [val_main_v11, val_main_v10, val_main_v9, val_main_v3]
  rw [gate_eq]
  simp only [← EReal.coe_mul, ← EReal.coe_add]
  rfl

theorem under_eq (n : Fin 16384) :
    val_main_v18 (F := Ideal) (H P) (Y P) (Mp P) (ix2 n 0) = ((under P n : ℝ) : EReal) := by
  pointwise [val_main_v18, val_main_v17, val_main_v16, val_main_v15, val_main_v14, val_main_v13, val_main_v12,
    val_main_cst_0, val_main_cst_1, val_main_cst_2]
  simp only [x_eq]
  rw [Finite.coe_dot]
  exact (congrArg₂ (· + ·) (NormSpec.div_size _) NormSpec.eps_bits).trans (by unfold under; push_cast; rfl)

theorem r_eq (n : Fin 16384) :
    val_main_v19 (F := Ideal) (H P) (Y P) (Mp P) (ix2 n 0) = ((NormSpec.r P n : ℝ) : EReal) := by
  pointwise [val_main_v19]
  rw [under_eq]
  exact NormSpec.rsqrt_under (NormSpec.x P n)

theorem slope_eq (n : Fin 16384) :
    val_main_v22 (F := Ideal) (H P) (Y P) (Mp P) (ix2 n 0)
      = ((-(1 / 2) * (NormSpec.r P n * (NormSpec.r P n * NormSpec.r P n)) : ℝ) : EReal) := by
  pointwise [val_main_v22, val_main_v21, val_main_v20, val_main_cst_3]
  rw [under_eq, r_eq, Ideal.div_coe (under_pos P n).ne', r_sq]
  refine (congrArg (fun z : EReal => z * ((NormSpec.r P n : EReal) * ((NormSpec.r P n * NormSpec.r P n : ℝ) : EReal)))
    neg_half_bits).trans ?_
  simp only [← EReal.coe_mul]

theorem xh_eq (n : Fin 16384) (j : Fin 1024) :
    val_main_v24 (F := Ideal) (H P) (Y P) (Mp P) (ix2 n j) = ((NormSpec.x P n j * NormSpec.r P n : ℝ) : EReal) := by
  pointwise [val_main_v24, val_main_v23]
  rw [x_eq, r_eq, EReal.coe_mul]

theorem xg_eq (n : Fin 16384) (j : Fin 1024) :
    val_main_v26 (F := Ideal) (H P) (Y P) (G P) (Mp P) (ix2 n j)
      = ((NormSpec.x P n j * NormSpec.r P n * P.g (ix2 0 j) : ℝ) : EReal) := by
  pointwise [val_main_v26, val_main_v25]
  rw [xh_eq, EReal.coe_mul _ (P.g (ix2 0 j))]

theorem md_eq (j : Fin 1024) : val_main_v28 (F := Ideal) (Md P) (ix2 0 j) = ((NormSpec.md1 P j : ℝ) : EReal) := by
  pointwise [val_main_v28, val_main_v27, val_main_v6, val_main_cst_4]
  rw [← EReal.coe_one, ← EReal.coe_add]
  rfl

theorem dn_eq (n : Fin 16384) (j : Fin 1024) :
    val_main_v39 (F := Ideal) (A P) (B P) (W P) (ix2 n j) = ((NormSpec.dn P n j : ℝ) : EReal) := by
  pointwise [val_main_v39, val_main_v38, val_main_v37, val_main_v36, val_main_v35, val_main_v2, val_main_v1, val_main_v0]
  unfold NormSpec.dn
  rw [EReal.coe_add, add_comm]
  exact congrArg₂ (· + ·) (Finite.coe_dot _ _ _) (Finite.coe_dot _ _ _)

theorem dm_eq (n : Fin 16384) (j : Fin 1024) :
    val_main_v46 (F := Ideal) (A P) (B P) (W P) (Md P) (ix2 n j) = ((NormSpec.dn P n j * NormSpec.md1 P j : ℝ) : EReal) := by
  pointwise [val_main_v46, val_main_v45]
  rw [dn_eq, md_eq, EReal.coe_mul]

theorem dmg_eq (n : Fin 16384) (j : Fin 1024) :
    val_main_v51 (F := Ideal) (A P) (B P) (W P) (G P) (Md P) (ix2 n j)
      = ((NormSpec.dn P n j * NormSpec.md1 P j * P.g (ix2 0 j) : ℝ) : EReal) := by
  pointwise [val_main_v51, val_main_v50]
  rw [dm_eq, EReal.coe_mul _ (P.g (ix2 0 j))]

/-- The sum along a row. -/
def rowSum (n : Fin 16384) : ℝ := ∑ j : Fin 1024, NormSpec.x P n j * (NormSpec.dn P n j * NormSpec.md1 P j * P.g (ix2 0 j))

theorem rowSum_eq (n : Fin 16384) :
    val_main_v54 (F := Ideal) (A P) (B P) (W P) (H P) (Y P) (G P) (Md P) (Mp P) (ix2 n 0) = ((rowSum P n : ℝ) : EReal) := by
  pointwise [val_main_v54, val_main_v53, val_main_v52, val_main_cst_8]
  simp only [x_eq, dmg_eq]
  exact Finite.coe_dot _ _ _

/-- What the root's derivative contributes to a row. -/
def pull (n : Fin 16384) : ℝ :=
  rowSum P n * (-(1 / 2) * (NormSpec.r P n * (NormSpec.r P n * NormSpec.r P n))) * (1 / 1024)

theorem pull_eq (n : Fin 16384) (j : Fin 1024) :
    val_main_v62 (F := Ideal) (A P) (B P) (W P) (H P) (Y P) (G P) (Md P) (Mp P) (ix2 n j) = ((pull P n : ℝ) : EReal) := by
  pointwise [val_main_v62, val_main_v61, val_main_v60, val_main_v59, val_main_v58, val_main_cst_9, val_main_cst_10]
  rw [Fin.sum_univ_one, rowSum_eq, slope_eq]
  refine (NormSpec.div_size _).trans ?_
  simp only [← EReal.coe_mul]
  rfl

theorem dh_real (n : Fin 16384) (j : Fin 1024) :
    P.d (ix2 n j) + NormSpec.dn P n j * NormSpec.md1 P j * P.g (ix2 0 j) * NormSpec.r P n + NormSpec.x P n j * pull P n
      + pull P n * NormSpec.x P n j = NormSpec.dh P n j := by
  have e : ∑ l : Fin 1024, NormSpec.t P n l * (NormSpec.md1 P l * P.g (ix2 0 l)) = NormSpec.r P n * rowSum P n := by
    unfold rowSum NormSpec.t
    rw [Finset.mul_sum]
    exact Finset.sum_congr rfl fun l _ => by ring
  unfold NormSpec.dh NormSpec.dhOf
  rw [e]
  unfold pull
  ring

theorem dh_at (n : Fin 16384) (j : Fin 1024) :
    val_main_v66 (F := Ideal) (A P) (B P) (W P) (H P) (Y P) (G P) (Md P) (Mp P) (Dr P) (ix2 n j)
      = ((NormSpec.dh P n j : ℝ) : EReal) := by
  pointwise [val_main_v66, val_main_v65, val_main_v64, val_main_v63, val_main_v57, val_main_v56, val_main_v55]
  rw [dmg_eq, r_eq, x_eq, pull_eq, ← dh_real]
  simp only [← EReal.coe_mul, ← EReal.coe_add]

theorem dh_eq : val_main_v66 (F := Ideal) (A P) (B P) (W P) (H P) (Y P) (G P) (Md P) (Mp P) (Dr P) = NormSpec.dhArr P := by
  funext i
  obtain ⟨n, j, rfl⟩ := pair i
  exact dh_at P n j

theorem dh_cast_at (n : Fin 16384) (j : Fin 1024) :
    val_main_v67 (F := Ideal) (A P) (B P) (W P) (H P) (Y P) (G P) (Md P) (Mp P) (Dr P) (ix2 n j)
      = ((NormSpec.dh P n j : ℝ) : EReal) := by
  pointwise [val_main_v67]
  exact dh_at P n j

theorem dy_eq : val_main_v75 (F := Ideal) (A P) (B P) (W P) (H P) (Y P) (G P) (Md P) (Mp P) (Dr P) = NormSpec.dyArr P := by
  funext i
  obtain ⟨n, j, rfl⟩ := pair i
  pointwise [val_main_v75, val_main_v69, val_main_v68]
  rw [dh_cast_at, gate_eq, mul_comm, ← EReal.coe_mul]
  rfl

theorem row_ix (i : S1x1024.Idx) : ∃ j : Fin 1024, i = ix2 0 j :=
  ⟨i 1, (eq_ix2 i).trans (congrArg (fun z : Fin 1 => ix2 z (i 1)) (Subsingleton.elim _ _))⟩

theorem dshift_eq : val_main_v41 (F := Ideal) (A P) (B P) (W P) = NormSpec.dshiftArr P := by
  funext i
  obtain ⟨j, rfl⟩ := row_ix i
  pointwise [val_main_v41, val_main_v40, val_main_cst_5]
  simp only [dn_eq]
  rw [Finite.coe_sum]
  show _ = ((1 * ∑ n : Fin 16384, NormSpec.dn P n j : ℝ) : EReal)
  rw [one_mul]

theorem dscale_eq : val_main_v44 (F := Ideal) (A P) (B P) (W P) (H P) (Y P) (G P) (Mp P) = NormSpec.dscaleArr P := by
  funext i
  obtain ⟨j, rfl⟩ := row_ix i
  pointwise [val_main_v44, val_main_v43, val_main_v42, val_main_cst_6]
  simp only [dn_eq, xg_eq]
  rw [Finite.coe_dot]
  show _ = ((P.g (ix2 0 j) * ∑ n : Fin 16384, NormSpec.t P n j : ℝ) : EReal)
  rw [Finset.mul_sum]
  exact congrArg Real.toEReal (Finset.sum_congr rfl fun n _ => by unfold NormSpec.t; ring)

theorem dg_eq : val_main_v49 (F := Ideal) (A P) (B P) (W P) (H P) (Y P) (Md P) (Mp P) = NormSpec.dgArr P := by
  funext i
  obtain ⟨j, rfl⟩ := row_ix i
  pointwise [val_main_v49, val_main_v48, val_main_v47, val_main_cst_7]
  simp only [dm_eq, xh_eq]
  rw [Finite.coe_dot]
  show _ = ((NormSpec.md1 P j * ∑ n : Fin 16384, NormSpec.t P n j : ℝ) : EReal)
  rw [Finset.mul_sum]
  exact congrArg Real.toEReal (Finset.sum_congr rfl fun n _ => by unfold NormSpec.t; ring)

theorem dgate_eq :
    val_main_v74 (F := Ideal) (A P) (B P) (W P) (H P) (Y P) (G P) (Md P) (Mp P) (Dr P) = NormSpec.dgateArr P := by
  funext i
  obtain ⟨j, rfl⟩ := row_ix i
  pointwise [val_main_v74, val_main_v73, val_main_v72, val_main_v71, val_main_v70, val_main_v3, val_main_cst_11,
    val_main_cst_12]
  simp only [dh_cast_at]
  rw [Finite.coe_dot]
  refine (congrArg (fun z : EReal => z * ((∑ n : Fin 16384, NormSpec.dh P n j * P.y (ix2 n j) : ℝ) : EReal))
    NormSpec.half_bits).trans ?_
  simp only [← EReal.coe_mul]
  rfl

end Cert.NormRefIdeal.Hand

end
-- ==== Proof.NormClaim.lean ====
module

public import proofs.«01_k».proof.Defs
public import proofs.«01_k».proof.Proof.Gen.Norm.Frame
public import proofs.«01_k».proof.Proof.Gen.Pre_finite_norm
public import proofs.«01_k».proof.Proof.NormArrays
public import proofs.«01_k».proof.Proof.NormRefValue
public import proofs.«01_k».proof.Proof.Gen.NormRefIdeal.Run
public import proofs.«01_k».proof.Proof.Reads

@[expose] public section

/-! The five claims about the gradient of the modulated norm, the last of them at arguments that are real numbers. -/

noncomputable section

namespace Cert.NormClaim

open Idealize.ShloMosaic TcCoe Idealize.SL.Sem Cert

theorem frame : Cert.quiescent_Norm := fun m ρ _ => Cert.Norm.Gen.frame m ρ

theorem frame_ideal : Cert.quiescent_NormIdeal := fun m ρ _ => Cert.NormIdeal.Gen.frame m ρ

theorem frame_ideal_pre : Cert.quiescent_NormIdeal_pre_finite_norm := fun m ρ _ => Cert.NormIdeal.Gen.frame m ρ

/-- The reference runs on the host and has no counter. -/
theorem frame_ref : Cert.quiescent_NormRefIdeal := fun m ρ _ =>
  (θ_run Cert.NormRefIdeal.defs _ _).mono
    (fun r h => ⟨fun c => (h c).2.2.2.2.2.2, sem_eq_zero_of_no_sems (by decide) r.2⟩)
    (Cert.NormRefIdeal.Value.run (F := Ideal) m ρ)

theorem frame_ref_pre : Cert.quiescent_NormRefIdeal_pre_finite_norm := fun m ρ _ => frame_ref m ρ trivial

theorem preserves : Cert.preserves_Norm_NormIdeal := trivial

section
open Cert.NormIdeal Cert.NormIdeal.Hand

variable (m : (ℓ : Loc nD τ sig) → Buf (Elt Ideal) ℓ) (c : Dev nD)

/-- The precondition says that every entry of every argument is a real number. -/
theorem args_real (h : Cert.Pre_NormIdeal_finite_norm m) : ∃ P : NormSpec.Args, At m c P := by
  obtain ⟨h0, h1, h2, h3, h4, h5, h6, h7, h8⟩ := h c
  obtain ⟨p0, e0⟩ := Finite.lift (x := aArr m c) fun i => Finite.real_of_cmp (congrFun h0 i)
  obtain ⟨p1, e1⟩ := Finite.lift (x := bArr m c) fun i => Finite.real_of_cmp (congrFun h1 i)
  obtain ⟨p2, e2⟩ := Finite.lift (x := wArr m c) fun i => Finite.real_of_cmp (congrFun h2 i)
  obtain ⟨p3, e3⟩ := Finite.lift (x := hArr m c) fun i => Finite.real_of_cmp (congrFun h3 i)
  obtain ⟨p4, e4⟩ := Finite.lift (x := yArr m c) fun i => Finite.real_of_cmp (congrFun h4 i)
  obtain ⟨p5, e5⟩ := Finite.lift (x := gArr m c) fun i => Finite.real_of_cmp (congrFun h5 i)
  obtain ⟨p6, e6⟩ := Finite.lift (x := mdArr m c) fun i => Finite.real_of_cmp (congrFun h6 i)
  obtain ⟨p7, e7⟩ := Finite.lift (x := mpArr m c) fun i => Finite.real_of_cmp (congrFun h7 i)
  obtain ⟨p8, e8⟩ := Finite.lift (x := dArr m c) fun i => Finite.real_of_cmp (congrFun h8 i)
  exact ⟨⟨p0, p1, p2, p3, p4, p5, p6, p7, p8⟩, ⟨e0, e1, e2, e3, e4, e5, e6, e7, e8⟩⟩

end

section
open Cert.NormRefIdeal

variable (m : (ℓ : Loc nD τ sig) → Buf (Elt Ideal) ℓ) (c : Dev nD)

/-- The reference's arguments, as launched. -/
abbrev aRef : S16384x2816.Idx → EReal := m (slot c main_arg0)
abbrev bRef : S16384x2816.Idx → EReal := m (slot c main_arg1)
abbrev wRef : S1024x5632.Idx → EReal := m (slot c main_arg2)
abbrev hRef : S16384x1024.Idx → EReal := m (slot c main_arg3)
abbrev yRef : S16384x1024.Idx → EReal := m (slot c main_arg4)
abbrev gRef : S1x1024.Idx → EReal := m (slot c main_arg5)
abbrev mdRef : S9x1024.Idx → EReal := m (slot c main_arg6)
abbrev mpRef : S9x1024.Idx → EReal := m (slot c main_arg7)
abbrev dRef : S16384x1024.Idx → EReal := m (slot c main_arg8)

/-- The reference's run, its results named by its own stages. -/
theorem ref_run (ρ : Dev nD → PrngReg) :
    θ_run (defs (F := Ideal)) (onTc (τ := τ) (main (F := Ideal))) ⟨m, fun _ => 0, ρ⟩ fun r => ∀ c : Dev nD,
      r.2.mem (slot c main_v66) = Read.val_main_v66 (aRef m c) (bRef m c) (wRef m c) (hRef m c) (yRef m c) (gRef m c) (mdRef m c) (mpRef m c) (dRef m c)
      ∧ r.2.mem (slot c main_v41) = Read.val_main_v41 (aRef m c) (bRef m c) (wRef m c)
      ∧ r.2.mem (slot c main_v44) = Read.val_main_v44 (aRef m c) (bRef m c) (wRef m c) (hRef m c) (yRef m c) (gRef m c) (mpRef m c)
      ∧ r.2.mem (slot c main_v49) = Read.val_main_v49 (aRef m c) (bRef m c) (wRef m c) (hRef m c) (yRef m c) (mdRef m c) (mpRef m c)
      ∧ r.2.mem (slot c main_v75) = Read.val_main_v75 (aRef m c) (bRef m c) (wRef m c) (hRef m c) (yRef m c) (gRef m c) (mdRef m c) (mpRef m c) (dRef m c)
      ∧ r.2.mem (slot c main_v74) = Read.val_main_v74 (aRef m c) (bRef m c) (wRef m c) (hRef m c) (yRef m c) (gRef m c) (mdRef m c) (mpRef m c) (dRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5)
      ∧ r.2.mem (slot c main_arg6) = m (slot c main_arg6)
      ∧ r.2.mem (slot c main_arg7) = m (slot c main_arg7)
      ∧ r.2.mem (slot c main_arg8) = m (slot c main_arg8) :=
  (θ_run (defs (F := Ideal)) _ _).mono (fun r h c =>
      ⟨(h c).1.trans (Read.val_main_v66_eq _ _), (h c).2.1.trans (Read.val_main_v41_eq _ _ _),
       (h c).2.2.1.trans (Read.val_main_v44_eq _ _ _ _ _ _ _), (h c).2.2.2.1.trans (Read.val_main_v49_eq _ _ _ _ _ _ _),
       (h c).2.2.2.2.1.trans (Read.val_main_v75_eq _ _), (h c).2.2.2.2.2.1.trans (Read.val_main_v74_eq _ _), (h c).2.2.2.2.2.2⟩)
    (Value.run (F := Ideal) m ρ)

end

/-- Equal real arguments give equal results. -/
theorem algebraic : Cert.algebraic_NormIdeal_NormRefIdeal_pre_finite_norm := by
  intro m ρ m' ρ' hpre hagree
  choose P H using fun c => args_real m c hpre
  refine ⟨fun c => NormSpec.dhArr (P c), fun c => NormSpec.dshiftArr (P c), fun c => NormSpec.dscaleArr (P c),
    fun c => NormSpec.dgArr (P c), fun c => NormSpec.dyArr (P c), fun c => NormSpec.dgateArr (P c),
    (θ_run (NormIdeal.defs (F := Ideal)) _ _).mono (fun r h c =>
      ⟨(h c).1.trans (NormIdeal.Hand.dh_arr (H c)), (h c).2.1.trans (NormIdeal.Hand.dshift_arr (H c)),
       (h c).2.2.1.trans (NormIdeal.Hand.dscale_arr (H c)), (h c).2.2.2.1.trans (NormIdeal.Hand.dg_arr (H c)),
       (h c).2.2.2.2.1.trans (NormIdeal.Hand.dy_arr (H c)), (h c).2.2.2.2.2.1.trans (NormIdeal.Hand.dgate_arr (H c)),
       (h c).2.2.2.2.2.2⟩)
      (NormIdeal.Value.run_blocks (F := Ideal) m ρ),
    (θ_run (NormRefIdeal.defs (F := Ideal)) _ _).mono (fun r h c => ?_) (ref_run m' ρ')⟩
  obtain ⟨g0, g1, g2, g3, g4, g5, g6, g7, g8⟩ := hagree c
  have q0 : aRef m' c = NormRefIdeal.Hand.A (P c) := g0.trans (H c).a
  have q1 : bRef m' c = NormRefIdeal.Hand.B (P c) := g1.trans (H c).b
  have q2 : wRef m' c = NormRefIdeal.Hand.W (P c) := g2.trans (H c).w
  have q3 : hRef m' c = NormRefIdeal.Hand.H (P c) := g3.trans (H c).h
  have q4 : yRef m' c = NormRefIdeal.Hand.Y (P c) := g4.trans (H c).y
  have q5 : gRef m' c = NormRefIdeal.Hand.G (P c) := g5.trans (H c).g
  have q6 : mdRef m' c = NormRefIdeal.Hand.Md (P c) := g6.trans (H c).md
  have q7 : mpRef m' c = NormRefIdeal.Hand.Mp (P c) := g7.trans (H c).mp
  have q8 : dRef m' c = NormRefIdeal.Hand.Dr (P c) := g8.trans (H c).d
  have hc := h c
  rw [q0, q1, q2, q3, q4, q5, q6, q7, q8, NormRefIdeal.Hand.dh_eq, NormRefIdeal.Hand.dshift_eq, NormRefIdeal.Hand.dscale_eq,
    NormRefIdeal.Hand.dg_eq, NormRefIdeal.Hand.dy_eq, NormRefIdeal.Hand.dgate_eq] at hc
  exact hc

end Cert.NormClaim

end
-- ==== Proof.GateHost.lean ====
module

public import proofs.«01_k».proof.Proof.Gen.GateIdeal.Frame
public import proofs.«01_k».proof.Proof.Finite
public import Idealize.ShloMosaic.Lib.Pipeline.ValueKit
public import proofs.«01_k».proof.Proof.Reads

@[expose] public section

/-! What the host prepares for the gated product's gradient: the gate and its derivative, times the other factor. -/

noncomputable section

namespace Cert.GateIdeal.Hand

open Cert.GateIdeal Cert.GateIdeal.Gen Idealize.ShloMosaic TcCoe Idealize.SL.Sem Cert
open Idealize.ShloMosaic.StableHlo

abbrev Wide := FVec Idealize.ShloMosaic.Ideal S16384x2816 .f32

/-- A vector of ones. -/
abbrev ones : Wide := broadcastInDim S16384x2816 ![] bcast_S_S16384x2816 (constant S_ .f32 0x3F800000#32)

/-- The logistic function as the host spells it. -/
abbrev sigVec (a : Wide) : Wide := Host.divf ones (addf ones (Host.exp (Host.negf a)))

/-- The gate's derivative times the other factor, as the host spells it. -/
abbrev uVec (a b : Wide) : Wide :=
  addf (mulf (mulf ones b) (sigVec a)) (mulf (mulf a (mulf ones b)) (mulf (sigVec a) (subf ones (sigVec a))))

/-- The gate as the host spells it. -/
abbrev pVec (a : Wide) : Wide := mulf a (sigVec a)

variable (m : (ℓ : Loc nD τ sig) → Buf (Elt Ideal) ℓ) (c : Dev nD)

theorem V_main_v6 : V m c main_v6
    = (truncf .bf16 (uVec (m (slot c main_arg0)) (m (slot c main_arg1))) bitsLt_bf16_f32 :
      FVec Idealize.ShloMosaic.Ideal S16384x2816 .bf16) := by
  simp only [V, hostOps0, hostOps0_1, hostOps0_2, hostOps0_3, hostOps0_4, List.flatten_cons, List.flatten_nil, List.append_nil,
    List.cons_append, List.nil_append, TRef.binary, TRef.nullary, TRef.unary, TRef.toBuf, TRef.ofBuf, cast_eq]
  after_results

theorem V_main_v7 : V m c main_v7
    = (truncf .bf16 (pVec (m (slot c main_arg0))) bitsLt_bf16_f32 :
      FVec Idealize.ShloMosaic.Ideal S16384x2816 .bf16) := by
  simp only [V, hostOps0, hostOps0_1, hostOps0_2, hostOps0_3, hostOps0_4, List.flatten_cons, List.flatten_nil, List.append_nil,
    List.cons_append, List.nil_append, TRef.binary, TRef.nullary, TRef.unary, TRef.toBuf, TRef.ofBuf, cast_eq]
  after_results

/-- Both at real entries. -/
theorem uVec_at (A B : S16384x2816.Idx → ℝ) (i : S16384x2816.Idx) :
    uVec (fun i => (A i : EReal)) (fun i => (B i : EReal)) i
      = ((B i * Finite.sig (A i) + A i * B i * (Finite.sig (A i) * (1 - Finite.sig (A i))) : ℝ) : EReal) := by
  pointwise [uVec, sigVec, ones]
  rw [Finite.div_sig]
  push_cast
  rfl

theorem pVec_at (A : S16384x2816.Idx → ℝ) (i : S16384x2816.Idx) :
    pVec (fun i => (A i : EReal)) i = ((A i * Finite.sig (A i) : ℝ) : EReal) := by
  pointwise [pVec, sigVec, ones]
  rw [Finite.div_sig]
  push_cast
  rfl

end Cert.GateIdeal.Hand

end
-- ==== Proof.GateSpec.lean ====
module

public import proofs.«01_k».proof.Proof.Finite

@[expose] public section

/-! The gradient of the gated product followed by a matrix product, written once over the real numbers: `a` is the gate's
    argument, `b` the other factor, `w` the matrix, `d` the gradient arriving at the product. -/

noncomputable section

namespace Cert.GateSpec

open Idealize.ShloMosaic

abbrev Wide := (⟨2, ![16384, 2816]⟩ : Shape).Idx → ℝ
abbrev Mat := (⟨2, ![2816, 1024]⟩ : Shape).Idx → ℝ
abbrev Out := (⟨2, ![16384, 1024]⟩ : Shape).Idx → ℝ

/-- The gradient arriving at the gated product. -/
def back (w : Mat) (d : Out) (n : Fin 16384) (k : Fin 2816) : ℝ := ∑ j : Fin 1024, d (ix2 n j) * w (ix2 k j)

/-- The gate's derivative times the other factor. -/
def slope (a b : Wide) (i : (⟨2, ![16384, 2816]⟩ : Shape).Idx) : ℝ :=
  b i * Finite.sig (a i) + a i * b i * (Finite.sig (a i) * (1 - Finite.sig (a i)))

/-- The gradient of the gate's argument. -/
def da (a b : Wide) (w : Mat) (d : Out) (i : (⟨2, ![16384, 2816]⟩ : Shape).Idx) : EReal :=
  ((back w d (i 0) (i 1) * slope a b i : ℝ) : EReal)

/-- The gradient of the other factor. -/
def db (a : Wide) (w : Mat) (d : Out) (i : (⟨2, ![16384, 2816]⟩ : Shape).Idx) : EReal :=
  ((back w d (i 0) (i 1) * (a i * Finite.sig (a i)) : ℝ) : EReal)

end Cert.GateSpec

end
-- ==== Proof.GateBlocks.lean ====
module

public import proofs.«01_k».proof.Proof.Gen.GateIdeal.Value
public import proofs.«01_k».proof.Proof.GateHost
public import proofs.«01_k».proof.Proof.GateSpec
public import proofs.«01_k».proof.Proof.Reads

@[expose] public section

/-! The gated product's gradient: what a grid point computes at real arguments, and the two arrays the run leaves. -/

noncomputable section

namespace Cert.GateIdeal.Hand

open Cert.GateIdeal Cert.GateIdeal.Gen Idealize.ShloMosaic TcCoe Idealize.SL.Sem Cert

variable (m : (ℓ : Loc nD τ sig) → Buf (Elt Ideal) ℓ) (c : Dev nD)

/-- The arguments, as launched. -/
abbrev aArr : S16384x2816.Idx → EReal := m (slot c main_arg0)
abbrev bArr : S16384x2816.Idx → EReal := m (slot c main_arg1)
abbrev wArr : S2816x1024.Idx → EReal := m (slot c main_arg2)
abbrev dArr : S16384x1024.Idx → EReal := m (slot c main_arg3)

theorem t_lt (t : Fin cfg0.N) : t.val < 64 := lt_of_lt_of_eq t.isLt N_0

/-- Row `r` of point `t`'s blocks, in the whole arrays. -/
def row (t : Fin cfg0.N) (r : Fin 512) : Fin 16384 := ⟨512 * (t.val % 32) + r.val, by omega⟩
/-- Column `k` of point `t`'s blocks, in the whole arrays. -/
def col (t : Fin cfg0.N) (k : Fin 1408) : Fin 2816 := ⟨1408 * (t.val / 32) + k.val, by have := t_lt t; omega⟩

theorem index0 : ∀ t : Fin grid0.N, win0_0.index t = ![t.val % 32, 0] := by decide +kernel
theorem index1 : ∀ t : Fin grid0.N, win0_1.index t = ![t.val / 32, 0] := by decide +kernel
theorem index2 : ∀ t : Fin grid0.N, win0_2.index t = ![t.val % 32, t.val / 32] := by decide +kernel
theorem index3 : ∀ t : Fin grid0.N, win0_3.index t = ![t.val % 32, t.val / 32] := by decide +kernel
theorem index4 : ∀ t : Fin grid0.N, win0_4.index t = ![t.val % 32, t.val / 32] := by decide +kernel
theorem index5 : ∀ t : Fin grid0.N, win0_5.index t = ![t.val % 32, t.val / 32] := by decide +kernel

theorem blk0 (t : Fin cfg0.N) (r : Fin 512) (j : Fin 1024) : iblk m c 0 t (ix2 r j) = dArr m c (ix2 (row t r) j) := by
  have := t_lt t
  refine read_at (V_main_arg3 m c) fun a => ?_
  match a with
  | ⟨0, _⟩ => blk_simp [index0]; simp [row]; omega
  | ⟨1, _⟩ => blk_simp [index0]

theorem blk1 (t : Fin cfg0.N) (k : Fin 1408) (j : Fin 1024) : iblk m c 1 t (ix2 k j) = wArr m c (ix2 (col t k) j) := by
  have := t_lt t
  refine read_at (V_main_arg2 m c) fun a => ?_
  match a with
  | ⟨0, _⟩ => blk_simp [index1]; simp [col]; omega
  | ⟨1, _⟩ => blk_simp [index1]

theorem blk2 (t : Fin cfg0.N) (r : Fin 512) (k : Fin 1408) :
    iblk m c 2 t (ix2 r k) = uVec (aArr m c) (bArr m c) (ix2 (row t r) (col t k)) := by
  have := t_lt t
  unfold iblk
  rw [View.read_apply]
  show V m c main_v6 _ = _
  rw [V_main_v6]
  refine congrArg (uVec (aArr m c) (bArr m c)) (funext fun a => Fin.ext ?_)
  match a with
  | ⟨0, _⟩ => blk_simp [index2]; simp [row]; omega
  | ⟨1, _⟩ => blk_simp [index2]; simp [col]; omega

theorem blk3 (t : Fin cfg0.N) (r : Fin 512) (k : Fin 1408) :
    iblk m c 3 t (ix2 r k) = pVec (aArr m c) (ix2 (row t r) (col t k)) := by
  have := t_lt t
  unfold iblk
  rw [View.read_apply]
  show V m c main_v7 _ = _
  rw [V_main_v7]
  refine congrArg (pVec (aArr m c)) (funext fun a => Fin.ext ?_)
  match a with
  | ⟨0, _⟩ => blk_simp [index3]; simp [row]; omega
  | ⟨1, _⟩ => blk_simp [index3]; simp [col]; omega

theorem emb4 (t : Fin cfg0.N) (r : Fin 512) (k : Fin 1408) :
    ((cfg0.win 4).blk t).view.emb (ix2 r k) = ix2 (row t r) (col t k) := by
  have := t_lt t
  refine funext fun a => Fin.ext ?_
  match a with
  | ⟨0, _⟩ => blk_simp [index4]; simp [row]; omega
  | ⟨1, _⟩ => blk_simp [index4]; simp [col]; omega

theorem emb5 (t : Fin cfg0.N) (r : Fin 512) (k : Fin 1408) :
    ((cfg0.win 5).blk t).view.emb (ix2 r k) = ix2 (row t r) (col t k) := by
  have := t_lt t
  refine funext fun a => Fin.ext ?_
  match a with
  | ⟨0, _⟩ => blk_simp [index5]; simp [row]; omega
  | ⟨1, _⟩ => blk_simp [index5]; simp [col]; omega

variable {A B : S16384x2816.Idx → ℝ} {W : S2816x1024.Idx → ℝ} {D : S16384x1024.Idx → ℝ}

/-- One row of the product with the transposed matrix, at real arguments. -/
theorem dot_real (hW : wArr m c = fun i => (W i : EReal)) (hD : dArr m c = fun i => (D i : EReal))
    (t : Fin cfg0.N) (r : Fin 512) (k : Fin 1408) {f g : Fin 1024 → EReal}
    (hf : ∀ j, f j = iblk m c 0 t (ix2 r j)) (hg : ∀ j, g j = iblk m c 1 t (ix2 k j)) :
    ∑ j, f j * g j = ((GateSpec.back W D (row t r) (col t k) : ℝ) : EReal) := by
  unfold GateSpec.back
  rw [← Finite.coe_dot]
  refine Finset.sum_congr rfl fun j _ => ?_
  rw [hf, hg, blk0, blk1, hW, hD]

/-- The product's block. -/
theorem back_at (hW : wArr m c = fun i => (W i : EReal)) (hD : dArr m c = fun i => (D i : EReal))
    (t : Fin cfg0.N) (r : Fin 512) (k : Fin 1408) :
    k0_pay1 (F := Ideal) (iblk m c 0 t) (iblk m c 1 t) (ix2 r k)
      = ((GateSpec.back W D (row t r) (col t k) : ℝ) : EReal) := by
  pointwise [k0_pay1]
  exact dot_real m c hW hD t r k (fun _ => rfl) fun _ => rfl

theorem da_at (hA : aArr m c = fun i => (A i : EReal)) (hB : bArr m c = fun i => (B i : EReal))
    (hW : wArr m c = fun i => (W i : EReal)) (hD : dArr m c = fun i => (D i : EReal))
    (t : Fin cfg0.N) (r : Fin 512) (k : Fin 1408) :
    out0_4 (iblk m c 0 t) (iblk m c 1 t) (iblk m c 2 t) (iblk m c 3 t) (ix2 r k)
      = GateSpec.da A B W D (ix2 (row t r) (col t k)) := by
  frame_out
  pointwise [k0_pay2]
  rw [back_at m c hW hD t r k]
  refine (congrArg _ (blk2 m c t r k)).trans ?_
  rw [hA, hB, uVec_at]
  exact (EReal.coe_mul _ _).symm

theorem db_at (hA : aArr m c = fun i => (A i : EReal))
    (hW : wArr m c = fun i => (W i : EReal)) (hD : dArr m c = fun i => (D i : EReal))
    (t : Fin cfg0.N) (r : Fin 512) (k : Fin 1408) :
    out0_5 (iblk m c 0 t) (iblk m c 1 t) (iblk m c 2 t) (iblk m c 3 t) (ix2 r k)
      = GateSpec.db A W D (ix2 (row t r) (col t k)) := by
  frame_out
  pointwise [k0_pay3]
  rw [back_at m c hW hD t r k]
  refine (congrArg _ (blk3 m c t r k)).trans ?_
  rw [hA, pVec_at]
  exact (EReal.coe_mul _ _).symm

end Cert.GateIdeal.Hand

end
-- ==== Proof.GateArrays.lean ====
module

public import proofs.«01_k».proof.Proof.GateBlocks
public import proofs.«01_k».proof.Proof.Reads

@[expose] public section

/-! The gated product's gradient: the two arrays the run leaves, at real arguments. -/

noncomputable section

namespace Cert.GateIdeal.Hand

open Cert.GateIdeal Cert.GateIdeal.Gen Idealize.ShloMosaic TcCoe Idealize.SL.Sem Cert

variable (m : (ℓ : Loc nD τ sig) → Buf (Elt Ideal) ℓ) (c : Dev nD)
variable {A B : S16384x2816.Idx → ℝ} {W : S2816x1024.Idx → ℝ} {D : S16384x1024.Idx → ℝ}

attribute [local irreducible] out0_4 out0_5

theorem da_arr (hA : aArr m c = fun i => (A i : EReal)) (hB : bArr m c = fun i => (B i : EReal))
    (hW : wArr m c = fun i => (W i : EReal)) (hD : dArr m c = fun i => (D i : EReal)) :
    (dats m 0 c).arrAt 4 cfg0.N = GateSpec.da A B W D := by
  refine (dats m 0 c).arrAt_eq_of_covers 4 _ (by decide +kernel) fun t _ y => ?_
  rw [after0_4]
  obtain ⟨r, k, rfl⟩ := pair y
  rw [emb4]
  exact da_at m c hA hB hW hD t r k

theorem db_arr (hA : aArr m c = fun i => (A i : EReal))
    (hW : wArr m c = fun i => (W i : EReal)) (hD : dArr m c = fun i => (D i : EReal)) :
    (dats m 0 c).arrAt 5 cfg0.N = GateSpec.db A W D := by
  refine (dats m 0 c).arrAt_eq_of_covers 5 _ (by decide +kernel) fun t _ y => ?_
  rw [after0_5]
  obtain ⟨r, k, rfl⟩ := pair y
  rw [emb5]
  exact db_at m c hA hW hD t r k

end Cert.GateIdeal.Hand

end
-- ==== Proof.GateRefValue.lean ====
module

public import proofs.«01_k».proof.Proof.Gen.GateRefIdeal.Read
public import proofs.«01_k».proof.Proof.GateSpec
public import proofs.«01_k».proof.Proof.Reads

@[expose] public section

/-! The gated product's gradient: what the reference computes at real arguments. -/

noncomputable section

namespace Cert.GateRefIdeal.Hand

open Cert.GateRefIdeal Cert.GateRefIdeal.Read Idealize.ShloMosaic Cert

variable (A B : S16384x2816.Idx → ℝ) (W : S2816x1024.Idx → ℝ) (D : S16384x1024.Idx → ℝ)

/-- The product with the transposed matrix. -/
theorem back_eq (n : Fin 16384) (k : Fin 2816) :
    val_main_v5 (F := Ideal) (fun i => (W i : EReal)) (fun i => (D i : EReal)) (ix2 n k)
      = ((GateSpec.back W D n k : ℝ) : EReal) := by
  pointwise [val_main_v5, val_main_v4, val_main_v2]
  exact Finite.coe_dot _ _ _

/-- The gate. -/
theorem sig_eq (i : S16384x2816.Idx) :
    val_main_v0_2 (F := Ideal) (fun i => (A i : EReal)) i = ((Finite.sig (A i) : ℝ) : EReal) := by
  pointwise [val_main_v0_2, val_main_call0_v4, val_main_call0_cst_0, val_main_call0_v3, val_main_call0_v2,
    val_main_call0_cst, val_main_call0_v1, val_main_call0_v0]
  exact Finite.div_sig _

theorem one_sub (i : S16384x2816.Idx) :
    val_main_call0_v7 (F := Ideal) (fun i => (A i : EReal)) i = ((1 - Finite.sig (A i) : ℝ) : EReal) := by
  pointwise [val_main_call0_v7, val_main_call0_v6, val_main_call0_cst_1]
  rw [sig_eq]
  push_cast
  rfl

theorem slope_eq (i : S16384x2816.Idx) :
    val_main_v0_1 (F := Ideal) (fun i => (A i : EReal)) i
      = ((Finite.sig (A i) * (1 - Finite.sig (A i)) : ℝ) : EReal) := by
  pointwise [val_main_v0_1]
  rw [sig_eq, one_sub]
  push_cast
  rfl

theorem gate_eq (i : S16384x2816.Idx) :
    val_main_v0_0 (F := Ideal) (fun i => (A i : EReal)) i = ((A i * Finite.sig (A i) : ℝ) : EReal) := by
  pointwise [val_main_v0_0]
  rw [sig_eq]
  push_cast
  rfl

/-- The gradient of the gate's argument. -/
theorem da_eq : val_main_v9 (F := Ideal) (fun i => (A i : EReal)) (fun i => (B i : EReal)) (fun i => (W i : EReal))
    (fun i => (D i : EReal)) = GateSpec.da A B W D := by
  funext i
  obtain ⟨n, k, rfl⟩ := pair i
  pointwise [val_main_v9, val_main_v8, val_main_call1_v2, val_main_call1_v1, val_main_call1_v0, val_main_v7]
  rw [back_eq, sig_eq, slope_eq]
  simp only [← EReal.coe_mul, ← EReal.coe_add]
  refine congrArg Real.toEReal ?_
  show _ = GateSpec.back W D n k * GateSpec.slope A B (ix2 n k)
  unfold GateSpec.slope
  ring

/-- The gradient of the other factor. -/
theorem db_eq : val_main_v10 (F := Ideal) (fun i => (A i : EReal)) (fun i => (W i : EReal))
    (fun i => (D i : EReal)) = GateSpec.db A W D := by
  funext i
  obtain ⟨n, k, rfl⟩ := pair i
  pointwise [val_main_v10, val_main_v6]
  rw [back_eq, gate_eq]
  simp only [← EReal.coe_mul]
  refine congrArg Real.toEReal ?_
  exact mul_comm _ _

end Cert.GateRefIdeal.Hand

end
-- ==== Proof.GateClaim.lean ====
module

public import proofs.«01_k».proof.Defs
public import proofs.«01_k».proof.Proof.Gen.Gate.Frame
public import proofs.«01_k».proof.Proof.Gen.Pre_finite_gate
public import proofs.«01_k».proof.Proof.GateArrays
public import proofs.«01_k».proof.Proof.GateRefValue
public import proofs.«01_k».proof.Proof.Gen.GateRefIdeal.Run
public import proofs.«01_k».proof.Proof.Reads

@[expose] public section

/-! The five claims about the gradient of the gated product, the last of them at arguments that are real numbers. -/

noncomputable section

namespace Cert.GateClaim

open Idealize.ShloMosaic TcCoe Idealize.SL.Sem Cert

theorem frame : Cert.quiescent_Gate := fun m ρ _ => Cert.Gate.Gen.frame m ρ

theorem frame_ideal : Cert.quiescent_GateIdeal := fun m ρ _ => Cert.GateIdeal.Gen.frame m ρ

theorem frame_ideal_pre : Cert.quiescent_GateIdeal_pre_finite_gate := fun m ρ _ => Cert.GateIdeal.Gen.frame m ρ

/-- The reference runs on the host and has no counter. -/
theorem frame_ref : Cert.quiescent_GateRefIdeal := fun m ρ _ =>
  (θ_run Cert.GateRefIdeal.defs _ _).mono
    (fun r h => ⟨fun c => (h c).2.2, sem_eq_zero_of_no_sems (by decide) r.2⟩)
    (Cert.GateRefIdeal.Value.run (F := Ideal) m ρ)

theorem frame_ref_pre : Cert.quiescent_GateRefIdeal_pre_finite_gate := fun m ρ _ => frame_ref m ρ trivial

theorem preserves : Cert.preserves_Gate_GateIdeal := trivial

section
open Cert.GateIdeal Cert.GateIdeal.Hand

variable (m : (ℓ : Loc nD τ sig) → Buf (Elt Ideal) ℓ) (c : Dev nD)

/-- The precondition says that every entry of every argument is a real number. -/
theorem args_real (h : Cert.Pre_GateIdeal_finite_gate m) :
    ∃ (A B : S16384x2816.Idx → ℝ) (W : S2816x1024.Idx → ℝ) (D : S16384x1024.Idx → ℝ),
      aArr m c = (fun i => (A i : EReal)) ∧ bArr m c = (fun i => (B i : EReal))
      ∧ wArr m c = (fun i => (W i : EReal)) ∧ dArr m c = (fun i => (D i : EReal)) := by
  obtain ⟨h0, h1, h2, h3⟩ := h c
  obtain ⟨A, hA⟩ := Finite.lift (x := aArr m c) fun i => Finite.real_of_cmp (congrFun h0 i)
  obtain ⟨B, hB⟩ := Finite.lift (x := bArr m c) fun i => Finite.real_of_cmp (congrFun h1 i)
  obtain ⟨W, hW⟩ := Finite.lift (x := wArr m c) fun i => Finite.real_of_cmp (congrFun h2 i)
  obtain ⟨D, hD⟩ := Finite.lift (x := dArr m c) fun i => Finite.real_of_cmp (congrFun h3 i)
  exact ⟨A, B, W, D, hA, hB, hW, hD⟩

end

section
open Cert.GateRefIdeal

variable (m : (ℓ : Loc nD τ sig) → Buf (Elt Ideal) ℓ) (c : Dev nD)

/-- The reference's arguments, as launched. -/
abbrev aRef : S16384x2816.Idx → EReal := m (slot c main_arg0)
abbrev bRef : S16384x2816.Idx → EReal := m (slot c main_arg1)
abbrev wRef : S2816x1024.Idx → EReal := m (slot c main_arg2)
abbrev dRef : S16384x1024.Idx → EReal := m (slot c main_arg3)

/-- The reference's run, its results named by its own stages. -/
theorem ref_run (ρ : Dev nD → PrngReg) :
    θ_run (defs (F := Ideal)) (onTc (τ := τ) (main (F := Ideal))) ⟨m, fun _ => 0, ρ⟩ fun r => ∀ c : Dev nD,
      r.2.mem (slot c main_v9) = Read.val_main_v9 (aRef m c) (bRef m c) (wRef m c) (dRef m c)
      ∧ r.2.mem (slot c main_v10) = Read.val_main_v10 (aRef m c) (wRef m c) (dRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans (Read.val_main_v9_eq _ _ _ _), (h c).2.1.trans (Read.val_main_v10_eq _ _ _), (h c).2.2⟩)
    (Value.run (F := Ideal) m ρ)

end

/-- Equal real arguments give equal results. -/
theorem algebraic : Cert.algebraic_GateIdeal_GateRefIdeal_pre_finite_gate := by
  intro m ρ m' ρ' hpre hagree
  choose A B W D hA hB hW hD using fun c => args_real m c hpre
  refine ⟨fun c => GateSpec.da (A c) (B c) (W c) (D c), fun c => GateSpec.db (A c) (W c) (D c),
    (θ_run (GateIdeal.defs (F := Ideal)) _ _).mono (fun r h c =>
      ⟨(h c).1.trans (GateIdeal.Hand.da_arr m c (hA c) (hB c) (hW c) (hD c)),
       (h c).2.1.trans (GateIdeal.Hand.db_arr m c (hA c) (hW c) (hD c)), (h c).2.2⟩)
      (GateIdeal.Value.run_blocks (F := Ideal) m ρ),
    (θ_run (GateRefIdeal.defs (F := Ideal)) _ _).mono (fun r h c => ?_) (ref_run m' ρ')⟩
  have ha : aRef m' c = fun i => (A c i : EReal) := (hagree c).1.trans (hA c)
  have hb : bRef m' c = fun i => (B c i : EReal) := (hagree c).2.1.trans (hB c)
  have hw : wRef m' c = fun i => (W c i : EReal) := (hagree c).2.2.1.trans (hW c)
  have hd : dRef m' c = fun i => (D c i : EReal) := (hagree c).2.2.2.trans (hD c)
  have hc := h c
  rw [ha, hb, hw, hd, GateRefIdeal.Hand.da_eq, GateRefIdeal.Hand.db_eq] at hc
  exact hc

end Cert.GateClaim

end
-- ==== Proof.UpSpec.lean ====
module

public import proofs.«01_k».proof.Proof.Finite

@[expose] public section

/-! The feed-forward layer's first product and its gate, written once over the real numbers: `x` is the input, `w` the two
    matrices side by side. -/

noncomputable section

namespace Cert.UpSpec

open Idealize.ShloMosaic

abbrev In := (⟨2, ![16384, 1024]⟩ : Shape).Idx → ℝ
abbrev Mat := (⟨2, ![1024, 5632]⟩ : Shape).Idx → ℝ
abbrev Wide := (⟨2, ![16384, 2816]⟩ : Shape).Idx → EReal

/-- The product with the two matrices. -/
def prod (x : In) (w : Mat) (n : Fin 16384) (k : Fin 5632) : ℝ := ∑ l : Fin 1024, x (ix2 n l) * w (ix2 l k)

/-- The gate's argument. -/
def ga (x : In) (w : Mat) (n : Fin 16384) (k : Fin 2816) : ℝ := prod x w n ⟨k.val, by omega⟩
/-- The other factor. -/
def gb (x : In) (w : Mat) (n : Fin 16384) (k : Fin 2816) : ℝ := prod x w n ⟨2816 + k.val, by omega⟩

/-- The gate. -/
def p (x : In) (w : Mat) : Wide := fun i => ((ga x w (i 0) (i 1) * Finite.sig (ga x w (i 0) (i 1)) : ℝ) : EReal)

/-- The gate's derivative times the other factor. -/
def u (x : In) (w : Mat) : Wide := fun i =>
  ((gb x w (i 0) (i 1) * (Finite.sig (ga x w (i 0) (i 1))
    * (1 + ga x w (i 0) (i 1) * (1 - Finite.sig (ga x w (i 0) (i 1))))) : ℝ) : EReal)

/-- The gated product. -/
def s (x : In) (w : Mat) : Wide := fun i =>
  ((ga x w (i 0) (i 1) * Finite.sig (ga x w (i 0) (i 1)) * gb x w (i 0) (i 1) : ℝ) : EReal)

end Cert.UpSpec

end
-- ==== Proof.UpBlocks.lean ====
module

public import proofs.«01_k».proof.Proof.Gen.UpIdeal.Value
public import proofs.«01_k».proof.Proof.UpSpec
public import proofs.«01_k».proof.Proof.Reads

@[expose] public section

/-! The feed-forward layer's first product: what a grid point reads and computes at real arguments. -/

noncomputable section

namespace Cert.UpIdeal.Hand

open Cert.UpIdeal Cert.UpIdeal.Gen Idealize.ShloMosaic TcCoe Idealize.SL.Sem Cert

variable (m : (ℓ : Loc nD τ sig) → Buf (Elt Ideal) ℓ) (c : Dev nD)

/-- The arguments, as launched. -/
abbrev xArr : S16384x1024.Idx → EReal := m (slot c main_arg0)
abbrev wArr : S1024x5632.Idx → EReal := m (slot c main_arg1)

theorem t_lt (t : Fin cfg0.N) : t.val < 64 := lt_of_lt_of_eq t.isLt N_0

/-- Row `r` of point `t`'s blocks, in the whole arrays. -/
def row (t : Fin cfg0.N) (r : Fin 512) : Fin 16384 := ⟨512 * (t.val % 32) + r.val, by omega⟩
/-- Column `k` of point `t`'s output blocks, in the whole arrays. -/
def col (t : Fin cfg0.N) (k : Fin 1408) : Fin 2816 := ⟨1408 * (t.val / 32) + k.val, by have := t_lt t; omega⟩
/-- The same column in the first of the two matrices, and in the second. -/
def colA (t : Fin cfg0.N) (k : Fin 1408) : Fin 5632 := ⟨(col t k).val, by have := (col t k).isLt; omega⟩
def colB (t : Fin cfg0.N) (k : Fin 1408) : Fin 5632 := ⟨2816 + (col t k).val, by have := (col t k).isLt; omega⟩

theorem index0 : ∀ t : Fin grid0.N, win0_0.index t = ![t.val % 32, 0] := by decide +kernel
theorem index1 : ∀ t : Fin grid0.N, win0_1.index t = ![0, t.val / 32] := by decide +kernel
theorem index2 : ∀ t : Fin grid0.N, win0_2.index t = ![0, t.val / 32 + 2] := by decide +kernel
theorem index3 : ∀ t : Fin grid0.N, win0_3.index t = ![t.val % 32, t.val / 32] := by decide +kernel
theorem index4 : ∀ t : Fin grid0.N, win0_4.index t = ![t.val % 32, t.val / 32] := by decide +kernel
theorem index5 : ∀ t : Fin grid0.N, win0_5.index t = ![t.val % 32, t.val / 32] := by decide +kernel

theorem blk0 (t : Fin cfg0.N) (r : Fin 512) (l : Fin 1024) : iblk m c 0 t (ix2 r l) = xArr m c (ix2 (row t r) l) := by
  have := t_lt t
  refine read_at (V_main_arg0 m c) fun a => ?_
  match a with
  | ⟨0, _⟩ => blk_simp [index0]; simp [row]; omega
  | ⟨1, _⟩ => blk_simp [index0]

theorem blk1 (t : Fin cfg0.N) (l : Fin 1024) (k : Fin 1408) : iblk m c 1 t (ix2 l k) = wArr m c (ix2 l (colA t k)) := by
  have := t_lt t
  refine read_at (V_main_arg1 m c) fun a => ?_
  match a with
  | ⟨0, _⟩ => blk_simp [index1]
  | ⟨1, _⟩ => blk_simp [index1]; simp [colA, col]; omega

theorem blk2 (t : Fin cfg0.N) (l : Fin 1024) (k : Fin 1408) : iblk m c 2 t (ix2 l k) = wArr m c (ix2 l (colB t k)) := by
  have := t_lt t
  refine read_at (V_main_arg1 m c) fun a => ?_
  match a with
  | ⟨0, _⟩ => blk_simp [index2]
  | ⟨1, _⟩ => blk_simp [index2]; simp [colB, col]; omega

theorem emb3 (t : Fin cfg0.N) (r : Fin 512) (k : Fin 1408) :
    ((cfg0.win 3).blk t).view.emb (ix2 r k) = ix2 (row t r) (col t k) := by
  have := t_lt t
  refine funext fun a => Fin.ext ?_
  match a with
  | ⟨0, _⟩ => blk_simp [index3]; simp [row]; omega
  | ⟨1, _⟩ => blk_simp [index3]; simp [col]; omega

theorem emb4 (t : Fin cfg0.N) (r : Fin 512) (k : Fin 1408) :
    ((cfg0.win 4).blk t).view.emb (ix2 r k) = ix2 (row t r) (col t k) := by
  have := t_lt t
  refine funext fun a => Fin.ext ?_
  match a with
  | ⟨0, _⟩ => blk_simp [index4]; simp [row]; omega
  | ⟨1, _⟩ => blk_simp [index4]; simp [col]; omega

theorem emb5 (t : Fin cfg0.N) (r : Fin 512) (k : Fin 1408) :
    ((cfg0.win 5).blk t).view.emb (ix2 r k) = ix2 (row t r) (col t k) := by
  have := t_lt t
  refine funext fun a => Fin.ext ?_
  match a with
  | ⟨0, _⟩ => blk_simp [index5]; simp [row]; omega
  | ⟨1, _⟩ => blk_simp [index5]; simp [col]; omega

variable {X : UpSpec.In} {W : UpSpec.Mat}

/-- The gate's argument on a point's block. -/
theorem ga_at (hX : xArr m c = fun i => (X i : EReal)) (hW : wArr m c = fun i => (W i : EReal))
    (t : Fin cfg0.N) (r : Fin 512) (k : Fin 1408) :
    k0_pay1 (F := Ideal) (iblk m c 0 t) (iblk m c 1 t) (ix2 r k)
      = ((UpSpec.ga X W (row t r) (col t k) : ℝ) : EReal) := by
  pointwise [k0_pay1]
  refine Eq.trans ?_ (Finite.coe_dot Finset.univ (fun l => X (ix2 (row t r) l)) fun l => W (ix2 l (colA t k)))
  refine Finset.sum_congr rfl fun l _ => ?_
  rw [blk0, blk1, hX, hW]

/-- The other factor on a point's block. -/
theorem gb_at (hX : xArr m c = fun i => (X i : EReal)) (hW : wArr m c = fun i => (W i : EReal))
    (t : Fin cfg0.N) (r : Fin 512) (k : Fin 1408) :
    k0_pay2 (F := Ideal) (iblk m c 0 t) (iblk m c 2 t) (ix2 r k)
      = ((UpSpec.gb X W (row t r) (col t k) : ℝ) : EReal) := by
  pointwise [k0_pay2]
  refine Eq.trans ?_ (Finite.coe_dot Finset.univ (fun l => X (ix2 (row t r) l)) fun l => W (ix2 l (colB t k)))
  refine Finset.sum_congr rfl fun l _ => ?_
  rw [blk0, blk2, hX, hW]

/-- The logistic function on a point's block. -/
theorem sig_at (hX : xArr m c = fun i => (X i : EReal)) (hW : wArr m c = fun i => (W i : EReal))
    (t : Fin cfg0.N) (r : Fin 512) (k : Fin 1408) :
    k0_pay3 (F := Ideal) (iblk m c 0 t) (iblk m c 1 t) (ix2 r k)
      = ((Finite.sig (UpSpec.ga X W (row t r) (col t k)) : ℝ) : EReal) := by
  pointwise [k0_pay3]
  rw [ga_at m c hX hW t r k]
  exact Finite.div_sig' _

theorem p_at (hX : xArr m c = fun i => (X i : EReal)) (hW : wArr m c = fun i => (W i : EReal))
    (t : Fin cfg0.N) (r : Fin 512) (k : Fin 1408) :
    out0_3 (iblk m c 0 t) (iblk m c 1 t) (iblk m c 2 t) (ix2 r k) = UpSpec.p X W (ix2 (row t r) (col t k)) := by
  frame_out
  pointwise [k0_pay5, k0_pay4]
  rw [ga_at m c hX hW t r k, sig_at m c hX hW t r k]
  exact (EReal.coe_mul _ _).symm

theorem u_at (hX : xArr m c = fun i => (X i : EReal)) (hW : wArr m c = fun i => (W i : EReal))
    (t : Fin cfg0.N) (r : Fin 512) (k : Fin 1408) :
    out0_4 (iblk m c 0 t) (iblk m c 1 t) (iblk m c 2 t) (ix2 r k) = UpSpec.u X W (ix2 (row t r) (col t k)) := by
  frame_out
  pointwise [k0_pay6]
  rw [ga_at m c hX hW t r k, sig_at m c hX hW t r k, gb_at m c hX hW t r k]
  simp only [← EReal.coe_one, ← EReal.coe_mul, ← EReal.coe_add, ← EReal.coe_sub]
  rfl

theorem s_at (hX : xArr m c = fun i => (X i : EReal)) (hW : wArr m c = fun i => (W i : EReal))
    (t : Fin cfg0.N) (r : Fin 512) (k : Fin 1408) :
    out0_5 (iblk m c 0 t) (iblk m c 1 t) (iblk m c 2 t) (ix2 r k) = UpSpec.s X W (ix2 (row t r) (col t k)) := by
  frame_out
  pointwise [k0_pay7, k0_pay4]
  rw [ga_at m c hX hW t r k, sig_at m c hX hW t r k, gb_at m c hX hW t r k]
  simp only [← EReal.coe_mul]
  rfl

end Cert.UpIdeal.Hand

end
-- ==== Proof.UpArrays.lean ====
module

public import proofs.«01_k».proof.Proof.UpBlocks
public import proofs.«01_k».proof.Proof.Reads

@[expose] public section

/-! The feed-forward layer's first product: the three arrays the run leaves, at real arguments. -/

noncomputable section

namespace Cert.UpIdeal.Hand

open Cert.UpIdeal Cert.UpIdeal.Gen Idealize.ShloMosaic TcCoe Idealize.SL.Sem Cert

variable (m : (ℓ : Loc nD τ sig) → Buf (Elt Ideal) ℓ) (c : Dev nD)
variable {X : UpSpec.In} {W : UpSpec.Mat}

attribute [local irreducible] out0_3 out0_4 out0_5

theorem p_arr (hX : xArr m c = fun i => (X i : EReal)) (hW : wArr m c = fun i => (W i : EReal)) :
    (dats m 0 c).arrAt 3 cfg0.N = UpSpec.p X W := by
  refine (dats m 0 c).arrAt_eq_of_covers 3 _ (by decide +kernel) fun t _ y => ?_
  rw [after0_3]
  obtain ⟨r, k, rfl⟩ := pair y
  rw [emb3]
  exact p_at m c hX hW t r k

theorem u_arr (hX : xArr m c = fun i => (X i : EReal)) (hW : wArr m c = fun i => (W i : EReal)) :
    (dats m 0 c).arrAt 4 cfg0.N = UpSpec.u X W := by
  refine (dats m 0 c).arrAt_eq_of_covers 4 _ (by decide +kernel) fun t _ y => ?_
  rw [after0_4]
  obtain ⟨r, k, rfl⟩ := pair y
  rw [emb4]
  exact u_at m c hX hW t r k

theorem s_arr (hX : xArr m c = fun i => (X i : EReal)) (hW : wArr m c = fun i => (W i : EReal)) :
    (dats m 0 c).arrAt 5 cfg0.N = UpSpec.s X W := by
  refine (dats m 0 c).arrAt_eq_of_covers 5 _ (by decide +kernel) fun t _ y => ?_
  rw [after0_5]
  obtain ⟨r, k, rfl⟩ := pair y
  rw [emb5]
  exact s_at m c hX hW t r k

end Cert.UpIdeal.Hand

end
-- ==== Proof.UpRefValue.lean ====
module

public import proofs.«01_k».proof.Proof.Gen.UpRefIdeal.Read
public import proofs.«01_k».proof.Proof.UpSpec
public import proofs.«01_k».proof.Proof.Reads

@[expose] public section

/-! The feed-forward layer's first product: what the reference computes at real arguments. -/

noncomputable section

namespace Cert.UpRefIdeal.Hand

open Cert.UpRefIdeal Cert.UpRefIdeal.Read Idealize.ShloMosaic Cert

variable (X : UpSpec.In) (W : UpSpec.Mat)

theorem prod_eq (n : Fin 16384) (k : Fin 5632) :
    val_main_v2 (F := Ideal) (fun i => (X i : EReal)) (fun i => (W i : EReal)) (ix2 n k)
      = ((UpSpec.prod X W n k : ℝ) : EReal) := by
  pointwise [val_main_v2, val_main_v1, val_main_v0]
  exact Finite.coe_dot _ _ _

theorem ga_eq (n : Fin 16384) (k : Fin 2816) :
    val_main_v3 (F := Ideal) (fun i => (X i : EReal)) (fun i => (W i : EReal)) (ix2 n k)
      = ((UpSpec.ga X W n k : ℝ) : EReal) := by
  refine Eq.trans ?_ (prod_eq X W n ⟨k.val, by omega⟩)
  rw [val_main_v3_apply]
  refine congrArg _ (funext fun a => Fin.ext ?_)
  match a with
  | ⟨0, _⟩ => simp [ix2]
  | ⟨1, _⟩ => simp [ix2]

theorem gb_eq (n : Fin 16384) (k : Fin 2816) :
    val_main_v4 (F := Ideal) (fun i => (X i : EReal)) (fun i => (W i : EReal)) (ix2 n k)
      = ((UpSpec.gb X W n k : ℝ) : EReal) := by
  refine Eq.trans ?_ (prod_eq X W n ⟨2816 + k.val, by omega⟩)
  rw [val_main_v4_apply]
  refine congrArg _ (funext fun a => Fin.ext ?_)
  match a with
  | ⟨0, _⟩ => simp [ix2]
  | ⟨1, _⟩ => simp [ix2]

theorem sig_eq (n : Fin 16384) (k : Fin 2816) :
    val_main_v5_2 (F := Ideal) (fun i => (X i : EReal)) (fun i => (W i : EReal)) (ix2 n k)
      = ((Finite.sig (UpSpec.ga X W n k) : ℝ) : EReal) := by
  pointwise [val_main_v5_2, val_main_call0_v4, val_main_call0_cst_0, val_main_call0_v3, val_main_call0_v2,
    val_main_call0_cst, val_main_call0_v1, val_main_call0_v0]
  rw [ga_eq]
  exact Finite.div_sig _

theorem sig2_eq (n : Fin 16384) (k : Fin 2816) :
    val_main_call2_v5 (F := Ideal) (fun i => (X i : EReal)) (fun i => (W i : EReal)) (ix2 n k)
      = ((Finite.sig (UpSpec.ga X W n k) : ℝ) : EReal) := by
  pointwise [val_main_call2_v5, val_main_call2_v4, val_main_call2_cst_0, val_main_call2_v3, val_main_call2_v2,
    val_main_call2_cst, val_main_call2_v1, val_main_call2_v0]
  rw [ga_eq]
  exact Finite.div_sig _

theorem sig3_eq (n : Fin 16384) (k : Fin 2816) :
    val_main_call3_v5 (F := Ideal) (fun i => (X i : EReal)) (fun i => (W i : EReal)) (ix2 n k)
      = ((Finite.sig (UpSpec.ga X W n k) : ℝ) : EReal) := by
  pointwise [val_main_call3_v5, val_main_call3_v4, val_main_call3_cst_0, val_main_call3_v3, val_main_call3_v2,
    val_main_call3_cst, val_main_call3_v1, val_main_call3_v0]
  rw [ga_eq]
  exact Finite.div_sig _

theorem slope_eq (n : Fin 16384) (k : Fin 2816) :
    val_main_v5_1 (F := Ideal) (fun i => (X i : EReal)) (fun i => (W i : EReal)) (ix2 n k)
      = ((Finite.sig (UpSpec.ga X W n k) * (1 - Finite.sig (UpSpec.ga X W n k)) : ℝ) : EReal) := by
  pointwise [val_main_v5_1, val_main_call0_v7, val_main_call0_v6, val_main_call0_cst_1]
  rw [sig_eq]
  push_cast
  rfl

/-- The gate. -/
theorem p_eq : val_main_v11 (F := Ideal) (fun i => (X i : EReal)) (fun i => (W i : EReal)) = UpSpec.p X W := by
  funext i
  obtain ⟨n, k, rfl⟩ := pair i
  pointwise [val_main_v11, val_main_v10]
  rw [ga_eq, sig2_eq]
  exact (EReal.coe_mul _ _).symm

/-- The gate's derivative times the other factor. -/
theorem u_eq : val_main_v12 (F := Ideal) (fun i => (X i : EReal)) (fun i => (W i : EReal)) = UpSpec.u X W := by
  funext i
  obtain ⟨n, k, rfl⟩ := pair i
  pointwise [val_main_v12, val_main_v9, val_main_call1_v2, val_main_call1_v1, val_main_call1_v0, val_main_v8,
    val_main_v7, val_main_cst]
  rw [ga_eq, gb_eq, sig_eq, slope_eq]
  simp only [← EReal.coe_mul, ← EReal.coe_add]
  show _ = ((UpSpec.gb X W n k * (Finite.sig (UpSpec.ga X W n k)
    * (1 + UpSpec.ga X W n k * (1 - Finite.sig (UpSpec.ga X W n k)))) : ℝ) : EReal)
  refine congrArg Real.toEReal ?_
  ring

/-- The gated product. -/
theorem s_eq : val_main_v15 (F := Ideal) (fun i => (X i : EReal)) (fun i => (W i : EReal)) = UpSpec.s X W := by
  funext i
  obtain ⟨n, k, rfl⟩ := pair i
  pointwise [val_main_v15, val_main_v14, val_main_v13]
  rw [ga_eq, gb_eq, sig3_eq]
  simp only [← EReal.coe_mul]
  rfl

end Cert.UpRefIdeal.Hand

end
-- ==== Proof.UpClaim.lean ====
module

public import proofs.«01_k».proof.Defs
public import proofs.«01_k».proof.Proof.Gen.Up.Frame
public import proofs.«01_k».proof.Proof.Gen.Pre_finite_up
public import proofs.«01_k».proof.Proof.UpArrays
public import proofs.«01_k».proof.Proof.UpRefValue
public import proofs.«01_k».proof.Proof.Gen.UpRefIdeal.Run
public import proofs.«01_k».proof.Proof.Reads

@[expose] public section

/-! The five claims about the feed-forward layer's first product, the last of them at arguments that are real numbers. -/

noncomputable section

namespace Cert.UpClaim

open Idealize.ShloMosaic TcCoe Idealize.SL.Sem Cert

theorem frame : Cert.quiescent_Up := fun m ρ _ => Cert.Up.Gen.frame m ρ

theorem frame_ideal : Cert.quiescent_UpIdeal := fun m ρ _ => Cert.UpIdeal.Gen.frame m ρ

theorem frame_ideal_pre : Cert.quiescent_UpIdeal_pre_finite_up := fun m ρ _ => Cert.UpIdeal.Gen.frame m ρ

/-- The reference runs on the host and has no counter. -/
theorem frame_ref : Cert.quiescent_UpRefIdeal := fun m ρ _ =>
  (θ_run Cert.UpRefIdeal.defs _ _).mono
    (fun r h => ⟨fun c => (h c).2.2.2, sem_eq_zero_of_no_sems (by decide) r.2⟩)
    (Cert.UpRefIdeal.Value.run (F := Ideal) m ρ)

theorem frame_ref_pre : Cert.quiescent_UpRefIdeal_pre_finite_up := fun m ρ _ => frame_ref m ρ trivial

theorem preserves : Cert.preserves_Up_UpIdeal := trivial

section
open Cert.UpIdeal Cert.UpIdeal.Hand

variable (m : (ℓ : Loc nD τ sig) → Buf (Elt Ideal) ℓ) (c : Dev nD)

/-- The precondition says that every entry of both arguments is a real number. -/
theorem args_real (h : Cert.Pre_UpIdeal_finite_up m) :
    ∃ (X : UpSpec.In) (W : UpSpec.Mat),
      xArr m c = (fun i => (X i : EReal)) ∧ wArr m c = (fun i => (W i : EReal)) := by
  obtain ⟨h0, h1⟩ := h c
  obtain ⟨X, hX⟩ := Finite.lift (x := xArr m c) fun i => Finite.real_of_cmp (congrFun h0 i)
  obtain ⟨W, hW⟩ := Finite.lift (x := wArr m c) fun i => Finite.real_of_cmp (congrFun h1 i)
  exact ⟨X, W, hX, hW⟩

end

section
open Cert.UpRefIdeal

variable (m : (ℓ : Loc nD τ sig) → Buf (Elt Ideal) ℓ) (c : Dev nD)

/-- The reference's arguments, as launched. -/
abbrev xRef : S16384x1024.Idx → EReal := m (slot c main_arg0)
abbrev wRef : S1024x5632.Idx → EReal := m (slot c main_arg1)

/-- The reference's run, its results named by its own stages. -/
theorem ref_run (ρ : Dev nD → PrngReg) :
    θ_run (defs (F := Ideal)) (onTc (τ := τ) (main (F := Ideal))) ⟨m, fun _ => 0, ρ⟩ fun r => ∀ c : Dev nD,
      r.2.mem (slot c main_v11) = Read.val_main_v11 (xRef m c) (wRef m c)
      ∧ r.2.mem (slot c main_v12) = Read.val_main_v12 (xRef m c) (wRef m c)
      ∧ r.2.mem (slot c main_v15) = Read.val_main_v15 (xRef m c) (wRef m c)
      ∧ r.2.mem (slot c main_arg0) = m (slot c main_arg0)
      ∧ r.2.mem (slot c main_arg1) = m (slot c main_arg1) :=
  (θ_run (defs (F := Ideal)) _ _).mono (fun r h c =>
      ⟨(h c).1.trans (Read.val_main_v11_eq _ _), (h c).2.1.trans (Read.val_main_v12_eq _ _),
       (h c).2.2.1.trans (Read.val_main_v15_eq _ _), (h c).2.2.2⟩)
    (Value.run (F := Ideal) m ρ)

end

/-- Equal real arguments give equal results. -/
theorem algebraic : Cert.algebraic_UpIdeal_UpRefIdeal_pre_finite_up := by
  intro m ρ m' ρ' hpre hagree
  choose X W hX hW using fun c => args_real m c hpre
  refine ⟨fun c => UpSpec.p (X c) (W c), fun c => UpSpec.u (X c) (W c), fun c => UpSpec.s (X c) (W c),
    (θ_run (UpIdeal.defs (F := Ideal)) _ _).mono (fun r h c =>
      ⟨(h c).1.trans (UpIdeal.Hand.p_arr m c (hX c) (hW c)), (h c).2.1.trans (UpIdeal.Hand.u_arr m c (hX c) (hW c)),
       (h c).2.2.1.trans (UpIdeal.Hand.s_arr m c (hX c) (hW c)), (h c).2.2.2⟩)
      (UpIdeal.Value.run_blocks (F := Ideal) m ρ),
    (θ_run (UpRefIdeal.defs (F := Ideal)) _ _).mono (fun r h c => ?_) (ref_run m' ρ')⟩
  have hx : xRef m' c = fun i => (X c i : EReal) := (hagree c).1.trans (hX c)
  have hw : wRef m' c = fun i => (W c i : EReal) := (hagree c).2.trans (hW c)
  have hc := h c
  rw [hx, hw, UpRefIdeal.Hand.p_eq, UpRefIdeal.Hand.u_eq, UpRefIdeal.Hand.s_eq] at hc
  exact hc

end Cert.UpClaim

end
-- ==== Proof.WeightSpec.lean ====
module

public import Idealize.ShloMosaic.Lib.Pipeline.ValueKit

@[expose] public section

/-! The gradient of a weight in a product `a w`: the rows' products summed over all 16384 rows. -/

noncomputable section

namespace Cert.WeightSpec

open Idealize.ShloMosaic

/-- What row `n` adds to entry `(p, q)`; zero past the last row. -/
def term {ka ng : ℕ} (a : (⟨2, ![16384, ka]⟩ : Shape).Idx → EReal) (g : (⟨2, ![16384, ng]⟩ : Shape).Idx → EReal)
    (p : Fin ka) (q : Fin ng) (n : ℕ) : EReal :=
  if h : n < 16384 then a (ix2 ⟨n, h⟩ p) * g (ix2 ⟨n, h⟩ q) else 0

theorem mul_eq {a a' b b' : EReal} (h : a = a') (h' : b = b') : a * b = a' * b' := by rw [h, h']

theorem term_val {ka ng : ℕ} (a : (⟨2, ![16384, ka]⟩ : Shape).Idx → EReal) (g : (⟨2, ![16384, ng]⟩ : Shape).Idx → EReal)
    (p : Fin ka) (q : Fin ng) (n : Fin 16384) : term a g p q n.val = a (ix2 n p) * g (ix2 n q) := by
  unfold term; rw [dif_pos n.isLt]

/-- The gradient of the weight at entry `(p, q)`. -/
def dw {ka ng : ℕ} (a : (⟨2, ![16384, ka]⟩ : Shape).Idx → EReal) (g : (⟨2, ![16384, ng]⟩ : Shape).Idx → EReal)
    (i : (⟨2, ![ka, ng]⟩ : Shape).Idx) : EReal :=
  ∑ n ∈ Finset.range 16384, term a g (i 0) (i 1) n

/-- A sum over 8 blocks of 2048 rows is the sum over all the rows. -/
theorem sum_points (f : ℕ → EReal) :
    ∑ n ∈ Finset.range 8, ∑ r : Fin 2048, f (2048 * n + r.val) = ∑ n ∈ Finset.range 16384, f n := by
  rw [show Finset.range 16384 = Finset.range (8 * 2048) from rfl, Finset.sum_range_mul_split]
  refine Finset.sum_congr rfl fun n _ => ?_
  rw [Finset.sum_range]
  simp only [mul_comm]

/-- Terms added up point after point, from zero at each multiple of eight: after the eighth point of a run, the sum over
    all the rows. -/
theorem total {N : ℕ} (f : (n : ℕ) → n < N → EReal) (d : ℕ → ℕ → EReal)
    (h0 : ∀ t : Fin N, t.val % 8 = 0 → f t.val t.isLt = 0 + ∑ r : Fin 2048, d (t.val / 8) (2048 * (t.val % 8) + r.val))
    (hs : ∀ t : Fin N, ¬t.val % 8 = 0 → f t.val t.isLt
      = f (t.val - 1) (Nat.lt_of_le_of_lt (Nat.sub_le _ _) t.isLt)
        + ∑ r : Fin 2048, d (t.val / 8) (2048 * (t.val % 8) + r.val))
    (t : Fin N) (h : t.val % 8 = 7) : f t.val t.isLt = ∑ n ∈ Finset.range 16384, d (t.val / 8) n := by
  rw [← sum_points]
  have := Pipeline.eq_sum_of_reset_step_divmod f 8 0 (fun j k => ∑ r : Fin 2048, d j (2048 * k + r.val)) h0 hs t
  rw [zero_add, h] at this
  exact this

/-- A sum of products over the rows of a block, changed term by term. -/
theorem sum_rows {a b d : Fin 2048 → EReal} (h : ∀ r, a r * b r = d r) :
    ∑ r, a r * b r = ∑ r, d r := by
  rw [funext h]

end Cert.WeightSpec

end
-- ==== Proof.DownWArrays.lean ====
module

public import proofs.«01_k».proof.Proof.Gen.DownWIdeal.Value
public import proofs.«01_k».proof.Proof.WeightSpec
public import Idealize.ShloMosaic.Lib.Pipeline.ValueKit
public import proofs.«01_k».proof.Proof.Reads

@[expose] public section

/-! The gradient of the second matrix of the feed-forward layer: what a grid point adds, and the array the run leaves. -/

noncomputable section

namespace Cert.DownWIdeal.Hand

open Cert.DownWIdeal Cert.DownWIdeal.Gen Idealize.ShloMosaic TcCoe Idealize.SL.Sem Cert

variable (m : (ℓ : Loc nD τ sig) → Buf (Elt Ideal) ℓ) (c : Dev nD)

/-- The left factor of the product, as launched. -/
abbrev aArr : (⟨2, ![16384, 2816]⟩ : Shape).Idx → EReal := m (slot c main_arg0)
/-- The gradient arriving at the product, as launched. -/
abbrev gArr : (⟨2, ![16384, 1024]⟩ : Shape).Idx → EReal := m (slot c main_arg1)

theorem t_lt (t : Fin cfg0.N) : t.val < 16 := lt_of_lt_of_eq t.isLt N_0

/-- Row `r` of point `t`'s input blocks, in the whole arrays. -/
def row (t : Fin cfg0.N) (r : Fin 2048) : Fin 16384 := ⟨2048 * (t.val % 8) + r.val, by omega⟩

/-- Row `r` of point `t`'s output block, in the whole output. -/
def outRow (t : Fin cfg0.N) (r : Fin 1408) : Fin 2816 := ⟨1408 * (t.val / 8) + r.val, by have := t_lt t; omega⟩

theorem index0 : ∀ t : Fin grid0.N, win0_0.index t = ![t.val % 8, t.val / 8] := by decide +kernel
theorem index1 : ∀ t : Fin grid0.N, win0_1.index t = ![t.val % 8, 0] := by decide +kernel
theorem index2 : ∀ t : Fin grid0.N, win0_2.index t = ![t.val / 8, 0] := by decide +kernel

theorem blk0 (t : Fin cfg0.N) (n : Fin 2048) (r : Fin 1408) : iblk m c 0 t (ix2 n r) = aArr m c (ix2 (row t n) (outRow t r)) := by
  have := t_lt t
  refine read_at (V_main_arg0 m c) fun a => ?_
  match a with
  | ⟨0, _⟩ => blk_simp [index0]; simp [row]; omega
  | ⟨1, _⟩ => blk_simp [index0]; simp [outRow]; omega

theorem blk1 (t : Fin cfg0.N) (n : Fin 2048) (k : Fin 1024) : iblk m c 1 t (ix2 n k) = gArr m c (ix2 (row t n) (k)) := by
  have := t_lt t
  refine read_at (V_main_arg1 m c) fun a => ?_
  match a with
  | ⟨0, _⟩ => blk_simp [index1]; simp [row]; omega
  | ⟨1, _⟩ => blk_simp [index1]

theorem emb2 (t : Fin cfg0.N) (r : Fin 1408) (k : Fin 1024) :
    ((cfg0.win 2).blk t).view.emb (ix2 r k) = ix2 (outRow t r) (k) := by
  refine funext fun a => Fin.ext ?_
  match a with
  | ⟨0, _⟩ => blk_simp [index2]; simp [outRow]; omega
  | ⟨1, _⟩ => blk_simp [index2]

/-- One row's product. -/
theorem row_term (t : Fin cfg0.N) (r : Fin 1408) (k : Fin 1024) (n : Fin 2048) :
    (aArr m c (ix2 (row t n) (outRow t r)) * gArr m c (ix2 (row t n) (k)) : EReal)
      = WeightSpec.term (aArr m c) (gArr m c) (outRow t r) (k) (2048 * (t.val % 8) + n.val) :=
  (WeightSpec.term_val (aArr m c) (gArr m c) (outRow t r) (k) (row t n)).symm

/-- The first point of a run starts from zero. -/
theorem out_A (t : Fin cfg0.N) (h0 : t.val % 8 = 0) (r : Fin 1408) (k : Fin 1024) :
    outsAt0 m c t.val t.isLt (ix2 r k)
      = ∑ n : Fin 2048, WeightSpec.term (aArr m c) (gArr m c) (outRow t r) (k) (2048 * (t.val % 8) + n.val) := by
  rw [outsAt0_A m c t h0 (by omega)]
  frame_out
  pointwise [k0_pay1]
  exact WeightSpec.sum_rows fun n => (WeightSpec.mul_eq (blk0 m c t n r) (blk1 m c t n k)).trans (row_term m c t r k n)

/-- Every later point adds its rows. -/
theorem out_B (t : Fin cfg0.N) (h0 : ¬t.val % 8 = 0) (r : Fin 1408) (k : Fin 1024) :
    outsAt0 m c t.val t.isLt (ix2 r k)
      = outsAt0 m c (t.val - 1) (Nat.lt_of_le_of_lt (Nat.sub_le _ _) t.isLt) (ix2 r k)
      + ∑ n : Fin 2048, WeightSpec.term (aArr m c) (gArr m c) (outRow t r) (k) (2048 * (t.val % 8) + n.val) := by
  rw [outsAt0_B m c t h0 (by omega)]
  frame_out
  pointwise [k0_pay2]
  exact congrArg _ (WeightSpec.sum_rows fun n =>
    (WeightSpec.mul_eq (blk0 m c t n r) (blk1 m c t n k)).trans (row_term m c t r k n))

/-- The terms of run `j`, at one place of the output block. -/
def runTerm (r : Fin 1408) (k : Fin 1024) : ℕ → ℕ → EReal :=
  fun j n => if h : 1408 * j + r.val < 2816 then WeightSpec.term (aArr m c) (gArr m c) ⟨1408 * j + r.val, h⟩ k n else 0

theorem runTerm_at (t : Fin cfg0.N) (r : Fin 1408) (k : Fin 1024) (n : ℕ) :
    runTerm m c r k (t.val / 8) n = WeightSpec.term (aArr m c) (gArr m c) (outRow t r) (k) n := by
  have := t_lt t
  unfold runTerm
  rw [dif_pos (by omega)]
  rfl

/-- After the last point of a run the block holds the gradient. -/
theorem out_last (t : Fin cfg0.N) (h : t.val % 8 = 7) (r : Fin 1408) (k : Fin 1024) :
    outsAt0 m c t.val t.isLt (ix2 r k) = WeightSpec.dw (aArr m c) (gArr m c) (ix2 (outRow t r) (k)) := by
  refine (WeightSpec.total (fun n h => outsAt0 m c n h (ix2 r k)) (runTerm m c r k)
    (fun t h0 => ?_) (fun t h0 => ?_) t h).trans ?_
  · simp only [runTerm_at]
    rw [zero_add]
    exact out_A m c t h0 r k
  · simp only [runTerm_at]
    exact out_B m c t h0 r k
  · simp only [runTerm_at]
    rfl

theorem flush_at : ∀ t : Fin grid0.N, (cfg0.win 2).flush t = true → t.val % 8 = 7 := by decide +kernel

theorem dw_arr : (dats m 0 c).arrAt 2 cfg0.N = WeightSpec.dw (aArr m c) (gArr m c) := by
  refine (dats m 0 c).arrAt_eq_of_covers 2 _ (by decide +kernel) fun t hf y => ?_
  rw [after0_2]
  obtain ⟨r, k, rfl⟩ := pair y
  rw [emb2]
  exact out_last m c t (flush_at t hf) r k

end Cert.DownWIdeal.Hand

end
-- ==== Proof.DownWClaim.lean ====
module

public import proofs.«01_k».proof.Defs
public import proofs.«01_k».proof.Proof.Gen.DownW.Frame
public import proofs.«01_k».proof.Proof.DownWArrays
public import proofs.«01_k».proof.Proof.Gen.DownWRefIdeal.Run
public import proofs.«01_k».proof.Proof.Gen.DownWRefIdeal.Read
public import proofs.«01_k».proof.Proof.Reads

@[expose] public section

/-! The five claims about the gradient of the second matrix of the feed-forward layer. -/

noncomputable section

namespace Cert.DownWClaim

open Idealize.ShloMosaic TcCoe Idealize.SL.Sem Cert

theorem frame : Cert.quiescent_DownW := fun m ρ _ => Cert.DownW.Gen.frame m ρ

theorem frame_ideal : Cert.quiescent_DownWIdeal := fun m ρ _ => Cert.DownWIdeal.Gen.frame m ρ

/-- The reference runs on the host and has no counter. -/
theorem frame_ref : Cert.quiescent_DownWRefIdeal := fun m ρ _ =>
  (θ_run Cert.DownWRefIdeal.defs _ _).mono
    (fun r h => ⟨fun c => (h c).2, sem_eq_zero_of_no_sems (by decide) r.2⟩)
    (Cert.DownWRefIdeal.Value.run (F := Ideal) m ρ)

theorem preserves : Cert.preserves_DownW_DownWIdeal := trivial

section
open Cert.DownWRefIdeal Cert.DownWRefIdeal.Read

/-- What the reference computes. -/
theorem ref_value (a : (⟨2, ![16384, 2816]⟩ : Shape).Idx → EReal) (g : (⟨2, ![16384, 1024]⟩ : Shape).Idx → EReal) :
    val_main_v5 (F := Ideal) a g = WeightSpec.dw a g := by
  funext i
  obtain ⟨p, q, rfl⟩ := pair i
  pointwise [val_main_v5, val_main_v4, val_main_v3, val_main_v1]
  show _ = ∑ n ∈ Finset.range 16384, WeightSpec.term a g p q n
  rw [Finset.sum_range]
  exact Finset.sum_congr rfl fun n _ => (mul_comm _ _).trans (WeightSpec.term_val a g p q n).symm

variable (m : (ℓ : Loc nD τ sig) → Buf (Elt Ideal) ℓ) (c : Dev nD)

/-- The reference's arguments, as launched. -/
abbrev aRef : (⟨2, ![16384, 2816]⟩ : Shape).Idx → EReal := m (slot c main_arg0)
abbrev gRef : (⟨2, ![16384, 1024]⟩ : Shape).Idx → EReal := m (slot c main_arg1)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v5) = WeightSpec.dw (aRef m c) (gRef m c)
      ∧ r.2.mem (slot c main_arg0) = m (slot c main_arg0)
      ∧ r.2.mem (slot c main_arg1) = m (slot c main_arg1) :=
  (θ_run (defs (F := Ideal)) _ _).mono (fun r h c =>
      ⟨(h c).1.trans ((Read.val_main_v5_eq _ _).trans (ref_value _ _)), (h c).2⟩)
    (Value.run (F := Ideal) m ρ)

end

/-- The kernel's run, its result named. -/
theorem kernel_run (m : (ℓ : Loc DownWIdeal.nD DownWIdeal.τ DownWIdeal.sig) → Buf (Elt Ideal) ℓ) (ρ : Dev DownWIdeal.nD → PrngReg) :
    θ_run (DownWIdeal.defs (F := Ideal)) (onTc (τ := DownWIdeal.τ) (DownWIdeal.main (F := Ideal))) ⟨m, fun _ => 0, ρ⟩ fun r => ∀ c : Dev DownWIdeal.nD,
      r.2.mem ((c.tc : Thread DownWIdeal.nD DownWIdeal.τ).loc DownWIdeal.main_v0) = WeightSpec.dw (DownWIdeal.Hand.aArr m c) (DownWIdeal.Hand.gArr m c)
      ∧ r.2.mem ((c.tc : Thread DownWIdeal.nD DownWIdeal.τ).loc DownWIdeal.main_arg0) = m ((c.tc : Thread DownWIdeal.nD DownWIdeal.τ).loc DownWIdeal.main_arg0)
      ∧ r.2.mem ((c.tc : Thread DownWIdeal.nD DownWIdeal.τ).loc DownWIdeal.main_arg1) = m ((c.tc : Thread DownWIdeal.nD DownWIdeal.τ).loc DownWIdeal.main_arg1) :=
  (θ_run (DownWIdeal.defs (F := Ideal)) _ _).mono (fun r h c =>
      ⟨(h c).1.trans (DownWIdeal.Hand.dw_arr m c), (h c).2⟩)
    (DownWIdeal.Value.run_blocks (F := Ideal) m ρ)

/-- Equal arguments give equal results. -/
theorem algebraic : Cert.algebraic_DownWIdeal_DownWRefIdeal := by
  intro m ρ m' ρ' _ hagree
  refine ⟨fun c => WeightSpec.dw (DownWIdeal.Hand.aArr m c) (DownWIdeal.Hand.gArr m c),
    kernel_run m ρ, (θ_run (DownWRefIdeal.defs (F := Ideal)) _ _).mono (fun r h c => ?_) (ref_run m' ρ')⟩
  have ha : aRef m' c = DownWIdeal.Hand.aArr m c := (hagree c).1
  have hg : gRef m' c = DownWIdeal.Hand.gArr m c := (hagree c).2
  have hc := h c
  rw [ha, hg] at hc
  exact hc

end Cert.DownWClaim

end
-- ==== Proof.UpWArrays.lean ====
module

public import proofs.«01_k».proof.Proof.Gen.UpWIdeal.Value
public import proofs.«01_k».proof.Proof.WeightSpec
public import Idealize.ShloMosaic.Lib.Pipeline.ValueKit
public import proofs.«01_k».proof.Proof.Reads

@[expose] public section

/-! The gradient of half of the first matrix of the feed-forward layer: what a grid point adds, and the array the run leaves. -/

noncomputable section

namespace Cert.UpWIdeal.Hand

open Cert.UpWIdeal Cert.UpWIdeal.Gen Idealize.ShloMosaic TcCoe Idealize.SL.Sem Cert

variable (m : (ℓ : Loc nD τ sig) → Buf (Elt Ideal) ℓ) (c : Dev nD)

/-- The left factor of the product, as launched. -/
abbrev aArr : (⟨2, ![16384, 1024]⟩ : Shape).Idx → EReal := m (slot c main_arg0)
/-- The gradient arriving at the product, as launched. -/
abbrev gArr : (⟨2, ![16384, 2816]⟩ : Shape).Idx → EReal := m (slot c main_arg1)

theorem t_lt (t : Fin cfg0.N) : t.val < 16 := lt_of_lt_of_eq t.isLt N_0

/-- Row `r` of point `t`'s input blocks, in the whole arrays. -/
def row (t : Fin cfg0.N) (r : Fin 2048) : Fin 16384 := ⟨2048 * (t.val % 8) + r.val, by omega⟩

/-- Column `k` of point `t`'s output block, in the whole output. -/
def outCol (t : Fin cfg0.N) (k : Fin 1408) : Fin 2816 := ⟨1408 * (t.val / 8) + k.val, by have := t_lt t; omega⟩

theorem index0 : ∀ t : Fin grid0.N, win0_0.index t = ![t.val % 8, 0] := by decide +kernel
theorem index1 : ∀ t : Fin grid0.N, win0_1.index t = ![t.val % 8, t.val / 8] := by decide +kernel
theorem index2 : ∀ t : Fin grid0.N, win0_2.index t = ![0, t.val / 8] := by decide +kernel

theorem blk0 (t : Fin cfg0.N) (n : Fin 2048) (r : Fin 1024) : iblk m c 0 t (ix2 n r) = aArr m c (ix2 (row t n) (r)) := by
  have := t_lt t
  refine read_at (V_main_arg0 m c) fun a => ?_
  match a with
  | ⟨0, _⟩ => blk_simp [index0]; simp [row]; omega
  | ⟨1, _⟩ => blk_simp [index0]

theorem blk1 (t : Fin cfg0.N) (n : Fin 2048) (k : Fin 1408) : iblk m c 1 t (ix2 n k) = gArr m c (ix2 (row t n) (outCol t k)) := by
  have := t_lt t
  refine read_at (V_main_arg1 m c) fun a => ?_
  match a with
  | ⟨0, _⟩ => blk_simp [index1]; simp [row]; omega
  | ⟨1, _⟩ => blk_simp [index1]; simp [outCol]; omega

theorem emb2 (t : Fin cfg0.N) (r : Fin 1024) (k : Fin 1408) :
    ((cfg0.win 2).blk t).view.emb (ix2 r k) = ix2 (r) (outCol t k) := by
  refine funext fun a => Fin.ext ?_
  match a with
  | ⟨0, _⟩ => blk_simp [index2]
  | ⟨1, _⟩ => blk_simp [index2]; simp [outCol]; omega

/-- One row's product. -/
theorem row_term (t : Fin cfg0.N) (r : Fin 1024) (k : Fin 1408) (n : Fin 2048) :
    (aArr m c (ix2 (row t n) (r)) * gArr m c (ix2 (row t n) (outCol t k)) : EReal)
      = WeightSpec.term (aArr m c) (gArr m c) (r) (outCol t k) (2048 * (t.val % 8) + n.val) :=
  (WeightSpec.term_val (aArr m c) (gArr m c) (r) (outCol t k) (row t n)).symm

/-- The first point of a run starts from zero. -/
theorem out_A (t : Fin cfg0.N) (h0 : t.val % 8 = 0) (r : Fin 1024) (k : Fin 1408) :
    outsAt0 m c t.val t.isLt (ix2 r k)
      = ∑ n : Fin 2048, WeightSpec.term (aArr m c) (gArr m c) (r) (outCol t k) (2048 * (t.val % 8) + n.val) := by
  rw [outsAt0_A m c t h0 (by omega)]
  frame_out
  pointwise [k0_pay1]
  exact WeightSpec.sum_rows fun n => (WeightSpec.mul_eq (blk0 m c t n r) (blk1 m c t n k)).trans (row_term m c t r k n)

/-- Every later point adds its rows. -/
theorem out_B (t : Fin cfg0.N) (h0 : ¬t.val % 8 = 0) (r : Fin 1024) (k : Fin 1408) :
    outsAt0 m c t.val t.isLt (ix2 r k)
      = outsAt0 m c (t.val - 1) (Nat.lt_of_le_of_lt (Nat.sub_le _ _) t.isLt) (ix2 r k)
      + ∑ n : Fin 2048, WeightSpec.term (aArr m c) (gArr m c) (r) (outCol t k) (2048 * (t.val % 8) + n.val) := by
  rw [outsAt0_B m c t h0 (by omega)]
  frame_out
  pointwise [k0_pay2]
  exact congrArg _ (WeightSpec.sum_rows fun n =>
    (WeightSpec.mul_eq (blk0 m c t n r) (blk1 m c t n k)).trans (row_term m c t r k n))

/-- The terms of run `j`, at one place of the output block. -/
def runTerm (r : Fin 1024) (k : Fin 1408) : ℕ → ℕ → EReal :=
  fun j n => if h : 1408 * j + k.val < 2816 then WeightSpec.term (aArr m c) (gArr m c) r ⟨1408 * j + k.val, h⟩ n else 0

theorem runTerm_at (t : Fin cfg0.N) (r : Fin 1024) (k : Fin 1408) (n : ℕ) :
    runTerm m c r k (t.val / 8) n = WeightSpec.term (aArr m c) (gArr m c) (r) (outCol t k) n := by
  have := t_lt t
  unfold runTerm
  rw [dif_pos (by omega)]
  rfl

/-- After the last point of a run the block holds the gradient. -/
theorem out_last (t : Fin cfg0.N) (h : t.val % 8 = 7) (r : Fin 1024) (k : Fin 1408) :
    outsAt0 m c t.val t.isLt (ix2 r k) = WeightSpec.dw (aArr m c) (gArr m c) (ix2 (r) (outCol t k)) := by
  refine (WeightSpec.total (fun n h => outsAt0 m c n h (ix2 r k)) (runTerm m c r k)
    (fun t h0 => ?_) (fun t h0 => ?_) t h).trans ?_
  · simp only [runTerm_at]
    rw [zero_add]
    exact out_A m c t h0 r k
  · simp only [runTerm_at]
    exact out_B m c t h0 r k
  · simp only [runTerm_at]
    rfl

theorem flush_at : ∀ t : Fin grid0.N, (cfg0.win 2).flush t = true → t.val % 8 = 7 := by decide +kernel

theorem dw_arr : (dats m 0 c).arrAt 2 cfg0.N = WeightSpec.dw (aArr m c) (gArr m c) := by
  refine (dats m 0 c).arrAt_eq_of_covers 2 _ (by decide +kernel) fun t hf y => ?_
  rw [after0_2]
  obtain ⟨r, k, rfl⟩ := pair y
  rw [emb2]
  exact out_last m c t (flush_at t hf) r k

end Cert.UpWIdeal.Hand

end
-- ==== Proof.UpWClaim.lean ====
module

public import proofs.«01_k».proof.Defs
public import proofs.«01_k».proof.Proof.Gen.UpW.Frame
public import proofs.«01_k».proof.Proof.UpWArrays
public import proofs.«01_k».proof.Proof.Gen.UpWRefIdeal.Run
public import proofs.«01_k».proof.Proof.Gen.UpWRefIdeal.Read
public import proofs.«01_k».proof.Proof.Reads

@[expose] public section

/-! The five claims about the gradient of half of the first matrix of the feed-forward layer. -/

noncomputable section

namespace Cert.UpWClaim

open Idealize.ShloMosaic TcCoe Idealize.SL.Sem Cert

theorem frame : Cert.quiescent_UpW := fun m ρ _ => Cert.UpW.Gen.frame m ρ

theorem frame_ideal : Cert.quiescent_UpWIdeal := fun m ρ _ => Cert.UpWIdeal.Gen.frame m ρ

/-- The reference runs on the host and has no counter. -/
theorem frame_ref : Cert.quiescent_UpWRefIdeal := fun m ρ _ =>
  (θ_run Cert.UpWRefIdeal.defs _ _).mono
    (fun r h => ⟨fun c => (h c).2, sem_eq_zero_of_no_sems (by decide) r.2⟩)
    (Cert.UpWRefIdeal.Value.run (F := Ideal) m ρ)

theorem preserves : Cert.preserves_UpW_UpWIdeal := trivial

section
open Cert.UpWRefIdeal Cert.UpWRefIdeal.Read

/-- What the reference computes. -/
theorem ref_value (a : (⟨2, ![16384, 1024]⟩ : Shape).Idx → EReal) (g : (⟨2, ![16384, 2816]⟩ : Shape).Idx → EReal) :
    val_main_v5 (F := Ideal) a g = WeightSpec.dw a g := by
  funext i
  obtain ⟨p, q, rfl⟩ := pair i
  pointwise [val_main_v5, val_main_v4, val_main_v3, val_main_v1]
  show _ = ∑ n ∈ Finset.range 16384, WeightSpec.term a g p q n
  rw [Finset.sum_range]
  exact Finset.sum_congr rfl fun n _ => (mul_comm _ _).trans (WeightSpec.term_val a g p q n).symm

variable (m : (ℓ : Loc nD τ sig) → Buf (Elt Ideal) ℓ) (c : Dev nD)

/-- The reference's arguments, as launched. -/
abbrev aRef : (⟨2, ![16384, 1024]⟩ : Shape).Idx → EReal := m (slot c main_arg0)
abbrev gRef : (⟨2, ![16384, 2816]⟩ : Shape).Idx → EReal := m (slot c main_arg1)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v5) = WeightSpec.dw (aRef m c) (gRef m c)
      ∧ r.2.mem (slot c main_arg0) = m (slot c main_arg0)
      ∧ r.2.mem (slot c main_arg1) = m (slot c main_arg1) :=
  (θ_run (defs (F := Ideal)) _ _).mono (fun r h c =>
      ⟨(h c).1.trans ((Read.val_main_v5_eq _ _).trans (ref_value _ _)), (h c).2⟩)
    (Value.run (F := Ideal) m ρ)

end

/-- The kernel's run, its result named. -/
theorem kernel_run (m : (ℓ : Loc UpWIdeal.nD UpWIdeal.τ UpWIdeal.sig) → Buf (Elt Ideal) ℓ) (ρ : Dev UpWIdeal.nD → PrngReg) :
    θ_run (UpWIdeal.defs (F := Ideal)) (onTc (τ := UpWIdeal.τ) (UpWIdeal.main (F := Ideal))) ⟨m, fun _ => 0, ρ⟩ fun r => ∀ c : Dev UpWIdeal.nD,
      r.2.mem ((c.tc : Thread UpWIdeal.nD UpWIdeal.τ).loc UpWIdeal.main_v0) = WeightSpec.dw (UpWIdeal.Hand.aArr m c) (UpWIdeal.Hand.gArr m c)
      ∧ r.2.mem ((c.tc : Thread UpWIdeal.nD UpWIdeal.τ).loc UpWIdeal.main_arg0) = m ((c.tc : Thread UpWIdeal.nD UpWIdeal.τ).loc UpWIdeal.main_arg0)
      ∧ r.2.mem ((c.tc : Thread UpWIdeal.nD UpWIdeal.τ).loc UpWIdeal.main_arg1) = m ((c.tc : Thread UpWIdeal.nD UpWIdeal.τ).loc UpWIdeal.main_arg1) :=
  (θ_run (UpWIdeal.defs (F := Ideal)) _ _).mono (fun r h c =>
      ⟨(h c).1.trans (UpWIdeal.Hand.dw_arr m c), (h c).2⟩)
    (UpWIdeal.Value.run_blocks (F := Ideal) m ρ)

/-- Equal arguments give equal results. -/
theorem algebraic : Cert.algebraic_UpWIdeal_UpWRefIdeal := by
  intro m ρ m' ρ' _ hagree
  refine ⟨fun c => WeightSpec.dw (UpWIdeal.Hand.aArr m c) (UpWIdeal.Hand.gArr m c),
    kernel_run m ρ, (θ_run (UpWRefIdeal.defs (F := Ideal)) _ _).mono (fun r h c => ?_) (ref_run m' ρ')⟩
  have ha : aRef m' c = UpWIdeal.Hand.aArr m c := (hagree c).1
  have hg : gRef m' c = UpWIdeal.Hand.gArr m c := (hagree c).2
  have hc := h c
  rw [ha, hg] at hc
  exact hc

end Cert.UpWClaim

end
-- ==== Proof.DownSpec.lean ====
module

public import Idealize.ShloMosaic.Lib.Pipeline.ValueKit

@[expose] public section

/-! The feed-forward layer's second product, added to the residual and normalised for the next layer, written once over the
    extended reals. -/

noncomputable section

namespace Cert.DownSpec

open Idealize.ShloMosaic

abbrev Wide := (⟨2, ![16384, 2816]⟩ : Shape).Idx → EReal
abbrev Mat := (⟨2, ![2816, 1024]⟩ : Shape).Idx → EReal
abbrev Res := (⟨2, ![16384, 1024]⟩ : Shape).Idx → EReal
abbrev Mods := (⟨2, ![9, 1024]⟩ : Shape).Idx → EReal
abbrev Gain := (⟨2, ![1, 1024]⟩ : Shape).Idx → EReal

/-- One half, as the program writes it. -/
abbrev half : EReal := Ideal.ofBits .f32 0x3F000000#32
/-- The number of columns, as the program writes it. -/
abbrev width : EReal := Ideal.ofBits .f32 0x44800000#32
/-- The small number added to the mean of squares, as the program writes it. -/
abbrev eps : EReal := Ideal.ofBits .f32 0x358637BD#32

variable (s : Wide) (w : Mat) (h : Res) (mods : Mods) (g : Gain) (mn : Mods)

/-- The product. -/
def prod (n : Fin 16384) (j : Fin 1024) : EReal := ∑ l : Fin 2816, s (ix2 n l) * w (ix2 l j)

/-- The residual with the gated product added. -/
def resid (n : Fin 16384) (j : Fin 1024) : EReal := h (ix2 n j) + half * mods (ix2 2 j) * prod s w n j

/-- One over the root of a row's mean of squares. -/
def scale (n : Fin 16384) : EReal :=
  Ideal.rsqrt (Ideal.div (∑ j : Fin 1024, resid s w h mods n j * resid s w h mods n j) width + eps)

/-- The three results. -/
def x : Res := fun i => resid s w h mods (i 0) (i 1)
def y : Res := fun i => prod s w (i 0) (i 1)
def hn : Res := fun i =>
  resid s w h mods (i 0) (i 1) * scale s w h mods (i 0) * g (ix2 0 (i 1)) * (1 + mn (ix2 4 (i 1))) + mn (ix2 3 (i 1))

end Cert.DownSpec

end
-- ==== Proof.DownBlocks.lean ====
module

public import proofs.«01_k».proof.Proof.Gen.DownIdeal.Value
public import proofs.«01_k».proof.Proof.DownSpec
public import proofs.«01_k».proof.Proof.Reads

@[expose] public section

/-! The feed-forward layer's second product: what a grid point reads and computes. -/

noncomputable section

namespace Cert.DownIdeal.Hand

open Cert.DownIdeal Cert.DownIdeal.Gen Idealize.ShloMosaic TcCoe Idealize.SL.Sem Cert

variable (m : (ℓ : Loc nD τ sig) → Buf (Elt Ideal) ℓ) (c : Dev nD)

/-- The arguments, as launched. -/
abbrev sArr : DownSpec.Wide := m (slot c main_arg0)
abbrev wArr : DownSpec.Mat := m (slot c main_arg1)
abbrev hArr : DownSpec.Res := m (slot c main_arg2)
abbrev mArr : DownSpec.Mods := m (slot c main_arg3)
abbrev gArr : DownSpec.Gain := m (slot c main_arg4)
abbrev nArr : DownSpec.Mods := m (slot c main_arg5)

theorem t_lt (t : Fin cfg0.N) : t.val < 32 := lt_of_lt_of_eq t.isLt N_0

/-- Row `r` of point `t`'s blocks, in the whole arrays. -/
def row (t : Fin cfg0.N) (r : Fin 512) : Fin 16384 := ⟨512 * t.val + r.val, by have := t_lt t; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel

theorem blk0 (t : Fin cfg0.N) (r : Fin 512) (l : Fin 2816) : iblk m c 0 t (ix2 r l) = sArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 2816) (l : Fin 1024) : iblk m c 1 t (ix2 r l) = wArr m c (ix2 r l) := by
  refine read_at (V_main_arg1 m c) fun a => ?_
  match a with
  | ⟨0, _⟩ => blk_simp [index1]
  | ⟨1, _⟩ => blk_simp [index1]

theorem blk2 (t : Fin cfg0.N) (r : Fin 512) (l : Fin 1024) : iblk m c 2 t (ix2 r l) = hArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (r : Fin 9) (l : Fin 1024) : iblk m c 3 t (ix2 r l) = mArr m c (ix2 r l) := by
  refine read_at (V_main_arg3 m c) fun a => ?_
  match a with
  | ⟨0, _⟩ => blk_simp [index3]
  | ⟨1, _⟩ => blk_simp [index3]

theorem blk4 (t : Fin cfg0.N) (r : Fin 1) (l : Fin 1024) : iblk m c 4 t (ix2 r l) = gArr m c (ix2 r l) := by
  refine read_at (V_main_arg4 m c) fun a => ?_
  match a with
  | ⟨0, _⟩ => blk_simp [index4]
  | ⟨1, _⟩ => blk_simp [index4]

theorem blk5 (t : Fin cfg0.N) (r : Fin 9) (l : Fin 1024) : iblk m c 5 t (ix2 r l) = nArr m c (ix2 r l) := by
  refine read_at (V_main_arg5 m c) fun a => ?_
  match a with
  | ⟨0, _⟩ => blk_simp [index5]
  | ⟨1, _⟩ => blk_simp [index5]

theorem emb6 (t : Fin cfg0.N) (r : Fin 512) (k : Fin 1024) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 512) (k : Fin 1024) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem emb8 (t : Fin cfg0.N) (r : Fin 512) (k : Fin 1024) :
    ((cfg0.win 8).blk t).view.emb (ix2 r k) = ix2 (row t r) k := by
  refine funext fun a => Fin.ext ?_
  match a with
  | ⟨0, _⟩ => blk_simp [index8]; simp [row]; omega
  | ⟨1, _⟩ => blk_simp [index8]

/-- The product on a point's block. -/
theorem prod_at (t : Fin cfg0.N) (r : Fin 512) (j : Fin 1024) :
    k0_pay2 (F := Ideal) (iblk m c 0 t) (iblk m c 1 t) (ix2 r j)
      = DownSpec.prod (sArr m c) (wArr m c) (row t r) j := by
  pointwise [k0_pay2]
  refine Finset.sum_congr rfl fun l _ => ?_
  rw [blk0, blk1]

/-- The residual on a point's block, the modulation's row given. -/
theorem resid_at (t : Fin cfg0.N) (r : Fin 512) (j : Fin 1024) {v : Vec Idealize.ShloMosaic.Ideal S1x1024 .f32}
    (hv : ∀ j, v (ix2 0 j) = mArr m c (ix2 2 j)) :
    k0_pay3 (F := Ideal) (iblk m c 0 t) (iblk m c 1 t) (iblk m c 2 t) v (ix2 r j)
      = DownSpec.resid (sArr m c) (wArr m c) (hArr m c) (mArr m c) (row t r) j := by
  pointwise [k0_pay3]
  rw [prod_at, blk2, hv]
  rfl

/-- The normalised row on a point's block, the small arguments' rows given. -/
theorem hn_at (t : Fin cfg0.N) (r : Fin 512) (j : Fin 1024) {v g v4 v3 : Vec Idealize.ShloMosaic.Ideal S1x1024 .f32}
    (hv : ∀ j, v (ix2 0 j) = mArr m c (ix2 2 j)) (hg : ∀ j, g (ix2 0 j) = gArr m c (ix2 0 j))
    (h4 : ∀ j, v4 (ix2 0 j) = nArr m c (ix2 4 j)) (h3 : ∀ j, v3 (ix2 0 j) = nArr m c (ix2 3 j)) :
    k0_pay4 (F := Ideal) (iblk m c 0 t) (iblk m c 1 t) (iblk m c 2 t) v g v4 v3 (ix2 r j)
      = DownSpec.hn (sArr m c) (wArr m c) (hArr m c) (mArr m c) (gArr m c) (nArr m c) (ix2 (row t r) j) := by
  pointwise [k0_pay4]
  simp only [resid_at m c t r _ hv]
  rw [hg, h4, h3]
  rfl

/-- A row read from one of the modulation's blocks. -/
theorem ld3 (X : Vec Idealize.ShloMosaic.Ideal S9x1024 .f32) (j : Fin 1024) : View.ld X r0_3 (ix2 0 j) = X (ix2 2 j) :=
  View.ld_unit_apply_of X _ _ _ _ _ fun a => match a with
    | ⟨0, _⟩ => rfl
    | ⟨1, _⟩ => (Nat.zero_add _).symm

theorem ld5 (X : Vec Idealize.ShloMosaic.Ideal S9x1024 .f32) (j : Fin 1024) : View.ld X r0_5 (ix2 0 j) = X (ix2 4 j) :=
  View.ld_unit_apply_of X _ _ _ _ _ fun a => match a with
    | ⟨0, _⟩ => rfl
    | ⟨1, _⟩ => (Nat.zero_add _).symm

theorem ld6 (X : Vec Idealize.ShloMosaic.Ideal S9x1024 .f32) (j : Fin 1024) : View.ld X r0_6 (ix2 0 j) = X (ix2 3 j) :=
  View.ld_unit_apply_of X _ _ _ _ _ fun a => match a with
    | ⟨0, _⟩ => rfl
    | ⟨1, _⟩ => (Nat.zero_add _).symm

theorem x_at (t : Fin cfg0.N) (r : Fin 512) (j : Fin 1024) :
    out0_6 (iblk m c 0 t) (iblk m c 1 t) (iblk m c 2 t) (iblk m c 3 t) (iblk m c 4 t) (iblk m c 5 t) (ix2 r j)
      = DownSpec.x (sArr m c) (wArr m c) (hArr m c) (mArr m c) (ix2 (row t r) j) := by
  frame_out
  exact resid_at m c t r j fun j => (ld3 _ j).trans (blk3 m c t 2 j)

theorem y_at (t : Fin cfg0.N) (r : Fin 512) (j : Fin 1024) :
    out0_7 (iblk m c 0 t) (iblk m c 1 t) (iblk m c 2 t) (iblk m c 3 t) (iblk m c 4 t) (iblk m c 5 t) (ix2 r j)
      = DownSpec.y (sArr m c) (wArr m c) (ix2 (row t r) j) := by
  frame_out
  pointwise [k0_pay1]
  exact prod_at m c t r j

theorem hn_out (t : Fin cfg0.N) (r : Fin 512) (j : Fin 1024) :
    out0_8 (iblk m c 0 t) (iblk m c 1 t) (iblk m c 2 t) (iblk m c 3 t) (iblk m c 4 t) (iblk m c 5 t) (ix2 r j)
      = DownSpec.hn (sArr m c) (wArr m c) (hArr m c) (mArr m c) (gArr m c) (nArr m c) (ix2 (row t r) j) := by
  frame_out
  exact hn_at m c t r j (fun j => (ld3 _ j).trans (blk3 m c t 2 j)) (fun j => blk4 m c t 0 j) (fun j => (ld5 _ j).trans (blk5 m c t 4 j)) fun j => (ld6 _ j).trans (blk5 m c t 3 j)

end Cert.DownIdeal.Hand

end
-- ==== Proof.DownArrays.lean ====
module

public import proofs.«01_k».proof.Proof.DownBlocks
public import proofs.«01_k».proof.Proof.Reads

@[expose] public section

/-! The feed-forward layer's second product: the three arrays the run leaves. -/

noncomputable section

namespace Cert.DownIdeal.Hand

open Cert.DownIdeal Cert.DownIdeal.Gen Idealize.ShloMosaic TcCoe Idealize.SL.Sem Cert

variable (m : (ℓ : Loc nD τ sig) → Buf (Elt Ideal) ℓ) (c : Dev nD)

attribute [local irreducible] out0_6 out0_7 out0_8

theorem x_arr : (dats m 0 c).arrAt 6 cfg0.N = DownSpec.x (sArr m c) (wArr m c) (hArr m c) (mArr m c) := by
  refine (dats m 0 c).arrAt_eq_of_covers 6 _ (by decide +kernel) fun t _ y => ?_
  rw [after0_6]
  obtain ⟨r, k, rfl⟩ := pair y
  rw [emb6]
  exact x_at m c t r k

theorem y_arr : (dats m 0 c).arrAt 7 cfg0.N = DownSpec.y (sArr m c) (wArr m c) := by
  refine (dats m 0 c).arrAt_eq_of_covers 7 _ (by decide +kernel) fun t _ y => ?_
  rw [after0_7]
  obtain ⟨r, k, rfl⟩ := pair y
  rw [emb7]
  exact y_at m c t r k

theorem hn_arr : (dats m 0 c).arrAt 8 cfg0.N = DownSpec.hn (sArr m c) (wArr m c) (hArr m c) (mArr m c) (gArr m c) (nArr m c) := by
  refine (dats m 0 c).arrAt_eq_of_covers 8 _ (by decide +kernel) fun t _ y => ?_
  rw [after0_8]
  obtain ⟨r, k, rfl⟩ := pair y
  rw [emb8]
  exact hn_out m c t r k

end Cert.DownIdeal.Hand

end
-- ==== Proof.DownRefValue.lean ====
module

public import proofs.«01_k».proof.Proof.Gen.DownRefIdeal.Read
public import proofs.«01_k».proof.Proof.DownSpec
public import proofs.«01_k».proof.Proof.Reads

@[expose] public section

/-! The feed-forward layer's second product: what the reference computes. -/

noncomputable section

namespace Cert.DownRefIdeal.Hand

open Cert.DownRefIdeal Cert.DownRefIdeal.Read Idealize.ShloMosaic Cert

variable (s : DownSpec.Wide) (w : DownSpec.Mat) (h : DownSpec.Res) (mods : DownSpec.Mods) (g : DownSpec.Gain)
  (mn : DownSpec.Mods)

theorem prod_eq (n : Fin 16384) (j : Fin 1024) : val_main_v2 (F := Ideal) s w (ix2 n j) = DownSpec.prod s w n j := by
  pointwise [val_main_v2, val_main_v1, val_main_v0]
  rfl

theorem resid_eq (n : Fin 16384) (j : Fin 1024) :
    val_main_v8 (F := Ideal) s w h mods (ix2 n j) = DownSpec.resid s w h mods n j := by
  pointwise [val_main_v8, val_main_v7, val_main_v6, val_main_v5, val_main_v4, val_main_cst, val_main_v3]
  rw [prod_eq]
  rfl

theorem squares_eq (n : Fin 16384) : val_main_v11 (F := Ideal) s w h mods (ix1 n)
    = ∑ j : Fin 1024, DownSpec.resid s w h mods n j * DownSpec.resid s w h mods n j := by
  pointwise [val_main_v11, val_main_v10, val_main_cst_0]
  simp only [resid_eq]

theorem scale_eq (n : Fin 16384) :
    val_main_v17 (F := Ideal) s w h mods (ix2 n 0) = DownSpec.scale s w h mods n := by
  pointwise [val_main_v17, val_main_v16, val_main_v15, val_main_cst_2, val_main_v14, val_main_v13, val_main_cst_1,
    val_main_v12]
  rw [squares_eq]
  rfl

theorem x_eq : val_main_v8 (F := Ideal) s w h mods = DownSpec.x s w h mods := by
  funext i
  obtain ⟨n, j, rfl⟩ := pair i
  exact resid_eq s w h mods n j

theorem y_eq : val_main_v9 (F := Ideal) s w = DownSpec.y s w := by
  funext i
  obtain ⟨n, j, rfl⟩ := pair i
  pointwise [val_main_v9]
  exact prod_eq s w n j

theorem hn_eq : val_main_v30 (F := Ideal) s w h mods g mn = DownSpec.hn s w h mods g mn := by
  funext i
  obtain ⟨n, j, rfl⟩ := pair i
  pointwise [val_main_v30, val_main_v29, val_main_v28, val_main_v27, val_main_v26, val_main_v25, val_main_v24,
    val_main_cst_3, val_main_v23, val_main_v22, val_main_v21, val_main_v20, val_main_v19, val_main_v18]
  rw [resid_eq, scale_eq]
  rfl

end Cert.DownRefIdeal.Hand

end
-- ==== Proof.DownClaim.lean ====
module

public import proofs.«01_k».proof.Defs
public import proofs.«01_k».proof.Proof.Gen.Down.Frame
public import proofs.«01_k».proof.Proof.DownArrays
public import proofs.«01_k».proof.Proof.DownRefValue
public import proofs.«01_k».proof.Proof.Gen.DownRefIdeal.Run
public import proofs.«01_k».proof.Proof.Reads

@[expose] public section

/-! The five claims about the feed-forward layer's second product. -/

noncomputable section

namespace Cert.DownClaim

open Idealize.ShloMosaic TcCoe Idealize.SL.Sem Cert

theorem frame : Cert.quiescent_Down := fun m ρ _ => Cert.Down.Gen.frame m ρ

theorem frame_ideal : Cert.quiescent_DownIdeal := fun m ρ _ => Cert.DownIdeal.Gen.frame m ρ

/-- The reference runs on the host and has no counter. -/
theorem frame_ref : Cert.quiescent_DownRefIdeal := fun m ρ _ =>
  (θ_run Cert.DownRefIdeal.defs _ _).mono
    (fun r h => ⟨fun c => (h c).2.2.2, sem_eq_zero_of_no_sems (by decide) r.2⟩)
    (Cert.DownRefIdeal.Value.run (F := Ideal) m ρ)

theorem preserves : Cert.preserves_Down_DownIdeal := trivial

section
open Cert.DownRefIdeal

variable (m : (ℓ : Loc nD τ sig) → Buf (Elt Ideal) ℓ) (c : Dev nD)

/-- The reference's arguments, as launched. -/
abbrev sRef : DownSpec.Wide := m (slot c main_arg0)
abbrev wRef : DownSpec.Mat := m (slot c main_arg1)
abbrev hRef : DownSpec.Res := m (slot c main_arg2)
abbrev mRef : DownSpec.Mods := m (slot c main_arg3)
abbrev gRef : DownSpec.Gain := m (slot c main_arg4)
abbrev nRef : DownSpec.Mods := m (slot c main_arg5)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v8) = DownSpec.x (sRef m c) (wRef m c) (hRef m c) (mRef m c)
      ∧ r.2.mem (slot c main_v9) = DownSpec.y (sRef m c) (wRef m c)
      ∧ r.2.mem (slot c main_v30)
        = DownSpec.hn (sRef m c) (wRef m c) (hRef m c) (mRef m c) (gRef m c) (nRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5) :=
  (θ_run (defs (F := Ideal)) _ _).mono (fun r h c =>
      ⟨(h c).1.trans ((Read.val_main_v8_eq _ _ _ _).trans (DownRefIdeal.Hand.x_eq _ _ _ _)),
       (h c).2.1.trans ((Read.val_main_v9_eq _ _).trans (DownRefIdeal.Hand.y_eq _ _)),
       (h c).2.2.1.trans ((Read.val_main_v30_eq _ _ _ _ _ _).trans (DownRefIdeal.Hand.hn_eq _ _ _ _ _ _)),
       (h c).2.2.2⟩)
    (Value.run (F := Ideal) m ρ)

end

/-- Equal arguments give equal results. -/
theorem algebraic : Cert.algebraic_DownIdeal_DownRefIdeal := by
  intro m ρ m' ρ' _ hagree
  refine ⟨fun c => DownSpec.x (DownIdeal.Hand.sArr m c) (DownIdeal.Hand.wArr m c) (DownIdeal.Hand.hArr m c) (DownIdeal.Hand.mArr m c),
    fun c => DownSpec.y (DownIdeal.Hand.sArr m c) (DownIdeal.Hand.wArr m c),
    fun c => DownSpec.hn (DownIdeal.Hand.sArr m c) (DownIdeal.Hand.wArr m c) (DownIdeal.Hand.hArr m c)
      (DownIdeal.Hand.mArr m c) (DownIdeal.Hand.gArr m c) (DownIdeal.Hand.nArr m c),
    (θ_run (DownIdeal.defs (F := Ideal)) _ _).mono (fun r h c =>
      ⟨(h c).1.trans (DownIdeal.Hand.x_arr m c), (h c).2.1.trans (DownIdeal.Hand.y_arr m c),
       (h c).2.2.1.trans (DownIdeal.Hand.hn_arr m c), (h c).2.2.2⟩)
      (DownIdeal.Value.run_blocks (F := Ideal) m ρ),
    (θ_run (DownRefIdeal.defs (F := Ideal)) _ _).mono (fun r h c => ?_) (ref_run m' ρ')⟩
  have h0 : sRef m' c = DownIdeal.Hand.sArr m c := (hagree c).1
  have h1 : wRef m' c = DownIdeal.Hand.wArr m c := (hagree c).2.1
  have h2 : hRef m' c = DownIdeal.Hand.hArr m c := (hagree c).2.2.1
  have h3 : mRef m' c = DownIdeal.Hand.mArr m c := (hagree c).2.2.2.1
  have h4 : gRef m' c = DownIdeal.Hand.gArr m c := (hagree c).2.2.2.2.1
  have h5 : nRef m' c = DownIdeal.Hand.nArr m c := (hagree c).2.2.2.2.2
  have hc := h c
  rw [h0, h1, h2, h3, h4, h5] at hc
  exact hc

end Cert.DownClaim

end
-- ==== Proof.AdamSpec.lean ====
module

public import proofs.«01_k».proof.Proof.Finite

@[expose] public section

/-! One step of the optimiser for one entry of a weight, over the extended reals: `w` is the weight, `m` and `v` its two
    moments, `g` its gradient. -/

noncomputable section

namespace Cert.AdamSpec

open Idealize.ShloMosaic

abbrev Arr (R C : Nat) := (⟨2, ![R, C]⟩ : Shape).Idx → EReal
abbrev Parts (R C : Nat) := (⟨3, ![8, R, C]⟩ : Shape).Idx → EReal

/-- The first moment: 0.9 of the old one and 0.1 of the gradient. -/
def nextM (m g : EReal) : EReal := Ideal.ofBits .f32 0x3F666666#32 * m + Ideal.ofBits .f32 0x3DCCCCCD#32 * g

/-- The second moment: 0.999 of the old one and 0.001 of the gradient's square. -/
def nextV (v g : EReal) : EReal := Ideal.ofBits .f32 0x3F7FBE77#32 * v + Ideal.ofBits .f32 0x3A83126F#32 * (g * g)

/-- What is added to the weight: the corrected first moment over the root of the corrected second, and the decay. -/
def delta (w m v g : EReal) : EReal :=
  Ideal.ofBits .f32 0xBA83126F#32
    * (Ideal.div (Ideal.div (nextM m g) (Ideal.ofBits .f32 0x3F26BD02#32))
        (Ideal.sqrt (Ideal.div (nextV v g) (Ideal.ofBits .f32 0x3C231ACC#32)) + Ideal.ofBits .f32 0x322BCC77#32)
      + Ideal.ofBits .f32 0x3C23D70A#32 * w)

/-- The gradient summed over the eight devices. -/
def total {R C : Nat} (x : Parts R C) : Arr R C := fun i => ∑ p : Fin 8, x (ix3 p (i 0) (i 1))

def newM {R C : Nat} (m g : Arr R C) : Arr R C := fun i => nextM (m i) (g i)
def newV {R C : Nat} (v g : Arr R C) : Arr R C := fun i => nextV (v i) (g i)
def newD {R C : Nat} (w m v g : Arr R C) : Arr R C := fun i => delta (w i) (m i) (v i) (g i)

end Cert.AdamSpec

end
-- ==== Proof.AdamUpArrays.lean ====
module

public import proofs.«01_k».proof.Proof.Gen.AdamUpIdeal.Value
public import proofs.«01_k».proof.Proof.Gen.AdamUpRefIdeal.Read
public import proofs.«01_k».proof.Proof.AdamSpec
public import proofs.«01_k».proof.Proof.Reads

@[expose] public section

/-! The optimiser's step for the first feed-forward matrices: what the run leaves, and what the reference computes. -/

noncomputable section

namespace Cert.AdamUpIdeal.Hand

open Cert.AdamUpIdeal Cert.AdamUpIdeal.Gen Idealize.ShloMosaic TcCoe Idealize.SL.Sem Cert

variable (m : (ℓ : Loc nD τ sig) → Buf (Elt Ideal) ℓ) (c : Dev nD)

/-- The arguments, as launched. -/
abbrev wArr : AdamSpec.Arr 4096 704 := m (slot c main_arg0)
abbrev mArr : AdamSpec.Arr 4096 704 := m (slot c main_arg1)
abbrev vArr : AdamSpec.Arr 4096 704 := m (slot c main_arg2)
abbrev pArr : AdamSpec.Parts 4096 704 := m (slot c main_arg3)
/-- The summed gradient. -/
abbrev gArr : AdamSpec.Arr 4096 704 := AdamSpec.total (pArr m c)

theorem t_lt (t : Fin cfg0.N) : t.val < 16 := lt_of_lt_of_eq t.isLt N_0

/-- Row `r` of point `t`'s blocks, in the whole arrays. -/
def row (t : Fin cfg0.N) (r : Fin 256) : Fin 4096 := ⟨256 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (t : Fin cfg0.N) (r : Fin 256) (l : Fin 704) : iblk m c 0 t (ix2 r l) = wArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 256) (l : Fin 704) : iblk m c 1 t (ix2 r l) = mArr m c (ix2 (row t r) l) := by
  refine read_at (V_main_arg1 m c) fun a => ?_
  match a with
  | ⟨0, _⟩ => blk_simp [index1]; simp [row]; omega
  | ⟨1, _⟩ => blk_simp [index1]

theorem blk2 (t : Fin cfg0.N) (r : Fin 256) (l : Fin 704) : iblk m c 2 t (ix2 r l) = vArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (p : Fin 8) (r : Fin 256) (l : Fin 704) :
    iblk m c 3 t (ix3 p r l) = pArr m c (ix3 p (row t r) l) := by
  refine read_at (V_main_arg3 m c) fun a => ?_
  match a with
  | ⟨0, _⟩ => blk_simp [index3]
  | ⟨1, _⟩ => blk_simp [index3]; simp [row]; omega
  | ⟨2, _⟩ => blk_simp [index3]

theorem emb4 (t : Fin cfg0.N) (r : Fin 256) (k : Fin 704) :
    ((cfg0.win 4).blk t).view.emb (ix2 r k) = ix2 (row t r) k := by
  refine funext fun a => Fin.ext ?_
  match a with
  | ⟨0, _⟩ => blk_simp [index4]; simp [row]; omega
  | ⟨1, _⟩ => blk_simp [index4]

theorem emb5 (t : Fin cfg0.N) (r : Fin 256) (k : Fin 704) :
    ((cfg0.win 5).blk t).view.emb (ix2 r k) = ix2 (row t r) k := by
  refine funext fun a => Fin.ext ?_
  match a with
  | ⟨0, _⟩ => blk_simp [index5]; simp [row]; omega
  | ⟨1, _⟩ => blk_simp [index5]

theorem emb6 (t : Fin cfg0.N) (r : Fin 256) (k : Fin 704) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 256) (k : Fin 704) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem sum_at (t : Fin cfg0.N) (r : Fin 256) (k : Fin 704) :
    k0_pay5 (F := Ideal) (iblk m c 0 t) (iblk m c 1 t) (iblk m c 2 t) (iblk m c 3 t) (ix2 r k) = gArr m c (ix2 (row t r) k) := by
  refine Eq.trans ?_ (Finset.sum_congr rfl fun p _ => blk3 m c t p r k)
  pointwise [k0_pay5, k0_pay4]
  simp only [Fin.sum_univ_eight]

theorem g_at (t : Fin cfg0.N) (r : Fin 256) (k : Fin 704) :
    out0_4 (F := Ideal) (iblk m c 0 t) (iblk m c 1 t) (iblk m c 2 t) (iblk m c 3 t) (ix2 r k) = gArr m c (ix2 (row t r) k) := by
  refine Eq.trans ?_ (sum_at m c t r k)
  frame_out
  try rfl

theorem d_at (t : Fin cfg0.N) (r : Fin 256) (k : Fin 704) :
    out0_5 (F := Ideal) (iblk m c 0 t) (iblk m c 1 t) (iblk m c 2 t) (iblk m c 3 t) (ix2 r k)
      = AdamSpec.newD (wArr m c) (mArr m c) (vArr m c) (gArr m c) (ix2 (row t r) k) := by
  frame_out
  pointwise [k0_pay3, k0_pay2, k0_pay1]
  rw [sum_at m c t r k, blk0 m c t r k, blk1 m c t r k, blk2 m c t r k]
  rfl

theorem m_at (t : Fin cfg0.N) (r : Fin 256) (k : Fin 704) :
    out0_6 (F := Ideal) (iblk m c 0 t) (iblk m c 1 t) (iblk m c 2 t) (iblk m c 3 t) (ix2 r k)
      = AdamSpec.newM (mArr m c) (gArr m c) (ix2 (row t r) k) := by
  frame_out
  pointwise [k0_pay1]
  rw [sum_at m c t r k, blk1 m c t r k]
  rfl

theorem v_at (t : Fin cfg0.N) (r : Fin 256) (k : Fin 704) :
    out0_7 (F := Ideal) (iblk m c 0 t) (iblk m c 1 t) (iblk m c 2 t) (iblk m c 3 t) (ix2 r k)
      = AdamSpec.newV (vArr m c) (gArr m c) (ix2 (row t r) k) := by
  frame_out
  pointwise [k0_pay2]
  rw [sum_at m c t r k, blk2 m c t r k]
  rfl

attribute [local irreducible] out0_4 out0_5 out0_6 out0_7

theorem g_arr : (dats m 0 c).arrAt 4 cfg0.N = gArr m c := by
  refine (dats m 0 c).arrAt_eq_of_covers 4 _ (by decide +kernel) fun t _ y => ?_
  rw [after0_4]
  obtain ⟨r, k, rfl⟩ := pair y
  rw [emb4]
  exact g_at m c t r k

theorem d_arr : (dats m 0 c).arrAt 5 cfg0.N = AdamSpec.newD (wArr m c) (mArr m c) (vArr m c) (gArr m c) := by
  refine (dats m 0 c).arrAt_eq_of_covers 5 _ (by decide +kernel) fun t _ y => ?_
  rw [after0_5]
  obtain ⟨r, k, rfl⟩ := pair y
  rw [emb5]
  exact d_at m c t r k

theorem m_arr : (dats m 0 c).arrAt 6 cfg0.N = AdamSpec.newM (mArr m c) (gArr m c) := by
  refine (dats m 0 c).arrAt_eq_of_covers 6 _ (by decide +kernel) fun t _ y => ?_
  rw [after0_6]
  obtain ⟨r, k, rfl⟩ := pair y
  rw [emb6]
  exact m_at m c t r k

theorem v_arr : (dats m 0 c).arrAt 7 cfg0.N = AdamSpec.newV (vArr m c) (gArr m c) := by
  refine (dats m 0 c).arrAt_eq_of_covers 7 _ (by decide +kernel) fun t _ y => ?_
  rw [after0_7]
  obtain ⟨r, k, rfl⟩ := pair y
  rw [emb7]
  exact v_at m c t r k

end Cert.AdamUpIdeal.Hand

namespace Cert.AdamUpRefIdeal.Hand

open Cert.AdamUpRefIdeal Cert.AdamUpRefIdeal.Read Idealize.ShloMosaic Cert

variable (w m v : AdamSpec.Arr 4096 704) (g : AdamSpec.Parts 4096 704)

theorem g_eq : val_main_v1 (F := Ideal) g = AdamSpec.total g := by
  funext i
  obtain ⟨r, k, rfl⟩ := pair i
  show _ = ∑ p : Fin 8, g (ix3 p r k)
  pointwise [val_main_v1, val_main_v0, val_main_cst]

theorem d_eq : val_main_v25 (F := Ideal) w m v g = AdamSpec.newD w m v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_v13, val_main_v14, val_main_v15, val_main_v16,
    val_main_v17, val_main_v18, val_main_v19, val_main_v20, val_main_v21, val_main_v22, val_main_v23,
    val_main_v24, val_main_v25, val_main_cst_1, val_main_cst_2, val_main_cst_3, val_main_cst_4, val_main_cst_5,
    val_main_cst_6, val_main_cst_7, val_main_cst_8]
  simp only [g_eq]
  rfl

theorem m_eq : val_main_v6 (F := Ideal) m g = AdamSpec.newM m (AdamSpec.total g) := by
  funext i
  obtain ⟨r, k, rfl⟩ := pair i
  pointwise [val_main_v2, val_main_v3, val_main_v4, val_main_v5, val_main_v6, val_main_cst_1, val_main_cst_2]
  simp only [g_eq]
  rfl

theorem v_eq : val_main_v12 (F := Ideal) v g = AdamSpec.newV v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_cst_3, val_main_cst_4]
  simp only [g_eq]
  rfl

end Cert.AdamUpRefIdeal.Hand

end
-- ==== Proof.AdamUpClaim.lean ====
module

public import proofs.«01_k».proof.Defs
public import proofs.«01_k».proof.Proof.Gen.AdamUp.Frame
public import proofs.«01_k».proof.Proof.AdamUpArrays
public import proofs.«01_k».proof.Proof.Gen.AdamUpRefIdeal.Run
public import proofs.«01_k».proof.Proof.Reads

@[expose] public section

/-! The five claims about the optimiser's step for the first feed-forward matrices. -/

noncomputable section

namespace Cert.AdamUpClaim

open Idealize.ShloMosaic TcCoe Idealize.SL.Sem Cert

theorem frame : Cert.quiescent_AdamUp := fun m ρ _ => Cert.AdamUp.Gen.frame m ρ

theorem frame_ideal : Cert.quiescent_AdamUpIdeal := fun m ρ _ => Cert.AdamUpIdeal.Gen.frame m ρ

/-- The reference runs on the host and has no counter. -/
theorem frame_ref : Cert.quiescent_AdamUpRefIdeal := fun m ρ _ =>
  (θ_run Cert.AdamUpRefIdeal.defs _ _).mono
    (fun r h => ⟨fun c => (h c).2.2.2.2, sem_eq_zero_of_no_sems (by decide) r.2⟩)
    (Cert.AdamUpRefIdeal.Value.run (F := Ideal) m ρ)

theorem preserves : Cert.preserves_AdamUp_AdamUpIdeal := trivial

section
open Cert.AdamUpRefIdeal

variable (m : (ℓ : Loc nD τ sig) → Buf (Elt Ideal) ℓ) (c : Dev nD)

/-- The reference's arguments, as launched. -/
abbrev wRef : AdamSpec.Arr 4096 704 := m (slot c main_arg0)
abbrev mRef : AdamSpec.Arr 4096 704 := m (slot c main_arg1)
abbrev vRef : AdamSpec.Arr 4096 704 := m (slot c main_arg2)
abbrev gRef : AdamSpec.Parts 4096 704 := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v1) = AdamSpec.total (gRef m c)
      ∧ r.2.mem (slot c main_v25) = AdamSpec.newD (wRef m c) (mRef m c) (vRef m c) (AdamSpec.total (gRef m c))
      ∧ r.2.mem (slot c main_v6) = AdamSpec.newM (mRef m c) (AdamSpec.total (gRef m c))
      ∧ r.2.mem (slot c main_v12) = AdamSpec.newV (vRef m c) (AdamSpec.total (gRef m c))
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans ((Read.val_main_v1_eq _).trans (Hand.g_eq _)),
       (h c).2.1.trans ((Read.val_main_v25_eq _ _ _ _).trans (Hand.d_eq _ _ _ _)),
       (h c).2.2.1.trans ((Read.val_main_v6_eq _ _).trans (Hand.m_eq _ _)),
       (h c).2.2.2.1.trans ((Read.val_main_v12_eq _ _).trans (Hand.v_eq _ _)), (h c).2.2.2.2⟩)
    (Value.run (F := Ideal) m ρ)

end

/-- Equal arguments give equal results. -/
theorem algebraic : Cert.algebraic_AdamUpIdeal_AdamUpRefIdeal := by
  intro m ρ m' ρ' _ hagree
  refine ⟨fun c => AdamUpIdeal.Hand.gArr m c,
    fun c => AdamSpec.newD (AdamUpIdeal.Hand.wArr m c) (AdamUpIdeal.Hand.mArr m c) (AdamUpIdeal.Hand.vArr m c) (AdamUpIdeal.Hand.gArr m c),
    fun c => AdamSpec.newM (AdamUpIdeal.Hand.mArr m c) (AdamUpIdeal.Hand.gArr m c),
    fun c => AdamSpec.newV (AdamUpIdeal.Hand.vArr m c) (AdamUpIdeal.Hand.gArr m c),
    (θ_run (AdamUpIdeal.defs (F := Ideal)) _ _).mono (fun r h c =>
      ⟨(h c).1.trans (AdamUpIdeal.Hand.g_arr m c), (h c).2.1.trans (AdamUpIdeal.Hand.d_arr m c),
       (h c).2.2.1.trans (AdamUpIdeal.Hand.m_arr m c), (h c).2.2.2.1.trans (AdamUpIdeal.Hand.v_arr m c), (h c).2.2.2.2⟩)
      (AdamUpIdeal.Value.run_blocks (F := Ideal) m ρ),
    (θ_run (AdamUpRefIdeal.defs (F := Ideal)) _ _).mono (fun r h c => ?_) (ref_run m' ρ')⟩
  have h0 : wRef m' c = AdamUpIdeal.Hand.wArr m c := (hagree c).1
  have h1 : mRef m' c = AdamUpIdeal.Hand.mArr m c := (hagree c).2.1
  have h2 : vRef m' c = AdamUpIdeal.Hand.vArr m c := (hagree c).2.2.1
  have h3 : gRef m' c = AdamUpIdeal.Hand.pArr m c := (hagree c).2.2.2
  have hc := h c
  rw [h0, h1, h2, h3] at hc
  exact hc

end Cert.AdamUpClaim

end
-- ==== Proof.AdamDownArrays.lean ====
module

public import proofs.«01_k».proof.Proof.Gen.AdamDownIdeal.Value
public import proofs.«01_k».proof.Proof.Gen.AdamDownRefIdeal.Read
public import proofs.«01_k».proof.Proof.AdamSpec
public import proofs.«01_k».proof.Proof.Reads

@[expose] public section

/-! The optimiser's step for the second feed-forward matrices: what the run leaves, and what the reference computes. -/

noncomputable section

namespace Cert.AdamDownIdeal.Hand

open Cert.AdamDownIdeal Cert.AdamDownIdeal.Gen Idealize.ShloMosaic TcCoe Idealize.SL.Sem Cert

variable (m : (ℓ : Loc nD τ sig) → Buf (Elt Ideal) ℓ) (c : Dev nD)

/-- The arguments, as launched. -/
abbrev wArr : AdamSpec.Arr 1408 1024 := m (slot c main_arg0)
abbrev mArr : AdamSpec.Arr 1408 1024 := m (slot c main_arg1)
abbrev vArr : AdamSpec.Arr 1408 1024 := m (slot c main_arg2)
abbrev pArr : AdamSpec.Parts 1408 1024 := m (slot c main_arg3)
/-- The summed gradient. -/
abbrev gArr : AdamSpec.Arr 1408 1024 := AdamSpec.total (pArr m c)

theorem t_lt (t : Fin cfg0.N) : t.val < 11 := lt_of_lt_of_eq t.isLt N_0

/-- Row `r` of point `t`'s blocks, in the whole arrays. -/
def row (t : Fin cfg0.N) (r : Fin 128) : Fin 1408 := ⟨128 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (t : Fin cfg0.N) (r : Fin 128) (l : Fin 1024) : iblk m c 0 t (ix2 r l) = wArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 128) (l : Fin 1024) : iblk m c 1 t (ix2 r l) = mArr m c (ix2 (row t r) l) := by
  refine read_at (V_main_arg1 m c) fun a => ?_
  match a with
  | ⟨0, _⟩ => blk_simp [index1]; simp [row]; omega
  | ⟨1, _⟩ => blk_simp [index1]

theorem blk2 (t : Fin cfg0.N) (r : Fin 128) (l : Fin 1024) : iblk m c 2 t (ix2 r l) = vArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (p : Fin 8) (r : Fin 128) (l : Fin 1024) :
    iblk m c 3 t (ix3 p r l) = pArr m c (ix3 p (row t r) l) := by
  refine read_at (V_main_arg3 m c) fun a => ?_
  match a with
  | ⟨0, _⟩ => blk_simp [index3]
  | ⟨1, _⟩ => blk_simp [index3]; simp [row]; omega
  | ⟨2, _⟩ => blk_simp [index3]

theorem emb4 (t : Fin cfg0.N) (r : Fin 128) (k : Fin 1024) :
    ((cfg0.win 4).blk t).view.emb (ix2 r k) = ix2 (row t r) k := by
  refine funext fun a => Fin.ext ?_
  match a with
  | ⟨0, _⟩ => blk_simp [index4]; simp [row]; omega
  | ⟨1, _⟩ => blk_simp [index4]

theorem emb5 (t : Fin cfg0.N) (r : Fin 128) (k : Fin 1024) :
    ((cfg0.win 5).blk t).view.emb (ix2 r k) = ix2 (row t r) k := by
  refine funext fun a => Fin.ext ?_
  match a with
  | ⟨0, _⟩ => blk_simp [index5]; simp [row]; omega
  | ⟨1, _⟩ => blk_simp [index5]

theorem emb6 (t : Fin cfg0.N) (r : Fin 128) (k : Fin 1024) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 128) (k : Fin 1024) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem sum_at (t : Fin cfg0.N) (r : Fin 128) (k : Fin 1024) :
    k0_pay5 (F := Ideal) (iblk m c 0 t) (iblk m c 1 t) (iblk m c 2 t) (iblk m c 3 t) (ix2 r k) = gArr m c (ix2 (row t r) k) := by
  refine Eq.trans ?_ (Finset.sum_congr rfl fun p _ => blk3 m c t p r k)
  pointwise [k0_pay5, k0_pay4]
  simp only [Fin.sum_univ_eight]

theorem g_at (t : Fin cfg0.N) (r : Fin 128) (k : Fin 1024) :
    out0_4 (F := Ideal) (iblk m c 0 t) (iblk m c 1 t) (iblk m c 2 t) (iblk m c 3 t) (ix2 r k) = gArr m c (ix2 (row t r) k) := by
  refine Eq.trans ?_ (sum_at m c t r k)
  frame_out
  try rfl

theorem d_at (t : Fin cfg0.N) (r : Fin 128) (k : Fin 1024) :
    out0_5 (F := Ideal) (iblk m c 0 t) (iblk m c 1 t) (iblk m c 2 t) (iblk m c 3 t) (ix2 r k)
      = AdamSpec.newD (wArr m c) (mArr m c) (vArr m c) (gArr m c) (ix2 (row t r) k) := by
  frame_out
  pointwise [k0_pay3, k0_pay2, k0_pay1]
  rw [sum_at m c t r k, blk0 m c t r k, blk1 m c t r k, blk2 m c t r k]
  rfl

theorem m_at (t : Fin cfg0.N) (r : Fin 128) (k : Fin 1024) :
    out0_6 (F := Ideal) (iblk m c 0 t) (iblk m c 1 t) (iblk m c 2 t) (iblk m c 3 t) (ix2 r k)
      = AdamSpec.newM (mArr m c) (gArr m c) (ix2 (row t r) k) := by
  frame_out
  pointwise [k0_pay1]
  rw [sum_at m c t r k, blk1 m c t r k]
  rfl

theorem v_at (t : Fin cfg0.N) (r : Fin 128) (k : Fin 1024) :
    out0_7 (F := Ideal) (iblk m c 0 t) (iblk m c 1 t) (iblk m c 2 t) (iblk m c 3 t) (ix2 r k)
      = AdamSpec.newV (vArr m c) (gArr m c) (ix2 (row t r) k) := by
  frame_out
  pointwise [k0_pay2]
  rw [sum_at m c t r k, blk2 m c t r k]
  rfl

attribute [local irreducible] out0_4 out0_5 out0_6 out0_7

theorem g_arr : (dats m 0 c).arrAt 4 cfg0.N = gArr m c := by
  refine (dats m 0 c).arrAt_eq_of_covers 4 _ (by decide +kernel) fun t _ y => ?_
  rw [after0_4]
  obtain ⟨r, k, rfl⟩ := pair y
  rw [emb4]
  exact g_at m c t r k

theorem d_arr : (dats m 0 c).arrAt 5 cfg0.N = AdamSpec.newD (wArr m c) (mArr m c) (vArr m c) (gArr m c) := by
  refine (dats m 0 c).arrAt_eq_of_covers 5 _ (by decide +kernel) fun t _ y => ?_
  rw [after0_5]
  obtain ⟨r, k, rfl⟩ := pair y
  rw [emb5]
  exact d_at m c t r k

theorem m_arr : (dats m 0 c).arrAt 6 cfg0.N = AdamSpec.newM (mArr m c) (gArr m c) := by
  refine (dats m 0 c).arrAt_eq_of_covers 6 _ (by decide +kernel) fun t _ y => ?_
  rw [after0_6]
  obtain ⟨r, k, rfl⟩ := pair y
  rw [emb6]
  exact m_at m c t r k

theorem v_arr : (dats m 0 c).arrAt 7 cfg0.N = AdamSpec.newV (vArr m c) (gArr m c) := by
  refine (dats m 0 c).arrAt_eq_of_covers 7 _ (by decide +kernel) fun t _ y => ?_
  rw [after0_7]
  obtain ⟨r, k, rfl⟩ := pair y
  rw [emb7]
  exact v_at m c t r k

end Cert.AdamDownIdeal.Hand

namespace Cert.AdamDownRefIdeal.Hand

open Cert.AdamDownRefIdeal Cert.AdamDownRefIdeal.Read Idealize.ShloMosaic Cert

variable (w m v : AdamSpec.Arr 1408 1024) (g : AdamSpec.Parts 1408 1024)

theorem g_eq : val_main_v1 (F := Ideal) g = AdamSpec.total g := by
  funext i
  obtain ⟨r, k, rfl⟩ := pair i
  show _ = ∑ p : Fin 8, g (ix3 p r k)
  pointwise [val_main_v1, val_main_v0, val_main_cst]

theorem d_eq : val_main_v25 (F := Ideal) w m v g = AdamSpec.newD w m v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_v13, val_main_v14, val_main_v15, val_main_v16,
    val_main_v17, val_main_v18, val_main_v19, val_main_v20, val_main_v21, val_main_v22, val_main_v23,
    val_main_v24, val_main_v25, val_main_cst_1, val_main_cst_2, val_main_cst_3, val_main_cst_4, val_main_cst_5,
    val_main_cst_6, val_main_cst_7, val_main_cst_8]
  simp only [g_eq]
  rfl

theorem m_eq : val_main_v6 (F := Ideal) m g = AdamSpec.newM m (AdamSpec.total g) := by
  funext i
  obtain ⟨r, k, rfl⟩ := pair i
  pointwise [val_main_v2, val_main_v3, val_main_v4, val_main_v5, val_main_v6, val_main_cst_1, val_main_cst_2]
  simp only [g_eq]
  rfl

theorem v_eq : val_main_v12 (F := Ideal) v g = AdamSpec.newV v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_cst_3, val_main_cst_4]
  simp only [g_eq]
  rfl

end Cert.AdamDownRefIdeal.Hand

end
-- ==== Proof.AdamDownClaim.lean ====
module

public import proofs.«01_k».proof.Defs
public import proofs.«01_k».proof.Proof.Gen.AdamDown.Frame
public import proofs.«01_k».proof.Proof.AdamDownArrays
public import proofs.«01_k».proof.Proof.Gen.AdamDownRefIdeal.Run
public import proofs.«01_k».proof.Proof.Reads

@[expose] public section

/-! The five claims about the optimiser's step for the second feed-forward matrices. -/

noncomputable section

namespace Cert.AdamDownClaim

open Idealize.ShloMosaic TcCoe Idealize.SL.Sem Cert

theorem frame : Cert.quiescent_AdamDown := fun m ρ _ => Cert.AdamDown.Gen.frame m ρ

theorem frame_ideal : Cert.quiescent_AdamDownIdeal := fun m ρ _ => Cert.AdamDownIdeal.Gen.frame m ρ

/-- The reference runs on the host and has no counter. -/
theorem frame_ref : Cert.quiescent_AdamDownRefIdeal := fun m ρ _ =>
  (θ_run Cert.AdamDownRefIdeal.defs _ _).mono
    (fun r h => ⟨fun c => (h c).2.2.2.2, sem_eq_zero_of_no_sems (by decide) r.2⟩)
    (Cert.AdamDownRefIdeal.Value.run (F := Ideal) m ρ)

theorem preserves : Cert.preserves_AdamDown_AdamDownIdeal := trivial

section
open Cert.AdamDownRefIdeal

variable (m : (ℓ : Loc nD τ sig) → Buf (Elt Ideal) ℓ) (c : Dev nD)

/-- The reference's arguments, as launched. -/
abbrev wRef : AdamSpec.Arr 1408 1024 := m (slot c main_arg0)
abbrev mRef : AdamSpec.Arr 1408 1024 := m (slot c main_arg1)
abbrev vRef : AdamSpec.Arr 1408 1024 := m (slot c main_arg2)
abbrev gRef : AdamSpec.Parts 1408 1024 := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v1) = AdamSpec.total (gRef m c)
      ∧ r.2.mem (slot c main_v25) = AdamSpec.newD (wRef m c) (mRef m c) (vRef m c) (AdamSpec.total (gRef m c))
      ∧ r.2.mem (slot c main_v6) = AdamSpec.newM (mRef m c) (AdamSpec.total (gRef m c))
      ∧ r.2.mem (slot c main_v12) = AdamSpec.newV (vRef m c) (AdamSpec.total (gRef m c))
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans ((Read.val_main_v1_eq _).trans (Hand.g_eq _)),
       (h c).2.1.trans ((Read.val_main_v25_eq _ _ _ _).trans (Hand.d_eq _ _ _ _)),
       (h c).2.2.1.trans ((Read.val_main_v6_eq _ _).trans (Hand.m_eq _ _)),
       (h c).2.2.2.1.trans ((Read.val_main_v12_eq _ _).trans (Hand.v_eq _ _)), (h c).2.2.2.2⟩)
    (Value.run (F := Ideal) m ρ)

end

/-- Equal arguments give equal results. -/
theorem algebraic : Cert.algebraic_AdamDownIdeal_AdamDownRefIdeal := by
  intro m ρ m' ρ' _ hagree
  refine ⟨fun c => AdamDownIdeal.Hand.gArr m c,
    fun c => AdamSpec.newD (AdamDownIdeal.Hand.wArr m c) (AdamDownIdeal.Hand.mArr m c) (AdamDownIdeal.Hand.vArr m c) (AdamDownIdeal.Hand.gArr m c),
    fun c => AdamSpec.newM (AdamDownIdeal.Hand.mArr m c) (AdamDownIdeal.Hand.gArr m c),
    fun c => AdamSpec.newV (AdamDownIdeal.Hand.vArr m c) (AdamDownIdeal.Hand.gArr m c),
    (θ_run (AdamDownIdeal.defs (F := Ideal)) _ _).mono (fun r h c =>
      ⟨(h c).1.trans (AdamDownIdeal.Hand.g_arr m c), (h c).2.1.trans (AdamDownIdeal.Hand.d_arr m c),
       (h c).2.2.1.trans (AdamDownIdeal.Hand.m_arr m c), (h c).2.2.2.1.trans (AdamDownIdeal.Hand.v_arr m c), (h c).2.2.2.2⟩)
      (AdamDownIdeal.Value.run_blocks (F := Ideal) m ρ),
    (θ_run (AdamDownRefIdeal.defs (F := Ideal)) _ _).mono (fun r h c => ?_) (ref_run m' ρ')⟩
  have h0 : wRef m' c = AdamDownIdeal.Hand.wArr m c := (hagree c).1
  have h1 : mRef m' c = AdamDownIdeal.Hand.mArr m c := (hagree c).2.1
  have h2 : vRef m' c = AdamDownIdeal.Hand.vArr m c := (hagree c).2.2.1
  have h3 : gRef m' c = AdamDownIdeal.Hand.pArr m c := (hagree c).2.2.2
  have hc := h c
  rw [h0, h1, h2, h3] at hc
  exact hc

end Cert.AdamDownClaim

end
-- ==== Proof.AdamInArrays.lean ====
module

public import proofs.«01_k».proof.Proof.Gen.AdamInIdeal.Value
public import proofs.«01_k».proof.Proof.Gen.AdamInRefIdeal.Read
public import proofs.«01_k».proof.Proof.AdamSpec
public import proofs.«01_k».proof.Proof.Reads

@[expose] public section

/-! The optimiser's step for the attention layer's first projection: what the run leaves, and what the reference computes. -/

noncomputable section

namespace Cert.AdamInIdeal.Hand

open Cert.AdamInIdeal Cert.AdamInIdeal.Gen Idealize.ShloMosaic TcCoe Idealize.SL.Sem Cert

variable (m : (ℓ : Loc nD τ sig) → Buf (Elt Ideal) ℓ) (c : Dev nD)

/-- The arguments, as launched. -/
abbrev wArr : AdamSpec.Arr 1024 256 := m (slot c main_arg0)
abbrev mArr : AdamSpec.Arr 1024 256 := m (slot c main_arg1)
abbrev vArr : AdamSpec.Arr 1024 256 := m (slot c main_arg2)
abbrev pArr : AdamSpec.Parts 1024 256 := m (slot c main_arg3)
/-- The summed gradient. -/
abbrev gArr : AdamSpec.Arr 1024 256 := AdamSpec.total (pArr m c)

theorem t_lt (t : Fin cfg0.N) : t.val < 4 := lt_of_lt_of_eq t.isLt N_0

/-- Row `r` of point `t`'s blocks, in the whole arrays. -/
def row (t : Fin cfg0.N) (r : Fin 256) : Fin 1024 := ⟨256 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (t : Fin cfg0.N) (r : Fin 256) (l : Fin 256) : iblk m c 0 t (ix2 r l) = wArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 256) (l : Fin 256) : iblk m c 1 t (ix2 r l) = mArr m c (ix2 (row t r) l) := by
  refine read_at (V_main_arg1 m c) fun a => ?_
  match a with
  | ⟨0, _⟩ => blk_simp [index1]; simp [row]; omega
  | ⟨1, _⟩ => blk_simp [index1]

theorem blk2 (t : Fin cfg0.N) (r : Fin 256) (l : Fin 256) : iblk m c 2 t (ix2 r l) = vArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (p : Fin 8) (r : Fin 256) (l : Fin 256) :
    iblk m c 3 t (ix3 p r l) = pArr m c (ix3 p (row t r) l) := by
  refine read_at (V_main_arg3 m c) fun a => ?_
  match a with
  | ⟨0, _⟩ => blk_simp [index3]
  | ⟨1, _⟩ => blk_simp [index3]; simp [row]; omega
  | ⟨2, _⟩ => blk_simp [index3]

theorem emb4 (t : Fin cfg0.N) (r : Fin 256) (k : Fin 256) :
    ((cfg0.win 4).blk t).view.emb (ix2 r k) = ix2 (row t r) k := by
  refine funext fun a => Fin.ext ?_
  match a with
  | ⟨0, _⟩ => blk_simp [index4]; simp [row]; omega
  | ⟨1, _⟩ => blk_simp [index4]

theorem emb5 (t : Fin cfg0.N) (r : Fin 256) (k : Fin 256) :
    ((cfg0.win 5).blk t).view.emb (ix2 r k) = ix2 (row t r) k := by
  refine funext fun a => Fin.ext ?_
  match a with
  | ⟨0, _⟩ => blk_simp [index5]; simp [row]; omega
  | ⟨1, _⟩ => blk_simp [index5]

theorem emb6 (t : Fin cfg0.N) (r : Fin 256) (k : Fin 256) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 256) (k : Fin 256) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem sum_at (t : Fin cfg0.N) (r : Fin 256) (k : Fin 256) :
    k0_pay5 (F := Ideal) (iblk m c 0 t) (iblk m c 1 t) (iblk m c 2 t) (iblk m c 3 t) (ix2 r k) = gArr m c (ix2 (row t r) k) := by
  refine Eq.trans ?_ (Finset.sum_congr rfl fun p _ => blk3 m c t p r k)
  pointwise [k0_pay5, k0_pay4]
  simp only [Fin.sum_univ_eight]

theorem g_at (t : Fin cfg0.N) (r : Fin 256) (k : Fin 256) :
    out0_4 (F := Ideal) (iblk m c 0 t) (iblk m c 1 t) (iblk m c 2 t) (iblk m c 3 t) (ix2 r k) = gArr m c (ix2 (row t r) k) := by
  refine Eq.trans ?_ (sum_at m c t r k)
  frame_out
  try rfl

theorem d_at (t : Fin cfg0.N) (r : Fin 256) (k : Fin 256) :
    out0_5 (F := Ideal) (iblk m c 0 t) (iblk m c 1 t) (iblk m c 2 t) (iblk m c 3 t) (ix2 r k)
      = AdamSpec.newD (wArr m c) (mArr m c) (vArr m c) (gArr m c) (ix2 (row t r) k) := by
  frame_out
  pointwise [k0_pay3, k0_pay2, k0_pay1]
  rw [sum_at m c t r k, blk0 m c t r k, blk1 m c t r k, blk2 m c t r k]
  rfl

theorem m_at (t : Fin cfg0.N) (r : Fin 256) (k : Fin 256) :
    out0_6 (F := Ideal) (iblk m c 0 t) (iblk m c 1 t) (iblk m c 2 t) (iblk m c 3 t) (ix2 r k)
      = AdamSpec.newM (mArr m c) (gArr m c) (ix2 (row t r) k) := by
  frame_out
  pointwise [k0_pay1]
  rw [sum_at m c t r k, blk1 m c t r k]
  rfl

theorem v_at (t : Fin cfg0.N) (r : Fin 256) (k : Fin 256) :
    out0_7 (F := Ideal) (iblk m c 0 t) (iblk m c 1 t) (iblk m c 2 t) (iblk m c 3 t) (ix2 r k)
      = AdamSpec.newV (vArr m c) (gArr m c) (ix2 (row t r) k) := by
  frame_out
  pointwise [k0_pay2]
  rw [sum_at m c t r k, blk2 m c t r k]
  rfl

attribute [local irreducible] out0_4 out0_5 out0_6 out0_7

theorem g_arr : (dats m 0 c).arrAt 4 cfg0.N = gArr m c := by
  refine (dats m 0 c).arrAt_eq_of_covers 4 _ (by decide +kernel) fun t _ y => ?_
  rw [after0_4]
  obtain ⟨r, k, rfl⟩ := pair y
  rw [emb4]
  exact g_at m c t r k

theorem d_arr : (dats m 0 c).arrAt 5 cfg0.N = AdamSpec.newD (wArr m c) (mArr m c) (vArr m c) (gArr m c) := by
  refine (dats m 0 c).arrAt_eq_of_covers 5 _ (by decide +kernel) fun t _ y => ?_
  rw [after0_5]
  obtain ⟨r, k, rfl⟩ := pair y
  rw [emb5]
  exact d_at m c t r k

theorem m_arr : (dats m 0 c).arrAt 6 cfg0.N = AdamSpec.newM (mArr m c) (gArr m c) := by
  refine (dats m 0 c).arrAt_eq_of_covers 6 _ (by decide +kernel) fun t _ y => ?_
  rw [after0_6]
  obtain ⟨r, k, rfl⟩ := pair y
  rw [emb6]
  exact m_at m c t r k

theorem v_arr : (dats m 0 c).arrAt 7 cfg0.N = AdamSpec.newV (vArr m c) (gArr m c) := by
  refine (dats m 0 c).arrAt_eq_of_covers 7 _ (by decide +kernel) fun t _ y => ?_
  rw [after0_7]
  obtain ⟨r, k, rfl⟩ := pair y
  rw [emb7]
  exact v_at m c t r k

end Cert.AdamInIdeal.Hand

namespace Cert.AdamInRefIdeal.Hand

open Cert.AdamInRefIdeal Cert.AdamInRefIdeal.Read Idealize.ShloMosaic Cert

variable (w m v : AdamSpec.Arr 1024 256) (g : AdamSpec.Parts 1024 256)

theorem g_eq : val_main_v1 (F := Ideal) g = AdamSpec.total g := by
  funext i
  obtain ⟨r, k, rfl⟩ := pair i
  show _ = ∑ p : Fin 8, g (ix3 p r k)
  pointwise [val_main_v1, val_main_v0, val_main_cst]

theorem d_eq : val_main_v25 (F := Ideal) w m v g = AdamSpec.newD w m v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_v13, val_main_v14, val_main_v15, val_main_v16,
    val_main_v17, val_main_v18, val_main_v19, val_main_v20, val_main_v21, val_main_v22, val_main_v23,
    val_main_v24, val_main_v25, val_main_cst_1, val_main_cst_2, val_main_cst_3, val_main_cst_4, val_main_cst_5,
    val_main_cst_6, val_main_cst_7, val_main_cst_8]
  simp only [g_eq]
  rfl

theorem m_eq : val_main_v6 (F := Ideal) m g = AdamSpec.newM m (AdamSpec.total g) := by
  funext i
  obtain ⟨r, k, rfl⟩ := pair i
  pointwise [val_main_v2, val_main_v3, val_main_v4, val_main_v5, val_main_v6, val_main_cst_1, val_main_cst_2]
  simp only [g_eq]
  rfl

theorem v_eq : val_main_v12 (F := Ideal) v g = AdamSpec.newV v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_cst_3, val_main_cst_4]
  simp only [g_eq]
  rfl

end Cert.AdamInRefIdeal.Hand

end
-- ==== Proof.AdamInClaim.lean ====
module

public import proofs.«01_k».proof.Defs
public import proofs.«01_k».proof.Proof.Gen.AdamIn.Frame
public import proofs.«01_k».proof.Proof.AdamInArrays
public import proofs.«01_k».proof.Proof.Gen.AdamInRefIdeal.Run
public import proofs.«01_k».proof.Proof.Reads

@[expose] public section

/-! The five claims about the optimiser's step for the attention layer's first projection. -/

noncomputable section

namespace Cert.AdamInClaim

open Idealize.ShloMosaic TcCoe Idealize.SL.Sem Cert

theorem frame : Cert.quiescent_AdamIn := fun m ρ _ => Cert.AdamIn.Gen.frame m ρ

theorem frame_ideal : Cert.quiescent_AdamInIdeal := fun m ρ _ => Cert.AdamInIdeal.Gen.frame m ρ

/-- The reference runs on the host and has no counter. -/
theorem frame_ref : Cert.quiescent_AdamInRefIdeal := fun m ρ _ =>
  (θ_run Cert.AdamInRefIdeal.defs _ _).mono
    (fun r h => ⟨fun c => (h c).2.2.2.2, sem_eq_zero_of_no_sems (by decide) r.2⟩)
    (Cert.AdamInRefIdeal.Value.run (F := Ideal) m ρ)

theorem preserves : Cert.preserves_AdamIn_AdamInIdeal := trivial

section
open Cert.AdamInRefIdeal

variable (m : (ℓ : Loc nD τ sig) → Buf (Elt Ideal) ℓ) (c : Dev nD)

/-- The reference's arguments, as launched. -/
abbrev wRef : AdamSpec.Arr 1024 256 := m (slot c main_arg0)
abbrev mRef : AdamSpec.Arr 1024 256 := m (slot c main_arg1)
abbrev vRef : AdamSpec.Arr 1024 256 := m (slot c main_arg2)
abbrev gRef : AdamSpec.Parts 1024 256 := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v1) = AdamSpec.total (gRef m c)
      ∧ r.2.mem (slot c main_v25) = AdamSpec.newD (wRef m c) (mRef m c) (vRef m c) (AdamSpec.total (gRef m c))
      ∧ r.2.mem (slot c main_v6) = AdamSpec.newM (mRef m c) (AdamSpec.total (gRef m c))
      ∧ r.2.mem (slot c main_v12) = AdamSpec.newV (vRef m c) (AdamSpec.total (gRef m c))
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans ((Read.val_main_v1_eq _).trans (Hand.g_eq _)),
       (h c).2.1.trans ((Read.val_main_v25_eq _ _ _ _).trans (Hand.d_eq _ _ _ _)),
       (h c).2.2.1.trans ((Read.val_main_v6_eq _ _).trans (Hand.m_eq _ _)),
       (h c).2.2.2.1.trans ((Read.val_main_v12_eq _ _).trans (Hand.v_eq _ _)), (h c).2.2.2.2⟩)
    (Value.run (F := Ideal) m ρ)

end

/-- Equal arguments give equal results. -/
theorem algebraic : Cert.algebraic_AdamInIdeal_AdamInRefIdeal := by
  intro m ρ m' ρ' _ hagree
  refine ⟨fun c => AdamInIdeal.Hand.gArr m c,
    fun c => AdamSpec.newD (AdamInIdeal.Hand.wArr m c) (AdamInIdeal.Hand.mArr m c) (AdamInIdeal.Hand.vArr m c) (AdamInIdeal.Hand.gArr m c),
    fun c => AdamSpec.newM (AdamInIdeal.Hand.mArr m c) (AdamInIdeal.Hand.gArr m c),
    fun c => AdamSpec.newV (AdamInIdeal.Hand.vArr m c) (AdamInIdeal.Hand.gArr m c),
    (θ_run (AdamInIdeal.defs (F := Ideal)) _ _).mono (fun r h c =>
      ⟨(h c).1.trans (AdamInIdeal.Hand.g_arr m c), (h c).2.1.trans (AdamInIdeal.Hand.d_arr m c),
       (h c).2.2.1.trans (AdamInIdeal.Hand.m_arr m c), (h c).2.2.2.1.trans (AdamInIdeal.Hand.v_arr m c), (h c).2.2.2.2⟩)
      (AdamInIdeal.Value.run_blocks (F := Ideal) m ρ),
    (θ_run (AdamInRefIdeal.defs (F := Ideal)) _ _).mono (fun r h c => ?_) (ref_run m' ρ')⟩
  have h0 : wRef m' c = AdamInIdeal.Hand.wArr m c := (hagree c).1
  have h1 : mRef m' c = AdamInIdeal.Hand.mArr m c := (hagree c).2.1
  have h2 : vRef m' c = AdamInIdeal.Hand.vArr m c := (hagree c).2.2.1
  have h3 : gRef m' c = AdamInIdeal.Hand.pArr m c := (hagree c).2.2.2
  have hc := h c
  rw [h0, h1, h2, h3] at hc
  exact hc

end Cert.AdamInClaim

end
-- ==== Proof.AdamOutArrays.lean ====
module

public import proofs.«01_k».proof.Proof.Gen.AdamOutIdeal.Value
public import proofs.«01_k».proof.Proof.Gen.AdamOutRefIdeal.Read
public import proofs.«01_k».proof.Proof.AdamSpec
public import proofs.«01_k».proof.Proof.Reads

@[expose] public section

/-! The optimiser's step for the mixers' second projections: what the run leaves, and what the reference computes. -/

noncomputable section

namespace Cert.AdamOutIdeal.Hand

open Cert.AdamOutIdeal Cert.AdamOutIdeal.Gen Idealize.ShloMosaic TcCoe Idealize.SL.Sem Cert

variable (m : (ℓ : Loc nD τ sig) → Buf (Elt Ideal) ℓ) (c : Dev nD)

/-- The arguments, as launched. -/
abbrev wArr : AdamSpec.Arr 128 1024 := m (slot c main_arg0)
abbrev mArr : AdamSpec.Arr 128 1024 := m (slot c main_arg1)
abbrev vArr : AdamSpec.Arr 128 1024 := m (slot c main_arg2)
abbrev pArr : AdamSpec.Parts 128 1024 := m (slot c main_arg3)
/-- The summed gradient. -/
abbrev gArr : AdamSpec.Arr 128 1024 := AdamSpec.total (pArr m c)

theorem t_lt (t : Fin cfg0.N) : t.val < 1 := lt_of_lt_of_eq t.isLt N_0

/-- Row `r` of point `t`'s blocks, in the whole arrays. -/
def row (t : Fin cfg0.N) (r : Fin 128) : Fin 128 := ⟨128 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (t : Fin cfg0.N) (r : Fin 128) (l : Fin 1024) : iblk m c 0 t (ix2 r l) = wArr m c (ix2 (row t r) l) := by
  refine read_at (V_main_arg0 m c) fun a => ?_
  match a with
  | ⟨0, _⟩ => blk_simp [index0]; simp [row]
  | ⟨1, _⟩ => blk_simp [index0]

theorem blk1 (t : Fin cfg0.N) (r : Fin 128) (l : Fin 1024) : iblk m c 1 t (ix2 r l) = mArr m c (ix2 (row t r) l) := by
  refine read_at (V_main_arg1 m c) fun a => ?_
  match a with
  | ⟨0, _⟩ => blk_simp [index1]; simp [row]
  | ⟨1, _⟩ => blk_simp [index1]

theorem blk2 (t : Fin cfg0.N) (r : Fin 128) (l : Fin 1024) : iblk m c 2 t (ix2 r l) = vArr m c (ix2 (row t r) l) := by
  refine read_at (V_main_arg2 m c) fun a => ?_
  match a with
  | ⟨0, _⟩ => blk_simp [index2]; simp [row]
  | ⟨1, _⟩ => blk_simp [index2]

theorem blk3 (t : Fin cfg0.N) (p : Fin 8) (r : Fin 128) (l : Fin 1024) :
    iblk m c 3 t (ix3 p r l) = pArr m c (ix3 p (row t r) l) := by
  refine read_at (V_main_arg3 m c) fun a => ?_
  match a with
  | ⟨0, _⟩ => blk_simp [index3]
  | ⟨1, _⟩ => blk_simp [index3]; simp [row]
  | ⟨2, _⟩ => blk_simp [index3]

theorem emb4 (t : Fin cfg0.N) (r : Fin 128) (k : Fin 1024) :
    ((cfg0.win 4).blk t).view.emb (ix2 r k) = ix2 (row t r) k := by
  refine funext fun a => Fin.ext ?_
  match a with
  | ⟨0, _⟩ => blk_simp [index4]; simp [row]
  | ⟨1, _⟩ => blk_simp [index4]

theorem emb5 (t : Fin cfg0.N) (r : Fin 128) (k : Fin 1024) :
    ((cfg0.win 5).blk t).view.emb (ix2 r k) = ix2 (row t r) k := by
  refine funext fun a => Fin.ext ?_
  match a with
  | ⟨0, _⟩ => blk_simp [index5]; simp [row]
  | ⟨1, _⟩ => blk_simp [index5]

theorem emb6 (t : Fin cfg0.N) (r : Fin 128) (k : Fin 1024) :
    ((cfg0.win 6).blk t).view.emb (ix2 r k) = ix2 (row t r) k := by
  refine funext fun a => Fin.ext ?_
  match a with
  | ⟨0, _⟩ => blk_simp [index6]; simp [row]
  | ⟨1, _⟩ => blk_simp [index6]

theorem emb7 (t : Fin cfg0.N) (r : Fin 128) (k : Fin 1024) :
    ((cfg0.win 7).blk t).view.emb (ix2 r k) = ix2 (row t r) k := by
  refine funext fun a => Fin.ext ?_
  match a with
  | ⟨0, _⟩ => blk_simp [index7]; simp [row]
  | ⟨1, _⟩ => blk_simp [index7]

theorem sum_at (t : Fin cfg0.N) (r : Fin 128) (k : Fin 1024) :
    k0_pay5 (F := Ideal) (iblk m c 0 t) (iblk m c 1 t) (iblk m c 2 t) (iblk m c 3 t) (ix2 r k) = gArr m c (ix2 (row t r) k) := by
  refine Eq.trans ?_ (Finset.sum_congr rfl fun p _ => blk3 m c t p r k)
  pointwise [k0_pay5, k0_pay4]
  simp only [Fin.sum_univ_eight]

theorem g_at (t : Fin cfg0.N) (r : Fin 128) (k : Fin 1024) :
    out0_4 (F := Ideal) (iblk m c 0 t) (iblk m c 1 t) (iblk m c 2 t) (iblk m c 3 t) (ix2 r k) = gArr m c (ix2 (row t r) k) := by
  refine Eq.trans ?_ (sum_at m c t r k)
  frame_out
  try rfl

theorem d_at (t : Fin cfg0.N) (r : Fin 128) (k : Fin 1024) :
    out0_5 (F := Ideal) (iblk m c 0 t) (iblk m c 1 t) (iblk m c 2 t) (iblk m c 3 t) (ix2 r k)
      = AdamSpec.newD (wArr m c) (mArr m c) (vArr m c) (gArr m c) (ix2 (row t r) k) := by
  frame_out
  pointwise [k0_pay3, k0_pay2, k0_pay1]
  rw [sum_at m c t r k, blk0 m c t r k, blk1 m c t r k, blk2 m c t r k]
  rfl

theorem m_at (t : Fin cfg0.N) (r : Fin 128) (k : Fin 1024) :
    out0_6 (F := Ideal) (iblk m c 0 t) (iblk m c 1 t) (iblk m c 2 t) (iblk m c 3 t) (ix2 r k)
      = AdamSpec.newM (mArr m c) (gArr m c) (ix2 (row t r) k) := by
  frame_out
  pointwise [k0_pay1]
  rw [sum_at m c t r k, blk1 m c t r k]
  rfl

theorem v_at (t : Fin cfg0.N) (r : Fin 128) (k : Fin 1024) :
    out0_7 (F := Ideal) (iblk m c 0 t) (iblk m c 1 t) (iblk m c 2 t) (iblk m c 3 t) (ix2 r k)
      = AdamSpec.newV (vArr m c) (gArr m c) (ix2 (row t r) k) := by
  frame_out
  pointwise [k0_pay2]
  rw [sum_at m c t r k, blk2 m c t r k]
  rfl

attribute [local irreducible] out0_4 out0_5 out0_6 out0_7

theorem g_arr : (dats m 0 c).arrAt 4 cfg0.N = gArr m c := by
  refine (dats m 0 c).arrAt_eq_of_covers 4 _ (by decide +kernel) fun t _ y => ?_
  rw [after0_4]
  obtain ⟨r, k, rfl⟩ := pair y
  rw [emb4]
  exact g_at m c t r k

theorem d_arr : (dats m 0 c).arrAt 5 cfg0.N = AdamSpec.newD (wArr m c) (mArr m c) (vArr m c) (gArr m c) := by
  refine (dats m 0 c).arrAt_eq_of_covers 5 _ (by decide +kernel) fun t _ y => ?_
  rw [after0_5]
  obtain ⟨r, k, rfl⟩ := pair y
  rw [emb5]
  exact d_at m c t r k

theorem m_arr : (dats m 0 c).arrAt 6 cfg0.N = AdamSpec.newM (mArr m c) (gArr m c) := by
  refine (dats m 0 c).arrAt_eq_of_covers 6 _ (by decide +kernel) fun t _ y => ?_
  rw [after0_6]
  obtain ⟨r, k, rfl⟩ := pair y
  rw [emb6]
  exact m_at m c t r k

theorem v_arr : (dats m 0 c).arrAt 7 cfg0.N = AdamSpec.newV (vArr m c) (gArr m c) := by
  refine (dats m 0 c).arrAt_eq_of_covers 7 _ (by decide +kernel) fun t _ y => ?_
  rw [after0_7]
  obtain ⟨r, k, rfl⟩ := pair y
  rw [emb7]
  exact v_at m c t r k

end Cert.AdamOutIdeal.Hand

namespace Cert.AdamOutRefIdeal.Hand

open Cert.AdamOutRefIdeal Cert.AdamOutRefIdeal.Read Idealize.ShloMosaic Cert

variable (w m v : AdamSpec.Arr 128 1024) (g : AdamSpec.Parts 128 1024)

theorem g_eq : val_main_v1 (F := Ideal) g = AdamSpec.total g := by
  funext i
  obtain ⟨r, k, rfl⟩ := pair i
  show _ = ∑ p : Fin 8, g (ix3 p r k)
  pointwise [val_main_v1, val_main_v0, val_main_cst]

theorem d_eq : val_main_v25 (F := Ideal) w m v g = AdamSpec.newD w m v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_v13, val_main_v14, val_main_v15, val_main_v16,
    val_main_v17, val_main_v18, val_main_v19, val_main_v20, val_main_v21, val_main_v22, val_main_v23,
    val_main_v24, val_main_v25, val_main_cst_1, val_main_cst_2, val_main_cst_3, val_main_cst_4, val_main_cst_5,
    val_main_cst_6, val_main_cst_7, val_main_cst_8]
  simp only [g_eq]
  rfl

theorem m_eq : val_main_v6 (F := Ideal) m g = AdamSpec.newM m (AdamSpec.total g) := by
  funext i
  obtain ⟨r, k, rfl⟩ := pair i
  pointwise [val_main_v2, val_main_v3, val_main_v4, val_main_v5, val_main_v6, val_main_cst_1, val_main_cst_2]
  simp only [g_eq]
  rfl

theorem v_eq : val_main_v12 (F := Ideal) v g = AdamSpec.newV v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_cst_3, val_main_cst_4]
  simp only [g_eq]
  rfl

end Cert.AdamOutRefIdeal.Hand

end
-- ==== Proof.AdamOutClaim.lean ====
module

public import proofs.«01_k».proof.Defs
public import proofs.«01_k».proof.Proof.Gen.AdamOut.Frame
public import proofs.«01_k».proof.Proof.AdamOutArrays
public import proofs.«01_k».proof.Proof.Gen.AdamOutRefIdeal.Run
public import proofs.«01_k».proof.Proof.Reads

@[expose] public section

/-! The five claims about the optimiser's step for the mixers' second projections. -/

noncomputable section

namespace Cert.AdamOutClaim

open Idealize.ShloMosaic TcCoe Idealize.SL.Sem Cert

theorem frame : Cert.quiescent_AdamOut := fun m ρ _ => Cert.AdamOut.Gen.frame m ρ

theorem frame_ideal : Cert.quiescent_AdamOutIdeal := fun m ρ _ => Cert.AdamOutIdeal.Gen.frame m ρ

/-- The reference runs on the host and has no counter. -/
theorem frame_ref : Cert.quiescent_AdamOutRefIdeal := fun m ρ _ =>
  (θ_run Cert.AdamOutRefIdeal.defs _ _).mono
    (fun r h => ⟨fun c => (h c).2.2.2.2, sem_eq_zero_of_no_sems (by decide) r.2⟩)
    (Cert.AdamOutRefIdeal.Value.run (F := Ideal) m ρ)

theorem preserves : Cert.preserves_AdamOut_AdamOutIdeal := trivial

section
open Cert.AdamOutRefIdeal

variable (m : (ℓ : Loc nD τ sig) → Buf (Elt Ideal) ℓ) (c : Dev nD)

/-- The reference's arguments, as launched. -/
abbrev wRef : AdamSpec.Arr 128 1024 := m (slot c main_arg0)
abbrev mRef : AdamSpec.Arr 128 1024 := m (slot c main_arg1)
abbrev vRef : AdamSpec.Arr 128 1024 := m (slot c main_arg2)
abbrev gRef : AdamSpec.Parts 128 1024 := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v1) = AdamSpec.total (gRef m c)
      ∧ r.2.mem (slot c main_v25) = AdamSpec.newD (wRef m c) (mRef m c) (vRef m c) (AdamSpec.total (gRef m c))
      ∧ r.2.mem (slot c main_v6) = AdamSpec.newM (mRef m c) (AdamSpec.total (gRef m c))
      ∧ r.2.mem (slot c main_v12) = AdamSpec.newV (vRef m c) (AdamSpec.total (gRef m c))
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans ((Read.val_main_v1_eq _).trans (Hand.g_eq _)),
       (h c).2.1.trans ((Read.val_main_v25_eq _ _ _ _).trans (Hand.d_eq _ _ _ _)),
       (h c).2.2.1.trans ((Read.val_main_v6_eq _ _).trans (Hand.m_eq _ _)),
       (h c).2.2.2.1.trans ((Read.val_main_v12_eq _ _).trans (Hand.v_eq _ _)), (h c).2.2.2.2⟩)
    (Value.run (F := Ideal) m ρ)

end

/-- Equal arguments give equal results. -/
theorem algebraic : Cert.algebraic_AdamOutIdeal_AdamOutRefIdeal := by
  intro m ρ m' ρ' _ hagree
  refine ⟨fun c => AdamOutIdeal.Hand.gArr m c,
    fun c => AdamSpec.newD (AdamOutIdeal.Hand.wArr m c) (AdamOutIdeal.Hand.mArr m c) (AdamOutIdeal.Hand.vArr m c) (AdamOutIdeal.Hand.gArr m c),
    fun c => AdamSpec.newM (AdamOutIdeal.Hand.mArr m c) (AdamOutIdeal.Hand.gArr m c),
    fun c => AdamSpec.newV (AdamOutIdeal.Hand.vArr m c) (AdamOutIdeal.Hand.gArr m c),
    (θ_run (AdamOutIdeal.defs (F := Ideal)) _ _).mono (fun r h c =>
      ⟨(h c).1.trans (AdamOutIdeal.Hand.g_arr m c), (h c).2.1.trans (AdamOutIdeal.Hand.d_arr m c),
       (h c).2.2.1.trans (AdamOutIdeal.Hand.m_arr m c), (h c).2.2.2.1.trans (AdamOutIdeal.Hand.v_arr m c), (h c).2.2.2.2⟩)
      (AdamOutIdeal.Value.run_blocks (F := Ideal) m ρ),
    (θ_run (AdamOutRefIdeal.defs (F := Ideal)) _ _).mono (fun r h c => ?_) (ref_run m' ρ')⟩
  have h0 : wRef m' c = AdamOutIdeal.Hand.wArr m c := (hagree c).1
  have h1 : mRef m' c = AdamOutIdeal.Hand.mArr m c := (hagree c).2.1
  have h2 : vRef m' c = AdamOutIdeal.Hand.vArr m c := (hagree c).2.2.1
  have h3 : gRef m' c = AdamOutIdeal.Hand.pArr m c := (hagree c).2.2.2
  have hc := h c
  rw [h0, h1, h2, h3] at hc
  exact hc

end Cert.AdamOutClaim

end
-- ==== Proof.AdamConvArrays.lean ====
module

public import proofs.«01_k».proof.Proof.Gen.AdamConvIdeal.Value
public import proofs.«01_k».proof.Proof.Gen.AdamConvRefIdeal.Read
public import proofs.«01_k».proof.Proof.AdamSpec
public import proofs.«01_k».proof.Proof.Reads

@[expose] public section

/-! The optimiser's step for the convolution layer's first projection: what the run leaves, and what the reference computes. -/

noncomputable section

namespace Cert.AdamConvIdeal.Hand

open Cert.AdamConvIdeal Cert.AdamConvIdeal.Gen Idealize.ShloMosaic TcCoe Idealize.SL.Sem Cert

variable (m : (ℓ : Loc nD τ sig) → Buf (Elt Ideal) ℓ) (c : Dev nD)

/-- The arguments, as launched. -/
abbrev wArr : AdamSpec.Arr 1024 384 := m (slot c main_arg0)
abbrev mArr : AdamSpec.Arr 1024 384 := m (slot c main_arg1)
abbrev vArr : AdamSpec.Arr 1024 384 := m (slot c main_arg2)
abbrev pArr : AdamSpec.Parts 1024 384 := m (slot c main_arg3)
/-- The summed gradient. -/
abbrev gArr : AdamSpec.Arr 1024 384 := AdamSpec.total (pArr m c)

theorem t_lt (t : Fin cfg0.N) : t.val < 4 := lt_of_lt_of_eq t.isLt N_0

/-- Row `r` of point `t`'s blocks, in the whole arrays. -/
def row (t : Fin cfg0.N) (r : Fin 256) : Fin 1024 := ⟨256 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (t : Fin cfg0.N) (r : Fin 256) (l : Fin 384) : iblk m c 0 t (ix2 r l) = wArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 256) (l : Fin 384) : iblk m c 1 t (ix2 r l) = mArr m c (ix2 (row t r) l) := by
  refine read_at (V_main_arg1 m c) fun a => ?_
  match a with
  | ⟨0, _⟩ => blk_simp [index1]; simp [row]; omega
  | ⟨1, _⟩ => blk_simp [index1]

theorem blk2 (t : Fin cfg0.N) (r : Fin 256) (l : Fin 384) : iblk m c 2 t (ix2 r l) = vArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (p : Fin 8) (r : Fin 256) (l : Fin 384) :
    iblk m c 3 t (ix3 p r l) = pArr m c (ix3 p (row t r) l) := by
  refine read_at (V_main_arg3 m c) fun a => ?_
  match a with
  | ⟨0, _⟩ => blk_simp [index3]
  | ⟨1, _⟩ => blk_simp [index3]; simp [row]; omega
  | ⟨2, _⟩ => blk_simp [index3]

theorem emb4 (t : Fin cfg0.N) (r : Fin 256) (k : Fin 384) :
    ((cfg0.win 4).blk t).view.emb (ix2 r k) = ix2 (row t r) k := by
  refine funext fun a => Fin.ext ?_
  match a with
  | ⟨0, _⟩ => blk_simp [index4]; simp [row]; omega
  | ⟨1, _⟩ => blk_simp [index4]

theorem emb5 (t : Fin cfg0.N) (r : Fin 256) (k : Fin 384) :
    ((cfg0.win 5).blk t).view.emb (ix2 r k) = ix2 (row t r) k := by
  refine funext fun a => Fin.ext ?_
  match a with
  | ⟨0, _⟩ => blk_simp [index5]; simp [row]; omega
  | ⟨1, _⟩ => blk_simp [index5]

theorem emb6 (t : Fin cfg0.N) (r : Fin 256) (k : Fin 384) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 256) (k : Fin 384) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem sum_at (t : Fin cfg0.N) (r : Fin 256) (k : Fin 384) :
    k0_pay5 (F := Ideal) (iblk m c 0 t) (iblk m c 1 t) (iblk m c 2 t) (iblk m c 3 t) (ix2 r k) = gArr m c (ix2 (row t r) k) := by
  refine Eq.trans ?_ (Finset.sum_congr rfl fun p _ => blk3 m c t p r k)
  pointwise [k0_pay5, k0_pay4]
  simp only [Fin.sum_univ_eight]

theorem g_at (t : Fin cfg0.N) (r : Fin 256) (k : Fin 384) :
    out0_4 (F := Ideal) (iblk m c 0 t) (iblk m c 1 t) (iblk m c 2 t) (iblk m c 3 t) (ix2 r k) = gArr m c (ix2 (row t r) k) := by
  refine Eq.trans ?_ (sum_at m c t r k)
  frame_out
  try rfl

theorem d_at (t : Fin cfg0.N) (r : Fin 256) (k : Fin 384) :
    out0_5 (F := Ideal) (iblk m c 0 t) (iblk m c 1 t) (iblk m c 2 t) (iblk m c 3 t) (ix2 r k)
      = AdamSpec.newD (wArr m c) (mArr m c) (vArr m c) (gArr m c) (ix2 (row t r) k) := by
  frame_out
  pointwise [k0_pay3, k0_pay2, k0_pay1]
  rw [sum_at m c t r k, blk0 m c t r k, blk1 m c t r k, blk2 m c t r k]
  rfl

theorem m_at (t : Fin cfg0.N) (r : Fin 256) (k : Fin 384) :
    out0_6 (F := Ideal) (iblk m c 0 t) (iblk m c 1 t) (iblk m c 2 t) (iblk m c 3 t) (ix2 r k)
      = AdamSpec.newM (mArr m c) (gArr m c) (ix2 (row t r) k) := by
  frame_out
  pointwise [k0_pay1]
  rw [sum_at m c t r k, blk1 m c t r k]
  rfl

theorem v_at (t : Fin cfg0.N) (r : Fin 256) (k : Fin 384) :
    out0_7 (F := Ideal) (iblk m c 0 t) (iblk m c 1 t) (iblk m c 2 t) (iblk m c 3 t) (ix2 r k)
      = AdamSpec.newV (vArr m c) (gArr m c) (ix2 (row t r) k) := by
  frame_out
  pointwise [k0_pay2]
  rw [sum_at m c t r k, blk2 m c t r k]
  rfl

attribute [local irreducible] out0_4 out0_5 out0_6 out0_7

theorem g_arr : (dats m 0 c).arrAt 4 cfg0.N = gArr m c := by
  refine (dats m 0 c).arrAt_eq_of_covers 4 _ (by decide +kernel) fun t _ y => ?_
  rw [after0_4]
  obtain ⟨r, k, rfl⟩ := pair y
  rw [emb4]
  exact g_at m c t r k

theorem d_arr : (dats m 0 c).arrAt 5 cfg0.N = AdamSpec.newD (wArr m c) (mArr m c) (vArr m c) (gArr m c) := by
  refine (dats m 0 c).arrAt_eq_of_covers 5 _ (by decide +kernel) fun t _ y => ?_
  rw [after0_5]
  obtain ⟨r, k, rfl⟩ := pair y
  rw [emb5]
  exact d_at m c t r k

theorem m_arr : (dats m 0 c).arrAt 6 cfg0.N = AdamSpec.newM (mArr m c) (gArr m c) := by
  refine (dats m 0 c).arrAt_eq_of_covers 6 _ (by decide +kernel) fun t _ y => ?_
  rw [after0_6]
  obtain ⟨r, k, rfl⟩ := pair y
  rw [emb6]
  exact m_at m c t r k

theorem v_arr : (dats m 0 c).arrAt 7 cfg0.N = AdamSpec.newV (vArr m c) (gArr m c) := by
  refine (dats m 0 c).arrAt_eq_of_covers 7 _ (by decide +kernel) fun t _ y => ?_
  rw [after0_7]
  obtain ⟨r, k, rfl⟩ := pair y
  rw [emb7]
  exact v_at m c t r k

end Cert.AdamConvIdeal.Hand

namespace Cert.AdamConvRefIdeal.Hand

open Cert.AdamConvRefIdeal Cert.AdamConvRefIdeal.Read Idealize.ShloMosaic Cert

variable (w m v : AdamSpec.Arr 1024 384) (g : AdamSpec.Parts 1024 384)

theorem g_eq : val_main_v1 (F := Ideal) g = AdamSpec.total g := by
  funext i
  obtain ⟨r, k, rfl⟩ := pair i
  show _ = ∑ p : Fin 8, g (ix3 p r k)
  pointwise [val_main_v1, val_main_v0, val_main_cst]

theorem d_eq : val_main_v25 (F := Ideal) w m v g = AdamSpec.newD w m v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_v13, val_main_v14, val_main_v15, val_main_v16,
    val_main_v17, val_main_v18, val_main_v19, val_main_v20, val_main_v21, val_main_v22, val_main_v23,
    val_main_v24, val_main_v25, val_main_cst_1, val_main_cst_2, val_main_cst_3, val_main_cst_4, val_main_cst_5,
    val_main_cst_6, val_main_cst_7, val_main_cst_8]
  simp only [g_eq]
  rfl

theorem m_eq : val_main_v6 (F := Ideal) m g = AdamSpec.newM m (AdamSpec.total g) := by
  funext i
  obtain ⟨r, k, rfl⟩ := pair i
  pointwise [val_main_v2, val_main_v3, val_main_v4, val_main_v5, val_main_v6, val_main_cst_1, val_main_cst_2]
  simp only [g_eq]
  rfl

theorem v_eq : val_main_v12 (F := Ideal) v g = AdamSpec.newV v (AdamSpec.total g) := by
  funext i
  obtain ⟨r, k, rfl⟩ := pair i
  pointwise [val_main_v2, val_main_v3, val_main_v4, val_main_v5, val_main_v6, val_main_v7, val_main_v8, val_main_v9,
    val_main_v10, val_main_v11, val_main_v12, val_main_cst_3, val_main_cst_4]
  simp only [g_eq]
  rfl

end Cert.AdamConvRefIdeal.Hand

end
-- ==== Proof.AdamConvClaim.lean ====
module

public import proofs.«01_k».proof.Defs
public import proofs.«01_k».proof.Proof.Gen.AdamConv.Frame
public import proofs.«01_k».proof.Proof.AdamConvArrays
public import proofs.«01_k».proof.Proof.Gen.AdamConvRefIdeal.Run
public import proofs.«01_k».proof.Proof.Reads

@[expose] public section

/-! The five claims about the optimiser's step for the convolution layer's first projection. -/

noncomputable section

namespace Cert.AdamConvClaim

open Idealize.ShloMosaic TcCoe Idealize.SL.Sem Cert

theorem frame : Cert.quiescent_AdamConv := fun m ρ _ => Cert.AdamConv.Gen.frame m ρ

theorem frame_ideal : Cert.quiescent_AdamConvIdeal := fun m ρ _ => Cert.AdamConvIdeal.Gen.frame m ρ

/-- The reference runs on the host and has no counter. -/
theorem frame_ref : Cert.quiescent_AdamConvRefIdeal := fun m ρ _ =>
  (θ_run Cert.AdamConvRefIdeal.defs _ _).mono
    (fun r h => ⟨fun c => (h c).2.2.2.2, sem_eq_zero_of_no_sems (by decide) r.2⟩)
    (Cert.AdamConvRefIdeal.Value.run (F := Ideal) m ρ)

theorem preserves : Cert.preserves_AdamConv_AdamConvIdeal := trivial

section
open Cert.AdamConvRefIdeal

variable (m : (ℓ : Loc nD τ sig) → Buf (Elt Ideal) ℓ) (c : Dev nD)

/-- The reference's arguments, as launched. -/
abbrev wRef : AdamSpec.Arr 1024 384 := m (slot c main_arg0)
abbrev mRef : AdamSpec.Arr 1024 384 := m (slot c main_arg1)
abbrev vRef : AdamSpec.Arr 1024 384 := m (slot c main_arg2)
abbrev gRef : AdamSpec.Parts 1024 384 := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v1) = AdamSpec.total (gRef m c)
      ∧ r.2.mem (slot c main_v25) = AdamSpec.newD (wRef m c) (mRef m c) (vRef m c) (AdamSpec.total (gRef m c))
      ∧ r.2.mem (slot c main_v6) = AdamSpec.newM (mRef m c) (AdamSpec.total (gRef m c))
      ∧ r.2.mem (slot c main_v12) = AdamSpec.newV (vRef m c) (AdamSpec.total (gRef m c))
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans ((Read.val_main_v1_eq _).trans (Hand.g_eq _)),
       (h c).2.1.trans ((Read.val_main_v25_eq _ _ _ _).trans (Hand.d_eq _ _ _ _)),
       (h c).2.2.1.trans ((Read.val_main_v6_eq _ _).trans (Hand.m_eq _ _)),
       (h c).2.2.2.1.trans ((Read.val_main_v12_eq _ _).trans (Hand.v_eq _ _)), (h c).2.2.2.2⟩)
    (Value.run (F := Ideal) m ρ)

end

/-- Equal arguments give equal results. -/
theorem algebraic : Cert.algebraic_AdamConvIdeal_AdamConvRefIdeal := by
  intro m ρ m' ρ' _ hagree
  refine ⟨fun c => AdamConvIdeal.Hand.gArr m c,
    fun c => AdamSpec.newD (AdamConvIdeal.Hand.wArr m c) (AdamConvIdeal.Hand.mArr m c) (AdamConvIdeal.Hand.vArr m c) (AdamConvIdeal.Hand.gArr m c),
    fun c => AdamSpec.newM (AdamConvIdeal.Hand.mArr m c) (AdamConvIdeal.Hand.gArr m c),
    fun c => AdamSpec.newV (AdamConvIdeal.Hand.vArr m c) (AdamConvIdeal.Hand.gArr m c),
    (θ_run (AdamConvIdeal.defs (F := Ideal)) _ _).mono (fun r h c =>
      ⟨(h c).1.trans (AdamConvIdeal.Hand.g_arr m c), (h c).2.1.trans (AdamConvIdeal.Hand.d_arr m c),
       (h c).2.2.1.trans (AdamConvIdeal.Hand.m_arr m c), (h c).2.2.2.1.trans (AdamConvIdeal.Hand.v_arr m c), (h c).2.2.2.2⟩)
      (AdamConvIdeal.Value.run_blocks (F := Ideal) m ρ),
    (θ_run (AdamConvRefIdeal.defs (F := Ideal)) _ _).mono (fun r h c => ?_) (ref_run m' ρ')⟩
  have h0 : wRef m' c = AdamConvIdeal.Hand.wArr m c := (hagree c).1
  have h1 : mRef m' c = AdamConvIdeal.Hand.mArr m c := (hagree c).2.1
  have h2 : vRef m' c = AdamConvIdeal.Hand.vArr m c := (hagree c).2.2.1
  have h3 : gRef m' c = AdamConvIdeal.Hand.pArr m c := (hagree c).2.2.2
  have hc := h c
  rw [h0, h1, h2, h3] at hc
  exact hc

end Cert.AdamConvClaim

end
-- ==== Proof.AdamModArrays.lean ====
module

public import proofs.«01_k».proof.Proof.Gen.AdamModIdeal.Value
public import proofs.«01_k».proof.Proof.Gen.AdamModRefIdeal.Read
public import proofs.«01_k».proof.Proof.AdamSpec
public import proofs.«01_k».proof.Proof.Reads

@[expose] public section

/-! The optimiser's step for the modulation's matrices: what the run leaves, and what the reference computes. -/

noncomputable section

namespace Cert.AdamModIdeal.Hand

open Cert.AdamModIdeal Cert.AdamModIdeal.Gen Idealize.ShloMosaic TcCoe Idealize.SL.Sem Cert

variable (m : (ℓ : Loc nD τ sig) → Buf (Elt Ideal) ℓ) (c : Dev nD)

/-- The arguments, as launched. -/
abbrev wArr : AdamSpec.Arr 2048 1152 := m (slot c main_arg0)
abbrev mArr : AdamSpec.Arr 2048 1152 := m (slot c main_arg1)
abbrev vArr : AdamSpec.Arr 2048 1152 := m (slot c main_arg2)
abbrev gArr : AdamSpec.Arr 2048 1152 := m (slot c main_arg3)

theorem t_lt (t : Fin cfg0.N) : t.val < 8 := lt_of_lt_of_eq t.isLt N_0

/-- Row `r` of point `t`'s blocks, in the whole arrays. -/
def row (t : Fin cfg0.N) (r : Fin 256) : Fin 2048 := ⟨256 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (t : Fin cfg0.N) (r : Fin 256) (l : Fin 1152) : iblk m c 0 t (ix2 r l) = wArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 256) (l : Fin 1152) : iblk m c 1 t (ix2 r l) = mArr m c (ix2 (row t r) l) := by
  refine read_at (V_main_arg1 m c) fun a => ?_
  match a with
  | ⟨0, _⟩ => blk_simp [index1]; simp [row]; omega
  | ⟨1, _⟩ => blk_simp [index1]

theorem blk2 (t : Fin cfg0.N) (r : Fin 256) (l : Fin 1152) : iblk m c 2 t (ix2 r l) = vArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (r : Fin 256) (l : Fin 1152) : iblk m c 3 t (ix2 r l) = gArr m c (ix2 (row t r) l) := by
  refine read_at (V_main_arg3 m c) fun a => ?_
  match a with
  | ⟨0, _⟩ => blk_simp [index3]; simp [row]; omega
  | ⟨1, _⟩ => blk_simp [index3]

theorem emb4 (t : Fin cfg0.N) (r : Fin 256) (k : Fin 1152) :
    ((cfg0.win 4).blk t).view.emb (ix2 r k) = ix2 (row t r) k := by
  refine funext fun a => Fin.ext ?_
  match a with
  | ⟨0, _⟩ => blk_simp [index4]; simp [row]; omega
  | ⟨1, _⟩ => blk_simp [index4]

theorem emb5 (t : Fin cfg0.N) (r : Fin 256) (k : Fin 1152) :
    ((cfg0.win 5).blk t).view.emb (ix2 r k) = ix2 (row t r) k := by
  refine funext fun a => Fin.ext ?_
  match a with
  | ⟨0, _⟩ => blk_simp [index5]; simp [row]; omega
  | ⟨1, _⟩ => blk_simp [index5]

theorem emb6 (t : Fin cfg0.N) (r : Fin 256) (k : Fin 1152) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 256) (k : Fin 1152) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem g_at (t : Fin cfg0.N) (r : Fin 256) (k : Fin 1152) :
    out0_4 (F := Ideal) (iblk m c 0 t) (iblk m c 1 t) (iblk m c 2 t) (iblk m c 3 t) (ix2 r k) = gArr m c (ix2 (row t r) k) := by
  refine Eq.trans ?_ (blk3 m c t r k)
  frame_out
  try rfl

theorem d_at (t : Fin cfg0.N) (r : Fin 256) (k : Fin 1152) :
    out0_5 (F := Ideal) (iblk m c 0 t) (iblk m c 1 t) (iblk m c 2 t) (iblk m c 3 t) (ix2 r k)
      = AdamSpec.newD (wArr m c) (mArr m c) (vArr m c) (gArr m c) (ix2 (row t r) k) := by
  frame_out
  pointwise [k0_pay3, k0_pay2, k0_pay1]
  rw [blk3 m c t r k, blk0 m c t r k, blk1 m c t r k, blk2 m c t r k]
  rfl

theorem m_at (t : Fin cfg0.N) (r : Fin 256) (k : Fin 1152) :
    out0_6 (F := Ideal) (iblk m c 0 t) (iblk m c 1 t) (iblk m c 2 t) (iblk m c 3 t) (ix2 r k)
      = AdamSpec.newM (mArr m c) (gArr m c) (ix2 (row t r) k) := by
  frame_out
  pointwise [k0_pay1]
  rw [blk3 m c t r k, blk1 m c t r k]
  rfl

theorem v_at (t : Fin cfg0.N) (r : Fin 256) (k : Fin 1152) :
    out0_7 (F := Ideal) (iblk m c 0 t) (iblk m c 1 t) (iblk m c 2 t) (iblk m c 3 t) (ix2 r k)
      = AdamSpec.newV (vArr m c) (gArr m c) (ix2 (row t r) k) := by
  frame_out
  pointwise [k0_pay2]
  rw [blk3 m c t r k, blk2 m c t r k]
  rfl

attribute [local irreducible] out0_4 out0_5 out0_6 out0_7

theorem g_arr : (dats m 0 c).arrAt 4 cfg0.N = gArr m c := by
  refine (dats m 0 c).arrAt_eq_of_covers 4 _ (by decide +kernel) fun t _ y => ?_
  rw [after0_4]
  obtain ⟨r, k, rfl⟩ := pair y
  rw [emb4]
  exact g_at m c t r k

theorem d_arr : (dats m 0 c).arrAt 5 cfg0.N = AdamSpec.newD (wArr m c) (mArr m c) (vArr m c) (gArr m c) := by
  refine (dats m 0 c).arrAt_eq_of_covers 5 _ (by decide +kernel) fun t _ y => ?_
  rw [after0_5]
  obtain ⟨r, k, rfl⟩ := pair y
  rw [emb5]
  exact d_at m c t r k

theorem m_arr : (dats m 0 c).arrAt 6 cfg0.N = AdamSpec.newM (mArr m c) (gArr m c) := by
  refine (dats m 0 c).arrAt_eq_of_covers 6 _ (by decide +kernel) fun t _ y => ?_
  rw [after0_6]
  obtain ⟨r, k, rfl⟩ := pair y
  rw [emb6]
  exact m_at m c t r k

theorem v_arr : (dats m 0 c).arrAt 7 cfg0.N = AdamSpec.newV (vArr m c) (gArr m c) := by
  refine (dats m 0 c).arrAt_eq_of_covers 7 _ (by decide +kernel) fun t _ y => ?_
  rw [after0_7]
  obtain ⟨r, k, rfl⟩ := pair y
  rw [emb7]
  exact v_at m c t r k

end Cert.AdamModIdeal.Hand

namespace Cert.AdamModRefIdeal.Hand

open Cert.AdamModRefIdeal Cert.AdamModRefIdeal.Read Idealize.ShloMosaic Cert

variable (w m v : AdamSpec.Arr 2048 1152) (g : AdamSpec.Arr 2048 1152)

theorem d_eq : val_main_v23 (F := Ideal) w m v g = AdamSpec.newD w m v g := by
  funext i
  obtain ⟨r, k, rfl⟩ := pair i
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22,
    val_main_v23, val_main_cst, val_main_cst_1, val_main_cst_2, val_main_cst_3, val_main_cst_4, val_main_cst_5,
    val_main_cst_6, val_main_cst_7]
  rfl

theorem m_eq : val_main_v4 (F := Ideal) m g = AdamSpec.newM m g := by
  funext i
  obtain ⟨r, k, rfl⟩ := pair i
  pointwise [val_main_v0, val_main_v1, val_main_v2, val_main_v3, val_main_v4, val_main_cst, val_main_cst_1]
  rfl

theorem v_eq : val_main_v10 (F := Ideal) v g = AdamSpec.newV v g := by
  funext i
  obtain ⟨r, k, rfl⟩ := pair i
  pointwise [val_main_v0, val_main_v1, val_main_v2, val_main_v3, val_main_v4, val_main_v5, val_main_v6, val_main_v7,
    val_main_v8, val_main_v9, val_main_v10, val_main_cst_2, val_main_cst_3]
  rfl

end Cert.AdamModRefIdeal.Hand

end
-- ==== Proof.AdamModClaim.lean ====
module

public import proofs.«01_k».proof.Defs
public import proofs.«01_k».proof.Proof.Gen.AdamMod.Frame
public import proofs.«01_k».proof.Proof.AdamModArrays
public import proofs.«01_k».proof.Proof.Gen.AdamModRefIdeal.Run
public import proofs.«01_k».proof.Proof.Reads

@[expose] public section

/-! The five claims about the optimiser's step for the modulation's matrices. -/

noncomputable section

namespace Cert.AdamModClaim

open Idealize.ShloMosaic TcCoe Idealize.SL.Sem Cert

theorem frame : Cert.quiescent_AdamMod := fun m ρ _ => Cert.AdamMod.Gen.frame m ρ

theorem frame_ideal : Cert.quiescent_AdamModIdeal := fun m ρ _ => Cert.AdamModIdeal.Gen.frame m ρ

/-- The reference runs on the host and has no counter. -/
theorem frame_ref : Cert.quiescent_AdamModRefIdeal := fun m ρ _ =>
  (θ_run Cert.AdamModRefIdeal.defs _ _).mono
    (fun r h => ⟨fun c => (h c).2.2.2.2, sem_eq_zero_of_no_sems (by decide) r.2⟩)
    (Cert.AdamModRefIdeal.Value.run (F := Ideal) m ρ)

theorem preserves : Cert.preserves_AdamMod_AdamModIdeal := trivial

section
open Cert.AdamModRefIdeal

variable (m : (ℓ : Loc nD τ sig) → Buf (Elt Ideal) ℓ) (c : Dev nD)

/-- The reference's arguments, as launched. -/
abbrev wRef : AdamSpec.Arr 2048 1152 := m (slot c main_arg0)
abbrev mRef : AdamSpec.Arr 2048 1152 := m (slot c main_arg1)
abbrev vRef : AdamSpec.Arr 2048 1152 := m (slot c main_arg2)
abbrev gRef : AdamSpec.Arr 2048 1152 := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_arg3) = gRef m c
      ∧ r.2.mem (slot c main_v23) = AdamSpec.newD (wRef m c) (mRef m c) (vRef m c) (gRef m c)
      ∧ r.2.mem (slot c main_v4) = AdamSpec.newM (mRef m c) (gRef m c)
      ∧ r.2.mem (slot c main_v10) = AdamSpec.newV (vRef m c) (gRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1,
       (h c).2.1.trans ((Read.val_main_v23_eq _ _ _ _).trans (Hand.d_eq _ _ _ _)),
       (h c).2.2.1.trans ((Read.val_main_v4_eq _ _).trans (Hand.m_eq _ _)),
       (h c).2.2.2.1.trans ((Read.val_main_v10_eq _ _).trans (Hand.v_eq _ _)), (h c).2.2.2.2⟩)
    (Value.run (F := Ideal) m ρ)

end

/-- Equal arguments give equal results. -/
theorem algebraic : Cert.algebraic_AdamModIdeal_AdamModRefIdeal := by
  intro m ρ m' ρ' _ hagree
  refine ⟨fun c => AdamModIdeal.Hand.gArr m c,
    fun c => AdamSpec.newD (AdamModIdeal.Hand.wArr m c) (AdamModIdeal.Hand.mArr m c) (AdamModIdeal.Hand.vArr m c) (AdamModIdeal.Hand.gArr m c),
    fun c => AdamSpec.newM (AdamModIdeal.Hand.mArr m c) (AdamModIdeal.Hand.gArr m c),
    fun c => AdamSpec.newV (AdamModIdeal.Hand.vArr m c) (AdamModIdeal.Hand.gArr m c),
    (θ_run (AdamModIdeal.defs (F := Ideal)) _ _).mono (fun r h c =>
      ⟨(h c).1.trans (AdamModIdeal.Hand.g_arr m c), (h c).2.1.trans (AdamModIdeal.Hand.d_arr m c),
       (h c).2.2.1.trans (AdamModIdeal.Hand.m_arr m c), (h c).2.2.2.1.trans (AdamModIdeal.Hand.v_arr m c), (h c).2.2.2.2⟩)
      (AdamModIdeal.Value.run_blocks (F := Ideal) m ρ),
    (θ_run (AdamModRefIdeal.defs (F := Ideal)) _ _).mono (fun r h c => ?_) (ref_run m' ρ')⟩
  have h0 : wRef m' c = AdamModIdeal.Hand.wArr m c := (hagree c).1
  have h1 : mRef m' c = AdamModIdeal.Hand.mArr m c := (hagree c).2.1
  have h2 : vRef m' c = AdamModIdeal.Hand.vArr m c := (hagree c).2.2.1
  have h3 : gRef m' c = AdamModIdeal.Hand.gArr m c := (hagree c).2.2.2
  have hc := h c
  rw [h0, h1, h2, h3] at hc
  exact hc

end Cert.AdamModClaim

end
-- ==== Proof.AdamSmallArrays.lean ====
module

public import proofs.«01_k».proof.Proof.Gen.AdamSmallIdeal.Value
public import proofs.«01_k».proof.Proof.Gen.AdamSmallRefIdeal.Read
public import proofs.«01_k».proof.Proof.AdamSpec
public import proofs.«01_k».proof.Proof.Reads

@[expose] public section

/-! The optimiser's step for the small weights: what the run leaves, and what the reference computes. -/

noncomputable section

namespace Cert.AdamSmallIdeal.Hand

open Cert.AdamSmallIdeal Cert.AdamSmallIdeal.Gen Idealize.ShloMosaic TcCoe Idealize.SL.Sem Cert

variable (m : (ℓ : Loc nD τ sig) → Buf (Elt Ideal) ℓ) (c : Dev nD)

/-- The arguments, as launched. -/
abbrev wArr : AdamSpec.Arr 136 1024 := m (slot c main_arg0)
abbrev mArr : AdamSpec.Arr 136 1024 := m (slot c main_arg1)
abbrev vArr : AdamSpec.Arr 136 1024 := m (slot c main_arg2)
abbrev gArr : AdamSpec.Arr 136 1024 := m (slot c main_arg3)

theorem t_lt (t : Fin cfg0.N) : t.val < 17 := lt_of_lt_of_eq t.isLt N_0

/-- Row `r` of point `t`'s blocks, in the whole arrays. -/
def row (t : Fin cfg0.N) (r : Fin 8) : Fin 136 := ⟨8 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (t : Fin cfg0.N) (r : Fin 8) (l : Fin 1024) : iblk m c 0 t (ix2 r l) = wArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 8) (l : Fin 1024) : iblk m c 1 t (ix2 r l) = mArr m c (ix2 (row t r) l) := by
  refine read_at (V_main_arg1 m c) fun a => ?_
  match a with
  | ⟨0, _⟩ => blk_simp [index1]; simp [row]; omega
  | ⟨1, _⟩ => blk_simp [index1]

theorem blk2 (t : Fin cfg0.N) (r : Fin 8) (l : Fin 1024) : iblk m c 2 t (ix2 r l) = vArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (r : Fin 8) (l : Fin 1024) : iblk m c 3 t (ix2 r l) = gArr m c (ix2 (row t r) l) := by
  refine read_at (V_main_arg3 m c) fun a => ?_
  match a with
  | ⟨0, _⟩ => blk_simp [index3]; simp [row]; omega
  | ⟨1, _⟩ => blk_simp [index3]

theorem emb4 (t : Fin cfg0.N) (r : Fin 8) (k : Fin 1024) :
    ((cfg0.win 4).blk t).view.emb (ix2 r k) = ix2 (row t r) k := by
  refine funext fun a => Fin.ext ?_
  match a with
  | ⟨0, _⟩ => blk_simp [index4]; simp [row]; omega
  | ⟨1, _⟩ => blk_simp [index4]

theorem emb5 (t : Fin cfg0.N) (r : Fin 8) (k : Fin 1024) :
    ((cfg0.win 5).blk t).view.emb (ix2 r k) = ix2 (row t r) k := by
  refine funext fun a => Fin.ext ?_
  match a with
  | ⟨0, _⟩ => blk_simp [index5]; simp [row]; omega
  | ⟨1, _⟩ => blk_simp [index5]

theorem emb6 (t : Fin cfg0.N) (r : Fin 8) (k : Fin 1024) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 8) (k : Fin 1024) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem g_at (t : Fin cfg0.N) (r : Fin 8) (k : Fin 1024) :
    out0_4 (F := Ideal) (iblk m c 0 t) (iblk m c 1 t) (iblk m c 2 t) (iblk m c 3 t) (ix2 r k) = gArr m c (ix2 (row t r) k) := by
  refine Eq.trans ?_ (blk3 m c t r k)
  frame_out
  try rfl

theorem d_at (t : Fin cfg0.N) (r : Fin 8) (k : Fin 1024) :
    out0_5 (F := Ideal) (iblk m c 0 t) (iblk m c 1 t) (iblk m c 2 t) (iblk m c 3 t) (ix2 r k)
      = AdamSpec.newD (wArr m c) (mArr m c) (vArr m c) (gArr m c) (ix2 (row t r) k) := by
  frame_out
  pointwise [k0_pay3, k0_pay2, k0_pay1]
  rw [blk3 m c t r k, blk0 m c t r k, blk1 m c t r k, blk2 m c t r k]
  rfl

theorem m_at (t : Fin cfg0.N) (r : Fin 8) (k : Fin 1024) :
    out0_6 (F := Ideal) (iblk m c 0 t) (iblk m c 1 t) (iblk m c 2 t) (iblk m c 3 t) (ix2 r k)
      = AdamSpec.newM (mArr m c) (gArr m c) (ix2 (row t r) k) := by
  frame_out
  pointwise [k0_pay1]
  rw [blk3 m c t r k, blk1 m c t r k]
  rfl

theorem v_at (t : Fin cfg0.N) (r : Fin 8) (k : Fin 1024) :
    out0_7 (F := Ideal) (iblk m c 0 t) (iblk m c 1 t) (iblk m c 2 t) (iblk m c 3 t) (ix2 r k)
      = AdamSpec.newV (vArr m c) (gArr m c) (ix2 (row t r) k) := by
  frame_out
  pointwise [k0_pay2]
  rw [blk3 m c t r k, blk2 m c t r k]
  rfl

attribute [local irreducible] out0_4 out0_5 out0_6 out0_7

theorem g_arr : (dats m 0 c).arrAt 4 cfg0.N = gArr m c := by
  refine (dats m 0 c).arrAt_eq_of_covers 4 _ (by decide +kernel) fun t _ y => ?_
  rw [after0_4]
  obtain ⟨r, k, rfl⟩ := pair y
  rw [emb4]
  exact g_at m c t r k

theorem d_arr : (dats m 0 c).arrAt 5 cfg0.N = AdamSpec.newD (wArr m c) (mArr m c) (vArr m c) (gArr m c) := by
  refine (dats m 0 c).arrAt_eq_of_covers 5 _ (by decide +kernel) fun t _ y => ?_
  rw [after0_5]
  obtain ⟨r, k, rfl⟩ := pair y
  rw [emb5]
  exact d_at m c t r k

theorem m_arr : (dats m 0 c).arrAt 6 cfg0.N = AdamSpec.newM (mArr m c) (gArr m c) := by
  refine (dats m 0 c).arrAt_eq_of_covers 6 _ (by decide +kernel) fun t _ y => ?_
  rw [after0_6]
  obtain ⟨r, k, rfl⟩ := pair y
  rw [emb6]
  exact m_at m c t r k

theorem v_arr : (dats m 0 c).arrAt 7 cfg0.N = AdamSpec.newV (vArr m c) (gArr m c) := by
  refine (dats m 0 c).arrAt_eq_of_covers 7 _ (by decide +kernel) fun t _ y => ?_
  rw [after0_7]
  obtain ⟨r, k, rfl⟩ := pair y
  rw [emb7]
  exact v_at m c t r k

end Cert.AdamSmallIdeal.Hand

namespace Cert.AdamSmallRefIdeal.Hand

open Cert.AdamSmallRefIdeal Cert.AdamSmallRefIdeal.Read Idealize.ShloMosaic Cert

variable (w m v : AdamSpec.Arr 136 1024) (g : AdamSpec.Arr 136 1024)

theorem d_eq : val_main_v23 (F := Ideal) w m v g = AdamSpec.newD w m v g := by
  funext i
  obtain ⟨r, k, rfl⟩ := pair i
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22,
    val_main_v23, val_main_cst, val_main_cst_1, val_main_cst_2, val_main_cst_3, val_main_cst_4, val_main_cst_5,
    val_main_cst_6, val_main_cst_7]
  rfl

theorem m_eq : val_main_v4 (F := Ideal) m g = AdamSpec.newM m g := by
  funext i
  obtain ⟨r, k, rfl⟩ := pair i
  pointwise [val_main_v0, val_main_v1, val_main_v2, val_main_v3, val_main_v4, val_main_cst, val_main_cst_1]
  rfl

theorem v_eq : val_main_v10 (F := Ideal) v g = AdamSpec.newV v g := by
  funext i
  obtain ⟨r, k, rfl⟩ := pair i
  pointwise [val_main_v0, val_main_v1, val_main_v2, val_main_v3, val_main_v4, val_main_v5, val_main_v6, val_main_v7,
    val_main_v8, val_main_v9, val_main_v10, val_main_cst_2, val_main_cst_3]
  rfl

end Cert.AdamSmallRefIdeal.Hand

end
-- ==== Proof.AdamSmallClaim.lean ====
module

public import proofs.«01_k».proof.Defs
public import proofs.«01_k».proof.Proof.Gen.AdamSmall.Frame
public import proofs.«01_k».proof.Proof.AdamSmallArrays
public import proofs.«01_k».proof.Proof.Gen.AdamSmallRefIdeal.Run
public import proofs.«01_k».proof.Proof.Reads

@[expose] public section

/-! The five claims about the optimiser's step for the small weights. -/

noncomputable section

namespace Cert.AdamSmallClaim

open Idealize.ShloMosaic TcCoe Idealize.SL.Sem Cert

theorem frame : Cert.quiescent_AdamSmall := fun m ρ _ => Cert.AdamSmall.Gen.frame m ρ

theorem frame_ideal : Cert.quiescent_AdamSmallIdeal := fun m ρ _ => Cert.AdamSmallIdeal.Gen.frame m ρ

/-- The reference runs on the host and has no counter. -/
theorem frame_ref : Cert.quiescent_AdamSmallRefIdeal := fun m ρ _ =>
  (θ_run Cert.AdamSmallRefIdeal.defs _ _).mono
    (fun r h => ⟨fun c => (h c).2.2.2.2, sem_eq_zero_of_no_sems (by decide) r.2⟩)
    (Cert.AdamSmallRefIdeal.Value.run (F := Ideal) m ρ)

theorem preserves : Cert.preserves_AdamSmall_AdamSmallIdeal := trivial

section
open Cert.AdamSmallRefIdeal

variable (m : (ℓ : Loc nD τ sig) → Buf (Elt Ideal) ℓ) (c : Dev nD)

/-- The reference's arguments, as launched. -/
abbrev wRef : AdamSpec.Arr 136 1024 := m (slot c main_arg0)
abbrev mRef : AdamSpec.Arr 136 1024 := m (slot c main_arg1)
abbrev vRef : AdamSpec.Arr 136 1024 := m (slot c main_arg2)
abbrev gRef : AdamSpec.Arr 136 1024 := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_arg3) = gRef m c
      ∧ r.2.mem (slot c main_v23) = AdamSpec.newD (wRef m c) (mRef m c) (vRef m c) (gRef m c)
      ∧ r.2.mem (slot c main_v4) = AdamSpec.newM (mRef m c) (gRef m c)
      ∧ r.2.mem (slot c main_v10) = AdamSpec.newV (vRef m c) (gRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1,
       (h c).2.1.trans ((Read.val_main_v23_eq _ _ _ _).trans (Hand.d_eq _ _ _ _)),
       (h c).2.2.1.trans ((Read.val_main_v4_eq _ _).trans (Hand.m_eq _ _)),
       (h c).2.2.2.1.trans ((Read.val_main_v10_eq _ _).trans (Hand.v_eq _ _)), (h c).2.2.2.2⟩)
    (Value.run (F := Ideal) m ρ)

end

/-- Equal arguments give equal results. -/
theorem algebraic : Cert.algebraic_AdamSmallIdeal_AdamSmallRefIdeal := by
  intro m ρ m' ρ' _ hagree
  refine ⟨fun c => AdamSmallIdeal.Hand.gArr m c,
    fun c => AdamSpec.newD (AdamSmallIdeal.Hand.wArr m c) (AdamSmallIdeal.Hand.mArr m c) (AdamSmallIdeal.Hand.vArr m c) (AdamSmallIdeal.Hand.gArr m c),
    fun c => AdamSpec.newM (AdamSmallIdeal.Hand.mArr m c) (AdamSmallIdeal.Hand.gArr m c),
    fun c => AdamSpec.newV (AdamSmallIdeal.Hand.vArr m c) (AdamSmallIdeal.Hand.gArr m c),
    (θ_run (AdamSmallIdeal.defs (F := Ideal)) _ _).mono (fun r h c =>
      ⟨(h c).1.trans (AdamSmallIdeal.Hand.g_arr m c), (h c).2.1.trans (AdamSmallIdeal.Hand.d_arr m c),
       (h c).2.2.1.trans (AdamSmallIdeal.Hand.m_arr m c), (h c).2.2.2.1.trans (AdamSmallIdeal.Hand.v_arr m c), (h c).2.2.2.2⟩)
      (AdamSmallIdeal.Value.run_blocks (F := Ideal) m ρ),
    (θ_run (AdamSmallRefIdeal.defs (F := Ideal)) _ _).mono (fun r h c => ?_) (ref_run m' ρ')⟩
  have h0 : wRef m' c = AdamSmallIdeal.Hand.wArr m c := (hagree c).1
  have h1 : mRef m' c = AdamSmallIdeal.Hand.mArr m c := (hagree c).2.1
  have h2 : vRef m' c = AdamSmallIdeal.Hand.vArr m c := (hagree c).2.2.1
  have h3 : gRef m' c = AdamSmallIdeal.Hand.gArr m c := (hagree c).2.2.2
  have hc := h c
  rw [h0, h1, h2, h3] at hc
  exact hc

end Cert.AdamSmallClaim

end
-- ==== Proof.DownNextSpec.lean ====
module

public import Idealize.ShloMosaic.Lib.Pipeline.ValueKit

@[expose] public section

/-! The second feed-forward layer's second product, added to the residual and normalised for the next layer, written once over the
    extended reals. -/

noncomputable section

namespace Cert.DownNextSpec

open Idealize.ShloMosaic

abbrev Wide := (⟨2, ![16384, 2816]⟩ : Shape).Idx → EReal
abbrev Mat := (⟨2, ![2816, 1024]⟩ : Shape).Idx → EReal
abbrev Res := (⟨2, ![16384, 1024]⟩ : Shape).Idx → EReal
abbrev Mods := (⟨2, ![9, 1024]⟩ : Shape).Idx → EReal
abbrev Gain := (⟨2, ![1, 1024]⟩ : Shape).Idx → EReal

/-- One half, as the program writes it. -/
abbrev half : EReal := Ideal.ofBits .f32 0x3F000000#32
/-- The number of columns, as the program writes it. -/
abbrev width : EReal := Ideal.ofBits .f32 0x44800000#32
/-- The small number added to the mean of squares, as the program writes it. -/
abbrev eps : EReal := Ideal.ofBits .f32 0x358637BD#32

variable (s : Wide) (w : Mat) (h : Res) (mods : Mods) (g : Gain) (mn : Mods)

/-- The product. -/
def prod (n : Fin 16384) (j : Fin 1024) : EReal := ∑ l : Fin 2816, s (ix2 n l) * w (ix2 l j)

/-- The residual with the gated product added. -/
def resid (n : Fin 16384) (j : Fin 1024) : EReal := h (ix2 n j) + half * mods (ix2 8 j) * prod s w n j

/-- One over the root of a row's mean of squares. -/
def scale (n : Fin 16384) : EReal :=
  Ideal.rsqrt (Ideal.div (∑ j : Fin 1024, resid s w h mods n j * resid s w h mods n j) width + eps)

/-- The three results. -/
def x : Res := fun i => resid s w h mods (i 0) (i 1)
def y : Res := fun i => prod s w (i 0) (i 1)
def hn : Res := fun i =>
  resid s w h mods (i 0) (i 1) * scale s w h mods (i 0) * g (ix2 0 (i 1)) * (1 + mn (ix2 1 (i 1))) + mn (ix2 0 (i 1))

end Cert.DownNextSpec

end
-- ==== Proof.DownNextBlocks.lean ====
module

public import proofs.«01_k».proof.Proof.Gen.DownNextIdeal.Value
public import proofs.«01_k».proof.Proof.DownNextSpec
public import proofs.«01_k».proof.Proof.Reads

@[expose] public section

/-! The second feed-forward layer's second product: what a grid point reads and computes. -/

noncomputable section

namespace Cert.DownNextIdeal.Hand

open Cert.DownNextIdeal Cert.DownNextIdeal.Gen Idealize.ShloMosaic TcCoe Idealize.SL.Sem Cert

variable (m : (ℓ : Loc nD τ sig) → Buf (Elt Ideal) ℓ) (c : Dev nD)

/-- The arguments, as launched. -/
abbrev sArr : DownNextSpec.Wide := m (slot c main_arg0)
abbrev wArr : DownNextSpec.Mat := m (slot c main_arg1)
abbrev hArr : DownNextSpec.Res := m (slot c main_arg2)
abbrev mArr : DownNextSpec.Mods := m (slot c main_arg3)
abbrev gArr : DownNextSpec.Gain := m (slot c main_arg4)
abbrev nArr : DownNextSpec.Mods := m (slot c main_arg5)

theorem t_lt (t : Fin cfg0.N) : t.val < 32 := lt_of_lt_of_eq t.isLt N_0

/-- Row `r` of point `t`'s blocks, in the whole arrays. -/
def row (t : Fin cfg0.N) (r : Fin 512) : Fin 16384 := ⟨512 * t.val + r.val, by have := t_lt t; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel

theorem blk0 (t : Fin cfg0.N) (r : Fin 512) (l : Fin 2816) : iblk m c 0 t (ix2 r l) = sArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 2816) (l : Fin 1024) : iblk m c 1 t (ix2 r l) = wArr m c (ix2 r l) := by
  refine read_at (V_main_arg1 m c) fun a => ?_
  match a with
  | ⟨0, _⟩ => blk_simp [index1]
  | ⟨1, _⟩ => blk_simp [index1]

theorem blk2 (t : Fin cfg0.N) (r : Fin 512) (l : Fin 1024) : iblk m c 2 t (ix2 r l) = hArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (r : Fin 9) (l : Fin 1024) : iblk m c 3 t (ix2 r l) = mArr m c (ix2 r l) := by
  refine read_at (V_main_arg3 m c) fun a => ?_
  match a with
  | ⟨0, _⟩ => blk_simp [index3]
  | ⟨1, _⟩ => blk_simp [index3]

theorem blk4 (t : Fin cfg0.N) (r : Fin 1) (l : Fin 1024) : iblk m c 4 t (ix2 r l) = gArr m c (ix2 r l) := by
  refine read_at (V_main_arg4 m c) fun a => ?_
  match a with
  | ⟨0, _⟩ => blk_simp [index4]
  | ⟨1, _⟩ => blk_simp [index4]

theorem blk5 (t : Fin cfg0.N) (r : Fin 9) (l : Fin 1024) : iblk m c 5 t (ix2 r l) = nArr m c (ix2 r l) := by
  refine read_at (V_main_arg5 m c) fun a => ?_
  match a with
  | ⟨0, _⟩ => blk_simp [index5]
  | ⟨1, _⟩ => blk_simp [index5]

theorem emb6 (t : Fin cfg0.N) (r : Fin 512) (k : Fin 1024) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 512) (k : Fin 1024) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem emb8 (t : Fin cfg0.N) (r : Fin 512) (k : Fin 1024) :
    ((cfg0.win 8).blk t).view.emb (ix2 r k) = ix2 (row t r) k := by
  refine funext fun a => Fin.ext ?_
  match a with
  | ⟨0, _⟩ => blk_simp [index8]; simp [row]; omega
  | ⟨1, _⟩ => blk_simp [index8]

/-- The product on a point's block. -/
theorem prod_at (t : Fin cfg0.N) (r : Fin 512) (j : Fin 1024) :
    k0_pay2 (F := Ideal) (iblk m c 0 t) (iblk m c 1 t) (ix2 r j)
      = DownNextSpec.prod (sArr m c) (wArr m c) (row t r) j := by
  pointwise [k0_pay2]
  refine Finset.sum_congr rfl fun l _ => ?_
  rw [blk0, blk1]

/-- The residual on a point's block, the modulation's row given. -/
theorem resid_at (t : Fin cfg0.N) (r : Fin 512) (j : Fin 1024) {v : Vec Idealize.ShloMosaic.Ideal S1x1024 .f32}
    (hv : ∀ j, v (ix2 0 j) = mArr m c (ix2 8 j)) :
    k0_pay3 (F := Ideal) (iblk m c 0 t) (iblk m c 1 t) (iblk m c 2 t) v (ix2 r j)
      = DownNextSpec.resid (sArr m c) (wArr m c) (hArr m c) (mArr m c) (row t r) j := by
  pointwise [k0_pay3]
  rw [prod_at, blk2, hv]
  rfl

/-- The normalised row on a point's block, the small arguments' rows given. -/
theorem hn_at (t : Fin cfg0.N) (r : Fin 512) (j : Fin 1024) {v g v4 v3 : Vec Idealize.ShloMosaic.Ideal S1x1024 .f32}
    (hv : ∀ j, v (ix2 0 j) = mArr m c (ix2 8 j)) (hg : ∀ j, g (ix2 0 j) = gArr m c (ix2 0 j))
    (h4 : ∀ j, v4 (ix2 0 j) = nArr m c (ix2 1 j)) (h3 : ∀ j, v3 (ix2 0 j) = nArr m c (ix2 0 j)) :
    k0_pay4 (F := Ideal) (iblk m c 0 t) (iblk m c 1 t) (iblk m c 2 t) v g v4 v3 (ix2 r j)
      = DownNextSpec.hn (sArr m c) (wArr m c) (hArr m c) (mArr m c) (gArr m c) (nArr m c) (ix2 (row t r) j) := by
  pointwise [k0_pay4]
  simp only [resid_at m c t r _ hv]
  rw [hg, h4, h3]
  rfl

/-- A row read from one of the modulation's blocks. -/
theorem ld3 (X : Vec Idealize.ShloMosaic.Ideal S9x1024 .f32) (j : Fin 1024) : View.ld X r0_3 (ix2 0 j) = X (ix2 8 j) :=
  View.ld_unit_apply_of X _ _ _ _ _ fun a => match a with
    | ⟨0, _⟩ => rfl
    | ⟨1, _⟩ => (Nat.zero_add _).symm

theorem ld5 (X : Vec Idealize.ShloMosaic.Ideal S9x1024 .f32) (j : Fin 1024) : View.ld X r0_5 (ix2 0 j) = X (ix2 1 j) :=
  View.ld_unit_apply_of X _ _ _ _ _ fun a => match a with
    | ⟨0, _⟩ => rfl
    | ⟨1, _⟩ => (Nat.zero_add _).symm

theorem ld6 (X : Vec Idealize.ShloMosaic.Ideal S9x1024 .f32) (j : Fin 1024) : View.ld X r0_6 (ix2 0 j) = X (ix2 0 j) :=
  View.ld_unit_apply_of X _ _ _ _ _ fun a => match a with
    | ⟨0, _⟩ => rfl
    | ⟨1, _⟩ => (Nat.zero_add _).symm

theorem x_at (t : Fin cfg0.N) (r : Fin 512) (j : Fin 1024) :
    out0_6 (iblk m c 0 t) (iblk m c 1 t) (iblk m c 2 t) (iblk m c 3 t) (iblk m c 4 t) (iblk m c 5 t) (ix2 r j)
      = DownNextSpec.x (sArr m c) (wArr m c) (hArr m c) (mArr m c) (ix2 (row t r) j) := by
  frame_out
  exact resid_at m c t r j fun j => (ld3 _ j).trans (blk3 m c t 8 j)

theorem y_at (t : Fin cfg0.N) (r : Fin 512) (j : Fin 1024) :
    out0_7 (iblk m c 0 t) (iblk m c 1 t) (iblk m c 2 t) (iblk m c 3 t) (iblk m c 4 t) (iblk m c 5 t) (ix2 r j)
      = DownNextSpec.y (sArr m c) (wArr m c) (ix2 (row t r) j) := by
  frame_out
  pointwise [k0_pay1]
  exact prod_at m c t r j

theorem hn_out (t : Fin cfg0.N) (r : Fin 512) (j : Fin 1024) :
    out0_8 (iblk m c 0 t) (iblk m c 1 t) (iblk m c 2 t) (iblk m c 3 t) (iblk m c 4 t) (iblk m c 5 t) (ix2 r j)
      = DownNextSpec.hn (sArr m c) (wArr m c) (hArr m c) (mArr m c) (gArr m c) (nArr m c) (ix2 (row t r) j) := by
  frame_out
  exact hn_at m c t r j (fun j => (ld3 _ j).trans (blk3 m c t 8 j)) (fun j => blk4 m c t 0 j) (fun j => (ld5 _ j).trans (blk5 m c t 1 j)) fun j => (ld6 _ j).trans (blk5 m c t 0 j)

end Cert.DownNextIdeal.Hand

end
-- ==== Proof.DownNextArrays.lean ====
module

public import proofs.«01_k».proof.Proof.DownNextBlocks
public import proofs.«01_k».proof.Proof.Reads

@[expose] public section

/-! The second feed-forward layer's second product: the three arrays the run leaves. -/

noncomputable section

namespace Cert.DownNextIdeal.Hand

open Cert.DownNextIdeal Cert.DownNextIdeal.Gen Idealize.ShloMosaic TcCoe Idealize.SL.Sem Cert

variable (m : (ℓ : Loc nD τ sig) → Buf (Elt Ideal) ℓ) (c : Dev nD)

attribute [local irreducible] out0_6 out0_7 out0_8

theorem x_arr : (dats m 0 c).arrAt 6 cfg0.N = DownNextSpec.x (sArr m c) (wArr m c) (hArr m c) (mArr m c) := by
  refine (dats m 0 c).arrAt_eq_of_covers 6 _ (by decide +kernel) fun t _ y => ?_
  rw [after0_6]
  obtain ⟨r, k, rfl⟩ := pair y
  rw [emb6]
  exact x_at m c t r k

theorem y_arr : (dats m 0 c).arrAt 7 cfg0.N = DownNextSpec.y (sArr m c) (wArr m c) := by
  refine (dats m 0 c).arrAt_eq_of_covers 7 _ (by decide +kernel) fun t _ y => ?_
  rw [after0_7]
  obtain ⟨r, k, rfl⟩ := pair y
  rw [emb7]
  exact y_at m c t r k

theorem hn_arr : (dats m 0 c).arrAt 8 cfg0.N = DownNextSpec.hn (sArr m c) (wArr m c) (hArr m c) (mArr m c) (gArr m c) (nArr m c) := by
  refine (dats m 0 c).arrAt_eq_of_covers 8 _ (by decide +kernel) fun t _ y => ?_
  rw [after0_8]
  obtain ⟨r, k, rfl⟩ := pair y
  rw [emb8]
  exact hn_out m c t r k

end Cert.DownNextIdeal.Hand

end
-- ==== Proof.DownNextRefValue.lean ====
module

public import proofs.«01_k».proof.Proof.Gen.DownNextRefIdeal.Read
public import proofs.«01_k».proof.Proof.DownNextSpec
public import proofs.«01_k».proof.Proof.Reads

@[expose] public section

/-! The second feed-forward layer's second product: what the reference computes. -/

noncomputable section

namespace Cert.DownNextRefIdeal.Hand

open Cert.DownNextRefIdeal Cert.DownNextRefIdeal.Read Idealize.ShloMosaic Cert

variable (s : DownNextSpec.Wide) (w : DownNextSpec.Mat) (h : DownNextSpec.Res) (mods : DownNextSpec.Mods) (g : DownNextSpec.Gain)
  (mn : DownNextSpec.Mods)

theorem prod_eq (n : Fin 16384) (j : Fin 1024) : val_main_v2 (F := Ideal) s w (ix2 n j) = DownNextSpec.prod s w n j := by
  pointwise [val_main_v2, val_main_v1, val_main_v0]
  rfl

theorem resid_eq (n : Fin 16384) (j : Fin 1024) :
    val_main_v8 (F := Ideal) s w h mods (ix2 n j) = DownNextSpec.resid s w h mods n j := by
  pointwise [val_main_v8, val_main_v7, val_main_v6, val_main_v5, val_main_v4, val_main_cst, val_main_v3]
  rw [prod_eq]
  rfl

theorem squares_eq (n : Fin 16384) : val_main_v11 (F := Ideal) s w h mods (ix1 n)
    = ∑ j : Fin 1024, DownNextSpec.resid s w h mods n j * DownNextSpec.resid s w h mods n j := by
  pointwise [val_main_v11, val_main_v10, val_main_cst_0]
  simp only [resid_eq]

theorem scale_eq (n : Fin 16384) :
    val_main_v17 (F := Ideal) s w h mods (ix2 n 0) = DownNextSpec.scale s w h mods n := by
  pointwise [val_main_v17, val_main_v16, val_main_v15, val_main_cst_2, val_main_v14, val_main_v13, val_main_cst_1,
    val_main_v12]
  rw [squares_eq]
  rfl

theorem x_eq : val_main_v8 (F := Ideal) s w h mods = DownNextSpec.x s w h mods := by
  funext i
  obtain ⟨n, j, rfl⟩ := pair i
  exact resid_eq s w h mods n j

theorem y_eq : val_main_v9 (F := Ideal) s w = DownNextSpec.y s w := by
  funext i
  obtain ⟨n, j, rfl⟩ := pair i
  pointwise [val_main_v9]
  exact prod_eq s w n j

theorem hn_eq : val_main_v30 (F := Ideal) s w h mods g mn = DownNextSpec.hn s w h mods g mn := by
  funext i
  obtain ⟨n, j, rfl⟩ := pair i
  pointwise [val_main_v30, val_main_v29, val_main_v28, val_main_v27, val_main_v26, val_main_v25, val_main_v24,
    val_main_cst_3, val_main_v23, val_main_v22, val_main_v21, val_main_v20, val_main_v19, val_main_v18]
  rw [resid_eq, scale_eq]
  rfl

end Cert.DownNextRefIdeal.Hand

end
-- ==== Proof.DownNextClaim.lean ====
module

public import proofs.«01_k».proof.Defs
public import proofs.«01_k».proof.Proof.Gen.DownNext.Frame
public import proofs.«01_k».proof.Proof.DownNextArrays
public import proofs.«01_k».proof.Proof.DownNextRefValue
public import proofs.«01_k».proof.Proof.Gen.DownNextRefIdeal.Run
public import proofs.«01_k».proof.Proof.Reads

@[expose] public section

/-! The five claims about the second feed-forward layer's second product. -/

noncomputable section

namespace Cert.DownNextClaim

open Idealize.ShloMosaic TcCoe Idealize.SL.Sem Cert

theorem frame : Cert.quiescent_DownNext := fun m ρ _ => Cert.DownNext.Gen.frame m ρ

theorem frame_ideal : Cert.quiescent_DownNextIdeal := fun m ρ _ => Cert.DownNextIdeal.Gen.frame m ρ

/-- The reference runs on the host and has no counter. -/
theorem frame_ref : Cert.quiescent_DownNextRefIdeal := fun m ρ _ =>
  (θ_run Cert.DownNextRefIdeal.defs _ _).mono
    (fun r h => ⟨fun c => (h c).2.2.2, sem_eq_zero_of_no_sems (by decide) r.2⟩)
    (Cert.DownNextRefIdeal.Value.run (F := Ideal) m ρ)

theorem preserves : Cert.preserves_DownNext_DownNextIdeal := trivial

section
open Cert.DownNextRefIdeal

variable (m : (ℓ : Loc nD τ sig) → Buf (Elt Ideal) ℓ) (c : Dev nD)

/-- The reference's arguments, as launched. -/
abbrev sRef : DownNextSpec.Wide := m (slot c main_arg0)
abbrev wRef : DownNextSpec.Mat := m (slot c main_arg1)
abbrev hRef : DownNextSpec.Res := m (slot c main_arg2)
abbrev mRef : DownNextSpec.Mods := m (slot c main_arg3)
abbrev gRef : DownNextSpec.Gain := m (slot c main_arg4)
abbrev nRef : DownNextSpec.Mods := m (slot c main_arg5)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v8) = DownNextSpec.x (sRef m c) (wRef m c) (hRef m c) (mRef m c)
      ∧ r.2.mem (slot c main_v9) = DownNextSpec.y (sRef m c) (wRef m c)
      ∧ r.2.mem (slot c main_v30)
        = DownNextSpec.hn (sRef m c) (wRef m c) (hRef m c) (mRef m c) (gRef m c) (nRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5) :=
  (θ_run (defs (F := Ideal)) _ _).mono (fun r h c =>
      ⟨(h c).1.trans ((Read.val_main_v8_eq _ _ _ _).trans (DownNextRefIdeal.Hand.x_eq _ _ _ _)),
       (h c).2.1.trans ((Read.val_main_v9_eq _ _).trans (DownNextRefIdeal.Hand.y_eq _ _)),
       (h c).2.2.1.trans ((Read.val_main_v30_eq _ _ _ _ _ _).trans (DownNextRefIdeal.Hand.hn_eq _ _ _ _ _ _)),
       (h c).2.2.2⟩)
    (Value.run (F := Ideal) m ρ)

end

/-- Equal arguments give equal results. -/
theorem algebraic : Cert.algebraic_DownNextIdeal_DownNextRefIdeal := by
  intro m ρ m' ρ' _ hagree
  refine ⟨fun c => DownNextSpec.x (DownNextIdeal.Hand.sArr m c) (DownNextIdeal.Hand.wArr m c) (DownNextIdeal.Hand.hArr m c) (DownNextIdeal.Hand.mArr m c),
    fun c => DownNextSpec.y (DownNextIdeal.Hand.sArr m c) (DownNextIdeal.Hand.wArr m c),
    fun c => DownNextSpec.hn (DownNextIdeal.Hand.sArr m c) (DownNextIdeal.Hand.wArr m c) (DownNextIdeal.Hand.hArr m c)
      (DownNextIdeal.Hand.mArr m c) (DownNextIdeal.Hand.gArr m c) (DownNextIdeal.Hand.nArr m c),
    (θ_run (DownNextIdeal.defs (F := Ideal)) _ _).mono (fun r h c =>
      ⟨(h c).1.trans (DownNextIdeal.Hand.x_arr m c), (h c).2.1.trans (DownNextIdeal.Hand.y_arr m c),
       (h c).2.2.1.trans (DownNextIdeal.Hand.hn_arr m c), (h c).2.2.2⟩)
      (DownNextIdeal.Value.run_blocks (F := Ideal) m ρ),
    (θ_run (DownNextRefIdeal.defs (F := Ideal)) _ _).mono (fun r h c => ?_) (ref_run m' ρ')⟩
  have h0 : sRef m' c = DownNextIdeal.Hand.sArr m c := (hagree c).1
  have h1 : wRef m' c = DownNextIdeal.Hand.wArr m c := (hagree c).2.1
  have h2 : hRef m' c = DownNextIdeal.Hand.hArr m c := (hagree c).2.2.1
  have h3 : mRef m' c = DownNextIdeal.Hand.mArr m c := (hagree c).2.2.2.1
  have h4 : gRef m' c = DownNextIdeal.Hand.gArr m c := (hagree c).2.2.2.2.1
  have h5 : nRef m' c = DownNextIdeal.Hand.nArr m c := (hagree c).2.2.2.2.2
  have hc := h c
  rw [h0, h1, h2, h3, h4, h5] at hc
  exact hc

end Cert.DownNextClaim

end
-- ==== Proof.DownLastSpec.lean ====
module

public import Idealize.ShloMosaic.Lib.Pipeline.ValueKit

@[expose] public section

/-! The last feed-forward layer's second product, added to the residual, written once over the extended reals. -/

noncomputable section

namespace Cert.DownLastSpec

open Idealize.ShloMosaic

abbrev Wide := (⟨2, ![16384, 2816]⟩ : Shape).Idx → EReal
abbrev Mat := (⟨2, ![2816, 1024]⟩ : Shape).Idx → EReal
abbrev Res := (⟨2, ![16384, 1024]⟩ : Shape).Idx → EReal
abbrev Mods := (⟨2, ![9, 1024]⟩ : Shape).Idx → EReal

/-- One half, as the program writes it. -/
abbrev half : EReal := Ideal.ofBits .f32 0x3F000000#32

variable (s : Wide) (w : Mat) (h : Res) (mods : Mods)

/-- The product. -/
def prod (n : Fin 16384) (j : Fin 1024) : EReal := ∑ l : Fin 2816, s (ix2 n l) * w (ix2 l j)

/-- The residual with the gated product added. -/
def resid (n : Fin 16384) (j : Fin 1024) : EReal := h (ix2 n j) + half * mods (ix2 8 j) * prod s w n j

/-- The two results. -/
def x : Res := fun i => resid s w h mods (i 0) (i 1)
def y : Res := fun i => prod s w (i 0) (i 1)
end Cert.DownLastSpec

end
-- ==== Proof.DownLastBlocks.lean ====
module

public import proofs.«01_k».proof.Proof.Gen.DownLastIdeal.Value
public import proofs.«01_k».proof.Proof.DownLastSpec
public import proofs.«01_k».proof.Proof.Reads

@[expose] public section

/-! The last feed-forward layer's second product: what a grid point reads and computes. -/

noncomputable section

namespace Cert.DownLastIdeal.Hand

open Cert.DownLastIdeal Cert.DownLastIdeal.Gen Idealize.ShloMosaic TcCoe Idealize.SL.Sem Cert

variable (m : (ℓ : Loc nD τ sig) → Buf (Elt Ideal) ℓ) (c : Dev nD)

/-- The arguments, as launched. -/
abbrev sArr : DownLastSpec.Wide := m (slot c main_arg0)
abbrev wArr : DownLastSpec.Mat := m (slot c main_arg1)
abbrev hArr : DownLastSpec.Res := m (slot c main_arg2)
abbrev mArr : DownLastSpec.Mods := m (slot c main_arg3)

theorem t_lt (t : Fin cfg0.N) : t.val < 32 := lt_of_lt_of_eq t.isLt N_0

/-- Row `r` of point `t`'s blocks, in the whole arrays. -/
def row (t : Fin cfg0.N) (r : Fin 512) : Fin 16384 := ⟨512 * t.val + r.val, by have := t_lt t; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

theorem blk0 (t : Fin cfg0.N) (r : Fin 512) (l : Fin 2816) : iblk m c 0 t (ix2 r l) = sArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 2816) (l : Fin 1024) : iblk m c 1 t (ix2 r l) = wArr m c (ix2 r l) := by
  refine read_at (V_main_arg1 m c) fun a => ?_
  match a with
  | ⟨0, _⟩ => blk_simp [index1]
  | ⟨1, _⟩ => blk_simp [index1]

theorem blk2 (t : Fin cfg0.N) (r : Fin 512) (l : Fin 1024) : iblk m c 2 t (ix2 r l) = hArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (r : Fin 9) (l : Fin 1024) : iblk m c 3 t (ix2 r l) = mArr m c (ix2 r l) := by
  refine read_at (V_main_arg3 m c) fun a => ?_
  match a with
  | ⟨0, _⟩ => blk_simp [index3]
  | ⟨1, _⟩ => blk_simp [index3]

theorem emb4 (t : Fin cfg0.N) (r : Fin 512) (k : Fin 1024) :
    ((cfg0.win 4).blk t).view.emb (ix2 r k) = ix2 (row t r) k := by
  refine funext fun a => Fin.ext ?_
  match a with
  | ⟨0, _⟩ => blk_simp [index4]; simp [row]; omega
  | ⟨1, _⟩ => blk_simp [index4]

theorem emb5 (t : Fin cfg0.N) (r : Fin 512) (k : Fin 1024) :
    ((cfg0.win 5).blk t).view.emb (ix2 r k) = ix2 (row t r) k := by
  refine funext fun a => Fin.ext ?_
  match a with
  | ⟨0, _⟩ => blk_simp [index5]; simp [row]; omega
  | ⟨1, _⟩ => blk_simp [index5]

/-- The product on a point's block. -/
theorem prod_at (t : Fin cfg0.N) (r : Fin 512) (j : Fin 1024) :
    k0_pay1 (F := Ideal) (iblk m c 0 t) (iblk m c 1 t) (ix2 r j)
      = DownLastSpec.prod (sArr m c) (wArr m c) (row t r) j := by
  pointwise [k0_pay1]
  refine Finset.sum_congr rfl fun l _ => ?_
  rw [blk0, blk1]

/-- The residual on a point's block, the modulation's row given. -/
theorem resid_at (t : Fin cfg0.N) (r : Fin 512) (j : Fin 1024) {v : Vec Idealize.ShloMosaic.Ideal S1x1024 .f32}
    (hv : ∀ j, v (ix2 0 j) = mArr m c (ix2 8 j)) :
    k0_pay2 (F := Ideal) (iblk m c 0 t) (iblk m c 1 t) (iblk m c 2 t) v (ix2 r j)
      = DownLastSpec.resid (sArr m c) (wArr m c) (hArr m c) (mArr m c) (row t r) j := by
  pointwise [k0_pay2]
  rw [prod_at, blk2, hv]
  rfl

/-- A row read from one of the modulation's blocks. -/
theorem ld3 (X : Vec Idealize.ShloMosaic.Ideal S9x1024 .f32) (j : Fin 1024) : View.ld X r0_3 (ix2 0 j) = X (ix2 8 j) :=
  View.ld_unit_apply_of X _ _ _ _ _ fun a => match a with
    | ⟨0, _⟩ => rfl
    | ⟨1, _⟩ => (Nat.zero_add _).symm

theorem x_at (t : Fin cfg0.N) (r : Fin 512) (j : Fin 1024) :
    out0_4 (iblk m c 0 t) (iblk m c 1 t) (iblk m c 2 t) (iblk m c 3 t) (ix2 r j)
      = DownLastSpec.x (sArr m c) (wArr m c) (hArr m c) (mArr m c) (ix2 (row t r) j) := by
  frame_out
  exact resid_at m c t r j fun j => (ld3 _ j).trans (blk3 m c t 8 j)

theorem y_at (t : Fin cfg0.N) (r : Fin 512) (j : Fin 1024) :
    out0_5 (iblk m c 0 t) (iblk m c 1 t) (iblk m c 2 t) (iblk m c 3 t) (ix2 r j)
      = DownLastSpec.y (sArr m c) (wArr m c) (ix2 (row t r) j) := by
  frame_out
  pointwise [k0_pay3]
  exact prod_at m c t r j

end Cert.DownLastIdeal.Hand

end
-- ==== Proof.DownLastArrays.lean ====
module

public import proofs.«01_k».proof.Proof.DownLastBlocks
public import proofs.«01_k».proof.Proof.Reads

@[expose] public section

/-! The last feed-forward layer's second product: the two arrays the run leaves. -/

noncomputable section

namespace Cert.DownLastIdeal.Hand

open Cert.DownLastIdeal Cert.DownLastIdeal.Gen Idealize.ShloMosaic TcCoe Idealize.SL.Sem Cert

variable (m : (ℓ : Loc nD τ sig) → Buf (Elt Ideal) ℓ) (c : Dev nD)

attribute [local irreducible] out0_4 out0_5

theorem x_arr : (dats m 0 c).arrAt 4 cfg0.N = DownLastSpec.x (sArr m c) (wArr m c) (hArr m c) (mArr m c) := by
  refine (dats m 0 c).arrAt_eq_of_covers 4 _ (by decide +kernel) fun t _ y => ?_
  rw [after0_4]
  obtain ⟨r, k, rfl⟩ := pair y
  rw [emb4]
  exact x_at m c t r k

theorem y_arr : (dats m 0 c).arrAt 5 cfg0.N = DownLastSpec.y (sArr m c) (wArr m c) := by
  refine (dats m 0 c).arrAt_eq_of_covers 5 _ (by decide +kernel) fun t _ y => ?_
  rw [after0_5]
  obtain ⟨r, k, rfl⟩ := pair y
  rw [emb5]
  exact y_at m c t r k

end Cert.DownLastIdeal.Hand

end
-- ==== Proof.DownLastRefValue.lean ====
module

public import proofs.«01_k».proof.Proof.Gen.DownLastRefIdeal.Read
public import proofs.«01_k».proof.Proof.DownLastSpec
public import proofs.«01_k».proof.Proof.Reads

@[expose] public section

/-! The last feed-forward layer's second product: what the reference computes. -/

noncomputable section

namespace Cert.DownLastRefIdeal.Hand

open Cert.DownLastRefIdeal Cert.DownLastRefIdeal.Read Idealize.ShloMosaic Cert

variable (s : DownLastSpec.Wide) (w : DownLastSpec.Mat) (h : DownLastSpec.Res) (mods : DownLastSpec.Mods)

theorem prod_eq (n : Fin 16384) (j : Fin 1024) : val_main_v2 (F := Ideal) s w (ix2 n j) = DownLastSpec.prod s w n j := by
  pointwise [val_main_v2, val_main_v1, val_main_v0]
  rfl

theorem resid_eq (n : Fin 16384) (j : Fin 1024) :
    val_main_v8 (F := Ideal) s w h mods (ix2 n j) = DownLastSpec.resid s w h mods n j := by
  pointwise [val_main_v8, val_main_v7, val_main_v6, val_main_v5, val_main_v4, val_main_cst, val_main_v3]
  rw [prod_eq]
  rfl

theorem x_eq : val_main_v8 (F := Ideal) s w h mods = DownLastSpec.x s w h mods := by
  funext i
  obtain ⟨n, j, rfl⟩ := pair i
  exact resid_eq s w h mods n j

theorem y_eq : val_main_v9 (F := Ideal) s w = DownLastSpec.y s w := by
  funext i
  obtain ⟨n, j, rfl⟩ := pair i
  pointwise [val_main_v9]
  exact prod_eq s w n j

end Cert.DownLastRefIdeal.Hand

end
-- ==== Proof.DownLastClaim.lean ====
module

public import proofs.«01_k».proof.Defs
public import proofs.«01_k».proof.Proof.Gen.DownLast.Frame
public import proofs.«01_k».proof.Proof.DownLastArrays
public import proofs.«01_k».proof.Proof.DownLastRefValue
public import proofs.«01_k».proof.Proof.Gen.DownLastRefIdeal.Run
public import proofs.«01_k».proof.Proof.Reads

@[expose] public section

/-! The five claims about the last feed-forward layer's second product. -/

noncomputable section

namespace Cert.DownLastClaim

open Idealize.ShloMosaic TcCoe Idealize.SL.Sem Cert

theorem frame : Cert.quiescent_DownLast := fun m ρ _ => Cert.DownLast.Gen.frame m ρ

theorem frame_ideal : Cert.quiescent_DownLastIdeal := fun m ρ _ => Cert.DownLastIdeal.Gen.frame m ρ

/-- The reference runs on the host and has no counter. -/
theorem frame_ref : Cert.quiescent_DownLastRefIdeal := fun m ρ _ =>
  (θ_run Cert.DownLastRefIdeal.defs _ _).mono
    (fun r h => ⟨fun c => (h c).2.2, sem_eq_zero_of_no_sems (by decide) r.2⟩)
    (Cert.DownLastRefIdeal.Value.run (F := Ideal) m ρ)

theorem preserves : Cert.preserves_DownLast_DownLastIdeal := trivial

section
open Cert.DownLastRefIdeal

variable (m : (ℓ : Loc nD τ sig) → Buf (Elt Ideal) ℓ) (c : Dev nD)

/-- The reference's arguments, as launched. -/
abbrev sRef : DownLastSpec.Wide := m (slot c main_arg0)
abbrev wRef : DownLastSpec.Mat := m (slot c main_arg1)
abbrev hRef : DownLastSpec.Res := m (slot c main_arg2)
abbrev mRef : DownLastSpec.Mods := m (slot c main_arg3)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v8) = DownLastSpec.x (sRef m c) (wRef m c) (hRef m c) (mRef m c)
      ∧ r.2.mem (slot c main_v9) = DownLastSpec.y (sRef m c) (wRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans ((Read.val_main_v8_eq _ _ _ _).trans (DownLastRefIdeal.Hand.x_eq _ _ _ _)),
       (h c).2.1.trans ((Read.val_main_v9_eq _ _).trans (DownLastRefIdeal.Hand.y_eq _ _)),
       (h c).2.2⟩)
    (Value.run (F := Ideal) m ρ)

end

/-- Equal arguments give equal results. -/
theorem algebraic : Cert.algebraic_DownLastIdeal_DownLastRefIdeal := by
  intro m ρ m' ρ' _ hagree
  refine ⟨fun c => DownLastSpec.x (DownLastIdeal.Hand.sArr m c) (DownLastIdeal.Hand.wArr m c) (DownLastIdeal.Hand.hArr m c) (DownLastIdeal.Hand.mArr m c),
    fun c => DownLastSpec.y (DownLastIdeal.Hand.sArr m c) (DownLastIdeal.Hand.wArr m c),
    (θ_run (DownLastIdeal.defs (F := Ideal)) _ _).mono (fun r h c =>
      ⟨(h c).1.trans (DownLastIdeal.Hand.x_arr m c), (h c).2.1.trans (DownLastIdeal.Hand.y_arr m c), (h c).2.2⟩)
      (DownLastIdeal.Value.run_blocks (F := Ideal) m ρ),
    (θ_run (DownLastRefIdeal.defs (F := Ideal)) _ _).mono (fun r h c => ?_) (ref_run m' ρ')⟩
  have h0 : sRef m' c = DownLastIdeal.Hand.sArr m c := (hagree c).1
  have h1 : wRef m' c = DownLastIdeal.Hand.wArr m c := (hagree c).2.1
  have h2 : hRef m' c = DownLastIdeal.Hand.hArr m c := (hagree c).2.2.1
  have h3 : mRef m' c = DownLastIdeal.Hand.mArr m c := (hagree c).2.2.2
  have hc := h c
  rw [h0, h1, h2, h3] at hc
  exact hc

end Cert.DownLastClaim

end
-- ==== Proof.MixOutSpec.lean ====
module

public import Idealize.ShloMosaic.Lib.Pipeline.ValueKit

@[expose] public section

/-! The second mixer's output product, added to the residual and normalised for the next layer, written once over the
    extended reals. -/

noncomputable section

namespace Cert.MixOutSpec

open Idealize.ShloMosaic

abbrev Wide := (⟨2, ![16384, 1024]⟩ : Shape).Idx → EReal
abbrev Mat := (⟨2, ![1024, 1024]⟩ : Shape).Idx → EReal
abbrev Res := (⟨2, ![16384, 1024]⟩ : Shape).Idx → EReal
abbrev Mods := (⟨2, ![9, 1024]⟩ : Shape).Idx → EReal
abbrev Gain := (⟨2, ![1, 1024]⟩ : Shape).Idx → EReal

/-- The number of columns, as the program writes it. -/
abbrev width : EReal := Ideal.ofBits .f32 0x44800000#32
/-- The small number added to the mean of squares, as the program writes it. -/
abbrev eps : EReal := Ideal.ofBits .f32 0x358637BD#32

variable (s : Wide) (w : Mat) (h : Res) (mods : Mods) (g : Gain) (mn : Mods)

/-- The product. -/
def prod (n : Fin 16384) (j : Fin 1024) : EReal := ∑ l : Fin 1024, s (ix2 n l) * w (ix2 l j)

/-- The residual with the gated product added. -/
def resid (n : Fin 16384) (j : Fin 1024) : EReal := h (ix2 n j) + mods (ix2 5 j) * prod s w n j

/-- One over the root of a row's mean of squares. -/
def scale (n : Fin 16384) : EReal :=
  Ideal.rsqrt (Ideal.div (∑ j : Fin 1024, resid s w h mods n j * resid s w h mods n j) width + eps)

/-- The three results. -/
def x : Res := fun i => resid s w h mods (i 0) (i 1)
def y : Res := fun i => prod s w (i 0) (i 1)
def hn : Res := fun i =>
  resid s w h mods (i 0) (i 1) * scale s w h mods (i 0) * g (ix2 0 (i 1)) * (1 + mn (ix2 7 (i 1))) + mn (ix2 6 (i 1))

end Cert.MixOutSpec

end
-- ==== Proof.MixOutBlocks.lean ====
module

public import proofs.«01_k».proof.Proof.Gen.MixOutIdeal.Value
public import proofs.«01_k».proof.Proof.MixOutSpec
public import proofs.«01_k».proof.Proof.Reads

@[expose] public section

/-! The second mixer's output product: what a grid point reads and computes. -/

noncomputable section

namespace Cert.MixOutIdeal.Hand

open Cert.MixOutIdeal Cert.MixOutIdeal.Gen Idealize.ShloMosaic TcCoe Idealize.SL.Sem Cert

variable (m : (ℓ : Loc nD τ sig) → Buf (Elt Ideal) ℓ) (c : Dev nD)

/-- The arguments, as launched. -/
abbrev sArr : MixOutSpec.Wide := m (slot c main_arg0)
abbrev wArr : MixOutSpec.Mat := m (slot c main_arg1)
abbrev hArr : MixOutSpec.Res := m (slot c main_arg2)
abbrev mArr : MixOutSpec.Mods := m (slot c main_arg3)
abbrev gArr : MixOutSpec.Gain := m (slot c main_arg4)
abbrev nArr : MixOutSpec.Mods := m (slot c main_arg5)

theorem t_lt (t : Fin cfg0.N) : t.val < 32 := lt_of_lt_of_eq t.isLt N_0

/-- Row `r` of point `t`'s blocks, in the whole arrays. -/
def row (t : Fin cfg0.N) (r : Fin 512) : Fin 16384 := ⟨512 * t.val + r.val, by have := t_lt t; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel

theorem blk0 (t : Fin cfg0.N) (r : Fin 512) (l : Fin 1024) : iblk m c 0 t (ix2 r l) = sArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 1024) (l : Fin 1024) : iblk m c 1 t (ix2 r l) = wArr m c (ix2 r l) := by
  refine read_at (V_main_arg1 m c) fun a => ?_
  match a with
  | ⟨0, _⟩ => blk_simp [index1]
  | ⟨1, _⟩ => blk_simp [index1]

theorem blk2 (t : Fin cfg0.N) (r : Fin 512) (l : Fin 1024) : iblk m c 2 t (ix2 r l) = hArr m c (ix2 (row t r) l) := by
  refine read_at (V_main_arg2 m c) fun a => ?_
  match a with
  | ⟨0, _⟩ => blk_simp [index2]; simp [row]; omega
  | ⟨1, _⟩ => blk_simp [index2]

theorem blk3 (t : Fin cfg0.N) (r : Fin 9) (l : Fin 1024) : iblk m c 3 t (ix2 r l) = mArr m c (ix2 r l) := by
  refine read_at (V_main_arg3 m c) fun a => ?_
  match a with
  | ⟨0, _⟩ => blk_simp [index3]
  | ⟨1, _⟩ => blk_simp [index3]

theorem blk4 (t : Fin cfg0.N) (r : Fin 1) (l : Fin 1024) : iblk m c 4 t (ix2 r l) = gArr m c (ix2 r l) := by
  refine read_at (V_main_arg4 m c) fun a => ?_
  match a with
  | ⟨0, _⟩ => blk_simp [index4]
  | ⟨1, _⟩ => blk_simp [index4]

theorem blk5 (t : Fin cfg0.N) (r : Fin 9) (l : Fin 1024) : iblk m c 5 t (ix2 r l) = nArr m c (ix2 r l) := by
  refine read_at (V_main_arg5 m c) fun a => ?_
  match a with
  | ⟨0, _⟩ => blk_simp [index5]
  | ⟨1, _⟩ => blk_simp [index5]

theorem emb6 (t : Fin cfg0.N) (r : Fin 512) (k : Fin 1024) :
    ((cfg0.win 6).blk t).view.emb (ix2 r k) = ix2 (row t r) k := by
  refine funext fun a => Fin.ext ?_
  match a with
  | ⟨0, _⟩ => blk_simp [index6]; simp [row]; omega
  | ⟨1, _⟩ => blk_simp [index6]

theorem emb7 (t : Fin cfg0.N) (r : Fin 512) (k : Fin 1024) :
    ((cfg0.win 7).blk t).view.emb (ix2 r k) = ix2 (row t r) k := by
  refine funext fun a => Fin.ext ?_
  match a with
  | ⟨0, _⟩ => blk_simp [index7]; simp [row]; omega
  | ⟨1, _⟩ => blk_simp [index7]

theorem emb8 (t : Fin cfg0.N) (r : Fin 512) (k : Fin 1024) :
    ((cfg0.win 8).blk t).view.emb (ix2 r k) = ix2 (row t r) k := by
  refine funext fun a => Fin.ext ?_
  match a with
  | ⟨0, _⟩ => blk_simp [index8]; simp [row]; omega
  | ⟨1, _⟩ => blk_simp [index8]

/-- The product on a point's block. -/
theorem prod_at (t : Fin cfg0.N) (r : Fin 512) (j : Fin 1024) :
    k0_pay2 (F := Ideal) (iblk m c 0 t) (iblk m c 1 t) (ix2 r j)
      = MixOutSpec.prod (sArr m c) (wArr m c) (row t r) j := by
  pointwise [k0_pay2]
  refine Finset.sum_congr rfl fun l _ => ?_
  rw [blk0, blk1]

/-- The residual on a point's block, the modulation's row given. -/
theorem resid_at (t : Fin cfg0.N) (r : Fin 512) (j : Fin 1024) {v : Vec Idealize.ShloMosaic.Ideal S1x1024 .f32}
    (hv : ∀ j, v (ix2 0 j) = mArr m c (ix2 5 j)) :
    k0_pay3 (F := Ideal) (iblk m c 0 t) (iblk m c 1 t) (iblk m c 2 t) v (ix2 r j)
      = MixOutSpec.resid (sArr m c) (wArr m c) (hArr m c) (mArr m c) (row t r) j := by
  pointwise [k0_pay3]
  rw [prod_at, blk2, hv]
  rfl

/-- The normalised row on a point's block, the small arguments' rows given. -/
theorem hn_at (t : Fin cfg0.N) (r : Fin 512) (j : Fin 1024) {v g v4 v3 : Vec Idealize.ShloMosaic.Ideal S1x1024 .f32}
    (hv : ∀ j, v (ix2 0 j) = mArr m c (ix2 5 j)) (hg : ∀ j, g (ix2 0 j) = gArr m c (ix2 0 j))
    (h4 : ∀ j, v4 (ix2 0 j) = nArr m c (ix2 7 j)) (h3 : ∀ j, v3 (ix2 0 j) = nArr m c (ix2 6 j)) :
    k0_pay4 (F := Ideal) (iblk m c 0 t) (iblk m c 1 t) (iblk m c 2 t) v g v4 v3 (ix2 r j)
      = MixOutSpec.hn (sArr m c) (wArr m c) (hArr m c) (mArr m c) (gArr m c) (nArr m c) (ix2 (row t r) j) := by
  pointwise [k0_pay4]
  simp only [resid_at m c t r _ hv]
  rw [hg, h4, h3]
  rfl

/-- A row read from one of the modulation's blocks. -/
theorem ld3 (X : Vec Idealize.ShloMosaic.Ideal S9x1024 .f32) (j : Fin 1024) : View.ld X r0_2 (ix2 0 j) = X (ix2 5 j) :=
  View.ld_unit_apply_of X _ _ _ _ _ fun a => match a with
    | ⟨0, _⟩ => rfl
    | ⟨1, _⟩ => (Nat.zero_add _).symm

theorem ld5 (X : Vec Idealize.ShloMosaic.Ideal S9x1024 .f32) (j : Fin 1024) : View.ld X r0_4 (ix2 0 j) = X (ix2 7 j) :=
  View.ld_unit_apply_of X _ _ _ _ _ fun a => match a with
    | ⟨0, _⟩ => rfl
    | ⟨1, _⟩ => (Nat.zero_add _).symm

theorem ld6 (X : Vec Idealize.ShloMosaic.Ideal S9x1024 .f32) (j : Fin 1024) : View.ld X r0_5 (ix2 0 j) = X (ix2 6 j) :=
  View.ld_unit_apply_of X _ _ _ _ _ fun a => match a with
    | ⟨0, _⟩ => rfl
    | ⟨1, _⟩ => (Nat.zero_add _).symm

theorem x_at (t : Fin cfg0.N) (r : Fin 512) (j : Fin 1024) :
    out0_6 (iblk m c 0 t) (iblk m c 1 t) (iblk m c 2 t) (iblk m c 3 t) (iblk m c 4 t) (iblk m c 5 t) (ix2 r j)
      = MixOutSpec.x (sArr m c) (wArr m c) (hArr m c) (mArr m c) (ix2 (row t r) j) := by
  frame_out
  exact resid_at m c t r j fun j => (ld3 _ j).trans (blk3 m c t 5 j)

theorem y_at (t : Fin cfg0.N) (r : Fin 512) (j : Fin 1024) :
    out0_7 (iblk m c 0 t) (iblk m c 1 t) (iblk m c 2 t) (iblk m c 3 t) (iblk m c 4 t) (iblk m c 5 t) (ix2 r j)
      = MixOutSpec.y (sArr m c) (wArr m c) (ix2 (row t r) j) := by
  frame_out
  pointwise [k0_pay1]
  exact prod_at m c t r j

theorem hn_out (t : Fin cfg0.N) (r : Fin 512) (j : Fin 1024) :
    out0_8 (iblk m c 0 t) (iblk m c 1 t) (iblk m c 2 t) (iblk m c 3 t) (iblk m c 4 t) (iblk m c 5 t) (ix2 r j)
      = MixOutSpec.hn (sArr m c) (wArr m c) (hArr m c) (mArr m c) (gArr m c) (nArr m c) (ix2 (row t r) j) := by
  frame_out
  exact hn_at m c t r j (fun j => (ld3 _ j).trans (blk3 m c t 5 j)) (fun j => blk4 m c t 0 j) (fun j => (ld5 _ j).trans (blk5 m c t 7 j)) fun j => (ld6 _ j).trans (blk5 m c t 6 j)

end Cert.MixOutIdeal.Hand

end
-- ==== Proof.MixOutArrays.lean ====
module

public import proofs.«01_k».proof.Proof.MixOutBlocks
public import proofs.«01_k».proof.Proof.Reads

@[expose] public section

/-! The second mixer's output product: the three arrays the run leaves. -/

noncomputable section

namespace Cert.MixOutIdeal.Hand

open Cert.MixOutIdeal Cert.MixOutIdeal.Gen Idealize.ShloMosaic TcCoe Idealize.SL.Sem Cert

variable (m : (ℓ : Loc nD τ sig) → Buf (Elt Ideal) ℓ) (c : Dev nD)

attribute [local irreducible] out0_6 out0_7 out0_8

theorem x_arr : (dats m 0 c).arrAt 6 cfg0.N = MixOutSpec.x (sArr m c) (wArr m c) (hArr m c) (mArr m c) := by
  refine (dats m 0 c).arrAt_eq_of_covers 6 _ (by decide +kernel) fun t _ y => ?_
  rw [after0_6]
  obtain ⟨r, k, rfl⟩ := pair y
  rw [emb6]
  exact x_at m c t r k

theorem y_arr : (dats m 0 c).arrAt 7 cfg0.N = MixOutSpec.y (sArr m c) (wArr m c) := by
  refine (dats m 0 c).arrAt_eq_of_covers 7 _ (by decide +kernel) fun t _ y => ?_
  rw [after0_7]
  obtain ⟨r, k, rfl⟩ := pair y
  rw [emb7]
  exact y_at m c t r k

theorem hn_arr : (dats m 0 c).arrAt 8 cfg0.N = MixOutSpec.hn (sArr m c) (wArr m c) (hArr m c) (mArr m c) (gArr m c) (nArr m c) := by
  refine (dats m 0 c).arrAt_eq_of_covers 8 _ (by decide +kernel) fun t _ y => ?_
  rw [after0_8]
  obtain ⟨r, k, rfl⟩ := pair y
  rw [emb8]
  exact hn_out m c t r k

end Cert.MixOutIdeal.Hand

end
-- ==== Proof.MixOutRefValue.lean ====
module

public import proofs.«01_k».proof.Proof.Gen.MixOutRefIdeal.Read
public import proofs.«01_k».proof.Proof.MixOutSpec
public import proofs.«01_k».proof.Proof.Reads

@[expose] public section

/-! The second mixer's output product: what the reference computes. -/

noncomputable section

namespace Cert.MixOutRefIdeal.Hand

open Cert.MixOutRefIdeal Cert.MixOutRefIdeal.Read Idealize.ShloMosaic Cert

variable (s : MixOutSpec.Wide) (w : MixOutSpec.Mat) (h : MixOutSpec.Res) (mods : MixOutSpec.Mods) (g : MixOutSpec.Gain)
  (mn : MixOutSpec.Mods)

theorem prod_eq (n : Fin 16384) (j : Fin 1024) : val_main_v2 (F := Ideal) s w (ix2 n j) = MixOutSpec.prod s w n j := by
  pointwise [val_main_v2, val_main_v1, val_main_v0]
  rfl

theorem resid_eq (n : Fin 16384) (j : Fin 1024) :
    val_main_v6 (F := Ideal) s w h mods (ix2 n j) = MixOutSpec.resid s w h mods n j := by
  pointwise [val_main_v6, val_main_v5, val_main_v4, val_main_v3]
  rw [prod_eq]
  rfl

theorem squares_eq (n : Fin 16384) : val_main_v9 (F := Ideal) s w h mods (ix1 n)
    = ∑ j : Fin 1024, MixOutSpec.resid s w h mods n j * MixOutSpec.resid s w h mods n j := by
  pointwise [val_main_v9, val_main_v8, val_main_cst]
  simp only [resid_eq]

theorem scale_eq (n : Fin 16384) :
    val_main_v15 (F := Ideal) s w h mods (ix2 n 0) = MixOutSpec.scale s w h mods n := by
  pointwise [val_main_v15, val_main_v14, val_main_v13, val_main_cst_1, val_main_v12, val_main_v11, val_main_cst_0,
    val_main_v10]
  rw [squares_eq]
  rfl

theorem x_eq : val_main_v6 (F := Ideal) s w h mods = MixOutSpec.x s w h mods := by
  funext i
  obtain ⟨n, j, rfl⟩ := pair i
  exact resid_eq s w h mods n j

theorem y_eq : val_main_v7 (F := Ideal) s w = MixOutSpec.y s w := by
  funext i
  obtain ⟨n, j, rfl⟩ := pair i
  pointwise [val_main_v7]
  exact prod_eq s w n j

theorem hn_eq : val_main_v28 (F := Ideal) s w h mods g mn = MixOutSpec.hn s w h mods g mn := by
  funext i
  obtain ⟨n, j, rfl⟩ := pair i
  pointwise [val_main_v28, val_main_v27, val_main_v26, val_main_v25, val_main_v24, val_main_v23, val_main_v22,
    val_main_cst_2, val_main_v21, val_main_v20, val_main_v19, val_main_v18, val_main_v17, val_main_v16]
  rw [resid_eq, scale_eq]
  rfl

end Cert.MixOutRefIdeal.Hand

end
-- ==== Proof.MixOutClaim.lean ====
module

public import proofs.«01_k».proof.Defs
public import proofs.«01_k».proof.Proof.Gen.MixOut.Frame
public import proofs.«01_k».proof.Proof.MixOutArrays
public import proofs.«01_k».proof.Proof.MixOutRefValue
public import proofs.«01_k».proof.Proof.Gen.MixOutRefIdeal.Run
public import proofs.«01_k».proof.Proof.Reads

@[expose] public section

/-! The five claims about the second mixer's output product. -/

noncomputable section

namespace Cert.MixOutClaim

open Idealize.ShloMosaic TcCoe Idealize.SL.Sem Cert

theorem frame : Cert.quiescent_MixOut := fun m ρ _ => Cert.MixOut.Gen.frame m ρ

theorem frame_ideal : Cert.quiescent_MixOutIdeal := fun m ρ _ => Cert.MixOutIdeal.Gen.frame m ρ

/-- The reference runs on the host and has no counter. -/
theorem frame_ref : Cert.quiescent_MixOutRefIdeal := fun m ρ _ =>
  (θ_run Cert.MixOutRefIdeal.defs _ _).mono
    (fun r h => ⟨fun c => (h c).2.2.2, sem_eq_zero_of_no_sems (by decide) r.2⟩)
    (Cert.MixOutRefIdeal.Value.run (F := Ideal) m ρ)

theorem preserves : Cert.preserves_MixOut_MixOutIdeal := trivial

section
open Cert.MixOutRefIdeal

variable (m : (ℓ : Loc nD τ sig) → Buf (Elt Ideal) ℓ) (c : Dev nD)

/-- The reference's arguments, as launched. -/
abbrev sRef : MixOutSpec.Wide := m (slot c main_arg0)
abbrev wRef : MixOutSpec.Mat := m (slot c main_arg1)
abbrev hRef : MixOutSpec.Res := m (slot c main_arg2)
abbrev mRef : MixOutSpec.Mods := m (slot c main_arg3)
abbrev gRef : MixOutSpec.Gain := m (slot c main_arg4)
abbrev nRef : MixOutSpec.Mods := m (slot c main_arg5)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v6) = MixOutSpec.x (sRef m c) (wRef m c) (hRef m c) (mRef m c)
      ∧ r.2.mem (slot c main_v7) = MixOutSpec.y (sRef m c) (wRef m c)
      ∧ r.2.mem (slot c main_v28)
        = MixOutSpec.hn (sRef m c) (wRef m c) (hRef m c) (mRef m c) (gRef m c) (nRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5) :=
  (θ_run (defs (F := Ideal)) _ _).mono (fun r h c =>
      ⟨(h c).1.trans ((Read.val_main_v6_eq _ _ _ _).trans (MixOutRefIdeal.Hand.x_eq _ _ _ _)),
       (h c).2.1.trans ((Read.val_main_v7_eq _ _).trans (MixOutRefIdeal.Hand.y_eq _ _)),
       (h c).2.2.1.trans ((Read.val_main_v28_eq _ _ _ _ _ _).trans (MixOutRefIdeal.Hand.hn_eq _ _ _ _ _ _)),
       (h c).2.2.2⟩)
    (Value.run (F := Ideal) m ρ)

end

/-- Equal arguments give equal results. -/
theorem algebraic : Cert.algebraic_MixOutIdeal_MixOutRefIdeal := by
  intro m ρ m' ρ' _ hagree
  refine ⟨fun c => MixOutSpec.x (MixOutIdeal.Hand.sArr m c) (MixOutIdeal.Hand.wArr m c) (MixOutIdeal.Hand.hArr m c) (MixOutIdeal.Hand.mArr m c),
    fun c => MixOutSpec.y (MixOutIdeal.Hand.sArr m c) (MixOutIdeal.Hand.wArr m c),
    fun c => MixOutSpec.hn (MixOutIdeal.Hand.sArr m c) (MixOutIdeal.Hand.wArr m c) (MixOutIdeal.Hand.hArr m c)
      (MixOutIdeal.Hand.mArr m c) (MixOutIdeal.Hand.gArr m c) (MixOutIdeal.Hand.nArr m c),
    (θ_run (MixOutIdeal.defs (F := Ideal)) _ _).mono (fun r h c =>
      ⟨(h c).1.trans (MixOutIdeal.Hand.x_arr m c), (h c).2.1.trans (MixOutIdeal.Hand.y_arr m c),
       (h c).2.2.1.trans (MixOutIdeal.Hand.hn_arr m c), (h c).2.2.2⟩)
      (MixOutIdeal.Value.run_blocks (F := Ideal) m ρ),
    (θ_run (MixOutRefIdeal.defs (F := Ideal)) _ _).mono (fun r h c => ?_) (ref_run m' ρ')⟩
  have h0 : sRef m' c = MixOutIdeal.Hand.sArr m c := (hagree c).1
  have h1 : wRef m' c = MixOutIdeal.Hand.wArr m c := (hagree c).2.1
  have h2 : hRef m' c = MixOutIdeal.Hand.hArr m c := (hagree c).2.2.1
  have h3 : mRef m' c = MixOutIdeal.Hand.mArr m c := (hagree c).2.2.2.1
  have h4 : gRef m' c = MixOutIdeal.Hand.gArr m c := (hagree c).2.2.2.2.1
  have h5 : nRef m' c = MixOutIdeal.Hand.nArr m c := (hagree c).2.2.2.2.2
  have hc := h c
  rw [h0, h1, h2, h3, h4, h5] at hc
  exact hc

end Cert.MixOutClaim

end
-- ==== Proof.WeightAddSpec.lean ====
module

public import proofs.«01_k».proof.Proof.WeightSpec

@[expose] public section

/-! The gradient of a weight in a product, added to another gradient of the same weight. -/

noncomputable section

namespace Cert.WeightSpec

open Idealize.ShloMosaic

/-- An array with the gradient of the weight added. -/
def dwAdd {ka ng : ℕ} (a : (⟨2, ![16384, ka]⟩ : Shape).Idx → EReal) (g : (⟨2, ![16384, ng]⟩ : Shape).Idx → EReal)
    (x : (⟨2, ![ka, ng]⟩ : Shape).Idx → EReal) (i : (⟨2, ![ka, ng]⟩ : Shape).Idx) : EReal :=
  x i + dw a g i

/-- Terms added up point after point, from `z` at each multiple of eight: after the eighth point of a run, `z` and the sum
    over all the rows. -/
theorem total_from {N : ℕ} (f : (n : ℕ) → n < N → EReal) (z : ℕ → EReal) (d : ℕ → ℕ → EReal)
    (h0 : ∀ t : Fin N, t.val % 8 = 0 → f t.val t.isLt
      = z (t.val / 8) + ∑ r : Fin 2048, d (t.val / 8) (2048 * (t.val % 8) + r.val))
    (hs : ∀ t : Fin N, ¬t.val % 8 = 0 → f t.val t.isLt
      = f (t.val - 1) (Nat.lt_of_le_of_lt (Nat.sub_le _ _) t.isLt)
        + ∑ r : Fin 2048, d (t.val / 8) (2048 * (t.val % 8) + r.val))
    (t : Fin N) (h : t.val % 8 = 7) : f t.val t.isLt = z (t.val / 8) + ∑ n ∈ Finset.range 16384, d (t.val / 8) n := by
  rw [← sum_points]
  have := Pipeline.eq_sum_of_reset_step_divmod f 8 0
    (fun j k => (if k = 0 then z j else 0) + ∑ r : Fin 2048, d j (2048 * k + r.val))
    (fun t h => by rw [h0 t h, if_pos h, zero_add]) (fun t h => by rw [hs t h, if_neg h, zero_add]) t
  rw [zero_add, h, Finset.sum_add_distrib, Finset.sum_ite_eq' (Finset.range (7 + 1)) 0, if_pos (by decide)] at this
  exact this

end Cert.WeightSpec

end
-- ==== Proof.DownWAddArrays.lean ====
module

public import proofs.«01_k».proof.Proof.Gen.DownWAddIdeal.Value
public import proofs.«01_k».proof.Proof.WeightAddSpec
public import Idealize.ShloMosaic.Lib.Pipeline.ValueKit
public import proofs.«01_k».proof.Proof.Reads

@[expose] public section

/-! The gradient of the second matrix of the first feed-forward layer, added to that of the context tokens: what a grid point adds, and the array the run leaves. -/

noncomputable section

namespace Cert.DownWAddIdeal.Hand

open Cert.DownWAddIdeal Cert.DownWAddIdeal.Gen Idealize.ShloMosaic TcCoe Idealize.SL.Sem Cert

variable (m : (ℓ : Loc nD τ sig) → Buf (Elt Ideal) ℓ) (c : Dev nD)

/-- The left factor of the product, as launched. -/
abbrev aArr : (⟨2, ![16384, 2816]⟩ : Shape).Idx → EReal := m (slot c main_arg0)
/-- The gradient arriving at the product, as launched. -/
abbrev gArr : (⟨2, ![16384, 1024]⟩ : Shape).Idx → EReal := m (slot c main_arg1)
/-- The array that the gradient is added to, as launched. -/
abbrev xArr : (⟨2, ![2816, 1024]⟩ : Shape).Idx → EReal := m (slot c main_arg2)

theorem t_lt (t : Fin cfg0.N) : t.val < 16 := lt_of_lt_of_eq t.isLt N_0

/-- Row `r` of point `t`'s input blocks, in the whole arrays. -/
def row (t : Fin cfg0.N) (r : Fin 2048) : Fin 16384 := ⟨2048 * (t.val % 8) + r.val, by omega⟩

/-- Row `r` of point `t`'s output block, in the whole output. -/
def outRow (t : Fin cfg0.N) (r : Fin 1408) : Fin 2816 := ⟨1408 * (t.val / 8) + r.val, by have := t_lt t; omega⟩

theorem index0 : ∀ t : Fin grid0.N, win0_0.index t = ![t.val % 8, t.val / 8] := by decide +kernel
theorem index1 : ∀ t : Fin grid0.N, win0_1.index t = ![t.val % 8, 0] := by decide +kernel
theorem index2 : ∀ t : Fin grid0.N, win0_2.index t = ![t.val / 8, 0] := by decide +kernel
theorem index3 : ∀ t : Fin grid0.N, win0_3.index t = ![t.val / 8, 0] := by decide +kernel

theorem blk0 (t : Fin cfg0.N) (n : Fin 2048) (r : Fin 1408) : iblk m c 0 t (ix2 n r) = aArr m c (ix2 (row t n) (outRow t r)) := by
  have := t_lt t
  refine read_at (V_main_arg0 m c) fun a => ?_
  match a with
  | ⟨0, _⟩ => blk_simp [index0]; simp [row]; omega
  | ⟨1, _⟩ => blk_simp [index0]; simp [outRow]; omega

theorem blk1 (t : Fin cfg0.N) (n : Fin 2048) (k : Fin 1024) : iblk m c 1 t (ix2 n k) = gArr m c (ix2 (row t n) (k)) := by
  have := t_lt t
  refine read_at (V_main_arg1 m c) fun a => ?_
  match a with
  | ⟨0, _⟩ => blk_simp [index1]; simp [row]; omega
  | ⟨1, _⟩ => blk_simp [index1]

theorem blk2 (t : Fin cfg0.N) (r : Fin 1408) (k : Fin 1024) : iblk m c 2 t (ix2 r k) = xArr m c (ix2 (outRow t r) (k)) := by
  have := t_lt t
  refine read_at (V_main_arg2 m c) fun a => ?_
  match a with
  | ⟨0, _⟩ => blk_simp [index2]; simp [outRow]; omega
  | ⟨1, _⟩ => blk_simp [index2]

theorem emb3 (t : Fin cfg0.N) (r : Fin 1408) (k : Fin 1024) :
    ((cfg0.win 3).blk t).view.emb (ix2 r k) = ix2 (outRow t r) (k) := by
  refine funext fun a => Fin.ext ?_
  match a with
  | ⟨0, _⟩ => blk_simp [index3]; simp [outRow]; omega
  | ⟨1, _⟩ => blk_simp [index3]

/-- One row's product. -/
theorem row_term (t : Fin cfg0.N) (r : Fin 1408) (k : Fin 1024) (n : Fin 2048) :
    (aArr m c (ix2 (row t n) (outRow t r)) * gArr m c (ix2 (row t n) (k)) : EReal)
      = WeightSpec.term (aArr m c) (gArr m c) (outRow t r) (k) (2048 * (t.val % 8) + n.val) :=
  (WeightSpec.term_val (aArr m c) (gArr m c) (outRow t r) (k) (row t n)).symm

/-- The first point of a run starts from the array that the gradient is added to. -/
theorem out_A (t : Fin cfg0.N) (h0 : t.val % 8 = 0) (r : Fin 1408) (k : Fin 1024) :
    outsAt0 m c t.val t.isLt (ix2 r k)
      = xArr m c (ix2 (outRow t r) (k))
      + ∑ n : Fin 2048, WeightSpec.term (aArr m c) (gArr m c) (outRow t r) (k) (2048 * (t.val % 8) + n.val) := by
  rw [outsAt0_A m c t h0 (by omega)]
  frame_out
  pointwise [k0_pay1]
  rw [blk2 m c t r k, add_comm]
  exact congrArg _ <| WeightSpec.sum_rows fun n => (WeightSpec.mul_eq (blk0 m c t n r) (blk1 m c t n k)).trans (row_term m c t r k n)

/-- Every later point adds its rows. -/
theorem out_B (t : Fin cfg0.N) (h0 : ¬t.val % 8 = 0) (r : Fin 1408) (k : Fin 1024) :
    outsAt0 m c t.val t.isLt (ix2 r k)
      = outsAt0 m c (t.val - 1) (Nat.lt_of_le_of_lt (Nat.sub_le _ _) t.isLt) (ix2 r k)
      + ∑ n : Fin 2048, WeightSpec.term (aArr m c) (gArr m c) (outRow t r) (k) (2048 * (t.val % 8) + n.val) := by
  rw [outsAt0_B m c t h0 (by omega)]
  frame_out
  pointwise [k0_pay2]
  exact congrArg _ (WeightSpec.sum_rows fun n =>
    (WeightSpec.mul_eq (blk0 m c t n r) (blk1 m c t n k)).trans (row_term m c t r k n))

/-- The terms of run `j`, at one place of the output block. -/
def runTerm (r : Fin 1408) (k : Fin 1024) : ℕ → ℕ → EReal :=
  fun j n => if h : 1408 * j + r.val < 2816 then WeightSpec.term (aArr m c) (gArr m c) ⟨1408 * j + r.val, h⟩ k n else 0

theorem runTerm_at (t : Fin cfg0.N) (r : Fin 1408) (k : Fin 1024) (n : ℕ) :
    runTerm m c r k (t.val / 8) n = WeightSpec.term (aArr m c) (gArr m c) (outRow t r) (k) n := by
  have := t_lt t
  unfold runTerm
  rw [dif_pos (by omega)]
  rfl

/-- The array that the gradient is added to, at one place of run `j`'s output block. -/
def start (r : Fin 1408) (k : Fin 1024) : ℕ → EReal :=
  fun j => if h : 1408 * j + r.val < 2816 then xArr m c (ix2 ⟨1408 * j + r.val, h⟩ k) else 0

theorem start_at (t : Fin cfg0.N) (r : Fin 1408) (k : Fin 1024) :
    start m c r k (t.val / 8) = xArr m c (ix2 (outRow t r) (k)) := by
  have := t_lt t
  unfold start
  rw [dif_pos (by omega)]
  rfl

/-- After the last point of a run the block holds the sum. -/
theorem out_last (t : Fin cfg0.N) (h : t.val % 8 = 7) (r : Fin 1408) (k : Fin 1024) :
    outsAt0 m c t.val t.isLt (ix2 r k) = WeightSpec.dwAdd (aArr m c) (gArr m c) (xArr m c) (ix2 (outRow t r) (k)) := by
  refine (WeightSpec.total_from (fun n h => outsAt0 m c n h (ix2 r k)) (start m c r k) (runTerm m c r k)
    (fun t h0 => ?_) (fun t h0 => ?_) t h).trans ?_
  · simp only [runTerm_at, start_at]
    exact out_A m c t h0 r k
  · simp only [runTerm_at]
    exact out_B m c t h0 r k
  · simp only [runTerm_at, start_at]
    rfl

theorem flush_at : ∀ t : Fin grid0.N, (cfg0.win 3).flush t = true → t.val % 8 = 7 := by decide +kernel

theorem dw_arr : (dats m 0 c).arrAt 3 cfg0.N = WeightSpec.dwAdd (aArr m c) (gArr m c) (xArr m c) := by
  refine (dats m 0 c).arrAt_eq_of_covers 3 _ (by decide +kernel) fun t hf y => ?_
  rw [after0_3]
  obtain ⟨r, k, rfl⟩ := pair y
  rw [emb3]
  exact out_last m c t (flush_at t hf) r k

end Cert.DownWAddIdeal.Hand

end
-- ==== Proof.DownWAddClaim.lean ====
module

public import proofs.«01_k».proof.Defs
public import proofs.«01_k».proof.Proof.Gen.DownWAdd.Frame
public import proofs.«01_k».proof.Proof.DownWAddArrays
public import proofs.«01_k».proof.Proof.Gen.DownWAddRefIdeal.Run
public import proofs.«01_k».proof.Proof.Gen.DownWAddRefIdeal.Read
public import proofs.«01_k».proof.Proof.Reads

@[expose] public section

/-! The five claims about the gradient of the second matrix of the first feed-forward layer, added to that of the context tokens. -/

noncomputable section

namespace Cert.DownWAddClaim

open Idealize.ShloMosaic TcCoe Idealize.SL.Sem Cert

theorem frame : Cert.quiescent_DownWAdd := fun m ρ _ => Cert.DownWAdd.Gen.frame m ρ

theorem frame_ideal : Cert.quiescent_DownWAddIdeal := fun m ρ _ => Cert.DownWAddIdeal.Gen.frame m ρ

/-- The reference runs on the host and has no counter. -/
theorem frame_ref : Cert.quiescent_DownWAddRefIdeal := fun m ρ _ =>
  (θ_run Cert.DownWAddRefIdeal.defs _ _).mono
    (fun r h => ⟨fun c => (h c).2, sem_eq_zero_of_no_sems (by decide) r.2⟩)
    (Cert.DownWAddRefIdeal.Value.run (F := Ideal) m ρ)

theorem preserves : Cert.preserves_DownWAdd_DownWAddIdeal := trivial

section
open Cert.DownWAddRefIdeal Cert.DownWAddRefIdeal.Read

/-- What the reference computes. -/
theorem ref_value (a : (⟨2, ![16384, 2816]⟩ : Shape).Idx → EReal) (g : (⟨2, ![16384, 1024]⟩ : Shape).Idx → EReal) :
    val_main_v5 (F := Ideal) a g = WeightSpec.dw a g := by
  funext i
  obtain ⟨p, q, rfl⟩ := pair i
  pointwise [val_main_v5, val_main_v4, val_main_v3, val_main_v1]
  show _ = ∑ n ∈ Finset.range 16384, WeightSpec.term a g p q n
  rw [Finset.sum_range]
  exact Finset.sum_congr rfl fun n _ => (mul_comm _ _).trans (WeightSpec.term_val a g p q n).symm

theorem ref_sum (a : (⟨2, ![16384, 2816]⟩ : Shape).Idx → EReal) (g : (⟨2, ![16384, 1024]⟩ : Shape).Idx → EReal)
    (x : (⟨2, ![2816, 1024]⟩ : Shape).Idx → EReal) : val_main_v6 (F := Ideal) a g x = WeightSpec.dwAdd a g x := by
  funext i
  rw [val_main_v6_apply, ref_value]
  rfl

variable (m : (ℓ : Loc nD τ sig) → Buf (Elt Ideal) ℓ) (c : Dev nD)

/-- The reference's arguments, as launched. -/
abbrev aRef : (⟨2, ![16384, 2816]⟩ : Shape).Idx → EReal := m (slot c main_arg0)
abbrev gRef : (⟨2, ![16384, 1024]⟩ : Shape).Idx → EReal := m (slot c main_arg1)
abbrev xRef : (⟨2, ![2816, 1024]⟩ : Shape).Idx → EReal := m (slot c main_arg2)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v6) = WeightSpec.dwAdd (aRef m c) (gRef m c) (xRef m c)
      ∧ r.2.mem (slot c main_arg0) = m (slot c main_arg0)
      ∧ r.2.mem (slot c main_arg1) = m (slot c main_arg1)
      ∧ r.2.mem (slot c main_arg2) = m (slot c main_arg2) :=
  (θ_run (defs (F := Ideal)) _ _).mono (fun r h c =>
      ⟨(h c).1.trans ((Read.val_main_v6_eq _ _ _).trans (ref_sum _ _ _)), (h c).2⟩)
    (Value.run (F := Ideal) m ρ)

end

/-- The kernel's run, its result named. -/
theorem kernel_run (m : (ℓ : Loc DownWAddIdeal.nD DownWAddIdeal.τ DownWAddIdeal.sig) → Buf (Elt Ideal) ℓ) (ρ : Dev DownWAddIdeal.nD → PrngReg) :
    θ_run (DownWAddIdeal.defs (F := Ideal)) (onTc (τ := DownWAddIdeal.τ) (DownWAddIdeal.main (F := Ideal))) ⟨m, fun _ => 0, ρ⟩ fun r => ∀ c : Dev DownWAddIdeal.nD,
      r.2.mem ((c.tc : Thread DownWAddIdeal.nD DownWAddIdeal.τ).loc DownWAddIdeal.main_v0) = WeightSpec.dwAdd (DownWAddIdeal.Hand.aArr m c) (DownWAddIdeal.Hand.gArr m c) (DownWAddIdeal.Hand.xArr m c)
      ∧ r.2.mem ((c.tc : Thread DownWAddIdeal.nD DownWAddIdeal.τ).loc DownWAddIdeal.main_arg0) = m ((c.tc : Thread DownWAddIdeal.nD DownWAddIdeal.τ).loc DownWAddIdeal.main_arg0)
      ∧ r.2.mem ((c.tc : Thread DownWAddIdeal.nD DownWAddIdeal.τ).loc DownWAddIdeal.main_arg1) = m ((c.tc : Thread DownWAddIdeal.nD DownWAddIdeal.τ).loc DownWAddIdeal.main_arg1)
      ∧ r.2.mem ((c.tc : Thread DownWAddIdeal.nD DownWAddIdeal.τ).loc DownWAddIdeal.main_arg2) = m ((c.tc : Thread DownWAddIdeal.nD DownWAddIdeal.τ).loc DownWAddIdeal.main_arg2) :=
  (θ_run (DownWAddIdeal.defs (F := Ideal)) _ _).mono (fun r h c =>
      ⟨(h c).1.trans (DownWAddIdeal.Hand.dw_arr m c), (h c).2⟩)
    (DownWAddIdeal.Value.run_blocks (F := Ideal) m ρ)

/-- Equal arguments give equal results. -/
theorem algebraic : Cert.algebraic_DownWAddIdeal_DownWAddRefIdeal := by
  intro m ρ m' ρ' _ hagree
  refine ⟨fun c => WeightSpec.dwAdd (DownWAddIdeal.Hand.aArr m c) (DownWAddIdeal.Hand.gArr m c) (DownWAddIdeal.Hand.xArr m c),
    kernel_run m ρ, (θ_run (DownWAddRefIdeal.defs (F := Ideal)) _ _).mono (fun r h c => ?_) (ref_run m' ρ')⟩
  have ha : aRef m' c = DownWAddIdeal.Hand.aArr m c := (hagree c).1
  have hg : gRef m' c = DownWAddIdeal.Hand.gArr m c := (hagree c).2.1
  have hx : xRef m' c = DownWAddIdeal.Hand.xArr m c := (hagree c).2.2
  have hc := h c
  rw [ha, hg, hx] at hc
  exact hc

end Cert.DownWAddClaim

end
-- ==== Proof.UpWAddArrays.lean ====
module

public import proofs.«01_k».proof.Proof.Gen.UpWAddIdeal.Value
public import proofs.«01_k».proof.Proof.WeightAddSpec
public import Idealize.ShloMosaic.Lib.Pipeline.ValueKit
public import proofs.«01_k».proof.Proof.Reads

@[expose] public section

/-! The gradient of half of the first matrix of the first feed-forward layer, added to that of the context tokens: what a grid point adds, and the array the run leaves. -/

noncomputable section

namespace Cert.UpWAddIdeal.Hand

open Cert.UpWAddIdeal Cert.UpWAddIdeal.Gen Idealize.ShloMosaic TcCoe Idealize.SL.Sem Cert

variable (m : (ℓ : Loc nD τ sig) → Buf (Elt Ideal) ℓ) (c : Dev nD)

/-- The left factor of the product, as launched. -/
abbrev aArr : (⟨2, ![16384, 1024]⟩ : Shape).Idx → EReal := m (slot c main_arg0)
/-- The gradient arriving at the product, as launched. -/
abbrev gArr : (⟨2, ![16384, 2816]⟩ : Shape).Idx → EReal := m (slot c main_arg1)
/-- The array that the gradient is added to, as launched. -/
abbrev xArr : (⟨2, ![1024, 2816]⟩ : Shape).Idx → EReal := m (slot c main_arg2)

theorem t_lt (t : Fin cfg0.N) : t.val < 16 := lt_of_lt_of_eq t.isLt N_0

/-- Row `r` of point `t`'s input blocks, in the whole arrays. -/
def row (t : Fin cfg0.N) (r : Fin 2048) : Fin 16384 := ⟨2048 * (t.val % 8) + r.val, by omega⟩

/-- Column `k` of point `t`'s output block, in the whole output. -/
def outCol (t : Fin cfg0.N) (k : Fin 1408) : Fin 2816 := ⟨1408 * (t.val / 8) + k.val, by have := t_lt t; omega⟩

theorem index0 : ∀ t : Fin grid0.N, win0_0.index t = ![t.val % 8, 0] := by decide +kernel
theorem index1 : ∀ t : Fin grid0.N, win0_1.index t = ![t.val % 8, t.val / 8] := by decide +kernel
theorem index2 : ∀ t : Fin grid0.N, win0_2.index t = ![0, t.val / 8] := by decide +kernel
theorem index3 : ∀ t : Fin grid0.N, win0_3.index t = ![0, t.val / 8] := by decide +kernel

theorem blk0 (t : Fin cfg0.N) (n : Fin 2048) (r : Fin 1024) : iblk m c 0 t (ix2 n r) = aArr m c (ix2 (row t n) (r)) := by
  have := t_lt t
  refine read_at (V_main_arg0 m c) fun a => ?_
  match a with
  | ⟨0, _⟩ => blk_simp [index0]; simp [row]; omega
  | ⟨1, _⟩ => blk_simp [index0]

theorem blk1 (t : Fin cfg0.N) (n : Fin 2048) (k : Fin 1408) : iblk m c 1 t (ix2 n k) = gArr m c (ix2 (row t n) (outCol t k)) := by
  have := t_lt t
  refine read_at (V_main_arg1 m c) fun a => ?_
  match a with
  | ⟨0, _⟩ => blk_simp [index1]; simp [row]; omega
  | ⟨1, _⟩ => blk_simp [index1]; simp [outCol]; omega

theorem blk2 (t : Fin cfg0.N) (r : Fin 1024) (k : Fin 1408) : iblk m c 2 t (ix2 r k) = xArr m c (ix2 (r) (outCol t k)) := by
  have := t_lt t
  refine read_at (V_main_arg2 m c) fun a => ?_
  match a with
  | ⟨0, _⟩ => blk_simp [index2]
  | ⟨1, _⟩ => blk_simp [index2]; simp [outCol]; omega

theorem emb3 (t : Fin cfg0.N) (r : Fin 1024) (k : Fin 1408) :
    ((cfg0.win 3).blk t).view.emb (ix2 r k) = ix2 (r) (outCol t k) := by
  refine funext fun a => Fin.ext ?_
  match a with
  | ⟨0, _⟩ => blk_simp [index3]
  | ⟨1, _⟩ => blk_simp [index3]; simp [outCol]; omega

/-- One row's product. -/
theorem row_term (t : Fin cfg0.N) (r : Fin 1024) (k : Fin 1408) (n : Fin 2048) :
    (aArr m c (ix2 (row t n) (r)) * gArr m c (ix2 (row t n) (outCol t k)) : EReal)
      = WeightSpec.term (aArr m c) (gArr m c) (r) (outCol t k) (2048 * (t.val % 8) + n.val) :=
  (WeightSpec.term_val (aArr m c) (gArr m c) (r) (outCol t k) (row t n)).symm

/-- The first point of a run starts from the array that the gradient is added to. -/
theorem out_A (t : Fin cfg0.N) (h0 : t.val % 8 = 0) (r : Fin 1024) (k : Fin 1408) :
    outsAt0 m c t.val t.isLt (ix2 r k)
      = xArr m c (ix2 (r) (outCol t k))
      + ∑ n : Fin 2048, WeightSpec.term (aArr m c) (gArr m c) (r) (outCol t k) (2048 * (t.val % 8) + n.val) := by
  rw [outsAt0_A m c t h0 (by omega)]
  frame_out
  pointwise [k0_pay1]
  rw [blk2 m c t r k, add_comm]
  exact congrArg _ <| WeightSpec.sum_rows fun n => (WeightSpec.mul_eq (blk0 m c t n r) (blk1 m c t n k)).trans (row_term m c t r k n)

/-- Every later point adds its rows. -/
theorem out_B (t : Fin cfg0.N) (h0 : ¬t.val % 8 = 0) (r : Fin 1024) (k : Fin 1408) :
    outsAt0 m c t.val t.isLt (ix2 r k)
      = outsAt0 m c (t.val - 1) (Nat.lt_of_le_of_lt (Nat.sub_le _ _) t.isLt) (ix2 r k)
      + ∑ n : Fin 2048, WeightSpec.term (aArr m c) (gArr m c) (r) (outCol t k) (2048 * (t.val % 8) + n.val) := by
  rw [outsAt0_B m c t h0 (by omega)]
  frame_out
  pointwise [k0_pay2]
  exact congrArg _ (WeightSpec.sum_rows fun n =>
    (WeightSpec.mul_eq (blk0 m c t n r) (blk1 m c t n k)).trans (row_term m c t r k n))

/-- The terms of run `j`, at one place of the output block. -/
def runTerm (r : Fin 1024) (k : Fin 1408) : ℕ → ℕ → EReal :=
  fun j n => if h : 1408 * j + k.val < 2816 then WeightSpec.term (aArr m c) (gArr m c) r ⟨1408 * j + k.val, h⟩ n else 0

theorem runTerm_at (t : Fin cfg0.N) (r : Fin 1024) (k : Fin 1408) (n : ℕ) :
    runTerm m c r k (t.val / 8) n = WeightSpec.term (aArr m c) (gArr m c) (r) (outCol t k) n := by
  have := t_lt t
  unfold runTerm
  rw [dif_pos (by omega)]
  rfl

/-- The array that the gradient is added to, at one place of run `j`'s output block. -/
def start (r : Fin 1024) (k : Fin 1408) : ℕ → EReal :=
  fun j => if h : 1408 * j + k.val < 2816 then xArr m c (ix2 r ⟨1408 * j + k.val, h⟩) else 0

theorem start_at (t : Fin cfg0.N) (r : Fin 1024) (k : Fin 1408) :
    start m c r k (t.val / 8) = xArr m c (ix2 (r) (outCol t k)) := by
  have := t_lt t
  unfold start
  rw [dif_pos (by omega)]
  rfl

/-- After the last point of a run the block holds the sum. -/
theorem out_last (t : Fin cfg0.N) (h : t.val % 8 = 7) (r : Fin 1024) (k : Fin 1408) :
    outsAt0 m c t.val t.isLt (ix2 r k) = WeightSpec.dwAdd (aArr m c) (gArr m c) (xArr m c) (ix2 (r) (outCol t k)) := by
  refine (WeightSpec.total_from (fun n h => outsAt0 m c n h (ix2 r k)) (start m c r k) (runTerm m c r k)
    (fun t h0 => ?_) (fun t h0 => ?_) t h).trans ?_
  · simp only [runTerm_at, start_at]
    exact out_A m c t h0 r k
  · simp only [runTerm_at]
    exact out_B m c t h0 r k
  · simp only [runTerm_at, start_at]
    rfl

theorem flush_at : ∀ t : Fin grid0.N, (cfg0.win 3).flush t = true → t.val % 8 = 7 := by decide +kernel

theorem dw_arr : (dats m 0 c).arrAt 3 cfg0.N = WeightSpec.dwAdd (aArr m c) (gArr m c) (xArr m c) := by
  refine (dats m 0 c).arrAt_eq_of_covers 3 _ (by decide +kernel) fun t hf y => ?_
  rw [after0_3]
  obtain ⟨r, k, rfl⟩ := pair y
  rw [emb3]
  exact out_last m c t (flush_at t hf) r k

end Cert.UpWAddIdeal.Hand

end
-- ==== Proof.UpWAddClaim.lean ====
module

public import proofs.«01_k».proof.Defs
public import proofs.«01_k».proof.Proof.Gen.UpWAdd.Frame
public import proofs.«01_k».proof.Proof.UpWAddArrays
public import proofs.«01_k».proof.Proof.Gen.UpWAddRefIdeal.Run
public import proofs.«01_k».proof.Proof.Gen.UpWAddRefIdeal.Read
public import proofs.«01_k».proof.Proof.Reads

@[expose] public section

/-! The five claims about the gradient of half of the first matrix of the first feed-forward layer, added to that of the context tokens. -/

noncomputable section

namespace Cert.UpWAddClaim

open Idealize.ShloMosaic TcCoe Idealize.SL.Sem Cert

theorem frame : Cert.quiescent_UpWAdd := fun m ρ _ => Cert.UpWAdd.Gen.frame m ρ

theorem frame_ideal : Cert.quiescent_UpWAddIdeal := fun m ρ _ => Cert.UpWAddIdeal.Gen.frame m ρ

/-- The reference runs on the host and has no counter. -/
theorem frame_ref : Cert.quiescent_UpWAddRefIdeal := fun m ρ _ =>
  (θ_run Cert.UpWAddRefIdeal.defs _ _).mono
    (fun r h => ⟨fun c => (h c).2, sem_eq_zero_of_no_sems (by decide) r.2⟩)
    (Cert.UpWAddRefIdeal.Value.run (F := Ideal) m ρ)

theorem preserves : Cert.preserves_UpWAdd_UpWAddIdeal := trivial

section
open Cert.UpWAddRefIdeal Cert.UpWAddRefIdeal.Read

/-- What the reference computes. -/
theorem ref_value (a : (⟨2, ![16384, 1024]⟩ : Shape).Idx → EReal) (g : (⟨2, ![16384, 2816]⟩ : Shape).Idx → EReal) :
    val_main_v5 (F := Ideal) a g = WeightSpec.dw a g := by
  funext i
  obtain ⟨p, q, rfl⟩ := pair i
  pointwise [val_main_v5, val_main_v4, val_main_v3, val_main_v1]
  show _ = ∑ n ∈ Finset.range 16384, WeightSpec.term a g p q n
  rw [Finset.sum_range]
  exact Finset.sum_congr rfl fun n _ => (mul_comm _ _).trans (WeightSpec.term_val a g p q n).symm

theorem ref_sum (a : (⟨2, ![16384, 1024]⟩ : Shape).Idx → EReal) (g : (⟨2, ![16384, 2816]⟩ : Shape).Idx → EReal)
    (x : (⟨2, ![1024, 2816]⟩ : Shape).Idx → EReal) : val_main_v6 (F := Ideal) a g x = WeightSpec.dwAdd a g x := by
  funext i
  rw [val_main_v6_apply, ref_value]
  rfl

variable (m : (ℓ : Loc nD τ sig) → Buf (Elt Ideal) ℓ) (c : Dev nD)

/-- The reference's arguments, as launched. -/
abbrev aRef : (⟨2, ![16384, 1024]⟩ : Shape).Idx → EReal := m (slot c main_arg0)
abbrev gRef : (⟨2, ![16384, 2816]⟩ : Shape).Idx → EReal := m (slot c main_arg1)
abbrev xRef : (⟨2, ![1024, 2816]⟩ : Shape).Idx → EReal := m (slot c main_arg2)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v6) = WeightSpec.dwAdd (aRef m c) (gRef m c) (xRef m c)
      ∧ r.2.mem (slot c main_arg0) = m (slot c main_arg0)
      ∧ r.2.mem (slot c main_arg1) = m (slot c main_arg1)
      ∧ r.2.mem (slot c main_arg2) = m (slot c main_arg2) :=
  (θ_run (defs (F := Ideal)) _ _).mono (fun r h c =>
      ⟨(h c).1.trans ((Read.val_main_v6_eq _ _ _).trans (ref_sum _ _ _)), (h c).2⟩)
    (Value.run (F := Ideal) m ρ)

end

/-- The kernel's run, its result named. -/
theorem kernel_run (m : (ℓ : Loc UpWAddIdeal.nD UpWAddIdeal.τ UpWAddIdeal.sig) → Buf (Elt Ideal) ℓ) (ρ : Dev UpWAddIdeal.nD → PrngReg) :
    θ_run (UpWAddIdeal.defs (F := Ideal)) (onTc (τ := UpWAddIdeal.τ) (UpWAddIdeal.main (F := Ideal))) ⟨m, fun _ => 0, ρ⟩ fun r => ∀ c : Dev UpWAddIdeal.nD,
      r.2.mem ((c.tc : Thread UpWAddIdeal.nD UpWAddIdeal.τ).loc UpWAddIdeal.main_v0) = WeightSpec.dwAdd (UpWAddIdeal.Hand.aArr m c) (UpWAddIdeal.Hand.gArr m c) (UpWAddIdeal.Hand.xArr m c)
      ∧ r.2.mem ((c.tc : Thread UpWAddIdeal.nD UpWAddIdeal.τ).loc UpWAddIdeal.main_arg0) = m ((c.tc : Thread UpWAddIdeal.nD UpWAddIdeal.τ).loc UpWAddIdeal.main_arg0)
      ∧ r.2.mem ((c.tc : Thread UpWAddIdeal.nD UpWAddIdeal.τ).loc UpWAddIdeal.main_arg1) = m ((c.tc : Thread UpWAddIdeal.nD UpWAddIdeal.τ).loc UpWAddIdeal.main_arg1)
      ∧ r.2.mem ((c.tc : Thread UpWAddIdeal.nD UpWAddIdeal.τ).loc UpWAddIdeal.main_arg2) = m ((c.tc : Thread UpWAddIdeal.nD UpWAddIdeal.τ).loc UpWAddIdeal.main_arg2) :=
  (θ_run (UpWAddIdeal.defs (F := Ideal)) _ _).mono (fun r h c =>
      ⟨(h c).1.trans (UpWAddIdeal.Hand.dw_arr m c), (h c).2⟩)
    (UpWAddIdeal.Value.run_blocks (F := Ideal) m ρ)

/-- Equal arguments give equal results. -/
theorem algebraic : Cert.algebraic_UpWAddIdeal_UpWAddRefIdeal := by
  intro m ρ m' ρ' _ hagree
  refine ⟨fun c => WeightSpec.dwAdd (UpWAddIdeal.Hand.aArr m c) (UpWAddIdeal.Hand.gArr m c) (UpWAddIdeal.Hand.xArr m c),
    kernel_run m ρ, (θ_run (UpWAddRefIdeal.defs (F := Ideal)) _ _).mono (fun r h c => ?_) (ref_run m' ρ')⟩
  have ha : aRef m' c = UpWAddIdeal.Hand.aArr m c := (hagree c).1
  have hg : gRef m' c = UpWAddIdeal.Hand.gArr m c := (hagree c).2.1
  have hx : xRef m' c = UpWAddIdeal.Hand.xArr m c := (hagree c).2.2
  have hc := h c
  rw [ha, hg, hx] at hc
  exact hc

end Cert.UpWAddClaim

end
-- ==== Proof.MixInAClaim.lean ====
module

public import proofs.«01_k».proof.Defs
public import proofs.«01_k».proof.Proof.Gen.MixInA.Frame
public import proofs.«01_k».proof.Proof.Gen.MixInAIdeal.Value
public import proofs.«01_k».proof.Proof.Gen.MixInARefIdeal.Run
public import proofs.«01_k».proof.Proof.Gen.MixInARefIdeal.Read
public import Idealize.ShloMosaic.Lib.Pipeline.ValueKit
public import proofs.«01_k».proof.Proof.Reads

@[expose] public section

/-! The attention layer's first projection: what the run leaves, what the reference computes, and the five claims. -/

noncomputable section

namespace Cert.MixInASpec

open Idealize.ShloMosaic

abbrev In := (⟨2, ![16384, 1024]⟩ : Shape).Idx → EReal
abbrev Mat := (⟨2, ![1024, 2048]⟩ : Shape).Idx → EReal
abbrev Out := (⟨2, ![16384, 2048]⟩ : Shape).Idx → EReal

/-- The product. -/
def prod (x : In) (w : Mat) (n : Fin 16384) (j : Fin 2048) : EReal := ∑ l : Fin 1024, x (ix2 n l) * w (ix2 l j)

def y (x : In) (w : Mat) : Out := fun i => prod x w (i 0) (i 1)

end Cert.MixInASpec

namespace Cert.MixInAIdeal.Hand

open Cert.MixInAIdeal Cert.MixInAIdeal.Gen Idealize.ShloMosaic TcCoe Idealize.SL.Sem Cert

variable (m : (ℓ : Loc nD τ sig) → Buf (Elt Ideal) ℓ) (c : Dev nD)

/-- The arguments, as launched. -/
abbrev xArr : MixInASpec.In := m (slot c main_arg0)
abbrev wArr : MixInASpec.Mat := m (slot c main_arg1)

theorem t_lt (t : Fin cfg0.N) : t.val < 32 := lt_of_lt_of_eq t.isLt N_0

/-- Row `r` of point `t`'s blocks, in the whole arrays. -/
def row (t : Fin cfg0.N) (r : Fin 1024) : Fin 16384 := ⟨1024 * (t.val % 16) + r.val, by have := t_lt t; omega⟩
/-- Column `k` of point `t`'s output block, in the whole output. -/
def col (t : Fin cfg0.N) (k : Fin 1024) : Fin 2048 := ⟨1024 * (t.val / 16) + k.val, by have := t_lt t; omega⟩

theorem index0 : ∀ t : Fin grid0.N, win0_0.index t = ![t.val % 16, 0] := by decide +kernel
theorem index1 : ∀ t : Fin grid0.N, win0_1.index t = ![0, t.val / 16] := by decide +kernel
theorem index2 : ∀ t : Fin grid0.N, win0_2.index t = ![t.val % 16, t.val / 16] := by decide +kernel

theorem blk0 (t : Fin cfg0.N) (r : Fin 1024) (l : Fin 1024) : iblk m c 0 t (ix2 r l) = xArr m c (ix2 (row t r) l) := by
  have := t_lt t
  refine read_at (V_main_arg0 m c) fun a => ?_
  match a with
  | ⟨0, _⟩ => blk_simp [index0]; simp [row]; omega
  | ⟨1, _⟩ => blk_simp [index0]

theorem blk1 (t : Fin cfg0.N) (l : Fin 1024) (k : Fin 1024) : iblk m c 1 t (ix2 l k) = wArr m c (ix2 l (col t k)) := by
  have := t_lt t
  refine read_at (V_main_arg1 m c) fun a => ?_
  match a with
  | ⟨0, _⟩ => blk_simp [index1]
  | ⟨1, _⟩ => blk_simp [index1]; simp [col]; omega

theorem emb2 (t : Fin cfg0.N) (r : Fin 1024) (k : Fin 1024) :
    ((cfg0.win 2).blk t).view.emb (ix2 r k) = ix2 (row t r) (col t k) := by
  have := t_lt t
  refine funext fun a => Fin.ext ?_
  match a with
  | ⟨0, _⟩ => blk_simp [index2]; simp [row]; omega
  | ⟨1, _⟩ => blk_simp [index2]; simp [col]; omega

theorem y_at (t : Fin cfg0.N) (r : Fin 1024) (k : Fin 1024) :
    out0_2 (F := Ideal) (iblk m c 0 t) (iblk m c 1 t) (ix2 r k)
      = MixInASpec.y (xArr m c) (wArr m c) (ix2 (row t r) (col t k)) := by
  frame_out
  pointwise [k0_pay1]
  unfold MixInASpec.y
  refine Finset.sum_congr rfl fun l _ => ?_
  exact congrArg₂ (· * ·) (blk0 m c t r l) (blk1 m c t l k)

attribute [local irreducible] out0_2

theorem y_arr : (dats m 0 c).arrAt 2 cfg0.N = MixInASpec.y (xArr m c) (wArr m c) := by
  refine (dats m 0 c).arrAt_eq_of_covers 2 _ (by decide +kernel) fun t _ y => ?_
  rw [after0_2]
  obtain ⟨r, k, rfl⟩ := pair y
  rw [emb2]
  exact y_at m c t r k

end Cert.MixInAIdeal.Hand

namespace Cert.MixInAClaim

open Idealize.ShloMosaic TcCoe Idealize.SL.Sem Cert

theorem frame : Cert.quiescent_MixInA := fun m ρ _ => Cert.MixInA.Gen.frame m ρ

theorem frame_ideal : Cert.quiescent_MixInAIdeal := fun m ρ _ => Cert.MixInAIdeal.Gen.frame m ρ

/-- The reference runs on the host and has no counter. -/
theorem frame_ref : Cert.quiescent_MixInARefIdeal := fun m ρ _ =>
  (θ_run Cert.MixInARefIdeal.defs _ _).mono
    (fun r h => ⟨fun c => (h c).2, sem_eq_zero_of_no_sems (by decide) r.2⟩)
    (Cert.MixInARefIdeal.Value.run (F := Ideal) m ρ)

theorem preserves : Cert.preserves_MixInA_MixInAIdeal := trivial

section
open Cert.MixInARefIdeal Cert.MixInARefIdeal.Read

/-- What the reference computes. -/
theorem ref_value (x : MixInASpec.In) (w : MixInASpec.Mat) : val_main_v3 (F := Ideal) x w = MixInASpec.y x w := by
  funext i
  obtain ⟨p, q, rfl⟩ := pair i
  pointwise [val_main_v3, val_main_v2, val_main_v1, val_main_v0]
  rfl

variable (m : (ℓ : Loc nD τ sig) → Buf (Elt Ideal) ℓ) (c : Dev nD)

/-- The reference's arguments, as launched. -/
abbrev xRef : MixInASpec.In := m (slot c main_arg0)
abbrev wRef : MixInASpec.Mat := m (slot c main_arg1)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v3) = MixInASpec.y (xRef m c) (wRef m c)
      ∧ r.2.mem (slot c main_arg0) = m (slot c main_arg0)
      ∧ r.2.mem (slot c main_arg1) = m (slot c main_arg1) :=
  (θ_run (defs (F := Ideal)) _ _).mono (fun r h c =>
      ⟨(h c).1.trans ((Read.val_main_v3_eq _ _).trans (ref_value _ _)), (h c).2⟩)
    (Value.run (F := Ideal) m ρ)

end

/-- Equal arguments give equal results. -/
theorem algebraic : Cert.algebraic_MixInAIdeal_MixInARefIdeal := by
  intro m ρ m' ρ' _ hagree
  refine ⟨fun c => MixInASpec.y (MixInAIdeal.Hand.xArr m c) (MixInAIdeal.Hand.wArr m c),
    (θ_run (MixInAIdeal.defs (F := Ideal)) _ _).mono (fun r h c => ⟨(h c).1.trans (MixInAIdeal.Hand.y_arr m c), (h c).2⟩)
      (MixInAIdeal.Value.run_blocks (F := Ideal) m ρ),
    (θ_run (MixInARefIdeal.defs (F := Ideal)) _ _).mono (fun r h c => ?_) (ref_run m' ρ')⟩
  have hx : xRef m' c = MixInAIdeal.Hand.xArr m c := (hagree c).1
  have hw : wRef m' c = MixInAIdeal.Hand.wArr m c := (hagree c).2
  have hc := h c
  rw [hx, hw] at hc
  exact hc

end Cert.MixInAClaim

end
-- ==== Proof.MixInBClaim.lean ====
module

public import proofs.«01_k».proof.Defs
public import proofs.«01_k».proof.Proof.Gen.MixInB.Frame
public import proofs.«01_k».proof.Proof.Gen.MixInBIdeal.Value
public import proofs.«01_k».proof.Proof.Gen.MixInBRefIdeal.Run
public import proofs.«01_k».proof.Proof.Gen.MixInBRefIdeal.Read
public import Idealize.ShloMosaic.Lib.Pipeline.ValueKit
public import proofs.«01_k».proof.Proof.Reads

@[expose] public section

/-! The convolution layer's first projection: what the run leaves, what the reference computes, and the five claims. -/

noncomputable section

namespace Cert.MixInBSpec

open Idealize.ShloMosaic

abbrev In := (⟨2, ![16384, 1024]⟩ : Shape).Idx → EReal
abbrev Mat := (⟨2, ![1024, 3072]⟩ : Shape).Idx → EReal
abbrev Out := (⟨2, ![16384, 3072]⟩ : Shape).Idx → EReal

/-- The product. -/
def prod (x : In) (w : Mat) (n : Fin 16384) (j : Fin 3072) : EReal := ∑ l : Fin 1024, x (ix2 n l) * w (ix2 l j)

def y (x : In) (w : Mat) : Out := fun i => prod x w (i 0) (i 1)

end Cert.MixInBSpec

namespace Cert.MixInBIdeal.Hand

open Cert.MixInBIdeal Cert.MixInBIdeal.Gen Idealize.ShloMosaic TcCoe Idealize.SL.Sem Cert

variable (m : (ℓ : Loc nD τ sig) → Buf (Elt Ideal) ℓ) (c : Dev nD)

/-- The arguments, as launched. -/
abbrev xArr : MixInBSpec.In := m (slot c main_arg0)
abbrev wArr : MixInBSpec.Mat := m (slot c main_arg1)

theorem t_lt (t : Fin cfg0.N) : t.val < 48 := lt_of_lt_of_eq t.isLt N_0

/-- Row `r` of point `t`'s blocks, in the whole arrays. -/
def row (t : Fin cfg0.N) (r : Fin 1024) : Fin 16384 := ⟨1024 * (t.val % 16) + r.val, by have := t_lt t; omega⟩
/-- Column `k` of point `t`'s output block, in the whole output. -/
def col (t : Fin cfg0.N) (k : Fin 1024) : Fin 3072 := ⟨1024 * (t.val / 16) + k.val, by have := t_lt t; omega⟩

theorem index0 : ∀ t : Fin grid0.N, win0_0.index t = ![t.val % 16, 0] := by decide +kernel
theorem index1 : ∀ t : Fin grid0.N, win0_1.index t = ![0, t.val / 16] := by decide +kernel
theorem index2 : ∀ t : Fin grid0.N, win0_2.index t = ![t.val % 16, t.val / 16] := by decide +kernel

theorem blk0 (t : Fin cfg0.N) (r : Fin 1024) (l : Fin 1024) : iblk m c 0 t (ix2 r l) = xArr m c (ix2 (row t r) l) := by
  have := t_lt t
  refine read_at (V_main_arg0 m c) fun a => ?_
  match a with
  | ⟨0, _⟩ => blk_simp [index0]; simp [row]; omega
  | ⟨1, _⟩ => blk_simp [index0]

theorem blk1 (t : Fin cfg0.N) (l : Fin 1024) (k : Fin 1024) : iblk m c 1 t (ix2 l k) = wArr m c (ix2 l (col t k)) := by
  have := t_lt t
  refine read_at (V_main_arg1 m c) fun a => ?_
  match a with
  | ⟨0, _⟩ => blk_simp [index1]
  | ⟨1, _⟩ => blk_simp [index1]; simp [col]; omega

theorem emb2 (t : Fin cfg0.N) (r : Fin 1024) (k : Fin 1024) :
    ((cfg0.win 2).blk t).view.emb (ix2 r k) = ix2 (row t r) (col t k) := by
  have := t_lt t
  refine funext fun a => Fin.ext ?_
  match a with
  | ⟨0, _⟩ => blk_simp [index2]; simp [row]; omega
  | ⟨1, _⟩ => blk_simp [index2]; simp [col]; omega

theorem y_at (t : Fin cfg0.N) (r : Fin 1024) (k : Fin 1024) :
    out0_2 (F := Ideal) (iblk m c 0 t) (iblk m c 1 t) (ix2 r k)
      = MixInBSpec.y (xArr m c) (wArr m c) (ix2 (row t r) (col t k)) := by
  frame_out
  pointwise [k0_pay1]
  unfold MixInBSpec.y
  refine Finset.sum_congr rfl fun l _ => ?_
  exact congrArg₂ (· * ·) (blk0 m c t r l) (blk1 m c t l k)

attribute [local irreducible] out0_2

theorem y_arr : (dats m 0 c).arrAt 2 cfg0.N = MixInBSpec.y (xArr m c) (wArr m c) := by
  refine (dats m 0 c).arrAt_eq_of_covers 2 _ (by decide +kernel) fun t _ y => ?_
  rw [after0_2]
  obtain ⟨r, k, rfl⟩ := pair y
  rw [emb2]
  exact y_at m c t r k

end Cert.MixInBIdeal.Hand

namespace Cert.MixInBClaim

open Idealize.ShloMosaic TcCoe Idealize.SL.Sem Cert

theorem frame : Cert.quiescent_MixInB := fun m ρ _ => Cert.MixInB.Gen.frame m ρ

theorem frame_ideal : Cert.quiescent_MixInBIdeal := fun m ρ _ => Cert.MixInBIdeal.Gen.frame m ρ

/-- The reference runs on the host and has no counter. -/
theorem frame_ref : Cert.quiescent_MixInBRefIdeal := fun m ρ _ =>
  (θ_run Cert.MixInBRefIdeal.defs _ _).mono
    (fun r h => ⟨fun c => (h c).2, sem_eq_zero_of_no_sems (by decide) r.2⟩)
    (Cert.MixInBRefIdeal.Value.run (F := Ideal) m ρ)

theorem preserves : Cert.preserves_MixInB_MixInBIdeal := trivial

section
open Cert.MixInBRefIdeal Cert.MixInBRefIdeal.Read

/-- What the reference computes. -/
theorem ref_value (x : MixInBSpec.In) (w : MixInBSpec.Mat) : val_main_v3 (F := Ideal) x w = MixInBSpec.y x w := by
  funext i
  obtain ⟨p, q, rfl⟩ := pair i
  pointwise [val_main_v3, val_main_v2, val_main_v1, val_main_v0]
  rfl

variable (m : (ℓ : Loc nD τ sig) → Buf (Elt Ideal) ℓ) (c : Dev nD)

/-- The reference's arguments, as launched. -/
abbrev xRef : MixInBSpec.In := m (slot c main_arg0)
abbrev wRef : MixInBSpec.Mat := m (slot c main_arg1)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v3) = MixInBSpec.y (xRef m c) (wRef m c)
      ∧ r.2.mem (slot c main_arg0) = m (slot c main_arg0)
      ∧ r.2.mem (slot c main_arg1) = m (slot c main_arg1) :=
  (θ_run (defs (F := Ideal)) _ _).mono (fun r h c =>
      ⟨(h c).1.trans ((Read.val_main_v3_eq _ _).trans (ref_value _ _)), (h c).2⟩)
    (Value.run (F := Ideal) m ρ)

end

/-- Equal arguments give equal results. -/
theorem algebraic : Cert.algebraic_MixInBIdeal_MixInBRefIdeal := by
  intro m ρ m' ρ' _ hagree
  refine ⟨fun c => MixInBSpec.y (MixInBIdeal.Hand.xArr m c) (MixInBIdeal.Hand.wArr m c),
    (θ_run (MixInBIdeal.defs (F := Ideal)) _ _).mono (fun r h c => ⟨(h c).1.trans (MixInBIdeal.Hand.y_arr m c), (h c).2⟩)
      (MixInBIdeal.Value.run_blocks (F := Ideal) m ρ),
    (θ_run (MixInBRefIdeal.defs (F := Ideal)) _ _).mono (fun r h c => ?_) (ref_run m' ρ')⟩
  have hx : xRef m' c = MixInBIdeal.Hand.xArr m c := (hagree c).1
  have hw : wRef m' c = MixInBIdeal.Hand.wArr m c := (hagree c).2
  have hc := h c
  rw [hx, hw] at hc
  exact hc

end Cert.MixInBClaim

end
-- ==== Proof.MixMidClaim.lean ====
module

public import proofs.«01_k».proof.Defs
public import proofs.«01_k».proof.Proof.Gen.MixMid.Frame
public import proofs.«01_k».proof.Proof.Gen.MixMidIdeal.Value
public import proofs.«01_k».proof.Proof.Gen.MixMidRefIdeal.Run
public import proofs.«01_k».proof.Proof.Gen.MixMidRefIdeal.Read
public import Idealize.ShloMosaic.Lib.Pipeline.ValueKit
public import proofs.«01_k».proof.Proof.Reads

@[expose] public section

/-! The gradient arriving at a mixer's own output: what the run leaves, what the reference computes, and the five claims. -/

noncomputable section

namespace Cert.MixMidSpec

open Idealize.ShloMosaic

abbrev In := (⟨2, ![16384, 1024]⟩ : Shape).Idx → EReal
abbrev Mat := (⟨2, ![1024, 1024]⟩ : Shape).Idx → EReal
abbrev Out := (⟨2, ![16384, 1024]⟩ : Shape).Idx → EReal

/-- The product. -/
def prod (x : In) (w : Mat) (n : Fin 16384) (j : Fin 1024) : EReal := ∑ l : Fin 1024, x (ix2 n l) * w (ix2 j l)

def y (x : In) (w : Mat) : Out := fun i => prod x w (i 0) (i 1)

end Cert.MixMidSpec

namespace Cert.MixMidIdeal.Hand

open Cert.MixMidIdeal Cert.MixMidIdeal.Gen Idealize.ShloMosaic TcCoe Idealize.SL.Sem Cert

variable (m : (ℓ : Loc nD τ sig) → Buf (Elt Ideal) ℓ) (c : Dev nD)

/-- The arguments, as launched. -/
abbrev xArr : MixMidSpec.In := m (slot c main_arg0)
abbrev wArr : MixMidSpec.Mat := m (slot c main_arg1)

theorem t_lt (t : Fin cfg0.N) : t.val < 16 := lt_of_lt_of_eq t.isLt N_0

/-- Row `r` of point `t`'s blocks, in the whole arrays. -/
def row (t : Fin cfg0.N) (r : Fin 1024) : Fin 16384 := ⟨1024 * (t.val) + r.val, by have := t_lt t; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem blk0 (t : Fin cfg0.N) (r : Fin 1024) (l : Fin 1024) : iblk m c 0 t (ix2 r l) = xArr m c (ix2 (row t r) l) := by
  have := t_lt t
  refine read_at (V_main_arg0 m c) fun a => ?_
  match a with
  | ⟨0, _⟩ => blk_simp [index0]; simp [row]; omega
  | ⟨1, _⟩ => blk_simp [index0]

theorem blk1 (t : Fin cfg0.N) (l : Fin 1024) (k : Fin 1024) : iblk m c 1 t (ix2 k l) = wArr m c (ix2 (k) l) := by
  have := t_lt t
  refine read_at (V_main_arg1 m c) fun a => ?_
  match a with
  | ⟨0, _⟩ => blk_simp [index1]
  | ⟨1, _⟩ => blk_simp [index1]

theorem emb2 (t : Fin cfg0.N) (r : Fin 1024) (k : Fin 1024) :
    ((cfg0.win 2).blk t).view.emb (ix2 r k) = ix2 (row t r) (k) := by
  have := t_lt t
  refine funext fun a => Fin.ext ?_
  match a with
  | ⟨0, _⟩ => blk_simp [index2]; simp [row]; omega
  | ⟨1, _⟩ => blk_simp [index2]

theorem y_at (t : Fin cfg0.N) (r : Fin 1024) (k : Fin 1024) :
    out0_2 (F := Ideal) (iblk m c 0 t) (iblk m c 1 t) (ix2 r k)
      = MixMidSpec.y (xArr m c) (wArr m c) (ix2 (row t r) (k)) := by
  frame_out
  pointwise [k0_pay1]
  unfold MixMidSpec.y
  refine Finset.sum_congr rfl fun l _ => ?_
  exact congrArg₂ (· * ·) (blk0 m c t r l) (blk1 m c t l k)

attribute [local irreducible] out0_2

theorem y_arr : (dats m 0 c).arrAt 2 cfg0.N = MixMidSpec.y (xArr m c) (wArr m c) := by
  refine (dats m 0 c).arrAt_eq_of_covers 2 _ (by decide +kernel) fun t _ y => ?_
  rw [after0_2]
  obtain ⟨r, k, rfl⟩ := pair y
  rw [emb2]
  exact y_at m c t r k

end Cert.MixMidIdeal.Hand

namespace Cert.MixMidClaim

open Idealize.ShloMosaic TcCoe Idealize.SL.Sem Cert

theorem frame : Cert.quiescent_MixMid := fun m ρ _ => Cert.MixMid.Gen.frame m ρ

theorem frame_ideal : Cert.quiescent_MixMidIdeal := fun m ρ _ => Cert.MixMidIdeal.Gen.frame m ρ

/-- The reference runs on the host and has no counter. -/
theorem frame_ref : Cert.quiescent_MixMidRefIdeal := fun m ρ _ =>
  (θ_run Cert.MixMidRefIdeal.defs _ _).mono
    (fun r h => ⟨fun c => (h c).2, sem_eq_zero_of_no_sems (by decide) r.2⟩)
    (Cert.MixMidRefIdeal.Value.run (F := Ideal) m ρ)

theorem preserves : Cert.preserves_MixMid_MixMidIdeal := trivial

section
open Cert.MixMidRefIdeal Cert.MixMidRefIdeal.Read

/-- What the reference computes. -/
theorem ref_value (x : MixMidSpec.In) (w : MixMidSpec.Mat) : val_main_v5 (F := Ideal) x w = MixMidSpec.y x w := by
  funext i
  obtain ⟨p, q, rfl⟩ := pair i
  pointwise [val_main_v5, val_main_v4, val_main_v3, val_main_v2, val_main_v1, val_main_v0]
  rfl

variable (m : (ℓ : Loc nD τ sig) → Buf (Elt Ideal) ℓ) (c : Dev nD)

/-- The reference's arguments, as launched. -/
abbrev xRef : MixMidSpec.In := m (slot c main_arg0)
abbrev wRef : MixMidSpec.Mat := m (slot c main_arg1)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v5) = MixMidSpec.y (xRef m c) (wRef m c)
      ∧ r.2.mem (slot c main_arg0) = m (slot c main_arg0)
      ∧ r.2.mem (slot c main_arg1) = m (slot c main_arg1) :=
  (θ_run (defs (F := Ideal)) _ _).mono (fun r h c =>
      ⟨(h c).1.trans ((Read.val_main_v5_eq _ _).trans (ref_value _ _)), (h c).2⟩)
    (Value.run (F := Ideal) m ρ)

end

/-- Equal arguments give equal results. -/
theorem algebraic : Cert.algebraic_MixMidIdeal_MixMidRefIdeal := by
  intro m ρ m' ρ' _ hagree
  refine ⟨fun c => MixMidSpec.y (MixMidIdeal.Hand.xArr m c) (MixMidIdeal.Hand.wArr m c),
    (θ_run (MixMidIdeal.defs (F := Ideal)) _ _).mono (fun r h c => ⟨(h c).1.trans (MixMidIdeal.Hand.y_arr m c), (h c).2⟩)
      (MixMidIdeal.Value.run_blocks (F := Ideal) m ρ),
    (θ_run (MixMidRefIdeal.defs (F := Ideal)) _ _).mono (fun r h c => ?_) (ref_run m' ρ')⟩
  have hx : xRef m' c = MixMidIdeal.Hand.xArr m c := (hagree c).1
  have hw : wRef m' c = MixMidIdeal.Hand.wArr m c := (hagree c).2
  have hc := h c
  rw [hx, hw] at hc
  exact hc

end Cert.MixMidClaim

end
-- ==== Proof.MixWAArrays.lean ====
module

public import proofs.«01_k».proof.Proof.Gen.MixWAIdeal.Value
public import proofs.«01_k».proof.Proof.WeightSpec
public import Idealize.ShloMosaic.Lib.Pipeline.ValueKit
public import proofs.«01_k».proof.Proof.Reads

@[expose] public section

/-! The gradient of one half of the attention layer's second projection: what a grid point adds, and the array the run leaves. -/

noncomputable section

namespace Cert.MixWAIdeal.Hand

open Cert.MixWAIdeal Cert.MixWAIdeal.Gen Idealize.ShloMosaic TcCoe Idealize.SL.Sem Cert

variable (m : (ℓ : Loc nD τ sig) → Buf (Elt Ideal) ℓ) (c : Dev nD)

/-- The left factor of the product, as launched. -/
abbrev aArr : (⟨2, ![16384, 512]⟩ : Shape).Idx → EReal := m (slot c main_arg0)
/-- The gradient arriving at the product, as launched. -/
abbrev gArr : (⟨2, ![16384, 1024]⟩ : Shape).Idx → EReal := m (slot c main_arg1)

theorem t_lt (t : Fin cfg0.N) : t.val < 8 := lt_of_lt_of_eq t.isLt N_0

/-- Row `r` of point `t`'s input blocks, in the whole arrays. -/
def row (t : Fin cfg0.N) (r : Fin 2048) : Fin 16384 := ⟨2048 * (t.val % 8) + r.val, by omega⟩

theorem index0 : ∀ t : Fin grid0.N, win0_0.index t = ![t.val % 8, 0] := by decide +kernel
theorem index1 : ∀ t : Fin grid0.N, win0_1.index t = ![t.val % 8, 0] := by decide +kernel
theorem index2 : ∀ t : Fin grid0.N, win0_2.index t = ![0, 0] := by decide +kernel

theorem blk0 (t : Fin cfg0.N) (n : Fin 2048) (r : Fin 512) : iblk m c 0 t (ix2 n r) = aArr m c (ix2 (row t n) (r)) := by
  have := t_lt t
  refine read_at (V_main_arg0 m c) fun a => ?_
  match a with
  | ⟨0, _⟩ => blk_simp [index0]; simp [row]; omega
  | ⟨1, _⟩ => blk_simp [index0]

theorem blk1 (t : Fin cfg0.N) (n : Fin 2048) (k : Fin 1024) : iblk m c 1 t (ix2 n k) = gArr m c (ix2 (row t n) (k)) := by
  have := t_lt t
  refine read_at (V_main_arg1 m c) fun a => ?_
  match a with
  | ⟨0, _⟩ => blk_simp [index1]; simp [row]; omega
  | ⟨1, _⟩ => blk_simp [index1]

theorem emb2 (t : Fin cfg0.N) (r : Fin 512) (k : Fin 1024) :
    ((cfg0.win 2).blk t).view.emb (ix2 r k) = ix2 (r) (k) := by
  refine funext fun a => Fin.ext ?_
  match a with
  | ⟨0, _⟩ => blk_simp [index2]
  | ⟨1, _⟩ => blk_simp [index2]

/-- One row's product. -/
theorem row_term (t : Fin cfg0.N) (r : Fin 512) (k : Fin 1024) (n : Fin 2048) :
    (aArr m c (ix2 (row t n) (r)) * gArr m c (ix2 (row t n) (k)) : EReal)
      = WeightSpec.term (aArr m c) (gArr m c) (r) (k) (2048 * (t.val % 8) + n.val) :=
  (WeightSpec.term_val (aArr m c) (gArr m c) (r) (k) (row t n)).symm

/-- The first point of a run starts from zero. -/
theorem out_A (t : Fin cfg0.N) (h0 : t.val % 8 = 0) (r : Fin 512) (k : Fin 1024) :
    outsAt0 m c t.val t.isLt (ix2 r k)
      = ∑ n : Fin 2048, WeightSpec.term (aArr m c) (gArr m c) (r) (k) (2048 * (t.val % 8) + n.val) := by
  have := t_lt t
  rw [outsAt0_A m c t h0 (by omega)]
  frame_out
  pointwise [k0_pay1]
  exact WeightSpec.sum_rows fun n => (WeightSpec.mul_eq (blk0 m c t n r) (blk1 m c t n k)).trans (row_term m c t r k n)

/-- Every later point adds its rows. -/
theorem out_B (t : Fin cfg0.N) (h0 : ¬t.val % 8 = 0) (r : Fin 512) (k : Fin 1024) :
    outsAt0 m c t.val t.isLt (ix2 r k)
      = outsAt0 m c (t.val - 1) (Nat.lt_of_le_of_lt (Nat.sub_le _ _) t.isLt) (ix2 r k)
      + ∑ n : Fin 2048, WeightSpec.term (aArr m c) (gArr m c) (r) (k) (2048 * (t.val % 8) + n.val) := by
  have := t_lt t
  rw [outsAt0_B m c t h0 (by omega)]
  frame_out
  pointwise [k0_pay2]
  exact congrArg _ (WeightSpec.sum_rows fun n =>
    (WeightSpec.mul_eq (blk0 m c t n r) (blk1 m c t n k)).trans (row_term m c t r k n))

/-- After the last point the block holds the gradient. -/
theorem out_last (t : Fin cfg0.N) (h : t.val % 8 = 7) (r : Fin 512) (k : Fin 1024) :
    outsAt0 m c t.val t.isLt (ix2 r k) = WeightSpec.dw (aArr m c) (gArr m c) (ix2 r k) := by
  refine (WeightSpec.total (fun n h => outsAt0 m c n h (ix2 r k)) (fun _ => WeightSpec.term (aArr m c) (gArr m c) r k)
    (fun t h0 => ?_) (fun t h0 => ?_) t h).trans ?_
  · rw [zero_add]
    exact out_A m c t h0 r k
  · exact out_B m c t h0 r k
  · rfl

theorem flush_at : ∀ t : Fin grid0.N, (cfg0.win 2).flush t = true → t.val % 8 = 7 := by decide +kernel

theorem dw_arr : (dats m 0 c).arrAt 2 cfg0.N = WeightSpec.dw (aArr m c) (gArr m c) := by
  refine (dats m 0 c).arrAt_eq_of_covers 2 _ (by decide +kernel) fun t hf y => ?_
  rw [after0_2]
  obtain ⟨r, k, rfl⟩ := pair y
  rw [emb2]
  exact out_last m c t (flush_at t hf) r k

end Cert.MixWAIdeal.Hand

end
-- ==== Proof.MixWAClaim.lean ====
module

public import proofs.«01_k».proof.Defs
public import proofs.«01_k».proof.Proof.Gen.MixWA.Frame
public import proofs.«01_k».proof.Proof.MixWAArrays
public import proofs.«01_k».proof.Proof.Gen.MixWARefIdeal.Run
public import proofs.«01_k».proof.Proof.Gen.MixWARefIdeal.Read
public import proofs.«01_k».proof.Proof.Reads

@[expose] public section

/-! The five claims about the gradient of one half of the attention layer's second projection. -/

noncomputable section

namespace Cert.MixWAClaim

open Idealize.ShloMosaic TcCoe Idealize.SL.Sem Cert

theorem frame : Cert.quiescent_MixWA := fun m ρ _ => Cert.MixWA.Gen.frame m ρ

theorem frame_ideal : Cert.quiescent_MixWAIdeal := fun m ρ _ => Cert.MixWAIdeal.Gen.frame m ρ

/-- The reference runs on the host and has no counter. -/
theorem frame_ref : Cert.quiescent_MixWARefIdeal := fun m ρ _ =>
  (θ_run Cert.MixWARefIdeal.defs _ _).mono
    (fun r h => ⟨fun c => (h c).2, sem_eq_zero_of_no_sems (by decide) r.2⟩)
    (Cert.MixWARefIdeal.Value.run (F := Ideal) m ρ)

theorem preserves : Cert.preserves_MixWA_MixWAIdeal := trivial

section
open Cert.MixWARefIdeal Cert.MixWARefIdeal.Read

/-- What the reference computes. -/
theorem ref_value (a : (⟨2, ![16384, 512]⟩ : Shape).Idx → EReal) (g : (⟨2, ![16384, 1024]⟩ : Shape).Idx → EReal) :
    val_main_v5 (F := Ideal) a g = WeightSpec.dw a g := by
  funext i
  obtain ⟨p, q, rfl⟩ := pair i
  pointwise [val_main_v5, val_main_v4, val_main_v3, val_main_v1]
  show _ = ∑ n ∈ Finset.range 16384, WeightSpec.term a g p q n
  rw [Finset.sum_range]
  exact Finset.sum_congr rfl fun n _ => (mul_comm _ _).trans (WeightSpec.term_val a g p q n).symm

variable (m : (ℓ : Loc nD τ sig) → Buf (Elt Ideal) ℓ) (c : Dev nD)

/-- The reference's arguments, as launched. -/
abbrev aRef : (⟨2, ![16384, 512]⟩ : Shape).Idx → EReal := m (slot c main_arg0)
abbrev gRef : (⟨2, ![16384, 1024]⟩ : Shape).Idx → EReal := m (slot c main_arg1)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v5) = WeightSpec.dw (aRef m c) (gRef m c)
      ∧ r.2.mem (slot c main_arg0) = m (slot c main_arg0)
      ∧ r.2.mem (slot c main_arg1) = m (slot c main_arg1) :=
  (θ_run (defs (F := Ideal)) _ _).mono (fun r h c =>
      ⟨(h c).1.trans ((Read.val_main_v5_eq _ _).trans (ref_value _ _)), (h c).2⟩)
    (Value.run (F := Ideal) m ρ)

end

/-- The kernel's run, its result named. -/
theorem kernel_run (m : (ℓ : Loc MixWAIdeal.nD MixWAIdeal.τ MixWAIdeal.sig) → Buf (Elt Ideal) ℓ) (ρ : Dev MixWAIdeal.nD → PrngReg) :
    θ_run (MixWAIdeal.defs (F := Ideal)) (onTc (τ := MixWAIdeal.τ) (MixWAIdeal.main (F := Ideal))) ⟨m, fun _ => 0, ρ⟩ fun r => ∀ c : Dev MixWAIdeal.nD,
      r.2.mem ((c.tc : Thread MixWAIdeal.nD MixWAIdeal.τ).loc MixWAIdeal.main_v0) = WeightSpec.dw (MixWAIdeal.Hand.aArr m c) (MixWAIdeal.Hand.gArr m c)
      ∧ r.2.mem ((c.tc : Thread MixWAIdeal.nD MixWAIdeal.τ).loc MixWAIdeal.main_arg0) = m ((c.tc : Thread MixWAIdeal.nD MixWAIdeal.τ).loc MixWAIdeal.main_arg0)
      ∧ r.2.mem ((c.tc : Thread MixWAIdeal.nD MixWAIdeal.τ).loc MixWAIdeal.main_arg1) = m ((c.tc : Thread MixWAIdeal.nD MixWAIdeal.τ).loc MixWAIdeal.main_arg1) :=
  (θ_run (MixWAIdeal.defs (F := Ideal)) _ _).mono (fun r h c =>
      ⟨(h c).1.trans (MixWAIdeal.Hand.dw_arr m c), (h c).2⟩)
    (MixWAIdeal.Value.run_blocks (F := Ideal) m ρ)

/-- Equal arguments give equal results. -/
theorem algebraic : Cert.algebraic_MixWAIdeal_MixWARefIdeal := by
  intro m ρ m' ρ' _ hagree
  refine ⟨fun c => WeightSpec.dw (MixWAIdeal.Hand.aArr m c) (MixWAIdeal.Hand.gArr m c),
    kernel_run m ρ, (θ_run (MixWARefIdeal.defs (F := Ideal)) _ _).mono (fun r h c => ?_) (ref_run m' ρ')⟩
  have ha : aRef m' c = MixWAIdeal.Hand.aArr m c := (hagree c).1
  have hg : gRef m' c = MixWAIdeal.Hand.gArr m c := (hagree c).2
  have hc := h c
  rw [ha, hg] at hc
  exact hc

end Cert.MixWAClaim

end
-- ==== Proof.MixWBArrays.lean ====
module

public import proofs.«01_k».proof.Proof.Gen.MixWBIdeal.Value
public import proofs.«01_k».proof.Proof.WeightSpec
public import Idealize.ShloMosaic.Lib.Pipeline.ValueKit
public import proofs.«01_k».proof.Proof.Reads

@[expose] public section

/-! The gradient of the convolution layer's second projection: what a grid point adds, and the array the run leaves. -/

noncomputable section

namespace Cert.MixWBIdeal.Hand

open Cert.MixWBIdeal Cert.MixWBIdeal.Gen Idealize.ShloMosaic TcCoe Idealize.SL.Sem Cert

variable (m : (ℓ : Loc nD τ sig) → Buf (Elt Ideal) ℓ) (c : Dev nD)

/-- The left factor of the product, as launched. -/
abbrev aArr : (⟨2, ![16384, 1024]⟩ : Shape).Idx → EReal := m (slot c main_arg0)
/-- The gradient arriving at the product, as launched. -/
abbrev gArr : (⟨2, ![16384, 1024]⟩ : Shape).Idx → EReal := m (slot c main_arg1)

theorem t_lt (t : Fin cfg0.N) : t.val < 8 := lt_of_lt_of_eq t.isLt N_0

/-- Row `r` of point `t`'s input blocks, in the whole arrays. -/
def row (t : Fin cfg0.N) (r : Fin 2048) : Fin 16384 := ⟨2048 * (t.val % 8) + r.val, by omega⟩

theorem index0 : ∀ t : Fin grid0.N, win0_0.index t = ![t.val % 8, 0] := by decide +kernel
theorem index1 : ∀ t : Fin grid0.N, win0_1.index t = ![t.val % 8, 0] := by decide +kernel
theorem index2 : ∀ t : Fin grid0.N, win0_2.index t = ![0, 0] := by decide +kernel

theorem blk0 (t : Fin cfg0.N) (n : Fin 2048) (r : Fin 1024) : iblk m c 0 t (ix2 n r) = aArr m c (ix2 (row t n) (r)) := by
  have := t_lt t
  refine read_at (V_main_arg0 m c) fun a => ?_
  match a with
  | ⟨0, _⟩ => blk_simp [index0]; simp [row]; omega
  | ⟨1, _⟩ => blk_simp [index0]

theorem blk1 (t : Fin cfg0.N) (n : Fin 2048) (k : Fin 1024) : iblk m c 1 t (ix2 n k) = gArr m c (ix2 (row t n) (k)) := by
  have := t_lt t
  refine read_at (V_main_arg1 m c) fun a => ?_
  match a with
  | ⟨0, _⟩ => blk_simp [index1]; simp [row]; omega
  | ⟨1, _⟩ => blk_simp [index1]

theorem emb2 (t : Fin cfg0.N) (r : Fin 1024) (k : Fin 1024) :
    ((cfg0.win 2).blk t).view.emb (ix2 r k) = ix2 (r) (k) := by
  refine funext fun a => Fin.ext ?_
  match a with
  | ⟨0, _⟩ => blk_simp [index2]
  | ⟨1, _⟩ => blk_simp [index2]

/-- One row's product. -/
theorem row_term (t : Fin cfg0.N) (r : Fin 1024) (k : Fin 1024) (n : Fin 2048) :
    (aArr m c (ix2 (row t n) (r)) * gArr m c (ix2 (row t n) (k)) : EReal)
      = WeightSpec.term (aArr m c) (gArr m c) (r) (k) (2048 * (t.val % 8) + n.val) :=
  (WeightSpec.term_val (aArr m c) (gArr m c) (r) (k) (row t n)).symm

/-- The first point of a run starts from zero. -/
theorem out_A (t : Fin cfg0.N) (h0 : t.val % 8 = 0) (r : Fin 1024) (k : Fin 1024) :
    outsAt0 m c t.val t.isLt (ix2 r k)
      = ∑ n : Fin 2048, WeightSpec.term (aArr m c) (gArr m c) (r) (k) (2048 * (t.val % 8) + n.val) := by
  have := t_lt t
  rw [outsAt0_A m c t h0 (by omega)]
  frame_out
  pointwise [k0_pay1]
  exact WeightSpec.sum_rows fun n => (WeightSpec.mul_eq (blk0 m c t n r) (blk1 m c t n k)).trans (row_term m c t r k n)

/-- Every later point adds its rows. -/
theorem out_B (t : Fin cfg0.N) (h0 : ¬t.val % 8 = 0) (r : Fin 1024) (k : Fin 1024) :
    outsAt0 m c t.val t.isLt (ix2 r k)
      = outsAt0 m c (t.val - 1) (Nat.lt_of_le_of_lt (Nat.sub_le _ _) t.isLt) (ix2 r k)
      + ∑ n : Fin 2048, WeightSpec.term (aArr m c) (gArr m c) (r) (k) (2048 * (t.val % 8) + n.val) := by
  have := t_lt t
  rw [outsAt0_B m c t h0 (by omega)]
  frame_out
  pointwise [k0_pay2]
  exact congrArg _ (WeightSpec.sum_rows fun n =>
    (WeightSpec.mul_eq (blk0 m c t n r) (blk1 m c t n k)).trans (row_term m c t r k n))

/-- After the last point the block holds the gradient. -/
theorem out_last (t : Fin cfg0.N) (h : t.val % 8 = 7) (r : Fin 1024) (k : Fin 1024) :
    outsAt0 m c t.val t.isLt (ix2 r k) = WeightSpec.dw (aArr m c) (gArr m c) (ix2 r k) := by
  refine (WeightSpec.total (fun n h => outsAt0 m c n h (ix2 r k)) (fun _ => WeightSpec.term (aArr m c) (gArr m c) r k)
    (fun t h0 => ?_) (fun t h0 => ?_) t h).trans ?_
  · rw [zero_add]
    exact out_A m c t h0 r k
  · exact out_B m c t h0 r k
  · rfl

theorem flush_at : ∀ t : Fin grid0.N, (cfg0.win 2).flush t = true → t.val % 8 = 7 := by decide +kernel

theorem dw_arr : (dats m 0 c).arrAt 2 cfg0.N = WeightSpec.dw (aArr m c) (gArr m c) := by
  refine (dats m 0 c).arrAt_eq_of_covers 2 _ (by decide +kernel) fun t hf y => ?_
  rw [after0_2]
  obtain ⟨r, k, rfl⟩ := pair y
  rw [emb2]
  exact out_last m c t (flush_at t hf) r k

end Cert.MixWBIdeal.Hand

end
-- ==== Proof.MixWBClaim.lean ====
module

public import proofs.«01_k».proof.Defs
public import proofs.«01_k».proof.Proof.Gen.MixWB.Frame
public import proofs.«01_k».proof.Proof.MixWBArrays
public import proofs.«01_k».proof.Proof.Gen.MixWBRefIdeal.Run
public import proofs.«01_k».proof.Proof.Gen.MixWBRefIdeal.Read
public import proofs.«01_k».proof.Proof.Reads

@[expose] public section

/-! The five claims about the gradient of the convolution layer's second projection. -/

noncomputable section

namespace Cert.MixWBClaim

open Idealize.ShloMosaic TcCoe Idealize.SL.Sem Cert

theorem frame : Cert.quiescent_MixWB := fun m ρ _ => Cert.MixWB.Gen.frame m ρ

theorem frame_ideal : Cert.quiescent_MixWBIdeal := fun m ρ _ => Cert.MixWBIdeal.Gen.frame m ρ

/-- The reference runs on the host and has no counter. -/
theorem frame_ref : Cert.quiescent_MixWBRefIdeal := fun m ρ _ =>
  (θ_run Cert.MixWBRefIdeal.defs _ _).mono
    (fun r h => ⟨fun c => (h c).2, sem_eq_zero_of_no_sems (by decide) r.2⟩)
    (Cert.MixWBRefIdeal.Value.run (F := Ideal) m ρ)

theorem preserves : Cert.preserves_MixWB_MixWBIdeal := trivial

section
open Cert.MixWBRefIdeal Cert.MixWBRefIdeal.Read

/-- What the reference computes. -/
theorem ref_value (a : (⟨2, ![16384, 1024]⟩ : Shape).Idx → EReal) (g : (⟨2, ![16384, 1024]⟩ : Shape).Idx → EReal) :
    val_main_v5 (F := Ideal) a g = WeightSpec.dw a g := by
  funext i
  obtain ⟨p, q, rfl⟩ := pair i
  pointwise [val_main_v5, val_main_v4, val_main_v3, val_main_v1]
  show _ = ∑ n ∈ Finset.range 16384, WeightSpec.term a g p q n
  rw [Finset.sum_range]
  exact Finset.sum_congr rfl fun n _ => (mul_comm _ _).trans (WeightSpec.term_val a g p q n).symm

variable (m : (ℓ : Loc nD τ sig) → Buf (Elt Ideal) ℓ) (c : Dev nD)

/-- The reference's arguments, as launched. -/
abbrev aRef : (⟨2, ![16384, 1024]⟩ : Shape).Idx → EReal := m (slot c main_arg0)
abbrev gRef : (⟨2, ![16384, 1024]⟩ : Shape).Idx → EReal := m (slot c main_arg1)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v5) = WeightSpec.dw (aRef m c) (gRef m c)
      ∧ r.2.mem (slot c main_arg0) = m (slot c main_arg0)
      ∧ r.2.mem (slot c main_arg1) = m (slot c main_arg1) :=
  (θ_run (defs (F := Ideal)) _ _).mono (fun r h c =>
      ⟨(h c).1.trans ((Read.val_main_v5_eq _ _).trans (ref_value _ _)), (h c).2⟩)
    (Value.run (F := Ideal) m ρ)

end

/-- The kernel's run, its result named. -/
theorem kernel_run (m : (ℓ : Loc MixWBIdeal.nD MixWBIdeal.τ MixWBIdeal.sig) → Buf (Elt Ideal) ℓ) (ρ : Dev MixWBIdeal.nD → PrngReg) :
    θ_run (MixWBIdeal.defs (F := Ideal)) (onTc (τ := MixWBIdeal.τ) (MixWBIdeal.main (F := Ideal))) ⟨m, fun _ => 0, ρ⟩ fun r => ∀ c : Dev MixWBIdeal.nD,
      r.2.mem ((c.tc : Thread MixWBIdeal.nD MixWBIdeal.τ).loc MixWBIdeal.main_v0) = WeightSpec.dw (MixWBIdeal.Hand.aArr m c) (MixWBIdeal.Hand.gArr m c)
      ∧ r.2.mem ((c.tc : Thread MixWBIdeal.nD MixWBIdeal.τ).loc MixWBIdeal.main_arg0) = m ((c.tc : Thread MixWBIdeal.nD MixWBIdeal.τ).loc MixWBIdeal.main_arg0)
      ∧ r.2.mem ((c.tc : Thread MixWBIdeal.nD MixWBIdeal.τ).loc MixWBIdeal.main_arg1) = m ((c.tc : Thread MixWBIdeal.nD MixWBIdeal.τ).loc MixWBIdeal.main_arg1) :=
  (θ_run (MixWBIdeal.defs (F := Ideal)) _ _).mono (fun r h c =>
      ⟨(h c).1.trans (MixWBIdeal.Hand.dw_arr m c), (h c).2⟩)
    (MixWBIdeal.Value.run_blocks (F := Ideal) m ρ)

/-- Equal arguments give equal results. -/
theorem algebraic : Cert.algebraic_MixWBIdeal_MixWBRefIdeal := by
  intro m ρ m' ρ' _ hagree
  refine ⟨fun c => WeightSpec.dw (MixWBIdeal.Hand.aArr m c) (MixWBIdeal.Hand.gArr m c),
    kernel_run m ρ, (θ_run (MixWBRefIdeal.defs (F := Ideal)) _ _).mono (fun r h c => ?_) (ref_run m' ρ')⟩
  have ha : aRef m' c = MixWBIdeal.Hand.aArr m c := (hagree c).1
  have hg : gRef m' c = MixWBIdeal.Hand.gArr m c := (hagree c).2
  have hc := h c
  rw [ha, hg] at hc
  exact hc

end Cert.MixWBClaim

end
-- ==== Proof.MixBothSpec.lean ====
module

public import Idealize.ShloMosaic.Lib.Pipeline.ValueKit

@[expose] public section

/-! The first mixer's output product, over two operands laid side by side, added to the residual and normalised for the next layer, written once over the
    extended reals. -/

noncomputable section

namespace Cert.MixBothSpec

open Idealize.ShloMosaic

abbrev Half := (⟨2, ![16384, 512]⟩ : Shape).Idx → EReal
abbrev Mat := (⟨2, ![1024, 1024]⟩ : Shape).Idx → EReal
abbrev Res := (⟨2, ![16384, 1024]⟩ : Shape).Idx → EReal
abbrev Mods := (⟨2, ![9, 1024]⟩ : Shape).Idx → EReal
abbrev Gain := (⟨2, ![1, 1024]⟩ : Shape).Idx → EReal

/-- The number of columns, as the program writes it. -/
abbrev width : EReal := Ideal.ofBits .f32 0x44800000#32
/-- The small number added to the mean of squares, as the program writes it. -/
abbrev eps : EReal := Ideal.ofBits .f32 0x358637BD#32

variable (s p : Half) (w : Mat) (h : Res) (mods : Mods) (g : Gain) (mn : Mods)

/-- Row `l` of the weight's first half, and of its second. -/
def fst (l : Fin 512) : Fin 1024 := ⟨l.val, by omega⟩
def snd (l : Fin 512) : Fin 1024 := ⟨512 + l.val, by omega⟩

/-- The product. -/
def prod (n : Fin 16384) (j : Fin 1024) : EReal :=
  (∑ l : Fin 512, s (ix2 n l) * w (ix2 (fst l) j)) + ∑ l : Fin 512, p (ix2 n l) * w (ix2 (snd l) j)

/-- The residual with the gated product added. -/
def resid (n : Fin 16384) (j : Fin 1024) : EReal := h (ix2 n j) + mods (ix2 5 j) * prod s p w n j

/-- One over the root of a row's mean of squares. -/
def scale (n : Fin 16384) : EReal :=
  Ideal.rsqrt (Ideal.div (∑ j : Fin 1024, resid s p w h mods n j * resid s p w h mods n j) width + eps)

/-- The three results. -/
def x : Res := fun i => resid s p w h mods (i 0) (i 1)
def y : Res := fun i => prod s p w (i 0) (i 1)
def hn : Res := fun i =>
  resid s p w h mods (i 0) (i 1) * scale s p w h mods (i 0) * g (ix2 0 (i 1)) * (1 + mn (ix2 7 (i 1))) + mn (ix2 6 (i 1))

end Cert.MixBothSpec

end
-- ==== Proof.MixBothBlocks.lean ====
module

public import proofs.«01_k».proof.Proof.Gen.MixBothIdeal.Value
public import proofs.«01_k».proof.Proof.MixBothSpec
public import proofs.«01_k».proof.Proof.Reads

@[expose] public section

/-! The first mixer's output product: what a grid point reads and computes. -/

noncomputable section

namespace Cert.MixBothIdeal.Hand

open Cert.MixBothIdeal Cert.MixBothIdeal.Gen Idealize.ShloMosaic TcCoe Idealize.SL.Sem Cert

variable (m : (ℓ : Loc nD τ sig) → Buf (Elt Ideal) ℓ) (c : Dev nD)

/-- The arguments, as launched. -/
abbrev sArr : MixBothSpec.Half := m (slot c main_arg0)
abbrev pArr : MixBothSpec.Half := m (slot c main_arg1)
abbrev wArr : MixBothSpec.Mat := m (slot c main_arg2)
abbrev hArr : MixBothSpec.Res := m (slot c main_arg3)
abbrev mArr : MixBothSpec.Mods := m (slot c main_arg4)
abbrev gArr : MixBothSpec.Gain := m (slot c main_arg5)
abbrev nArr : MixBothSpec.Mods := m (slot c main_arg6)

theorem t_lt (t : Fin cfg0.N) : t.val < 32 := lt_of_lt_of_eq t.isLt N_0

/-- Row `r` of point `t`'s blocks, in the whole arrays. -/
def row (t : Fin cfg0.N) (r : Fin 512) : Fin 16384 := ⟨512 * t.val + r.val, by have := t_lt t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![1, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![t.val, 0] := by decide +kernel

theorem blk0 (t : Fin cfg0.N) (r : Fin 512) (l : Fin 512) : iblk m c 0 t (ix2 r l) = sArr m c (ix2 (row t r) l) := by
  refine read_at (V_main_arg0 m c) fun a => ?_
  match a with
  | ⟨0, _⟩ => blk_simp [index0]; simp [row]; omega
  | ⟨1, _⟩ => blk_simp [index0]

theorem blk1 (t : Fin cfg0.N) (r : Fin 512) (l : Fin 512) : iblk m c 1 t (ix2 r l) = pArr m c (ix2 (row t r) l) := by
  refine read_at (V_main_arg1 m c) fun a => ?_
  match a with
  | ⟨0, _⟩ => blk_simp [index1]; simp [row]; omega
  | ⟨1, _⟩ => blk_simp [index1]

theorem blk2 (t : Fin cfg0.N) (r : Fin 512) (l : Fin 1024) : iblk m c 2 t (ix2 r l) = wArr m c (ix2 (MixBothSpec.fst r) l) := by
  refine read_at (V_main_arg2 m c) fun a => ?_
  match a with
  | ⟨0, _⟩ => blk_simp [index2]; simp [MixBothSpec.fst]
  | ⟨1, _⟩ => blk_simp [index2]

theorem blk3 (t : Fin cfg0.N) (r : Fin 512) (l : Fin 1024) : iblk m c 3 t (ix2 r l) = wArr m c (ix2 (MixBothSpec.snd r) l) := by
  refine read_at (V_main_arg2 m c) fun a => ?_
  match a with
  | ⟨0, _⟩ => blk_simp [index3]; simp [MixBothSpec.snd]
  | ⟨1, _⟩ => blk_simp [index3]

theorem blk4 (t : Fin cfg0.N) (r : Fin 512) (l : Fin 1024) : iblk m c 4 t (ix2 r l) = hArr m c (ix2 (row t r) l) := by
  refine read_at (V_main_arg3 m c) fun a => ?_
  match a with
  | ⟨0, _⟩ => blk_simp [index4]; simp [row]; omega
  | ⟨1, _⟩ => blk_simp [index4]

theorem blk5 (t : Fin cfg0.N) (r : Fin 9) (l : Fin 1024) : iblk m c 5 t (ix2 r l) = mArr m c (ix2 r l) := by
  refine read_at (V_main_arg4 m c) fun a => ?_
  match a with
  | ⟨0, _⟩ => blk_simp [index5]
  | ⟨1, _⟩ => blk_simp [index5]

theorem blk6 (t : Fin cfg0.N) (r : Fin 1) (l : Fin 1024) : iblk m c 6 t (ix2 r l) = gArr m c (ix2 r l) := by
  refine read_at (V_main_arg5 m c) fun a => ?_
  match a with
  | ⟨0, _⟩ => blk_simp [index6]
  | ⟨1, _⟩ => blk_simp [index6]

theorem blk7 (t : Fin cfg0.N) (r : Fin 9) (l : Fin 1024) : iblk m c 7 t (ix2 r l) = nArr m c (ix2 r l) := by
  refine read_at (V_main_arg6 m c) fun a => ?_
  match a with
  | ⟨0, _⟩ => blk_simp [index7]
  | ⟨1, _⟩ => blk_simp [index7]

theorem emb8 (t : Fin cfg0.N) (r : Fin 512) (k : Fin 1024) :
    ((cfg0.win 8).blk t).view.emb (ix2 r k) = ix2 (row t r) k := by
  refine funext fun a => Fin.ext ?_
  match a with
  | ⟨0, _⟩ => blk_simp [index8]; simp [row]; omega
  | ⟨1, _⟩ => blk_simp [index8]

theorem emb9 (t : Fin cfg0.N) (r : Fin 512) (k : Fin 1024) :
    ((cfg0.win 9).blk t).view.emb (ix2 r k) = ix2 (row t r) k := by
  refine funext fun a => Fin.ext ?_
  match a with
  | ⟨0, _⟩ => blk_simp [index9]; simp [row]; omega
  | ⟨1, _⟩ => blk_simp [index9]

theorem emb10 (t : Fin cfg0.N) (r : Fin 512) (k : Fin 1024) :
    ((cfg0.win 10).blk t).view.emb (ix2 r k) = ix2 (row t r) k := by
  refine funext fun a => Fin.ext ?_
  match a with
  | ⟨0, _⟩ => blk_simp [index10]; simp [row]; omega
  | ⟨1, _⟩ => blk_simp [index10]

/-- The product on a point's block. -/
theorem prod_at (t : Fin cfg0.N) (r : Fin 512) (j : Fin 1024) :
    k0_pay3 (F := Ideal) (iblk m c 0 t) (iblk m c 2 t) (iblk m c 1 t) (iblk m c 3 t) (ix2 r j)
      = MixBothSpec.prod (sArr m c) (pArr m c) (wArr m c) (row t r) j := by
  pointwise [k0_pay3]
  refine congrArg₂ (· + ·) (Finset.sum_congr rfl fun l _ => ?_) (Finset.sum_congr rfl fun l _ => ?_)
  · rw [blk0, blk2]
  · rw [blk1, blk3]

/-- The residual on a point's block, the modulation's row given. -/
theorem resid_at (t : Fin cfg0.N) (r : Fin 512) (j : Fin 1024) {v : Vec Idealize.ShloMosaic.Ideal S1x1024 .f32}
    (hv : ∀ j, v (ix2 0 j) = mArr m c (ix2 5 j)) :
    k0_pay4 (F := Ideal) (iblk m c 0 t) (iblk m c 2 t) (iblk m c 1 t) (iblk m c 3 t) (iblk m c 4 t) v (ix2 r j)
      = MixBothSpec.resid (sArr m c) (pArr m c) (wArr m c) (hArr m c) (mArr m c) (row t r) j := by
  pointwise [k0_pay4]
  rw [prod_at, blk4, hv]
  rfl

/-- The normalised row on a point's block, the small arguments' rows given. -/
theorem hn_at (t : Fin cfg0.N) (r : Fin 512) (j : Fin 1024) {v g v4 : Vec Idealize.ShloMosaic.Ideal S1x1024 .f32}
    (hv : ∀ j, v (ix2 0 j) = mArr m c (ix2 5 j)) (hg : ∀ j, g (ix2 0 j) = gArr m c (ix2 0 j))
    (h4 : ∀ j, v4 (ix2 0 j) = nArr m c (ix2 7 j)) :
    k0_pay5 (F := Ideal) (iblk m c 0 t) (iblk m c 2 t) (iblk m c 1 t) (iblk m c 3 t) (iblk m c 4 t) v g v4 (ix2 r j)
      = MixBothSpec.resid (sArr m c) (pArr m c) (wArr m c) (hArr m c) (mArr m c) (row t r) j
        * MixBothSpec.scale (sArr m c) (pArr m c) (wArr m c) (hArr m c) (mArr m c) (row t r)
        * gArr m c (ix2 0 j) * (1 + nArr m c (ix2 7 j)) := by
  pointwise [k0_pay5]
  simp only [resid_at m c t r _ hv]
  rw [hg, h4]
  rfl

/-- A row read from one of the modulation's blocks. -/
theorem ld2 (X : Vec Idealize.ShloMosaic.Ideal S9x1024 .f32) (j : Fin 1024) : View.ld X r0_2 (ix2 0 j) = X (ix2 5 j) :=
  View.ld_unit_apply_of X _ _ _ _ _ fun a => match a with
    | ⟨0, _⟩ => rfl
    | ⟨1, _⟩ => (Nat.zero_add _).symm

theorem ld4 (X : Vec Idealize.ShloMosaic.Ideal S9x1024 .f32) (j : Fin 1024) : View.ld X r0_4 (ix2 0 j) = X (ix2 7 j) :=
  View.ld_unit_apply_of X _ _ _ _ _ fun a => match a with
    | ⟨0, _⟩ => rfl
    | ⟨1, _⟩ => (Nat.zero_add _).symm

theorem x_at (t : Fin cfg0.N) (r : Fin 512) (j : Fin 1024) :
    out0_8 (iblk m c 0 t) (iblk m c 1 t) (iblk m c 2 t) (iblk m c 3 t) (iblk m c 4 t) (iblk m c 5 t) (iblk m c 6 t) (iblk m c 7 t) (ix2 r j)
      = MixBothSpec.x (sArr m c) (pArr m c) (wArr m c) (hArr m c) (mArr m c) (ix2 (row t r) j) := by
  frame_out
  exact resid_at m c t r j fun j => (ld2 _ j).trans (blk5 m c t 5 j)

theorem y_at (t : Fin cfg0.N) (r : Fin 512) (j : Fin 1024) :
    out0_9 (iblk m c 0 t) (iblk m c 1 t) (iblk m c 2 t) (iblk m c 3 t) (iblk m c 4 t) (iblk m c 5 t) (iblk m c 6 t) (iblk m c 7 t) (ix2 r j)
      = MixBothSpec.y (sArr m c) (pArr m c) (wArr m c) (ix2 (row t r) j) := by
  frame_out
  pointwise [k0_pay2]
  exact prod_at m c t r j

theorem hn_out (t : Fin cfg0.N) (r : Fin 512) (j : Fin 1024) :
    out0_10 (iblk m c 0 t) (iblk m c 1 t) (iblk m c 2 t) (iblk m c 3 t) (iblk m c 4 t) (iblk m c 5 t) (iblk m c 6 t) (iblk m c 7 t) (ix2 r j)
      = MixBothSpec.hn (sArr m c) (pArr m c) (wArr m c) (hArr m c) (mArr m c) (gArr m c) (nArr m c) (ix2 (row t r) j) := by
  frame_out
  pointwise [k0_pay1]
  rw [blk7, hn_at m c t r j (fun j => (ld2 _ j).trans (blk5 m c t 5 j)) (fun j => blk6 m c t 0 j) fun j => (ld4 _ j).trans (blk7 m c t 7 j)]
  rfl

end Cert.MixBothIdeal.Hand

end
-- ==== Proof.MixBothArrays.lean ====
module

public import proofs.«01_k».proof.Proof.MixBothBlocks
public import proofs.«01_k».proof.Proof.Reads

@[expose] public section

/-! The first mixer's output product: the three arrays the run leaves. -/

noncomputable section

namespace Cert.MixBothIdeal.Hand

open Cert.MixBothIdeal Cert.MixBothIdeal.Gen Idealize.ShloMosaic TcCoe Idealize.SL.Sem Cert

variable (m : (ℓ : Loc nD τ sig) → Buf (Elt Ideal) ℓ) (c : Dev nD)

attribute [local irreducible] out0_8 out0_9 out0_10

theorem x_arr : (dats m 0 c).arrAt 8 cfg0.N = MixBothSpec.x (sArr m c) (pArr m c) (wArr m c) (hArr m c) (mArr m c) := by
  refine (dats m 0 c).arrAt_eq_of_covers 8 _ (by decide +kernel) fun t _ y => ?_
  rw [after0_8]
  obtain ⟨r, k, rfl⟩ := pair y
  rw [emb8]
  exact x_at m c t r k

theorem y_arr : (dats m 0 c).arrAt 9 cfg0.N = MixBothSpec.y (sArr m c) (pArr m c) (wArr m c) := by
  refine (dats m 0 c).arrAt_eq_of_covers 9 _ (by decide +kernel) fun t _ y => ?_
  rw [after0_9]
  obtain ⟨r, k, rfl⟩ := pair y
  rw [emb9]
  exact y_at m c t r k

theorem hn_arr : (dats m 0 c).arrAt 10 cfg0.N = MixBothSpec.hn (sArr m c) (pArr m c) (wArr m c) (hArr m c) (mArr m c) (gArr m c) (nArr m c) := by
  refine (dats m 0 c).arrAt_eq_of_covers 10 _ (by decide +kernel) fun t _ y => ?_
  rw [after0_10]
  obtain ⟨r, k, rfl⟩ := pair y
  rw [emb10]
  exact hn_out m c t r k

end Cert.MixBothIdeal.Hand

end
-- ==== Proof.MixBothRefValue.lean ====
module

public import proofs.«01_k».proof.Proof.Gen.MixBothRefIdeal.Read
public import proofs.«01_k».proof.Proof.MixBothSpec
public import proofs.«01_k».proof.Proof.Reads

@[expose] public section

/-! The first mixer's output product: what the reference computes. -/

noncomputable section

namespace Cert.MixBothRefIdeal.Hand

open Cert.MixBothRefIdeal Cert.MixBothRefIdeal.Read Idealize.ShloMosaic Cert

variable (s p : MixBothSpec.Half) (w : MixBothSpec.Mat) (h : MixBothSpec.Res) (mods : MixBothSpec.Mods) (g : MixBothSpec.Gain)
  (mn : MixBothSpec.Mods)

theorem prod_eq (n : Fin 16384) (j : Fin 1024) : val_main_v3 (F := Ideal) s p w (ix2 n j) = MixBothSpec.prod s p w n j := by
  pointwise [val_main_v3, val_main_v2, val_main_v1, val_main_v0]
  rfl

theorem resid_eq (n : Fin 16384) (j : Fin 1024) :
    val_main_v7 (F := Ideal) s p w h mods (ix2 n j) = MixBothSpec.resid s p w h mods n j := by
  pointwise [val_main_v7, val_main_v6, val_main_v5, val_main_v4]
  rw [prod_eq]
  rfl

theorem squares_eq (n : Fin 16384) : val_main_v10 (F := Ideal) s p w h mods (ix1 n)
    = ∑ j : Fin 1024, MixBothSpec.resid s p w h mods n j * MixBothSpec.resid s p w h mods n j := by
  pointwise [val_main_v10, val_main_v9, val_main_cst]
  simp only [resid_eq]

theorem scale_eq (n : Fin 16384) :
    val_main_v16 (F := Ideal) s p w h mods (ix2 n 0) = MixBothSpec.scale s p w h mods n := by
  pointwise [val_main_v16, val_main_v15, val_main_v14, val_main_cst_1, val_main_v13, val_main_v12, val_main_cst_0,
    val_main_v11]
  rw [squares_eq]
  rfl

theorem x_eq : val_main_v7 (F := Ideal) s p w h mods = MixBothSpec.x s p w h mods := by
  funext i
  obtain ⟨n, j, rfl⟩ := pair i
  exact resid_eq s p w h mods n j

theorem y_eq : val_main_v8 (F := Ideal) s p w = MixBothSpec.y s p w := by
  funext i
  obtain ⟨n, j, rfl⟩ := pair i
  pointwise [val_main_v8]
  exact prod_eq s p w n j

theorem hn_eq : val_main_v29 (F := Ideal) s p w h mods g mn = MixBothSpec.hn s p w h mods g mn := by
  funext i
  obtain ⟨n, j, rfl⟩ := pair i
  pointwise [val_main_v29, val_main_v28, val_main_v27, val_main_v26, val_main_v25, val_main_v24, val_main_v23,
    val_main_cst_2, val_main_v22, val_main_v21, val_main_v20, val_main_v19, val_main_v18, val_main_v17]
  rw [resid_eq, scale_eq]
  rfl

end Cert.MixBothRefIdeal.Hand

end
-- ==== Proof.MixBothClaim.lean ====
module

public import proofs.«01_k».proof.Defs
public import proofs.«01_k».proof.Proof.Gen.MixBoth.Frame
public import proofs.«01_k».proof.Proof.MixBothArrays
public import proofs.«01_k».proof.Proof.MixBothRefValue
public import proofs.«01_k».proof.Proof.Gen.MixBothRefIdeal.Run
public import proofs.«01_k».proof.Proof.Reads

@[expose] public section

/-! The five claims about the first mixer's output product. -/

noncomputable section

namespace Cert.MixBothClaim

open Idealize.ShloMosaic TcCoe Idealize.SL.Sem Cert

theorem frame : Cert.quiescent_MixBoth := fun m ρ _ => Cert.MixBoth.Gen.frame m ρ

theorem frame_ideal : Cert.quiescent_MixBothIdeal := fun m ρ _ => Cert.MixBothIdeal.Gen.frame m ρ

/-- The reference runs on the host and has no counter. -/
theorem frame_ref : Cert.quiescent_MixBothRefIdeal := fun m ρ _ =>
  (θ_run Cert.MixBothRefIdeal.defs _ _).mono
    (fun r h => ⟨fun c => (h c).2.2.2, sem_eq_zero_of_no_sems (by decide) r.2⟩)
    (Cert.MixBothRefIdeal.Value.run (F := Ideal) m ρ)

theorem preserves : Cert.preserves_MixBoth_MixBothIdeal := trivial

section
open Cert.MixBothRefIdeal

variable (m : (ℓ : Loc nD τ sig) → Buf (Elt Ideal) ℓ) (c : Dev nD)

/-- The reference's arguments, as launched. -/
abbrev sRef : MixBothSpec.Half := m (slot c main_arg0)
abbrev pRef : MixBothSpec.Half := m (slot c main_arg1)
abbrev wRef : MixBothSpec.Mat := m (slot c main_arg2)
abbrev hRef : MixBothSpec.Res := m (slot c main_arg3)
abbrev mRef : MixBothSpec.Mods := m (slot c main_arg4)
abbrev gRef : MixBothSpec.Gain := m (slot c main_arg5)
abbrev nRef : MixBothSpec.Mods := m (slot c main_arg6)

/-- The reference's run, its results named. -/
theorem ref_run (ρ : Dev nD → PrngReg) :
    θ_run (defs (F := Ideal)) (onTc (τ := τ) (main (F := Ideal))) ⟨m, fun _ => 0, ρ⟩ fun r => ∀ c : Dev nD,
      r.2.mem (slot c main_v7) = MixBothSpec.x (sRef m c) (pRef m c) (wRef m c) (hRef m c) (mRef m c)
      ∧ r.2.mem (slot c main_v8) = MixBothSpec.y (sRef m c) (pRef m c) (wRef m c)
      ∧ r.2.mem (slot c main_v29)
        = MixBothSpec.hn (sRef m c) (pRef m c) (wRef m c) (hRef m c) (mRef m c) (gRef m c) (nRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5)
      ∧ r.2.mem (slot c main_arg6) = m (slot c main_arg6) :=
  (θ_run (defs (F := Ideal)) _ _).mono (fun r h c =>
      ⟨(h c).1.trans ((Read.val_main_v7_eq _ _ _ _ _).trans (MixBothRefIdeal.Hand.x_eq _ _ _ _ _)),
       (h c).2.1.trans ((Read.val_main_v8_eq _ _ _).trans (MixBothRefIdeal.Hand.y_eq _ _ _)),
       (h c).2.2.1.trans ((Read.val_main_v29_eq _ _ _ _ _ _ _).trans (MixBothRefIdeal.Hand.hn_eq _ _ _ _ _ _ _)),
       (h c).2.2.2⟩)
    (Value.run (F := Ideal) m ρ)

end

/-- Equal arguments give equal results. -/
theorem algebraic : Cert.algebraic_MixBothIdeal_MixBothRefIdeal := by
  intro m ρ m' ρ' _ hagree
  refine ⟨fun c => MixBothSpec.x (MixBothIdeal.Hand.sArr m c) (MixBothIdeal.Hand.pArr m c) (MixBothIdeal.Hand.wArr m c) (MixBothIdeal.Hand.hArr m c) (MixBothIdeal.Hand.mArr m c),
    fun c => MixBothSpec.y (MixBothIdeal.Hand.sArr m c) (MixBothIdeal.Hand.pArr m c) (MixBothIdeal.Hand.wArr m c),
    fun c => MixBothSpec.hn (MixBothIdeal.Hand.sArr m c) (MixBothIdeal.Hand.pArr m c) (MixBothIdeal.Hand.wArr m c) (MixBothIdeal.Hand.hArr m c)
      (MixBothIdeal.Hand.mArr m c) (MixBothIdeal.Hand.gArr m c) (MixBothIdeal.Hand.nArr m c),
    (θ_run (MixBothIdeal.defs (F := Ideal)) _ _).mono (fun r h c =>
      ⟨(h c).1.trans (MixBothIdeal.Hand.x_arr m c), (h c).2.1.trans (MixBothIdeal.Hand.y_arr m c),
       (h c).2.2.1.trans (MixBothIdeal.Hand.hn_arr m c), (h c).2.2.2⟩)
      (MixBothIdeal.Value.run_blocks (F := Ideal) m ρ),
    (θ_run (MixBothRefIdeal.defs (F := Ideal)) _ _).mono (fun r h c => ?_) (ref_run m' ρ')⟩
  have h0 : sRef m' c = MixBothIdeal.Hand.sArr m c := (hagree c).1
  have h1 : pRef m' c = MixBothIdeal.Hand.pArr m c := (hagree c).2.1
  have h2 : wRef m' c = MixBothIdeal.Hand.wArr m c := (hagree c).2.2.1
  have h3 : hRef m' c = MixBothIdeal.Hand.hArr m c := (hagree c).2.2.2.1
  have h4 : mRef m' c = MixBothIdeal.Hand.mArr m c := (hagree c).2.2.2.2.1
  have h5 : gRef m' c = MixBothIdeal.Hand.gArr m c := (hagree c).2.2.2.2.2.1
  have h6 : nRef m' c = MixBothIdeal.Hand.nArr m c := (hagree c).2.2.2.2.2.2
  have hc := h c
  rw [h0, h1, h2, h3, h4, h5, h6] at hc
  exact hc

end Cert.MixBothClaim

end
-- ==== Proof.WeightCatSpec.lean ====
module

public import proofs.«01_k».proof.Proof.WeightAddSpec

@[expose] public section

/-! The gradient of a weight whose output columns come from several arrays laid side by side. -/

noncomputable section

namespace Cert.WeightSpec

open Idealize.ShloMosaic

abbrev Tall (k : ℕ) := (⟨2, ![16384, k]⟩ : Shape).Idx → EReal

/-- Three arrays side by side. -/
def cat3At (x y z : Tall 1024) (n : Fin 16384) (k : Fin 3072) : EReal :=
  if h : k.val < 1024 then x (ix2 n ⟨k.val, h⟩)
  else if h' : k.val < 2048 then y (ix2 n ⟨k.val - 1024, by omega⟩)
  else z (ix2 n ⟨k.val - 2048, by omega⟩)

/-- Four arrays side by side. -/
def cat4At (x y z u : Tall 512) (n : Fin 16384) (k : Fin 2048) : EReal :=
  if h : k.val < 512 then x (ix2 n ⟨k.val, h⟩)
  else if h' : k.val < 1024 then y (ix2 n ⟨k.val - 512, by omega⟩)
  else if h'' : k.val < 1536 then z (ix2 n ⟨k.val - 1024, by omega⟩)
  else u (ix2 n ⟨k.val - 1536, by omega⟩)

def cat3 (x y z : Tall 1024) : Tall 3072 := fun i => cat3At x y z (i 0) (i 1)
def cat4 (x y z u : Tall 512) : Tall 2048 := fun i => cat4At x y z u (i 0) (i 1)

/-- Terms added up point after point over 16 blocks of 1024 rows, from `z` at each multiple of sixteen: after the sixteenth
    point of a run, `z` and the sum over all the rows. -/
theorem total_from16 {N : ℕ} (f : (n : ℕ) → n < N → EReal) (z : ℕ → EReal) (d : ℕ → ℕ → EReal)
    (h0 : ∀ t : Fin N, t.val % 16 = 0 → f t.val t.isLt
      = z (t.val / 16) + ∑ r : Fin 1024, d (t.val / 16) (1024 * (t.val % 16) + r.val))
    (hs : ∀ t : Fin N, ¬t.val % 16 = 0 → f t.val t.isLt
      = f (t.val - 1) (Nat.lt_of_le_of_lt (Nat.sub_le _ _) t.isLt)
        + ∑ r : Fin 1024, d (t.val / 16) (1024 * (t.val % 16) + r.val))
    (t : Fin N) (h : t.val % 16 = 15) : f t.val t.isLt = z (t.val / 16) + ∑ n ∈ Finset.range 16384, d (t.val / 16) n := by
  have e : ∀ f : ℕ → EReal, ∑ n ∈ Finset.range 16, ∑ r : Fin 1024, f (1024 * n + r.val) = ∑ n ∈ Finset.range 16384, f n := by
    intro f
    rw [show Finset.range 16384 = Finset.range (16 * 1024) from rfl, Finset.sum_range_mul_split]
    refine Finset.sum_congr rfl fun n _ => ?_
    rw [Finset.sum_range]
    simp only [mul_comm]
  rw [← e]
  have := Pipeline.eq_sum_of_reset_step_divmod f 16 0
    (fun j k => (if k = 0 then z j else 0) + ∑ r : Fin 1024, d j (1024 * k + r.val))
    (fun t h => by rw [h0 t h, if_pos h, zero_add]) (fun t h => by rw [hs t h, if_neg h, zero_add]) t
  rw [zero_add, h, Finset.sum_add_distrib, Finset.sum_ite_eq' (Finset.range (15 + 1)) 0, if_pos (by decide)] at this
  exact this

end Cert.WeightSpec

end
-- ==== Proof.MixThreeArrays.lean ====
module

public import proofs.«01_k».proof.Proof.Gen.MixThreeIdeal.Value
public import proofs.«01_k».proof.Proof.WeightCatSpec
public import proofs.«01_k».proof.Proof.Reads

@[expose] public section

/-! The gradient of the second mixer's input weight, from three arriving gradients: what a grid point reads and adds, and the array the run leaves. -/

noncomputable section

namespace Cert.MixThreeIdeal.Hand

open Cert.MixThreeIdeal Cert.MixThreeIdeal.Gen Idealize.ShloMosaic TcCoe Idealize.SL.Sem Cert

variable (m : (ℓ : Loc nD τ sig) → Buf (Elt Ideal) ℓ) (c : Dev nD)

/-- The arguments, as launched. -/
abbrev aArr : WeightSpec.Tall 1024 := m (slot c main_arg0)
abbrev xArr : WeightSpec.Tall 1024 := m (slot c main_arg1)
abbrev yArr : WeightSpec.Tall 1024 := m (slot c main_arg2)
abbrev zArr : WeightSpec.Tall 1024 := m (slot c main_arg3)
/-- The arriving gradients side by side. -/
abbrev gArr : WeightSpec.Tall 3072 := WeightSpec.cat3 (xArr m c) (yArr m c) (zArr m c)

theorem t_lt (t : Fin cfg0.N) : t.val < 32 := lt_of_lt_of_eq t.isLt N_0

/-- Row `r` of point `t`'s input blocks, and column `r` of the first one's, in the whole arrays. -/
def row (t : Fin cfg0.N) (r : Fin 1024) : Fin 16384 := ⟨1024 * (t.val % 16) + r.val, by omega⟩
def col (t : Fin cfg0.N) (r : Fin 512) : Fin 1024 := ⟨512 * (t.val / 16) + r.val, by have := t_lt t; omega⟩

def at0 (k : Fin 1024) : Fin 3072 := ⟨k.val, by omega⟩
def at1 (k : Fin 1024) : Fin 3072 := ⟨1024 + k.val, by omega⟩
def at2 (k : Fin 1024) : Fin 3072 := ⟨2048 + k.val, by omega⟩

theorem index0 : ∀ t : Fin grid0.N, win0_0.index t = ![t.val % 16, t.val / 16] := by decide +kernel
theorem index1 : ∀ t : Fin grid0.N, win0_1.index t = ![t.val % 16, 0] := by decide +kernel
theorem index2 : ∀ t : Fin grid0.N, win0_2.index t = ![t.val % 16, 0] := by decide +kernel
theorem index3 : ∀ t : Fin grid0.N, win0_3.index t = ![t.val % 16, 0] := by decide +kernel
theorem index4 : ∀ t : Fin grid0.N, win0_4.index t = ![t.val / 16, 0] := by decide +kernel

theorem blk0 (t : Fin cfg0.N) (r : Fin 1024) (k : Fin 512) : iblk m c 0 t (ix2 r k) = aArr m c (ix2 (row t r) (col t k)) := by
  have := t_lt t
  refine read_at (V_main_arg0 m c) fun a => ?_
  match a with
  | ⟨0, _⟩ => blk_simp [index0]; simp [row]; omega
  | ⟨1, _⟩ => blk_simp [index0]; simp [col]; omega

theorem blk1 (t : Fin cfg0.N) (r : Fin 1024) (k : Fin 1024) : iblk m c 1 t (ix2 r k) = xArr m c (ix2 (row t r) k) := by
  have := t_lt t
  refine read_at (V_main_arg1 m c) fun a => ?_
  match a with
  | ⟨0, _⟩ => blk_simp [index1]; simp [row]; omega
  | ⟨1, _⟩ => blk_simp [index1]

theorem blk2 (t : Fin cfg0.N) (r : Fin 1024) (k : Fin 1024) : iblk m c 2 t (ix2 r k) = yArr m c (ix2 (row t r) k) := by
  have := t_lt t
  refine read_at (V_main_arg2 m c) fun a => ?_
  match a with
  | ⟨0, _⟩ => blk_simp [index2]; simp [row]; omega
  | ⟨1, _⟩ => blk_simp [index2]

theorem blk3 (t : Fin cfg0.N) (r : Fin 1024) (k : Fin 1024) : iblk m c 3 t (ix2 r k) = zArr m c (ix2 (row t r) k) := by
  have := t_lt t
  refine read_at (V_main_arg3 m c) fun a => ?_
  match a with
  | ⟨0, _⟩ => blk_simp [index3]; simp [row]; omega
  | ⟨1, _⟩ => blk_simp [index3]

theorem emb4 (t : Fin cfg0.N) (r : Fin 512) (k : Fin 3072) :
    ((cfg0.win 4).blk t).view.emb (ix2 r k) = ix2 (col t r) k := by
  have := t_lt t
  refine funext fun a => Fin.ext ?_
  match a with
  | ⟨0, _⟩ => blk_simp [index4]; simp [col]; omega
  | ⟨1, _⟩ => blk_simp [index4]

/-- What point `t` adds to place `(r, k)` of the output block. -/
def adds (t : Fin cfg0.N) (r : Fin 512) (k : Fin 3072) : EReal :=
  ∑ n : Fin 1024, WeightSpec.term (aArr m c) (gArr m c) (col t r) k (1024 * (t.val % 16) + n.val)

theorem g_at0 (n : Fin 16384) (k : Fin 1024) : gArr m c (ix2 n (at0 k)) = xArr m c (ix2 n k) := by
  show WeightSpec.cat3At (xArr m c) (yArr m c) (zArr m c) n (at0 k) = _
  unfold WeightSpec.cat3At
  rw [dif_pos (show (at0 k).val < 1024 by simp only [at0]; omega)]
  exact congrArg (fun j => xArr m c (ix2 n j)) (Fin.ext (by show k.val = k.val; rfl))

theorem adds_at0 (t : Fin cfg0.N) (r : Fin 512) (k : Fin 1024) :
    ∑ n : Fin 1024, @HMul.hMul EReal EReal EReal _ (iblk m c 0 t (ix2 n r)) (iblk m c 1 t (ix2 n k)) = adds m c t r (at0 k) := by
  unfold adds
  refine Finset.sum_congr rfl fun n _ => ?_
  refine (WeightSpec.mul_eq (blk0 m c t n r) ((blk1 m c t n k).trans (g_at0 m c (row t n) k).symm)).trans ?_
  exact (WeightSpec.term_val (aArr m c) (gArr m c) (col t r) (at0 k) (row t n)).symm

theorem g_at1 (n : Fin 16384) (k : Fin 1024) : gArr m c (ix2 n (at1 k)) = yArr m c (ix2 n k) := by
  show WeightSpec.cat3At (xArr m c) (yArr m c) (zArr m c) n (at1 k) = _
  unfold WeightSpec.cat3At
  rw [dif_neg (show ¬ (at1 k).val < 1024 by simp only [at1]; omega)]
  rw [dif_pos (show (at1 k).val < 2048 by simp only [at1]; omega)]
  exact congrArg (fun j => yArr m c (ix2 n j)) (Fin.ext (by show 1024 + k.val - 1024 = k.val; omega))

theorem adds_at1 (t : Fin cfg0.N) (r : Fin 512) (k : Fin 1024) :
    ∑ n : Fin 1024, @HMul.hMul EReal EReal EReal _ (iblk m c 0 t (ix2 n r)) (iblk m c 2 t (ix2 n k)) = adds m c t r (at1 k) := by
  unfold adds
  refine Finset.sum_congr rfl fun n _ => ?_
  refine (WeightSpec.mul_eq (blk0 m c t n r) ((blk2 m c t n k).trans (g_at1 m c (row t n) k).symm)).trans ?_
  exact (WeightSpec.term_val (aArr m c) (gArr m c) (col t r) (at1 k) (row t n)).symm

theorem g_at2 (n : Fin 16384) (k : Fin 1024) : gArr m c (ix2 n (at2 k)) = zArr m c (ix2 n k) := by
  show WeightSpec.cat3At (xArr m c) (yArr m c) (zArr m c) n (at2 k) = _
  unfold WeightSpec.cat3At
  rw [dif_neg (show ¬ (at2 k).val < 1024 by simp only [at2]; omega)]
  rw [dif_neg (show ¬ (at2 k).val < 2048 by simp only [at2]; omega)]
  exact congrArg (fun j => zArr m c (ix2 n j)) (Fin.ext (by show 2048 + k.val - 2048 = k.val; omega))

theorem adds_at2 (t : Fin cfg0.N) (r : Fin 512) (k : Fin 1024) :
    ∑ n : Fin 1024, @HMul.hMul EReal EReal EReal _ (iblk m c 0 t (ix2 n r)) (iblk m c 3 t (ix2 n k)) = adds m c t r (at2 k) := by
  unfold adds
  refine Finset.sum_congr rfl fun n _ => ?_
  refine (WeightSpec.mul_eq (blk0 m c t n r) ((blk3 m c t n k).trans (g_at2 m c (row t n) k).symm)).trans ?_
  exact (WeightSpec.term_val (aArr m c) (gArr m c) (col t r) (at2 k) (row t n)).symm

/-- The first point of a run starts from zero. -/
theorem out_A (t : Fin cfg0.N) (h0 : t.val % 16 = 0) (i : S512x3072.Idx) :
    outsAt0 m c t.val t.isLt i = adds m c t (i 0) (i 1) := by
  rw [outsAt0_A m c t h0 (by omega)]
  frame_out
  let G : Vec Idealize.ShloMosaic.Ideal S512x3072 .f32 := fun i => adds m c t (i 0) (i 1)
  show _ = G i
  refine View.canon_apply_of_pieces G _ (fun p hp j => ?_) i (View.cover_of_tiledL _ ![512, 1024] (by sl_kernel_rfl) i)
  simp only [List.mem_cons, List.mem_nil_iff, or_false] at hp
  rcases hp with rfl | rfl | rfl
  · obtain ⟨r, k, rfl⟩ := pair j
    refine Eq.trans ?_ (View.ld_unit_apply_of G _ _ inb_S512x3072_S512x1024_0_2048 (ix2 r k) (ix2 r (at2 k)) fun a => match a with
      | ⟨0, _⟩ => (Nat.zero_add _).symm
      | ⟨1, _⟩ => rfl).symm
    dsimp only
    pointwise [k0_pay3]
    exact adds_at2 m c t r k
  · obtain ⟨r, k, rfl⟩ := pair j
    refine Eq.trans ?_ (View.ld_unit_apply_of G _ _ inb_S512x3072_S512x1024_0_1024 (ix2 r k) (ix2 r (at1 k)) fun a => match a with
      | ⟨0, _⟩ => (Nat.zero_add _).symm
      | ⟨1, _⟩ => rfl).symm
    dsimp only
    pointwise [k0_pay2]
    exact adds_at1 m c t r k
  · obtain ⟨r, k, rfl⟩ := pair j
    refine Eq.trans ?_ (View.ld_unit_apply_of G _ _ inb_S512x3072_S512x1024_0_0 (ix2 r k) (ix2 r (at0 k)) fun a => match a with
      | ⟨0, _⟩ => (Nat.zero_add _).symm
      | ⟨1, _⟩ => (Nat.zero_add _).symm).symm
    dsimp only
    pointwise [k0_pay1]
    exact adds_at0 m c t r k

/-- Every later point adds its rows. -/
theorem out_B (t : Fin cfg0.N) (h0 : ¬t.val % 16 = 0) (i : S512x3072.Idx) :
    outsAt0 m c t.val t.isLt i
      = outsAt0 m c (t.val - 1) (Nat.lt_of_le_of_lt (Nat.sub_le _ _) t.isLt) i + adds m c t (i 0) (i 1) := by
  rw [outsAt0_B m c t h0 (by omega)]
  frame_out
  generalize outsAt0 m c (t.val - 1) (Nat.lt_of_le_of_lt (Nat.sub_le _ _) t.isLt) = before
  let G : Vec Idealize.ShloMosaic.Ideal S512x3072 .f32 := fun i => before i + adds m c t (i 0) (i 1)
  show _ = G i
  refine View.canon_apply_of_pieces G _ (fun p hp j => ?_) i (View.cover_of_tiledL _ ![512, 1024] (by sl_kernel_rfl) i)
  simp only [List.mem_cons, List.mem_nil_iff, or_false] at hp
  rcases hp with rfl | rfl | rfl
  · obtain ⟨r, k, rfl⟩ := pair j
    refine Eq.trans ?_ (View.ld_unit_apply_of G _ _ inb_S512x3072_S512x1024_0_2048 (ix2 r k) (ix2 r (at2 k)) fun a => match a with
      | ⟨0, _⟩ => (Nat.zero_add _).symm
      | ⟨1, _⟩ => rfl).symm
    dsimp only
    pointwise [k0_pay6]
    exact congrArg₂ (· + ·) rfl (adds_at2 m c t r k)
  · obtain ⟨r, k, rfl⟩ := pair j
    refine Eq.trans ?_ (View.ld_unit_apply_of G _ _ inb_S512x3072_S512x1024_0_1024 (ix2 r k) (ix2 r (at1 k)) fun a => match a with
      | ⟨0, _⟩ => (Nat.zero_add _).symm
      | ⟨1, _⟩ => rfl).symm
    dsimp only
    pointwise [k0_pay5]
    exact congrArg₂ (· + ·) rfl (adds_at1 m c t r k)
  · obtain ⟨r, k, rfl⟩ := pair j
    refine Eq.trans ?_ (View.ld_unit_apply_of G _ _ inb_S512x3072_S512x1024_0_0 (ix2 r k) (ix2 r (at0 k)) fun a => match a with
      | ⟨0, _⟩ => (Nat.zero_add _).symm
      | ⟨1, _⟩ => (Nat.zero_add _).symm).symm
    dsimp only
    pointwise [k0_pay4]
    exact congrArg₂ (· + ·) rfl (adds_at0 m c t r k)

/-- The terms of run `j`, at one place of the output block. -/
def runTerm (r : Fin 512) (k : Fin 3072) : ℕ → ℕ → EReal :=
  fun j n => if h : 512 * j + r.val < 1024 then WeightSpec.term (aArr m c) (gArr m c) ⟨512 * j + r.val, h⟩ k n else 0

theorem runTerm_at (t : Fin cfg0.N) (r : Fin 512) (k : Fin 3072) (n : ℕ) :
    runTerm m c r k (t.val / 16) n = WeightSpec.term (aArr m c) (gArr m c) (col t r) k n := by
  have := t_lt t
  unfold runTerm
  rw [dif_pos (by omega)]
  rfl

/-- After the last point of a run the block holds the whole gradient. -/
theorem out_last (t : Fin cfg0.N) (h : t.val % 16 = 15) (r : Fin 512) (k : Fin 3072) :
    outsAt0 m c t.val t.isLt (ix2 r k) = WeightSpec.dw (aArr m c) (gArr m c) (ix2 (col t r) k) := by
  refine (WeightSpec.total_from16 (fun n h => outsAt0 m c n h (ix2 r k)) (fun _ => 0) (runTerm m c r k)
    (fun t h0 => ?_) (fun t h0 => ?_) t h).trans ?_
  · simp only [runTerm_at, zero_add]
    exact out_A m c t h0 (ix2 r k)
  · simp only [runTerm_at]
    exact out_B m c t h0 (ix2 r k)
  · simp only [runTerm_at, zero_add]
    rfl

theorem flush_at : ∀ t : Fin grid0.N, (cfg0.win 4).flush t = true → t.val % 16 = 15 := by decide +kernel

theorem dw_arr : (dats m 0 c).arrAt 4 cfg0.N = WeightSpec.dw (aArr m c) (gArr m c) := by
  refine (dats m 0 c).arrAt_eq_of_covers 4 _ (by decide +kernel) fun t hf y => ?_
  rw [after0_4]
  obtain ⟨r, k, rfl⟩ := pair y
  rw [emb4]
  exact out_last m c t (flush_at t hf) r k

end Cert.MixThreeIdeal.Hand

end
-- ==== Proof.MixThreeClaim.lean ====
module

public import proofs.«01_k».proof.Defs
public import proofs.«01_k».proof.Proof.Gen.MixThree.Frame
public import proofs.«01_k».proof.Proof.MixThreeArrays
public import proofs.«01_k».proof.Proof.Gen.MixThreeRefIdeal.Run
public import proofs.«01_k».proof.Proof.Gen.MixThreeRefIdeal.Read
public import proofs.«01_k».proof.Proof.Reads

@[expose] public section

/-! The five claims: the gradient of the second mixer's input weight, from three arriving gradients. -/

noncomputable section

namespace Cert.MixThreeClaim

open Idealize.ShloMosaic TcCoe Idealize.SL.Sem Cert

theorem frame : Cert.quiescent_MixThree := fun m ρ _ => Cert.MixThree.Gen.frame m ρ

theorem frame_ideal : Cert.quiescent_MixThreeIdeal := fun m ρ _ => Cert.MixThreeIdeal.Gen.frame m ρ

/-- The reference runs on the host and has no counter. -/
theorem frame_ref : Cert.quiescent_MixThreeRefIdeal := fun m ρ _ =>
  (θ_run Cert.MixThreeRefIdeal.defs _ _).mono
    (fun r h => ⟨fun c => (h c).2, sem_eq_zero_of_no_sems (by decide) r.2⟩)
    (Cert.MixThreeRefIdeal.Value.run (F := Ideal) m ρ)

theorem preserves : Cert.preserves_MixThree_MixThreeIdeal := trivial

section
open Cert.MixThreeRefIdeal Cert.MixThreeRefIdeal.Read

/-- The arriving gradients side by side, as the reference lays them. -/
theorem ref_cat (x y z : WeightSpec.Tall 1024) : val_main_v0 (F := Ideal) x y z = WeightSpec.cat3 x y z := by
  funext i
  obtain ⟨p, k, rfl⟩ := pair i
  pointwise [val_main_v0]
  show _ = WeightSpec.cat3At x y z p k
  unfold WeightSpec.cat3At
  split_ifs <;> (repeat' split) <;> first | omega | simp only [Nat.sub_sub, Nat.reduceAdd] | rfl

/-- What the reference computes. -/
theorem ref_value (a : WeightSpec.Tall 1024) (x y z : WeightSpec.Tall 1024) :
    val_main_v6 (F := Ideal) a x y z = WeightSpec.dw a (WeightSpec.cat3 x y z) := by
  funext i
  obtain ⟨p, k, rfl⟩ := pair i
  have e : val_main_v6 (F := Ideal) a x y z (ix2 p k) = WeightSpec.dw a (WeightSpec.cat3 x y z) (ix2 p k) := by
    pointwise [val_main_v6, val_main_v5, val_main_v4, val_main_v2]
    unfold WeightSpec.dw
    rw [Finset.sum_range]
    refine Finset.sum_congr rfl fun n _ => ?_
    rw [ref_cat]
    refine (mul_comm _ _).trans ?_
    exact (WeightSpec.term_val a (WeightSpec.cat3 x y z) p k n).symm
  exact e

variable (m : (ℓ : Loc nD τ sig) → Buf (Elt Ideal) ℓ) (c : Dev nD)

/-- The reference's arguments, as launched. -/
abbrev aRef : WeightSpec.Tall 1024 := m (slot c main_arg0)
abbrev xRef : WeightSpec.Tall 1024 := m (slot c main_arg1)
abbrev yRef : WeightSpec.Tall 1024 := m (slot c main_arg2)
abbrev zRef : WeightSpec.Tall 1024 := m (slot c main_arg3)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v6) = WeightSpec.dw (aRef m c) (WeightSpec.cat3 (xRef m c) (yRef m c) (zRef m c))
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3) :=
  (θ_run (defs (F := Ideal)) _ _).mono (fun r h c =>
      ⟨(h c).1.trans ((val_main_v6_eq _ _ _ _).trans (ref_value _ _ _ _)), (h c).2⟩)
    (Value.run (F := Ideal) m ρ)

end

/-- Equal arguments give equal results. -/
theorem algebraic : Cert.algebraic_MixThreeIdeal_MixThreeRefIdeal := by
  intro m ρ m' ρ' _ hagree
  refine ⟨fun c => WeightSpec.dw (MixThreeIdeal.Hand.aArr m c) (MixThreeIdeal.Hand.gArr m c),
    (θ_run (MixThreeIdeal.defs (F := Ideal)) _ _).mono (fun r h c => ⟨(h c).1.trans (MixThreeIdeal.Hand.dw_arr m c), (h c).2⟩)
      (MixThreeIdeal.Value.run_blocks (F := Ideal) m ρ),
    (θ_run (MixThreeRefIdeal.defs (F := Ideal)) _ _).mono (fun r h c => ?_) (ref_run m' ρ')⟩
  have h0 : aRef m' c = MixThreeIdeal.Hand.aArr m c := (hagree c).1
  have h1 : xRef m' c = MixThreeIdeal.Hand.xArr m c := (hagree c).2.1
  have h2 : yRef m' c = MixThreeIdeal.Hand.yArr m c := (hagree c).2.2.1
  have h3 : zRef m' c = MixThreeIdeal.Hand.zArr m c := (hagree c).2.2.2
  have hc := h c
  rw [h0, h1, h2, h3] at hc
  exact hc

end Cert.MixThreeClaim

end
-- ==== Proof.MixFourArrays.lean ====
module

public import proofs.«01_k».proof.Proof.Gen.MixFourIdeal.Value
public import proofs.«01_k».proof.Proof.WeightCatSpec
public import proofs.«01_k».proof.Proof.Reads

@[expose] public section

/-! The gradient of the first mixer's input weight, from four arriving gradients, added to another: what a grid point reads and adds, and the array the run leaves. -/

noncomputable section

namespace Cert.MixFourIdeal.Hand

open Cert.MixFourIdeal Cert.MixFourIdeal.Gen Idealize.ShloMosaic TcCoe Idealize.SL.Sem Cert

variable (m : (ℓ : Loc nD τ sig) → Buf (Elt Ideal) ℓ) (c : Dev nD)

/-- The arguments, as launched. -/
abbrev aArr : WeightSpec.Tall 1024 := m (slot c main_arg0)
abbrev xArr : WeightSpec.Tall 512 := m (slot c main_arg1)
abbrev yArr : WeightSpec.Tall 512 := m (slot c main_arg2)
abbrev zArr : WeightSpec.Tall 512 := m (slot c main_arg3)
abbrev uArr : WeightSpec.Tall 512 := m (slot c main_arg4)
abbrev accArr : (⟨2, ![1024, 2048]⟩ : Shape).Idx → EReal := m (slot c main_arg5)
/-- The arriving gradients side by side. -/
abbrev gArr : WeightSpec.Tall 2048 := WeightSpec.cat4 (xArr m c) (yArr m c) (zArr m c) (uArr m c)

theorem t_lt (t : Fin cfg0.N) : t.val < 32 := lt_of_lt_of_eq t.isLt N_0

/-- Row `r` of point `t`'s input blocks, and column `r` of the first one's, in the whole arrays. -/
def row (t : Fin cfg0.N) (r : Fin 1024) : Fin 16384 := ⟨1024 * (t.val % 16) + r.val, by omega⟩
def col (t : Fin cfg0.N) (r : Fin 512) : Fin 1024 := ⟨512 * (t.val / 16) + r.val, by have := t_lt t; omega⟩

def at0 (k : Fin 512) : Fin 2048 := ⟨k.val, by omega⟩
def at1 (k : Fin 512) : Fin 2048 := ⟨512 + k.val, by omega⟩
def at2 (k : Fin 512) : Fin 2048 := ⟨1024 + k.val, by omega⟩
def at3 (k : Fin 512) : Fin 2048 := ⟨1536 + k.val, by omega⟩

theorem index0 : ∀ t : Fin grid0.N, win0_0.index t = ![t.val % 16, t.val / 16] := by decide +kernel
theorem index1 : ∀ t : Fin grid0.N, win0_1.index t = ![t.val % 16, 0] := by decide +kernel
theorem index2 : ∀ t : Fin grid0.N, win0_2.index t = ![t.val % 16, 0] := by decide +kernel
theorem index3 : ∀ t : Fin grid0.N, win0_3.index t = ![t.val % 16, 0] := by decide +kernel
theorem index4 : ∀ t : Fin grid0.N, win0_4.index t = ![t.val % 16, 0] := by decide +kernel
theorem index5 : ∀ t : Fin grid0.N, win0_5.index t = ![t.val / 16, 0] := by decide +kernel
theorem index6 : ∀ t : Fin grid0.N, win0_6.index t = ![t.val / 16, 0] := by decide +kernel

theorem blk0 (t : Fin cfg0.N) (r : Fin 1024) (k : Fin 512) : iblk m c 0 t (ix2 r k) = aArr m c (ix2 (row t r) (col t k)) := by
  have := t_lt t
  refine read_at (V_main_arg0 m c) fun a => ?_
  match a with
  | ⟨0, _⟩ => blk_simp [index0]; simp [row]; omega
  | ⟨1, _⟩ => blk_simp [index0]; simp [col]; omega

theorem blk1 (t : Fin cfg0.N) (r : Fin 1024) (k : Fin 512) : iblk m c 1 t (ix2 r k) = xArr m c (ix2 (row t r) k) := by
  have := t_lt t
  refine read_at (V_main_arg1 m c) fun a => ?_
  match a with
  | ⟨0, _⟩ => blk_simp [index1]; simp [row]; omega
  | ⟨1, _⟩ => blk_simp [index1]

theorem blk2 (t : Fin cfg0.N) (r : Fin 1024) (k : Fin 512) : iblk m c 2 t (ix2 r k) = yArr m c (ix2 (row t r) k) := by
  have := t_lt t
  refine read_at (V_main_arg2 m c) fun a => ?_
  match a with
  | ⟨0, _⟩ => blk_simp [index2]; simp [row]; omega
  | ⟨1, _⟩ => blk_simp [index2]

theorem blk3 (t : Fin cfg0.N) (r : Fin 1024) (k : Fin 512) : iblk m c 3 t (ix2 r k) = zArr m c (ix2 (row t r) k) := by
  have := t_lt t
  refine read_at (V_main_arg3 m c) fun a => ?_
  match a with
  | ⟨0, _⟩ => blk_simp [index3]; simp [row]; omega
  | ⟨1, _⟩ => blk_simp [index3]

theorem blk4 (t : Fin cfg0.N) (r : Fin 1024) (k : Fin 512) : iblk m c 4 t (ix2 r k) = uArr m c (ix2 (row t r) k) := by
  have := t_lt t
  refine read_at (V_main_arg4 m c) fun a => ?_
  match a with
  | ⟨0, _⟩ => blk_simp [index4]; simp [row]; omega
  | ⟨1, _⟩ => blk_simp [index4]

theorem blk5 (t : Fin cfg0.N) (r : Fin 512) (k : Fin 2048) : iblk m c 5 t (ix2 r k) = accArr m c (ix2 (col t r) k) := by
  have := t_lt t
  refine read_at (V_main_arg5 m c) fun a => ?_
  match a with
  | ⟨0, _⟩ => blk_simp [index5]; simp [col]; omega
  | ⟨1, _⟩ => blk_simp [index5]

theorem emb6 (t : Fin cfg0.N) (r : Fin 512) (k : Fin 2048) :
    ((cfg0.win 6).blk t).view.emb (ix2 r k) = ix2 (col t r) k := by
  have := t_lt t
  refine funext fun a => Fin.ext ?_
  match a with
  | ⟨0, _⟩ => blk_simp [index6]; simp [col]; omega
  | ⟨1, _⟩ => blk_simp [index6]

/-- What point `t` adds to place `(r, k)` of the output block. -/
def adds (t : Fin cfg0.N) (r : Fin 512) (k : Fin 2048) : EReal :=
  ∑ n : Fin 1024, WeightSpec.term (aArr m c) (gArr m c) (col t r) k (1024 * (t.val % 16) + n.val)

theorem g_at0 (n : Fin 16384) (k : Fin 512) : gArr m c (ix2 n (at0 k)) = xArr m c (ix2 n k) := by
  show WeightSpec.cat4At (xArr m c) (yArr m c) (zArr m c) (uArr m c) n (at0 k) = _
  unfold WeightSpec.cat4At
  rw [dif_pos (show (at0 k).val < 512 by simp only [at0]; omega)]
  exact congrArg (fun j => xArr m c (ix2 n j)) (Fin.ext (by show k.val = k.val; rfl))

theorem adds_at0 (t : Fin cfg0.N) (r : Fin 512) (k : Fin 512) :
    ∑ n : Fin 1024, @HMul.hMul EReal EReal EReal _ (iblk m c 0 t (ix2 n r)) (iblk m c 1 t (ix2 n k)) = adds m c t r (at0 k) := by
  unfold adds
  refine Finset.sum_congr rfl fun n _ => ?_
  refine (WeightSpec.mul_eq (blk0 m c t n r) ((blk1 m c t n k).trans (g_at0 m c (row t n) k).symm)).trans ?_
  exact (WeightSpec.term_val (aArr m c) (gArr m c) (col t r) (at0 k) (row t n)).symm

theorem g_at1 (n : Fin 16384) (k : Fin 512) : gArr m c (ix2 n (at1 k)) = yArr m c (ix2 n k) := by
  show WeightSpec.cat4At (xArr m c) (yArr m c) (zArr m c) (uArr m c) n (at1 k) = _
  unfold WeightSpec.cat4At
  rw [dif_neg (show ¬ (at1 k).val < 512 by simp only [at1]; omega)]
  rw [dif_pos (show (at1 k).val < 1024 by simp only [at1]; omega)]
  exact congrArg (fun j => yArr m c (ix2 n j)) (Fin.ext (by show 512 + k.val - 512 = k.val; omega))

theorem adds_at1 (t : Fin cfg0.N) (r : Fin 512) (k : Fin 512) :
    ∑ n : Fin 1024, @HMul.hMul EReal EReal EReal _ (iblk m c 0 t (ix2 n r)) (iblk m c 2 t (ix2 n k)) = adds m c t r (at1 k) := by
  unfold adds
  refine Finset.sum_congr rfl fun n _ => ?_
  refine (WeightSpec.mul_eq (blk0 m c t n r) ((blk2 m c t n k).trans (g_at1 m c (row t n) k).symm)).trans ?_
  exact (WeightSpec.term_val (aArr m c) (gArr m c) (col t r) (at1 k) (row t n)).symm

theorem g_at2 (n : Fin 16384) (k : Fin 512) : gArr m c (ix2 n (at2 k)) = zArr m c (ix2 n k) := by
  show WeightSpec.cat4At (xArr m c) (yArr m c) (zArr m c) (uArr m c) n (at2 k) = _
  unfold WeightSpec.cat4At
  rw [dif_neg (show ¬ (at2 k).val < 512 by simp only [at2]; omega)]
  rw [dif_neg (show ¬ (at2 k).val < 1024 by simp only [at2]; omega)]
  rw [dif_pos (show (at2 k).val < 1536 by simp only [at2]; omega)]
  exact congrArg (fun j => zArr m c (ix2 n j)) (Fin.ext (by show 1024 + k.val - 1024 = k.val; omega))

theorem adds_at2 (t : Fin cfg0.N) (r : Fin 512) (k : Fin 512) :
    ∑ n : Fin 1024, @HMul.hMul EReal EReal EReal _ (iblk m c 0 t (ix2 n r)) (iblk m c 3 t (ix2 n k)) = adds m c t r (at2 k) := by
  unfold adds
  refine Finset.sum_congr rfl fun n _ => ?_
  refine (WeightSpec.mul_eq (blk0 m c t n r) ((blk3 m c t n k).trans (g_at2 m c (row t n) k).symm)).trans ?_
  exact (WeightSpec.term_val (aArr m c) (gArr m c) (col t r) (at2 k) (row t n)).symm

theorem g_at3 (n : Fin 16384) (k : Fin 512) : gArr m c (ix2 n (at3 k)) = uArr m c (ix2 n k) := by
  show WeightSpec.cat4At (xArr m c) (yArr m c) (zArr m c) (uArr m c) n (at3 k) = _
  unfold WeightSpec.cat4At
  rw [dif_neg (show ¬ (at3 k).val < 512 by simp only [at3]; omega)]
  rw [dif_neg (show ¬ (at3 k).val < 1024 by simp only [at3]; omega)]
  rw [dif_neg (show ¬ (at3 k).val < 1536 by simp only [at3]; omega)]
  exact congrArg (fun j => uArr m c (ix2 n j)) (Fin.ext (by show 1536 + k.val - 1536 = k.val; omega))

theorem adds_at3 (t : Fin cfg0.N) (r : Fin 512) (k : Fin 512) :
    ∑ n : Fin 1024, @HMul.hMul EReal EReal EReal _ (iblk m c 0 t (ix2 n r)) (iblk m c 4 t (ix2 n k)) = adds m c t r (at3 k) := by
  unfold adds
  refine Finset.sum_congr rfl fun n _ => ?_
  refine (WeightSpec.mul_eq (blk0 m c t n r) ((blk4 m c t n k).trans (g_at3 m c (row t n) k).symm)).trans ?_
  exact (WeightSpec.term_val (aArr m c) (gArr m c) (col t r) (at3 k) (row t n)).symm

/-- The first point of a run starts from the array it is added to. -/
theorem out_A (t : Fin cfg0.N) (h0 : t.val % 16 = 0) (i : S512x2048.Idx) :
    outsAt0 m c t.val t.isLt i = accArr m c (ix2 (col t (i 0)) (i 1)) + adds m c t (i 0) (i 1) := by
  rw [outsAt0_A m c t h0 (by omega)]
  frame_out
  let G : Vec Idealize.ShloMosaic.Ideal S512x2048 .f32 := fun i => accArr m c (ix2 (col t (i 0)) (i 1)) + adds m c t (i 0) (i 1)
  show _ = G i
  refine View.canon_apply_of_pieces G _ (fun p hp j => ?_) i (View.cover_of_tiledL _ ![512, 512] (by sl_kernel_rfl) i)
  simp only [List.mem_cons, List.mem_nil_iff, or_false] at hp
  rcases hp with rfl | rfl | rfl | rfl
  · obtain ⟨r, k, rfl⟩ := pair j
    refine Eq.trans ?_ (View.ld_unit_apply_of G _ _ inb_S512x2048_S512x512_0_1536 (ix2 r k) (ix2 r (at3 k)) fun a => match a with
      | ⟨0, _⟩ => (Nat.zero_add _).symm
      | ⟨1, _⟩ => rfl).symm
    dsimp only
    pointwise [k0_pay4]
    rw [add_comm]
    exact congrArg₂ (· + ·) (blk5 m c t r (at3 k)) (adds_at3 m c t r k)
  · obtain ⟨r, k, rfl⟩ := pair j
    refine Eq.trans ?_ (View.ld_unit_apply_of G _ _ inb_S512x2048_S512x512_0_1024 (ix2 r k) (ix2 r (at2 k)) fun a => match a with
      | ⟨0, _⟩ => (Nat.zero_add _).symm
      | ⟨1, _⟩ => rfl).symm
    dsimp only
    pointwise [k0_pay3]
    rw [add_comm]
    exact congrArg₂ (· + ·) (blk5 m c t r (at2 k)) (adds_at2 m c t r k)
  · obtain ⟨r, k, rfl⟩ := pair j
    refine Eq.trans ?_ (View.ld_unit_apply_of G _ _ inb_S512x2048_S512x512_0_512 (ix2 r k) (ix2 r (at1 k)) fun a => match a with
      | ⟨0, _⟩ => (Nat.zero_add _).symm
      | ⟨1, _⟩ => rfl).symm
    dsimp only
    pointwise [k0_pay2]
    rw [add_comm]
    exact congrArg₂ (· + ·) (blk5 m c t r (at1 k)) (adds_at1 m c t r k)
  · obtain ⟨r, k, rfl⟩ := pair j
    refine Eq.trans ?_ (View.ld_unit_apply_of G _ _ inb_S512x2048_S512x512_0_0 (ix2 r k) (ix2 r (at0 k)) fun a => match a with
      | ⟨0, _⟩ => (Nat.zero_add _).symm
      | ⟨1, _⟩ => (Nat.zero_add _).symm).symm
    dsimp only
    pointwise [k0_pay1]
    rw [add_comm]
    exact congrArg₂ (· + ·) (blk5 m c t r (at0 k)) (adds_at0 m c t r k)

/-- Every later point adds its rows. -/
theorem out_B (t : Fin cfg0.N) (h0 : ¬t.val % 16 = 0) (i : S512x2048.Idx) :
    outsAt0 m c t.val t.isLt i
      = outsAt0 m c (t.val - 1) (Nat.lt_of_le_of_lt (Nat.sub_le _ _) t.isLt) i + adds m c t (i 0) (i 1) := by
  rw [outsAt0_B m c t h0 (by omega)]
  frame_out
  generalize outsAt0 m c (t.val - 1) (Nat.lt_of_le_of_lt (Nat.sub_le _ _) t.isLt) = before
  let G : Vec Idealize.ShloMosaic.Ideal S512x2048 .f32 := fun i => before i + adds m c t (i 0) (i 1)
  show _ = G i
  refine View.canon_apply_of_pieces G _ (fun p hp j => ?_) i (View.cover_of_tiledL _ ![512, 512] (by sl_kernel_rfl) i)
  simp only [List.mem_cons, List.mem_nil_iff, or_false] at hp
  rcases hp with rfl | rfl | rfl | rfl
  · obtain ⟨r, k, rfl⟩ := pair j
    refine Eq.trans ?_ (View.ld_unit_apply_of G _ _ inb_S512x2048_S512x512_0_1536 (ix2 r k) (ix2 r (at3 k)) fun a => match a with
      | ⟨0, _⟩ => (Nat.zero_add _).symm
      | ⟨1, _⟩ => rfl).symm
    dsimp only
    pointwise [k0_pay8]
    exact congrArg₂ (· + ·) rfl (adds_at3 m c t r k)
  · obtain ⟨r, k, rfl⟩ := pair j
    refine Eq.trans ?_ (View.ld_unit_apply_of G _ _ inb_S512x2048_S512x512_0_1024 (ix2 r k) (ix2 r (at2 k)) fun a => match a with
      | ⟨0, _⟩ => (Nat.zero_add _).symm
      | ⟨1, _⟩ => rfl).symm
    dsimp only
    pointwise [k0_pay7]
    exact congrArg₂ (· + ·) rfl (adds_at2 m c t r k)
  · obtain ⟨r, k, rfl⟩ := pair j
    refine Eq.trans ?_ (View.ld_unit_apply_of G _ _ inb_S512x2048_S512x512_0_512 (ix2 r k) (ix2 r (at1 k)) fun a => match a with
      | ⟨0, _⟩ => (Nat.zero_add _).symm
      | ⟨1, _⟩ => rfl).symm
    dsimp only
    pointwise [k0_pay6]
    exact congrArg₂ (· + ·) rfl (adds_at1 m c t r k)
  · obtain ⟨r, k, rfl⟩ := pair j
    refine Eq.trans ?_ (View.ld_unit_apply_of G _ _ inb_S512x2048_S512x512_0_0 (ix2 r k) (ix2 r (at0 k)) fun a => match a with
      | ⟨0, _⟩ => (Nat.zero_add _).symm
      | ⟨1, _⟩ => (Nat.zero_add _).symm).symm
    dsimp only
    pointwise [k0_pay5]
    exact congrArg₂ (· + ·) rfl (adds_at0 m c t r k)

/-- The terms of run `j`, at one place of the output block. -/
def runTerm (r : Fin 512) (k : Fin 2048) : ℕ → ℕ → EReal :=
  fun j n => if h : 512 * j + r.val < 1024 then WeightSpec.term (aArr m c) (gArr m c) ⟨512 * j + r.val, h⟩ k n else 0

theorem runTerm_at (t : Fin cfg0.N) (r : Fin 512) (k : Fin 2048) (n : ℕ) :
    runTerm m c r k (t.val / 16) n = WeightSpec.term (aArr m c) (gArr m c) (col t r) k n := by
  have := t_lt t
  unfold runTerm
  rw [dif_pos (by omega)]
  rfl

/-- The array that the gradient is added to, at one place of run `j`'s output block. -/
def start (r : Fin 512) (k : Fin 2048) : ℕ → EReal :=
  fun j => if h : 512 * j + r.val < 1024 then accArr m c (ix2 ⟨512 * j + r.val, h⟩ k) else 0

theorem start_at (t : Fin cfg0.N) (r : Fin 512) (k : Fin 2048) :
    start m c r k (t.val / 16) = accArr m c (ix2 (col t r) k) := by
  have := t_lt t
  unfold start
  rw [dif_pos (by omega)]
  rfl

/-- After the last point of a run the block holds the whole gradient. -/
theorem out_last (t : Fin cfg0.N) (h : t.val % 16 = 15) (r : Fin 512) (k : Fin 2048) :
    outsAt0 m c t.val t.isLt (ix2 r k) = WeightSpec.dwAdd (aArr m c) (gArr m c) (accArr m c) (ix2 (col t r) k) := by
  refine (WeightSpec.total_from16 (fun n h => outsAt0 m c n h (ix2 r k)) (start m c r k) (runTerm m c r k)
    (fun t h0 => ?_) (fun t h0 => ?_) t h).trans ?_
  · simp only [runTerm_at, start_at]
    exact out_A m c t h0 (ix2 r k)
  · simp only [runTerm_at]
    exact out_B m c t h0 (ix2 r k)
  · simp only [runTerm_at, start_at]
    rfl

theorem flush_at : ∀ t : Fin grid0.N, (cfg0.win 6).flush t = true → t.val % 16 = 15 := by decide +kernel

theorem dw_arr : (dats m 0 c).arrAt 6 cfg0.N = WeightSpec.dwAdd (aArr m c) (gArr m c) (accArr m c) := by
  refine (dats m 0 c).arrAt_eq_of_covers 6 _ (by decide +kernel) fun t hf y => ?_
  rw [after0_6]
  obtain ⟨r, k, rfl⟩ := pair y
  rw [emb6]
  exact out_last m c t (flush_at t hf) r k

end Cert.MixFourIdeal.Hand

end
-- ==== Proof.MixFourClaim.lean ====
module

public import proofs.«01_k».proof.Defs
public import proofs.«01_k».proof.Proof.Gen.MixFour.Frame
public import proofs.«01_k».proof.Proof.MixFourArrays
public import proofs.«01_k».proof.Proof.Gen.MixFourRefIdeal.Run
public import proofs.«01_k».proof.Proof.Gen.MixFourRefIdeal.Read
public import proofs.«01_k».proof.Proof.Reads

@[expose] public section

/-! The five claims: the gradient of the first mixer's input weight, from four arriving gradients, added to another. -/

noncomputable section

namespace Cert.MixFourClaim

open Idealize.ShloMosaic TcCoe Idealize.SL.Sem Cert

theorem frame : Cert.quiescent_MixFour := fun m ρ _ => Cert.MixFour.Gen.frame m ρ

theorem frame_ideal : Cert.quiescent_MixFourIdeal := fun m ρ _ => Cert.MixFourIdeal.Gen.frame m ρ

/-- The reference runs on the host and has no counter. -/
theorem frame_ref : Cert.quiescent_MixFourRefIdeal := fun m ρ _ =>
  (θ_run Cert.MixFourRefIdeal.defs _ _).mono
    (fun r h => ⟨fun c => (h c).2, sem_eq_zero_of_no_sems (by decide) r.2⟩)
    (Cert.MixFourRefIdeal.Value.run (F := Ideal) m ρ)

theorem preserves : Cert.preserves_MixFour_MixFourIdeal := trivial

section
open Cert.MixFourRefIdeal Cert.MixFourRefIdeal.Read

/-- The arriving gradients side by side, as the reference lays them. -/
theorem ref_cat (x y z u : WeightSpec.Tall 512) : val_main_v0 (F := Ideal) x y z u = WeightSpec.cat4 x y z u := by
  funext i
  obtain ⟨p, k, rfl⟩ := pair i
  pointwise [val_main_v0]
  show _ = WeightSpec.cat4At x y z u p k
  unfold WeightSpec.cat4At
  split_ifs <;> (repeat' split) <;> first | omega | simp only [Nat.sub_sub, Nat.reduceAdd] | rfl

/-- What the reference computes. -/
theorem ref_value (a : WeightSpec.Tall 1024) (x y z u : WeightSpec.Tall 512) (acc : (⟨2, ![1024, 2048]⟩ : Shape).Idx → EReal) :
    val_main_v7 (F := Ideal) a x y z u acc = WeightSpec.dwAdd a (WeightSpec.cat4 x y z u) acc := by
  funext i
  obtain ⟨p, k, rfl⟩ := pair i
  have e : val_main_v6 (F := Ideal) a x y z u (ix2 p k) = WeightSpec.dw a (WeightSpec.cat4 x y z u) (ix2 p k) := by
    pointwise [val_main_v6, val_main_v5, val_main_v4, val_main_v2]
    unfold WeightSpec.dw
    rw [Finset.sum_range]
    refine Finset.sum_congr rfl fun n _ => ?_
    rw [ref_cat]
    refine (mul_comm _ _).trans ?_
    exact (WeightSpec.term_val a (WeightSpec.cat4 x y z u) p k n).symm
  exact congrArg (acc (ix2 p k) + ·) e

variable (m : (ℓ : Loc nD τ sig) → Buf (Elt Ideal) ℓ) (c : Dev nD)

/-- The reference's arguments, as launched. -/
abbrev aRef : WeightSpec.Tall 1024 := m (slot c main_arg0)
abbrev xRef : WeightSpec.Tall 512 := m (slot c main_arg1)
abbrev yRef : WeightSpec.Tall 512 := m (slot c main_arg2)
abbrev zRef : WeightSpec.Tall 512 := m (slot c main_arg3)
abbrev uRef : WeightSpec.Tall 512 := m (slot c main_arg4)
abbrev accRef : (⟨2, ![1024, 2048]⟩ : Shape).Idx → EReal := m (slot c main_arg5)

/-- The reference's run, its result named. -/
theorem ref_run (ρ : Dev nD → PrngReg) :
    θ_run (defs (F := Ideal)) (onTc (τ := τ) (main (F := Ideal))) ⟨m, fun _ => 0, ρ⟩ fun r => ∀ c : Dev nD,
      r.2.mem (slot c main_v7) = WeightSpec.dwAdd (aRef m c) (WeightSpec.cat4 (xRef m c) (yRef m c) (zRef m c) (uRef m c)) (accRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5) :=
  (θ_run (defs (F := Ideal)) _ _).mono (fun r h c =>
      ⟨(h c).1.trans ((val_main_v7_eq _ _ _ _ _ _).trans (ref_value _ _ _ _ _ _)), (h c).2⟩)
    (Value.run (F := Ideal) m ρ)

end

/-- Equal arguments give equal results. -/
theorem algebraic : Cert.algebraic_MixFourIdeal_MixFourRefIdeal := by
  intro m ρ m' ρ' _ hagree
  refine ⟨fun c => WeightSpec.dwAdd (MixFourIdeal.Hand.aArr m c) (MixFourIdeal.Hand.gArr m c) (MixFourIdeal.Hand.accArr m c),
    (θ_run (MixFourIdeal.defs (F := Ideal)) _ _).mono (fun r h c => ⟨(h c).1.trans (MixFourIdeal.Hand.dw_arr m c), (h c).2⟩)
      (MixFourIdeal.Value.run_blocks (F := Ideal) m ρ),
    (θ_run (MixFourRefIdeal.defs (F := Ideal)) _ _).mono (fun r h c => ?_) (ref_run m' ρ')⟩
  have h0 : aRef m' c = MixFourIdeal.Hand.aArr m c := (hagree c).1
  have h1 : xRef m' c = MixFourIdeal.Hand.xArr m c := (hagree c).2.1
  have h2 : yRef m' c = MixFourIdeal.Hand.yArr m c := (hagree c).2.2.1
  have h3 : zRef m' c = MixFourIdeal.Hand.zArr m c := (hagree c).2.2.2.1
  have h4 : uRef m' c = MixFourIdeal.Hand.uArr m c := (hagree c).2.2.2.2.1
  have h5 : accRef m' c = MixFourIdeal.Hand.accArr m c := (hagree c).2.2.2.2.2
  have hc := h c
  rw [h0, h1, h2, h3, h4, h5] at hc
  exact hc

end Cert.MixFourClaim

end
-- ==== Proof.NormMixSpec.lean ====
module

public import proofs.«01_k».proof.Proof.Finite

@[expose] public section

/-! The gradient of the second feed-forward layer's modulated norm, written once over the real numbers. -/

noncomputable section

namespace Cert.NormMixSpec

open Idealize.ShloMosaic

/-- The nine arguments: the two gradients arriving at the matrices, the matrices side by side, the residual stream and the
    branch added to it, the norm's weight, the modulations of this layer and of the branch, the gradient of the residual. -/
structure Args where
  a : (⟨2, ![16384, 2816]⟩ : Shape).Idx → ℝ
  b : (⟨2, ![16384, 2816]⟩ : Shape).Idx → ℝ
  w : (⟨2, ![1024, 5632]⟩ : Shape).Idx → ℝ
  h : (⟨2, ![16384, 1024]⟩ : Shape).Idx → ℝ
  y : (⟨2, ![16384, 1024]⟩ : Shape).Idx → ℝ
  g : (⟨2, ![1, 1024]⟩ : Shape).Idx → ℝ
  md : (⟨2, ![9, 1024]⟩ : Shape).Idx → ℝ
  mp : (⟨2, ![9, 1024]⟩ : Shape).Idx → ℝ
  d : (⟨2, ![16384, 1024]⟩ : Shape).Idx → ℝ

variable (P : Args)

/-- The branch's gate. -/
def gate (j : Fin 1024) : ℝ := P.mp (ix2 5 j)
/-- The norm's input. -/
def x (n : Fin 16384) (j : Fin 1024) : ℝ := P.h (ix2 n j) + gate P j * P.y (ix2 n j)
/-- The constant under the root. -/
def eps : ℝ := 8796093 / 8796093022208
/-- The norm's scale from a row's entries. -/
def scaleOf (f : Fin 1024 → ℝ) : ℝ := (Real.sqrt ((∑ j : Fin 1024, f j * f j) * (1 / 1024) + eps))⁻¹
/-- The norm's scale of a row. -/
def r (n : Fin 16384) : ℝ := scaleOf (x P n)
/-- The gradient arriving at the norm. -/
def dn (n : Fin 16384) (j : Fin 1024) : ℝ :=
  ∑ k : Fin 2816, P.a (ix2 n k) * P.w (ix2 j ⟨k.val, by omega⟩)
    + ∑ k : Fin 2816, P.b (ix2 n k) * P.w (ix2 j ⟨2816 + k.val, by omega⟩)
/-- The modulation. -/
def md1 (j : Fin 1024) : ℝ := 1 + P.md (ix2 7 j)
/-- The gradient times the normed input. -/
def t (n : Fin 16384) (j : Fin 1024) : ℝ := dn P n j * (x P n j * r P n)

/-- The gradient of one entry of the norm's input: `c` the weight, `m` the modulation, `ρ` the scale, `D` the arriving
    gradient, `X` the normed input, `T` the product of gradient and normed input along the row, `e` the residual's gradient. -/
def dhOf (ρ : ℝ) (D X T c m : Fin 1024 → ℝ) (e : ℝ) (j : Fin 1024) : ℝ :=
  ρ * (D j * (m j * c j) - X j * ((∑ l : Fin 1024, T l * (m l * c l)) * (1 / 1024))) + e

/-- The gradient of the norm's input. -/
def dh (n : Fin 16384) (j : Fin 1024) : ℝ :=
  dhOf (r P n) (dn P n) (fun l => x P n l * r P n) (t P n) (fun l => P.g (ix2 0 l)) (md1 P) (P.d (ix2 n j)) j

abbrev Tall := (⟨2, ![16384, 1024]⟩ : Shape).Idx → EReal
abbrev Row := (⟨2, ![1, 1024]⟩ : Shape).Idx → EReal

def dhArr : Tall := fun i => ((dh P (i 0) (i 1) : ℝ) : EReal)
def dyArr : Tall := fun i => ((dh P (i 0) (i 1) * gate P (i 1) : ℝ) : EReal)
def dshiftArr : Row := fun i => ((1 * ∑ n : Fin 16384, dn P n (i 1) : ℝ) : EReal)
def dscaleArr : Row := fun i => ((P.g (ix2 0 (i 1)) * ∑ n : Fin 16384, t P n (i 1) : ℝ) : EReal)
def dgArr : Row := fun i => ((md1 P (i 1) * ∑ n : Fin 16384, t P n (i 1) : ℝ) : EReal)
def dgateArr : Row := fun i => ((1 * ∑ n : Fin 16384, dh P n (i 1) * P.y (ix2 n (i 1)) : ℝ) : EReal)

theorem eps_pos : 0 < eps := by unfold eps; norm_num

theorem under_pos (f : Fin 1024 → ℝ) : 0 < (∑ j : Fin 1024, f j * f j) * (1 / 1024) + eps := by
  have : 0 ≤ ∑ j : Fin 1024, f j * f j := Finset.sum_nonneg fun j _ => mul_self_nonneg _
  have := eps_pos
  positivity

theorem eps_bits : Ideal.ofBits .f32 0x358637BD#32 = ((eps : ℝ) : EReal) := by
  unfold eps
  simp [Ideal.ofBits, Ideal.ieee, -EReal.coe_mul]
  norm_num

theorem size_bits : Ideal.ofBits .f32 0x44800000#32 = ((1024 : ℝ) : EReal) := by
  simp [Ideal.ofBits, Ideal.ieee, -EReal.coe_mul]
  norm_num

theorem div_size (x : EReal) : Ideal.div x (Ideal.ofBits .f32 0x44800000#32) = x * ((1 / 1024 : ℝ) : EReal) := by
  rw [size_bits]
  exact Ideal.div_coe (by norm_num) x

theorem rsqrt_under (f : Fin 1024 → ℝ) :
    Ideal.rsqrt (((∑ j : Fin 1024, f j * f j) * (1 / 1024) + eps : ℝ) : EReal) = ((scaleOf f : ℝ) : EReal) := by
  rw [Ideal.rsqrt_coe, if_neg (not_lt.mpr (under_pos f).le), if_neg (under_pos f).ne']
  rfl

/-- Adding up the columns block by block: at even points nothing is added, at odd ones the block's rows. -/
theorem total (F : Fin 16384 → ℝ) (κ : ℝ) (f : (t : ℕ) → t < 64 → EReal) (h0 : ∀ (t : ℕ) (h : t < 64), t = 0 → f t h = 0)
    (he : ∀ (t : ℕ) (h : t < 64), t ≠ 0 → t % 2 = 0 → f t h = f (t - 1) (by omega))
    (ho : ∀ (t : ℕ) (h : t < 64), t % 2 = 1 →
      f t h = f (t - 1) (by omega) + ((κ * ∑ r : Fin 512, F ⟨512 * (t / 2) + r.val, by omega⟩ : ℝ) : EReal)) :
    ∀ (t : ℕ) (h : t < 64), t = 63 → f t h = ((κ * ∑ n : Fin 16384, F n : ℝ) : EReal) := by
  let Fe : ℕ → ℝ := fun n => if h : n < 16384 then F ⟨n, h⟩ else 0
  have key : ∀ (t : ℕ) (h : t < 64), f t h = ((κ * ∑ n ∈ Finset.range (512 * ((t + 1) / 2)), Fe n : ℝ) : EReal) := by
    intro t
    induction t with
    | zero => intro h; rw [h0 0 h rfl]; simp
    | succ t ih =>
      intro h
      by_cases hp : (t + 1) % 2 = 0
      · rw [he (t + 1) h (by omega) hp]
        have e : (t + 1 + 1) / 2 = (t + 1) / 2 := by omega
        rw [e]
        exact ih (by omega)
      · rw [ho (t + 1) h (by omega)]
        have e : 512 * ((t + 1 + 1) / 2) = 512 * ((t + 1) / 2) + 512 := by omega
        rw [e, Finset.sum_range_add, mul_add, EReal.coe_add]
        refine congrArg₂ (· + ·) (ih (by omega)) (congrArg (fun s : ℝ => ((κ * s : ℝ) : EReal)) ?_)
        rw [Finset.sum_range]
        refine Finset.sum_congr rfl fun r _ => ?_
        show _ = dite _ _ _
        rw [dif_pos (by omega)]
  intro t h ht
  rw [key t h]
  subst ht
  refine congrArg (fun s : ℝ => ((κ * s : ℝ) : EReal)) ?_
  rw [show 512 * ((63 + 1) / 2) = 16384 from rfl, Finset.sum_range]
  refine Finset.sum_congr rfl fun n _ => ?_
  show dite _ _ _ = _
  rw [dif_pos n.isLt]

/-- A sum over the inner axis, in halves. -/
theorem halves (f : Fin 2816 → ℝ) :
    ∑ k : Fin 2816, f k = ∑ k : Fin 1408, f ⟨k.val, by omega⟩ + ∑ k : Fin 1408, f ⟨1408 + k.val, by omega⟩ :=
  Fin.sum_univ_add (a := 1408) (b := 1408) f

end Cert.NormMixSpec

end
-- ==== Proof.NormMixPays.lean ====
module

public import proofs.«01_k».proof.Proof.Gen.NormMixIdeal.Value
public import Idealize.ShloMosaic.Lib.Pipeline.ReadBack
public import proofs.«01_k».proof.Proof.NormMixSpec

@[expose] public section

/-! The second modulated norm's gradient: what the kernel's pieces compute from blocks with real entries. -/

noncomputable section

namespace Cert.NormMixIdeal.Hand

open Cert.NormMixIdeal Cert.NormMixIdeal.Gen Idealize.ShloMosaic TcCoe Idealize.SL.Sem Cert

abbrev Blk := Vec Idealize.ShloMosaic.Ideal S512x1024 .f32
abbrev Line := Vec Idealize.ShloMosaic.Ideal S1x1024 .f32

/-- The two products of one half. -/
theorem pay5_at {a b : Vec Idealize.ShloMosaic.Ideal S512x1408 .bf16} {w v : Vec Idealize.ShloMosaic.Ideal S1024x1408 .bf16}
    {A B : Fin 512 → Fin 1408 → ℝ} {W U : Fin 1024 → Fin 1408 → ℝ}
    (ha : ∀ r k, a (ix2 r k) = (A r k : EReal)) (hw : ∀ j k, w (ix2 j k) = (W j k : EReal))
    (hb : ∀ r k, b (ix2 r k) = (B r k : EReal)) (hv : ∀ j k, v (ix2 j k) = (U j k : EReal)) (r : Fin 512) (j : Fin 1024) :
    k0_pay5 a w b v (ix2 r j) = ((∑ k : Fin 1408, A r k * W j k + ∑ k : Fin 1408, B r k * U j k : ℝ) : EReal) := by
  pointwise [k0_pay5]
  simp only [ha, hw, hb, hv]
  rw [Finite.coe_dot, Finite.coe_dot, EReal.coe_add]

/-- The other half's products on top of the first's. -/
theorem pay7_at {a b : Vec Idealize.ShloMosaic.Ideal S512x1408 .bf16} {w v : Vec Idealize.ShloMosaic.Ideal S1024x1408 .bf16} {s : Blk}
    {A B : Fin 512 → Fin 1408 → ℝ} {W U : Fin 1024 → Fin 1408 → ℝ} {S : Fin 512 → Fin 1024 → ℝ}
    (ha : ∀ r k, a (ix2 r k) = (A r k : EReal)) (hw : ∀ j k, w (ix2 j k) = (W j k : EReal))
    (hb : ∀ r k, b (ix2 r k) = (B r k : EReal)) (hv : ∀ j k, v (ix2 j k) = (U j k : EReal))
    (hs : ∀ r j, s (ix2 r j) = (S r j : EReal)) (r : Fin 512) (j : Fin 1024) :
    k0_pay7 a w b v s (ix2 r j)
      = ((∑ k : Fin 1408, A r k * W j k + ∑ k : Fin 1408, B r k * U j k + S r j : ℝ) : EReal) := by
  pointwise [k0_pay7]
  simp only [ha, hw, hb, hv, hs]
  rw [Finite.coe_dot, Finite.coe_dot, EReal.coe_add, EReal.coe_add]

/-- The scale of a row. -/
theorem pay9_at {x : Blk} {X : Fin 512 → Fin 1024 → ℝ} (hx : ∀ r j, x (ix2 r j) = (X r j : EReal)) (r : Fin 512) :
    k0_pay9 x (ix2 r 0) = ((NormMixSpec.scaleOf (X r) : ℝ) : EReal) := by
  pointwise [k0_pay9, k0_pay8]
  simp only [hx]
  rw [Finite.coe_dot]
  exact (congrArg Ideal.rsqrt ((congrArg₂ (· + ·) (NormMixSpec.div_size _) NormMixSpec.eps_bits).trans
    (by push_cast; rfl))).trans (NormMixSpec.rsqrt_under (X r))

/-- The normed input. -/
theorem pay10_at {x : Blk} {X : Fin 512 → Fin 1024 → ℝ} (hx : ∀ r j, x (ix2 r j) = (X r j : EReal)) (r : Fin 512) (j : Fin 1024) :
    k0_pay10 x (ix2 r j) = ((X r j * NormMixSpec.scaleOf (X r) : ℝ) : EReal) := by
  pointwise [k0_pay10, k0_pay8]
  rw [hx, pay9_at hx, EReal.coe_mul]

/-- The modulation. -/
theorem pay11_at {v : Line} {M : Fin 1024 → ℝ} (hv : ∀ j, v (ix2 0 j) = (M j : EReal)) (j : Fin 1024) :
    k0_pay11 v (ix2 0 j) = ((1 + M j : ℝ) : EReal) := by
  pointwise [k0_pay11]
  rw [hv]
  push_cast
  rfl

/-- A column's sum over the block's rows, on top of what was there. -/
theorem pay14_at {a b : Vec Idealize.ShloMosaic.Ideal S512x1408 .bf16} {w v : Vec Idealize.ShloMosaic.Ideal S1024x1408 .bf16} {s : Blk}
    {D : Fin 512 → Fin 1024 → ℝ} (hD : ∀ r j, k0_pay7 a w b v s (ix2 r j) = (D r j : EReal)) (p : Line) (j : Fin 1024) :
    k0_pay14 a w b v s p (ix2 0 j) = p (ix2 0 j) + ((1 * ∑ r : Fin 512, D r j : ℝ) : EReal) := by
  pointwise [k0_pay14]
  simp only [hD]
  exact congrArg (p (ix2 0 j) + ·) (Finite.coe_sum _ _)

/-- The gradient times the normed input, entry by entry and summed over the block's rows. -/
theorem pay12_at {a b : Vec Idealize.ShloMosaic.Ideal S512x1408 .bf16} {w v : Vec Idealize.ShloMosaic.Ideal S1024x1408 .bf16} {s x : Blk}
    {D X : Fin 512 → Fin 1024 → ℝ} (hD : ∀ r j, k0_pay7 a w b v s (ix2 r j) = (D r j : EReal))
    (hx : ∀ r j, x (ix2 r j) = (X r j : EReal)) (r : Fin 512) (j : Fin 1024) :
    k0_pay12 a w b v s x (ix2 r j) = ((D r j * (X r j * NormMixSpec.scaleOf (X r)) : ℝ) : EReal) := by
  pointwise [k0_pay12]
  rw [hD, pay10_at hx]
  exact (EReal.coe_mul _ _).symm

theorem pay13_at {a b : Vec Idealize.ShloMosaic.Ideal S512x1408 .bf16} {w v : Vec Idealize.ShloMosaic.Ideal S1024x1408 .bf16} {s x : Blk}
    {T : Fin 512 → Fin 1024 → ℝ} (hT : ∀ r j, k0_pay12 a w b v s x (ix2 r j) = (T r j : EReal)) (j : Fin 1024) :
    k0_pay13 a w b v s x (ix2 0 j) = ((∑ r : Fin 512, T r j : ℝ) : EReal) := by
  pointwise [k0_pay13]
  simp only [hT]
  exact Finite.coe_sum _ _

theorem pay15_at {g q : Line} {G Q : Fin 1024 → ℝ} (hg : ∀ j, g (ix2 0 j) = (G j : EReal))
    (hq : ∀ j, q (ix2 0 j) = (Q j : EReal)) (p : Line) (j : Fin 1024) :
    k0_pay15 g q p (ix2 0 j) = p (ix2 0 j) + ((G j * Q j : ℝ) : EReal) := by
  pointwise [k0_pay15]
  rw [hg, hq, EReal.coe_mul]

theorem pay16_at {g q : Line} {G Q : Fin 1024 → ℝ} (hg : ∀ j, g (ix2 0 j) = (G j : EReal))
    (hq : ∀ j, q (ix2 0 j) = (Q j : EReal)) (p : Line) (j : Fin 1024) :
    k0_pay16 g q p (ix2 0 j) = p (ix2 0 j) + ((G j * Q j : ℝ) : EReal) := by
  pointwise [k0_pay16]
  rw [hg, hq, EReal.coe_mul]

/-- The gradient of the norm's input. -/
theorem pay17_at {d xh tt e : Blk} {g md : Line} {ρ : FVec Idealize.ShloMosaic.Ideal S512x1 .f32}
    {D X T E : Fin 512 → Fin 1024 → ℝ} {G M : Fin 1024 → ℝ} {R : Fin 512 → ℝ}
    (hd : ∀ r j, d (ix2 r j) = (D r j : EReal)) (hg : ∀ j, g (ix2 0 j) = (G j : EReal))
    (hρ : ∀ r, ρ (ix2 r 0) = (R r : EReal)) (hX : ∀ r j, xh (ix2 r j) = (X r j : EReal))
    (hm : ∀ j, md (ix2 0 j) = (M j : EReal)) (hT : ∀ r j, tt (ix2 r j) = (T r j : EReal))
    (hE : ∀ r j, e (ix2 r j) = (E r j : EReal)) (r : Fin 512) (j : Fin 1024) :
    k0_pay17 d g ρ xh md tt e (ix2 r j) = ((NormMixSpec.dhOf (R r) (D r) (X r) (T r) G M (E r j) j : ℝ) : EReal) := by
  pointwise [k0_pay17]
  simp only [hd, hg, hρ, hX, hm, hT, hE, NormMixSpec.div_size, ← EReal.coe_mul, Finite.coe_sum]
  simp only [← EReal.coe_mul, ← EReal.coe_add, ← EReal.coe_sub]
  rfl

/-- The gradient of the branch. -/
theorem pay18_at {d xh tt e : Blk} {g md mp : Line} {ρ : FVec Idealize.ShloMosaic.Ideal S512x1 .f32}
    {H : Fin 512 → Fin 1024 → ℝ} {Q : Fin 1024 → ℝ}
    (hH : ∀ r j, k0_pay17 d g ρ xh md tt e (ix2 r j) = (H r j : EReal)) (hq : ∀ j, mp (ix2 0 j) = (Q j : EReal))
    (r : Fin 512) (j : Fin 1024) :
    k0_pay18 d g ρ xh md tt e mp (ix2 r j) = ((H r j * Q j : ℝ) : EReal) := by
  pointwise [k0_pay18]
  rw [hH, hq, EReal.coe_mul]

/-- The gradient of the branch's gate. -/
theorem pay6_at {h : Blk} {y : Vec Idealize.ShloMosaic.Ideal S512x1024 .bf16} {H Y : Fin 512 → Fin 1024 → ℝ}
    (hH : ∀ r j, h (ix2 r j) = (H r j : EReal)) (hy : ∀ r j, y (ix2 r j) = (Y r j : EReal)) (p : Line) (j : Fin 1024) :
    k0_pay6 h p y (ix2 0 j) = p (ix2 0 j) + ((1 * ∑ r : Fin 512, H r j * Y r j : ℝ) : EReal) := by
  pointwise [k0_pay6]
  simp only [hH, hy]
  rw [Finite.coe_dot]

end Cert.NormMixIdeal.Hand

end
-- ==== Proof.NormMixBlocks.lean ====
module

public import proofs.«01_k».proof.Proof.NormMixPays
public import proofs.«01_k».proof.Proof.Reads

@[expose] public section

/-! The second modulated norm's gradient: what a grid point reads at real arguments. -/

noncomputable section

namespace Cert.NormMixIdeal.Hand

open Cert.NormMixIdeal Cert.NormMixIdeal.Gen Idealize.ShloMosaic TcCoe Idealize.SL.Sem Cert
open Idealize.ShloMosaic.StableHlo

variable (m : (ℓ : Loc nD τ sig) → Buf (Elt Ideal) ℓ) (c : Dev nD)

/-- The arguments, as launched. -/
abbrev aArr : S16384x2816.Idx → EReal := m (slot c main_arg0)
abbrev bArr : S16384x2816.Idx → EReal := m (slot c main_arg1)
abbrev wArr : S1024x5632.Idx → EReal := m (slot c main_arg2)
abbrev hArr : S16384x1024.Idx → EReal := m (slot c main_arg3)
abbrev yArr : S16384x1024.Idx → EReal := m (slot c main_arg4)
abbrev gArr : S1x1024.Idx → EReal := m (slot c main_arg5)
abbrev mdArr : S9x1024.Idx → EReal := m (slot c main_arg6)
abbrev mpArr : S9x1024.Idx → EReal := m (slot c main_arg7)
abbrev dArr : S16384x1024.Idx → EReal := m (slot c main_arg8)

/-- The arguments are the real arrays `P`. -/
structure At (P : NormMixSpec.Args) : Prop where
  a : aArr m c = fun i => (P.a i : EReal)
  b : bArr m c = fun i => (P.b i : EReal)
  w : wArr m c = fun i => (P.w i : EReal)
  h : hArr m c = fun i => (P.h i : EReal)
  y : yArr m c = fun i => (P.y i : EReal)
  g : gArr m c = fun i => (P.g i : EReal)
  md : mdArr m c = fun i => (P.md i : EReal)
  mp : mpArr m c = fun i => (P.mp i : EReal)
  d : dArr m c = fun i => (P.d i : EReal)

abbrev Tall32 := FVec Idealize.ShloMosaic.Ideal S16384x1024 .f32

/-- The norm's input as the host spells it. -/
abbrev hVec (h : Tall32) (y : FVec Idealize.ShloMosaic.Ideal S16384x1024 .bf16) (mp : FVec Idealize.ShloMosaic.Ideal S9x1024 .f32) : Tall32 :=
  addf h (mulf (broadcastInDim S16384x1024 ![0, 1] bcast_S1x1024_S16384x1024_0_1
    (extractStridedSlice S1x1024 ![5, 0] mp slices_S9x1024_S1x1024_5_0)) (extf FTy.f32 y bitsLt_bf16_f32))

theorem V_main_v4 : V m c main_v4
    = (hVec (m (slot c main_arg3)) (m (slot c main_arg4)) (m (slot c main_arg7)) : Tall32) := by
  simp only [V, hostOps0, List.flatten_cons, List.flatten_nil, List.append_nil,
    List.cons_append, List.nil_append, TRef.binary, TRef.nullary, TRef.unary, TRef.toBuf, TRef.ofBuf, cast_eq]
  after_results

theorem hVec_at (P : NormMixSpec.Args) (n : Fin 16384) (j : Fin 1024) :
    hVec (fun i => (P.h i : EReal)) (fun i => (P.y i : EReal)) (fun i => (P.mp i : EReal)) (ix2 n j)
      = ((NormMixSpec.x P n j : ℝ) : EReal) := by
  pointwise [hVec]
  simp only [← EReal.coe_mul, ← EReal.coe_add]
  rfl

theorem t_lt (t : Fin cfg0.N) : t.val < 64 := lt_of_lt_of_eq t.isLt N_0

/-- Row `r` of point `t`'s blocks, in the whole arrays. -/
def row (t : Fin cfg0.N) (r : Fin 512) : Fin 16384 := ⟨512 * (t.val / 2) + r.val, by have := t_lt t; omega⟩
/-- Column `k` of point `t`'s blocks, in the whole arrays. -/
def half (t : Fin cfg0.N) (k : Fin 1408) : Fin 2816 := ⟨1408 * (t.val % 2) + k.val, by omega⟩
/-- The same column in the first of the two matrices, and in the second. -/
def colA (t : Fin cfg0.N) (k : Fin 1408) : Fin 5632 := ⟨(half t k).val, by have := (half t k).isLt; omega⟩
def colB (t : Fin cfg0.N) (k : Fin 1408) : Fin 5632 := ⟨2816 + (half t k).val, by have := (half t k).isLt; omega⟩

theorem index0 : ∀ t : Fin grid0.N, win0_0.index t = ![t.val / 2, t.val % 2] := by decide +kernel
theorem index1 : ∀ t : Fin grid0.N, win0_1.index t = ![t.val / 2, t.val % 2] := by decide +kernel
theorem index2 : ∀ t : Fin grid0.N, win0_2.index t = ![0, t.val % 2] := by decide +kernel
theorem index3 : ∀ t : Fin grid0.N, win0_3.index t = ![0, t.val % 2 + 2] := by decide +kernel
theorem index4 : ∀ t : Fin grid0.N, win0_4.index t = ![t.val / 2, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val / 2, 0] := by decide +kernel
theorem index8 : ∀ t : Fin grid0.N, win0_8.index t = ![t.val / 2, 0] := by decide +kernel
theorem index9 : ∀ t : Fin grid0.N, win0_9.index t = ![0, 0] := by decide +kernel
theorem index10 : ∀ t : Fin grid0.N, win0_10.index t = ![t.val / 2, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![t.val / 2, 0] := by decide +kernel
theorem index15 : ∀ t : Fin grid0.N, win0_15.index t = ![0, 0] := by decide +kernel

variable {m c} {P : NormMixSpec.Args}

theorem blk0 (H : At m c P) (t : Fin cfg0.N) (r : Fin 512) (k : Fin 1408) :
    iblk m c 0 t (ix2 r k) = ((P.a (ix2 (row t r) (half t k)) : ℝ) : EReal) := by
  have := t_lt t
  refine Eq.trans (b := aArr m c (ix2 (row t r) (half t k))) (read_at (V_main_arg0 m c) fun a => ?_) (congrFun H.a _)
  match a with
  | ⟨0, _⟩ => blk_simp [index0]; simp [row]; omega
  | ⟨1, _⟩ => blk_simp [index0]; simp [half]; omega

theorem blk1 (H : At m c P) (t : Fin cfg0.N) (r : Fin 512) (k : Fin 1408) :
    iblk m c 1 t (ix2 r k) = ((P.b (ix2 (row t r) (half t k)) : ℝ) : EReal) := by
  have := t_lt t
  refine Eq.trans (b := bArr m c (ix2 (row t r) (half t k))) (read_at (V_main_arg1 m c) fun a => ?_) (congrFun H.b _)
  match a with
  | ⟨0, _⟩ => blk_simp [index1]; simp [row]; omega
  | ⟨1, _⟩ => blk_simp [index1]; simp [half]; omega

theorem blk2 (H : At m c P) (t : Fin cfg0.N) (r : Fin 1024) (k : Fin 1408) :
    iblk m c 2 t (ix2 r k) = ((P.w (ix2 r (colA t k)) : ℝ) : EReal) := by
  have := t_lt t
  refine Eq.trans (b := wArr m c (ix2 r (colA t k))) (read_at (V_main_arg2 m c) fun a => ?_) (congrFun H.w _)
  match a with
  | ⟨0, _⟩ => blk_simp [index2]
  | ⟨1, _⟩ => blk_simp [index2]; simp [colA, half]; omega

theorem blk3 (H : At m c P) (t : Fin cfg0.N) (r : Fin 1024) (k : Fin 1408) :
    iblk m c 3 t (ix2 r k) = ((P.w (ix2 r (colB t k)) : ℝ) : EReal) := by
  have := t_lt t
  refine Eq.trans (b := wArr m c (ix2 r (colB t k))) (read_at (V_main_arg2 m c) fun a => ?_) (congrFun H.w _)
  match a with
  | ⟨0, _⟩ => blk_simp [index3]
  | ⟨1, _⟩ => blk_simp [index3]; simp [colB, half]; omega

theorem blk4 (H : At m c P) (t : Fin cfg0.N) (r : Fin 512) (k : Fin 1024) :
    iblk m c 4 t (ix2 r k) = ((NormMixSpec.x P (row t r) k : ℝ) : EReal) := by
  have := t_lt t
  unfold iblk
  rw [View.read_apply]
  show V m c main_v4 _ = _
  rw [V_main_v4]
  refine Eq.trans (congrArg _ (?_ : _ = ix2 (row t r) k)) ?_
  · refine funext fun a => Fin.ext ?_
    match a with
    | ⟨0, _⟩ => blk_simp [index4]; simp [row]; omega
    | ⟨1, _⟩ => blk_simp [index4]
  · show hVec (hArr m c) (yArr m c) (mpArr m c) _ = _
    rw [H.h, H.y, H.mp]
    exact hVec_at P _ _

theorem blk5 (H : At m c P) (t : Fin cfg0.N) (r : Fin 1) (k : Fin 1024) :
    iblk m c 5 t (ix2 r k) = ((P.g (ix2 r k) : ℝ) : EReal) := by
  have := t_lt t
  refine Eq.trans (b := gArr m c (ix2 r k)) (read_at (V_main_arg5 m c) fun a => ?_) (congrFun H.g _)
  match a with
  | ⟨0, _⟩ => blk_simp [index5]
  | ⟨1, _⟩ => blk_simp [index5]

theorem blk6 (H : At m c P) (t : Fin cfg0.N) (r : Fin 9) (k : Fin 1024) :
    iblk m c 6 t (ix2 r k) = ((P.md (ix2 r k) : ℝ) : EReal) := by
  have := t_lt t
  refine Eq.trans (b := mdArr m c (ix2 r k)) (read_at (V_main_arg6 m c) fun a => ?_) (congrFun H.md _)
  match a with
  | ⟨0, _⟩ => blk_simp [index6]
  | ⟨1, _⟩ => blk_simp [index6]

theorem blk7 (H : At m c P) (t : Fin cfg0.N) (r : Fin 512) (k : Fin 1024) :
    iblk m c 7 t (ix2 r k) = ((P.d (ix2 (row t r) k) : ℝ) : EReal) := by
  have := t_lt t
  refine Eq.trans (b := dArr m c (ix2 (row t r) k)) (read_at (V_main_arg8 m c) fun a => ?_) (congrFun H.d _)
  match a with
  | ⟨0, _⟩ => blk_simp [index7]; simp [row]; omega
  | ⟨1, _⟩ => blk_simp [index7]

theorem blk8 (H : At m c P) (t : Fin cfg0.N) (r : Fin 512) (k : Fin 1024) :
    iblk m c 8 t (ix2 r k) = ((P.y (ix2 (row t r) k) : ℝ) : EReal) := by
  have := t_lt t
  refine Eq.trans (b := yArr m c (ix2 (row t r) k)) (read_at (V_main_arg4 m c) fun a => ?_) (congrFun H.y _)
  match a with
  | ⟨0, _⟩ => blk_simp [index8]; simp [row]; omega
  | ⟨1, _⟩ => blk_simp [index8]

theorem blk9 (H : At m c P) (t : Fin cfg0.N) (r : Fin 9) (k : Fin 1024) :
    iblk m c 9 t (ix2 r k) = ((P.mp (ix2 r k) : ℝ) : EReal) := by
  have := t_lt t
  refine Eq.trans (b := mpArr m c (ix2 r k)) (read_at (V_main_arg7 m c) fun a => ?_) (congrFun H.mp _)
  match a with
  | ⟨0, _⟩ => blk_simp [index9]
  | ⟨1, _⟩ => blk_simp [index9]

theorem emb10 (t : Fin cfg0.N) (r : Fin 512) (k : Fin 1024) :
    ((cfg0.win 10).blk t).view.emb (ix2 r k) = ix2 (row t r) k := by
  have := t_lt t
  refine funext fun a => Fin.ext ?_
  match a with
  | ⟨0, _⟩ => blk_simp [index10]; simp [row]; omega
  | ⟨1, _⟩ => blk_simp [index10]

theorem emb11 (t : Fin cfg0.N) (r : Fin 1) (k : Fin 1024) :
    ((cfg0.win 11).blk t).view.emb (ix2 r k) = ix2 r k := by
  have := t_lt t
  refine funext fun a => Fin.ext ?_
  match a with
  | ⟨0, _⟩ => blk_simp [index11]
  | ⟨1, _⟩ => blk_simp [index11]

theorem emb12 (t : Fin cfg0.N) (r : Fin 1) (k : Fin 1024) :
    ((cfg0.win 12).blk t).view.emb (ix2 r k) = ix2 r k := by
  have := t_lt t
  refine funext fun a => Fin.ext ?_
  match a with
  | ⟨0, _⟩ => blk_simp [index12]
  | ⟨1, _⟩ => blk_simp [index12]

theorem emb13 (t : Fin cfg0.N) (r : Fin 1) (k : Fin 1024) :
    ((cfg0.win 13).blk t).view.emb (ix2 r k) = ix2 r k := by
  have := t_lt t
  refine funext fun a => Fin.ext ?_
  match a with
  | ⟨0, _⟩ => blk_simp [index13]
  | ⟨1, _⟩ => blk_simp [index13]

theorem emb14 (t : Fin cfg0.N) (r : Fin 512) (k : Fin 1024) :
    ((cfg0.win 14).blk t).view.emb (ix2 r k) = ix2 (row t r) k := by
  have := t_lt t
  refine funext fun a => Fin.ext ?_
  match a with
  | ⟨0, _⟩ => blk_simp [index14]; simp [row]; omega
  | ⟨1, _⟩ => blk_simp [index14]

theorem emb15 (t : Fin cfg0.N) (r : Fin 1) (k : Fin 1024) :
    ((cfg0.win 15).blk t).view.emb (ix2 r k) = ix2 r k := by
  have := t_lt t
  refine funext fun a => Fin.ext ?_
  match a with
  | ⟨0, _⟩ => blk_simp [index15]
  | ⟨1, _⟩ => blk_simp [index15]

/-- The eighth row of the modulation, and the sixth of the branch's. -/
theorem md_row (H : At m c P) (t : Fin cfg0.N) (j : Fin 1024) :
    View.ld (iblk m c 6 t) (Rect.unit ![7, 0] ![1, 1024] inb_S9x1024_S1x1024_7_0) (ix2 0 j) = ((P.md (ix2 7 j) : ℝ) : EReal) := by
  refine Eq.trans (View.ld_unit_apply_of (iblk m c 6 t) _ _ _ _ (ix2 7 j) fun a => match a with
    | ⟨0, _⟩ => rfl
    | ⟨1, _⟩ => (Nat.zero_add _).symm) ?_
  exact blk6 H t 7 j

theorem mp_row (H : At m c P) (t : Fin cfg0.N) (j : Fin 1024) :
    View.ld (iblk m c 9 t) (Rect.unit ![5, 0] ![1, 1024] inb_S9x1024_S1x1024_5_0) (ix2 0 j) = ((P.mp (ix2 5 j) : ℝ) : EReal) := by
  refine Eq.trans (View.ld_unit_apply_of (iblk m c 9 t) _ _ _ _ (ix2 5 j) fun a => match a with
    | ⟨0, _⟩ => rfl
    | ⟨1, _⟩ => (Nat.zero_add _).symm) ?_
  exact blk9 H t 5 j

end Cert.NormMixIdeal.Hand

end
-- ==== Proof.NormMixPoints.lean ====
module

public import proofs.«01_k».proof.Proof.NormMixBlocks

@[expose] public section

/-! The second modulated norm's gradient: what a grid point leaves at real arguments. Two points share a block of rows: the first
    keeps half of the arriving gradient, the second adds the other half and finishes. -/

noncomputable section

namespace Cert.NormMixIdeal.Hand

open Cert.NormMixIdeal Cert.NormMixIdeal.Gen Idealize.ShloMosaic TcCoe Idealize.SL.Sem Cert

/-- One half of the arriving gradient. -/
def part (P : NormMixSpec.Args) (n : Fin 16384) (q : ℕ) (hq : q < 2) (j : Fin 1024) : ℝ :=
  ∑ k : Fin 1408, P.a (ix2 n ⟨1408 * q + k.val, by omega⟩) * P.w (ix2 j ⟨1408 * q + k.val, by omega⟩)
    + ∑ k : Fin 1408, P.b (ix2 n ⟨1408 * q + k.val, by omega⟩) * P.w (ix2 j ⟨2816 + (1408 * q + k.val), by omega⟩)

theorem part_congr (P : NormMixSpec.Args) {n n' : Fin 16384} {q q' : ℕ} (hn : n = n') (h : q = q') (hq : q < 2) (hq' : q' < 2)
    (j : Fin 1024) : part P n q hq j = part P n' q' hq' j := by subst h; subst hn; rfl

theorem dn_parts (P : NormMixSpec.Args) (n : Fin 16384) (j : Fin 1024) :
    part P n 1 (by omega) j + part P n 0 (by omega) j = NormMixSpec.dn P n j := by
  unfold NormMixSpec.dn part
  rw [NormMixSpec.halves fun k => P.a (ix2 n k) * P.w (ix2 j ⟨k.val, by omega⟩),
    NormMixSpec.halves fun k => P.b (ix2 n k) * P.w (ix2 j ⟨2816 + k.val, by omega⟩)]
  simp only [Nat.mul_zero, Nat.zero_add, Nat.mul_one]
  ring

variable {m : (ℓ : Loc nD τ sig) → Buf (Elt Ideal) ℓ} {c : Dev nD} {P : NormMixSpec.Args}

/-- The point before, in the same block of rows. -/
abbrev prev (t : Fin cfg0.N) : t.val - 1 < cfg0.N := Nat.lt_of_le_of_lt (Nat.sub_le _ _) t.isLt

/-- The first point of a block of rows keeps its half. -/
theorem scratch_even (H : At m c P) (t : Fin cfg0.N) (h : t.val % 2 = 0) (r : Fin 512) (j : Fin 1024) :
    (outsAt0 m c t.val t.isLt).2.2.2.2.2.2 (ix2 r j) = ((part P (row t r) (t.val % 2) (by omega) j : ℝ) : EReal) := by
  by_cases h0 : t.val % 64 = 0
  · rw [outsAt0_A m c t h0 h (by omega)]
    dsimp only
    frame_out
    exact pay5_at (fun r k => blk0 H t r k) (fun j k => blk2 H t j k) (fun r k => blk1 H t r k) (fun j k => blk3 H t j k) r j
  · rw [outsAt0_C m c t h0 h (by omega)]
    dsimp only
    frame_out
    exact pay5_at (fun r k => blk0 H t r k) (fun j k => blk2 H t j k) (fun r k => blk1 H t r k) (fun j k => blk3 H t j k) r j

/-- What the second point finds of the first. -/
theorem scratch_prev (H : At m c P) (t : Fin cfg0.N) (h : t.val % 2 = 1) (r : Fin 512) (j : Fin 1024) :
    (outsAt0 m c (t.val - 1) (prev t)).2.2.2.2.2.2 (ix2 r j) = ((part P (row t r) 0 (by omega) j : ℝ) : EReal) := by
  refine (scratch_even H ⟨t.val - 1, prev t⟩ (by show (t.val - 1) % 2 = 0; omega) r j).trans ?_
  refine congrArg Real.toEReal (part_congr P (Fin.ext ?_) (by show (t.val - 1) % 2 = 0; omega) _ _ j)
  show 512 * ((t.val - 1) / 2) + r.val = 512 * (t.val / 2) + r.val
  omega

/-- The arriving gradient, complete. -/
theorem dn_at (H : At m c P) (t : Fin cfg0.N) (h : t.val % 2 = 1) {s : Blk}
    (hs : s = (outsAt0 m c (t.val - 1) (prev t)).2.2.2.2.2.2) (r : Fin 512) (j : Fin 1024) :
    k0_pay7 (iblk m c 0 t) (iblk m c 2 t) (iblk m c 1 t) (iblk m c 3 t) s (ix2 r j) = ((NormMixSpec.dn P (row t r) j : ℝ) : EReal) := by
  refine (pay7_at (fun r k => blk0 H t r k) (fun j k => blk2 H t j k) (fun r k => blk1 H t r k) (fun j k => blk3 H t j k)
    (S := fun r j => part P (row t r) 0 (by omega) j) (fun r j => by rw [hs]; exact scratch_prev H t h r j) r j).trans ?_
  refine congrArg Real.toEReal (Eq.trans ?_ (dn_parts P (row t r) j))
  exact congrArg (· + part P (row t r) 0 (by omega) j) (part_congr P rfl h (by omega) (by omega) j)

theorem t_at (H : At m c P) (t : Fin cfg0.N) (h : t.val % 2 = 1) {s : Blk}
    (hs : s = (outsAt0 m c (t.val - 1) (prev t)).2.2.2.2.2.2) (r : Fin 512) (j : Fin 1024) :
    k0_pay12 (iblk m c 0 t) (iblk m c 2 t) (iblk m c 1 t) (iblk m c 3 t) s (iblk m c 4 t) (ix2 r j)
      = ((NormMixSpec.t P (row t r) j : ℝ) : EReal) :=
  pay12_at (D := fun r j => NormMixSpec.dn P (row t r) j) (X := fun r j => NormMixSpec.x P (row t r) j)
    (fun r j => dn_at H t h hs r j) (fun r j => blk4 H t r j) r j

theorem tsum_at (H : At m c P) (t : Fin cfg0.N) (h : t.val % 2 = 1) {s : Blk}
    (hs : s = (outsAt0 m c (t.val - 1) (prev t)).2.2.2.2.2.2) (j : Fin 1024) :
    k0_pay13 (iblk m c 0 t) (iblk m c 2 t) (iblk m c 1 t) (iblk m c 3 t) s (iblk m c 4 t) (ix2 0 j)
      = ((∑ r : Fin 512, NormMixSpec.t P (row t r) j : ℝ) : EReal) :=
  pay13_at (fun r j => t_at H t h hs r j) j

/-- The modulation, as the point reads it. -/
abbrev mdLine (m : (ℓ : Loc nD τ sig) → Buf (Elt Ideal) ℓ) (c : Dev nD) (t : Fin cfg0.N) : Line :=
  k0_pay11 (View.ld (iblk m c 6 t) (Rect.unit ![7, 0] ![1, 1024] inb_S9x1024_S1x1024_7_0))

theorem mdLine_at (H : At m c P) (t : Fin cfg0.N) (j : Fin 1024) : mdLine m c t (ix2 0 j) = ((NormMixSpec.md1 P j : ℝ) : EReal) :=
  pay11_at (fun j => md_row H t j) j

/-- The gradient of the norm's input. -/
theorem dh_pay (H : At m c P) (t : Fin cfg0.N) (h : t.val % 2 = 1) {s : Blk}
    (hs : s = (outsAt0 m c (t.val - 1) (prev t)).2.2.2.2.2.2) (r : Fin 512) (j : Fin 1024) :
    k0_pay17 (k0_pay7 (iblk m c 0 t) (iblk m c 2 t) (iblk m c 1 t) (iblk m c 3 t) s) (iblk m c 5 t) (k0_pay9 (iblk m c 4 t))
      (k0_pay10 (iblk m c 4 t)) (mdLine m c t)
      (k0_pay12 (iblk m c 0 t) (iblk m c 2 t) (iblk m c 1 t) (iblk m c 3 t) s (iblk m c 4 t)) (iblk m c 7 t) (ix2 r j)
      = ((NormMixSpec.dh P (row t r) j : ℝ) : EReal) :=
  pay17_at (D := fun r j => NormMixSpec.dn P (row t r) j) (X := fun r j => NormMixSpec.x P (row t r) j * NormMixSpec.r P (row t r))
    (T := fun r j => NormMixSpec.t P (row t r) j) (E := fun r j => P.d (ix2 (row t r) j)) (G := fun j => P.g (ix2 0 j))
    (M := NormMixSpec.md1 P) (R := fun r => NormMixSpec.r P (row t r))
    (fun r j => dn_at H t h hs r j) (fun j => blk5 H t 0 j) (fun r => pay9_at (fun r j => blk4 H t r j) r)
    (fun r j => pay10_at (fun r j => blk4 H t r j) r j) (fun j => mdLine_at H t j)
    (fun r j => t_at H t h hs r j) (fun r j => blk7 H t r j) r j

end Cert.NormMixIdeal.Hand

end
-- ==== Proof.NormMixArrays.lean ====
module

public import proofs.«01_k».proof.Proof.NormMixPoints
public import proofs.«01_k».proof.Proof.Reads

@[expose] public section

/-! The second modulated norm's gradient: the six arrays the run leaves, at real arguments. -/

noncomputable section

namespace Cert.NormMixIdeal.Hand

open Cert.NormMixIdeal Cert.NormMixIdeal.Gen Idealize.ShloMosaic TcCoe Idealize.SL.Sem Cert

variable {m : (ℓ : Loc nD τ sig) → Buf (Elt Ideal) ℓ} {c : Dev nD} {P : NormMixSpec.Args}

theorem dh_at (H : At m c P) (t : Fin cfg0.N) (h : t.val % 2 = 1) (r : Fin 512) (j : Fin 1024) :
    (outsAt0 m c t.val t.isLt).1 (ix2 r j) = NormMixSpec.dhArr P (ix2 (row t r) j) := by
  rw [outsAt0_B m c t (by omega) (by omega) h]
  dsimp only
  frame_out
  exact dh_pay H t h (Memref.IsWhole.read_unread _ _) r j

theorem dy_at (H : At m c P) (t : Fin cfg0.N) (h : t.val % 2 = 1) (r : Fin 512) (j : Fin 1024) :
    (outsAt0 m c t.val t.isLt).2.2.2.2.1 (ix2 r j) = NormMixSpec.dyArr P (ix2 (row t r) j) := by
  rw [outsAt0_B m c t (by omega) (by omega) h]
  dsimp only
  frame_out
  exact pay18_at (H := fun r j => NormMixSpec.dh P (row t r) j) (Q := fun j => P.mp (ix2 5 j))
    (fun r j => dh_pay H t h (Memref.IsWhole.read_unread _ _) r j) (fun j => mp_row H t j) r j

theorem dshift_first (t : Fin cfg0.N) (h : t.val % 64 = 0) (j : Fin 1024) :
    (outsAt0 m c t.val t.isLt).2.1 (ix2 0 j) = 0 := by
  rw [outsAt0_A m c t h (by omega) (by omega)]
  dsimp only
  frame_out
  pointwise [k0_pay1]

theorem dshift_even (t : Fin cfg0.N) (h0 : ¬t.val % 64 = 0) (h : t.val % 2 = 0) (j : Fin 1024) :
    (outsAt0 m c t.val t.isLt).2.1 (ix2 0 j) = (outsAt0 m c (t.val - 1) (prev t)).2.1 (ix2 0 j) := by
  rw [outsAt0_C m c t h0 h (by omega)]
  dsimp only [out0_C_11]

theorem dshift_odd (H : At m c P) (t : Fin cfg0.N) (h : t.val % 2 = 1) (j : Fin 1024) :
    (outsAt0 m c t.val t.isLt).2.1 (ix2 0 j) = (outsAt0 m c (t.val - 1) (prev t)).2.1 (ix2 0 j)
      + ((1 * ∑ r : Fin 512, NormMixSpec.dn P (row t r) j : ℝ) : EReal) := by
  rw [outsAt0_B m c t (by omega) (by omega) h]
  dsimp only
  frame_out
  exact pay14_at (D := fun r j => NormMixSpec.dn P (row t r) j) (fun r j => dn_at H t h (Memref.IsWhole.read_unread _ _) r j) _ j

theorem dshift_last (H : At m c P) (t : Fin cfg0.N) (h : t.val = 63) (j : Fin 1024) :
    (outsAt0 m c t.val t.isLt).2.1 (ix2 0 j) = NormMixSpec.dshiftArr P (ix2 0 j) := by
  have hN : ∀ {n : ℕ}, n < 64 → n < cfg0.N := fun h => lt_of_lt_of_eq h N_0.symm
  exact NormMixSpec.total (fun n => NormMixSpec.dn P n j) (1) (fun t h => (outsAt0 m c t (hN h)).2.1 (ix2 0 j))
    (fun t h h0 => dshift_first ⟨t, hN h⟩ (by show t % 64 = 0; omega) j)
    (fun t h h0 h1 => dshift_even ⟨t, hN h⟩ (by show ¬t % 64 = 0; omega) h1 j)
    (fun t h h1 => dshift_odd H ⟨t, hN h⟩ h1 j) t.val (t_lt t) h

theorem dscale_first (t : Fin cfg0.N) (h : t.val % 64 = 0) (j : Fin 1024) :
    (outsAt0 m c t.val t.isLt).2.2.1 (ix2 0 j) = 0 := by
  rw [outsAt0_A m c t h (by omega) (by omega)]
  dsimp only
  frame_out
  pointwise [k0_pay2]

theorem dscale_even (t : Fin cfg0.N) (h0 : ¬t.val % 64 = 0) (h : t.val % 2 = 0) (j : Fin 1024) :
    (outsAt0 m c t.val t.isLt).2.2.1 (ix2 0 j) = (outsAt0 m c (t.val - 1) (prev t)).2.2.1 (ix2 0 j) := by
  rw [outsAt0_C m c t h0 h (by omega)]
  dsimp only [out0_C_12]

theorem dscale_odd (H : At m c P) (t : Fin cfg0.N) (h : t.val % 2 = 1) (j : Fin 1024) :
    (outsAt0 m c t.val t.isLt).2.2.1 (ix2 0 j) = (outsAt0 m c (t.val - 1) (prev t)).2.2.1 (ix2 0 j)
      + ((P.g (ix2 0 j) * ∑ r : Fin 512, NormMixSpec.t P (row t r) j : ℝ) : EReal) := by
  rw [outsAt0_B m c t (by omega) (by omega) h]
  dsimp only
  frame_out
  exact pay15_at (G := fun j => P.g (ix2 0 j)) (fun j => blk5 H t 0 j) (fun j => tsum_at H t h (Memref.IsWhole.read_unread _ _) j) _ j

theorem dscale_last (H : At m c P) (t : Fin cfg0.N) (h : t.val = 63) (j : Fin 1024) :
    (outsAt0 m c t.val t.isLt).2.2.1 (ix2 0 j) = NormMixSpec.dscaleArr P (ix2 0 j) := by
  have hN : ∀ {n : ℕ}, n < 64 → n < cfg0.N := fun h => lt_of_lt_of_eq h N_0.symm
  exact NormMixSpec.total (fun n => NormMixSpec.t P n j) (P.g (ix2 0 j)) (fun t h => (outsAt0 m c t (hN h)).2.2.1 (ix2 0 j))
    (fun t h h0 => dscale_first ⟨t, hN h⟩ (by show t % 64 = 0; omega) j)
    (fun t h h0 h1 => dscale_even ⟨t, hN h⟩ (by show ¬t % 64 = 0; omega) h1 j)
    (fun t h h1 => dscale_odd H ⟨t, hN h⟩ h1 j) t.val (t_lt t) h

theorem dg_first (t : Fin cfg0.N) (h : t.val % 64 = 0) (j : Fin 1024) :
    (outsAt0 m c t.val t.isLt).2.2.2.1 (ix2 0 j) = 0 := by
  rw [outsAt0_A m c t h (by omega) (by omega)]
  dsimp only
  frame_out
  pointwise [k0_pay3]

theorem dg_even (t : Fin cfg0.N) (h0 : ¬t.val % 64 = 0) (h : t.val % 2 = 0) (j : Fin 1024) :
    (outsAt0 m c t.val t.isLt).2.2.2.1 (ix2 0 j) = (outsAt0 m c (t.val - 1) (prev t)).2.2.2.1 (ix2 0 j) := by
  rw [outsAt0_C m c t h0 h (by omega)]
  dsimp only [out0_C_13]

theorem dg_odd (H : At m c P) (t : Fin cfg0.N) (h : t.val % 2 = 1) (j : Fin 1024) :
    (outsAt0 m c t.val t.isLt).2.2.2.1 (ix2 0 j) = (outsAt0 m c (t.val - 1) (prev t)).2.2.2.1 (ix2 0 j)
      + ((NormMixSpec.md1 P j * ∑ r : Fin 512, NormMixSpec.t P (row t r) j : ℝ) : EReal) := by
  rw [outsAt0_B m c t (by omega) (by omega) h]
  dsimp only
  frame_out
  exact pay16_at (fun j => mdLine_at H t j) (fun j => tsum_at H t h (Memref.IsWhole.read_unread _ _) j) _ j

theorem dg_last (H : At m c P) (t : Fin cfg0.N) (h : t.val = 63) (j : Fin 1024) :
    (outsAt0 m c t.val t.isLt).2.2.2.1 (ix2 0 j) = NormMixSpec.dgArr P (ix2 0 j) := by
  have hN : ∀ {n : ℕ}, n < 64 → n < cfg0.N := fun h => lt_of_lt_of_eq h N_0.symm
  exact NormMixSpec.total (fun n => NormMixSpec.t P n j) (NormMixSpec.md1 P j) (fun t h => (outsAt0 m c t (hN h)).2.2.2.1 (ix2 0 j))
    (fun t h h0 => dg_first ⟨t, hN h⟩ (by show t % 64 = 0; omega) j)
    (fun t h h0 h1 => dg_even ⟨t, hN h⟩ (by show ¬t % 64 = 0; omega) h1 j)
    (fun t h h1 => dg_odd H ⟨t, hN h⟩ h1 j) t.val (t_lt t) h

theorem dgate_first (t : Fin cfg0.N) (h : t.val % 64 = 0) (j : Fin 1024) :
    (outsAt0 m c t.val t.isLt).2.2.2.2.2.1 (ix2 0 j) = 0 := by
  rw [outsAt0_A m c t h (by omega) (by omega)]
  dsimp only
  frame_out
  pointwise [k0_pay4]

theorem dgate_even (t : Fin cfg0.N) (h0 : ¬t.val % 64 = 0) (h : t.val % 2 = 0) (j : Fin 1024) :
    (outsAt0 m c t.val t.isLt).2.2.2.2.2.1 (ix2 0 j) = (outsAt0 m c (t.val - 1) (prev t)).2.2.2.2.2.1 (ix2 0 j) := by
  rw [outsAt0_C m c t h0 h (by omega)]
  dsimp only [out0_C_15]

theorem dgate_odd (H : At m c P) (t : Fin cfg0.N) (h : t.val % 2 = 1) (j : Fin 1024) :
    (outsAt0 m c t.val t.isLt).2.2.2.2.2.1 (ix2 0 j) = (outsAt0 m c (t.val - 1) (prev t)).2.2.2.2.2.1 (ix2 0 j)
      + ((1 * ∑ r : Fin 512, NormMixSpec.dh P (row t r) j * P.y (ix2 (row t r) j) : ℝ) : EReal) := by
  rw [outsAt0_B m c t (by omega) (by omega) h]
  dsimp only
  frame_out
  exact pay6_at (H := fun r j => NormMixSpec.dh P (row t r) j) (Y := fun r j => P.y (ix2 (row t r) j))
    (fun r j => dh_pay H t h (Memref.IsWhole.read_unread _ _) r j) (fun r j => blk8 H t r j) _ j

theorem dgate_last (H : At m c P) (t : Fin cfg0.N) (h : t.val = 63) (j : Fin 1024) :
    (outsAt0 m c t.val t.isLt).2.2.2.2.2.1 (ix2 0 j) = NormMixSpec.dgateArr P (ix2 0 j) := by
  have hN : ∀ {n : ℕ}, n < 64 → n < cfg0.N := fun h => lt_of_lt_of_eq h N_0.symm
  exact NormMixSpec.total (fun n => NormMixSpec.dh P n j * P.y (ix2 n j)) (1) (fun t h => (outsAt0 m c t (hN h)).2.2.2.2.2.1 (ix2 0 j))
    (fun t h h0 => dgate_first ⟨t, hN h⟩ (by show t % 64 = 0; omega) j)
    (fun t h h0 h1 => dgate_even ⟨t, hN h⟩ (by show ¬t % 64 = 0; omega) h1 j)
    (fun t h h1 => dgate_odd H ⟨t, hN h⟩ h1 j) t.val (t_lt t) h

theorem flush10 : ∀ t : Fin grid0.N, (cfg0.win 10).flush t = true → t.val % 2 = 1 := by decide +kernel

theorem dh_arr (H : At m c P) : (dats m 0 c).arrAt 10 cfg0.N = NormMixSpec.dhArr P := by
  refine (dats m 0 c).arrAt_eq_of_covers 10 _ (by decide +kernel) fun t hf y => ?_
  rw [after0_10]
  obtain ⟨r, k, rfl⟩ := pair y
  rw [emb10]
  exact dh_at H t (flush10 t hf) r k

theorem flush14 : ∀ t : Fin grid0.N, (cfg0.win 14).flush t = true → t.val % 2 = 1 := by decide +kernel

theorem dy_arr (H : At m c P) : (dats m 0 c).arrAt 14 cfg0.N = NormMixSpec.dyArr P := by
  refine (dats m 0 c).arrAt_eq_of_covers 14 _ (by decide +kernel) fun t hf y => ?_
  rw [after0_14]
  obtain ⟨r, k, rfl⟩ := pair y
  rw [emb14]
  exact dy_at H t (flush14 t hf) r k

theorem flush11 : ∀ t : Fin grid0.N, (cfg0.win 11).flush t = true → t.val = 63 := by decide +kernel

theorem dshift_arr (H : At m c P) : (dats m 0 c).arrAt 11 cfg0.N = NormMixSpec.dshiftArr P := by
  refine (dats m 0 c).arrAt_eq_of_covers 11 _ (by decide +kernel) fun t hf y => ?_
  rw [after0_11]
  obtain ⟨r, k, rfl⟩ := pair y
  obtain rfl : r = 0 := Subsingleton.elim _ _
  rw [emb11]
  exact dshift_last H t (flush11 t hf) k

theorem flush12 : ∀ t : Fin grid0.N, (cfg0.win 12).flush t = true → t.val = 63 := by decide +kernel

theorem dscale_arr (H : At m c P) : (dats m 0 c).arrAt 12 cfg0.N = NormMixSpec.dscaleArr P := by
  refine (dats m 0 c).arrAt_eq_of_covers 12 _ (by decide +kernel) fun t hf y => ?_
  rw [after0_12]
  obtain ⟨r, k, rfl⟩ := pair y
  obtain rfl : r = 0 := Subsingleton.elim _ _
  rw [emb12]
  exact dscale_last H t (flush12 t hf) k

theorem flush13 : ∀ t : Fin grid0.N, (cfg0.win 13).flush t = true → t.val = 63 := by decide +kernel

theorem dg_arr (H : At m c P) : (dats m 0 c).arrAt 13 cfg0.N = NormMixSpec.dgArr P := by
  refine (dats m 0 c).arrAt_eq_of_covers 13 _ (by decide +kernel) fun t hf y => ?_
  rw [after0_13]
  obtain ⟨r, k, rfl⟩ := pair y
  obtain rfl : r = 0 := Subsingleton.elim _ _
  rw [emb13]
  exact dg_last H t (flush13 t hf) k

theorem flush15 : ∀ t : Fin grid0.N, (cfg0.win 15).flush t = true → t.val = 63 := by decide +kernel

theorem dgate_arr (H : At m c P) : (dats m 0 c).arrAt 15 cfg0.N = NormMixSpec.dgateArr P := by
  refine (dats m 0 c).arrAt_eq_of_covers 15 _ (by decide +kernel) fun t hf y => ?_
  rw [after0_15]
  obtain ⟨r, k, rfl⟩ := pair y
  obtain rfl : r = 0 := Subsingleton.elim _ _
  rw [emb15]
  exact dgate_last H t (flush15 t hf) k

end Cert.NormMixIdeal.Hand

end
-- ==== Proof.NormMixRefValue.lean ====
module

public import proofs.«01_k».proof.Proof.Gen.NormMixRefIdeal.Read
public import proofs.«01_k».proof.Proof.NormMixSpec
public import proofs.«01_k».proof.Proof.Reads

@[expose] public section

/-! The second modulated norm's gradient: what the reference computes at real arguments. -/

noncomputable section

namespace Cert.NormMixRefIdeal.Hand

open Cert.NormMixRefIdeal Cert.NormMixRefIdeal.Read Idealize.ShloMosaic Cert

variable (P : NormMixSpec.Args)

abbrev A : S16384x2816.Idx → EReal := fun i => (P.a i : EReal)
abbrev B : S16384x2816.Idx → EReal := fun i => (P.b i : EReal)
abbrev W : S1024x5632.Idx → EReal := fun i => (P.w i : EReal)
abbrev H : S16384x1024.Idx → EReal := fun i => (P.h i : EReal)
abbrev Y : S16384x1024.Idx → EReal := fun i => (P.y i : EReal)
abbrev G : S1x1024.Idx → EReal := fun i => (P.g i : EReal)
abbrev Md : S9x1024.Idx → EReal := fun i => (P.md i : EReal)
abbrev Mp : S9x1024.Idx → EReal := fun i => (P.mp i : EReal)
abbrev Dr : S16384x1024.Idx → EReal := fun i => (P.d i : EReal)

/-- What stands under the root. -/
def under (n : Fin 16384) : ℝ := (∑ j : Fin 1024, NormMixSpec.x P n j * NormMixSpec.x P n j) * (1 / 1024) + NormMixSpec.eps

theorem under_pos (n : Fin 16384) : 0 < under P n := NormMixSpec.under_pos (NormMixSpec.x P n)

theorem r_sq (n : Fin 16384) : 1 / under P n = NormMixSpec.r P n * NormMixSpec.r P n := by
  show _ = (Real.sqrt (under P n))⁻¹ * (Real.sqrt (under P n))⁻¹
  rw [← mul_inv, Real.mul_self_sqrt (under_pos P n).le, one_div]

theorem neg_half_bits : Ideal.ofBits .f32 0xBF000000#32 = ((-(1 / 2) : ℝ) : EReal) := by
  simp [Ideal.ofBits, Ideal.ieee, -EReal.coe_mul]
  norm_num

theorem gate_eq (j : Fin 1024) : val_main_v4 (F := Ideal) (Mp P) (ix2 0 j) = ((NormMixSpec.gate P j : ℝ) : EReal) := by
  pointwise [val_main_v4]
  rfl

theorem x_eq (n : Fin 16384) (j : Fin 1024) :
    val_main_v9 (F := Ideal) (H P) (Y P) (Mp P) (ix2 n j) = ((NormMixSpec.x P n j : ℝ) : EReal) := by
  pointwise [val_main_v9, val_main_v8, val_main_v7, val_main_v3]
  rw [gate_eq]
  simp only [← EReal.coe_mul, ← EReal.coe_add]
  rfl

theorem under_eq (n : Fin 16384) :
    val_main_v16 (F := Ideal) (H P) (Y P) (Mp P) (ix2 n 0) = ((under P n : ℝ) : EReal) := by
  pointwise [val_main_v16, val_main_v15, val_main_v14, val_main_v13, val_main_v12, val_main_v11, val_main_v10,
    val_main_cst, val_main_cst_0, val_main_cst_1]
  simp only [x_eq]
  rw [Finite.coe_dot]
  exact (congrArg₂ (· + ·) (NormMixSpec.div_size _) NormMixSpec.eps_bits).trans (by unfold under; push_cast; rfl)

theorem r_eq (n : Fin 16384) :
    val_main_v17 (F := Ideal) (H P) (Y P) (Mp P) (ix2 n 0) = ((NormMixSpec.r P n : ℝ) : EReal) := by
  pointwise [val_main_v17]
  rw [under_eq]
  exact NormMixSpec.rsqrt_under (NormMixSpec.x P n)

theorem slope_eq (n : Fin 16384) :
    val_main_v20 (F := Ideal) (H P) (Y P) (Mp P) (ix2 n 0)
      = ((-(1 / 2) * (NormMixSpec.r P n * (NormMixSpec.r P n * NormMixSpec.r P n)) : ℝ) : EReal) := by
  pointwise [val_main_v20, val_main_v19, val_main_v18, val_main_cst_2]
  rw [under_eq, r_eq, Ideal.div_coe (under_pos P n).ne', r_sq]
  refine (congrArg (fun z : EReal => z * ((NormMixSpec.r P n : EReal) * ((NormMixSpec.r P n * NormMixSpec.r P n : ℝ) : EReal)))
    neg_half_bits).trans ?_
  simp only [← EReal.coe_mul]

theorem xh_eq (n : Fin 16384) (j : Fin 1024) :
    val_main_v22 (F := Ideal) (H P) (Y P) (Mp P) (ix2 n j) = ((NormMixSpec.x P n j * NormMixSpec.r P n : ℝ) : EReal) := by
  pointwise [val_main_v22, val_main_v21]
  rw [x_eq, r_eq, EReal.coe_mul]

theorem xg_eq (n : Fin 16384) (j : Fin 1024) :
    val_main_v24 (F := Ideal) (H P) (Y P) (G P) (Mp P) (ix2 n j)
      = ((NormMixSpec.x P n j * NormMixSpec.r P n * P.g (ix2 0 j) : ℝ) : EReal) := by
  pointwise [val_main_v24, val_main_v23]
  rw [xh_eq, EReal.coe_mul _ (P.g (ix2 0 j))]

theorem md_eq (j : Fin 1024) : val_main_v26 (F := Ideal) (Md P) (ix2 0 j) = ((NormMixSpec.md1 P j : ℝ) : EReal) := by
  pointwise [val_main_v26, val_main_v25, val_main_v6, val_main_cst_3]
  rw [← EReal.coe_one, ← EReal.coe_add]
  rfl

theorem dn_eq (n : Fin 16384) (j : Fin 1024) :
    val_main_v37 (F := Ideal) (A P) (B P) (W P) (ix2 n j) = ((NormMixSpec.dn P n j : ℝ) : EReal) := by
  pointwise [val_main_v37, val_main_v36, val_main_v35, val_main_v34, val_main_v33, val_main_v2, val_main_v1, val_main_v0]
  unfold NormMixSpec.dn
  rw [EReal.coe_add, add_comm]
  exact congrArg₂ (· + ·) (Finite.coe_dot _ _ _) (Finite.coe_dot _ _ _)

theorem dm_eq (n : Fin 16384) (j : Fin 1024) :
    val_main_v44 (F := Ideal) (A P) (B P) (W P) (Md P) (ix2 n j) = ((NormMixSpec.dn P n j * NormMixSpec.md1 P j : ℝ) : EReal) := by
  pointwise [val_main_v44, val_main_v43]
  rw [dn_eq, md_eq, EReal.coe_mul]

theorem dmg_eq (n : Fin 16384) (j : Fin 1024) :
    val_main_v49 (F := Ideal) (A P) (B P) (W P) (G P) (Md P) (ix2 n j)
      = ((NormMixSpec.dn P n j * NormMixSpec.md1 P j * P.g (ix2 0 j) : ℝ) : EReal) := by
  pointwise [val_main_v49, val_main_v48]
  rw [dm_eq, EReal.coe_mul _ (P.g (ix2 0 j))]

/-- The sum along a row. -/
def rowSum (n : Fin 16384) : ℝ := ∑ j : Fin 1024, NormMixSpec.x P n j * (NormMixSpec.dn P n j * NormMixSpec.md1 P j * P.g (ix2 0 j))

theorem rowSum_eq (n : Fin 16384) :
    val_main_v52 (F := Ideal) (A P) (B P) (W P) (H P) (Y P) (G P) (Md P) (Mp P) (ix2 n 0) = ((rowSum P n : ℝ) : EReal) := by
  pointwise [val_main_v52, val_main_v51, val_main_v50, val_main_cst_7]
  simp only [x_eq, dmg_eq]
  exact Finite.coe_dot _ _ _

/-- What the root's derivative contributes to a row. -/
def pull (n : Fin 16384) : ℝ :=
  rowSum P n * (-(1 / 2) * (NormMixSpec.r P n * (NormMixSpec.r P n * NormMixSpec.r P n))) * (1 / 1024)

theorem pull_eq (n : Fin 16384) (j : Fin 1024) :
    val_main_v60 (F := Ideal) (A P) (B P) (W P) (H P) (Y P) (G P) (Md P) (Mp P) (ix2 n j) = ((pull P n : ℝ) : EReal) := by
  pointwise [val_main_v60, val_main_v59, val_main_v58, val_main_v57, val_main_v56, val_main_cst_8, val_main_cst_9]
  rw [Fin.sum_univ_one, rowSum_eq, slope_eq]
  refine (NormMixSpec.div_size _).trans ?_
  simp only [← EReal.coe_mul]
  rfl

theorem dh_real (n : Fin 16384) (j : Fin 1024) :
    P.d (ix2 n j) + NormMixSpec.dn P n j * NormMixSpec.md1 P j * P.g (ix2 0 j) * NormMixSpec.r P n + NormMixSpec.x P n j * pull P n
      + pull P n * NormMixSpec.x P n j = NormMixSpec.dh P n j := by
  have e : ∑ l : Fin 1024, NormMixSpec.t P n l * (NormMixSpec.md1 P l * P.g (ix2 0 l)) = NormMixSpec.r P n * rowSum P n := by
    unfold rowSum NormMixSpec.t
    rw [Finset.mul_sum]
    exact Finset.sum_congr rfl fun l _ => by ring
  unfold NormMixSpec.dh NormMixSpec.dhOf
  rw [e]
  unfold pull
  ring

theorem dh_at (n : Fin 16384) (j : Fin 1024) :
    val_main_v64 (F := Ideal) (A P) (B P) (W P) (H P) (Y P) (G P) (Md P) (Mp P) (Dr P) (ix2 n j)
      = ((NormMixSpec.dh P n j : ℝ) : EReal) := by
  pointwise [val_main_v64, val_main_v63, val_main_v62, val_main_v61, val_main_v55, val_main_v54, val_main_v53]
  rw [dmg_eq, r_eq, x_eq, pull_eq, ← dh_real]
  simp only [← EReal.coe_mul, ← EReal.coe_add]

theorem dh_eq : val_main_v64 (F := Ideal) (A P) (B P) (W P) (H P) (Y P) (G P) (Md P) (Mp P) (Dr P) = NormMixSpec.dhArr P := by
  funext i
  obtain ⟨n, j, rfl⟩ := pair i
  exact dh_at P n j

theorem dh_cast_at (n : Fin 16384) (j : Fin 1024) :
    val_main_v65 (F := Ideal) (A P) (B P) (W P) (H P) (Y P) (G P) (Md P) (Mp P) (Dr P) (ix2 n j)
      = ((NormMixSpec.dh P n j : ℝ) : EReal) := by
  pointwise [val_main_v65]
  exact dh_at P n j

theorem dy_eq : val_main_v71 (F := Ideal) (A P) (B P) (W P) (H P) (Y P) (G P) (Md P) (Mp P) (Dr P) = NormMixSpec.dyArr P := by
  funext i
  obtain ⟨n, j, rfl⟩ := pair i
  pointwise [val_main_v71, val_main_v67, val_main_v66]
  rw [dh_cast_at, gate_eq, mul_comm, ← EReal.coe_mul]
  rfl

theorem row_ix (i : S1x1024.Idx) : ∃ j : Fin 1024, i = ix2 0 j :=
  ⟨i 1, (eq_ix2 i).trans (congrArg (fun z : Fin 1 => ix2 z (i 1)) (Subsingleton.elim _ _))⟩

theorem dshift_eq : val_main_v39 (F := Ideal) (A P) (B P) (W P) = NormMixSpec.dshiftArr P := by
  funext i
  obtain ⟨j, rfl⟩ := row_ix i
  pointwise [val_main_v39, val_main_v38, val_main_cst_4]
  simp only [dn_eq]
  rw [Finite.coe_sum]
  show _ = ((1 * ∑ n : Fin 16384, NormMixSpec.dn P n j : ℝ) : EReal)
  rw [one_mul]

theorem dscale_eq : val_main_v42 (F := Ideal) (A P) (B P) (W P) (H P) (Y P) (G P) (Mp P) = NormMixSpec.dscaleArr P := by
  funext i
  obtain ⟨j, rfl⟩ := row_ix i
  pointwise [val_main_v42, val_main_v41, val_main_v40, val_main_cst_5]
  simp only [dn_eq, xg_eq]
  rw [Finite.coe_dot]
  show _ = ((P.g (ix2 0 j) * ∑ n : Fin 16384, NormMixSpec.t P n j : ℝ) : EReal)
  rw [Finset.mul_sum]
  exact congrArg Real.toEReal (Finset.sum_congr rfl fun n _ => by unfold NormMixSpec.t; ring)

theorem dg_eq : val_main_v47 (F := Ideal) (A P) (B P) (W P) (H P) (Y P) (Md P) (Mp P) = NormMixSpec.dgArr P := by
  funext i
  obtain ⟨j, rfl⟩ := row_ix i
  pointwise [val_main_v47, val_main_v46, val_main_v45, val_main_cst_6]
  simp only [dm_eq, xh_eq]
  rw [Finite.coe_dot]
  show _ = ((NormMixSpec.md1 P j * ∑ n : Fin 16384, NormMixSpec.t P n j : ℝ) : EReal)
  rw [Finset.mul_sum]
  exact congrArg Real.toEReal (Finset.sum_congr rfl fun n _ => by unfold NormMixSpec.t; ring)

theorem dgate_eq :
    val_main_v70 (F := Ideal) (A P) (B P) (W P) (H P) (Y P) (G P) (Md P) (Mp P) (Dr P) = NormMixSpec.dgateArr P := by
  funext i
  obtain ⟨j, rfl⟩ := row_ix i
  pointwise [val_main_v70, val_main_v69, val_main_v68, val_main_v3, val_main_cst_10]
  simp only [dh_cast_at]
  rw [Finite.coe_dot]
  show _ = ((1 * ∑ n : Fin 16384, NormMixSpec.dh P n j * P.y (ix2 n j) : ℝ) : EReal)
  rw [one_mul]

end Cert.NormMixRefIdeal.Hand

end
-- ==== Proof.NormMixClaim.lean ====
module

public import proofs.«01_k».proof.Defs
public import proofs.«01_k».proof.Proof.Gen.NormMix.Frame
public import proofs.«01_k».proof.Proof.Gen.Pre_finite_norm_mix
public import proofs.«01_k».proof.Proof.NormMixArrays
public import proofs.«01_k».proof.Proof.NormMixRefValue
public import proofs.«01_k».proof.Proof.Gen.NormMixRefIdeal.Run
public import proofs.«01_k».proof.Proof.Reads

@[expose] public section

/-! The five claims about the gradient of the second modulated norm, the last of them at arguments that are real numbers. -/

noncomputable section

namespace Cert.NormMixClaim

open Idealize.ShloMosaic TcCoe Idealize.SL.Sem Cert

theorem frame : Cert.quiescent_NormMix := fun m ρ _ => Cert.NormMix.Gen.frame m ρ

theorem frame_ideal : Cert.quiescent_NormMixIdeal := fun m ρ _ => Cert.NormMixIdeal.Gen.frame m ρ

theorem frame_ideal_pre : Cert.quiescent_NormMixIdeal_pre_finite_norm_mix := fun m ρ _ => Cert.NormMixIdeal.Gen.frame m ρ

/-- The reference runs on the host and has no counter. -/
theorem frame_ref : Cert.quiescent_NormMixRefIdeal := fun m ρ _ =>
  (θ_run Cert.NormMixRefIdeal.defs _ _).mono
    (fun r h => ⟨fun c => (h c).2.2.2.2.2.2, sem_eq_zero_of_no_sems (by decide) r.2⟩)
    (Cert.NormMixRefIdeal.Value.run (F := Ideal) m ρ)

theorem frame_ref_pre : Cert.quiescent_NormMixRefIdeal_pre_finite_norm_mix := fun m ρ _ => frame_ref m ρ trivial

theorem preserves : Cert.preserves_NormMix_NormMixIdeal := trivial

section
open Cert.NormMixIdeal Cert.NormMixIdeal.Hand

variable (m : (ℓ : Loc nD τ sig) → Buf (Elt Ideal) ℓ) (c : Dev nD)

/-- The precondition says that every entry of every argument is a real number. -/
theorem args_real (h : Cert.Pre_NormMixIdeal_finite_norm_mix m) : ∃ P : NormMixSpec.Args, At m c P := by
  obtain ⟨h0, h1, h2, h3, h4, h5, h6, h7, h8⟩ := h c
  obtain ⟨p0, e0⟩ := Finite.lift (x := aArr m c) fun i => Finite.real_of_cmp (congrFun h0 i)
  obtain ⟨p1, e1⟩ := Finite.lift (x := bArr m c) fun i => Finite.real_of_cmp (congrFun h1 i)
  obtain ⟨p2, e2⟩ := Finite.lift (x := wArr m c) fun i => Finite.real_of_cmp (congrFun h2 i)
  obtain ⟨p3, e3⟩ := Finite.lift (x := hArr m c) fun i => Finite.real_of_cmp (congrFun h3 i)
  obtain ⟨p4, e4⟩ := Finite.lift (x := yArr m c) fun i => Finite.real_of_cmp (congrFun h4 i)
  obtain ⟨p5, e5⟩ := Finite.lift (x := gArr m c) fun i => Finite.real_of_cmp (congrFun h5 i)
  obtain ⟨p6, e6⟩ := Finite.lift (x := mdArr m c) fun i => Finite.real_of_cmp (congrFun h6 i)
  obtain ⟨p7, e7⟩ := Finite.lift (x := mpArr m c) fun i => Finite.real_of_cmp (congrFun h7 i)
  obtain ⟨p8, e8⟩ := Finite.lift (x := dArr m c) fun i => Finite.real_of_cmp (congrFun h8 i)
  exact ⟨⟨p0, p1, p2, p3, p4, p5, p6, p7, p8⟩, ⟨e0, e1, e2, e3, e4, e5, e6, e7, e8⟩⟩

end

section
open Cert.NormMixRefIdeal

variable (m : (ℓ : Loc nD τ sig) → Buf (Elt Ideal) ℓ) (c : Dev nD)

/-- The reference's arguments, as launched. -/
abbrev aRef : S16384x2816.Idx → EReal := m (slot c main_arg0)
abbrev bRef : S16384x2816.Idx → EReal := m (slot c main_arg1)
abbrev wRef : S1024x5632.Idx → EReal := m (slot c main_arg2)
abbrev hRef : S16384x1024.Idx → EReal := m (slot c main_arg3)
abbrev yRef : S16384x1024.Idx → EReal := m (slot c main_arg4)
abbrev gRef : S1x1024.Idx → EReal := m (slot c main_arg5)
abbrev mdRef : S9x1024.Idx → EReal := m (slot c main_arg6)
abbrev mpRef : S9x1024.Idx → EReal := m (slot c main_arg7)
abbrev dRef : S16384x1024.Idx → EReal := m (slot c main_arg8)

/-- The reference's run, its results named by its own stages. -/
theorem ref_run (ρ : Dev nD → PrngReg) :
    θ_run (defs (F := Ideal)) (onTc (τ := τ) (main (F := Ideal))) ⟨m, fun _ => 0, ρ⟩ fun r => ∀ c : Dev nD,
      r.2.mem (slot c main_v64) = Read.val_main_v64 (aRef m c) (bRef m c) (wRef m c) (hRef m c) (yRef m c) (gRef m c) (mdRef m c) (mpRef m c) (dRef m c)
      ∧ r.2.mem (slot c main_v39) = Read.val_main_v39 (aRef m c) (bRef m c) (wRef m c)
      ∧ r.2.mem (slot c main_v42) = Read.val_main_v42 (aRef m c) (bRef m c) (wRef m c) (hRef m c) (yRef m c) (gRef m c) (mpRef m c)
      ∧ r.2.mem (slot c main_v47) = Read.val_main_v47 (aRef m c) (bRef m c) (wRef m c) (hRef m c) (yRef m c) (mdRef m c) (mpRef m c)
      ∧ r.2.mem (slot c main_v71) = Read.val_main_v71 (aRef m c) (bRef m c) (wRef m c) (hRef m c) (yRef m c) (gRef m c) (mdRef m c) (mpRef m c) (dRef m c)
      ∧ r.2.mem (slot c main_v70) = Read.val_main_v70 (aRef m c) (bRef m c) (wRef m c) (hRef m c) (yRef m c) (gRef m c) (mdRef m c) (mpRef m c) (dRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5)
      ∧ r.2.mem (slot c main_arg6) = m (slot c main_arg6)
      ∧ r.2.mem (slot c main_arg7) = m (slot c main_arg7)
      ∧ r.2.mem (slot c main_arg8) = m (slot c main_arg8) :=
  (θ_run (defs (F := Ideal)) _ _).mono (fun r h c =>
      ⟨(h c).1.trans (Read.val_main_v64_eq _ _), (h c).2.1.trans (Read.val_main_v39_eq _ _ _),
       (h c).2.2.1.trans (Read.val_main_v42_eq _ _ _ _ _ _ _), (h c).2.2.2.1.trans (Read.val_main_v47_eq _ _ _ _ _ _ _),
       (h c).2.2.2.2.1.trans (Read.val_main_v71_eq _ _), (h c).2.2.2.2.2.1.trans (Read.val_main_v70_eq _ _), (h c).2.2.2.2.2.2⟩)
    (Value.run (F := Ideal) m ρ)

end

/-- Equal real arguments give equal results. -/
theorem algebraic : Cert.algebraic_NormMixIdeal_NormMixRefIdeal_pre_finite_norm_mix := by
  intro m ρ m' ρ' hpre hagree
  choose P H using fun c => args_real m c hpre
  refine ⟨fun c => NormMixSpec.dhArr (P c), fun c => NormMixSpec.dshiftArr (P c), fun c => NormMixSpec.dscaleArr (P c),
    fun c => NormMixSpec.dgArr (P c), fun c => NormMixSpec.dyArr (P c), fun c => NormMixSpec.dgateArr (P c),
    (θ_run (NormMixIdeal.defs (F := Ideal)) _ _).mono (fun r h c =>
      ⟨(h c).1.trans (NormMixIdeal.Hand.dh_arr (H c)), (h c).2.1.trans (NormMixIdeal.Hand.dshift_arr (H c)),
       (h c).2.2.1.trans (NormMixIdeal.Hand.dscale_arr (H c)), (h c).2.2.2.1.trans (NormMixIdeal.Hand.dg_arr (H c)),
       (h c).2.2.2.2.1.trans (NormMixIdeal.Hand.dy_arr (H c)), (h c).2.2.2.2.2.1.trans (NormMixIdeal.Hand.dgate_arr (H c)),
       (h c).2.2.2.2.2.2⟩)
      (NormMixIdeal.Value.run_blocks (F := Ideal) m ρ),
    (θ_run (NormMixRefIdeal.defs (F := Ideal)) _ _).mono (fun r h c => ?_) (ref_run m' ρ')⟩
  obtain ⟨g0, g1, g2, g3, g4, g5, g6, g7, g8⟩ := hagree c
  have q0 : aRef m' c = NormMixRefIdeal.Hand.A (P c) := g0.trans (H c).a
  have q1 : bRef m' c = NormMixRefIdeal.Hand.B (P c) := g1.trans (H c).b
  have q2 : wRef m' c = NormMixRefIdeal.Hand.W (P c) := g2.trans (H c).w
  have q3 : hRef m' c = NormMixRefIdeal.Hand.H (P c) := g3.trans (H c).h
  have q4 : yRef m' c = NormMixRefIdeal.Hand.Y (P c) := g4.trans (H c).y
  have q5 : gRef m' c = NormMixRefIdeal.Hand.G (P c) := g5.trans (H c).g
  have q6 : mdRef m' c = NormMixRefIdeal.Hand.Md (P c) := g6.trans (H c).md
  have q7 : mpRef m' c = NormMixRefIdeal.Hand.Mp (P c) := g7.trans (H c).mp
  have q8 : dRef m' c = NormMixRefIdeal.Hand.Dr (P c) := g8.trans (H c).d
  have hc := h c
  rw [q0, q1, q2, q3, q4, q5, q6, q7, q8, NormMixRefIdeal.Hand.dh_eq, NormMixRefIdeal.Hand.dshift_eq, NormMixRefIdeal.Hand.dscale_eq,
    NormMixRefIdeal.Hand.dg_eq, NormMixRefIdeal.Hand.dy_eq, NormMixRefIdeal.Hand.dgate_eq] at hc
  exact hc

end Cert.NormMixClaim

end
-- ==== Proof.LossSpec.lean ====
module

public import proofs.«01_k».proof.Proof.NormSpec

@[expose] public section

/-! The loss and its gradients, written once over the real numbers. -/

noncomputable section

namespace Cert.LossSpec

open Idealize.ShloMosaic

/-- The five arguments: the residual stream, the branch added to it, the branch's modulations, the norm's weight, the target. -/
structure Args where
  h : (⟨2, ![16384, 1024]⟩ : Shape).Idx → ℝ
  y : (⟨2, ![16384, 1024]⟩ : Shape).Idx → ℝ
  md : (⟨2, ![9, 1024]⟩ : Shape).Idx → ℝ
  g : (⟨2, ![1, 1024]⟩ : Shape).Idx → ℝ
  t : (⟨2, ![16384, 1024]⟩ : Shape).Idx → ℝ

/-- Of one row `X` of the norm's input, with weight `G` and target `T`: the normed input, the error, its mean square, the
    gradient arriving at the norm, the gradient of the input. -/
def xh (X : Fin 1024 → ℝ) (j : Fin 1024) : ℝ := X j * NormSpec.scaleOf X
def er (X G T : Fin 1024 → ℝ) (j : Fin 1024) : ℝ := xh X j * G j - T j
def tok (X G T : Fin 1024 → ℝ) : ℝ := (∑ j : Fin 1024, er X G T j * er X G T j) * (1 / 1024)
def dv (X G T : Fin 1024 → ℝ) (j : Fin 1024) : ℝ := er X G T j * (1 / 1024)
def dx (X G T : Fin 1024 → ℝ) (j : Fin 1024) : ℝ :=
  (dv X G T j * G j - xh X j * ((∑ l : Fin 1024, dv X G T l * G l * xh X l) * (1 / 1024))) * NormSpec.scaleOf X

variable (P : Args)

/-- The branch's gate. -/
def gate (j : Fin 1024) : ℝ := 1 / 2 * P.md (ix2 8 j)
/-- The norm's input. -/
def x (n : Fin 16384) (j : Fin 1024) : ℝ := P.h (ix2 n j) + gate P j * P.y (ix2 n j)
def w (j : Fin 1024) : ℝ := P.g (ix2 0 j)
def tg (n : Fin 16384) (j : Fin 1024) : ℝ := P.t (ix2 n j)
/-- The gradient of the norm's input. -/
def dh (n : Fin 16384) (j : Fin 1024) : ℝ := dx (x P n) (w P) (tg P n) j

abbrev Tall := (⟨2, ![16384, 1024]⟩ : Shape).Idx → EReal
abbrev Row := (⟨2, ![1, 1024]⟩ : Shape).Idx → EReal

def dhArr : Tall := fun i => ((dh P (i 0) (i 1) : ℝ) : EReal)
def dyArr : Tall := fun i => ((dh P (i 0) (i 1) * gate P (i 1) : ℝ) : EReal)
def lossArr : (⟨2, ![1, 128]⟩ : Shape).Idx → EReal :=
  fun _ => ((1 / 2 * ∑ n : Fin 16384, tok (x P n) (w P) (tg P n) : ℝ) : EReal)
def dgArr : Row := fun i => ((1 * ∑ n : Fin 16384, dv (x P n) (w P) (tg P n) (i 1) * xh (x P n) (i 1) : ℝ) : EReal)
def dgateArr : Row := fun i => ((1 / 2 * ∑ n : Fin 16384, dh P n (i 1) * P.y (ix2 n (i 1)) : ℝ) : EReal)

theorem part_bits : Ideal.ofBits .f32 0x3A800000#32 = ((1 / 1024 : ℝ) : EReal) := by
  simp [Ideal.ofBits, Ideal.ieee, -EReal.coe_mul]
  norm_num

/-- Adding up over the points, 256 rows at each. -/
theorem total (F : Fin 16384 → ℝ) (κ : ℝ) (f : (t : ℕ) → t < 64 → EReal)
    (h0 : ∀ (t : ℕ) (h : t < 64), t = 0 → f t h = ((κ * ∑ r : Fin 256, F ⟨256 * t + r.val, by omega⟩ : ℝ) : EReal))
    (hs : ∀ (t : ℕ) (h : t < 64), t ≠ 0 →
      f t h = f (t - 1) (by omega) + ((κ * ∑ r : Fin 256, F ⟨256 * t + r.val, by omega⟩ : ℝ) : EReal)) :
    ∀ (t : ℕ) (h : t < 64), t = 63 → f t h = ((κ * ∑ n : Fin 16384, F n : ℝ) : EReal) := by
  let Fe : ℕ → ℝ := fun n => if h : n < 16384 then F ⟨n, h⟩ else 0
  have rows : ∀ (t : ℕ) (h : t < 64), ∑ r : Fin 256, F ⟨256 * t + r.val, by omega⟩ = ∑ r ∈ Finset.range 256, Fe (256 * t + r) := by
    intro t h
    rw [Finset.sum_range]
    refine Finset.sum_congr rfl fun r _ => ?_
    show _ = dite _ _ _
    rw [dif_pos (by omega)]
  have key : ∀ (t : ℕ) (h : t < 64), f t h = ((κ * ∑ n ∈ Finset.range (256 * (t + 1)), Fe n : ℝ) : EReal) := by
    intro t
    induction t with
    | zero => intro h; rw [h0 0 h rfl, rows 0 h]; simp only [Nat.mul_zero, Nat.zero_add, Nat.mul_one]
    | succ t ih =>
      intro h
      rw [hs (t + 1) h (by omega), rows (t + 1) h, show 256 * (t + 1 + 1) = 256 * (t + 1) + 256 by ring, Finset.sum_range_add,
        mul_add κ, EReal.coe_add]
      exact congrArg₂ (· + ·) (ih (by omega)) rfl
  intro t h ht
  rw [key t h]
  subst ht
  refine congrArg (fun s : ℝ => ((κ * s : ℝ) : EReal)) ?_
  rw [show 256 * (63 + 1) = 16384 from rfl, Finset.sum_range]
  refine Finset.sum_congr rfl fun n _ => ?_
  show dite _ _ _ = _
  rw [dif_pos n.isLt]

end Cert.LossSpec

end
-- ==== Proof.LossPays.lean ====
module

public import proofs.«01_k».proof.Proof.Gen.LossIdeal.Value
public import Idealize.ShloMosaic.Lib.Pipeline.ReadBack
public import proofs.«01_k».proof.Proof.LossSpec

@[expose] public section

/-! The loss: what the kernel's pieces compute from blocks with real entries. -/

noncomputable section

namespace Cert.LossIdeal.Hand

open Cert.LossIdeal Cert.LossIdeal.Gen Idealize.ShloMosaic TcCoe Idealize.SL.Sem Cert LossSpec

abbrev Blk := Vec Idealize.ShloMosaic.Ideal S256x1024 .f32
abbrev Line := Vec Idealize.ShloMosaic.Ideal S1x1024 .f32

variable {x tt : Blk} {g : Line} {X T : Fin 256 → Fin 1024 → ℝ} {G : Fin 1024 → ℝ}

/-- The scale of a row. -/
theorem pay5_at (hx : ∀ r j, x (ix2 r j) = (X r j : EReal)) (r : Fin 256) :
    k0_pay5 x (ix2 r 0) = ((NormSpec.scaleOf (X r) : ℝ) : EReal) := by
  pointwise [k0_pay5, k0_pay4]
  simp only [hx]
  rw [Finite.coe_dot]
  exact (congrArg Ideal.rsqrt ((congrArg₂ (· + ·) (NormSpec.div_size _) NormSpec.eps_bits).trans
    (by push_cast; rfl))).trans (NormSpec.rsqrt_under (X r))

/-- The normed input. -/
theorem pay6_at (hx : ∀ r j, x (ix2 r j) = (X r j : EReal)) (r : Fin 256) (j : Fin 1024) :
    k0_pay6 x (ix2 r j) = ((xh (X r) j : ℝ) : EReal) := by
  pointwise [k0_pay6, k0_pay4]
  rw [hx, pay5_at hx]
  unfold xh
  rw [EReal.coe_mul]

/-- The error. -/
theorem pay7_at (hx : ∀ r j, x (ix2 r j) = (X r j : EReal)) (hg : ∀ j, g (ix2 0 j) = (G j : EReal))
    (ht : ∀ r j, tt (ix2 r j) = (T r j : EReal)) (r : Fin 256) (j : Fin 1024) :
    k0_pay7 x g tt (ix2 r j) = ((er (X r) G (T r) j : ℝ) : EReal) := by
  pointwise [k0_pay7]
  rw [pay6_at hx, hg, ht]
  unfold er
  rw [EReal.coe_sub, EReal.coe_mul]

/-- The loss of the block's rows, on top of what was there. -/
theorem pay8_at (hx : ∀ r j, x (ix2 r j) = (X r j : EReal)) (hg : ∀ j, g (ix2 0 j) = (G j : EReal))
    (ht : ∀ r j, tt (ix2 r j) = (T r j : EReal)) (p : Vec Idealize.ShloMosaic.Ideal S1x128 .f32) (j : Fin 128) :
    k0_pay8 x g tt p (ix2 0 j) = p (ix2 0 j) + ((1 / 2 * ∑ r : Fin 256, tok (X r) G (T r) : ℝ) : EReal) := by
  pointwise [k0_pay8]
  simp only [pay7_at hx hg ht, Finite.coe_dot]
  refine congrArg (p (ix2 0 j) + ·) ?_
  rw [EReal.coe_mul, ← Finite.coe_sum]
  refine congrArg₂ (· * ·) NormSpec.half_bits (Finset.sum_congr rfl fun r _ => ?_)
  exact (NormSpec.div_size _).trans (EReal.coe_mul _ _).symm

/-- The gradient arriving at the norm. -/
theorem pay9_at (hx : ∀ r j, x (ix2 r j) = (X r j : EReal)) (hg : ∀ j, g (ix2 0 j) = (G j : EReal))
    (ht : ∀ r j, tt (ix2 r j) = (T r j : EReal)) (r : Fin 256) (j : Fin 1024) :
    k0_pay9 x g tt (ix2 r j) = ((dv (X r) G (T r) j : ℝ) : EReal) := by
  pointwise [k0_pay9]
  rw [pay7_at hx hg ht]
  unfold dv
  rw [EReal.coe_mul]
  exact congrArg (_ * ·) part_bits

/-- The gradient of the weight, on top of what was there. -/
theorem pay10_at (hx : ∀ r j, x (ix2 r j) = (X r j : EReal)) (hg : ∀ j, g (ix2 0 j) = (G j : EReal))
    (ht : ∀ r j, tt (ix2 r j) = (T r j : EReal)) (p : Line) (j : Fin 1024) :
    k0_pay10 (k0_pay6 x) (k0_pay9 x g tt) p (ix2 0 j)
      = p (ix2 0 j) + ((1 * ∑ r : Fin 256, dv (X r) G (T r) j * xh (X r) j : ℝ) : EReal) := by
  pointwise [k0_pay10]
  simp only [pay9_at hx hg ht, pay6_at hx, one_mul]
  rw [Finite.coe_dot]

/-- The gradient of the input. -/
theorem pay11_at (hx : ∀ r j, x (ix2 r j) = (X r j : EReal)) (hg : ∀ j, g (ix2 0 j) = (G j : EReal))
    (ht : ∀ r j, tt (ix2 r j) = (T r j : EReal)) (r : Fin 256) (j : Fin 1024) :
    k0_pay11 g (k0_pay5 x) (k0_pay6 x) (k0_pay9 x g tt) (ix2 r j) = ((dx (X r) G (T r) j : ℝ) : EReal) := by
  pointwise [k0_pay11]
  simp only [pay9_at hx hg ht, pay6_at hx, pay5_at hx, hg, ← EReal.coe_mul]
  rw [Finite.coe_sum]
  rw [NormSpec.div_size]
  simp only [← EReal.coe_mul, ← EReal.coe_sub]
  exact congrArg Real.toEReal (mul_comm _ _)

/-- The gradient of the branch. -/
theorem pay12_at (hx : ∀ r j, x (ix2 r j) = (X r j : EReal)) (hg : ∀ j, g (ix2 0 j) = (G j : EReal))
    (ht : ∀ r j, tt (ix2 r j) = (T r j : EReal)) {q : Line} {Q : Fin 1024 → ℝ} (hq : ∀ j, q (ix2 0 j) = (Q j : EReal))
    (r : Fin 256) (j : Fin 1024) :
    k0_pay12 g (k0_pay5 x) (k0_pay6 x) (k0_pay9 x g tt) q (ix2 r j) = ((dx (X r) G (T r) j * (1 / 2 * Q j) : ℝ) : EReal) := by
  pointwise [k0_pay12]
  rw [pay11_at hx hg ht, hq, EReal.coe_mul, EReal.coe_mul (1 / 2)]
  exact congrArg (fun z => _ * (z * _)) NormSpec.half_bits

/-- The gradient of the branch's gate, on top of what was there. -/
theorem pay13_at (hx : ∀ r j, x (ix2 r j) = (X r j : EReal)) (hg : ∀ j, g (ix2 0 j) = (G j : EReal))
    (ht : ∀ r j, tt (ix2 r j) = (T r j : EReal)) {y : Vec Idealize.ShloMosaic.Ideal S256x1024 .bf16} {Y : Fin 256 → Fin 1024 → ℝ}
    (hy : ∀ r j, y (ix2 r j) = (Y r j : EReal)) (p : Line) (j : Fin 1024) :
    k0_pay13 g (k0_pay5 x) (k0_pay6 x) (k0_pay9 x g tt) p y (ix2 0 j)
      = p (ix2 0 j) + ((1 / 2 * ∑ r : Fin 256, dx (X r) G (T r) j * Y r j : ℝ) : EReal) := by
  pointwise [k0_pay13]
  simp only [pay11_at hx hg ht, hy]
  rw [Finite.coe_dot, EReal.coe_mul]
  exact congrArg (fun z => p (ix2 0 j) + z * _) NormSpec.half_bits

end Cert.LossIdeal.Hand

end
-- ==== Proof.LossBlocks.lean ====
module

public import proofs.«01_k».proof.Proof.LossPays
public import proofs.«01_k».proof.Proof.Reads

@[expose] public section

/-! The loss: what a grid point reads at real arguments. -/

noncomputable section

namespace Cert.LossIdeal.Hand

open Cert.LossIdeal Cert.LossIdeal.Gen Idealize.ShloMosaic TcCoe Idealize.SL.Sem Cert
open Idealize.ShloMosaic.StableHlo

variable (m : (ℓ : Loc nD τ sig) → Buf (Elt Ideal) ℓ) (c : Dev nD)

/-- The arguments, as launched. -/
abbrev hArr : S16384x1024.Idx → EReal := m (slot c main_arg0)
abbrev yArr : S16384x1024.Idx → EReal := m (slot c main_arg1)
abbrev mdArr : S9x1024.Idx → EReal := m (slot c main_arg2)
abbrev gArr : S1x1024.Idx → EReal := m (slot c main_arg3)
abbrev tArr : S16384x1024.Idx → EReal := m (slot c main_arg4)

/-- The arguments are the real arrays `P`. -/
structure At (P : LossSpec.Args) : Prop where
  h : hArr m c = fun i => (P.h i : EReal)
  y : yArr m c = fun i => (P.y i : EReal)
  md : mdArr m c = fun i => (P.md i : EReal)
  g : gArr m c = fun i => (P.g i : EReal)
  t : tArr m c = fun i => (P.t i : EReal)

abbrev Tall32 := FVec Idealize.ShloMosaic.Ideal S16384x1024 .f32

/-- The norm's input as the host spells it. -/
abbrev hVec (h : Tall32) (y : FVec Idealize.ShloMosaic.Ideal S16384x1024 .bf16) (mp : FVec Idealize.ShloMosaic.Ideal S9x1024 .f32) : Tall32 :=
  addf h (mulf (broadcastInDim S16384x1024 ![0, 1] bcast_S1x1024_S16384x1024_0_1
    (mulf (broadcastInDim S1x1024 ![] bcast_S_S1x1024 (constant S_ FTy.f32 0x3F000000#32))
      (extractStridedSlice S1x1024 ![8, 0] mp slices_S9x1024_S1x1024_8_0))) (extf FTy.f32 y bitsLt_bf16_f32))

theorem V_main_v6 : V m c main_v6
    = (hVec (m (slot c main_arg0)) (m (slot c main_arg1)) (m (slot c main_arg2)) : Tall32) := by
  simp only [V, hostOps0, List.flatten_cons, List.flatten_nil, List.append_nil,
    List.cons_append, List.nil_append, TRef.binary, TRef.nullary, TRef.unary, TRef.toBuf, TRef.ofBuf, cast_eq]
  after_results

theorem hVec_at (P : LossSpec.Args) (n : Fin 16384) (j : Fin 1024) :
    hVec (fun i => (P.h i : EReal)) (fun i => (P.y i : EReal)) (fun i => (P.md i : EReal)) (ix2 n j)
      = ((LossSpec.x P n j : ℝ) : EReal) := by
  pointwise [hVec]
  refine (congrArg (fun z : EReal => (P.h (ix2 n j) : EReal) + z * (P.md (ix2 8 j) : EReal) * (P.y (ix2 n j) : EReal))
    NormSpec.half_bits).trans ?_
  simp only [← EReal.coe_mul, ← EReal.coe_add]
  rfl

theorem t_lt (t : Fin cfg0.N) : t.val < 64 := lt_of_lt_of_eq t.isLt N_0

/-- Row `r` of point `t`'s blocks, in the whole arrays. -/
def row (t : Fin cfg0.N) (r : Fin 256) : Fin 16384 := ⟨256 * t.val + r.val, by have := t_lt t; omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![t.val, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![t.val, 0] := by decide +kernel
theorem index9 : ∀ t : Fin grid0.N, win0_9.index t = ![0, 0] := by decide +kernel

variable {m c} {P : LossSpec.Args}

theorem blk0 (H : At m c P) (t : Fin cfg0.N) (r : Fin 256) (k : Fin 1024) :
    iblk m c 0 t (ix2 r k) = ((LossSpec.x P (row t r) k : ℝ) : EReal) := by
  have := t_lt t
  unfold iblk
  rw [View.read_apply]
  show V m c main_v6 _ = _
  rw [V_main_v6]
  refine Eq.trans (congrArg _ (?_ : _ = ix2 (row t r) k)) ?_
  · refine funext fun a => Fin.ext ?_
    match a with
    | ⟨0, _⟩ => blk_simp [index0]; simp [row]; omega
    | ⟨1, _⟩ => blk_simp [index0]
  · show hVec (hArr m c) (yArr m c) (mdArr m c) _ = _
    rw [H.h, H.y, H.md]
    exact hVec_at P _ _

theorem blk1 (H : At m c P) (t : Fin cfg0.N) (r : Fin 1) (k : Fin 1024) :
    iblk m c 1 t (ix2 r k) = ((P.g (ix2 r k) : ℝ) : EReal) := by
  have := t_lt t
  refine Eq.trans (b := gArr m c (ix2 r k)) (read_at (V_main_arg3 m c) fun a => ?_) (congrFun H.g _)
  match a with
  | ⟨0, _⟩ => blk_simp [index1]
  | ⟨1, _⟩ => blk_simp [index1]

theorem blk2 (H : At m c P) (t : Fin cfg0.N) (r : Fin 256) (k : Fin 1024) :
    iblk m c 2 t (ix2 r k) = ((P.t (ix2 (row t r) k) : ℝ) : EReal) := by
  have := t_lt t
  refine Eq.trans (b := tArr m c (ix2 (row t r) k)) (read_at (V_main_arg4 m c) fun a => ?_) (congrFun H.t _)
  match a with
  | ⟨0, _⟩ => blk_simp [index2]; simp [row]; omega
  | ⟨1, _⟩ => blk_simp [index2]

theorem blk3 (H : At m c P) (t : Fin cfg0.N) (r : Fin 256) (k : Fin 1024) :
    iblk m c 3 t (ix2 r k) = ((P.y (ix2 (row t r) k) : ℝ) : EReal) := by
  have := t_lt t
  refine Eq.trans (b := yArr m c (ix2 (row t r) k)) (read_at (V_main_arg1 m c) fun a => ?_) (congrFun H.y _)
  match a with
  | ⟨0, _⟩ => blk_simp [index3]; simp [row]; omega
  | ⟨1, _⟩ => blk_simp [index3]

theorem blk4 (H : At m c P) (t : Fin cfg0.N) (r : Fin 9) (k : Fin 1024) :
    iblk m c 4 t (ix2 r k) = ((P.md (ix2 r k) : ℝ) : EReal) := by
  have := t_lt t
  refine Eq.trans (b := mdArr m c (ix2 r k)) (read_at (V_main_arg2 m c) fun a => ?_) (congrFun H.md _)
  match a with
  | ⟨0, _⟩ => blk_simp [index4]
  | ⟨1, _⟩ => blk_simp [index4]

theorem emb5 (t : Fin cfg0.N) (r : Fin 256) (k : Fin 1024) : ((cfg0.win 5).blk t).view.emb (ix2 r k) = ix2 (row t r) k := by
  have := t_lt t
  refine funext fun a => Fin.ext ?_
  match a with
  | ⟨0, _⟩ => blk_simp [index5]; simp [row]; omega
  | ⟨1, _⟩ => blk_simp [index5]

theorem emb6 (t : Fin cfg0.N) (r : Fin 1) (k : Fin 128) : ((cfg0.win 6).blk t).view.emb (ix2 r k) = ix2 r k := by
  have := t_lt t
  refine funext fun a => Fin.ext ?_
  match a with
  | ⟨0, _⟩ => blk_simp [index6]
  | ⟨1, _⟩ => blk_simp [index6]

theorem emb7 (t : Fin cfg0.N) (r : Fin 1) (k : Fin 1024) : ((cfg0.win 7).blk t).view.emb (ix2 r k) = ix2 r k := by
  have := t_lt t
  refine funext fun a => Fin.ext ?_
  match a with
  | ⟨0, _⟩ => blk_simp [index7]
  | ⟨1, _⟩ => blk_simp [index7]

theorem emb8 (t : Fin cfg0.N) (r : Fin 256) (k : Fin 1024) : ((cfg0.win 8).blk t).view.emb (ix2 r k) = ix2 (row t r) k := by
  have := t_lt t
  refine funext fun a => Fin.ext ?_
  match a with
  | ⟨0, _⟩ => blk_simp [index8]; simp [row]; omega
  | ⟨1, _⟩ => blk_simp [index8]

theorem emb9 (t : Fin cfg0.N) (r : Fin 1) (k : Fin 1024) : ((cfg0.win 9).blk t).view.emb (ix2 r k) = ix2 r k := by
  have := t_lt t
  refine funext fun a => Fin.ext ?_
  match a with
  | ⟨0, _⟩ => blk_simp [index9]
  | ⟨1, _⟩ => blk_simp [index9]

/-- The gate's row of the modulations. -/
theorem md_row (H : At m c P) (t : Fin cfg0.N) (j : Fin 1024) :
    View.ld (iblk m c 4 t) (Rect.unit ![8, 0] ![1, 1024] inb_S9x1024_S1x1024_8_0) (ix2 0 j) = ((P.md (ix2 8 j) : ℝ) : EReal) :=
  (View.ld_unit_apply_of (iblk m c 4 t) _ _ inb_S9x1024_S1x1024_8_0 (ix2 0 j) (ix2 8 j) fun a => match a with
    | ⟨0, _⟩ => rfl
    | ⟨1, _⟩ => (Nat.zero_add _).symm).trans (blk4 H t 8 j)

end Cert.LossIdeal.Hand

end
-- ==== Proof.LossArrays.lean ====
module

public import proofs.«01_k».proof.Proof.LossBlocks
public import proofs.«01_k».proof.Proof.Reads

@[expose] public section

/-! The loss: what each point leaves, and the arrays the run leaves. -/

noncomputable section

namespace Cert.LossIdeal.Hand

open Cert.LossIdeal Cert.LossIdeal.Gen Idealize.ShloMosaic TcCoe Idealize.SL.Sem Cert

variable {m : (ℓ : Loc nD τ sig) → Buf (Elt Ideal) ℓ} {c : Dev nD} {P : LossSpec.Args}

theorem prev (t : Fin cfg0.N) : t.val - 1 < cfg0.N := Nat.lt_of_le_of_lt (Nat.sub_le _ _) t.isLt

theorem dh_pay (H : At m c P) (t : Fin cfg0.N) (r : Fin 256) (j : Fin 1024) :
    k0_pay11 (iblk m c 1 t) (k0_pay5 (iblk m c 0 t)) (k0_pay6 (iblk m c 0 t)) (k0_pay9 (iblk m c 0 t) (iblk m c 1 t) (iblk m c 2 t)) (ix2 r j)
      = ((LossSpec.dh P (row t r) j : ℝ) : EReal) :=
  pay11_at (X := fun r j => LossSpec.x P (row t r) j) (T := fun r j => LossSpec.tg P (row t r) j) (G := LossSpec.w P) (fun r j => blk0 H t r j) (fun j => blk1 H t 0 j) (fun r j => blk2 H t r j) r j

theorem dy_pay (H : At m c P) (t : Fin cfg0.N) (r : Fin 256) (j : Fin 1024) :
    k0_pay12 (iblk m c 1 t) (k0_pay5 (iblk m c 0 t)) (k0_pay6 (iblk m c 0 t)) (k0_pay9 (iblk m c 0 t) (iblk m c 1 t) (iblk m c 2 t))
        (View.ld (iblk m c 4 t) (Rect.unit ![8, 0] ![1, 1024] inb_S9x1024_S1x1024_8_0)) (ix2 r j)
      = ((LossSpec.dh P (row t r) j * LossSpec.gate P j : ℝ) : EReal) :=
  pay12_at (X := fun r j => LossSpec.x P (row t r) j) (T := fun r j => LossSpec.tg P (row t r) j) (G := LossSpec.w P) (fun r j => blk0 H t r j) (fun j => blk1 H t 0 j) (fun r j => blk2 H t r j) (Q := fun j => P.md (ix2 8 j)) (fun j => md_row H t j) r j

theorem dh_out (H : At m c P) (t : Fin cfg0.N) (r : Fin 256) (j : Fin 1024) :
    (outsAt0 m c t.val t.isLt).1 (ix2 r j) = ((LossSpec.dh P (row t r) j : ℝ) : EReal) := by
  by_cases h0 : t.val % 64 = 0
  · rw [outsAt0_A m c t h0]
    dsimp only
    frame_out
    exact dh_pay H t r j
  · rw [outsAt0_B m c t h0]
    dsimp only
    frame_out
    exact dh_pay H t r j

theorem dy_out (H : At m c P) (t : Fin cfg0.N) (r : Fin 256) (j : Fin 1024) :
    (outsAt0 m c t.val t.isLt).2.2.2.1 (ix2 r j) = ((LossSpec.dh P (row t r) j * LossSpec.gate P j : ℝ) : EReal) := by
  by_cases h0 : t.val % 64 = 0
  · rw [outsAt0_A m c t h0]
    dsimp only
    frame_out
    exact dy_pay H t r j
  · rw [outsAt0_B m c t h0]
    dsimp only
    frame_out
    exact dy_pay H t r j

theorem loss_first (H : At m c P) (t : Fin cfg0.N) (h0 : t.val % 64 = 0) (j : Fin 128) :
    (outsAt0 m c t.val t.isLt).2.1 (ix2 0 j) = (((1 / 2) * ∑ r : Fin 256, (fun n => LossSpec.tok (LossSpec.x P n) (LossSpec.w P) (LossSpec.tg P n)) (row t r) : ℝ) : EReal) := by
  rw [outsAt0_A m c t h0]
  dsimp only
  frame_out
  refine (pay8_at (X := fun r j => LossSpec.x P (row t r) j) (T := fun r j => LossSpec.tg P (row t r) j) (G := LossSpec.w P) (fun r j => blk0 H t r j) (fun j => blk1 H t 0 j) (fun r j => blk2 H t r j) _ j).trans ?_
  pointwise [k0_pay1]

theorem loss_next (H : At m c P) (t : Fin cfg0.N) (h0 : ¬t.val % 64 = 0) (j : Fin 128) :
    (outsAt0 m c t.val t.isLt).2.1 (ix2 0 j) = (outsAt0 m c (t.val - 1) (prev t)).2.1 (ix2 0 j)
      + (((1 / 2) * ∑ r : Fin 256, (fun n => LossSpec.tok (LossSpec.x P n) (LossSpec.w P) (LossSpec.tg P n)) (row t r) : ℝ) : EReal) := by
  rw [outsAt0_B m c t h0]
  dsimp only
  frame_out
  exact pay8_at (X := fun r j => LossSpec.x P (row t r) j) (T := fun r j => LossSpec.tg P (row t r) j) (G := LossSpec.w P) (fun r j => blk0 H t r j) (fun j => blk1 H t 0 j) (fun r j => blk2 H t r j) _ j

theorem loss_last (H : At m c P) (t : Fin cfg0.N) (h : t.val = 63) (j : Fin 128) :
    (outsAt0 m c t.val t.isLt).2.1 (ix2 0 j) = LossSpec.lossArr P (ix2 0 j) := by
  have hN : ∀ {n : ℕ}, n < 64 → n < cfg0.N := fun h => lt_of_lt_of_eq h N_0.symm
  exact LossSpec.total (fun n => LossSpec.tok (LossSpec.x P n) (LossSpec.w P) (LossSpec.tg P n)) (1 / 2) (fun t h => (outsAt0 m c t (hN h)).2.1 (ix2 0 j))
    (fun t h h0 => loss_first H ⟨t, hN h⟩ (by show t % 64 = 0; omega) j)
    (fun t h h0 => loss_next H ⟨t, hN h⟩ (by show ¬t % 64 = 0; omega) j) t.val (t_lt t) h

theorem dg_first (H : At m c P) (t : Fin cfg0.N) (h0 : t.val % 64 = 0) (j : Fin 1024) :
    (outsAt0 m c t.val t.isLt).2.2.1 (ix2 0 j) = ((1 * ∑ r : Fin 256, (fun n => LossSpec.dv (LossSpec.x P n) (LossSpec.w P) (LossSpec.tg P n) j * LossSpec.xh (LossSpec.x P n) j) (row t r) : ℝ) : EReal) := by
  rw [outsAt0_A m c t h0]
  dsimp only
  frame_out
  refine (pay10_at (X := fun r j => LossSpec.x P (row t r) j) (T := fun r j => LossSpec.tg P (row t r) j) (G := LossSpec.w P) (fun r j => blk0 H t r j) (fun j => blk1 H t 0 j) (fun r j => blk2 H t r j) _ j).trans ?_
  pointwise [k0_pay2]

theorem dg_next (H : At m c P) (t : Fin cfg0.N) (h0 : ¬t.val % 64 = 0) (j : Fin 1024) :
    (outsAt0 m c t.val t.isLt).2.2.1 (ix2 0 j) = (outsAt0 m c (t.val - 1) (prev t)).2.2.1 (ix2 0 j)
      + ((1 * ∑ r : Fin 256, (fun n => LossSpec.dv (LossSpec.x P n) (LossSpec.w P) (LossSpec.tg P n) j * LossSpec.xh (LossSpec.x P n) j) (row t r) : ℝ) : EReal) := by
  rw [outsAt0_B m c t h0]
  dsimp only
  frame_out
  exact pay10_at (X := fun r j => LossSpec.x P (row t r) j) (T := fun r j => LossSpec.tg P (row t r) j) (G := LossSpec.w P) (fun r j => blk0 H t r j) (fun j => blk1 H t 0 j) (fun r j => blk2 H t r j) _ j

theorem dg_last (H : At m c P) (t : Fin cfg0.N) (h : t.val = 63) (j : Fin 1024) :
    (outsAt0 m c t.val t.isLt).2.2.1 (ix2 0 j) = LossSpec.dgArr P (ix2 0 j) := by
  have hN : ∀ {n : ℕ}, n < 64 → n < cfg0.N := fun h => lt_of_lt_of_eq h N_0.symm
  exact LossSpec.total (fun n => LossSpec.dv (LossSpec.x P n) (LossSpec.w P) (LossSpec.tg P n) j * LossSpec.xh (LossSpec.x P n) j) 1 (fun t h => (outsAt0 m c t (hN h)).2.2.1 (ix2 0 j))
    (fun t h h0 => dg_first H ⟨t, hN h⟩ (by show t % 64 = 0; omega) j)
    (fun t h h0 => dg_next H ⟨t, hN h⟩ (by show ¬t % 64 = 0; omega) j) t.val (t_lt t) h

theorem dgate_first (H : At m c P) (t : Fin cfg0.N) (h0 : t.val % 64 = 0) (j : Fin 1024) :
    (outsAt0 m c t.val t.isLt).2.2.2.2 (ix2 0 j) = (((1 / 2) * ∑ r : Fin 256, (fun n => LossSpec.dh P n j * P.y (ix2 n j)) (row t r) : ℝ) : EReal) := by
  rw [outsAt0_A m c t h0]
  dsimp only
  frame_out
  refine (pay13_at (X := fun r j => LossSpec.x P (row t r) j) (T := fun r j => LossSpec.tg P (row t r) j) (G := LossSpec.w P) (fun r j => blk0 H t r j) (fun j => blk1 H t 0 j) (fun r j => blk2 H t r j) (Y := fun r j => P.y (ix2 (row t r) j)) (fun r j => blk3 H t r j) _ j).trans ?_
  pointwise [k0_pay3]
  rfl

theorem dgate_next (H : At m c P) (t : Fin cfg0.N) (h0 : ¬t.val % 64 = 0) (j : Fin 1024) :
    (outsAt0 m c t.val t.isLt).2.2.2.2 (ix2 0 j) = (outsAt0 m c (t.val - 1) (prev t)).2.2.2.2 (ix2 0 j)
      + (((1 / 2) * ∑ r : Fin 256, (fun n => LossSpec.dh P n j * P.y (ix2 n j)) (row t r) : ℝ) : EReal) := by
  rw [outsAt0_B m c t h0]
  dsimp only
  frame_out
  exact pay13_at (X := fun r j => LossSpec.x P (row t r) j) (T := fun r j => LossSpec.tg P (row t r) j) (G := LossSpec.w P) (fun r j => blk0 H t r j) (fun j => blk1 H t 0 j) (fun r j => blk2 H t r j) (Y := fun r j => P.y (ix2 (row t r) j)) (fun r j => blk3 H t r j) _ j

theorem dgate_last (H : At m c P) (t : Fin cfg0.N) (h : t.val = 63) (j : Fin 1024) :
    (outsAt0 m c t.val t.isLt).2.2.2.2 (ix2 0 j) = LossSpec.dgateArr P (ix2 0 j) := by
  have hN : ∀ {n : ℕ}, n < 64 → n < cfg0.N := fun h => lt_of_lt_of_eq h N_0.symm
  exact LossSpec.total (fun n => LossSpec.dh P n j * P.y (ix2 n j)) (1 / 2) (fun t h => (outsAt0 m c t (hN h)).2.2.2.2 (ix2 0 j))
    (fun t h h0 => dgate_first H ⟨t, hN h⟩ (by show t % 64 = 0; omega) j)
    (fun t h h0 => dgate_next H ⟨t, hN h⟩ (by show ¬t % 64 = 0; omega) j) t.val (t_lt t) h

theorem dh_arr (H : At m c P) : (dats m 0 c).arrAt 5 cfg0.N = LossSpec.dhArr P := by
  refine (dats m 0 c).arrAt_eq_of_covers 5 _ (by decide +kernel) fun t hf y => ?_
  rw [after0_5]
  obtain ⟨r, k, rfl⟩ := pair y
  rw [emb5]
  exact dh_out H t r k

theorem dy_arr (H : At m c P) : (dats m 0 c).arrAt 8 cfg0.N = LossSpec.dyArr P := by
  refine (dats m 0 c).arrAt_eq_of_covers 8 _ (by decide +kernel) fun t hf y => ?_
  rw [after0_8]
  obtain ⟨r, k, rfl⟩ := pair y
  rw [emb8]
  exact dy_out H t r k

theorem flush6 : ∀ t : Fin grid0.N, (cfg0.win 6).flush t = true → t.val = 63 := by decide +kernel

theorem loss_arr (H : At m c P) : (dats m 0 c).arrAt 6 cfg0.N = LossSpec.lossArr P := by
  refine (dats m 0 c).arrAt_eq_of_covers 6 _ (by decide +kernel) fun t hf y => ?_
  rw [after0_6]
  obtain ⟨r, k, rfl⟩ := pair y
  obtain rfl : r = 0 := Subsingleton.elim _ _
  rw [emb6]
  exact loss_last H t (flush6 t hf) k

theorem flush7 : ∀ t : Fin grid0.N, (cfg0.win 7).flush t = true → t.val = 63 := by decide +kernel

theorem dg_arr (H : At m c P) : (dats m 0 c).arrAt 7 cfg0.N = LossSpec.dgArr P := by
  refine (dats m 0 c).arrAt_eq_of_covers 7 _ (by decide +kernel) fun t hf y => ?_
  rw [after0_7]
  obtain ⟨r, k, rfl⟩ := pair y
  obtain rfl : r = 0 := Subsingleton.elim _ _
  rw [emb7]
  exact dg_last H t (flush7 t hf) k

theorem flush9 : ∀ t : Fin grid0.N, (cfg0.win 9).flush t = true → t.val = 63 := by decide +kernel

theorem dgate_arr (H : At m c P) : (dats m 0 c).arrAt 9 cfg0.N = LossSpec.dgateArr P := by
  refine (dats m 0 c).arrAt_eq_of_covers 9 _ (by decide +kernel) fun t hf y => ?_
  rw [after0_9]
  obtain ⟨r, k, rfl⟩ := pair y
  obtain rfl : r = 0 := Subsingleton.elim _ _
  rw [emb9]
  exact dgate_last H t (flush9 t hf) k

end Cert.LossIdeal.Hand

end
-- ==== Proof.LossRefValue.lean ====
module

public import proofs.«01_k».proof.Proof.Gen.LossRefIdeal.Read
public import proofs.«01_k».proof.Proof.LossSpec
public import proofs.«01_k».proof.Proof.Reads

@[expose] public section

/-! The loss: what the reference computes at real arguments. -/

noncomputable section

namespace Cert.LossRefIdeal.Hand

open Cert.LossRefIdeal Cert.LossRefIdeal.Read Idealize.ShloMosaic Cert LossSpec

variable (P : LossSpec.Args)

abbrev H : S16384x1024.Idx → EReal := fun i => (P.h i : EReal)
abbrev Y : S16384x1024.Idx → EReal := fun i => (P.y i : EReal)
abbrev Md : S9x1024.Idx → EReal := fun i => (P.md i : EReal)
abbrev G : S1x1024.Idx → EReal := fun i => (P.g i : EReal)
abbrev T : S16384x1024.Idx → EReal := fun i => (P.t i : EReal)

/-- The norm's scale of a row, and what stands under its root. -/
def r (n : Fin 16384) : ℝ := NormSpec.scaleOf (x P n)
def under (n : Fin 16384) : ℝ := (∑ j : Fin 1024, x P n j * x P n j) * (1 / 1024) + NormSpec.eps

theorem under_pos (n : Fin 16384) : 0 < under P n := NormSpec.under_pos (x P n)

theorem r_sq (n : Fin 16384) : 1 / under P n = r P n * r P n := by
  show _ = (Real.sqrt (under P n))⁻¹ * (Real.sqrt (under P n))⁻¹
  rw [← mul_inv, Real.mul_self_sqrt (under_pos P n).le, one_div]

theorem neg_half_bits : Ideal.ofBits .f32 0xBF000000#32 = ((-(1 / 2) : ℝ) : EReal) := by
  simp [Ideal.ofBits, Ideal.ieee, -EReal.coe_mul]
  norm_num

theorem two_bits : Ideal.ofBits .f32 0x40000000#32 = ((2 : ℝ) : EReal) := by
  simp [Ideal.ofBits, Ideal.ieee, -EReal.coe_mul]
  norm_num

theorem gate_eq (j : Fin 1024) : val_main_v3 (F := Ideal) (Md P) (ix2 0 j) = ((gate P j : ℝ) : EReal) := by
  pointwise [val_main_v3, val_main_v2, val_main_v1, val_main_cst]
  refine (congrArg (fun z : EReal => z * (P.md (ix2 8 j) : EReal)) NormSpec.half_bits).trans ?_
  simp only [← EReal.coe_mul]
  rfl

theorem x_eq (n : Fin 16384) (j : Fin 1024) :
    val_main_v6 (F := Ideal) (H P) (Y P) (Md P) (ix2 n j) = ((x P n j : ℝ) : EReal) := by
  pointwise [val_main_v6, val_main_v5, val_main_v4, val_main_v0]
  rw [gate_eq]
  simp only [← EReal.coe_mul, ← EReal.coe_add]
  rfl

theorem under_eq (n : Fin 16384) :
    val_main_v13 (F := Ideal) (H P) (Y P) (Md P) (ix2 n 0) = ((under P n : ℝ) : EReal) := by
  pointwise [val_main_v13, val_main_v12, val_main_v11, val_main_v10, val_main_v9, val_main_v8, val_main_v7,
    val_main_cst_0, val_main_cst_1, val_main_cst_2]
  simp only [x_eq]
  rw [Finite.coe_dot]
  exact (congrArg₂ (· + ·) (NormSpec.div_size _) NormSpec.eps_bits).trans (by unfold under; push_cast; rfl)

theorem r_eq (n : Fin 16384) :
    val_main_v14 (F := Ideal) (H P) (Y P) (Md P) (ix2 n 0) = ((r P n : ℝ) : EReal) := by
  pointwise [val_main_v14]
  rw [under_eq]
  exact NormSpec.rsqrt_under (x P n)

theorem slope_eq (n : Fin 16384) :
    val_main_v17 (F := Ideal) (H P) (Y P) (Md P) (ix2 n 0) = ((-(1 / 2) * (r P n * (r P n * r P n)) : ℝ) : EReal) := by
  pointwise [val_main_v17, val_main_v16, val_main_v15, val_main_cst_3]
  rw [under_eq, r_eq, Ideal.div_coe (under_pos P n).ne', r_sq]
  refine (congrArg (fun z : EReal => z * ((r P n : EReal) * ((r P n * r P n : ℝ) : EReal))) neg_half_bits).trans ?_
  simp only [← EReal.coe_mul]

theorem xh_eq (n : Fin 16384) (j : Fin 1024) :
    val_main_v19 (F := Ideal) (H P) (Y P) (Md P) (ix2 n j) = ((xh (x P n) j : ℝ) : EReal) := by
  pointwise [val_main_v19, val_main_v18]
  rw [x_eq, r_eq, ← EReal.coe_mul]
  rfl

theorem er_eq (n : Fin 16384) (j : Fin 1024) :
    val_main_v22 (F := Ideal) (H P) (Y P) (Md P) (G P) (T P) (ix2 n j) = ((er (x P n) (w P) (tg P n) j : ℝ) : EReal) := by
  pointwise [val_main_v22, val_main_v21, val_main_v20]
  rw [xh_eq, ← EReal.coe_mul, ← EReal.coe_sub]
  rfl

theorem tok_eq (n : Fin 16384) :
    val_main_v28 (F := Ideal) (H P) (Y P) (Md P) (G P) (T P) (ix1 n) = ((tok (x P n) (w P) (tg P n) : ℝ) : EReal) := by
  pointwise [val_main_v28, val_main_v27, val_main_v26, val_main_v23, val_main_cst_5, val_main_cst_6]
  simp only [er_eq]
  rw [Finite.coe_dot]
  exact (NormSpec.div_size _).trans (EReal.coe_mul _ _).symm

theorem loss_eq : val_main_v63 (F := Ideal) (H P) (Y P) (Md P) (G P) (T P) = lossArr P := by
  funext i
  pointwise [val_main_v63, val_main_v30, val_main_v29, val_main_cst_7, val_main_cst_8]
  have e : ∑ n : Fin 16384, val_main_v28 (F := Ideal) (H P) (Y P) (Md P) (G P) (T P) (ix1 n)
      = ((∑ n : Fin 16384, tok (x P n) (w P) (tg P n) : ℝ) : EReal) :=
    (Finset.sum_congr rfl fun n _ => tok_eq P n).trans (Finite.coe_sum _ _)
  unfold lossArr
  rw [EReal.coe_mul]
  exact congrArg₂ (· * ·) NormSpec.half_bits e

theorem dv_eq (n : Fin 16384) (j : Fin 1024) :
    val_main_v36 (F := Ideal) (H P) (Y P) (Md P) (G P) (T P) (ix2 n j) = ((dv (x P n) (w P) (tg P n) j : ℝ) : EReal) := by
  pointwise [val_main_v36, val_main_v35, val_main_v34, val_main_v33, val_main_v32, val_main_v31, val_main_v25, val_main_v24,
    val_main_cst_4, val_main_cst_9, val_main_cst_10, val_main_cst_11]
  rw [er_eq]
  refine (congrArg₂ (· * ·) ((NormSpec.div_size _).trans (congrArg (· * _) NormSpec.half_bits)) (congrArg (· * _) two_bits)).trans ?_
  simp only [← EReal.coe_mul]
  exact congrArg Real.toEReal (by unfold dv; ring)

theorem dg_eq : val_main_v39 (F := Ideal) (H P) (Y P) (Md P) (G P) (T P) = dgArr P := by
  funext i
  obtain ⟨j, rfl⟩ : ∃ j : Fin 1024, i = ix2 0 j :=
    ⟨i 1, (eq_ix2 i).trans (congrArg (fun z : Fin 1 => ix2 z (i 1)) (Subsingleton.elim _ _))⟩
  pointwise [val_main_v39, val_main_v38, val_main_v37, val_main_cst_12]
  simp only [dv_eq, xh_eq]
  rw [Finite.coe_dot]
  show _ = ((1 * ∑ n : Fin 16384, dv (x P n) (w P) (tg P n) j * xh (x P n) j : ℝ) : EReal)
  rw [one_mul]
  exact congrArg Real.toEReal (Finset.sum_congr rfl fun n _ => mul_comm _ _)

theorem dvg_eq (n : Fin 16384) (j : Fin 1024) :
    val_main_v41 (F := Ideal) (H P) (Y P) (Md P) (G P) (T P) (ix2 n j)
      = ((dv (x P n) (w P) (tg P n) j * w P j : ℝ) : EReal) := by
  pointwise [val_main_v41, val_main_v40]
  rw [dv_eq, EReal.coe_mul]
  rfl

/-- The sum along a row. -/
def rowSum (n : Fin 16384) : ℝ := ∑ j : Fin 1024, x P n j * (dv (x P n) (w P) (tg P n) j * w P j)

theorem rowSum_eq (n : Fin 16384) :
    val_main_v44 (F := Ideal) (H P) (Y P) (Md P) (G P) (T P) (ix2 n 0) = ((rowSum P n : ℝ) : EReal) := by
  pointwise [val_main_v44, val_main_v43, val_main_v42, val_main_cst_13]
  simp only [x_eq, dvg_eq]
  exact Finite.coe_dot _ _ _

/-- What the root's derivative contributes to a row. -/
def pull (n : Fin 16384) : ℝ := rowSum P n * (-(1 / 2) * (r P n * (r P n * r P n))) * (1 / 1024)

theorem pull_eq (n : Fin 16384) (j : Fin 1024) :
    val_main_v51 (F := Ideal) (H P) (Y P) (Md P) (G P) (T P) (ix2 n j) = ((pull P n : ℝ) : EReal) := by
  pointwise [val_main_v51, val_main_v50, val_main_v49, val_main_v48, val_main_v47, val_main_cst_14, val_main_cst_15]
  rw [Fin.sum_univ_one, rowSum_eq, slope_eq]
  refine (NormSpec.div_size _).trans ?_
  simp only [← EReal.coe_mul]
  rfl

theorem dh_real (n : Fin 16384) (j : Fin 1024) :
    dv (x P n) (w P) (tg P n) j * w P j * r P n + x P n j * pull P n + pull P n * x P n j = dh P n j := by
  have e : ∑ l : Fin 1024, dv (x P n) (w P) (tg P n) l * w P l * xh (x P n) l = r P n * rowSum P n := by
    unfold rowSum xh
    rw [Finset.mul_sum]
    exact Finset.sum_congr rfl fun l _ => by unfold r; ring
  unfold dh dx
  rw [e]
  unfold pull xh r
  ring

theorem dh_at (n : Fin 16384) (j : Fin 1024) :
    val_main_v55 (F := Ideal) (H P) (Y P) (Md P) (G P) (T P) (ix2 n j) = ((dh P n j : ℝ) : EReal) := by
  pointwise [val_main_v55, val_main_v54, val_main_v53, val_main_v52, val_main_v46, val_main_v45]
  rw [dvg_eq, r_eq, x_eq, pull_eq, ← dh_real]
  simp only [← EReal.coe_mul, ← EReal.coe_add]

theorem dh_eq : val_main_v55 (F := Ideal) (H P) (Y P) (Md P) (G P) (T P) = dhArr P := by
  funext i
  obtain ⟨n, j, rfl⟩ := pair i
  exact dh_at P n j

theorem dy_eq : val_main_v64 (F := Ideal) (H P) (Y P) (Md P) (G P) (T P) = dyArr P := by
  funext i
  obtain ⟨n, j, rfl⟩ := pair i
  pointwise [val_main_v64, val_main_v57, val_main_v56]
  rw [dh_at, gate_eq, mul_comm, ← EReal.coe_mul]
  rfl

theorem dgate_eq : val_main_v62 (F := Ideal) (H P) (Y P) (Md P) (G P) (T P) = dgateArr P := by
  funext i
  obtain ⟨j, rfl⟩ : ∃ j : Fin 1024, i = ix2 0 j :=
    ⟨i 1, (eq_ix2 i).trans (congrArg (fun z : Fin 1 => ix2 z (i 1)) (Subsingleton.elim _ _))⟩
  pointwise [val_main_v62, val_main_v61, val_main_v60, val_main_v59, val_main_v58, val_main_v0, val_main_cst_16, val_main_cst_17]
  simp only [dh_at]
  rw [Finite.coe_dot]
  refine (congrArg (fun z : EReal => z * ((∑ n : Fin 16384, dh P n j * P.y (ix2 n j) : ℝ) : EReal)) NormSpec.half_bits).trans ?_
  simp only [← EReal.coe_mul]
  rfl

end Cert.LossRefIdeal.Hand

end
-- ==== Proof.LossClaim.lean ====
module

public import proofs.«01_k».proof.Defs
public import proofs.«01_k».proof.Proof.Gen.Loss.Frame
public import proofs.«01_k».proof.Proof.Gen.Pre_finite_loss
public import proofs.«01_k».proof.Proof.LossArrays
public import proofs.«01_k».proof.Proof.LossRefValue
public import proofs.«01_k».proof.Proof.Gen.LossRefIdeal.Run
public import proofs.«01_k».proof.Proof.Reads

@[expose] public section

/-! The five claims about the loss and its gradients, the last of them at arguments that are real numbers. -/

noncomputable section

namespace Cert.LossClaim

open Idealize.ShloMosaic TcCoe Idealize.SL.Sem Cert

theorem frame : Cert.quiescent_Loss := fun m ρ _ => Cert.Loss.Gen.frame m ρ

theorem frame_ideal : Cert.quiescent_LossIdeal := fun m ρ _ => Cert.LossIdeal.Gen.frame m ρ

theorem frame_ideal_pre : Cert.quiescent_LossIdeal_pre_finite_loss := fun m ρ _ => Cert.LossIdeal.Gen.frame m ρ

/-- The reference runs on the host and has no counter. -/
theorem frame_ref : Cert.quiescent_LossRefIdeal := fun m ρ _ =>
  (θ_run Cert.LossRefIdeal.defs _ _).mono
    (fun r h => ⟨fun c => (h c).2.2.2.2.2, sem_eq_zero_of_no_sems (by decide) r.2⟩)
    (Cert.LossRefIdeal.Value.run (F := Ideal) m ρ)

theorem frame_ref_pre : Cert.quiescent_LossRefIdeal_pre_finite_loss := fun m ρ _ => frame_ref m ρ trivial

theorem preserves : Cert.preserves_Loss_LossIdeal := trivial

section
open Cert.LossIdeal Cert.LossIdeal.Hand

variable (m : (ℓ : Loc nD τ sig) → Buf (Elt Ideal) ℓ) (c : Dev nD)

/-- The precondition says that every entry of every argument is a real number. -/
theorem args_real (h : Cert.Pre_LossIdeal_finite_loss m) : ∃ P : LossSpec.Args, At m c P := by
  obtain ⟨h0, h1, h2, h3, h4⟩ := h c
  obtain ⟨p0, e0⟩ := Finite.lift (x := hArr m c) fun i => Finite.real_of_cmp (congrFun h0 i)
  obtain ⟨p1, e1⟩ := Finite.lift (x := yArr m c) fun i => Finite.real_of_cmp (congrFun h1 i)
  obtain ⟨p2, e2⟩ := Finite.lift (x := mdArr m c) fun i => Finite.real_of_cmp (congrFun h2 i)
  obtain ⟨p3, e3⟩ := Finite.lift (x := gArr m c) fun i => Finite.real_of_cmp (congrFun h3 i)
  obtain ⟨p4, e4⟩ := Finite.lift (x := tArr m c) fun i => Finite.real_of_cmp (congrFun h4 i)
  exact ⟨⟨p0, p1, p2, p3, p4⟩, ⟨e0, e1, e2, e3, e4⟩⟩

end

section
open Cert.LossRefIdeal

variable (m : (ℓ : Loc nD τ sig) → Buf (Elt Ideal) ℓ) (c : Dev nD)

/-- The reference's arguments, as launched. -/
abbrev hRef : S16384x1024.Idx → EReal := m (slot c main_arg0)
abbrev yRef : S16384x1024.Idx → EReal := m (slot c main_arg1)
abbrev mdRef : S9x1024.Idx → EReal := m (slot c main_arg2)
abbrev gRef : S1x1024.Idx → EReal := m (slot c main_arg3)
abbrev tRef : S16384x1024.Idx → EReal := m (slot c main_arg4)

/-- The reference's run, its results named by its own stages. -/
theorem ref_run (ρ : Dev nD → PrngReg) :
    θ_run (defs (F := Ideal)) (onTc (τ := τ) (main (F := Ideal))) ⟨m, fun _ => 0, ρ⟩ fun r => ∀ c : Dev nD,
      r.2.mem (slot c main_v63) = Read.val_main_v63 (hRef m c) (yRef m c) (mdRef m c) (gRef m c) (tRef m c)
      ∧ r.2.mem (slot c main_v55) = Read.val_main_v55 (hRef m c) (yRef m c) (mdRef m c) (gRef m c) (tRef m c)
      ∧ r.2.mem (slot c main_v39) = Read.val_main_v39 (hRef m c) (yRef m c) (mdRef m c) (gRef m c) (tRef m c)
      ∧ r.2.mem (slot c main_v64) = Read.val_main_v64 (hRef m c) (yRef m c) (mdRef m c) (gRef m c) (tRef m c)
      ∧ r.2.mem (slot c main_v62) = Read.val_main_v62 (hRef m c) (yRef m c) (mdRef m c) (gRef m c) (tRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4) :=
  (θ_run (defs (F := Ideal)) _ _).mono (fun r h c =>
      ⟨(h c).1.trans (Read.val_main_v63_eq _ _ _ _ _), (h c).2.1.trans (Read.val_main_v55_eq _ _),
       (h c).2.2.1.trans (Read.val_main_v39_eq _ _ _ _ _), (h c).2.2.2.1.trans (Read.val_main_v64_eq _ _),
       (h c).2.2.2.2.1.trans (Read.val_main_v62_eq _ _), (h c).2.2.2.2.2⟩)
    (Value.run (F := Ideal) m ρ)

end

/-- Equal real arguments give equal results. -/
theorem algebraic : Cert.algebraic_LossIdeal_LossRefIdeal_pre_finite_loss := by
  intro m ρ m' ρ' hpre hagree
  choose P H using fun c => args_real m c hpre
  refine ⟨fun c => LossSpec.lossArr (P c), fun c => LossSpec.dhArr (P c), fun c => LossSpec.dgArr (P c),
    fun c => LossSpec.dyArr (P c), fun c => LossSpec.dgateArr (P c),
    (θ_run (LossIdeal.defs (F := Ideal)) _ _).mono (fun r h c =>
      ⟨(h c).2.1.trans (LossIdeal.Hand.loss_arr (H c)), (h c).1.trans (LossIdeal.Hand.dh_arr (H c)),
       (h c).2.2.1.trans (LossIdeal.Hand.dg_arr (H c)), (h c).2.2.2.1.trans (LossIdeal.Hand.dy_arr (H c)),
       (h c).2.2.2.2.1.trans (LossIdeal.Hand.dgate_arr (H c)), (h c).2.2.2.2.2⟩)
      (LossIdeal.Value.run_blocks (F := Ideal) m ρ),
    (θ_run (LossRefIdeal.defs (F := Ideal)) _ _).mono (fun r h c => ?_) (ref_run m' ρ')⟩
  obtain ⟨g0, g1, g2, g3, g4⟩ := hagree c
  have q0 : hRef m' c = LossRefIdeal.Hand.H (P c) := g0.trans (H c).h
  have q1 : yRef m' c = LossRefIdeal.Hand.Y (P c) := g1.trans (H c).y
  have q2 : mdRef m' c = LossRefIdeal.Hand.Md (P c) := g2.trans (H c).md
  have q3 : gRef m' c = LossRefIdeal.Hand.G (P c) := g3.trans (H c).g
  have q4 : tRef m' c = LossRefIdeal.Hand.T (P c) := g4.trans (H c).t
  have hc := h c
  rw [q0, q1, q2, q3, q4, LossRefIdeal.Hand.loss_eq, LossRefIdeal.Hand.dh_eq, LossRefIdeal.Hand.dg_eq,
    LossRefIdeal.Hand.dy_eq, LossRefIdeal.Hand.dgate_eq] at hc
  exact hc

end Cert.LossClaim

end
-- ==== Proof.SmallSumClaim.lean ====
module

public import proofs.«01_k».proof.Defs
public import proofs.«01_k».proof.Proof.Gen.SmallSum.Frame
public import proofs.«01_k».proof.Proof.Gen.SmallSumIdeal.Value
public import proofs.«01_k».proof.Proof.Gen.SmallSumRefIdeal.Run
public import proofs.«01_k».proof.Proof.Gen.SmallSumRefIdeal.Read
public import proofs.«01_k».proof.Proof.AdamSpec
public import proofs.«01_k».proof.Proof.Reads

@[expose] public section

/-! The five claims about the sum of the small gradients over the eight devices. -/

noncomputable section

namespace Cert.SmallSumClaim

open Idealize.ShloMosaic TcCoe Idealize.SL.Sem Cert

theorem frame : Cert.quiescent_SmallSum := fun m ρ _ => Cert.SmallSum.Gen.frame m ρ

theorem frame_ideal : Cert.quiescent_SmallSumIdeal := fun m ρ _ => Cert.SmallSumIdeal.Gen.frame m ρ

/-- The reference runs on the host and has no counter. -/
theorem frame_ref : Cert.quiescent_SmallSumRefIdeal := fun m ρ _ =>
  (θ_run Cert.SmallSumRefIdeal.defs _ _).mono
    (fun r h => ⟨fun c => (h c).2, sem_eq_zero_of_no_sems (by decide) r.2⟩)
    (Cert.SmallSumRefIdeal.Value.run (F := Ideal) m ρ)

theorem preserves : Cert.preserves_SmallSum_SmallSumIdeal := trivial

/-- The kernel adds the eight parts from the first on. -/
theorem kernel_sum (x : AdamSpec.Parts 120 1024) : SmallSumIdeal.Value.G1 (F := Ideal) x = AdamSpec.total x := by
  funext i
  obtain ⟨r, k, rfl⟩ := pair i
  show _ = ∑ p : Fin 8, x (ix3 p r k)
  have two {a b a' b' : EReal} (h : a = a') (h' : b = b') : a + b = a' + b' := h ▸ h' ▸ rfl
  refine (SmallSumIdeal.Value.piece1_0 (F := Ideal) _ _ _ _ _ _ _ _ (ix2 r k)).trans ?_
  rw [Fin.sum_univ_eight]
  dsimp only [SmallSumIdeal.Value.E1]
  refine two (two (two (two (two (two (two ?_ ?_) ?_) ?_) ?_) ?_) ?_) ?_
  all_goals exact congrArg x (funext fun a => Fin.ext (match a with
    | ⟨0, _⟩ => by simp | ⟨1, _⟩ => by simp | ⟨2, _⟩ => by simp))

/-- The reference adds them at once. -/
theorem ref_sum (x : AdamSpec.Parts 120 1024) : SmallSumRefIdeal.Read.val_main_v0 (F := Ideal) x = AdamSpec.total x := by
  funext i
  obtain ⟨r, k, rfl⟩ := pair i
  show _ = ∑ p : Fin 8, x (ix3 p r k)
  pointwise [SmallSumRefIdeal.Read.val_main_v0, SmallSumRefIdeal.Read.val_main_cst]

/-- Equal arguments give equal results. -/
theorem algebraic : Cert.algebraic_SmallSumIdeal_SmallSumRefIdeal := by
  intro m ρ m' ρ' _ hagree
  refine ⟨fun c => AdamSpec.total (m ((c : Thread SmallSumIdeal.nD SmallSumIdeal.τ).loc SmallSumIdeal.main_arg0)),
    (θ_run (SmallSumIdeal.defs (F := Ideal)) _ _).mono (fun r h c => ⟨(h c).1.trans (kernel_sum _), (h c).2⟩)
      (SmallSumIdeal.Value.run (F := Ideal) m ρ),
    (θ_run (SmallSumRefIdeal.defs (F := Ideal)) _ _).mono (fun r h c => ⟨?_, (h c).2⟩)
      (SmallSumRefIdeal.Value.run (F := Ideal) m' ρ')⟩
  rw [(h c).1, SmallSumRefIdeal.Read.val_main_v0_eq, ref_sum]
  exact congrArg AdamSpec.total (hagree c)

end Cert.SmallSumClaim

end
-- ==== Proof.ModBClaim.lean ====
module

public import proofs.«01_k».proof.Defs
public import proofs.«01_k».proof.Proof.Gen.ModB.Frame
public import proofs.«01_k».proof.Proof.Gen.ModBIdeal.Value
public import proofs.«01_k».proof.Proof.Gen.ModBRefIdeal.Run
public import proofs.«01_k».proof.Proof.Gen.ModBRefIdeal.Read
public import Idealize.ShloMosaic.Lib.KernelVsHost
public import proofs.«01_k».proof.Proof.AdamSpec
public import proofs.«01_k».proof.Proof.Reads

@[expose] public section

/-! The five claims about the gradient of the modulation's biases. -/

noncomputable section

namespace Cert.ModBClaim

open Idealize.ShloMosaic TcCoe Idealize.SL.Sem Cert

theorem frame : Cert.quiescent_ModB := fun m ρ _ => Cert.ModB.Gen.frame m ρ

theorem frame_ideal : Cert.quiescent_ModBIdeal := fun m ρ _ => Cert.ModBIdeal.Gen.frame m ρ

/-- The reference runs on the host and has no counter. -/
theorem frame_ref : Cert.quiescent_ModBRefIdeal := fun m ρ _ =>
  (θ_run Cert.ModBRefIdeal.defs _ _).mono
    (fun r h => ⟨fun c => (h c).2, sem_eq_zero_of_no_sems (by decide) r.2⟩)
    (Cert.ModBRefIdeal.Value.run (F := Ideal) m ρ)

theorem preserves : Cert.preserves_ModB_ModBIdeal := trivial

/-- Layer `i`'s gradient summed over the batch, for the two layers' image rows and then for their context rows; nothing
    beyond. -/
def part {C : Nat} (x : (⟨3, ![4, 8, C]⟩ : Shape).Idx → EReal) (i : Nat) (k : Fin C) : EReal :=
  if h : i < 4 then ∑ b : Fin 8, x (ix3 ⟨i, h⟩ b k) else 0

/-- Every row is its part and the one two rows on, around the end. -/
def both {C : Nat} (x : (⟨3, ![4, 8, C]⟩ : Shape).Idx → EReal) : AdamSpec.Arr 8 C :=
  fun i => part x (i 0).val (i 1) + part x (((i 0).val + 2) % 8) (i 1)

section
open Cert.ModBIdeal Cert.ModBIdeal.Gen

variable (m : (ℓ : Loc nD τ sig) → Buf (Elt Ideal) ℓ) (c : Dev nD)

/-- The argument, as launched. -/
abbrev xArr : (⟨3, ![4, 8, 9216]⟩ : Shape).Idx → EReal := m (slot c main_arg0)

theorem t_lt (t : Fin cfg0.N) : t.val < 8 := lt_of_lt_of_eq t.isLt N_0

/-- Column `k` of point `t`'s blocks, in the whole arrays. -/
def col (t : Fin cfg0.N) (k : Fin 1152) : Fin 9216 := ⟨1152 * t.val + k.val, by have := t_lt t; omega⟩

theorem index0 : ∀ t : Fin grid0.N, win0_0.index t = ![0, 0, t.val] := by decide +kernel
theorem index1 : ∀ t : Fin grid0.N, win0_1.index t = ![0, t.val] := by decide +kernel

theorem blk0 (t : Fin cfg0.N) (l : Fin 4) (b : Fin 8) (k : Fin 1152) :
    iblk m c 0 t (ix3 l b k) = xArr m c (ix3 l b (col t k)) := by
  refine read_at (V_main_arg0 m c) fun a => ?_
  match a with
  | ⟨0, _⟩ => blk_simp [index0]
  | ⟨1, _⟩ => blk_simp [index0]
  | ⟨2, _⟩ => blk_simp [index0]; simp [col]; omega

theorem emb1 (t : Fin cfg0.N) (r : Fin 8) (k : Fin 1152) :
    ((cfg0.win 1).blk t).view.emb (ix2 r k) = ix2 r (col t k) := by
  refine funext fun a => Fin.ext ?_
  match a with
  | ⟨0, _⟩ => blk_simp [index1]
  | ⟨1, _⟩ => blk_simp [index1]; simp [col]; omega

theorem rot (x : S8x1152.Idx → EReal) (r : Fin 8) (k : Fin 1152) :
    dynamicRotate 0 6#32 none x rotates_S8x1152_d0 (ix2 r k) = x (ix2 ⟨(r.val + 2) % 8, by omega⟩ k) := by
  refine dynamicRotate_apply _ _ _ _ _ _ fun b => ?_
  fin_cases b
  · simp [ix2]
  · simp [ix2]

/-- The kernel lays the parts in rows over zeros, and adds the rows moved round. -/
theorem pay_rows (x : S4x8x1152.Idx → EReal) : ∃ y : S8x1152.Idx → EReal,
    k0_pay1 (F := Ideal) (View.ld x r0_0) (View.ld x r0_1) (View.ld x r0_2) (View.ld x r0_3)
        = addf (F := Ideal) (φ := .f32) y (dynamicRotate 0 6#32 none y rotates_S8x1152_d0)
      ∧ ∀ (r : Fin 8) (k : Fin 1152), y (ix2 r k) = part x r.val k := by
  refine ⟨_, rfl, fun r k => ?_⟩
  fin_cases r
  all_goals pointwise []
  all_goals simp [part]

theorem pay (x : S4x8x1152.Idx → EReal) (r : Fin 8) (k : Fin 1152) :
    out0_1 (F := Ideal) x (ix2 r k) = both x (ix2 r k) := by
  obtain ⟨y, e, h⟩ := pay_rows x
  frame_out
  refine (congrFun e _).trans ?_
  show y _ + dynamicRotate 0 6#32 none y rotates_S8x1152_d0 (ix2 r k) = _
  rw [rot, h, h]
  rfl

theorem arr : (dats m 0 c).arrAt 1 cfg0.N = both (xArr m c) := by
  refine (dats m 0 c).arrAt_eq_of_covers 1 _ (by decide +kernel) fun t _ y => ?_
  rw [after0_1]
  obtain ⟨r, k, rfl⟩ := pair y
  rw [emb1]
  have e := pay (iblk m c 0 t) r k
  generalize out0_1 (iblk m c 0 t) = o at e ⊢
  refine e.trans ?_
  have p (i : Nat) : part (iblk m c 0 t) i k = part (xArr m c) i (col t k) := by
    unfold part
    split
    · exact Finset.sum_congr rfl fun b _ => blk0 m c t _ b k
    · rfl
  exact congrArg₂ (· + ·) (p _) (p _)

end

section
open Cert.ModBRefIdeal Cert.ModBRefIdeal.Read

theorem ref_both (x : (⟨3, ![4, 8, 9216]⟩ : Shape).Idx → EReal) : val_main_v14 (F := Ideal) x = both x := by
  funext i
  obtain ⟨r, k, rfl⟩ := pair i
  fin_cases r
  all_goals
    pointwise [val_main_v14, val_main_v13, val_main_v12, val_main_v11, val_main_v10, val_main_v9, val_main_v6, val_main_v5,
      val_main_v4, val_main_v3, val_main_v0, val_main_cst, val_main_cst_0, val_main_cst_1, val_main_cst_2, val_main_cst_3]
  all_goals simp [both, part]
end

/-- Equal arguments give equal results. -/
theorem algebraic : Cert.algebraic_ModBIdeal_ModBRefIdeal := by
  intro m ρ m' ρ' _ hagree
  refine ⟨fun c => both (xArr m c),
    (θ_run (ModBIdeal.defs (F := Ideal)) _ _).mono (fun r h c => ⟨(h c).1.trans (arr m c), (h c).2⟩)
      (ModBIdeal.Value.run_blocks (F := Ideal) m ρ),
    (θ_run (ModBRefIdeal.defs (F := Ideal)) _ _).mono (fun r h c => ⟨?_, (h c).2⟩)
      (ModBRefIdeal.Value.run (F := Ideal) m' ρ')⟩
  rw [(h c).1, ModBRefIdeal.Read.val_main_v14_eq, ref_both]
  exact congrArg both (hagree c)

end Cert.ModBClaim

end
-- ==== Proof.ModWClaim.lean ====
module

public import proofs.«01_k».proof.Defs
public import proofs.«01_k».proof.Proof.Gen.ModW.Frame
public import proofs.«01_k».proof.Proof.Gen.ModWIdeal.Value
public import proofs.«01_k».proof.Proof.Gen.ModWRefIdeal.Run
public import proofs.«01_k».proof.Proof.Gen.ModWRefIdeal.Read
public import proofs.«01_k».proof.Proof.AdamSpec
public import proofs.«01_k».proof.Proof.Reads

@[expose] public section

/-! The five claims about the gradient of the modulation's matrices. -/

noncomputable section

namespace Cert.ModWClaim

open Idealize.ShloMosaic TcCoe Idealize.SL.Sem Cert

theorem frame : Cert.quiescent_ModW := fun m ρ _ => Cert.ModW.Gen.frame m ρ

theorem frame_ideal : Cert.quiescent_ModWIdeal := fun m ρ _ => Cert.ModWIdeal.Gen.frame m ρ

/-- The reference runs on the host and has no counter. -/
theorem frame_ref : Cert.quiescent_ModWRefIdeal := fun m ρ _ =>
  (θ_run Cert.ModWRefIdeal.defs _ _).mono
    (fun r h => ⟨fun c => (h c).2.2, sem_eq_zero_of_no_sems (by decide) r.2⟩)
    (Cert.ModWRefIdeal.Value.run (F := Ideal) m ρ)

theorem preserves : Cert.preserves_ModW_ModWIdeal := trivial

/-- A number times its logistic value. -/
def act (z : EReal) : EReal := z * Ideal.div 1 (1 + Ideal.exp (-z))

abbrev Cond := (⟨2, ![16, 1024]⟩ : Shape).Idx → EReal
abbrev Mats := (⟨3, ![2, 1024, 1152]⟩ : Shape).Idx → EReal
abbrev Grads := (⟨3, ![4, 8, 1152]⟩ : Shape).Idx → EReal

/-- The context rows' gradient of layer `l`, summed over the batch. -/
def ctx (d : Grads) (l : Fin 2) (k : Fin 1152) : EReal := ∑ b : Fin 8, d (ix3 ⟨l.val + 2, by omega⟩ b k)

/-- The matrices' gradient: the image rows' conditioning with their gradients, and the context's with its sum. -/
def gradAt (a : Cond) (d : Grads) (l : Fin 2) (j : Fin 1024) (k : Fin 1152) : EReal :=
  ∑ b : Fin 8, act (a (ix2 ⟨b.val, by omega⟩ j)) * d (ix3 ⟨l.val, by omega⟩ b k) + act (a (ix2 8 j)) * ctx d l k
def grad (a : Cond) (d : Grads) : Mats := fun i => gradAt a d (i 0) (i 1) (i 2)

/-- What goes back to the context's conditioning, in the first row of each layer's block. -/
def backAt (w : Mats) (d : Grads) (l : Fin 2) (r : Fin 8) (j : Fin 1024) : EReal :=
  if r.val = 0 then ∑ k : Fin 1152, ctx d l k * w (ix3 l j k) else 0
def back (w : Mats) (d : Grads) : (⟨3, ![2, 8, 1024]⟩ : Shape).Idx → EReal := fun i => backAt w d (i 0) (i 1) (i 2)

section
open Cert.ModWIdeal Cert.ModWIdeal.Gen

variable (m : (ℓ : Loc nD τ sig) → Buf (Elt Ideal) ℓ) (c : Dev nD)

/-- The arguments, as launched. -/
abbrev aArr : Cond := m (slot c main_arg0)
abbrev wArr : Mats := m (slot c main_arg1)
abbrev dArr : Grads := m (slot c main_arg2)

/-- The layer of point `t`. -/
def lay (t : Fin cfg0.N) : Fin 2 := ⟨t.val, lt_of_lt_of_eq t.isLt N_0⟩

theorem index0 : ∀ t : Fin grid0.N, win0_0.index t = ![0, 0] := by decide +kernel
theorem index1 : ∀ t : Fin grid0.N, win0_1.index t = ![t.val, 0, 0] := by decide +kernel
theorem index2 : ∀ t : Fin grid0.N, win0_2.index t = ![t.val, 0, 0] := by decide +kernel
theorem index3 : ∀ t : Fin grid0.N, win0_3.index t = ![t.val + 2, 0, 0] := by decide +kernel
theorem index4 : ∀ t : Fin grid0.N, win0_4.index t = ![t.val, 0, 0] := by decide +kernel
theorem index5 : ∀ t : Fin grid0.N, win0_5.index t = ![t.val, 0, 0] := by decide +kernel

theorem V_main_v0 : V m c main_v0 = transpose S1024x16 [1, 0] (aArr m c) transposes_S16x1024_S1024x16_1_0 := by
  simp only [V, hostOps0, List.flatten_cons, List.flatten_nil, List.append_nil]
  after_results

theorem blk0 (t : Fin cfg0.N) (j : Fin 1024) (n : Fin 16) : iblk m c 0 t (ix2 j n) = aArr m c (ix2 n j) := by
  have e : iblk m c 0 t (ix2 j n) = transpose S1024x16 [1, 0] (aArr m c) transposes_S16x1024_S1024x16_1_0 (ix2 j n) := by
    unfold iblk
    rw [View.read_apply]
    show V m c main_v0 _ = _
    rw [V_main_v0]
    refine congrArg (transpose S1024x16 [1, 0] (aArr m c) transposes_S16x1024_S1024x16_1_0) (funext fun a => Fin.ext ?_)
    match a with
    | ⟨0, _⟩ => blk_simp [index0]
    | ⟨1, _⟩ => blk_simp [index0]
  rw [e]
  pointwise []

theorem blk1 (t : Fin cfg0.N) (j : Fin 1024) (k : Fin 1152) : iblk m c 1 t (ix3 0 j k) = wArr m c (ix3 (lay t) j k) := by
  refine read_at (V_main_arg1 m c) fun a => ?_
  match a with
  | ⟨0, _⟩ => blk_simp [index1]; simp [lay]
  | ⟨1, _⟩ => blk_simp [index1]
  | ⟨2, _⟩ => blk_simp [index1]

theorem blk2 (t : Fin cfg0.N) (b : Fin 8) (k : Fin 1152) :
    iblk m c 2 t (ix3 0 b k) = dArr m c (ix3 ⟨(lay t).val, by omega⟩ b k) := by
  refine read_at (V_main_arg2 m c) fun a => ?_
  match a with
  | ⟨0, _⟩ => blk_simp [index2]; simp [lay]
  | ⟨1, _⟩ => blk_simp [index2]
  | ⟨2, _⟩ => blk_simp [index2]

theorem blk3 (t : Fin cfg0.N) (b : Fin 8) (k : Fin 1152) :
    iblk m c 3 t (ix3 0 b k) = dArr m c (ix3 ⟨(lay t).val + 2, by omega⟩ b k) := by
  refine read_at (V_main_arg2 m c) fun a => ?_
  match a with
  | ⟨0, _⟩ => blk_simp [index3]; simp [lay]
  | ⟨1, _⟩ => blk_simp [index3]
  | ⟨2, _⟩ => blk_simp [index3]

theorem emb4 (t : Fin cfg0.N) (j : Fin 1024) (k : Fin 1152) :
    ((cfg0.win 4).blk t).view.emb (ix3 0 j k) = ix3 (lay t) j k := by
  refine funext fun a => Fin.ext ?_
  match a with
  | ⟨0, _⟩ => blk_simp [index4]; simp [lay]
  | ⟨1, _⟩ => blk_simp [index4]
  | ⟨2, _⟩ => blk_simp [index4]

theorem emb5 (t : Fin cfg0.N) (r : Fin 8) (j : Fin 1024) :
    ((cfg0.win 5).blk t).view.emb (ix3 0 r j) = ix3 (lay t) r j := by
  refine funext fun a => Fin.ext ?_
  match a with
  | ⟨0, _⟩ => blk_simp [index5]; simp [lay]
  | ⟨1, _⟩ => blk_simp [index5]
  | ⟨2, _⟩ => blk_simp [index5]

/-- The context's summed gradient over zeros. -/
theorem pay2_at (x : S1x8x1152.Idx → EReal) (r : Fin 8) (k : Fin 1152) :
    k0_pay2 (F := Ideal) x (ix2 r k) = if r.val = 0 then ∑ b : Fin 8, x (ix3 0 b k) else 0 := by
  pointwise [k0_pay2]
  fin_cases r <;> rfl

theorem g_at (x0 : S1024x16.Idx → EReal) (x1 : S1x1024x1152.Idx → EReal) (x2 x3 : S1x8x1152.Idx → EReal)
    (j : Fin 1024) (k : Fin 1152) :
    out0_4 (F := Ideal) x0 x1 x2 x3 (ix3 0 j k)
      = ∑ b : Fin 8, act (x0 (ix2 j ⟨b.val, by omega⟩)) * x2 (ix3 0 b k) + act (x0 (ix2 j 8)) * ∑ b : Fin 8, x3 (ix3 0 b k) := by
  frame_out
  pointwise [k0_pay3]
  refine congrArg₂ (· + ·) (Finset.sum_congr rfl fun b _ => by rw [zero_sub]; rfl) ?_
  simp only [pay2_at]
  rw [Finset.sum_eq_single 0 (fun b _ h => by rw [if_neg (show ¬b.val = 0 from fun e => h (Fin.ext e)), mul_zero]) (by simp), zero_sub]
  rfl

theorem b_at (x0 : S1024x16.Idx → EReal) (x1 : S1x1024x1152.Idx → EReal) (x2 x3 : S1x8x1152.Idx → EReal)
    (r : Fin 8) (j : Fin 1024) :
    out0_5 (F := Ideal) x0 x1 x2 x3 (ix3 0 r j)
      = if r.val = 0 then ∑ k : Fin 1152, (∑ b : Fin 8, x3 (ix3 0 b k)) * x1 (ix3 0 j k) else 0 := by
  frame_out
  pointwise [k0_pay1, k0_pay4]
  simp only [pay2_at]
  split
  · rfl
  · simp

theorem g_arr : (dats m 0 c).arrAt 4 cfg0.N = grad (aArr m c) (dArr m c) := by
  refine (dats m 0 c).arrAt_eq_of_covers 4 _ (by decide +kernel) fun t _ y => ?_
  rw [after0_4]
  obtain ⟨j, k, rfl⟩ : ∃ (j : Fin 1024) (k : Fin 1152), y = ix3 0 j k := ⟨y 1, y 2, by rw [eq_ix3 y]; congr 1; exact Subsingleton.elim _ _⟩
  rw [emb4]
  have e := g_at (iblk m c 0 t) (iblk m c 1 t) (iblk m c 2 t) (iblk m c 3 t) j k
  generalize out0_4 (iblk m c 0 t) (iblk m c 1 t) (iblk m c 2 t) (iblk m c 3 t) = o at e ⊢
  refine e.trans ?_
  simp only [blk0, blk2, blk3]
  rfl

theorem b_arr : (dats m 0 c).arrAt 5 cfg0.N = back (wArr m c) (dArr m c) := by
  refine (dats m 0 c).arrAt_eq_of_covers 5 _ (by decide +kernel) fun t _ y => ?_
  rw [after0_5]
  obtain ⟨r, j, rfl⟩ : ∃ (r : Fin 8) (j : Fin 1024), y = ix3 0 r j := ⟨y 1, y 2, by rw [eq_ix3 y]; congr 1; exact Subsingleton.elim _ _⟩
  rw [emb5]
  have e := b_at (iblk m c 0 t) (iblk m c 1 t) (iblk m c 2 t) (iblk m c 3 t) r j
  generalize out0_5 (iblk m c 0 t) (iblk m c 1 t) (iblk m c 2 t) (iblk m c 3 t) = o at e ⊢
  refine e.trans ?_
  simp only [blk1, blk3]
  rfl

end

section
open Cert.ModWRefIdeal Cert.ModWRefIdeal.Read

variable (a : Cond) (w : Mats) (d : Grads)

theorem ref_grad : val_main_v43 (F := Ideal) a d = grad a d := by
  funext i
  obtain ⟨l, j, k, rfl⟩ : ∃ (l : Fin 2) (j : Fin 1024) (k : Fin 1152), i = ix3 l j k := ⟨i 0, i 1, i 2, eq_ix3 i⟩
  fin_cases l
  all_goals
    pointwise [val_main_v43, val_main_v42, val_main_v41, val_main_v39, val_main_v20, val_main_v19, val_main_v18, val_main_v16,
      val_main_v15, val_main_v14, val_main_v13, val_main_v12, val_main_v11, val_main_v10, val_main_v9, val_main_v5, val_main_v4,
      val_main_v1, val_main_v0, val_main_v38, val_main_v37, val_main_v35, val_main_v34, val_main_v33, val_main_v32, val_main_v31,
      val_main_v30, val_main_v29, val_main_v28, val_main_v24, val_main_v23, val_main_cst, val_main_cst_0,
      val_main_call0_v0, val_main_call0_v1, val_main_call0_v2, val_main_call0_v3, val_main_call0_v4, val_main_call0_v5,
      val_main_call0_cst, val_main_call0_cst_0, val_main_call1_v0, val_main_call1_v1, val_main_call1_v2, val_main_call1_v3,
      val_main_call1_v4, val_main_call1_v5, val_main_call1_cst, val_main_call1_cst_0, val_main_call2_v0, val_main_call2_v1,
      val_main_call2_v2, val_main_call2_v3, val_main_call2_v4, val_main_call2_v5, val_main_call2_cst, val_main_call2_cst_0]
  all_goals
    refine (add_comm _ _).trans (congrArg₂ (· + ·) (Finset.sum_congr rfl fun b _ => mul_comm _ _) ?_)
    rw [Fin.sum_univ_one]
    exact mul_comm _ _

theorem ref_back : val_main_v48 (F := Ideal) w d = back w d := by
  funext i
  obtain ⟨l, r, j, rfl⟩ : ∃ (l : Fin 2) (r : Fin 8) (j : Fin 1024), i = ix3 l r j := ⟨i 0, i 1, i 2, eq_ix3 i⟩
  fin_cases l
  all_goals
    pointwise [val_main_v48, val_main_v47, val_main_v46, val_main_v45, val_main_v44, val_main_v40, val_main_v36, val_main_v17,
      val_main_v14, val_main_v13, val_main_v12, val_main_v11, val_main_v33, val_main_v32, val_main_v31, val_main_v30,
      val_main_v22, val_main_v21, val_main_v3, val_main_v2, val_main_cst, val_main_cst_0, val_main_cst_1]
  all_goals
    show _ = backAt w d _ r j
    unfold backAt
    split_ifs <;> first | omega | rfl

end

/-- Equal arguments give equal results. -/
theorem algebraic : Cert.algebraic_ModWIdeal_ModWRefIdeal := by
  intro m ρ m' ρ' _ hagree
  refine ⟨fun c => grad (aArr m c) (dArr m c), fun c => back (wArr m c) (dArr m c),
    (θ_run (ModWIdeal.defs (F := Ideal)) _ _).mono
      (fun r h c => ⟨(h c).1.trans (g_arr m c), (h c).2.1.trans (b_arr m c), (h c).2.2⟩)
      (ModWIdeal.Value.run_blocks (F := Ideal) m ρ),
    (θ_run (ModWRefIdeal.defs (F := Ideal)) _ _).mono (fun r h c => ⟨?_, ?_, (h c).2.2⟩)
      (ModWRefIdeal.Value.run (F := Ideal) m' ρ')⟩
  · rw [(h c).1, ModWRefIdeal.Read.val_main_v43_eq, ref_grad]
    exact congrArg₂ grad (hagree c).1 (hagree c).2.2
  · rw [(h c).2.1, ModWRefIdeal.Read.val_main_v48_eq, ref_back]
    exact congrArg₂ back (hagree c).2.1 (hagree c).2.2

end Cert.ModWClaim

end
-- ==== Proof.NormFirstBlocks.lean ====
module

public import proofs.«01_k».proof.Proof.Gen.NormFirstIdeal.Value
public import proofs.«01_k».proof.Proof.NormPoints
public import proofs.«01_k».proof.Proof.Reads

@[expose] public section

/-! The first layer's modulated norm, its gradient: what a grid point reads at real arguments. -/

noncomputable section

namespace Cert.NormFirstIdeal.Hand

open Cert.NormFirstIdeal Cert.NormFirstIdeal.Gen Idealize.ShloMosaic TcCoe Idealize.SL.Sem Cert
open Idealize.ShloMosaic.StableHlo

variable (m : (ℓ : Loc nD τ sig) → Buf (Elt Ideal) ℓ) (c : Dev nD)

/-- The arguments, as launched. -/
abbrev aArr : S16384x2816.Idx → EReal := m (slot c main_arg0)
abbrev bArr : S16384x2816.Idx → EReal := m (slot c main_arg1)
abbrev wArr : S1024x5632.Idx → EReal := m (slot c main_arg2)
abbrev hArr : S16384x1024.Idx → EReal := m (slot c main_arg3)
abbrev gArr : S1x1024.Idx → EReal := m (slot c main_arg4)
abbrev mdArr : S9x1024.Idx → EReal := m (slot c main_arg5)
abbrev dArr : S16384x1024.Idx → EReal := m (slot c main_arg6)

/-- The arguments are the real arrays `P`; there is no branch. -/
structure At (P : NormSpec.Args) : Prop where
  a : aArr m c = fun i => (P.a i : EReal)
  b : bArr m c = fun i => (P.b i : EReal)
  w : wArr m c = fun i => (P.w i : EReal)
  h : hArr m c = fun i => (P.h i : EReal)
  y : P.y = 0
  g : gArr m c = fun i => (P.g i : EReal)
  md : mdArr m c = fun i => (P.md i : EReal)
  mp : P.mp = 0
  d : dArr m c = fun i => (P.d i : EReal)

theorem t_lt (t : Fin cfg0.N) : t.val < 64 := lt_of_lt_of_eq t.isLt N_0

/-- Row `r` of point `t`'s blocks, in the whole arrays. -/
def row (t : Fin cfg0.N) (r : Fin 512) : Fin 16384 := ⟨512 * (t.val / 2) + r.val, by have := t_lt t; omega⟩
/-- Column `k` of point `t`'s blocks, in the whole arrays. -/
def half (t : Fin cfg0.N) (k : Fin 1408) : Fin 2816 := ⟨1408 * (t.val % 2) + k.val, by omega⟩
/-- The same column in the first of the two matrices, and in the second. -/
def colA (t : Fin cfg0.N) (k : Fin 1408) : Fin 5632 := ⟨(half t k).val, by have := (half t k).isLt; omega⟩
def colB (t : Fin cfg0.N) (k : Fin 1408) : Fin 5632 := ⟨2816 + (half t k).val, by have := (half t k).isLt; omega⟩

theorem index0 : ∀ t : Fin grid0.N, win0_0.index t = ![t.val / 2, t.val % 2] := by decide +kernel
theorem index1 : ∀ t : Fin grid0.N, win0_1.index t = ![t.val / 2, t.val % 2] := by decide +kernel
theorem index2 : ∀ t : Fin grid0.N, win0_2.index t = ![0, t.val % 2] := by decide +kernel
theorem index3 : ∀ t : Fin grid0.N, win0_3.index t = ![0, t.val % 2 + 2] := by decide +kernel
theorem index4 : ∀ t : Fin grid0.N, win0_4.index t = ![t.val / 2, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val / 2, 0] := by decide +kernel
theorem index8 : ∀ t : Fin grid0.N, win0_8.index t = ![t.val / 2, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel

variable {m c} {P : NormSpec.Args}

theorem blk0 (H : At m c P) (t : Fin cfg0.N) (r : Fin 512) (k : Fin 1408) :
    iblk m c 0 t (ix2 r k) = ((P.a (ix2 (row t r) (half t k)) : ℝ) : EReal) := by
  have := t_lt t
  refine Eq.trans (b := aArr m c (ix2 (row t r) (half t k))) (read_at (V_main_arg0 m c) fun a => ?_) (congrFun H.a _)
  match a with
  | ⟨0, _⟩ => blk_simp [index0]; simp [row]; omega
  | ⟨1, _⟩ => blk_simp [index0]; simp [half]; omega

theorem blk1 (H : At m c P) (t : Fin cfg0.N) (r : Fin 512) (k : Fin 1408) :
    iblk m c 1 t (ix2 r k) = ((P.b (ix2 (row t r) (half t k)) : ℝ) : EReal) := by
  have := t_lt t
  refine Eq.trans (b := bArr m c (ix2 (row t r) (half t k))) (read_at (V_main_arg1 m c) fun a => ?_) (congrFun H.b _)
  match a with
  | ⟨0, _⟩ => blk_simp [index1]; simp [row]; omega
  | ⟨1, _⟩ => blk_simp [index1]; simp [half]; omega

theorem blk2 (H : At m c P) (t : Fin cfg0.N) (r : Fin 1024) (k : Fin 1408) :
    iblk m c 2 t (ix2 r k) = ((P.w (ix2 r (colA t k)) : ℝ) : EReal) := by
  have := t_lt t
  refine Eq.trans (b := wArr m c (ix2 r (colA t k))) (read_at (V_main_arg2 m c) fun a => ?_) (congrFun H.w _)
  match a with
  | ⟨0, _⟩ => blk_simp [index2]
  | ⟨1, _⟩ => blk_simp [index2]; simp [colA, half]; omega

theorem blk3 (H : At m c P) (t : Fin cfg0.N) (r : Fin 1024) (k : Fin 1408) :
    iblk m c 3 t (ix2 r k) = ((P.w (ix2 r (colB t k)) : ℝ) : EReal) := by
  have := t_lt t
  refine Eq.trans (b := wArr m c (ix2 r (colB t k))) (read_at (V_main_arg2 m c) fun a => ?_) (congrFun H.w _)
  match a with
  | ⟨0, _⟩ => blk_simp [index3]
  | ⟨1, _⟩ => blk_simp [index3]; simp [colB, half]; omega

theorem blk4 (H : At m c P) (t : Fin cfg0.N) (r : Fin 512) (k : Fin 1024) :
    iblk m c 4 t (ix2 r k) = ((NormSpec.x P (row t r) k : ℝ) : EReal) := by
  have := t_lt t
  have e : NormSpec.x P (row t r) k = P.h (ix2 (row t r) k) := by simp [NormSpec.x, H.y]
  rw [e]
  refine Eq.trans (b := hArr m c (ix2 (row t r) k)) (read_at (V_main_arg3 m c) fun a => ?_) (congrFun H.h _)
  match a with
  | ⟨0, _⟩ => blk_simp [index4]; simp [row]; omega
  | ⟨1, _⟩ => blk_simp [index4]

theorem blk5 (H : At m c P) (t : Fin cfg0.N) (r : Fin 1) (k : Fin 1024) :
    iblk m c 5 t (ix2 r k) = ((P.g (ix2 r k) : ℝ) : EReal) := by
  have := t_lt t
  refine Eq.trans (b := gArr m c (ix2 r k)) (read_at (V_main_arg4 m c) fun a => ?_) (congrFun H.g _)
  match a with
  | ⟨0, _⟩ => blk_simp [index5]
  | ⟨1, _⟩ => blk_simp [index5]

theorem blk6 (H : At m c P) (t : Fin cfg0.N) (r : Fin 9) (k : Fin 1024) :
    iblk m c 6 t (ix2 r k) = ((P.md (ix2 r k) : ℝ) : EReal) := by
  have := t_lt t
  refine Eq.trans (b := mdArr m c (ix2 r k)) (read_at (V_main_arg5 m c) fun a => ?_) (congrFun H.md _)
  match a with
  | ⟨0, _⟩ => blk_simp [index6]
  | ⟨1, _⟩ => blk_simp [index6]

theorem blk7 (H : At m c P) (t : Fin cfg0.N) (r : Fin 512) (k : Fin 1024) :
    iblk m c 7 t (ix2 r k) = ((P.d (ix2 (row t r) k) : ℝ) : EReal) := by
  have := t_lt t
  refine Eq.trans (b := dArr m c (ix2 (row t r) k)) (read_at (V_main_arg6 m c) fun a => ?_) (congrFun H.d _)
  match a with
  | ⟨0, _⟩ => blk_simp [index7]; simp [row]; omega
  | ⟨1, _⟩ => blk_simp [index7]

theorem emb8 (t : Fin cfg0.N) (r : Fin 512) (k : Fin 1024) :
    ((cfg0.win 8).blk t).view.emb (ix2 r k) = ix2 (row t r) k := by
  have := t_lt t
  refine funext fun a => Fin.ext ?_
  match a with
  | ⟨0, _⟩ => blk_simp [index8]; simp [row]; omega
  | ⟨1, _⟩ => blk_simp [index8]

theorem emb9 (t : Fin cfg0.N) (r : Fin 1) (k : Fin 1024) :
    ((cfg0.win 9).blk t).view.emb (ix2 r k) = ix2 r k := by
  have := t_lt t
  refine funext fun a => Fin.ext ?_
  match a with
  | ⟨0, _⟩ => blk_simp [index9]
  | ⟨1, _⟩ => blk_simp [index9]

theorem emb10 (t : Fin cfg0.N) (r : Fin 1) (k : Fin 1024) :
    ((cfg0.win 10).blk t).view.emb (ix2 r k) = ix2 r k := by
  have := t_lt t
  refine funext fun a => Fin.ext ?_
  match a with
  | ⟨0, _⟩ => blk_simp [index10]
  | ⟨1, _⟩ => blk_simp [index10]

theorem emb11 (t : Fin cfg0.N) (r : Fin 1) (k : Fin 1024) :
    ((cfg0.win 11).blk t).view.emb (ix2 r k) = ix2 r k := by
  have := t_lt t
  refine funext fun a => Fin.ext ?_
  match a with
  | ⟨0, _⟩ => blk_simp [index11]
  | ⟨1, _⟩ => blk_simp [index11]

/-- The second row of the modulation. -/
theorem md_row (H : At m c P) (t : Fin cfg0.N) (j : Fin 1024) :
    View.ld (iblk m c 6 t) (Rect.unit ![1, 0] ![1, 1024] inb_S9x1024_S1x1024_1_0) (ix2 0 j) = ((P.md (ix2 1 j) : ℝ) : EReal) := by
  refine Eq.trans (View.ld_unit_apply_of (iblk m c 6 t) _ _ _ _ (ix2 1 j) fun a => match a with
    | ⟨0, _⟩ => rfl
    | ⟨1, _⟩ => (Nat.zero_add _).symm) ?_
  exact blk6 H t 1 j

end Cert.NormFirstIdeal.Hand

end
-- ==== Proof.NormFirstPoints.lean ====
module

public import proofs.«01_k».proof.Proof.NormFirstBlocks

@[expose] public section

/-! The first layer's modulated norm, its gradient: what a grid point leaves at real arguments. Two points share a block of rows: the first
    keeps half of the arriving gradient, the second adds the other half and finishes. -/

noncomputable section

namespace Cert.NormFirstIdeal.Hand

open Cert.NormFirstIdeal Cert.NormFirstIdeal.Gen Idealize.ShloMosaic TcCoe Idealize.SL.Sem Cert

open Cert.NormIdeal.Hand (Blk Line part part_congr dn_parts)

/-- The scale of a row. -/
theorem pay9_at {x : Blk} {X : Fin 512 → Fin 1024 → ℝ} (hx : ∀ r j, x (ix2 r j) = (X r j : EReal)) (r : Fin 512) :
    k0_pay9 x (ix2 r 0) = ((NormSpec.scaleOf (X r) : ℝ) : EReal) := by
  pointwise [k0_pay9]
  simp only [hx]
  rw [Finite.coe_dot]
  exact (congrArg Ideal.rsqrt ((congrArg₂ (· + ·) (NormSpec.div_size _) NormSpec.eps_bits).trans
    (by push_cast; rfl))).trans (NormSpec.rsqrt_under (X r))

/-- The normed input. -/
theorem pay10_at {x : Blk} {X : Fin 512 → Fin 1024 → ℝ} (hx : ∀ r j, x (ix2 r j) = (X r j : EReal)) (r : Fin 512) (j : Fin 1024) :
    k0_pay10 x (ix2 r j) = ((X r j * NormSpec.scaleOf (X r) : ℝ) : EReal) := by
  pointwise [k0_pay10]
  rw [hx, pay9_at hx, EReal.coe_mul]

/-- The gradient times the normed input, entry by entry and summed over the block's rows. -/
theorem pay12_at {a b : Vec Idealize.ShloMosaic.Ideal S512x1408 .bf16} {w v : Vec Idealize.ShloMosaic.Ideal S1024x1408 .bf16} {s x : Blk}
    {D X : Fin 512 → Fin 1024 → ℝ} (hD : ∀ r j, k0_pay8 a w b v s (ix2 r j) = (D r j : EReal))
    (hx : ∀ r j, x (ix2 r j) = (X r j : EReal)) (r : Fin 512) (j : Fin 1024) :
    k0_pay12 a w b v s x (ix2 r j) = ((D r j * (X r j * NormSpec.scaleOf (X r)) : ℝ) : EReal) := by
  pointwise [k0_pay12]
  rw [hD, pay10_at hx]
  exact (EReal.coe_mul _ _).symm

theorem pay13_at {a b : Vec Idealize.ShloMosaic.Ideal S512x1408 .bf16} {w v : Vec Idealize.ShloMosaic.Ideal S1024x1408 .bf16} {s x : Blk}
    {T : Fin 512 → Fin 1024 → ℝ} (hT : ∀ r j, k0_pay12 a w b v s x (ix2 r j) = (T r j : EReal)) (j : Fin 1024) :
    k0_pay13 a w b v s x (ix2 0 j) = ((∑ r : Fin 512, T r j : ℝ) : EReal) := by
  pointwise [k0_pay13]
  simp only [hT]
  exact Finite.coe_sum _ _

variable {m : (ℓ : Loc nD τ sig) → Buf (Elt Ideal) ℓ} {c : Dev nD} {P : NormSpec.Args}

/-- The point before, in the same block of rows. -/
abbrev prev (t : Fin cfg0.N) : t.val - 1 < cfg0.N := Nat.lt_of_le_of_lt (Nat.sub_le _ _) t.isLt

/-- The first point of a block of rows keeps its half. -/
theorem scratch_even (H : At m c P) (t : Fin cfg0.N) (h : t.val % 2 = 0) (r : Fin 512) (j : Fin 1024) :
    (outsAt0 m c t.val t.isLt).2.2.2.2 (ix2 r j) = ((part P (row t r) (t.val % 2) (by omega) j : ℝ) : EReal) := by
  by_cases h0 : t.val % 64 = 0
  · rw [outsAt0_A m c t h0 h (by omega)]
    dsimp only
    frame_out
    exact NormIdeal.Hand.pay5_at (fun r k => blk0 H t r k) (fun j k => blk2 H t j k) (fun r k => blk1 H t r k) (fun j k => blk3 H t j k) r j
  · rw [outsAt0_C m c t h0 h (by omega)]
    dsimp only
    frame_out
    exact NormIdeal.Hand.pay5_at (fun r k => blk0 H t r k) (fun j k => blk2 H t j k) (fun r k => blk1 H t r k) (fun j k => blk3 H t j k) r j

/-- What the second point finds of the first. -/
theorem scratch_prev (H : At m c P) (t : Fin cfg0.N) (h : t.val % 2 = 1) (r : Fin 512) (j : Fin 1024) :
    (outsAt0 m c (t.val - 1) (prev t)).2.2.2.2 (ix2 r j) = ((part P (row t r) 0 (by omega) j : ℝ) : EReal) := by
  refine (scratch_even H ⟨t.val - 1, prev t⟩ (by show (t.val - 1) % 2 = 0; omega) r j).trans ?_
  refine congrArg Real.toEReal (part_congr P (Fin.ext ?_) (by show (t.val - 1) % 2 = 0; omega) _ _ j)
  show 512 * ((t.val - 1) / 2) + r.val = 512 * (t.val / 2) + r.val
  omega

/-- The arriving gradient, complete. -/
theorem dn_at (H : At m c P) (t : Fin cfg0.N) (h : t.val % 2 = 1) {s : Blk}
    (hs : s = (outsAt0 m c (t.val - 1) (prev t)).2.2.2.2) (r : Fin 512) (j : Fin 1024) :
    k0_pay8 (iblk m c 0 t) (iblk m c 2 t) (iblk m c 1 t) (iblk m c 3 t) s (ix2 r j) = ((NormSpec.dn P (row t r) j : ℝ) : EReal) := by
  refine (NormIdeal.Hand.pay7_at (fun r k => blk0 H t r k) (fun j k => blk2 H t j k) (fun r k => blk1 H t r k) (fun j k => blk3 H t j k)
    (S := fun r j => part P (row t r) 0 (by omega) j) (fun r j => by rw [hs]; exact scratch_prev H t h r j) r j).trans ?_
  refine congrArg Real.toEReal (Eq.trans ?_ (dn_parts P (row t r) j))
  exact congrArg (· + part P (row t r) 0 (by omega) j) (part_congr P rfl h (by omega) (by omega) j)

theorem t_at (H : At m c P) (t : Fin cfg0.N) (h : t.val % 2 = 1) {s : Blk}
    (hs : s = (outsAt0 m c (t.val - 1) (prev t)).2.2.2.2) (r : Fin 512) (j : Fin 1024) :
    k0_pay12 (iblk m c 0 t) (iblk m c 2 t) (iblk m c 1 t) (iblk m c 3 t) s (iblk m c 4 t) (ix2 r j)
      = ((NormSpec.t P (row t r) j : ℝ) : EReal) :=
  pay12_at (D := fun r j => NormSpec.dn P (row t r) j) (X := fun r j => NormSpec.x P (row t r) j)
    (fun r j => dn_at H t h hs r j) (fun r j => blk4 H t r j) r j

theorem tsum_at (H : At m c P) (t : Fin cfg0.N) (h : t.val % 2 = 1) {s : Blk}
    (hs : s = (outsAt0 m c (t.val - 1) (prev t)).2.2.2.2) (j : Fin 1024) :
    k0_pay13 (iblk m c 0 t) (iblk m c 2 t) (iblk m c 1 t) (iblk m c 3 t) s (iblk m c 4 t) (ix2 0 j)
      = ((∑ r : Fin 512, NormSpec.t P (row t r) j : ℝ) : EReal) :=
  pay13_at (fun r j => t_at H t h hs r j) j

/-- The modulation, as the point reads it. -/
abbrev mdLine (m : (ℓ : Loc nD τ sig) → Buf (Elt Ideal) ℓ) (c : Dev nD) (t : Fin cfg0.N) : Line :=
  k0_pay11 (View.ld (iblk m c 6 t) (Rect.unit ![1, 0] ![1, 1024] inb_S9x1024_S1x1024_1_0))

theorem mdLine_at (H : At m c P) (t : Fin cfg0.N) (j : Fin 1024) : mdLine m c t (ix2 0 j) = ((NormSpec.md1 P j : ℝ) : EReal) :=
  NormIdeal.Hand.pay11_at (fun j => md_row H t j) j

/-- The gradient of the norm's input. -/
theorem dh_pay (H : At m c P) (t : Fin cfg0.N) (h : t.val % 2 = 1) {s : Blk}
    (hs : s = (outsAt0 m c (t.val - 1) (prev t)).2.2.2.2) (r : Fin 512) (j : Fin 1024) :
    k0_pay7 (k0_pay8 (iblk m c 0 t) (iblk m c 2 t) (iblk m c 1 t) (iblk m c 3 t) s) (iblk m c 5 t) (k0_pay9 (iblk m c 4 t))
      (k0_pay10 (iblk m c 4 t)) (mdLine m c t)
      (k0_pay12 (iblk m c 0 t) (iblk m c 2 t) (iblk m c 1 t) (iblk m c 3 t) s (iblk m c 4 t)) (iblk m c 7 t) (ix2 r j)
      = ((NormSpec.dh P (row t r) j : ℝ) : EReal) :=
  NormIdeal.Hand.pay17_at (D := fun r j => NormSpec.dn P (row t r) j) (X := fun r j => NormSpec.x P (row t r) j * NormSpec.r P (row t r))
    (T := fun r j => NormSpec.t P (row t r) j) (E := fun r j => P.d (ix2 (row t r) j)) (G := fun j => P.g (ix2 0 j))
    (M := NormSpec.md1 P) (R := fun r => NormSpec.r P (row t r))
    (fun r j => dn_at H t h hs r j) (fun j => blk5 H t 0 j) (fun r => pay9_at (fun r j => blk4 H t r j) r)
    (fun r j => pay10_at (fun r j => blk4 H t r j) r j) (fun j => mdLine_at H t j)
    (fun r j => t_at H t h hs r j) (fun r j => blk7 H t r j) r j

end Cert.NormFirstIdeal.Hand

end
-- ==== Proof.NormFirstArrays.lean ====
module

public import proofs.«01_k».proof.Proof.NormFirstPoints
public import proofs.«01_k».proof.Proof.Reads

@[expose] public section

/-! The first layer's modulated norm, its gradient: the four arrays the run leaves, at real arguments. -/

noncomputable section

namespace Cert.NormFirstIdeal.Hand

open Cert.NormFirstIdeal Cert.NormFirstIdeal.Gen Idealize.ShloMosaic TcCoe Idealize.SL.Sem Cert

variable {m : (ℓ : Loc nD τ sig) → Buf (Elt Ideal) ℓ} {c : Dev nD} {P : NormSpec.Args}

theorem dh_at (H : At m c P) (t : Fin cfg0.N) (h : t.val % 2 = 1) (r : Fin 512) (j : Fin 1024) :
    (outsAt0 m c t.val t.isLt).1 (ix2 r j) = NormSpec.dhArr P (ix2 (row t r) j) := by
  rw [outsAt0_B m c t (by omega) (by omega) h]
  dsimp only
  frame_out
  exact dh_pay H t h (Memref.IsWhole.read_unread _ _) r j

theorem dshift_first (t : Fin cfg0.N) (h : t.val % 64 = 0) (j : Fin 1024) :
    (outsAt0 m c t.val t.isLt).2.1 (ix2 0 j) = 0 := by
  rw [outsAt0_A m c t h (by omega) (by omega)]
  dsimp only
  frame_out
  pointwise [k0_pay1]

theorem dshift_even (t : Fin cfg0.N) (h0 : ¬t.val % 64 = 0) (h : t.val % 2 = 0) (j : Fin 1024) :
    (outsAt0 m c t.val t.isLt).2.1 (ix2 0 j) = (outsAt0 m c (t.val - 1) (prev t)).2.1 (ix2 0 j) := by
  rw [outsAt0_C m c t h0 h (by omega)]
  dsimp only [out0_C_9]

theorem dshift_odd (H : At m c P) (t : Fin cfg0.N) (h : t.val % 2 = 1) (j : Fin 1024) :
    (outsAt0 m c t.val t.isLt).2.1 (ix2 0 j) = (outsAt0 m c (t.val - 1) (prev t)).2.1 (ix2 0 j)
      + ((1 * ∑ r : Fin 512, NormSpec.dn P (row t r) j : ℝ) : EReal) := by
  rw [outsAt0_B m c t (by omega) (by omega) h]
  dsimp only
  frame_out
  exact NormIdeal.Hand.pay14_at (D := fun r j => NormSpec.dn P (row t r) j) (fun r j => dn_at H t h (Memref.IsWhole.read_unread _ _) r j) _ j

theorem dshift_last (H : At m c P) (t : Fin cfg0.N) (h : t.val = 63) (j : Fin 1024) :
    (outsAt0 m c t.val t.isLt).2.1 (ix2 0 j) = NormSpec.dshiftArr P (ix2 0 j) := by
  have hN : ∀ {n : ℕ}, n < 64 → n < cfg0.N := fun h => lt_of_lt_of_eq h N_0.symm
  exact NormSpec.total (fun n => NormSpec.dn P n j) (1) (fun t h => (outsAt0 m c t (hN h)).2.1 (ix2 0 j))
    (fun t h h0 => dshift_first ⟨t, hN h⟩ (by show t % 64 = 0; omega) j)
    (fun t h h0 h1 => dshift_even ⟨t, hN h⟩ (by show ¬t % 64 = 0; omega) h1 j)
    (fun t h h1 => dshift_odd H ⟨t, hN h⟩ h1 j) t.val (t_lt t) h

theorem dscale_first (t : Fin cfg0.N) (h : t.val % 64 = 0) (j : Fin 1024) :
    (outsAt0 m c t.val t.isLt).2.2.1 (ix2 0 j) = 0 := by
  rw [outsAt0_A m c t h (by omega) (by omega)]
  dsimp only
  frame_out
  pointwise [k0_pay2]

theorem dscale_even (t : Fin cfg0.N) (h0 : ¬t.val % 64 = 0) (h : t.val % 2 = 0) (j : Fin 1024) :
    (outsAt0 m c t.val t.isLt).2.2.1 (ix2 0 j) = (outsAt0 m c (t.val - 1) (prev t)).2.2.1 (ix2 0 j) := by
  rw [outsAt0_C m c t h0 h (by omega)]
  dsimp only [out0_C_10]

theorem dscale_odd (H : At m c P) (t : Fin cfg0.N) (h : t.val % 2 = 1) (j : Fin 1024) :
    (outsAt0 m c t.val t.isLt).2.2.1 (ix2 0 j) = (outsAt0 m c (t.val - 1) (prev t)).2.2.1 (ix2 0 j)
      + ((P.g (ix2 0 j) * ∑ r : Fin 512, NormSpec.t P (row t r) j : ℝ) : EReal) := by
  rw [outsAt0_B m c t (by omega) (by omega) h]
  dsimp only
  frame_out
  exact NormIdeal.Hand.pay15_at (G := fun j => P.g (ix2 0 j)) (fun j => blk5 H t 0 j) (fun j => tsum_at H t h (Memref.IsWhole.read_unread _ _) j) _ j

theorem dscale_last (H : At m c P) (t : Fin cfg0.N) (h : t.val = 63) (j : Fin 1024) :
    (outsAt0 m c t.val t.isLt).2.2.1 (ix2 0 j) = NormSpec.dscaleArr P (ix2 0 j) := by
  have hN : ∀ {n : ℕ}, n < 64 → n < cfg0.N := fun h => lt_of_lt_of_eq h N_0.symm
  exact NormSpec.total (fun n => NormSpec.t P n j) (P.g (ix2 0 j)) (fun t h => (outsAt0 m c t (hN h)).2.2.1 (ix2 0 j))
    (fun t h h0 => dscale_first ⟨t, hN h⟩ (by show t % 64 = 0; omega) j)
    (fun t h h0 h1 => dscale_even ⟨t, hN h⟩ (by show ¬t % 64 = 0; omega) h1 j)
    (fun t h h1 => dscale_odd H ⟨t, hN h⟩ h1 j) t.val (t_lt t) h

theorem dg_first (t : Fin cfg0.N) (h : t.val % 64 = 0) (j : Fin 1024) :
    (outsAt0 m c t.val t.isLt).2.2.2.1 (ix2 0 j) = 0 := by
  rw [outsAt0_A m c t h (by omega) (by omega)]
  dsimp only
  frame_out
  pointwise [k0_pay3]

theorem dg_even (t : Fin cfg0.N) (h0 : ¬t.val % 64 = 0) (h : t.val % 2 = 0) (j : Fin 1024) :
    (outsAt0 m c t.val t.isLt).2.2.2.1 (ix2 0 j) = (outsAt0 m c (t.val - 1) (prev t)).2.2.2.1 (ix2 0 j) := by
  rw [outsAt0_C m c t h0 h (by omega)]
  dsimp only [out0_C_11]

theorem dg_odd (H : At m c P) (t : Fin cfg0.N) (h : t.val % 2 = 1) (j : Fin 1024) :
    (outsAt0 m c t.val t.isLt).2.2.2.1 (ix2 0 j) = (outsAt0 m c (t.val - 1) (prev t)).2.2.2.1 (ix2 0 j)
      + ((NormSpec.md1 P j * ∑ r : Fin 512, NormSpec.t P (row t r) j : ℝ) : EReal) := by
  rw [outsAt0_B m c t (by omega) (by omega) h]
  dsimp only
  frame_out
  exact NormIdeal.Hand.pay16_at (fun j => mdLine_at H t j) (fun j => tsum_at H t h (Memref.IsWhole.read_unread _ _) j) _ j

theorem dg_last (H : At m c P) (t : Fin cfg0.N) (h : t.val = 63) (j : Fin 1024) :
    (outsAt0 m c t.val t.isLt).2.2.2.1 (ix2 0 j) = NormSpec.dgArr P (ix2 0 j) := by
  have hN : ∀ {n : ℕ}, n < 64 → n < cfg0.N := fun h => lt_of_lt_of_eq h N_0.symm
  exact NormSpec.total (fun n => NormSpec.t P n j) (NormSpec.md1 P j) (fun t h => (outsAt0 m c t (hN h)).2.2.2.1 (ix2 0 j))
    (fun t h h0 => dg_first ⟨t, hN h⟩ (by show t % 64 = 0; omega) j)
    (fun t h h0 h1 => dg_even ⟨t, hN h⟩ (by show ¬t % 64 = 0; omega) h1 j)
    (fun t h h1 => dg_odd H ⟨t, hN h⟩ h1 j) t.val (t_lt t) h

theorem flush8 : ∀ t : Fin grid0.N, (cfg0.win 8).flush t = true → t.val % 2 = 1 := by decide +kernel

theorem dh_arr (H : At m c P) : (dats m 0 c).arrAt 8 cfg0.N = NormSpec.dhArr P := by
  refine (dats m 0 c).arrAt_eq_of_covers 8 _ (by decide +kernel) fun t hf y => ?_
  rw [after0_8]
  obtain ⟨r, k, rfl⟩ := pair y
  rw [emb8]
  exact dh_at H t (flush8 t hf) r k

theorem flush9 : ∀ t : Fin grid0.N, (cfg0.win 9).flush t = true → t.val = 63 := by decide +kernel

theorem dshift_arr (H : At m c P) : (dats m 0 c).arrAt 9 cfg0.N = NormSpec.dshiftArr P := by
  refine (dats m 0 c).arrAt_eq_of_covers 9 _ (by decide +kernel) fun t hf y => ?_
  rw [after0_9]
  obtain ⟨r, k, rfl⟩ := pair y
  obtain rfl : r = 0 := Subsingleton.elim _ _
  rw [emb9]
  exact dshift_last H t (flush9 t hf) k

theorem flush10 : ∀ t : Fin grid0.N, (cfg0.win 10).flush t = true → t.val = 63 := by decide +kernel

theorem dscale_arr (H : At m c P) : (dats m 0 c).arrAt 10 cfg0.N = NormSpec.dscaleArr P := by
  refine (dats m 0 c).arrAt_eq_of_covers 10 _ (by decide +kernel) fun t hf y => ?_
  rw [after0_10]
  obtain ⟨r, k, rfl⟩ := pair y
  obtain rfl : r = 0 := Subsingleton.elim _ _
  rw [emb10]
  exact dscale_last H t (flush10 t hf) k

theorem flush11 : ∀ t : Fin grid0.N, (cfg0.win 11).flush t = true → t.val = 63 := by decide +kernel

theorem dg_arr (H : At m c P) : (dats m 0 c).arrAt 11 cfg0.N = NormSpec.dgArr P := by
  refine (dats m 0 c).arrAt_eq_of_covers 11 _ (by decide +kernel) fun t hf y => ?_
  rw [after0_11]
  obtain ⟨r, k, rfl⟩ := pair y
  obtain rfl : r = 0 := Subsingleton.elim _ _
  rw [emb11]
  exact dg_last H t (flush11 t hf) k

end Cert.NormFirstIdeal.Hand

end
-- ==== Proof.NormFirstRefValue.lean ====
module

public import proofs.«01_k».proof.Proof.Gen.NormFirstRefIdeal.Read
public import proofs.«01_k».proof.Proof.NormRefValue
public import proofs.«01_k».proof.Proof.Reads

@[expose] public section

/-! The first layer's modulated norm, its gradient: what the reference computes at real arguments. It is the other layer's
    reference at the norm's input, which here is the residual stream itself. -/

noncomputable section

namespace Cert.NormFirstRefIdeal.Hand

open Cert.NormFirstRefIdeal Cert.NormFirstRefIdeal.Read Idealize.ShloMosaic Cert
open Cert.NormRefIdeal.Hand (A B W H Y G Md Mp Dr)

variable {P : NormSpec.Args}

/-- Without a branch the norm's input is the residual stream. -/
theorem input (hy : P.y = 0) : H P = NormRefIdeal.Read.val_main_v11 (F := Ideal) (H P) (Y P) (Mp P) := by
  funext i
  obtain ⟨n, j, rfl⟩ := pair i
  rw [NormRefIdeal.Hand.x_eq]
  simp [NormSpec.x, hy]

theorem dshift_eq : val_main_v34 (F := Ideal) (A P) (B P) (W P) = NormSpec.dshiftArr P :=
  NormRefIdeal.Hand.dshift_eq P

theorem dscale_eq (hy : P.y = 0) :
    val_main_v37 (F := Ideal) (A P) (B P) (W P) (H P) (G P) = NormSpec.dscaleArr P :=
  (congrArg (fun h => val_main_v37 (F := Ideal) (A P) (B P) (W P) h (G P)) (input hy)).trans (NormRefIdeal.Hand.dscale_eq P)

theorem dg_eq (hy : P.y = 0) :
    val_main_v42 (F := Ideal) (A P) (B P) (W P) (H P) (Md P) = NormSpec.dgArr P :=
  (congrArg (fun h => val_main_v42 (F := Ideal) (A P) (B P) (W P) h (Md P)) (input hy)).trans (NormRefIdeal.Hand.dg_eq P)

theorem dh_eq (hy : P.y = 0) :
    val_main_v59 (F := Ideal) (A P) (B P) (W P) (H P) (G P) (Md P) (Dr P) = NormSpec.dhArr P :=
  (congrArg (fun h => val_main_v59 (F := Ideal) (A P) (B P) (W P) h (G P) (Md P) (Dr P)) (input hy)).trans
    (NormRefIdeal.Hand.dh_eq P)

end Cert.NormFirstRefIdeal.Hand

end
-- ==== Proof.NormFirstClaim.lean ====
module

public import proofs.«01_k».proof.Defs
public import proofs.«01_k».proof.Proof.Gen.NormFirst.Frame
public import proofs.«01_k».proof.Proof.Gen.Pre_finite_norm_first
public import proofs.«01_k».proof.Proof.NormFirstArrays
public import proofs.«01_k».proof.Proof.NormFirstRefValue
public import proofs.«01_k».proof.Proof.Gen.NormFirstRefIdeal.Run
public import proofs.«01_k».proof.Proof.Reads

@[expose] public section

/-! The five claims about the gradient of the first layer's modulated norm, the last of them at arguments that are real
    numbers. -/

noncomputable section

namespace Cert.NormFirstClaim

open Idealize.ShloMosaic TcCoe Idealize.SL.Sem Cert

theorem frame : Cert.quiescent_NormFirst := fun m ρ _ => Cert.NormFirst.Gen.frame m ρ

theorem frame_ideal : Cert.quiescent_NormFirstIdeal := fun m ρ _ => Cert.NormFirstIdeal.Gen.frame m ρ

theorem frame_ideal_pre : Cert.quiescent_NormFirstIdeal_pre_finite_norm_first := fun m ρ _ => Cert.NormFirstIdeal.Gen.frame m ρ

/-- The reference runs on the host and has no counter. -/
theorem frame_ref : Cert.quiescent_NormFirstRefIdeal := fun m ρ _ =>
  (θ_run Cert.NormFirstRefIdeal.defs _ _).mono
    (fun r h => ⟨fun c => (h c).2.2.2.2, sem_eq_zero_of_no_sems (by decide) r.2⟩)
    (Cert.NormFirstRefIdeal.Value.run (F := Ideal) m ρ)

theorem frame_ref_pre : Cert.quiescent_NormFirstRefIdeal_pre_finite_norm_first := fun m ρ _ => frame_ref m ρ trivial

theorem preserves : Cert.preserves_NormFirst_NormFirstIdeal := trivial

section
open Cert.NormFirstIdeal Cert.NormFirstIdeal.Hand

variable (m : (ℓ : Loc nD τ sig) → Buf (Elt Ideal) ℓ) (c : Dev nD)

/-- The precondition says that every entry of every argument is a real number. -/
theorem args_real (h : Cert.Pre_NormFirstIdeal_finite_norm_first m) : ∃ P : NormSpec.Args, At m c P := by
  obtain ⟨h0, h1, h2, h3, h4, h5, h6⟩ := h c
  obtain ⟨p0, e0⟩ := Finite.lift (x := aArr m c) fun i => Finite.real_of_cmp (congrFun h0 i)
  obtain ⟨p1, e1⟩ := Finite.lift (x := bArr m c) fun i => Finite.real_of_cmp (congrFun h1 i)
  obtain ⟨p2, e2⟩ := Finite.lift (x := wArr m c) fun i => Finite.real_of_cmp (congrFun h2 i)
  obtain ⟨p3, e3⟩ := Finite.lift (x := hArr m c) fun i => Finite.real_of_cmp (congrFun h3 i)
  obtain ⟨p4, e4⟩ := Finite.lift (x := gArr m c) fun i => Finite.real_of_cmp (congrFun h4 i)
  obtain ⟨p5, e5⟩ := Finite.lift (x := mdArr m c) fun i => Finite.real_of_cmp (congrFun h5 i)
  obtain ⟨p6, e6⟩ := Finite.lift (x := dArr m c) fun i => Finite.real_of_cmp (congrFun h6 i)
  exact ⟨⟨p0, p1, p2, p3, 0, p4, p5, 0, p6⟩, ⟨e0, e1, e2, e3, rfl, e4, e5, rfl, e6⟩⟩

end

section
open Cert.NormFirstRefIdeal

variable (m : (ℓ : Loc nD τ sig) → Buf (Elt Ideal) ℓ) (c : Dev nD)

/-- The reference's arguments, as launched. -/
abbrev aRef : S16384x2816.Idx → EReal := m (slot c main_arg0)
abbrev bRef : S16384x2816.Idx → EReal := m (slot c main_arg1)
abbrev wRef : S1024x5632.Idx → EReal := m (slot c main_arg2)
abbrev hRef : S16384x1024.Idx → EReal := m (slot c main_arg3)
abbrev gRef : S1x1024.Idx → EReal := m (slot c main_arg4)
abbrev mdRef : S9x1024.Idx → EReal := m (slot c main_arg5)
abbrev dRef : S16384x1024.Idx → EReal := m (slot c main_arg6)

/-- The reference's run, its results named by its own stages. -/
theorem ref_run (ρ : Dev nD → PrngReg) :
    θ_run (defs (F := Ideal)) (onTc (τ := τ) (main (F := Ideal))) ⟨m, fun _ => 0, ρ⟩ fun r => ∀ c : Dev nD,
      r.2.mem (slot c main_v59) = Read.val_main_v59 (aRef m c) (bRef m c) (wRef m c) (hRef m c) (gRef m c) (mdRef m c) (dRef m c)
      ∧ r.2.mem (slot c main_v34) = Read.val_main_v34 (aRef m c) (bRef m c) (wRef m c)
      ∧ r.2.mem (slot c main_v37) = Read.val_main_v37 (aRef m c) (bRef m c) (wRef m c) (hRef m c) (gRef m c)
      ∧ r.2.mem (slot c main_v42) = Read.val_main_v42 (aRef m c) (bRef m c) (wRef m c) (hRef m c) (mdRef m c)
      ∧ r.2.mem (slot c main_arg0) = m (slot c main_arg0)
      ∧ r.2.mem (slot c main_arg1) = m (slot c main_arg1)
      ∧ r.2.mem (slot c main_arg2) = m (slot c main_arg2)
      ∧ r.2.mem (slot c main_arg3) = m (slot c main_arg3)
      ∧ r.2.mem (slot c main_arg4) = m (slot c main_arg4)
      ∧ r.2.mem (slot c main_arg5) = m (slot c main_arg5)
      ∧ r.2.mem (slot c main_arg6) = m (slot c main_arg6) :=
  (θ_run (defs (F := Ideal)) _ _).mono (fun r h c =>
      ⟨(h c).1.trans (Read.val_main_v59_eq _ _), (h c).2.1.trans (Read.val_main_v34_eq _ _ _),
       (h c).2.2.1.trans (Read.val_main_v37_eq _ _ _ _ _), (h c).2.2.2.1.trans (Read.val_main_v42_eq _ _ _ _ _), (h c).2.2.2.2⟩)
    (Value.run (F := Ideal) m ρ)

end

/-- Equal real arguments give equal results. -/
theorem algebraic : Cert.algebraic_NormFirstIdeal_NormFirstRefIdeal_pre_finite_norm_first := by
  intro m ρ m' ρ' hpre hagree
  choose P H using fun c => args_real m c hpre
  refine ⟨fun c => NormSpec.dhArr (P c), fun c => NormSpec.dshiftArr (P c), fun c => NormSpec.dscaleArr (P c),
    fun c => NormSpec.dgArr (P c),
    (θ_run (NormFirstIdeal.defs (F := Ideal)) _ _).mono (fun r h c =>
      ⟨(h c).1.trans (NormFirstIdeal.Hand.dh_arr (H c)), (h c).2.1.trans (NormFirstIdeal.Hand.dshift_arr (H c)),
       (h c).2.2.1.trans (NormFirstIdeal.Hand.dscale_arr (H c)), (h c).2.2.2.1.trans (NormFirstIdeal.Hand.dg_arr (H c)),
       (h c).2.2.2.2⟩)
      (NormFirstIdeal.Value.run_blocks (F := Ideal) m ρ),
    (θ_run (NormFirstRefIdeal.defs (F := Ideal)) _ _).mono (fun r h c => ?_) (ref_run m' ρ')⟩
  obtain ⟨g0, g1, g2, g3, g4, g5, g6⟩ := hagree c
  have q0 : aRef m' c = NormRefIdeal.Hand.A (P c) := g0.trans (H c).a
  have q1 : bRef m' c = NormRefIdeal.Hand.B (P c) := g1.trans (H c).b
  have q2 : wRef m' c = NormRefIdeal.Hand.W (P c) := g2.trans (H c).w
  have q3 : hRef m' c = NormRefIdeal.Hand.H (P c) := g3.trans (H c).h
  have q4 : gRef m' c = NormRefIdeal.Hand.G (P c) := g4.trans (H c).g
  have q5 : mdRef m' c = NormRefIdeal.Hand.Md (P c) := g5.trans (H c).md
  have q6 : dRef m' c = NormRefIdeal.Hand.Dr (P c) := g6.trans (H c).d
  have hc := h c
  have hy := (H c).y
  rw [q0, q1, q2, q3, q4, q5, q6, NormFirstRefIdeal.Hand.dh_eq hy, NormFirstRefIdeal.Hand.dshift_eq,
    NormFirstRefIdeal.Hand.dscale_eq hy, NormFirstRefIdeal.Hand.dg_eq hy] at hc
  exact hc

end Cert.NormFirstClaim

end
-- ==== Proof.CondClaim.lean ====
module

public import proofs.«01_k».proof.Defs
public import proofs.«01_k».proof.Proof.Gen.Cond.Frame
public import proofs.«01_k».proof.Proof.Gen.CondIdeal.Frame
public import proofs.«01_k».proof.Proof.Gen.CondRefIdeal.Run
public import proofs.«01_k».proof.Proof.Gen.CondRefIdeal.Read
public import proofs.«01_k».proof.Proof.Gen.Pre_finite_cond
public import proofs.«01_k».proof.Proof.AdamSpec
public import proofs.«01_k».proof.Proof.Finite
public import proofs.«01_k».proof.Proof.Reads

@[expose] public section

/-! The five claims about the condition's gradient: a row of the summed small gradients, sent back through the silu. -/

noncomputable section

namespace Cert.CondClaim

open Idealize.ShloMosaic TcCoe Idealize.SL.Sem Cert

theorem frame : Cert.quiescent_Cond := fun m ρ _ => Cert.Cond.Gen.frame m ρ

theorem frame_ideal : Cert.quiescent_CondIdeal := fun m ρ _ => Cert.CondIdeal.Gen.frame m ρ

theorem frame_ideal_pre : Cert.quiescent_CondIdeal_pre_finite_cond := fun m ρ _ => Cert.CondIdeal.Gen.frame m ρ

/-- The reference runs on the host and has no counter. -/
theorem frame_ref : Cert.quiescent_CondRefIdeal := fun m ρ _ =>
  (θ_run Cert.CondRefIdeal.defs _ _).mono
    (fun r h => ⟨fun c => (h c).2, sem_eq_zero_of_no_sems (by decide) r.2⟩)
    (Cert.CondRefIdeal.Value.run (F := Ideal) m ρ)

theorem frame_ref_pre : Cert.quiescent_CondRefIdeal_pre_finite_cond := fun m ρ _ => frame_ref m ρ trivial

theorem preserves : Cert.preserves_Cond_CondIdeal := trivial

abbrev Line := (⟨1, ![1024]⟩ : Shape).Idx → ℝ
abbrev Parts := (⟨3, ![8, 120, 1024]⟩ : Shape).Idx → ℝ

/-- The gradient arriving at the silu: row 24 of the sum over the devices. -/
def row (x : Parts) (k : Fin 1024) : ℝ := ∑ p : Fin 8, x (ix3 p 24 k)

/-- The condition's gradient. -/
def grad (x : Parts) (y : Line) : (⟨1, ![1024]⟩ : Shape).Idx → EReal := fun i =>
  ((row x (i 0) * (Finite.sig (y (ix1 (i 0))) * (1 + y (ix1 (i 0)) * (1 - Finite.sig (y (ix1 (i 0)))))) : ℝ) : EReal)

section
open Cert.CondIdeal Cert.CondIdeal.Gen

variable (m : (ℓ : Loc nD τ sig) → Buf (Elt Ideal) ℓ) (c : Dev nD)

theorem index0 : ∀ t : Fin grid0.N, win0_0.index t = ![0, 0, 0] := by decide +kernel
theorem index1 : ∀ t : Fin grid0.N, win0_1.index t = ![0, 0] := by decide +kernel

abbrev xArr : S8x120x1024.Idx → EReal := m (slot c main_arg0)
abbrev yArr : S1024.Idx → EReal := m (slot c main_arg1)

/-- The call sums the devices' parts. -/
theorem sum_arr : (dats m 0 c).arrAt 1 cfg0.N = AdamSpec.total (xArr m c) := by
  refine (dats m 0 c).arrAt_eq_of_covers 1 _ (by decide +kernel) fun t _ y => ?_
  rw [after0_1]
  obtain ⟨r, k, rfl⟩ := pair y
  have e : ((cfg0.win 1).blk t).view.emb (ix2 r k) = ix2 r k := by
    funext a
    refine Fin.ext ?_
    match a with
    | ⟨0, _⟩ => blk_simp [index1]
    | ⟨1, _⟩ => blk_simp [index1]
  have b (p : Fin 8) (q : Fin 120) : iblk m c 0 t (ix3 p q k) = xArr m c (ix3 p q k) := by
    unfold iblk
    rw [View.read_apply]
    show V m c main_arg0 _ = _
    rw [V_main_arg0]
    refine congrArg (xArr m c) ?_
    funext a
    refine Fin.ext ?_
    match a with
    | ⟨0, _⟩ => blk_simp [index0]
    | ⟨1, _⟩ => blk_simp [index0]
    | ⟨2, _⟩ => blk_simp [index0]
  rw [e]
  frame_out
  pointwise [k0_pay1]
  show _ = ∑ p : Fin 8, xArr m c (ix3 p r k)
  rw [Fin.sum_univ_eight]
  simp only [b]
  rfl

/-- The logistic function of the condition, as the host spells it. -/
abbrev sigVec (y : S1024.Idx → EReal) : FVec Ideal S1024 .f32 :=
  Host.divf (broadcastInDim S1024 ![] bcast_S_S1024 (constant S_ .f32 0x3F800000#32))
    (addf (broadcastInDim S1024 ![] bcast_S_S1024 (constant S_ .f32 0x3F800000#32)) (Host.exp (Host.negf y)))

/-- What the host computes from the sum and the condition. -/
abbrev outVec (z : S120x1024.Idx → EReal) (y : S1024.Idx → EReal) : FVec Ideal S1024 .f32 :=
  mulf (shapeCast S1024 (extractStridedSlice S1x1024 ![24, 0] z slices_S120x1024_S1x1024_24_0) shapeCasts_S1x1024_S1024)
    (mulf (sigVec y) (addf (broadcastInDim S1024 ![] bcast_S_S1024 (constant S_ .f32 0x3F800000#32))
      (mulf y (subf (broadcastInDim S1024 ![] bcast_S_S1024 (constant S_ .f32 0x3F800000#32)) (sigVec y)))))

theorem result_eq : Pipeline.afterTail₀ cfgs (dats m) 0 (V0 m) [hostOps1] c main_v15
    = outVec (AdamSpec.total (xArr m c)) (yArr m c) := by
  have e0 : Pipeline.withArrays (cfgs 0).spec c (V0 m c) (fun w => (dats m 0 c).arrAt w (cfgs 0).N)
      (Proc.devRef .tc main_v0) = AdamSpec.total (xArr m c) :=
    (Pipeline.withArrays_arr spec0 launch0.win.arr_inj c (V0 m c) _ 1).trans (sum_arr m c)
  have e1 : Pipeline.withArrays (cfgs 0).spec c (V0 m c) (fun w => (dats m 0 c).arrAt w (cfgs 0).N)
      (Proc.devRef .tc main_arg1) = yArr m c :=
    Pipeline.withArrays_of_ne _ c (V0 m c) _ main_arg1 (by exact (by decide : ∀ w, Pipeline.arrRef spec0 w ≠ main_arg1))
  unfold Pipeline.afterTail₀
  simp only [hostOps1, List.flatten_cons, List.flatten_nil, List.append_nil]
  after_results
  rw [e0, e1]
  rfl

/-- At real arguments it is the condition's gradient. -/
theorem out_eq (x : Parts) (y : Line) : outVec (AdamSpec.total fun i => (x i : EReal)) (fun i => (y i : EReal)) = grad x y := by
  funext i
  obtain ⟨k, rfl⟩ : ∃ k : Fin 1024, i = ix1 k := ⟨i 0, eq_ix1 i⟩
  have e : (AdamSpec.total fun i => (x i : EReal)) (ix2 (24 : Fin 120) k) = (row x k : EReal) := Finite.coe_sum _ _
  pointwise [outVec, sigVec]
  rw [Finite.div_sig, e]
  show _ = ((row x k * (Finite.sig (y (ix1 k)) * (1 + y (ix1 k) * (1 - Finite.sig (y (ix1 k))))) : ℝ) : EReal)
  push_cast
  rfl

end

section
open Cert.CondRefIdeal Cert.CondRefIdeal.Read

theorem ref_eq (x : Parts) (y : Line) :
    val_main_v4 (F := Ideal) (fun i => (x i : EReal)) (fun i => (y i : EReal)) = grad x y := by
  funext i
  obtain ⟨k, rfl⟩ : ∃ k : Fin 1024, i = ix1 k := ⟨i 0, eq_ix1 i⟩
  pointwise [val_main_v4, val_main_call1_v1, val_main_call1_v2, val_main_call1_v0, val_main_v3, val_main_v2, val_main_v1,
    val_main_v0_1, val_main_v0_2, val_main_call0_v0, val_main_call0_v1, val_main_call0_v2, val_main_call0_v3, val_main_call0_v4,
    val_main_call0_v6, val_main_call0_v7, val_main_call0_cst, val_main_call0_cst_0, val_main_call0_cst_1, val_main_cst]
  have e : ∑ p : Fin 8, (x (ix3 p 24 k) : EReal) = (row x k : EReal) := Finite.coe_sum _ _
  rw [Finite.div_sig, e]
  show _ = ((row x k * (Finite.sig (y (ix1 k)) * (1 + y (ix1 k) * (1 - Finite.sig (y (ix1 k))))) : ℝ) : EReal)
  have r : row x k * (Finite.sig (y (ix1 k)) * (1 + y (ix1 k) * (1 - Finite.sig (y (ix1 k)))))
      = row x k * Finite.sig (y (ix1 k))
        + (y (ix1 k) * row x k) * (Finite.sig (y (ix1 k)) * (1 - Finite.sig (y (ix1 k)))) := by ring
  rw [r]
  push_cast
  rfl

end

section
open Cert.CondIdeal Cert.CondIdeal.Gen

/-- The kernel's run: its result, and its arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (slot c main_v15) = outVec (AdamSpec.total (xArr m c)) (yArr m c)
      ∧ r.2.mem (slot c main_arg0) = m (slot c main_arg0)
      ∧ r.2.mem (slot c main_arg1) = m (slot c main_arg1) :=
  (θ_run (defs (F := Ideal)) _ _).mono (fun r h c =>
      ⟨((h c).2 main_v15 (Pipeline.mem_restRefs_of main_v15 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end

/-- Equal real arguments give equal results. -/
theorem algebraic : Cert.algebraic_CondIdeal_CondRefIdeal_pre_finite_cond := by
  intro m ρ m' ρ' hpre hagree
  have hr (c : Dev CondIdeal.nD) : ∃ p : Parts × Line, xArr m c = (fun i => (p.1 i : EReal)) ∧ yArr m c = fun i => (p.2 i : EReal) := by
    obtain ⟨h0, h1⟩ := hpre c
    obtain ⟨p0, e0⟩ := Finite.lift (x := xArr m c) fun i => Finite.real_of_cmp (congrFun h0 i)
    obtain ⟨p1, e1⟩ := Finite.lift (x := yArr m c) fun i => Finite.real_of_cmp (congrFun h1 i)
    exact ⟨⟨p0, p1⟩, e0, e1⟩
  choose P hx hy using hr
  refine ⟨fun c => grad (P c).1 (P c).2,
    (θ_run (CondIdeal.defs (F := Ideal)) _ _).mono (fun r h c => ⟨(h c).1.trans ?_, (h c).2⟩) (run m ρ),
    (θ_run (CondRefIdeal.defs (F := Ideal)) _ _).mono (fun r h c => ⟨(h c).1.trans ?_, (h c).2⟩)
      (CondRefIdeal.Value.run (F := Ideal) m' ρ')⟩
  · rw [hx c, hy c, out_eq]
  · rw [CondRefIdeal.Read.val_main_v4_eq]
    obtain ⟨g0, g1⟩ := hagree c
    have q0 := g0.trans (hx c)
    have q1 := g1.trans (hy c)
    exact (congrArg₂ (CondRefIdeal.Read.val_main_v4 (F := Ideal)) q0 q1).trans (ref_eq _ _)

end Cert.CondClaim

end
-- ==== Proof.lean ====
/- The proof of everything the certificate claims, assembled from the modules under `Proof/`. -/
module

public import proofs.«01_k».proof.Defs
public import proofs.«01_k».proof.Proof.Gen.Conv
public import proofs.«01_k».proof.Proof.Gen.ConvIdeal
public import proofs.«01_k».proof.Proof.Gen.ConvRefIdeal
public import proofs.«01_k».proof.Proof.Gen.Norm
public import proofs.«01_k».proof.Proof.Gen.NormIdeal
public import proofs.«01_k».proof.Proof.Gen.NormRefIdeal
public import proofs.«01_k».proof.Proof.Gen.Gate
public import proofs.«01_k».proof.Proof.Gen.GateIdeal
public import proofs.«01_k».proof.Proof.Gen.GateRefIdeal
public import proofs.«01_k».proof.Proof.Gen.Up
public import proofs.«01_k».proof.Proof.Gen.UpIdeal
public import proofs.«01_k».proof.Proof.Gen.UpRefIdeal
public import proofs.«01_k».proof.Proof.Gen.DownW
public import proofs.«01_k».proof.Proof.Gen.DownWIdeal
public import proofs.«01_k».proof.Proof.Gen.DownWRefIdeal
public import proofs.«01_k».proof.Proof.Gen.UpW
public import proofs.«01_k».proof.Proof.Gen.UpWIdeal
public import proofs.«01_k».proof.Proof.Gen.UpWRefIdeal
public import proofs.«01_k».proof.Proof.Gen.Down
public import proofs.«01_k».proof.Proof.Gen.DownIdeal
public import proofs.«01_k».proof.Proof.Gen.DownRefIdeal
public import proofs.«01_k».proof.Proof.Gen.AdamUp
public import proofs.«01_k».proof.Proof.Gen.AdamUpIdeal
public import proofs.«01_k».proof.Proof.Gen.AdamUpRefIdeal
public import proofs.«01_k».proof.Proof.Gen.AdamDown
public import proofs.«01_k».proof.Proof.Gen.AdamDownIdeal
public import proofs.«01_k».proof.Proof.Gen.AdamDownRefIdeal
public import proofs.«01_k».proof.Proof.Gen.AdamIn
public import proofs.«01_k».proof.Proof.Gen.AdamInIdeal
public import proofs.«01_k».proof.Proof.Gen.AdamInRefIdeal
public import proofs.«01_k».proof.Proof.Gen.AdamOut
public import proofs.«01_k».proof.Proof.Gen.AdamOutIdeal
public import proofs.«01_k».proof.Proof.Gen.AdamOutRefIdeal
public import proofs.«01_k».proof.Proof.Gen.AdamConv
public import proofs.«01_k».proof.Proof.Gen.AdamConvIdeal
public import proofs.«01_k».proof.Proof.Gen.AdamConvRefIdeal
public import proofs.«01_k».proof.Proof.Gen.AdamMod
public import proofs.«01_k».proof.Proof.Gen.AdamModIdeal
public import proofs.«01_k».proof.Proof.Gen.AdamModRefIdeal
public import proofs.«01_k».proof.Proof.Gen.AdamSmall
public import proofs.«01_k».proof.Proof.Gen.AdamSmallIdeal
public import proofs.«01_k».proof.Proof.Gen.AdamSmallRefIdeal
public import proofs.«01_k».proof.Proof.Gen.DownNext
public import proofs.«01_k».proof.Proof.Gen.DownNextIdeal
public import proofs.«01_k».proof.Proof.Gen.DownNextRefIdeal
public import proofs.«01_k».proof.Proof.Gen.DownLast
public import proofs.«01_k».proof.Proof.Gen.DownLastIdeal
public import proofs.«01_k».proof.Proof.Gen.DownLastRefIdeal
public import proofs.«01_k».proof.Proof.Gen.MixOut
public import proofs.«01_k».proof.Proof.Gen.MixOutIdeal
public import proofs.«01_k».proof.Proof.Gen.MixOutRefIdeal
public import proofs.«01_k».proof.Proof.Gen.DownWAdd
public import proofs.«01_k».proof.Proof.Gen.DownWAddIdeal
public import proofs.«01_k».proof.Proof.Gen.DownWAddRefIdeal
public import proofs.«01_k».proof.Proof.Gen.UpWAdd
public import proofs.«01_k».proof.Proof.Gen.UpWAddIdeal
public import proofs.«01_k».proof.Proof.Gen.UpWAddRefIdeal
public import proofs.«01_k».proof.Proof.Gen.MixInA
public import proofs.«01_k».proof.Proof.Gen.MixInAIdeal
public import proofs.«01_k».proof.Proof.Gen.MixInARefIdeal
public import proofs.«01_k».proof.Proof.Gen.MixInB
public import proofs.«01_k».proof.Proof.Gen.MixInBIdeal
public import proofs.«01_k».proof.Proof.Gen.MixInBRefIdeal
public import proofs.«01_k».proof.Proof.Gen.MixMid
public import proofs.«01_k».proof.Proof.Gen.MixMidIdeal
public import proofs.«01_k».proof.Proof.Gen.MixMidRefIdeal
public import proofs.«01_k».proof.Proof.Gen.MixWA
public import proofs.«01_k».proof.Proof.Gen.MixWAIdeal
public import proofs.«01_k».proof.Proof.Gen.MixWARefIdeal
public import proofs.«01_k».proof.Proof.Gen.MixWB
public import proofs.«01_k».proof.Proof.Gen.MixWBIdeal
public import proofs.«01_k».proof.Proof.Gen.MixWBRefIdeal
public import proofs.«01_k».proof.Proof.Gen.MixBoth
public import proofs.«01_k».proof.Proof.Gen.MixBothIdeal
public import proofs.«01_k».proof.Proof.Gen.MixBothRefIdeal
public import proofs.«01_k».proof.Proof.Gen.MixThree
public import proofs.«01_k».proof.Proof.Gen.MixThreeIdeal
public import proofs.«01_k».proof.Proof.Gen.MixThreeRefIdeal
public import proofs.«01_k».proof.Proof.Gen.MixFour
public import proofs.«01_k».proof.Proof.Gen.MixFourIdeal
public import proofs.«01_k».proof.Proof.Gen.MixFourRefIdeal
public import proofs.«01_k».proof.Proof.Gen.NormMix
public import proofs.«01_k».proof.Proof.Gen.NormMixIdeal
public import proofs.«01_k».proof.Proof.Gen.NormMixRefIdeal
public import proofs.«01_k».proof.Proof.Gen.Loss
public import proofs.«01_k».proof.Proof.Gen.LossIdeal
public import proofs.«01_k».proof.Proof.Gen.LossRefIdeal
public import proofs.«01_k».proof.Proof.Gen.SmallSum
public import proofs.«01_k».proof.Proof.Gen.SmallSumIdeal
public import proofs.«01_k».proof.Proof.Gen.SmallSumRefIdeal
public import proofs.«01_k».proof.Proof.Gen.ModB
public import proofs.«01_k».proof.Proof.Gen.ModBIdeal
public import proofs.«01_k».proof.Proof.Gen.ModBRefIdeal
public import proofs.«01_k».proof.Proof.Gen.ModW
public import proofs.«01_k».proof.Proof.Gen.ModWIdeal
public import proofs.«01_k».proof.Proof.Gen.ModWRefIdeal
public import proofs.«01_k».proof.Proof.Gen.NormFirst
public import proofs.«01_k».proof.Proof.Gen.NormFirstIdeal
public import proofs.«01_k».proof.Proof.Gen.NormFirstRefIdeal
public import proofs.«01_k».proof.Proof.Gen.Cond
public import proofs.«01_k».proof.Proof.Gen.CondIdeal
public import proofs.«01_k».proof.Proof.Gen.CondRefIdeal
public import proofs.«01_k».proof.Proof.Gen.Pre_finite_norm
public import proofs.«01_k».proof.Proof.Gen.Pre_finite_gate
public import proofs.«01_k».proof.Proof.Gen.Pre_finite_up
public import proofs.«01_k».proof.Proof.Gen.Pre_finite_norm_mix
public import proofs.«01_k».proof.Proof.Gen.Pre_finite_loss
public import proofs.«01_k».proof.Proof.Gen.Pre_finite_norm_first
public import proofs.«01_k».proof.Proof.Gen.Pre_finite_cond
public import proofs.«01_k».proof.Proof.ConvClaim
public import proofs.«01_k».proof.Proof.NormClaim
public import proofs.«01_k».proof.Proof.GateClaim
public import proofs.«01_k».proof.Proof.UpClaim
public import proofs.«01_k».proof.Proof.DownWClaim
public import proofs.«01_k».proof.Proof.UpWClaim
public import proofs.«01_k».proof.Proof.DownClaim
public import proofs.«01_k».proof.Proof.AdamUpClaim
public import proofs.«01_k».proof.Proof.AdamDownClaim
public import proofs.«01_k».proof.Proof.AdamInClaim
public import proofs.«01_k».proof.Proof.AdamOutClaim
public import proofs.«01_k».proof.Proof.AdamConvClaim
public import proofs.«01_k».proof.Proof.AdamModClaim
public import proofs.«01_k».proof.Proof.AdamSmallClaim
public import proofs.«01_k».proof.Proof.DownNextClaim
public import proofs.«01_k».proof.Proof.DownLastClaim
public import proofs.«01_k».proof.Proof.MixOutClaim
public import proofs.«01_k».proof.Proof.DownWAddClaim
public import proofs.«01_k».proof.Proof.UpWAddClaim
public import proofs.«01_k».proof.Proof.MixInAClaim
public import proofs.«01_k».proof.Proof.MixInBClaim
public import proofs.«01_k».proof.Proof.MixMidClaim
public import proofs.«01_k».proof.Proof.MixWAClaim
public import proofs.«01_k».proof.Proof.MixWBClaim
public import proofs.«01_k».proof.Proof.MixBothClaim
public import proofs.«01_k».proof.Proof.MixThreeClaim
public import proofs.«01_k».proof.Proof.MixFourClaim
public import proofs.«01_k».proof.Proof.NormMixClaim
public import proofs.«01_k».proof.Proof.LossClaim
public import proofs.«01_k».proof.Proof.SmallSumClaim
public import proofs.«01_k».proof.Proof.ModBClaim
public import proofs.«01_k».proof.Proof.ModWClaim
public import proofs.«01_k».proof.Proof.NormFirstClaim
public import proofs.«01_k».proof.Proof.CondClaim

@[expose] public section

noncomputable section

namespace Cert.Proof

open Idealize.ShloMosaic Idealize.SL.Sem

theorem claim : Cert.Claim :=
  ⟨Cert.Conv.Gen.facts, Cert.ConvIdeal.Gen.facts, Cert.ConvRefIdeal.Gen.facts, Cert.Norm.Gen.facts,
    Cert.NormIdeal.Gen.facts, Cert.NormRefIdeal.Gen.facts, Cert.Gate.Gen.facts, Cert.GateIdeal.Gen.facts,
    Cert.GateRefIdeal.Gen.facts, Cert.Up.Gen.facts, Cert.UpIdeal.Gen.facts, Cert.UpRefIdeal.Gen.facts,
    Cert.DownW.Gen.facts, Cert.DownWIdeal.Gen.facts, Cert.DownWRefIdeal.Gen.facts, Cert.UpW.Gen.facts,
    Cert.UpWIdeal.Gen.facts, Cert.UpWRefIdeal.Gen.facts, Cert.Down.Gen.facts, Cert.DownIdeal.Gen.facts,
    Cert.DownRefIdeal.Gen.facts, Cert.AdamUp.Gen.facts, Cert.AdamUpIdeal.Gen.facts, Cert.AdamUpRefIdeal.Gen.facts,
    Cert.AdamDown.Gen.facts, Cert.AdamDownIdeal.Gen.facts, Cert.AdamDownRefIdeal.Gen.facts, Cert.AdamIn.Gen.facts,
    Cert.AdamInIdeal.Gen.facts, Cert.AdamInRefIdeal.Gen.facts, Cert.AdamOut.Gen.facts, Cert.AdamOutIdeal.Gen.facts,
    Cert.AdamOutRefIdeal.Gen.facts, Cert.AdamConv.Gen.facts, Cert.AdamConvIdeal.Gen.facts,
    Cert.AdamConvRefIdeal.Gen.facts, Cert.AdamMod.Gen.facts, Cert.AdamModIdeal.Gen.facts,
    Cert.AdamModRefIdeal.Gen.facts, Cert.AdamSmall.Gen.facts, Cert.AdamSmallIdeal.Gen.facts,
    Cert.AdamSmallRefIdeal.Gen.facts, Cert.DownNext.Gen.facts, Cert.DownNextIdeal.Gen.facts,
    Cert.DownNextRefIdeal.Gen.facts, Cert.DownLast.Gen.facts, Cert.DownLastIdeal.Gen.facts,
    Cert.DownLastRefIdeal.Gen.facts, Cert.MixOut.Gen.facts, Cert.MixOutIdeal.Gen.facts,
    Cert.MixOutRefIdeal.Gen.facts, Cert.DownWAdd.Gen.facts, Cert.DownWAddIdeal.Gen.facts,
    Cert.DownWAddRefIdeal.Gen.facts, Cert.UpWAdd.Gen.facts, Cert.UpWAddIdeal.Gen.facts,
    Cert.UpWAddRefIdeal.Gen.facts, Cert.MixInA.Gen.facts, Cert.MixInAIdeal.Gen.facts, Cert.MixInARefIdeal.Gen.facts,
    Cert.MixInB.Gen.facts, Cert.MixInBIdeal.Gen.facts, Cert.MixInBRefIdeal.Gen.facts, Cert.MixMid.Gen.facts,
    Cert.MixMidIdeal.Gen.facts, Cert.MixMidRefIdeal.Gen.facts, Cert.MixWA.Gen.facts, Cert.MixWAIdeal.Gen.facts,
    Cert.MixWARefIdeal.Gen.facts, Cert.MixWB.Gen.facts, Cert.MixWBIdeal.Gen.facts, Cert.MixWBRefIdeal.Gen.facts,
    Cert.MixBoth.Gen.facts, Cert.MixBothIdeal.Gen.facts, Cert.MixBothRefIdeal.Gen.facts, Cert.MixThree.Gen.facts,
    Cert.MixThreeIdeal.Gen.facts, Cert.MixThreeRefIdeal.Gen.facts, Cert.MixFour.Gen.facts,
    Cert.MixFourIdeal.Gen.facts, Cert.MixFourRefIdeal.Gen.facts, Cert.NormMix.Gen.facts, Cert.NormMixIdeal.Gen.facts,
    Cert.NormMixRefIdeal.Gen.facts, Cert.Loss.Gen.facts, Cert.LossIdeal.Gen.facts, Cert.LossRefIdeal.Gen.facts,
    Cert.SmallSum.Gen.facts, Cert.SmallSumIdeal.Gen.facts, Cert.SmallSumRefIdeal.Gen.facts, Cert.ModB.Gen.facts,
    Cert.ModBIdeal.Gen.facts, Cert.ModBRefIdeal.Gen.facts, Cert.ModW.Gen.facts, Cert.ModWIdeal.Gen.facts,
    Cert.ModWRefIdeal.Gen.facts, Cert.NormFirst.Gen.facts, Cert.NormFirstIdeal.Gen.facts,
    Cert.NormFirstRefIdeal.Gen.facts, Cert.Cond.Gen.facts, Cert.CondIdeal.Gen.facts, Cert.CondRefIdeal.Gen.facts,
    Cert.Pre_finite_norm.Gen.facts, Cert.Pre_finite_gate.Gen.facts, Cert.Pre_finite_up.Gen.facts,
    Cert.Pre_finite_norm_mix.Gen.facts, Cert.Pre_finite_loss.Gen.facts, Cert.Pre_finite_norm_first.Gen.facts,
    Cert.Pre_finite_cond.Gen.facts, ConvClaim.frame, ConvClaim.frame_ideal, ConvClaim.frame_ref, NormClaim.frame,
    NormClaim.frame_ideal, NormClaim.frame_ideal_pre, NormClaim.frame_ref, NormClaim.frame_ref_pre, GateClaim.frame,
    GateClaim.frame_ideal, GateClaim.frame_ideal_pre, GateClaim.frame_ref, GateClaim.frame_ref_pre, UpClaim.frame,
    UpClaim.frame_ideal, UpClaim.frame_ideal_pre, UpClaim.frame_ref, UpClaim.frame_ref_pre, DownWClaim.frame,
    DownWClaim.frame_ideal, DownWClaim.frame_ref, UpWClaim.frame, UpWClaim.frame_ideal, UpWClaim.frame_ref,
    DownClaim.frame, DownClaim.frame_ideal, DownClaim.frame_ref, AdamUpClaim.frame, AdamUpClaim.frame_ideal,
    AdamUpClaim.frame_ref, AdamDownClaim.frame, AdamDownClaim.frame_ideal, AdamDownClaim.frame_ref,
    AdamInClaim.frame, AdamInClaim.frame_ideal, AdamInClaim.frame_ref, AdamOutClaim.frame, AdamOutClaim.frame_ideal,
    AdamOutClaim.frame_ref, AdamConvClaim.frame, AdamConvClaim.frame_ideal, AdamConvClaim.frame_ref,
    AdamModClaim.frame, AdamModClaim.frame_ideal, AdamModClaim.frame_ref, AdamSmallClaim.frame,
    AdamSmallClaim.frame_ideal, AdamSmallClaim.frame_ref, DownNextClaim.frame, DownNextClaim.frame_ideal,
    DownNextClaim.frame_ref, DownLastClaim.frame, DownLastClaim.frame_ideal, DownLastClaim.frame_ref,
    MixOutClaim.frame, MixOutClaim.frame_ideal, MixOutClaim.frame_ref, DownWAddClaim.frame,
    DownWAddClaim.frame_ideal, DownWAddClaim.frame_ref, UpWAddClaim.frame, UpWAddClaim.frame_ideal,
    UpWAddClaim.frame_ref, MixInAClaim.frame, MixInAClaim.frame_ideal, MixInAClaim.frame_ref, MixInBClaim.frame,
    MixInBClaim.frame_ideal, MixInBClaim.frame_ref, MixMidClaim.frame, MixMidClaim.frame_ideal,
    MixMidClaim.frame_ref, MixWAClaim.frame, MixWAClaim.frame_ideal, MixWAClaim.frame_ref, MixWBClaim.frame,
    MixWBClaim.frame_ideal, MixWBClaim.frame_ref, MixBothClaim.frame, MixBothClaim.frame_ideal,
    MixBothClaim.frame_ref, MixThreeClaim.frame, MixThreeClaim.frame_ideal, MixThreeClaim.frame_ref,
    MixFourClaim.frame, MixFourClaim.frame_ideal, MixFourClaim.frame_ref, NormMixClaim.frame,
    NormMixClaim.frame_ideal, NormMixClaim.frame_ideal_pre, NormMixClaim.frame_ref, NormMixClaim.frame_ref_pre,
    LossClaim.frame, LossClaim.frame_ideal, LossClaim.frame_ideal_pre, LossClaim.frame_ref, LossClaim.frame_ref_pre,
    SmallSumClaim.frame, SmallSumClaim.frame_ideal, SmallSumClaim.frame_ref, ModBClaim.frame, ModBClaim.frame_ideal,
    ModBClaim.frame_ref, ModWClaim.frame, ModWClaim.frame_ideal, ModWClaim.frame_ref, NormFirstClaim.frame,
    NormFirstClaim.frame_ideal, NormFirstClaim.frame_ideal_pre, NormFirstClaim.frame_ref,
    NormFirstClaim.frame_ref_pre, CondClaim.frame, CondClaim.frame_ideal, CondClaim.frame_ideal_pre,
    CondClaim.frame_ref, CondClaim.frame_ref_pre, ConvClaim.preserves, ConvClaim.algebraic, NormClaim.preserves,
    NormClaim.algebraic, GateClaim.preserves, GateClaim.algebraic, UpClaim.preserves, UpClaim.algebraic,
    DownWClaim.preserves, DownWClaim.algebraic, UpWClaim.preserves, UpWClaim.algebraic, DownClaim.preserves,
    DownClaim.algebraic, AdamUpClaim.preserves, AdamUpClaim.algebraic, AdamDownClaim.preserves,
    AdamDownClaim.algebraic, AdamInClaim.preserves, AdamInClaim.algebraic, AdamOutClaim.preserves,
    AdamOutClaim.algebraic, AdamConvClaim.preserves, AdamConvClaim.algebraic, AdamModClaim.preserves,
    AdamModClaim.algebraic, AdamSmallClaim.preserves, AdamSmallClaim.algebraic, DownNextClaim.preserves,
    DownNextClaim.algebraic, DownLastClaim.preserves, DownLastClaim.algebraic, MixOutClaim.preserves,
    MixOutClaim.algebraic, DownWAddClaim.preserves, DownWAddClaim.algebraic, UpWAddClaim.preserves,
    UpWAddClaim.algebraic, MixInAClaim.preserves, MixInAClaim.algebraic, MixInBClaim.preserves,
    MixInBClaim.algebraic, MixMidClaim.preserves, MixMidClaim.algebraic, MixWAClaim.preserves, MixWAClaim.algebraic,
    MixWBClaim.preserves, MixWBClaim.algebraic, MixBothClaim.preserves, MixBothClaim.algebraic,
    MixThreeClaim.preserves, MixThreeClaim.algebraic, MixFourClaim.preserves, MixFourClaim.algebraic,
    NormMixClaim.preserves, NormMixClaim.algebraic, LossClaim.preserves, LossClaim.algebraic,
    SmallSumClaim.preserves, SmallSumClaim.algebraic, ModBClaim.preserves, ModBClaim.algebraic, ModWClaim.preserves,
    ModWClaim.algebraic, NormFirstClaim.preserves, NormFirstClaim.algebraic, CondClaim.preserves, CondClaim.algebraic⟩

end Cert.Proof

end
